-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_finite_attn [hPre_finite_attn : Cert.Pre_finite_attn.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite_attn.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3))) = (fun _ => 1#1)

def Pre_AttnFReferenceIdeal (m : (ℓ : Loc Cert.AttnFReferenceIdeal.nD Cert.AttnFReferenceIdeal.τ Cert.AttnFReferenceIdeal.sig) → Buf (Elt Ideal) ℓ) : Prop :=
  True

def Pre_AttnFReferenceIdeal_finite_attn [hPre_finite_attn : Cert.Pre_finite_attn.Facts] (m : (ℓ : Loc Cert.AttnFReferenceIdeal.nD Cert.AttnFReferenceIdeal.τ Cert.AttnFReferenceIdeal.sig) → Buf (Elt Ideal) ℓ) : Prop :=
  ∀ c : Dev Cert.AttnFReferenceIdeal.nD,
    (Cert.Pre_finite_attn.fn (F := Ideal) (m ((c.tc : Thread Cert.AttnFReferenceIdeal.nD Cert.AttnFReferenceIdeal.τ).loc Cert.AttnFReferenceIdeal.main_arg0)) (m ((c.tc : Thread Cert.AttnFReferenceIdeal.nD Cert.AttnFReferenceIdeal.τ).loc Cert.AttnFReferenceIdeal.main_arg1)) (m ((c.tc : Thread Cert.AttnFReferenceIdeal.nD Cert.AttnFReferenceIdeal.τ).loc Cert.AttnFReferenceIdeal.main_arg2)) (m ((c.tc : Thread Cert.AttnFReferenceIdeal.nD Cert.AttnFReferenceIdeal.τ).loc Cert.AttnFReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBReferenceIdeal (m : (ℓ : Loc Cert.GateBReferenceIdeal.nD Cert.GateBReferenceIdeal.τ Cert.GateBReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXReferenceIdeal (m : (ℓ : Loc Cert.InXReferenceIdeal.nD Cert.InXReferenceIdeal.τ Cert.InXReferenceIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWReferenceIdeal (m : (ℓ : Loc Cert.InWReferenceIdeal.nD Cert.InWReferenceIdeal.τ Cert.InWReferenceIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBReferenceIdeal (m : (ℓ : Loc Cert.NormBReferenceIdeal.nD Cert.NormBReferenceIdeal.τ Cert.NormBReferenceIdeal.sig) → Buf (Elt Ideal) ℓ) : Prop :=
  True

def Pre_ConvB (m : (ℓ : Loc Cert.ConvB.nD Cert.ConvB.τ Cert.ConvB.sig) → Buf (Elt Bits) ℓ) : Prop :=
  True

def Pre_ConvBIdeal (m : (ℓ : Loc Cert.ConvBIdeal.nD Cert.ConvBIdeal.τ Cert.ConvBIdeal.sig) → Buf (Elt Ideal) ℓ) : Prop :=
  True

def Pre_ConvBReferenceIdeal (m : (ℓ : Loc Cert.ConvBReferenceIdeal.nD Cert.ConvBReferenceIdeal.τ Cert.ConvBReferenceIdeal.sig) → Buf (Elt Ideal) ℓ) : Prop :=
  True

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFReferenceIdeal (m : (ℓ : Loc Cert.NormFReferenceIdeal.nD Cert.NormFReferenceIdeal.τ Cert.NormFReferenceIdeal.sig) → Buf (Elt Ideal) ℓ) : Prop :=
  True

def Pre_PostF (m : (ℓ : Loc Cert.PostF.nD Cert.PostF.τ Cert.PostF.sig) → Buf (Elt Bits) ℓ) : Prop :=
  True

def Pre_PostFIdeal (m : (ℓ : Loc Cert.PostFIdeal.nD Cert.PostFIdeal.τ Cert.PostFIdeal.sig) → Buf (Elt Ideal) ℓ) : Prop :=
  True

def Pre_PostFReferenceIdeal (m : (ℓ : Loc Cert.PostFReferenceIdeal.nD Cert.PostFReferenceIdeal.τ Cert.PostFReferenceIdeal.sig) → Buf (Elt Ideal) ℓ) : Prop :=
  True

def Pre_HybIn (m : (ℓ : Loc Cert.HybIn.nD Cert.HybIn.τ Cert.HybIn.sig) → Buf (Elt Bits) ℓ) : Prop :=
  True

def Pre_HybInIdeal (m : (ℓ : Loc Cert.HybInIdeal.nD Cert.HybInIdeal.τ Cert.HybInIdeal.sig) → Buf (Elt Ideal) ℓ) : Prop :=
  True

def Pre_HybInReferenceIdeal (m : (ℓ : Loc Cert.HybInReferenceIdeal.nD Cert.HybInReferenceIdeal.τ Cert.HybInReferenceIdeal.sig) → Buf (Elt Ideal) ℓ) : Prop :=
  True

def Pre_HybInX (m : (ℓ : Loc Cert.HybInX.nD Cert.HybInX.τ Cert.HybInX.sig) → Buf (Elt Bits) ℓ) : Prop :=
  True

def Pre_HybInXIdeal (m : (ℓ : Loc Cert.HybInXIdeal.nD Cert.HybInXIdeal.τ Cert.HybInXIdeal.sig) → Buf (Elt Ideal) ℓ) : Prop :=
  True

def Pre_HybInXReferenceIdeal (m : (ℓ : Loc Cert.HybInXReferenceIdeal.nD Cert.HybInXReferenceIdeal.τ Cert.HybInXReferenceIdeal.sig) → Buf (Elt Ideal) ℓ) : Prop :=
  True

def Pre_HybInW (m : (ℓ : Loc Cert.HybInW.nD Cert.HybInW.τ Cert.HybInW.sig) → Buf (Elt Bits) ℓ) : Prop :=
  True

def Pre_HybInWIdeal (m : (ℓ : Loc Cert.HybInWIdeal.nD Cert.HybInWIdeal.τ Cert.HybInWIdeal.sig) → Buf (Elt Ideal) ℓ) : Prop :=
  True

def Pre_HybInWReferenceIdeal (m : (ℓ : Loc Cert.HybInWReferenceIdeal.nD Cert.HybInWReferenceIdeal.τ Cert.HybInWReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_HybOutX (m : (ℓ : Loc Cert.HybOutX.nD Cert.HybOutX.τ Cert.HybOutX.sig) → Buf (Elt Bits) ℓ) : Prop :=
  True

def Pre_HybOutXIdeal (m : (ℓ : Loc Cert.HybOutXIdeal.nD Cert.HybOutXIdeal.τ Cert.HybOutXIdeal.sig) → Buf (Elt Ideal) ℓ) : Prop :=
  True

def Pre_HybOutXReferenceIdeal (m : (ℓ : Loc Cert.HybOutXReferenceIdeal.nD Cert.HybOutXReferenceIdeal.τ Cert.HybOutXReferenceIdeal.sig) → Buf (Elt Ideal) ℓ) : Prop :=
  True

def Pre_MlaOutX (m : (ℓ : Loc Cert.MlaOutX.nD Cert.MlaOutX.τ Cert.MlaOutX.sig) → Buf (Elt Bits) ℓ) : Prop :=
  True

def Pre_MlaOutXIdeal (m : (ℓ : Loc Cert.MlaOutXIdeal.nD Cert.MlaOutXIdeal.τ Cert.MlaOutXIdeal.sig) → Buf (Elt Ideal) ℓ) : Prop :=
  True

def Pre_MlaOutXReferenceIdeal (m : (ℓ : Loc Cert.MlaOutXReferenceIdeal.nD Cert.MlaOutXReferenceIdeal.τ Cert.MlaOutXReferenceIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInReferenceIdeal (m : (ℓ : Loc Cert.MlaInReferenceIdeal.nD Cert.MlaInReferenceIdeal.τ Cert.MlaInReferenceIdeal.sig) → Buf (Elt Ideal) ℓ) : Prop :=
  True

def Pre_MlaInX (m : (ℓ : Loc Cert.MlaInX.nD Cert.MlaInX.τ Cert.MlaInX.sig) → Buf (Elt Bits) ℓ) : Prop :=
  True

def Pre_MlaInXIdeal (m : (ℓ : Loc Cert.MlaInXIdeal.nD Cert.MlaInXIdeal.τ Cert.MlaInXIdeal.sig) → Buf (Elt Ideal) ℓ) : Prop :=
  True

def Pre_MlaInXReferenceIdeal (m : (ℓ : Loc Cert.MlaInXReferenceIdeal.nD Cert.MlaInXReferenceIdeal.τ Cert.MlaInXReferenceIdeal.sig) → Buf (Elt Ideal) ℓ) : Prop :=
  True

def Pre_MlaInW (m : (ℓ : Loc Cert.MlaInW.nD Cert.MlaInW.τ Cert.MlaInW.sig) → Buf (Elt Bits) ℓ) : Prop :=
  True

def Pre_MlaInWIdeal (m : (ℓ : Loc Cert.MlaInWIdeal.nD Cert.MlaInWIdeal.τ Cert.MlaInWIdeal.sig) → Buf (Elt Ideal) ℓ) : Prop :=
  True

def Pre_MlaInWReferenceIdeal (m : (ℓ : Loc Cert.MlaInWReferenceIdeal.nD Cert.MlaInWReferenceIdeal.τ Cert.MlaInWReferenceIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqReferenceIdeal (m : (ℓ : Loc Cert.UqReferenceIdeal.nD Cert.UqReferenceIdeal.τ Cert.UqReferenceIdeal.sig) → Buf (Elt Ideal) ℓ) : Prop :=
  True

def Pre_UqX (m : (ℓ : Loc Cert.UqX.nD Cert.UqX.τ Cert.UqX.sig) → Buf (Elt Bits) ℓ) : Prop :=
  True

def Pre_UqXIdeal (m : (ℓ : Loc Cert.UqXIdeal.nD Cert.UqXIdeal.τ Cert.UqXIdeal.sig) → Buf (Elt Ideal) ℓ) : Prop :=
  True

def Pre_UqXReferenceIdeal (m : (ℓ : Loc Cert.UqXReferenceIdeal.nD Cert.UqXReferenceIdeal.τ Cert.UqXReferenceIdeal.sig) → Buf (Elt Ideal) ℓ) : Prop :=
  True

def Pre_UqW (m : (ℓ : Loc Cert.UqW.nD Cert.UqW.τ Cert.UqW.sig) → Buf (Elt Bits) ℓ) : Prop :=
  True

def Pre_UqWIdeal (m : (ℓ : Loc Cert.UqWIdeal.nD Cert.UqWIdeal.τ Cert.UqWIdeal.sig) → Buf (Elt Ideal) ℓ) : Prop :=
  True

def Pre_UqWReferenceIdeal (m : (ℓ : Loc Cert.UqWReferenceIdeal.nD Cert.UqWReferenceIdeal.τ Cert.UqWReferenceIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvReferenceIdeal (m : (ℓ : Loc Cert.UkvReferenceIdeal.nD Cert.UkvReferenceIdeal.τ Cert.UkvReferenceIdeal.sig) → Buf (Elt Ideal) ℓ) : Prop :=
  True

def Pre_UkvX (m : (ℓ : Loc Cert.UkvX.nD Cert.UkvX.τ Cert.UkvX.sig) → Buf (Elt Bits) ℓ) : Prop :=
  True

def Pre_UkvXIdeal (m : (ℓ : Loc Cert.UkvXIdeal.nD Cert.UkvXIdeal.τ Cert.UkvXIdeal.sig) → Buf (Elt Ideal) ℓ) : Prop :=
  True

def Pre_UkvXReferenceIdeal (m : (ℓ : Loc Cert.UkvXReferenceIdeal.nD Cert.UkvXReferenceIdeal.τ Cert.UkvXReferenceIdeal.sig) → Buf (Elt Ideal) ℓ) : Prop :=
  True

def Pre_UkvW (m : (ℓ : Loc Cert.UkvW.nD Cert.UkvW.τ Cert.UkvW.sig) → Buf (Elt Bits) ℓ) : Prop :=
  True

def Pre_UkvWIdeal (m : (ℓ : Loc Cert.UkvWIdeal.nD Cert.UkvWIdeal.τ Cert.UkvWIdeal.sig) → Buf (Elt Ideal) ℓ) : Prop :=
  True

def Pre_UkvWReferenceIdeal (m : (ℓ : Loc Cert.UkvWReferenceIdeal.nD Cert.UkvWReferenceIdeal.τ Cert.UkvWReferenceIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateReferenceIdeal (m : (ℓ : Loc Cert.PleGateReferenceIdeal.nD Cert.PleGateReferenceIdeal.τ Cert.PleGateReferenceIdeal.sig) → Buf (Elt Ideal) ℓ) : Prop :=
  True

def Pre_PleGateX (m : (ℓ : Loc Cert.PleGateX.nD Cert.PleGateX.τ Cert.PleGateX.sig) → Buf (Elt Bits) ℓ) : Prop :=
  True

def Pre_PleGateXIdeal (m : (ℓ : Loc Cert.PleGateXIdeal.nD Cert.PleGateXIdeal.τ Cert.PleGateXIdeal.sig) → Buf (Elt Ideal) ℓ) : Prop :=
  True

def Pre_PleGateXReferenceIdeal (m : (ℓ : Loc Cert.PleGateXReferenceIdeal.nD Cert.PleGateXReferenceIdeal.τ Cert.PleGateXReferenceIdeal.sig) → Buf (Elt Ideal) ℓ) : Prop :=
  True

def Pre_PleGateW (m : (ℓ : Loc Cert.PleGateW.nD Cert.PleGateW.τ Cert.PleGateW.sig) → Buf (Elt Bits) ℓ) : Prop :=
  True

def Pre_PleGateWIdeal (m : (ℓ : Loc Cert.PleGateWIdeal.nD Cert.PleGateWIdeal.τ Cert.PleGateWIdeal.sig) → Buf (Elt Ideal) ℓ) : Prop :=
  True

def Pre_PleGateWReferenceIdeal (m : (ℓ : Loc Cert.PleGateWReferenceIdeal.nD Cert.PleGateWReferenceIdeal.τ Cert.PleGateWReferenceIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjReferenceIdeal (m : (ℓ : Loc Cert.PleProjReferenceIdeal.nD Cert.PleProjReferenceIdeal.τ Cert.PleProjReferenceIdeal.sig) → Buf (Elt Ideal) ℓ) : Prop :=
  True

def Pre_PleProjW (m : (ℓ : Loc Cert.PleProjW.nD Cert.PleProjW.τ Cert.PleProjW.sig) → Buf (Elt Bits) ℓ) : Prop :=
  True

def Pre_PleProjWIdeal (m : (ℓ : Loc Cert.PleProjWIdeal.nD Cert.PleProjWIdeal.τ Cert.PleProjWIdeal.sig) → Buf (Elt Ideal) ℓ) : Prop :=
  True

def Pre_PleProjWReferenceIdeal (m : (ℓ : Loc Cert.PleProjWReferenceIdeal.nD Cert.PleProjWReferenceIdeal.τ Cert.PleProjWReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ r.2.sem = fun _ => 0)

def quiescent_AttnFIdeal_pre_finite_attn [hAttnFIdeal : Cert.AttnFIdeal.Facts] [hPre_finite_attn : Cert.Pre_finite_attn.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite_attn m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ r.2.sem = fun _ => 0)

def quiescent_AttnFReferenceIdeal [hAttnFReferenceIdeal : Cert.AttnFReferenceIdeal.Facts] : Prop :=
  ∀ (m : (ℓ : Loc Cert.AttnFReferenceIdeal.nD Cert.AttnFReferenceIdeal.τ Cert.AttnFReferenceIdeal.sig) → Buf (Elt Ideal) ℓ) (g : Dev Cert.AttnFReferenceIdeal.nD → PrngReg), Pre_AttnFReferenceIdeal m →
    θ_run (Cert.AttnFReferenceIdeal.defs (F := Ideal)) (onTc (τ := Cert.AttnFReferenceIdeal.τ) (Cert.AttnFReferenceIdeal.main (F := Ideal))) ⟨m, fun _ => 0, g⟩ (fun r => (∀ c : Dev Cert.AttnFReferenceIdeal.nD,
      r.2.mem ((c.tc : Thread Cert.AttnFReferenceIdeal.nD Cert.AttnFReferenceIdeal.τ).loc Cert.AttnFReferenceIdeal.main_arg0) = m ((c.tc : Thread Cert.AttnFReferenceIdeal.nD Cert.AttnFReferenceIdeal.τ).loc Cert.AttnFReferenceIdeal.main_arg0)
      ∧ r.2.mem ((c.tc : Thread Cert.AttnFReferenceIdeal.nD Cert.AttnFReferenceIdeal.τ).loc Cert.AttnFReferenceIdeal.main_arg1) = m ((c.tc : Thread Cert.AttnFReferenceIdeal.nD Cert.AttnFReferenceIdeal.τ).loc Cert.AttnFReferenceIdeal.main_arg1)
      ∧ r.2.mem ((c.tc : Thread Cert.AttnFReferenceIdeal.nD Cert.AttnFReferenceIdeal.τ).loc Cert.AttnFReferenceIdeal.main_arg2) = m ((c.tc : Thread Cert.AttnFReferenceIdeal.nD Cert.AttnFReferenceIdeal.τ).loc Cert.AttnFReferenceIdeal.main_arg2)
      ∧ r.2.mem ((c.tc : Thread Cert.AttnFReferenceIdeal.nD Cert.AttnFReferenceIdeal.τ).loc Cert.AttnFReferenceIdeal.main_arg3) = m ((c.tc : Thread Cert.AttnFReferenceIdeal.nD Cert.AttnFReferenceIdeal.τ).loc Cert.AttnFReferenceIdeal.main_arg3))
      ∧ r.2.sem = fun _ => 0)

def quiescent_AttnFReferenceIdeal_pre_finite_attn [hAttnFReferenceIdeal : Cert.AttnFReferenceIdeal.Facts] [hPre_finite_attn : Cert.Pre_finite_attn.Facts] : Prop :=
  ∀ (m : (ℓ : Loc Cert.AttnFReferenceIdeal.nD Cert.AttnFReferenceIdeal.τ Cert.AttnFReferenceIdeal.sig) → Buf (Elt Ideal) ℓ) (g : Dev Cert.AttnFReferenceIdeal.nD → PrngReg), Pre_AttnFReferenceIdeal_finite_attn m →
    θ_run (Cert.AttnFReferenceIdeal.defs (F := Ideal)) (onTc (τ := Cert.AttnFReferenceIdeal.τ) (Cert.AttnFReferenceIdeal.main (F := Ideal))) ⟨m, fun _ => 0, g⟩ (fun r => (∀ c : Dev Cert.AttnFReferenceIdeal.nD,
      r.2.mem ((c.tc : Thread Cert.AttnFReferenceIdeal.nD Cert.AttnFReferenceIdeal.τ).loc Cert.AttnFReferenceIdeal.main_arg0) = m ((c.tc : Thread Cert.AttnFReferenceIdeal.nD Cert.AttnFReferenceIdeal.τ).loc Cert.AttnFReferenceIdeal.main_arg0)
      ∧ r.2.mem ((c.tc : Thread Cert.AttnFReferenceIdeal.nD Cert.AttnFReferenceIdeal.τ).loc Cert.AttnFReferenceIdeal.main_arg1) = m ((c.tc : Thread Cert.AttnFReferenceIdeal.nD Cert.AttnFReferenceIdeal.τ).loc Cert.AttnFReferenceIdeal.main_arg1)
      ∧ r.2.mem ((c.tc : Thread Cert.AttnFReferenceIdeal.nD Cert.AttnFReferenceIdeal.τ).loc Cert.AttnFReferenceIdeal.main_arg2) = m ((c.tc : Thread Cert.AttnFReferenceIdeal.nD Cert.AttnFReferenceIdeal.τ).loc Cert.AttnFReferenceIdeal.main_arg2)
      ∧ r.2.mem ((c.tc : Thread Cert.AttnFReferenceIdeal.nD Cert.AttnFReferenceIdeal.τ).loc Cert.AttnFReferenceIdeal.main_arg3) = m ((c.tc : Thread Cert.AttnFReferenceIdeal.nD Cert.AttnFReferenceIdeal.τ).loc Cert.AttnFReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1)
      ∧ r.2.mem ((c.tc : Thread Cert.GateB.nD Cert.GateB.τ).loc Cert.GateB.main_arg2) = m ((c.tc : Thread Cert.GateB.nD Cert.GateB.τ).loc Cert.GateB.main_arg2))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2))
      ∧ r.2.sem = fun _ => 0)

def quiescent_GateBReferenceIdeal [hGateBReferenceIdeal : Cert.GateBReferenceIdeal.Facts] : Prop :=
  ∀ (m : (ℓ : Loc Cert.GateBReferenceIdeal.nD Cert.GateBReferenceIdeal.τ Cert.GateBReferenceIdeal.sig) → Buf (Elt Ideal) ℓ) (g : Dev Cert.GateBReferenceIdeal.nD → PrngReg), Pre_GateBReferenceIdeal m →
    θ_run (Cert.GateBReferenceIdeal.defs (F := Ideal)) (onTc (τ := Cert.GateBReferenceIdeal.τ) (Cert.GateBReferenceIdeal.main (F := Ideal))) ⟨m, fun _ => 0, g⟩ (fun r => (∀ c : Dev Cert.GateBReferenceIdeal.nD,
      r.2.mem ((c.tc : Thread Cert.GateBReferenceIdeal.nD Cert.GateBReferenceIdeal.τ).loc Cert.GateBReferenceIdeal.main_arg0) = m ((c.tc : Thread Cert.GateBReferenceIdeal.nD Cert.GateBReferenceIdeal.τ).loc Cert.GateBReferenceIdeal.main_arg0)
      ∧ r.2.mem ((c.tc : Thread Cert.GateBReferenceIdeal.nD Cert.GateBReferenceIdeal.τ).loc Cert.GateBReferenceIdeal.main_arg1) = m ((c.tc : Thread Cert.GateBReferenceIdeal.nD Cert.GateBReferenceIdeal.τ).loc Cert.GateBReferenceIdeal.main_arg1)
      ∧ r.2.mem ((c.tc : Thread Cert.GateBReferenceIdeal.nD Cert.GateBReferenceIdeal.τ).loc Cert.GateBReferenceIdeal.main_arg2) = m ((c.tc : Thread Cert.GateBReferenceIdeal.nD Cert.GateBReferenceIdeal.τ).loc Cert.GateBReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_InXReferenceIdeal [hInXReferenceIdeal : Cert.InXReferenceIdeal.Facts] : Prop :=
  ∀ (m : (ℓ : Loc Cert.InXReferenceIdeal.nD Cert.InXReferenceIdeal.τ Cert.InXReferenceIdeal.sig) → Buf (Elt Ideal) ℓ) (g : Dev Cert.InXReferenceIdeal.nD → PrngReg), Pre_InXReferenceIdeal m →
    θ_run (Cert.InXReferenceIdeal.defs (F := Ideal)) (onTc (τ := Cert.InXReferenceIdeal.τ) (Cert.InXReferenceIdeal.main (F := Ideal))) ⟨m, fun _ => 0, g⟩ (fun r => (∀ c : Dev Cert.InXReferenceIdeal.nD,
      r.2.mem ((c.tc : Thread Cert.InXReferenceIdeal.nD Cert.InXReferenceIdeal.τ).loc Cert.InXReferenceIdeal.main_arg0) = m ((c.tc : Thread Cert.InXReferenceIdeal.nD Cert.InXReferenceIdeal.τ).loc Cert.InXReferenceIdeal.main_arg0)
      ∧ r.2.mem ((c.tc : Thread Cert.InXReferenceIdeal.nD Cert.InXReferenceIdeal.τ).loc Cert.InXReferenceIdeal.main_arg1) = m ((c.tc : Thread Cert.InXReferenceIdeal.nD Cert.InXReferenceIdeal.τ).loc Cert.InXReferenceIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWReferenceIdeal [hInWReferenceIdeal : Cert.InWReferenceIdeal.Facts] : Prop :=
  ∀ (m : (ℓ : Loc Cert.InWReferenceIdeal.nD Cert.InWReferenceIdeal.τ Cert.InWReferenceIdeal.sig) → Buf (Elt Ideal) ℓ) (g : Dev Cert.InWReferenceIdeal.nD → PrngReg), Pre_InWReferenceIdeal m →
    θ_run (Cert.InWReferenceIdeal.defs (F := Ideal)) (onTc (τ := Cert.InWReferenceIdeal.τ) (Cert.InWReferenceIdeal.main (F := Ideal))) ⟨m, fun _ => 0, g⟩ (fun r => (∀ c : Dev Cert.InWReferenceIdeal.nD,
      r.2.mem ((c.tc : Thread Cert.InWReferenceIdeal.nD Cert.InWReferenceIdeal.τ).loc Cert.InWReferenceIdeal.main_arg0) = m ((c.tc : Thread Cert.InWReferenceIdeal.nD Cert.InWReferenceIdeal.τ).loc Cert.InWReferenceIdeal.main_arg0)
      ∧ r.2.mem ((c.tc : Thread Cert.InWReferenceIdeal.nD Cert.InWReferenceIdeal.τ).loc Cert.InWReferenceIdeal.main_arg1) = m ((c.tc : Thread Cert.InWReferenceIdeal.nD Cert.InWReferenceIdeal.τ).loc Cert.InWReferenceIdeal.main_arg1))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ r.2.sem = fun _ => 0)

def quiescent_NormBReferenceIdeal [hNormBReferenceIdeal : Cert.NormBReferenceIdeal.Facts] : Prop :=
  ∀ (m : (ℓ : Loc Cert.NormBReferenceIdeal.nD Cert.NormBReferenceIdeal.τ Cert.NormBReferenceIdeal.sig) → Buf (Elt Ideal) ℓ) (g : Dev Cert.NormBReferenceIdeal.nD → PrngReg), Pre_NormBReferenceIdeal m →
    θ_run (Cert.NormBReferenceIdeal.defs (F := Ideal)) (onTc (τ := Cert.NormBReferenceIdeal.τ) (Cert.NormBReferenceIdeal.main (F := Ideal))) ⟨m, fun _ => 0, g⟩ (fun r => (∀ c : Dev Cert.NormBReferenceIdeal.nD,
      r.2.mem ((c.tc : Thread Cert.NormBReferenceIdeal.nD Cert.NormBReferenceIdeal.τ).loc Cert.NormBReferenceIdeal.main_arg0) = m ((c.tc : Thread Cert.NormBReferenceIdeal.nD Cert.NormBReferenceIdeal.τ).loc Cert.NormBReferenceIdeal.main_arg0)
      ∧ r.2.mem ((c.tc : Thread Cert.NormBReferenceIdeal.nD Cert.NormBReferenceIdeal.τ).loc Cert.NormBReferenceIdeal.main_arg1) = m ((c.tc : Thread Cert.NormBReferenceIdeal.nD Cert.NormBReferenceIdeal.τ).loc Cert.NormBReferenceIdeal.main_arg1)
      ∧ r.2.mem ((c.tc : Thread Cert.NormBReferenceIdeal.nD Cert.NormBReferenceIdeal.τ).loc Cert.NormBReferenceIdeal.main_arg2) = m ((c.tc : Thread Cert.NormBReferenceIdeal.nD Cert.NormBReferenceIdeal.τ).loc Cert.NormBReferenceIdeal.main_arg2)
      ∧ r.2.mem ((c.tc : Thread Cert.NormBReferenceIdeal.nD Cert.NormBReferenceIdeal.τ).loc Cert.NormBReferenceIdeal.main_arg3) = m ((c.tc : Thread Cert.NormBReferenceIdeal.nD Cert.NormBReferenceIdeal.τ).loc Cert.NormBReferenceIdeal.main_arg3))
      ∧ r.2.sem = fun _ => 0)

def quiescent_ConvB [hConvB : Cert.ConvB.Facts] : Prop :=
  ∀ (m : (ℓ : Loc Cert.ConvB.nD Cert.ConvB.τ Cert.ConvB.sig) → Buf (Elt Bits) ℓ) (g : Dev Cert.ConvB.nD → PrngReg), Pre_ConvB m →
    θ_run (Cert.ConvB.defs (F := Bits)) (onTc (τ := Cert.ConvB.τ) (Cert.ConvB.main (F := Bits))) ⟨m, fun _ => 0, g⟩ (fun r => (∀ c : Dev Cert.ConvB.nD,
      r.2.mem ((c.tc : Thread Cert.ConvB.nD Cert.ConvB.τ).loc Cert.ConvB.main_arg0) = m ((c.tc : Thread Cert.ConvB.nD Cert.ConvB.τ).loc Cert.ConvB.main_arg0)
      ∧ r.2.mem ((c.tc : Thread Cert.ConvB.nD Cert.ConvB.τ).loc Cert.ConvB.main_arg1) = m ((c.tc : Thread Cert.ConvB.nD Cert.ConvB.τ).loc Cert.ConvB.main_arg1)
      ∧ r.2.mem ((c.tc : Thread Cert.ConvB.nD Cert.ConvB.τ).loc Cert.ConvB.main_arg2) = m ((c.tc : Thread Cert.ConvB.nD Cert.ConvB.τ).loc Cert.ConvB.main_arg2))
      ∧ r.2.sem = fun _ => 0)

def quiescent_ConvBIdeal [hConvBIdeal : Cert.ConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
      ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ r.2.sem = fun _ => 0)

def quiescent_ConvBReferenceIdeal [hConvBReferenceIdeal : Cert.ConvBReferenceIdeal.Facts] : Prop :=
  ∀ (m : (ℓ : Loc Cert.ConvBReferenceIdeal.nD Cert.ConvBReferenceIdeal.τ Cert.ConvBReferenceIdeal.sig) → Buf (Elt Ideal) ℓ) (g : Dev Cert.ConvBReferenceIdeal.nD → PrngReg), Pre_ConvBReferenceIdeal m →
    θ_run (Cert.ConvBReferenceIdeal.defs (F := Ideal)) (onTc (τ := Cert.ConvBReferenceIdeal.τ) (Cert.ConvBReferenceIdeal.main (F := Ideal))) ⟨m, fun _ => 0, g⟩ (fun r => (∀ c : Dev Cert.ConvBReferenceIdeal.nD,
      r.2.mem ((c.tc : Thread Cert.ConvBReferenceIdeal.nD Cert.ConvBReferenceIdeal.τ).loc Cert.ConvBReferenceIdeal.main_arg0) = m ((c.tc : Thread Cert.ConvBReferenceIdeal.nD Cert.ConvBReferenceIdeal.τ).loc Cert.ConvBReferenceIdeal.main_arg0)
      ∧ r.2.mem ((c.tc : Thread Cert.ConvBReferenceIdeal.nD Cert.ConvBReferenceIdeal.τ).loc Cert.ConvBReferenceIdeal.main_arg1) = m ((c.tc : Thread Cert.ConvBReferenceIdeal.nD Cert.ConvBReferenceIdeal.τ).loc Cert.ConvBReferenceIdeal.main_arg1)
      ∧ r.2.mem ((c.tc : Thread Cert.ConvBReferenceIdeal.nD Cert.ConvBReferenceIdeal.τ).loc Cert.ConvBReferenceIdeal.main_arg2) = m ((c.tc : Thread Cert.ConvBReferenceIdeal.nD Cert.ConvBReferenceIdeal.τ).loc Cert.ConvBReferenceIdeal.main_arg2))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ r.2.sem = fun _ => 0)

def quiescent_NormFReferenceIdeal [hNormFReferenceIdeal : Cert.NormFReferenceIdeal.Facts] : Prop :=
  ∀ (m : (ℓ : Loc Cert.NormFReferenceIdeal.nD Cert.NormFReferenceIdeal.τ Cert.NormFReferenceIdeal.sig) → Buf (Elt Ideal) ℓ) (g : Dev Cert.NormFReferenceIdeal.nD → PrngReg), Pre_NormFReferenceIdeal m →
    θ_run (Cert.NormFReferenceIdeal.defs (F := Ideal)) (onTc (τ := Cert.NormFReferenceIdeal.τ) (Cert.NormFReferenceIdeal.main (F := Ideal))) ⟨m, fun _ => 0, g⟩ (fun r => (∀ c : Dev Cert.NormFReferenceIdeal.nD,
      r.2.mem ((c.tc : Thread Cert.NormFReferenceIdeal.nD Cert.NormFReferenceIdeal.τ).loc Cert.NormFReferenceIdeal.main_arg0) = m ((c.tc : Thread Cert.NormFReferenceIdeal.nD Cert.NormFReferenceIdeal.τ).loc Cert.NormFReferenceIdeal.main_arg0)
      ∧ r.2.mem ((c.tc : Thread Cert.NormFReferenceIdeal.nD Cert.NormFReferenceIdeal.τ).loc Cert.NormFReferenceIdeal.main_arg1) = m ((c.tc : Thread Cert.NormFReferenceIdeal.nD Cert.NormFReferenceIdeal.τ).loc Cert.NormFReferenceIdeal.main_arg1))
      ∧ r.2.sem = fun _ => 0)

def quiescent_PostF [hPostF : Cert.PostF.Facts] : Prop :=
  ∀ (m : (ℓ : Loc Cert.PostF.nD Cert.PostF.τ Cert.PostF.sig) → Buf (Elt Bits) ℓ) (g : Dev Cert.PostF.nD → PrngReg), Pre_PostF m →
    θ_run (Cert.PostF.defs (F := Bits)) (onTc (τ := Cert.PostF.τ) (Cert.PostF.main (F := Bits))) ⟨m, fun _ => 0, g⟩ (fun r => (∀ c : Dev Cert.PostF.nD,
      r.2.mem ((c.tc : Thread Cert.PostF.nD Cert.PostF.τ).loc Cert.PostF.main_arg0) = m ((c.tc : Thread Cert.PostF.nD Cert.PostF.τ).loc Cert.PostF.main_arg0)
      ∧ r.2.mem ((c.tc : Thread Cert.PostF.nD Cert.PostF.τ).loc Cert.PostF.main_arg1) = m ((c.tc : Thread Cert.PostF.nD Cert.PostF.τ).loc Cert.PostF.main_arg1)
      ∧ r.2.mem ((c.tc : Thread Cert.PostF.nD Cert.PostF.τ).loc Cert.PostF.main_arg2) = m ((c.tc : Thread Cert.PostF.nD Cert.PostF.τ).loc Cert.PostF.main_arg2))
      ∧ r.2.sem = fun _ => 0)

def quiescent_PostFIdeal [hPostFIdeal : Cert.PostFIdeal.Facts] : Prop :=
  ∀ (m : (ℓ : Loc Cert.PostFIdeal.nD Cert.PostFIdeal.τ Cert.PostFIdeal.sig) → Buf (Elt Ideal) ℓ) (g : Dev Cert.PostFIdeal.nD → PrngReg), Pre_PostFIdeal m →
    θ_run (Cert.PostFIdeal.defs (F := Ideal)) (onTc (τ := Cert.PostFIdeal.τ) (Cert.PostFIdeal.main (F := Ideal))) ⟨m, fun _ => 0, g⟩ (fun r => (∀ c : Dev Cert.PostFIdeal.nD,
      r.2.mem ((c.tc : Thread Cert.PostFIdeal.nD Cert.PostFIdeal.τ).loc Cert.PostFIdeal.main_arg0) = m ((c.tc : Thread Cert.PostFIdeal.nD Cert.PostFIdeal.τ).loc Cert.PostFIdeal.main_arg0)
      ∧ r.2.mem ((c.tc : Thread Cert.PostFIdeal.nD Cert.PostFIdeal.τ).loc Cert.PostFIdeal.main_arg1) = m ((c.tc : Thread Cert.PostFIdeal.nD Cert.PostFIdeal.τ).loc Cert.PostFIdeal.main_arg1)
      ∧ r.2.mem ((c.tc : Thread Cert.PostFIdeal.nD Cert.PostFIdeal.τ).loc Cert.PostFIdeal.main_arg2) = m ((c.tc : Thread Cert.PostFIdeal.nD Cert.PostFIdeal.τ).loc Cert.PostFIdeal.main_arg2))
      ∧ r.2.sem = fun _ => 0)

def quiescent_PostFReferenceIdeal [hPostFReferenceIdeal : Cert.PostFReferenceIdeal.Facts] : Prop :=
  ∀ (m : (ℓ : Loc Cert.PostFReferenceIdeal.nD Cert.PostFReferenceIdeal.τ Cert.PostFReferenceIdeal.sig) → Buf (Elt Ideal) ℓ) (g : Dev Cert.PostFReferenceIdeal.nD → PrngReg), Pre_PostFReferenceIdeal m →
    θ_run (Cert.PostFReferenceIdeal.defs (F := Ideal)) (onTc (τ := Cert.PostFReferenceIdeal.τ) (Cert.PostFReferenceIdeal.main (F := Ideal))) ⟨m, fun _ => 0, g⟩ (fun r => (∀ c : Dev Cert.PostFReferenceIdeal.nD,
      r.2.mem ((c.tc : Thread Cert.PostFReferenceIdeal.nD Cert.PostFReferenceIdeal.τ).loc Cert.PostFReferenceIdeal.main_arg0) = m ((c.tc : Thread Cert.PostFReferenceIdeal.nD Cert.PostFReferenceIdeal.τ).loc Cert.PostFReferenceIdeal.main_arg0)
      ∧ r.2.mem ((c.tc : Thread Cert.PostFReferenceIdeal.nD Cert.PostFReferenceIdeal.τ).loc Cert.PostFReferenceIdeal.main_arg1) = m ((c.tc : Thread Cert.PostFReferenceIdeal.nD Cert.PostFReferenceIdeal.τ).loc Cert.PostFReferenceIdeal.main_arg1)
      ∧ r.2.mem ((c.tc : Thread Cert.PostFReferenceIdeal.nD Cert.PostFReferenceIdeal.τ).loc Cert.PostFReferenceIdeal.main_arg2) = m ((c.tc : Thread Cert.PostFReferenceIdeal.nD Cert.PostFReferenceIdeal.τ).loc Cert.PostFReferenceIdeal.main_arg2))
      ∧ r.2.sem = fun _ => 0)

def quiescent_HybIn [hHybIn : Cert.HybIn.Facts] : Prop :=
  ∀ (m : (ℓ : Loc Cert.HybIn.nD Cert.HybIn.τ Cert.HybIn.sig) → Buf (Elt Bits) ℓ) (g : Dev Cert.HybIn.nD → PrngReg), Pre_HybIn m →
    θ_run (Cert.HybIn.defs (F := Bits)) (onTc (τ := Cert.HybIn.τ) (Cert.HybIn.main (F := Bits))) ⟨m, fun _ => 0, g⟩ (fun r => (∀ c : Dev Cert.HybIn.nD,
      r.2.mem ((c.tc : Thread Cert.HybIn.nD Cert.HybIn.τ).loc Cert.HybIn.main_arg0) = m ((c.tc : Thread Cert.HybIn.nD Cert.HybIn.τ).loc Cert.HybIn.main_arg0)
      ∧ r.2.mem ((c.tc : Thread Cert.HybIn.nD Cert.HybIn.τ).loc Cert.HybIn.main_arg1) = m ((c.tc : Thread Cert.HybIn.nD Cert.HybIn.τ).loc Cert.HybIn.main_arg1))
      ∧ r.2.sem = fun _ => 0)

def quiescent_HybInIdeal [hHybInIdeal : Cert.HybInIdeal.Facts] : Prop :=
  ∀ (m : (ℓ : Loc Cert.HybInIdeal.nD Cert.HybInIdeal.τ Cert.HybInIdeal.sig) → Buf (Elt Ideal) ℓ) (g : Dev Cert.HybInIdeal.nD → PrngReg), Pre_HybInIdeal m →
    θ_run (Cert.HybInIdeal.defs (F := Ideal)) (onTc (τ := Cert.HybInIdeal.τ) (Cert.HybInIdeal.main (F := Ideal))) ⟨m, fun _ => 0, g⟩ (fun r => (∀ c : Dev Cert.HybInIdeal.nD,
      r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
      ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1))
      ∧ r.2.sem = fun _ => 0)

def quiescent_HybInReferenceIdeal [hHybInReferenceIdeal : Cert.HybInReferenceIdeal.Facts] : Prop :=
  ∀ (m : (ℓ : Loc Cert.HybInReferenceIdeal.nD Cert.HybInReferenceIdeal.τ Cert.HybInReferenceIdeal.sig) → Buf (Elt Ideal) ℓ) (g : Dev Cert.HybInReferenceIdeal.nD → PrngReg), Pre_HybInReferenceIdeal m →
    θ_run (Cert.HybInReferenceIdeal.defs (F := Ideal)) (onTc (τ := Cert.HybInReferenceIdeal.τ) (Cert.HybInReferenceIdeal.main (F := Ideal))) ⟨m, fun _ => 0, g⟩ (fun r => (∀ c : Dev Cert.HybInReferenceIdeal.nD,
      r.2.mem ((c.tc : Thread Cert.HybInReferenceIdeal.nD Cert.HybInReferenceIdeal.τ).loc Cert.HybInReferenceIdeal.main_arg0) = m ((c.tc : Thread Cert.HybInReferenceIdeal.nD Cert.HybInReferenceIdeal.τ).loc Cert.HybInReferenceIdeal.main_arg0)
      ∧ r.2.mem ((c.tc : Thread Cert.HybInReferenceIdeal.nD Cert.HybInReferenceIdeal.τ).loc Cert.HybInReferenceIdeal.main_arg1) = m ((c.tc : Thread Cert.HybInReferenceIdeal.nD Cert.HybInReferenceIdeal.τ).loc Cert.HybInReferenceIdeal.main_arg1))
      ∧ r.2.sem = fun _ => 0)

def quiescent_HybInX [hHybInX : Cert.HybInX.Facts] : Prop :=
  ∀ (m : (ℓ : Loc Cert.HybInX.nD Cert.HybInX.τ Cert.HybInX.sig) → Buf (Elt Bits) ℓ) (g : Dev Cert.HybInX.nD → PrngReg), Pre_HybInX m →
    θ_run (Cert.HybInX.defs (F := Bits)) (onTc (τ := Cert.HybInX.τ) (Cert.HybInX.main (F := Bits))) ⟨m, fun _ => 0, g⟩ (fun r => (∀ c : Dev Cert.HybInX.nD,
      r.2.mem ((c.tc : Thread Cert.HybInX.nD Cert.HybInX.τ).loc Cert.HybInX.main_arg0) = m ((c.tc : Thread Cert.HybInX.nD Cert.HybInX.τ).loc Cert.HybInX.main_arg0)
      ∧ r.2.mem ((c.tc : Thread Cert.HybInX.nD Cert.HybInX.τ).loc Cert.HybInX.main_arg1) = m ((c.tc : Thread Cert.HybInX.nD Cert.HybInX.τ).loc Cert.HybInX.main_arg1))
      ∧ r.2.sem = fun _ => 0)

def quiescent_HybInXIdeal [hHybInXIdeal : Cert.HybInXIdeal.Facts] : Prop :=
  ∀ (m : (ℓ : Loc Cert.HybInXIdeal.nD Cert.HybInXIdeal.τ Cert.HybInXIdeal.sig) → Buf (Elt Ideal) ℓ) (g : Dev Cert.HybInXIdeal.nD → PrngReg), Pre_HybInXIdeal m →
    θ_run (Cert.HybInXIdeal.defs (F := Ideal)) (onTc (τ := Cert.HybInXIdeal.τ) (Cert.HybInXIdeal.main (F := Ideal))) ⟨m, fun _ => 0, g⟩ (fun r => (∀ c : Dev Cert.HybInXIdeal.nD,
      r.2.mem ((c.tc : Thread Cert.HybInXIdeal.nD Cert.HybInXIdeal.τ).loc Cert.HybInXIdeal.main_arg0) = m ((c.tc : Thread Cert.HybInXIdeal.nD Cert.HybInXIdeal.τ).loc Cert.HybInXIdeal.main_arg0)
      ∧ r.2.mem ((c.tc : Thread Cert.HybInXIdeal.nD Cert.HybInXIdeal.τ).loc Cert.HybInXIdeal.main_arg1) = m ((c.tc : Thread Cert.HybInXIdeal.nD Cert.HybInXIdeal.τ).loc Cert.HybInXIdeal.main_arg1))
      ∧ r.2.sem = fun _ => 0)

def quiescent_HybInXReferenceIdeal [hHybInXReferenceIdeal : Cert.HybInXReferenceIdeal.Facts] : Prop :=
  ∀ (m : (ℓ : Loc Cert.HybInXReferenceIdeal.nD Cert.HybInXReferenceIdeal.τ Cert.HybInXReferenceIdeal.sig) → Buf (Elt Ideal) ℓ) (g : Dev Cert.HybInXReferenceIdeal.nD → PrngReg), Pre_HybInXReferenceIdeal m →
    θ_run (Cert.HybInXReferenceIdeal.defs (F := Ideal)) (onTc (τ := Cert.HybInXReferenceIdeal.τ) (Cert.HybInXReferenceIdeal.main (F := Ideal))) ⟨m, fun _ => 0, g⟩ (fun r => (∀ c : Dev Cert.HybInXReferenceIdeal.nD,
      r.2.mem ((c.tc : Thread Cert.HybInXReferenceIdeal.nD Cert.HybInXReferenceIdeal.τ).loc Cert.HybInXReferenceIdeal.main_arg0) = m ((c.tc : Thread Cert.HybInXReferenceIdeal.nD Cert.HybInXReferenceIdeal.τ).loc Cert.HybInXReferenceIdeal.main_arg0)
      ∧ r.2.mem ((c.tc : Thread Cert.HybInXReferenceIdeal.nD Cert.HybInXReferenceIdeal.τ).loc Cert.HybInXReferenceIdeal.main_arg1) = m ((c.tc : Thread Cert.HybInXReferenceIdeal.nD Cert.HybInXReferenceIdeal.τ).loc Cert.HybInXReferenceIdeal.main_arg1))
      ∧ r.2.sem = fun _ => 0)

def quiescent_HybInW [hHybInW : Cert.HybInW.Facts] : Prop :=
  ∀ (m : (ℓ : Loc Cert.HybInW.nD Cert.HybInW.τ Cert.HybInW.sig) → Buf (Elt Bits) ℓ) (g : Dev Cert.HybInW.nD → PrngReg), Pre_HybInW m →
    θ_run (Cert.HybInW.defs (F := Bits)) (onTc (τ := Cert.HybInW.τ) (Cert.HybInW.main (F := Bits))) ⟨m, fun _ => 0, g⟩ (fun r => (∀ c : Dev Cert.HybInW.nD,
      r.2.mem ((c.tc : Thread Cert.HybInW.nD Cert.HybInW.τ).loc Cert.HybInW.main_arg0) = m ((c.tc : Thread Cert.HybInW.nD Cert.HybInW.τ).loc Cert.HybInW.main_arg0)
      ∧ r.2.mem ((c.tc : Thread Cert.HybInW.nD Cert.HybInW.τ).loc Cert.HybInW.main_arg1) = m ((c.tc : Thread Cert.HybInW.nD Cert.HybInW.τ).loc Cert.HybInW.main_arg1))
      ∧ r.2.sem = fun _ => 0)

def quiescent_HybInWIdeal [hHybInWIdeal : Cert.HybInWIdeal.Facts] : Prop :=
  ∀ (m : (ℓ : Loc Cert.HybInWIdeal.nD Cert.HybInWIdeal.τ Cert.HybInWIdeal.sig) → Buf (Elt Ideal) ℓ) (g : Dev Cert.HybInWIdeal.nD → PrngReg), Pre_HybInWIdeal m →
    θ_run (Cert.HybInWIdeal.defs (F := Ideal)) (onTc (τ := Cert.HybInWIdeal.τ) (Cert.HybInWIdeal.main (F := Ideal))) ⟨m, fun _ => 0, g⟩ (fun r => (∀ c : Dev Cert.HybInWIdeal.nD,
      r.2.mem ((c.tc : Thread Cert.HybInWIdeal.nD Cert.HybInWIdeal.τ).loc Cert.HybInWIdeal.main_arg0) = m ((c.tc : Thread Cert.HybInWIdeal.nD Cert.HybInWIdeal.τ).loc Cert.HybInWIdeal.main_arg0)
      ∧ r.2.mem ((c.tc : Thread Cert.HybInWIdeal.nD Cert.HybInWIdeal.τ).loc Cert.HybInWIdeal.main_arg1) = m ((c.tc : Thread Cert.HybInWIdeal.nD Cert.HybInWIdeal.τ).loc Cert.HybInWIdeal.main_arg1))
      ∧ r.2.sem = fun _ => 0)

def quiescent_HybInWReferenceIdeal [hHybInWReferenceIdeal : Cert.HybInWReferenceIdeal.Facts] : Prop :=
  ∀ (m : (ℓ : Loc Cert.HybInWReferenceIdeal.nD Cert.HybInWReferenceIdeal.τ Cert.HybInWReferenceIdeal.sig) → Buf (Elt Ideal) ℓ) (g : Dev Cert.HybInWReferenceIdeal.nD → PrngReg), Pre_HybInWReferenceIdeal m →
    θ_run (Cert.HybInWReferenceIdeal.defs (F := Ideal)) (onTc (τ := Cert.HybInWReferenceIdeal.τ) (Cert.HybInWReferenceIdeal.main (F := Ideal))) ⟨m, fun _ => 0, g⟩ (fun r => (∀ c : Dev Cert.HybInWReferenceIdeal.nD,
      r.2.mem ((c.tc : Thread Cert.HybInWReferenceIdeal.nD Cert.HybInWReferenceIdeal.τ).loc Cert.HybInWReferenceIdeal.main_arg0) = m ((c.tc : Thread Cert.HybInWReferenceIdeal.nD Cert.HybInWReferenceIdeal.τ).loc Cert.HybInWReferenceIdeal.main_arg0)
      ∧ r.2.mem ((c.tc : Thread Cert.HybInWReferenceIdeal.nD Cert.HybInWReferenceIdeal.τ).loc Cert.HybInWReferenceIdeal.main_arg1) = m ((c.tc : Thread Cert.HybInWReferenceIdeal.nD Cert.HybInWReferenceIdeal.τ).loc Cert.HybInWReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_HybOutX [hHybOutX : Cert.HybOutX.Facts] : Prop :=
  ∀ (m : (ℓ : Loc Cert.HybOutX.nD Cert.HybOutX.τ Cert.HybOutX.sig) → Buf (Elt Bits) ℓ) (g : Dev Cert.HybOutX.nD → PrngReg), Pre_HybOutX m →
    θ_run (Cert.HybOutX.defs (F := Bits)) (onTc (τ := Cert.HybOutX.τ) (Cert.HybOutX.main (F := Bits))) ⟨m, fun _ => 0, g⟩ (fun r => (∀ c : Dev Cert.HybOutX.nD,
      r.2.mem ((c.tc : Thread Cert.HybOutX.nD Cert.HybOutX.τ).loc Cert.HybOutX.main_arg0) = m ((c.tc : Thread Cert.HybOutX.nD Cert.HybOutX.τ).loc Cert.HybOutX.main_arg0)
      ∧ r.2.mem ((c.tc : Thread Cert.HybOutX.nD Cert.HybOutX.τ).loc Cert.HybOutX.main_arg1) = m ((c.tc : Thread Cert.HybOutX.nD Cert.HybOutX.τ).loc Cert.HybOutX.main_arg1))
      ∧ r.2.sem = fun _ => 0)

def quiescent_HybOutXIdeal [hHybOutXIdeal : Cert.HybOutXIdeal.Facts] : Prop :=
  ∀ (m : (ℓ : Loc Cert.HybOutXIdeal.nD Cert.HybOutXIdeal.τ Cert.HybOutXIdeal.sig) → Buf (Elt Ideal) ℓ) (g : Dev Cert.HybOutXIdeal.nD → PrngReg), Pre_HybOutXIdeal m →
    θ_run (Cert.HybOutXIdeal.defs (F := Ideal)) (onTc (τ := Cert.HybOutXIdeal.τ) (Cert.HybOutXIdeal.main (F := Ideal))) ⟨m, fun _ => 0, g⟩ (fun r => (∀ c : Dev Cert.HybOutXIdeal.nD,
      r.2.mem ((c.tc : Thread Cert.HybOutXIdeal.nD Cert.HybOutXIdeal.τ).loc Cert.HybOutXIdeal.main_arg0) = m ((c.tc : Thread Cert.HybOutXIdeal.nD Cert.HybOutXIdeal.τ).loc Cert.HybOutXIdeal.main_arg0)
      ∧ r.2.mem ((c.tc : Thread Cert.HybOutXIdeal.nD Cert.HybOutXIdeal.τ).loc Cert.HybOutXIdeal.main_arg1) = m ((c.tc : Thread Cert.HybOutXIdeal.nD Cert.HybOutXIdeal.τ).loc Cert.HybOutXIdeal.main_arg1))
      ∧ r.2.sem = fun _ => 0)

def quiescent_HybOutXReferenceIdeal [hHybOutXReferenceIdeal : Cert.HybOutXReferenceIdeal.Facts] : Prop :=
  ∀ (m : (ℓ : Loc Cert.HybOutXReferenceIdeal.nD Cert.HybOutXReferenceIdeal.τ Cert.HybOutXReferenceIdeal.sig) → Buf (Elt Ideal) ℓ) (g : Dev Cert.HybOutXReferenceIdeal.nD → PrngReg), Pre_HybOutXReferenceIdeal m →
    θ_run (Cert.HybOutXReferenceIdeal.defs (F := Ideal)) (onTc (τ := Cert.HybOutXReferenceIdeal.τ) (Cert.HybOutXReferenceIdeal.main (F := Ideal))) ⟨m, fun _ => 0, g⟩ (fun r => (∀ c : Dev Cert.HybOutXReferenceIdeal.nD,
      r.2.mem ((c.tc : Thread Cert.HybOutXReferenceIdeal.nD Cert.HybOutXReferenceIdeal.τ).loc Cert.HybOutXReferenceIdeal.main_arg0) = m ((c.tc : Thread Cert.HybOutXReferenceIdeal.nD Cert.HybOutXReferenceIdeal.τ).loc Cert.HybOutXReferenceIdeal.main_arg0)
      ∧ r.2.mem ((c.tc : Thread Cert.HybOutXReferenceIdeal.nD Cert.HybOutXReferenceIdeal.τ).loc Cert.HybOutXReferenceIdeal.main_arg1) = m ((c.tc : Thread Cert.HybOutXReferenceIdeal.nD Cert.HybOutXReferenceIdeal.τ).loc Cert.HybOutXReferenceIdeal.main_arg1))
      ∧ r.2.sem = fun _ => 0)

def quiescent_MlaOutX [hMlaOutX : Cert.MlaOutX.Facts] : Prop :=
  ∀ (m : (ℓ : Loc Cert.MlaOutX.nD Cert.MlaOutX.τ Cert.MlaOutX.sig) → Buf (Elt Bits) ℓ) (g : Dev Cert.MlaOutX.nD → PrngReg), Pre_MlaOutX m →
    θ_run (Cert.MlaOutX.defs (F := Bits)) (onTc (τ := Cert.MlaOutX.τ) (Cert.MlaOutX.main (F := Bits))) ⟨m, fun _ => 0, g⟩ (fun r => (∀ c : Dev Cert.MlaOutX.nD,
      r.2.mem ((c.tc : Thread Cert.MlaOutX.nD Cert.MlaOutX.τ).loc Cert.MlaOutX.main_arg0) = m ((c.tc : Thread Cert.MlaOutX.nD Cert.MlaOutX.τ).loc Cert.MlaOutX.main_arg0)
      ∧ r.2.mem ((c.tc : Thread Cert.MlaOutX.nD Cert.MlaOutX.τ).loc Cert.MlaOutX.main_arg1) = m ((c.tc : Thread Cert.MlaOutX.nD Cert.MlaOutX.τ).loc Cert.MlaOutX.main_arg1))
      ∧ r.2.sem = fun _ => 0)

def quiescent_MlaOutXIdeal [hMlaOutXIdeal : Cert.MlaOutXIdeal.Facts] : Prop :=
  ∀ (m : (ℓ : Loc Cert.MlaOutXIdeal.nD Cert.MlaOutXIdeal.τ Cert.MlaOutXIdeal.sig) → Buf (Elt Ideal) ℓ) (g : Dev Cert.MlaOutXIdeal.nD → PrngReg), Pre_MlaOutXIdeal m →
    θ_run (Cert.MlaOutXIdeal.defs (F := Ideal)) (onTc (τ := Cert.MlaOutXIdeal.τ) (Cert.MlaOutXIdeal.main (F := Ideal))) ⟨m, fun _ => 0, g⟩ (fun r => (∀ c : Dev Cert.MlaOutXIdeal.nD,
      r.2.mem ((c.tc : Thread Cert.MlaOutXIdeal.nD Cert.MlaOutXIdeal.τ).loc Cert.MlaOutXIdeal.main_arg0) = m ((c.tc : Thread Cert.MlaOutXIdeal.nD Cert.MlaOutXIdeal.τ).loc Cert.MlaOutXIdeal.main_arg0)
      ∧ r.2.mem ((c.tc : Thread Cert.MlaOutXIdeal.nD Cert.MlaOutXIdeal.τ).loc Cert.MlaOutXIdeal.main_arg1) = m ((c.tc : Thread Cert.MlaOutXIdeal.nD Cert.MlaOutXIdeal.τ).loc Cert.MlaOutXIdeal.main_arg1))
      ∧ r.2.sem = fun _ => 0)

def quiescent_MlaOutXReferenceIdeal [hMlaOutXReferenceIdeal : Cert.MlaOutXReferenceIdeal.Facts] : Prop :=
  ∀ (m : (ℓ : Loc Cert.MlaOutXReferenceIdeal.nD Cert.MlaOutXReferenceIdeal.τ Cert.MlaOutXReferenceIdeal.sig) → Buf (Elt Ideal) ℓ) (g : Dev Cert.MlaOutXReferenceIdeal.nD → PrngReg), Pre_MlaOutXReferenceIdeal m →
    θ_run (Cert.MlaOutXReferenceIdeal.defs (F := Ideal)) (onTc (τ := Cert.MlaOutXReferenceIdeal.τ) (Cert.MlaOutXReferenceIdeal.main (F := Ideal))) ⟨m, fun _ => 0, g⟩ (fun r => (∀ c : Dev Cert.MlaOutXReferenceIdeal.nD,
      r.2.mem ((c.tc : Thread Cert.MlaOutXReferenceIdeal.nD Cert.MlaOutXReferenceIdeal.τ).loc Cert.MlaOutXReferenceIdeal.main_arg0) = m ((c.tc : Thread Cert.MlaOutXReferenceIdeal.nD Cert.MlaOutXReferenceIdeal.τ).loc Cert.MlaOutXReferenceIdeal.main_arg0)
      ∧ r.2.mem ((c.tc : Thread Cert.MlaOutXReferenceIdeal.nD Cert.MlaOutXReferenceIdeal.τ).loc Cert.MlaOutXReferenceIdeal.main_arg1) = m ((c.tc : Thread Cert.MlaOutXReferenceIdeal.nD Cert.MlaOutXReferenceIdeal.τ).loc Cert.MlaOutXReferenceIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ r.2.sem = fun _ => 0)

def quiescent_MlaInReferenceIdeal [hMlaInReferenceIdeal : Cert.MlaInReferenceIdeal.Facts] : Prop :=
  ∀ (m : (ℓ : Loc Cert.MlaInReferenceIdeal.nD Cert.MlaInReferenceIdeal.τ Cert.MlaInReferenceIdeal.sig) → Buf (Elt Ideal) ℓ) (g : Dev Cert.MlaInReferenceIdeal.nD → PrngReg), Pre_MlaInReferenceIdeal m →
    θ_run (Cert.MlaInReferenceIdeal.defs (F := Ideal)) (onTc (τ := Cert.MlaInReferenceIdeal.τ) (Cert.MlaInReferenceIdeal.main (F := Ideal))) ⟨m, fun _ => 0, g⟩ (fun r => (∀ c : Dev Cert.MlaInReferenceIdeal.nD,
      r.2.mem ((c.tc : Thread Cert.MlaInReferenceIdeal.nD Cert.MlaInReferenceIdeal.τ).loc Cert.MlaInReferenceIdeal.main_arg0) = m ((c.tc : Thread Cert.MlaInReferenceIdeal.nD Cert.MlaInReferenceIdeal.τ).loc Cert.MlaInReferenceIdeal.main_arg0)
      ∧ r.2.mem ((c.tc : Thread Cert.MlaInReferenceIdeal.nD Cert.MlaInReferenceIdeal.τ).loc Cert.MlaInReferenceIdeal.main_arg1) = m ((c.tc : Thread Cert.MlaInReferenceIdeal.nD Cert.MlaInReferenceIdeal.τ).loc Cert.MlaInReferenceIdeal.main_arg1))
      ∧ r.2.sem = fun _ => 0)

def quiescent_MlaInX [hMlaInX : Cert.MlaInX.Facts] : Prop :=
  ∀ (m : (ℓ : Loc Cert.MlaInX.nD Cert.MlaInX.τ Cert.MlaInX.sig) → Buf (Elt Bits) ℓ) (g : Dev Cert.MlaInX.nD → PrngReg), Pre_MlaInX m →
    θ_run (Cert.MlaInX.defs (F := Bits)) (onTc (τ := Cert.MlaInX.τ) (Cert.MlaInX.main (F := Bits))) ⟨m, fun _ => 0, g⟩ (fun r => (∀ c : Dev Cert.MlaInX.nD,
      r.2.mem ((c.tc : Thread Cert.MlaInX.nD Cert.MlaInX.τ).loc Cert.MlaInX.main_arg0) = m ((c.tc : Thread Cert.MlaInX.nD Cert.MlaInX.τ).loc Cert.MlaInX.main_arg0)
      ∧ r.2.mem ((c.tc : Thread Cert.MlaInX.nD Cert.MlaInX.τ).loc Cert.MlaInX.main_arg1) = m ((c.tc : Thread Cert.MlaInX.nD Cert.MlaInX.τ).loc Cert.MlaInX.main_arg1))
      ∧ r.2.sem = fun _ => 0)

def quiescent_MlaInXIdeal [hMlaInXIdeal : Cert.MlaInXIdeal.Facts] : Prop :=
  ∀ (m : (ℓ : Loc Cert.MlaInXIdeal.nD Cert.MlaInXIdeal.τ Cert.MlaInXIdeal.sig) → Buf (Elt Ideal) ℓ) (g : Dev Cert.MlaInXIdeal.nD → PrngReg), Pre_MlaInXIdeal m →
    θ_run (Cert.MlaInXIdeal.defs (F := Ideal)) (onTc (τ := Cert.MlaInXIdeal.τ) (Cert.MlaInXIdeal.main (F := Ideal))) ⟨m, fun _ => 0, g⟩ (fun r => (∀ c : Dev Cert.MlaInXIdeal.nD,
      r.2.mem ((c.tc : Thread Cert.MlaInXIdeal.nD Cert.MlaInXIdeal.τ).loc Cert.MlaInXIdeal.main_arg0) = m ((c.tc : Thread Cert.MlaInXIdeal.nD Cert.MlaInXIdeal.τ).loc Cert.MlaInXIdeal.main_arg0)
      ∧ r.2.mem ((c.tc : Thread Cert.MlaInXIdeal.nD Cert.MlaInXIdeal.τ).loc Cert.MlaInXIdeal.main_arg1) = m ((c.tc : Thread Cert.MlaInXIdeal.nD Cert.MlaInXIdeal.τ).loc Cert.MlaInXIdeal.main_arg1))
      ∧ r.2.sem = fun _ => 0)

def quiescent_MlaInXReferenceIdeal [hMlaInXReferenceIdeal : Cert.MlaInXReferenceIdeal.Facts] : Prop :=
  ∀ (m : (ℓ : Loc Cert.MlaInXReferenceIdeal.nD Cert.MlaInXReferenceIdeal.τ Cert.MlaInXReferenceIdeal.sig) → Buf (Elt Ideal) ℓ) (g : Dev Cert.MlaInXReferenceIdeal.nD → PrngReg), Pre_MlaInXReferenceIdeal m →
    θ_run (Cert.MlaInXReferenceIdeal.defs (F := Ideal)) (onTc (τ := Cert.MlaInXReferenceIdeal.τ) (Cert.MlaInXReferenceIdeal.main (F := Ideal))) ⟨m, fun _ => 0, g⟩ (fun r => (∀ c : Dev Cert.MlaInXReferenceIdeal.nD,
      r.2.mem ((c.tc : Thread Cert.MlaInXReferenceIdeal.nD Cert.MlaInXReferenceIdeal.τ).loc Cert.MlaInXReferenceIdeal.main_arg0) = m ((c.tc : Thread Cert.MlaInXReferenceIdeal.nD Cert.MlaInXReferenceIdeal.τ).loc Cert.MlaInXReferenceIdeal.main_arg0)
      ∧ r.2.mem ((c.tc : Thread Cert.MlaInXReferenceIdeal.nD Cert.MlaInXReferenceIdeal.τ).loc Cert.MlaInXReferenceIdeal.main_arg1) = m ((c.tc : Thread Cert.MlaInXReferenceIdeal.nD Cert.MlaInXReferenceIdeal.τ).loc Cert.MlaInXReferenceIdeal.main_arg1))
      ∧ r.2.sem = fun _ => 0)

def quiescent_MlaInW [hMlaInW : Cert.MlaInW.Facts] : Prop :=
  ∀ (m : (ℓ : Loc Cert.MlaInW.nD Cert.MlaInW.τ Cert.MlaInW.sig) → Buf (Elt Bits) ℓ) (g : Dev Cert.MlaInW.nD → PrngReg), Pre_MlaInW m →
    θ_run (Cert.MlaInW.defs (F := Bits)) (onTc (τ := Cert.MlaInW.τ) (Cert.MlaInW.main (F := Bits))) ⟨m, fun _ => 0, g⟩ (fun r => (∀ c : Dev Cert.MlaInW.nD,
      r.2.mem ((c.tc : Thread Cert.MlaInW.nD Cert.MlaInW.τ).loc Cert.MlaInW.main_arg0) = m ((c.tc : Thread Cert.MlaInW.nD Cert.MlaInW.τ).loc Cert.MlaInW.main_arg0)
      ∧ r.2.mem ((c.tc : Thread Cert.MlaInW.nD Cert.MlaInW.τ).loc Cert.MlaInW.main_arg1) = m ((c.tc : Thread Cert.MlaInW.nD Cert.MlaInW.τ).loc Cert.MlaInW.main_arg1))
      ∧ r.2.sem = fun _ => 0)

def quiescent_MlaInWIdeal [hMlaInWIdeal : Cert.MlaInWIdeal.Facts] : Prop :=
  ∀ (m : (ℓ : Loc Cert.MlaInWIdeal.nD Cert.MlaInWIdeal.τ Cert.MlaInWIdeal.sig) → Buf (Elt Ideal) ℓ) (g : Dev Cert.MlaInWIdeal.nD → PrngReg), Pre_MlaInWIdeal m →
    θ_run (Cert.MlaInWIdeal.defs (F := Ideal)) (onTc (τ := Cert.MlaInWIdeal.τ) (Cert.MlaInWIdeal.main (F := Ideal))) ⟨m, fun _ => 0, g⟩ (fun r => (∀ c : Dev Cert.MlaInWIdeal.nD,
      r.2.mem ((c.tc : Thread Cert.MlaInWIdeal.nD Cert.MlaInWIdeal.τ).loc Cert.MlaInWIdeal.main_arg0) = m ((c.tc : Thread Cert.MlaInWIdeal.nD Cert.MlaInWIdeal.τ).loc Cert.MlaInWIdeal.main_arg0)
      ∧ r.2.mem ((c.tc : Thread Cert.MlaInWIdeal.nD Cert.MlaInWIdeal.τ).loc Cert.MlaInWIdeal.main_arg1) = m ((c.tc : Thread Cert.MlaInWIdeal.nD Cert.MlaInWIdeal.τ).loc Cert.MlaInWIdeal.main_arg1))
      ∧ r.2.sem = fun _ => 0)

def quiescent_MlaInWReferenceIdeal [hMlaInWReferenceIdeal : Cert.MlaInWReferenceIdeal.Facts] : Prop :=
  ∀ (m : (ℓ : Loc Cert.MlaInWReferenceIdeal.nD Cert.MlaInWReferenceIdeal.τ Cert.MlaInWReferenceIdeal.sig) → Buf (Elt Ideal) ℓ) (g : Dev Cert.MlaInWReferenceIdeal.nD → PrngReg), Pre_MlaInWReferenceIdeal m →
    θ_run (Cert.MlaInWReferenceIdeal.defs (F := Ideal)) (onTc (τ := Cert.MlaInWReferenceIdeal.τ) (Cert.MlaInWReferenceIdeal.main (F := Ideal))) ⟨m, fun _ => 0, g⟩ (fun r => (∀ c : Dev Cert.MlaInWReferenceIdeal.nD,
      r.2.mem ((c.tc : Thread Cert.MlaInWReferenceIdeal.nD Cert.MlaInWReferenceIdeal.τ).loc Cert.MlaInWReferenceIdeal.main_arg0) = m ((c.tc : Thread Cert.MlaInWReferenceIdeal.nD Cert.MlaInWReferenceIdeal.τ).loc Cert.MlaInWReferenceIdeal.main_arg0)
      ∧ r.2.mem ((c.tc : Thread Cert.MlaInWReferenceIdeal.nD Cert.MlaInWReferenceIdeal.τ).loc Cert.MlaInWReferenceIdeal.main_arg1) = m ((c.tc : Thread Cert.MlaInWReferenceIdeal.nD Cert.MlaInWReferenceIdeal.τ).loc Cert.MlaInWReferenceIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqReferenceIdeal [hUqReferenceIdeal : Cert.UqReferenceIdeal.Facts] : Prop :=
  ∀ (m : (ℓ : Loc Cert.UqReferenceIdeal.nD Cert.UqReferenceIdeal.τ Cert.UqReferenceIdeal.sig) → Buf (Elt Ideal) ℓ) (g : Dev Cert.UqReferenceIdeal.nD → PrngReg), Pre_UqReferenceIdeal m →
    θ_run (Cert.UqReferenceIdeal.defs (F := Ideal)) (onTc (τ := Cert.UqReferenceIdeal.τ) (Cert.UqReferenceIdeal.main (F := Ideal))) ⟨m, fun _ => 0, g⟩ (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1))
      ∧ r.2.sem = fun _ => 0)

def quiescent_UqX [hUqX : Cert.UqX.Facts] : Prop :=
  ∀ (m : (ℓ : Loc Cert.UqX.nD Cert.UqX.τ Cert.UqX.sig) → Buf (Elt Bits) ℓ) (g : Dev Cert.UqX.nD → PrngReg), Pre_UqX m →
    θ_run (Cert.UqX.defs (F := Bits)) (onTc (τ := Cert.UqX.τ) (Cert.UqX.main (F := Bits))) ⟨m, fun _ => 0, g⟩ (fun r => (∀ c : Dev Cert.UqX.nD,
      r.2.mem ((c.tc : Thread Cert.UqX.nD Cert.UqX.τ).loc Cert.UqX.main_arg0) = m ((c.tc : Thread Cert.UqX.nD Cert.UqX.τ).loc Cert.UqX.main_arg0)
      ∧ r.2.mem ((c.tc : Thread Cert.UqX.nD Cert.UqX.τ).loc Cert.UqX.main_arg1) = m ((c.tc : Thread Cert.UqX.nD Cert.UqX.τ).loc Cert.UqX.main_arg1))
      ∧ r.2.sem = fun _ => 0)

def quiescent_UqXIdeal [hUqXIdeal : Cert.UqXIdeal.Facts] : Prop :=
  ∀ (m : (ℓ : Loc Cert.UqXIdeal.nD Cert.UqXIdeal.τ Cert.UqXIdeal.sig) → Buf (Elt Ideal) ℓ) (g : Dev Cert.UqXIdeal.nD → PrngReg), Pre_UqXIdeal m →
    θ_run (Cert.UqXIdeal.defs (F := Ideal)) (onTc (τ := Cert.UqXIdeal.τ) (Cert.UqXIdeal.main (F := Ideal))) ⟨m, fun _ => 0, g⟩ (fun r => (∀ c : Dev Cert.UqXIdeal.nD,
      r.2.mem ((c.tc : Thread Cert.UqXIdeal.nD Cert.UqXIdeal.τ).loc Cert.UqXIdeal.main_arg0) = m ((c.tc : Thread Cert.UqXIdeal.nD Cert.UqXIdeal.τ).loc Cert.UqXIdeal.main_arg0)
      ∧ r.2.mem ((c.tc : Thread Cert.UqXIdeal.nD Cert.UqXIdeal.τ).loc Cert.UqXIdeal.main_arg1) = m ((c.tc : Thread Cert.UqXIdeal.nD Cert.UqXIdeal.τ).loc Cert.UqXIdeal.main_arg1))
      ∧ r.2.sem = fun _ => 0)

def quiescent_UqXReferenceIdeal [hUqXReferenceIdeal : Cert.UqXReferenceIdeal.Facts] : Prop :=
  ∀ (m : (ℓ : Loc Cert.UqXReferenceIdeal.nD Cert.UqXReferenceIdeal.τ Cert.UqXReferenceIdeal.sig) → Buf (Elt Ideal) ℓ) (g : Dev Cert.UqXReferenceIdeal.nD → PrngReg), Pre_UqXReferenceIdeal m →
    θ_run (Cert.UqXReferenceIdeal.defs (F := Ideal)) (onTc (τ := Cert.UqXReferenceIdeal.τ) (Cert.UqXReferenceIdeal.main (F := Ideal))) ⟨m, fun _ => 0, g⟩ (fun r => (∀ c : Dev Cert.UqXReferenceIdeal.nD,
      r.2.mem ((c.tc : Thread Cert.UqXReferenceIdeal.nD Cert.UqXReferenceIdeal.τ).loc Cert.UqXReferenceIdeal.main_arg0) = m ((c.tc : Thread Cert.UqXReferenceIdeal.nD Cert.UqXReferenceIdeal.τ).loc Cert.UqXReferenceIdeal.main_arg0)
      ∧ r.2.mem ((c.tc : Thread Cert.UqXReferenceIdeal.nD Cert.UqXReferenceIdeal.τ).loc Cert.UqXReferenceIdeal.main_arg1) = m ((c.tc : Thread Cert.UqXReferenceIdeal.nD Cert.UqXReferenceIdeal.τ).loc Cert.UqXReferenceIdeal.main_arg1))
      ∧ r.2.sem = fun _ => 0)

def quiescent_UqW [hUqW : Cert.UqW.Facts] : Prop :=
  ∀ (m : (ℓ : Loc Cert.UqW.nD Cert.UqW.τ Cert.UqW.sig) → Buf (Elt Bits) ℓ) (g : Dev Cert.UqW.nD → PrngReg), Pre_UqW m →
    θ_run (Cert.UqW.defs (F := Bits)) (onTc (τ := Cert.UqW.τ) (Cert.UqW.main (F := Bits))) ⟨m, fun _ => 0, g⟩ (fun r => (∀ c : Dev Cert.UqW.nD,
      r.2.mem ((c.tc : Thread Cert.UqW.nD Cert.UqW.τ).loc Cert.UqW.main_arg0) = m ((c.tc : Thread Cert.UqW.nD Cert.UqW.τ).loc Cert.UqW.main_arg0)
      ∧ r.2.mem ((c.tc : Thread Cert.UqW.nD Cert.UqW.τ).loc Cert.UqW.main_arg1) = m ((c.tc : Thread Cert.UqW.nD Cert.UqW.τ).loc Cert.UqW.main_arg1))
      ∧ r.2.sem = fun _ => 0)

def quiescent_UqWIdeal [hUqWIdeal : Cert.UqWIdeal.Facts] : Prop :=
  ∀ (m : (ℓ : Loc Cert.UqWIdeal.nD Cert.UqWIdeal.τ Cert.UqWIdeal.sig) → Buf (Elt Ideal) ℓ) (g : Dev Cert.UqWIdeal.nD → PrngReg), Pre_UqWIdeal m →
    θ_run (Cert.UqWIdeal.defs (F := Ideal)) (onTc (τ := Cert.UqWIdeal.τ) (Cert.UqWIdeal.main (F := Ideal))) ⟨m, fun _ => 0, g⟩ (fun r => (∀ c : Dev Cert.UqWIdeal.nD,
      r.2.mem ((c.tc : Thread Cert.UqWIdeal.nD Cert.UqWIdeal.τ).loc Cert.UqWIdeal.main_arg0) = m ((c.tc : Thread Cert.UqWIdeal.nD Cert.UqWIdeal.τ).loc Cert.UqWIdeal.main_arg0)
      ∧ r.2.mem ((c.tc : Thread Cert.UqWIdeal.nD Cert.UqWIdeal.τ).loc Cert.UqWIdeal.main_arg1) = m ((c.tc : Thread Cert.UqWIdeal.nD Cert.UqWIdeal.τ).loc Cert.UqWIdeal.main_arg1))
      ∧ r.2.sem = fun _ => 0)

def quiescent_UqWReferenceIdeal [hUqWReferenceIdeal : Cert.UqWReferenceIdeal.Facts] : Prop :=
  ∀ (m : (ℓ : Loc Cert.UqWReferenceIdeal.nD Cert.UqWReferenceIdeal.τ Cert.UqWReferenceIdeal.sig) → Buf (Elt Ideal) ℓ) (g : Dev Cert.UqWReferenceIdeal.nD → PrngReg), Pre_UqWReferenceIdeal m →
    θ_run (Cert.UqWReferenceIdeal.defs (F := Ideal)) (onTc (τ := Cert.UqWReferenceIdeal.τ) (Cert.UqWReferenceIdeal.main (F := Ideal))) ⟨m, fun _ => 0, g⟩ (fun r => (∀ c : Dev Cert.UqWReferenceIdeal.nD,
      r.2.mem ((c.tc : Thread Cert.UqWReferenceIdeal.nD Cert.UqWReferenceIdeal.τ).loc Cert.UqWReferenceIdeal.main_arg0) = m ((c.tc : Thread Cert.UqWReferenceIdeal.nD Cert.UqWReferenceIdeal.τ).loc Cert.UqWReferenceIdeal.main_arg0)
      ∧ r.2.mem ((c.tc : Thread Cert.UqWReferenceIdeal.nD Cert.UqWReferenceIdeal.τ).loc Cert.UqWReferenceIdeal.main_arg1) = m ((c.tc : Thread Cert.UqWReferenceIdeal.nD Cert.UqWReferenceIdeal.τ).loc Cert.UqWReferenceIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvReferenceIdeal [hUkvReferenceIdeal : Cert.UkvReferenceIdeal.Facts] : Prop :=
  ∀ (m : (ℓ : Loc Cert.UkvReferenceIdeal.nD Cert.UkvReferenceIdeal.τ Cert.UkvReferenceIdeal.sig) → Buf (Elt Ideal) ℓ) (g : Dev Cert.UkvReferenceIdeal.nD → PrngReg), Pre_UkvReferenceIdeal m →
    θ_run (Cert.UkvReferenceIdeal.defs (F := Ideal)) (onTc (τ := Cert.UkvReferenceIdeal.τ) (Cert.UkvReferenceIdeal.main (F := Ideal))) ⟨m, fun _ => 0, g⟩ (fun r => (∀ c : Dev Cert.UkvReferenceIdeal.nD,
      r.2.mem ((c.tc : Thread Cert.UkvReferenceIdeal.nD Cert.UkvReferenceIdeal.τ).loc Cert.UkvReferenceIdeal.main_arg0) = m ((c.tc : Thread Cert.UkvReferenceIdeal.nD Cert.UkvReferenceIdeal.τ).loc Cert.UkvReferenceIdeal.main_arg0)
      ∧ r.2.mem ((c.tc : Thread Cert.UkvReferenceIdeal.nD Cert.UkvReferenceIdeal.τ).loc Cert.UkvReferenceIdeal.main_arg1) = m ((c.tc : Thread Cert.UkvReferenceIdeal.nD Cert.UkvReferenceIdeal.τ).loc Cert.UkvReferenceIdeal.main_arg1))
      ∧ r.2.sem = fun _ => 0)

def quiescent_UkvX [hUkvX : Cert.UkvX.Facts] : Prop :=
  ∀ (m : (ℓ : Loc Cert.UkvX.nD Cert.UkvX.τ Cert.UkvX.sig) → Buf (Elt Bits) ℓ) (g : Dev Cert.UkvX.nD → PrngReg), Pre_UkvX m →
    θ_run (Cert.UkvX.defs (F := Bits)) (onTc (τ := Cert.UkvX.τ) (Cert.UkvX.main (F := Bits))) ⟨m, fun _ => 0, g⟩ (fun r => (∀ c : Dev Cert.UkvX.nD,
      r.2.mem ((c.tc : Thread Cert.UkvX.nD Cert.UkvX.τ).loc Cert.UkvX.main_arg0) = m ((c.tc : Thread Cert.UkvX.nD Cert.UkvX.τ).loc Cert.UkvX.main_arg0)
      ∧ r.2.mem ((c.tc : Thread Cert.UkvX.nD Cert.UkvX.τ).loc Cert.UkvX.main_arg1) = m ((c.tc : Thread Cert.UkvX.nD Cert.UkvX.τ).loc Cert.UkvX.main_arg1))
      ∧ r.2.sem = fun _ => 0)

def quiescent_UkvXIdeal [hUkvXIdeal : Cert.UkvXIdeal.Facts] : Prop :=
  ∀ (m : (ℓ : Loc Cert.UkvXIdeal.nD Cert.UkvXIdeal.τ Cert.UkvXIdeal.sig) → Buf (Elt Ideal) ℓ) (g : Dev Cert.UkvXIdeal.nD → PrngReg), Pre_UkvXIdeal m →
    θ_run (Cert.UkvXIdeal.defs (F := Ideal)) (onTc (τ := Cert.UkvXIdeal.τ) (Cert.UkvXIdeal.main (F := Ideal))) ⟨m, fun _ => 0, g⟩ (fun r => (∀ c : Dev Cert.UkvXIdeal.nD,
      r.2.mem ((c.tc : Thread Cert.UkvXIdeal.nD Cert.UkvXIdeal.τ).loc Cert.UkvXIdeal.main_arg0) = m ((c.tc : Thread Cert.UkvXIdeal.nD Cert.UkvXIdeal.τ).loc Cert.UkvXIdeal.main_arg0)
      ∧ r.2.mem ((c.tc : Thread Cert.UkvXIdeal.nD Cert.UkvXIdeal.τ).loc Cert.UkvXIdeal.main_arg1) = m ((c.tc : Thread Cert.UkvXIdeal.nD Cert.UkvXIdeal.τ).loc Cert.UkvXIdeal.main_arg1))
      ∧ r.2.sem = fun _ => 0)

def quiescent_UkvXReferenceIdeal [hUkvXReferenceIdeal : Cert.UkvXReferenceIdeal.Facts] : Prop :=
  ∀ (m : (ℓ : Loc Cert.UkvXReferenceIdeal.nD Cert.UkvXReferenceIdeal.τ Cert.UkvXReferenceIdeal.sig) → Buf (Elt Ideal) ℓ) (g : Dev Cert.UkvXReferenceIdeal.nD → PrngReg), Pre_UkvXReferenceIdeal m →
    θ_run (Cert.UkvXReferenceIdeal.defs (F := Ideal)) (onTc (τ := Cert.UkvXReferenceIdeal.τ) (Cert.UkvXReferenceIdeal.main (F := Ideal))) ⟨m, fun _ => 0, g⟩ (fun r => (∀ c : Dev Cert.UkvXReferenceIdeal.nD,
      r.2.mem ((c.tc : Thread Cert.UkvXReferenceIdeal.nD Cert.UkvXReferenceIdeal.τ).loc Cert.UkvXReferenceIdeal.main_arg0) = m ((c.tc : Thread Cert.UkvXReferenceIdeal.nD Cert.UkvXReferenceIdeal.τ).loc Cert.UkvXReferenceIdeal.main_arg0)
      ∧ r.2.mem ((c.tc : Thread Cert.UkvXReferenceIdeal.nD Cert.UkvXReferenceIdeal.τ).loc Cert.UkvXReferenceIdeal.main_arg1) = m ((c.tc : Thread Cert.UkvXReferenceIdeal.nD Cert.UkvXReferenceIdeal.τ).loc Cert.UkvXReferenceIdeal.main_arg1))
      ∧ r.2.sem = fun _ => 0)

def quiescent_UkvW [hUkvW : Cert.UkvW.Facts] : Prop :=
  ∀ (m : (ℓ : Loc Cert.UkvW.nD Cert.UkvW.τ Cert.UkvW.sig) → Buf (Elt Bits) ℓ) (g : Dev Cert.UkvW.nD → PrngReg), Pre_UkvW m →
    θ_run (Cert.UkvW.defs (F := Bits)) (onTc (τ := Cert.UkvW.τ) (Cert.UkvW.main (F := Bits))) ⟨m, fun _ => 0, g⟩ (fun r => (∀ c : Dev Cert.UkvW.nD,
      r.2.mem ((c.tc : Thread Cert.UkvW.nD Cert.UkvW.τ).loc Cert.UkvW.main_arg0) = m ((c.tc : Thread Cert.UkvW.nD Cert.UkvW.τ).loc Cert.UkvW.main_arg0)
      ∧ r.2.mem ((c.tc : Thread Cert.UkvW.nD Cert.UkvW.τ).loc Cert.UkvW.main_arg1) = m ((c.tc : Thread Cert.UkvW.nD Cert.UkvW.τ).loc Cert.UkvW.main_arg1))
      ∧ r.2.sem = fun _ => 0)

def quiescent_UkvWIdeal [hUkvWIdeal : Cert.UkvWIdeal.Facts] : Prop :=
  ∀ (m : (ℓ : Loc Cert.UkvWIdeal.nD Cert.UkvWIdeal.τ Cert.UkvWIdeal.sig) → Buf (Elt Ideal) ℓ) (g : Dev Cert.UkvWIdeal.nD → PrngReg), Pre_UkvWIdeal m →
    θ_run (Cert.UkvWIdeal.defs (F := Ideal)) (onTc (τ := Cert.UkvWIdeal.τ) (Cert.UkvWIdeal.main (F := Ideal))) ⟨m, fun _ => 0, g⟩ (fun r => (∀ c : Dev Cert.UkvWIdeal.nD,
      r.2.mem ((c.tc : Thread Cert.UkvWIdeal.nD Cert.UkvWIdeal.τ).loc Cert.UkvWIdeal.main_arg0) = m ((c.tc : Thread Cert.UkvWIdeal.nD Cert.UkvWIdeal.τ).loc Cert.UkvWIdeal.main_arg0)
      ∧ r.2.mem ((c.tc : Thread Cert.UkvWIdeal.nD Cert.UkvWIdeal.τ).loc Cert.UkvWIdeal.main_arg1) = m ((c.tc : Thread Cert.UkvWIdeal.nD Cert.UkvWIdeal.τ).loc Cert.UkvWIdeal.main_arg1))
      ∧ r.2.sem = fun _ => 0)

def quiescent_UkvWReferenceIdeal [hUkvWReferenceIdeal : Cert.UkvWReferenceIdeal.Facts] : Prop :=
  ∀ (m : (ℓ : Loc Cert.UkvWReferenceIdeal.nD Cert.UkvWReferenceIdeal.τ Cert.UkvWReferenceIdeal.sig) → Buf (Elt Ideal) ℓ) (g : Dev Cert.UkvWReferenceIdeal.nD → PrngReg), Pre_UkvWReferenceIdeal m →
    θ_run (Cert.UkvWReferenceIdeal.defs (F := Ideal)) (onTc (τ := Cert.UkvWReferenceIdeal.τ) (Cert.UkvWReferenceIdeal.main (F := Ideal))) ⟨m, fun _ => 0, g⟩ (fun r => (∀ c : Dev Cert.UkvWReferenceIdeal.nD,
      r.2.mem ((c.tc : Thread Cert.UkvWReferenceIdeal.nD Cert.UkvWReferenceIdeal.τ).loc Cert.UkvWReferenceIdeal.main_arg0) = m ((c.tc : Thread Cert.UkvWReferenceIdeal.nD Cert.UkvWReferenceIdeal.τ).loc Cert.UkvWReferenceIdeal.main_arg0)
      ∧ r.2.mem ((c.tc : Thread Cert.UkvWReferenceIdeal.nD Cert.UkvWReferenceIdeal.τ).loc Cert.UkvWReferenceIdeal.main_arg1) = m ((c.tc : Thread Cert.UkvWReferenceIdeal.nD Cert.UkvWReferenceIdeal.τ).loc Cert.UkvWReferenceIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateReferenceIdeal [hPleGateReferenceIdeal : Cert.PleGateReferenceIdeal.Facts] : Prop :=
  ∀ (m : (ℓ : Loc Cert.PleGateReferenceIdeal.nD Cert.PleGateReferenceIdeal.τ Cert.PleGateReferenceIdeal.sig) → Buf (Elt Ideal) ℓ) (g : Dev Cert.PleGateReferenceIdeal.nD → PrngReg), Pre_PleGateReferenceIdeal m →
    θ_run (Cert.PleGateReferenceIdeal.defs (F := Ideal)) (onTc (τ := Cert.PleGateReferenceIdeal.τ) (Cert.PleGateReferenceIdeal.main (F := Ideal))) ⟨m, fun _ => 0, g⟩ (fun r => (∀ c : Dev Cert.PleGateReferenceIdeal.nD,
      r.2.mem ((c.tc : Thread Cert.PleGateReferenceIdeal.nD Cert.PleGateReferenceIdeal.τ).loc Cert.PleGateReferenceIdeal.main_arg0) = m ((c.tc : Thread Cert.PleGateReferenceIdeal.nD Cert.PleGateReferenceIdeal.τ).loc Cert.PleGateReferenceIdeal.main_arg0)
      ∧ r.2.mem ((c.tc : Thread Cert.PleGateReferenceIdeal.nD Cert.PleGateReferenceIdeal.τ).loc Cert.PleGateReferenceIdeal.main_arg1) = m ((c.tc : Thread Cert.PleGateReferenceIdeal.nD Cert.PleGateReferenceIdeal.τ).loc Cert.PleGateReferenceIdeal.main_arg1))
      ∧ r.2.sem = fun _ => 0)

def quiescent_PleGateX [hPleGateX : Cert.PleGateX.Facts] : Prop :=
  ∀ (m : (ℓ : Loc Cert.PleGateX.nD Cert.PleGateX.τ Cert.PleGateX.sig) → Buf (Elt Bits) ℓ) (g : Dev Cert.PleGateX.nD → PrngReg), Pre_PleGateX m →
    θ_run (Cert.PleGateX.defs (F := Bits)) (onTc (τ := Cert.PleGateX.τ) (Cert.PleGateX.main (F := Bits))) ⟨m, fun _ => 0, g⟩ (fun r => (∀ c : Dev Cert.PleGateX.nD,
      r.2.mem ((c.tc : Thread Cert.PleGateX.nD Cert.PleGateX.τ).loc Cert.PleGateX.main_arg0) = m ((c.tc : Thread Cert.PleGateX.nD Cert.PleGateX.τ).loc Cert.PleGateX.main_arg0)
      ∧ r.2.mem ((c.tc : Thread Cert.PleGateX.nD Cert.PleGateX.τ).loc Cert.PleGateX.main_arg1) = m ((c.tc : Thread Cert.PleGateX.nD Cert.PleGateX.τ).loc Cert.PleGateX.main_arg1))
      ∧ r.2.sem = fun _ => 0)

def quiescent_PleGateXIdeal [hPleGateXIdeal : Cert.PleGateXIdeal.Facts] : Prop :=
  ∀ (m : (ℓ : Loc Cert.PleGateXIdeal.nD Cert.PleGateXIdeal.τ Cert.PleGateXIdeal.sig) → Buf (Elt Ideal) ℓ) (g : Dev Cert.PleGateXIdeal.nD → PrngReg), Pre_PleGateXIdeal m →
    θ_run (Cert.PleGateXIdeal.defs (F := Ideal)) (onTc (τ := Cert.PleGateXIdeal.τ) (Cert.PleGateXIdeal.main (F := Ideal))) ⟨m, fun _ => 0, g⟩ (fun r => (∀ c : Dev Cert.PleGateXIdeal.nD,
      r.2.mem ((c.tc : Thread Cert.PleGateXIdeal.nD Cert.PleGateXIdeal.τ).loc Cert.PleGateXIdeal.main_arg0) = m ((c.tc : Thread Cert.PleGateXIdeal.nD Cert.PleGateXIdeal.τ).loc Cert.PleGateXIdeal.main_arg0)
      ∧ r.2.mem ((c.tc : Thread Cert.PleGateXIdeal.nD Cert.PleGateXIdeal.τ).loc Cert.PleGateXIdeal.main_arg1) = m ((c.tc : Thread Cert.PleGateXIdeal.nD Cert.PleGateXIdeal.τ).loc Cert.PleGateXIdeal.main_arg1))
      ∧ r.2.sem = fun _ => 0)

def quiescent_PleGateXReferenceIdeal [hPleGateXReferenceIdeal : Cert.PleGateXReferenceIdeal.Facts] : Prop :=
  ∀ (m : (ℓ : Loc Cert.PleGateXReferenceIdeal.nD Cert.PleGateXReferenceIdeal.τ Cert.PleGateXReferenceIdeal.sig) → Buf (Elt Ideal) ℓ) (g : Dev Cert.PleGateXReferenceIdeal.nD → PrngReg), Pre_PleGateXReferenceIdeal m →
    θ_run (Cert.PleGateXReferenceIdeal.defs (F := Ideal)) (onTc (τ := Cert.PleGateXReferenceIdeal.τ) (Cert.PleGateXReferenceIdeal.main (F := Ideal))) ⟨m, fun _ => 0, g⟩ (fun r => (∀ c : Dev Cert.PleGateXReferenceIdeal.nD,
      r.2.mem ((c.tc : Thread Cert.PleGateXReferenceIdeal.nD Cert.PleGateXReferenceIdeal.τ).loc Cert.PleGateXReferenceIdeal.main_arg0) = m ((c.tc : Thread Cert.PleGateXReferenceIdeal.nD Cert.PleGateXReferenceIdeal.τ).loc Cert.PleGateXReferenceIdeal.main_arg0)
      ∧ r.2.mem ((c.tc : Thread Cert.PleGateXReferenceIdeal.nD Cert.PleGateXReferenceIdeal.τ).loc Cert.PleGateXReferenceIdeal.main_arg1) = m ((c.tc : Thread Cert.PleGateXReferenceIdeal.nD Cert.PleGateXReferenceIdeal.τ).loc Cert.PleGateXReferenceIdeal.main_arg1))
      ∧ r.2.sem = fun _ => 0)

def quiescent_PleGateW [hPleGateW : Cert.PleGateW.Facts] : Prop :=
  ∀ (m : (ℓ : Loc Cert.PleGateW.nD Cert.PleGateW.τ Cert.PleGateW.sig) → Buf (Elt Bits) ℓ) (g : Dev Cert.PleGateW.nD → PrngReg), Pre_PleGateW m →
    θ_run (Cert.PleGateW.defs (F := Bits)) (onTc (τ := Cert.PleGateW.τ) (Cert.PleGateW.main (F := Bits))) ⟨m, fun _ => 0, g⟩ (fun r => (∀ c : Dev Cert.PleGateW.nD,
      r.2.mem ((c.tc : Thread Cert.PleGateW.nD Cert.PleGateW.τ).loc Cert.PleGateW.main_arg0) = m ((c.tc : Thread Cert.PleGateW.nD Cert.PleGateW.τ).loc Cert.PleGateW.main_arg0)
      ∧ r.2.mem ((c.tc : Thread Cert.PleGateW.nD Cert.PleGateW.τ).loc Cert.PleGateW.main_arg1) = m ((c.tc : Thread Cert.PleGateW.nD Cert.PleGateW.τ).loc Cert.PleGateW.main_arg1))
      ∧ r.2.sem = fun _ => 0)

def quiescent_PleGateWIdeal [hPleGateWIdeal : Cert.PleGateWIdeal.Facts] : Prop :=
  ∀ (m : (ℓ : Loc Cert.PleGateWIdeal.nD Cert.PleGateWIdeal.τ Cert.PleGateWIdeal.sig) → Buf (Elt Ideal) ℓ) (g : Dev Cert.PleGateWIdeal.nD → PrngReg), Pre_PleGateWIdeal m →
    θ_run (Cert.PleGateWIdeal.defs (F := Ideal)) (onTc (τ := Cert.PleGateWIdeal.τ) (Cert.PleGateWIdeal.main (F := Ideal))) ⟨m, fun _ => 0, g⟩ (fun r => (∀ c : Dev Cert.PleGateWIdeal.nD,
      r.2.mem ((c.tc : Thread Cert.PleGateWIdeal.nD Cert.PleGateWIdeal.τ).loc Cert.PleGateWIdeal.main_arg0) = m ((c.tc : Thread Cert.PleGateWIdeal.nD Cert.PleGateWIdeal.τ).loc Cert.PleGateWIdeal.main_arg0)
      ∧ r.2.mem ((c.tc : Thread Cert.PleGateWIdeal.nD Cert.PleGateWIdeal.τ).loc Cert.PleGateWIdeal.main_arg1) = m ((c.tc : Thread Cert.PleGateWIdeal.nD Cert.PleGateWIdeal.τ).loc Cert.PleGateWIdeal.main_arg1))
      ∧ r.2.sem = fun _ => 0)

def quiescent_PleGateWReferenceIdeal [hPleGateWReferenceIdeal : Cert.PleGateWReferenceIdeal.Facts] : Prop :=
  ∀ (m : (ℓ : Loc Cert.PleGateWReferenceIdeal.nD Cert.PleGateWReferenceIdeal.τ Cert.PleGateWReferenceIdeal.sig) → Buf (Elt Ideal) ℓ) (g : Dev Cert.PleGateWReferenceIdeal.nD → PrngReg), Pre_PleGateWReferenceIdeal m →
    θ_run (Cert.PleGateWReferenceIdeal.defs (F := Ideal)) (onTc (τ := Cert.PleGateWReferenceIdeal.τ) (Cert.PleGateWReferenceIdeal.main (F := Ideal))) ⟨m, fun _ => 0, g⟩ (fun r => (∀ c : Dev Cert.PleGateWReferenceIdeal.nD,
      r.2.mem ((c.tc : Thread Cert.PleGateWReferenceIdeal.nD Cert.PleGateWReferenceIdeal.τ).loc Cert.PleGateWReferenceIdeal.main_arg0) = m ((c.tc : Thread Cert.PleGateWReferenceIdeal.nD Cert.PleGateWReferenceIdeal.τ).loc Cert.PleGateWReferenceIdeal.main_arg0)
      ∧ r.2.mem ((c.tc : Thread Cert.PleGateWReferenceIdeal.nD Cert.PleGateWReferenceIdeal.τ).loc Cert.PleGateWReferenceIdeal.main_arg1) = m ((c.tc : Thread Cert.PleGateWReferenceIdeal.nD Cert.PleGateWReferenceIdeal.τ).loc Cert.PleGateWReferenceIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjReferenceIdeal [hPleProjReferenceIdeal : Cert.PleProjReferenceIdeal.Facts] : Prop :=
  ∀ (m : (ℓ : Loc Cert.PleProjReferenceIdeal.nD Cert.PleProjReferenceIdeal.τ Cert.PleProjReferenceIdeal.sig) → Buf (Elt Ideal) ℓ) (g : Dev Cert.PleProjReferenceIdeal.nD → PrngReg), Pre_PleProjReferenceIdeal m →
    θ_run (Cert.PleProjReferenceIdeal.defs (F := Ideal)) (onTc (τ := Cert.PleProjReferenceIdeal.τ) (Cert.PleProjReferenceIdeal.main (F := Ideal))) ⟨m, fun _ => 0, g⟩ (fun r => (∀ c : Dev Cert.PleProjReferenceIdeal.nD,
      r.2.mem ((c.tc : Thread Cert.PleProjReferenceIdeal.nD Cert.PleProjReferenceIdeal.τ).loc Cert.PleProjReferenceIdeal.main_arg0) = m ((c.tc : Thread Cert.PleProjReferenceIdeal.nD Cert.PleProjReferenceIdeal.τ).loc Cert.PleProjReferenceIdeal.main_arg0)
      ∧ r.2.mem ((c.tc : Thread Cert.PleProjReferenceIdeal.nD Cert.PleProjReferenceIdeal.τ).loc Cert.PleProjReferenceIdeal.main_arg1) = m ((c.tc : Thread Cert.PleProjReferenceIdeal.nD Cert.PleProjReferenceIdeal.τ).loc Cert.PleProjReferenceIdeal.main_arg1))
      ∧ r.2.sem = fun _ => 0)

def quiescent_PleProjW [hPleProjW : Cert.PleProjW.Facts] : Prop :=
  ∀ (m : (ℓ : Loc Cert.PleProjW.nD Cert.PleProjW.τ Cert.PleProjW.sig) → Buf (Elt Bits) ℓ) (g : Dev Cert.PleProjW.nD → PrngReg), Pre_PleProjW m →
    θ_run (Cert.PleProjW.defs (F := Bits)) (onTc (τ := Cert.PleProjW.τ) (Cert.PleProjW.main (F := Bits))) ⟨m, fun _ => 0, g⟩ (fun r => (∀ c : Dev Cert.PleProjW.nD,
      r.2.mem ((c.tc : Thread Cert.PleProjW.nD Cert.PleProjW.τ).loc Cert.PleProjW.main_arg0) = m ((c.tc : Thread Cert.PleProjW.nD Cert.PleProjW.τ).loc Cert.PleProjW.main_arg0)
      ∧ r.2.mem ((c.tc : Thread Cert.PleProjW.nD Cert.PleProjW.τ).loc Cert.PleProjW.main_arg1) = m ((c.tc : Thread Cert.PleProjW.nD Cert.PleProjW.τ).loc Cert.PleProjW.main_arg1))
      ∧ r.2.sem = fun _ => 0)

def quiescent_PleProjWIdeal [hPleProjWIdeal : Cert.PleProjWIdeal.Facts] : Prop :=
  ∀ (m : (ℓ : Loc Cert.PleProjWIdeal.nD Cert.PleProjWIdeal.τ Cert.PleProjWIdeal.sig) → Buf (Elt Ideal) ℓ) (g : Dev Cert.PleProjWIdeal.nD → PrngReg), Pre_PleProjWIdeal m →
    θ_run (Cert.PleProjWIdeal.defs (F := Ideal)) (onTc (τ := Cert.PleProjWIdeal.τ) (Cert.PleProjWIdeal.main (F := Ideal))) ⟨m, fun _ => 0, g⟩ (fun r => (∀ c : Dev Cert.PleProjWIdeal.nD,
      r.2.mem ((c.tc : Thread Cert.PleProjWIdeal.nD Cert.PleProjWIdeal.τ).loc Cert.PleProjWIdeal.main_arg0) = m ((c.tc : Thread Cert.PleProjWIdeal.nD Cert.PleProjWIdeal.τ).loc Cert.PleProjWIdeal.main_arg0)
      ∧ r.2.mem ((c.tc : Thread Cert.PleProjWIdeal.nD Cert.PleProjWIdeal.τ).loc Cert.PleProjWIdeal.main_arg1) = m ((c.tc : Thread Cert.PleProjWIdeal.nD Cert.PleProjWIdeal.τ).loc Cert.PleProjWIdeal.main_arg1))
      ∧ r.2.sem = fun _ => 0)

def quiescent_PleProjWReferenceIdeal [hPleProjWReferenceIdeal : Cert.PleProjWReferenceIdeal.Facts] : Prop :=
  ∀ (m : (ℓ : Loc Cert.PleProjWReferenceIdeal.nD Cert.PleProjWReferenceIdeal.τ Cert.PleProjWReferenceIdeal.sig) → Buf (Elt Ideal) ℓ) (g : Dev Cert.PleProjWReferenceIdeal.nD → PrngReg), Pre_PleProjWReferenceIdeal m →
    θ_run (Cert.PleProjWReferenceIdeal.defs (F := Ideal)) (onTc (τ := Cert.PleProjWReferenceIdeal.τ) (Cert.PleProjWReferenceIdeal.main (F := Ideal))) ⟨m, fun _ => 0, g⟩ (fun r => (∀ c : Dev Cert.PleProjWReferenceIdeal.nD,
      r.2.mem ((c.tc : Thread Cert.PleProjWReferenceIdeal.nD Cert.PleProjWReferenceIdeal.τ).loc Cert.PleProjWReferenceIdeal.main_arg0) = m ((c.tc : Thread Cert.PleProjWReferenceIdeal.nD Cert.PleProjWReferenceIdeal.τ).loc Cert.PleProjWReferenceIdeal.main_arg0)
      ∧ r.2.mem ((c.tc : Thread Cert.PleProjWReferenceIdeal.nD Cert.PleProjWReferenceIdeal.τ).loc Cert.PleProjWReferenceIdeal.main_arg1) = m ((c.tc : Thread Cert.PleProjWReferenceIdeal.nD Cert.PleProjWReferenceIdeal.τ).loc Cert.PleProjWReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v56)) (v3 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_v57) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_AttnF_AttnFIdeal : Prop :=
  IdealRules.named_const.Statement Cert.AttnFIdeal.κ "mask" .f32 0xF149F2CA#32 ⊥

def algebraic_AttnFIdeal_AttnFReferenceIdeal_pre_finite_attn [hAttnFIdeal : Cert.AttnFIdeal.Facts] [hAttnFReferenceIdeal : Cert.AttnFReferenceIdeal.Facts] [hPre_finite_attn : Cert.Pre_finite_attn.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFReferenceIdeal.nD Cert.AttnFReferenceIdeal.τ Cert.AttnFReferenceIdeal.sig) → Buf (Elt Ideal) ℓ) (g' : Dev Cert.AttnFReferenceIdeal.nD → PrngReg), Pre_AttnFIdeal_finite_attn m →
    (∀ c : Dev Cert.AttnFIdeal.nD,
      m' ((c.tc : Thread Cert.AttnFReferenceIdeal.nD Cert.AttnFReferenceIdeal.τ).loc Cert.AttnFReferenceIdeal.main_arg0) = m ((c.tc : Thread Cert.AttnFIdeal.nD Cert.AttnFIdeal.τ).loc Cert.AttnFIdeal.main_arg0)
      ∧ m' ((c.tc : Thread Cert.AttnFReferenceIdeal.nD Cert.AttnFReferenceIdeal.τ).loc Cert.AttnFReferenceIdeal.main_arg1) = m ((c.tc : Thread Cert.AttnFIdeal.nD Cert.AttnFIdeal.τ).loc Cert.AttnFIdeal.main_arg1)
      ∧ m' ((c.tc : Thread Cert.AttnFReferenceIdeal.nD Cert.AttnFReferenceIdeal.τ).loc Cert.AttnFReferenceIdeal.main_arg2) = m ((c.tc : Thread Cert.AttnFIdeal.nD Cert.AttnFIdeal.τ).loc Cert.AttnFIdeal.main_arg2)
      ∧ m' ((c.tc : Thread Cert.AttnFReferenceIdeal.nD Cert.AttnFReferenceIdeal.τ).loc Cert.AttnFReferenceIdeal.main_arg3) = m ((c.tc : Thread Cert.AttnFIdeal.nD Cert.AttnFIdeal.τ).loc Cert.AttnFIdeal.main_arg3)) →
    ∃ (v0 : (c : Dev Cert.AttnFIdeal.nD) → Buf (Elt Ideal) ((c.tc : Thread Cert.AttnFIdeal.nD Cert.AttnFIdeal.τ).loc Cert.AttnFIdeal.main_v11_0)) (v1 : (c : Dev Cert.AttnFIdeal.nD) → Buf (Elt Ideal) ((c.tc : Thread Cert.AttnFIdeal.nD Cert.AttnFIdeal.τ).loc Cert.AttnFIdeal.main_v11_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v11_0) = v0 c
          ∧ r.2.mem ((c.tc : Thread Cert.AttnFIdeal.nD Cert.AttnFIdeal.τ).loc Cert.AttnFIdeal.main_v11_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ θ_run (Cert.AttnFReferenceIdeal.defs (F := Ideal)) (onTc (τ := Cert.AttnFReferenceIdeal.τ) (Cert.AttnFReferenceIdeal.main (F := Ideal))) ⟨m', fun _ => 0, g'⟩ (fun r => ∀ c : Dev Cert.AttnFReferenceIdeal.nD,
          r.2.mem ((c.tc : Thread Cert.AttnFReferenceIdeal.nD Cert.AttnFReferenceIdeal.τ).loc Cert.AttnFReferenceIdeal.main_v38) = v0 c
          ∧ r.2.mem ((c.tc : Thread Cert.AttnFReferenceIdeal.nD Cert.AttnFReferenceIdeal.τ).loc Cert.AttnFReferenceIdeal.main_v39) = v1 c
          ∧ r.2.mem ((c.tc : Thread Cert.AttnFReferenceIdeal.nD Cert.AttnFReferenceIdeal.τ).loc Cert.AttnFReferenceIdeal.main_arg0) = m' ((c.tc : Thread Cert.AttnFReferenceIdeal.nD Cert.AttnFReferenceIdeal.τ).loc Cert.AttnFReferenceIdeal.main_arg0)
          ∧ r.2.mem ((c.tc : Thread Cert.AttnFReferenceIdeal.nD Cert.AttnFReferenceIdeal.τ).loc Cert.AttnFReferenceIdeal.main_arg1) = m' ((c.tc : Thread Cert.AttnFReferenceIdeal.nD Cert.AttnFReferenceIdeal.τ).loc Cert.AttnFReferenceIdeal.main_arg1)
          ∧ r.2.mem ((c.tc : Thread Cert.AttnFReferenceIdeal.nD Cert.AttnFReferenceIdeal.τ).loc Cert.AttnFReferenceIdeal.main_arg2) = m' ((c.tc : Thread Cert.AttnFReferenceIdeal.nD Cert.AttnFReferenceIdeal.τ).loc Cert.AttnFReferenceIdeal.main_arg2)
          ∧ r.2.mem ((c.tc : Thread Cert.AttnFReferenceIdeal.nD Cert.AttnFReferenceIdeal.τ).loc Cert.AttnFReferenceIdeal.main_arg3) = m' ((c.tc : Thread Cert.AttnFReferenceIdeal.nD Cert.AttnFReferenceIdeal.τ).loc Cert.AttnFReferenceIdeal.main_arg3))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v6) = v0 c
          ∧ r.2.mem ((c.tc : Thread Cert.GateReferenceIdeal.nD Cert.GateReferenceIdeal.τ).loc Cert.GateReferenceIdeal.main_v9) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_GateB_GateBIdeal : Prop :=
  True

def algebraic_GateBIdeal_GateBReferenceIdeal [hGateBIdeal : Cert.GateBIdeal.Facts] [hGateBReferenceIdeal : Cert.GateBReferenceIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBReferenceIdeal.nD Cert.GateBReferenceIdeal.τ Cert.GateBReferenceIdeal.sig) → Buf (Elt Ideal) ℓ) (g' : Dev Cert.GateBReferenceIdeal.nD → PrngReg), Pre_GateBIdeal m →
    (∀ c : Dev Cert.GateBIdeal.nD,
      m' ((c.tc : Thread Cert.GateBReferenceIdeal.nD Cert.GateBReferenceIdeal.τ).loc Cert.GateBReferenceIdeal.main_arg0) = m ((c.tc : Thread Cert.GateBIdeal.nD Cert.GateBIdeal.τ).loc Cert.GateBIdeal.main_arg0)
      ∧ m' ((c.tc : Thread Cert.GateBReferenceIdeal.nD Cert.GateBReferenceIdeal.τ).loc Cert.GateBReferenceIdeal.main_arg1) = m ((c.tc : Thread Cert.GateBIdeal.nD Cert.GateBIdeal.τ).loc Cert.GateBIdeal.main_arg1)
      ∧ m' ((c.tc : Thread Cert.GateBReferenceIdeal.nD Cert.GateBReferenceIdeal.τ).loc Cert.GateBReferenceIdeal.main_arg2) = m ((c.tc : Thread Cert.GateBIdeal.nD Cert.GateBIdeal.τ).loc Cert.GateBIdeal.main_arg2)) →
    ∃ (v0 : (c : Dev Cert.GateBIdeal.nD) → Buf (Elt Ideal) ((c.tc : Thread Cert.GateBIdeal.nD Cert.GateBIdeal.τ).loc Cert.GateBIdeal.main_v4)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v4) = v0 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
          ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2))
      ∧ θ_run (Cert.GateBReferenceIdeal.defs (F := Ideal)) (onTc (τ := Cert.GateBReferenceIdeal.τ) (Cert.GateBReferenceIdeal.main (F := Ideal))) ⟨m', fun _ => 0, g'⟩ (fun r => ∀ c : Dev Cert.GateBReferenceIdeal.nD,
          r.2.mem ((c.tc : Thread Cert.GateBReferenceIdeal.nD Cert.GateBReferenceIdeal.τ).loc Cert.GateBReferenceIdeal.main_v14) = v0 c
          ∧ r.2.mem ((c.tc : Thread Cert.GateBReferenceIdeal.nD Cert.GateBReferenceIdeal.τ).loc Cert.GateBReferenceIdeal.main_arg0) = m' ((c.tc : Thread Cert.GateBReferenceIdeal.nD Cert.GateBReferenceIdeal.τ).loc Cert.GateBReferenceIdeal.main_arg0)
          ∧ r.2.mem ((c.tc : Thread Cert.GateBReferenceIdeal.nD Cert.GateBReferenceIdeal.τ).loc Cert.GateBReferenceIdeal.main_arg1) = m' ((c.tc : Thread Cert.GateBReferenceIdeal.nD Cert.GateBReferenceIdeal.τ).loc Cert.GateBReferenceIdeal.main_arg1)
          ∧ r.2.mem ((c.tc : Thread Cert.GateBReferenceIdeal.nD Cert.GateBReferenceIdeal.τ).loc Cert.GateBReferenceIdeal.main_arg2) = m' ((c.tc : Thread Cert.GateBReferenceIdeal.nD Cert.GateBReferenceIdeal.τ).loc Cert.GateBReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_DownW_DownWIdeal : Prop :=
  True

def algebraic_DownWIdeal_DownWReferenceIdeal [hDownWIdeal : Cert.DownWIdeal.Facts] [hDownWReferenceIdeal : Cert.DownWReferenceIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWIdeal m →
    (∀ c : Dev Cert.DownWIdeal.nD,
      m' ((c.tc : Thread Cert.DownWReferenceIdeal.nD Cert.DownWReferenceIdeal.τ).loc Cert.DownWReferenceIdeal.main_arg0) = m ((c.tc : Thread Cert.DownWIdeal.nD Cert.DownWIdeal.τ).loc Cert.DownWIdeal.main_arg0)
      ∧ m' ((c.tc : Thread Cert.DownWReferenceIdeal.nD Cert.DownWReferenceIdeal.τ).loc Cert.DownWReferenceIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v2)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v2) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v4) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1))

def preserves_InX_InXIdeal : Prop :=
  True

def algebraic_InXIdeal_InXReferenceIdeal [hInXIdeal : Cert.InXIdeal.Facts] [hInXReferenceIdeal : Cert.InXReferenceIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXReferenceIdeal.nD Cert.InXReferenceIdeal.τ Cert.InXReferenceIdeal.sig) → Buf (Elt Ideal) ℓ) (g' : Dev Cert.InXReferenceIdeal.nD → PrngReg), Pre_InXIdeal m →
    (∀ c : Dev Cert.InXIdeal.nD,
      m' ((c.tc : Thread Cert.InXReferenceIdeal.nD Cert.InXReferenceIdeal.τ).loc Cert.InXReferenceIdeal.main_arg0) = m ((c.tc : Thread Cert.InXIdeal.nD Cert.InXIdeal.τ).loc Cert.InXIdeal.main_arg0)
      ∧ m' ((c.tc : Thread Cert.InXReferenceIdeal.nD Cert.InXReferenceIdeal.τ).loc Cert.InXReferenceIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v2)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v2) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.InXReferenceIdeal.defs (F := Ideal)) (onTc (τ := Cert.InXReferenceIdeal.τ) (Cert.InXReferenceIdeal.main (F := Ideal))) ⟨m', fun _ => 0, g'⟩ (fun r => ∀ c : Dev Cert.InXReferenceIdeal.nD,
          r.2.mem ((c.tc : Thread Cert.InXReferenceIdeal.nD Cert.InXReferenceIdeal.τ).loc Cert.InXReferenceIdeal.main_v9) = v0 c
          ∧ r.2.mem ((c.tc : Thread Cert.InXReferenceIdeal.nD Cert.InXReferenceIdeal.τ).loc Cert.InXReferenceIdeal.main_arg0) = m' ((c.tc : Thread Cert.InXReferenceIdeal.nD Cert.InXReferenceIdeal.τ).loc Cert.InXReferenceIdeal.main_arg0)
          ∧ r.2.mem ((c.tc : Thread Cert.InXReferenceIdeal.nD Cert.InXReferenceIdeal.τ).loc Cert.InXReferenceIdeal.main_arg1) = m' ((c.tc : Thread Cert.InXReferenceIdeal.nD Cert.InXReferenceIdeal.τ).loc Cert.InXReferenceIdeal.main_arg1))

def preserves_InW_InWIdeal : Prop :=
  True

def algebraic_InWIdeal_InWReferenceIdeal [hInWIdeal : Cert.InWIdeal.Facts] [hInWReferenceIdeal : Cert.InWReferenceIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWReferenceIdeal.nD Cert.InWReferenceIdeal.τ Cert.InWReferenceIdeal.sig) → Buf (Elt Ideal) ℓ) (g' : Dev Cert.InWReferenceIdeal.nD → PrngReg), Pre_InWIdeal m →
    (∀ c : Dev Cert.InWIdeal.nD,
      m' ((c.tc : Thread Cert.InWReferenceIdeal.nD Cert.InWReferenceIdeal.τ).loc Cert.InWReferenceIdeal.main_arg0) = m ((c.tc : Thread Cert.InWIdeal.nD Cert.InWIdeal.τ).loc Cert.InWIdeal.main_arg0)
      ∧ m' ((c.tc : Thread Cert.InWReferenceIdeal.nD Cert.InWReferenceIdeal.τ).loc Cert.InWReferenceIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v2)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v2) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWReferenceIdeal.defs (F := Ideal)) (onTc (τ := Cert.InWReferenceIdeal.τ) (Cert.InWReferenceIdeal.main (F := Ideal))) ⟨m', fun _ => 0, g'⟩ (fun r => ∀ c : Dev Cert.InWReferenceIdeal.nD,
          r.2.mem ((c.tc : Thread Cert.InWReferenceIdeal.nD Cert.InWReferenceIdeal.τ).loc Cert.InWReferenceIdeal.main_v11) = v0 c
          ∧ r.2.mem ((c.tc : Thread Cert.InWReferenceIdeal.nD Cert.InWReferenceIdeal.τ).loc Cert.InWReferenceIdeal.main_arg0) = m' ((c.tc : Thread Cert.InWReferenceIdeal.nD Cert.InWReferenceIdeal.τ).loc Cert.InWReferenceIdeal.main_arg0)
          ∧ r.2.mem ((c.tc : Thread Cert.InWReferenceIdeal.nD Cert.InWReferenceIdeal.τ).loc Cert.InWReferenceIdeal.main_arg1) = m' ((c.tc : Thread Cert.InWReferenceIdeal.nD Cert.InWReferenceIdeal.τ).loc Cert.InWReferenceIdeal.main_arg1))

def preserves_NormB_NormBIdeal : Prop :=
  True

def algebraic_NormBIdeal_NormBReferenceIdeal [hNormBIdeal : Cert.NormBIdeal.Facts] [hNormBReferenceIdeal : Cert.NormBReferenceIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBReferenceIdeal.nD Cert.NormBReferenceIdeal.τ Cert.NormBReferenceIdeal.sig) → Buf (Elt Ideal) ℓ) (g' : Dev Cert.NormBReferenceIdeal.nD → PrngReg), Pre_NormBIdeal m →
    (∀ c : Dev Cert.NormBIdeal.nD,
      m' ((c.tc : Thread Cert.NormBReferenceIdeal.nD Cert.NormBReferenceIdeal.τ).loc Cert.NormBReferenceIdeal.main_arg0) = m ((c.tc : Thread Cert.NormBIdeal.nD Cert.NormBIdeal.τ).loc Cert.NormBIdeal.main_arg0)
      ∧ m' ((c.tc : Thread Cert.NormBReferenceIdeal.nD Cert.NormBReferenceIdeal.τ).loc Cert.NormBReferenceIdeal.main_arg1) = m ((c.tc : Thread Cert.NormBIdeal.nD Cert.NormBIdeal.τ).loc Cert.NormBIdeal.main_arg1)
      ∧ m' ((c.tc : Thread Cert.NormBReferenceIdeal.nD Cert.NormBReferenceIdeal.τ).loc Cert.NormBReferenceIdeal.main_arg2) = m ((c.tc : Thread Cert.NormBIdeal.nD Cert.NormBIdeal.τ).loc Cert.NormBIdeal.main_arg2)
      ∧ m' ((c.tc : Thread Cert.NormBReferenceIdeal.nD Cert.NormBReferenceIdeal.τ).loc Cert.NormBReferenceIdeal.main_arg3) = m ((c.tc : Thread Cert.NormBIdeal.nD Cert.NormBIdeal.τ).loc Cert.NormBIdeal.main_arg3)) →
    ∃ (v0 : (c : Dev Cert.NormBIdeal.nD) → Buf (Elt Ideal) ((c.tc : Thread Cert.NormBIdeal.nD Cert.NormBIdeal.τ).loc Cert.NormBIdeal.main_v1_0)) (v1 : (c : Dev Cert.NormBIdeal.nD) → Buf (Elt Ideal) ((c.tc : Thread Cert.NormBIdeal.nD Cert.NormBIdeal.τ).loc Cert.NormBIdeal.main_v1_1)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v1_0) = v0 c
          ∧ r.2.mem ((c.tc : Thread Cert.NormBIdeal.nD Cert.NormBIdeal.τ).loc Cert.NormBIdeal.main_v1_1) = v1 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ θ_run (Cert.NormBReferenceIdeal.defs (F := Ideal)) (onTc (τ := Cert.NormBReferenceIdeal.τ) (Cert.NormBReferenceIdeal.main (F := Ideal))) ⟨m', fun _ => 0, g'⟩ (fun r => ∀ c : Dev Cert.NormBReferenceIdeal.nD,
          r.2.mem ((c.tc : Thread Cert.NormBReferenceIdeal.nD Cert.NormBReferenceIdeal.τ).loc Cert.NormBReferenceIdeal.main_v36) = v0 c
          ∧ r.2.mem ((c.tc : Thread Cert.NormBReferenceIdeal.nD Cert.NormBReferenceIdeal.τ).loc Cert.NormBReferenceIdeal.main_v37) = v1 c
          ∧ r.2.mem ((c.tc : Thread Cert.NormBReferenceIdeal.nD Cert.NormBReferenceIdeal.τ).loc Cert.NormBReferenceIdeal.main_arg0) = m' ((c.tc : Thread Cert.NormBReferenceIdeal.nD Cert.NormBReferenceIdeal.τ).loc Cert.NormBReferenceIdeal.main_arg0)
          ∧ r.2.mem ((c.tc : Thread Cert.NormBReferenceIdeal.nD Cert.NormBReferenceIdeal.τ).loc Cert.NormBReferenceIdeal.main_arg1) = m' ((c.tc : Thread Cert.NormBReferenceIdeal.nD Cert.NormBReferenceIdeal.τ).loc Cert.NormBReferenceIdeal.main_arg1)
          ∧ r.2.mem ((c.tc : Thread Cert.NormBReferenceIdeal.nD Cert.NormBReferenceIdeal.τ).loc Cert.NormBReferenceIdeal.main_arg2) = m' ((c.tc : Thread Cert.NormBReferenceIdeal.nD Cert.NormBReferenceIdeal.τ).loc Cert.NormBReferenceIdeal.main_arg2)
          ∧ r.2.mem ((c.tc : Thread Cert.NormBReferenceIdeal.nD Cert.NormBReferenceIdeal.τ).loc Cert.NormBReferenceIdeal.main_arg3) = m' ((c.tc : Thread Cert.NormBReferenceIdeal.nD Cert.NormBReferenceIdeal.τ).loc Cert.NormBReferenceIdeal.main_arg3))

def preserves_ConvB_ConvBIdeal : Prop :=
  True

def algebraic_ConvBIdeal_ConvBReferenceIdeal [hConvBIdeal : Cert.ConvBIdeal.Facts] [hConvBReferenceIdeal : Cert.ConvBReferenceIdeal.Facts] : Prop :=
  ∀ (m : (ℓ : Loc Cert.ConvBIdeal.nD Cert.ConvBIdeal.τ Cert.ConvBIdeal.sig) → Buf (Elt Ideal) ℓ) (g : Dev Cert.ConvBIdeal.nD → PrngReg)
    (m' : (ℓ : Loc Cert.ConvBReferenceIdeal.nD Cert.ConvBReferenceIdeal.τ Cert.ConvBReferenceIdeal.sig) → Buf (Elt Ideal) ℓ) (g' : Dev Cert.ConvBReferenceIdeal.nD → PrngReg), Pre_ConvBIdeal m →
    (∀ c : Dev Cert.ConvBIdeal.nD,
      m' ((c.tc : Thread Cert.ConvBReferenceIdeal.nD Cert.ConvBReferenceIdeal.τ).loc Cert.ConvBReferenceIdeal.main_arg0) = m ((c.tc : Thread Cert.ConvBIdeal.nD Cert.ConvBIdeal.τ).loc Cert.ConvBIdeal.main_arg0)
      ∧ m' ((c.tc : Thread Cert.ConvBReferenceIdeal.nD Cert.ConvBReferenceIdeal.τ).loc Cert.ConvBReferenceIdeal.main_arg1) = m ((c.tc : Thread Cert.ConvBIdeal.nD Cert.ConvBIdeal.τ).loc Cert.ConvBIdeal.main_arg1)
      ∧ m' ((c.tc : Thread Cert.ConvBReferenceIdeal.nD Cert.ConvBReferenceIdeal.τ).loc Cert.ConvBReferenceIdeal.main_arg2) = m ((c.tc : Thread Cert.ConvBIdeal.nD Cert.ConvBIdeal.τ).loc Cert.ConvBIdeal.main_arg2)) →
    ∃ (v0 : (c : Dev Cert.ConvBIdeal.nD) → Buf (Elt Ideal) ((c.tc : Thread Cert.ConvBIdeal.nD Cert.ConvBIdeal.τ).loc Cert.ConvBIdeal.main_v0_0)) (v1 : (c : Dev Cert.ConvBIdeal.nD) → Buf (Elt Ideal) ((c.tc : Thread Cert.ConvBIdeal.nD Cert.ConvBIdeal.τ).loc Cert.ConvBIdeal.main_v0_1)) (v2 : (c : Dev Cert.ConvBIdeal.nD) → Buf (Elt Ideal) ((c.tc : Thread Cert.ConvBIdeal.nD Cert.ConvBIdeal.τ).loc Cert.ConvBIdeal.main_v0_2)),
      θ_run (Cert.ConvBIdeal.defs (F := Ideal)) (onTc (τ := Cert.ConvBIdeal.τ) (Cert.ConvBIdeal.main (F := Ideal))) ⟨m, fun _ => 0, g⟩ (fun r => ∀ c : Dev Cert.ConvBIdeal.nD,
          r.2.mem ((c.tc : Thread Cert.ConvBIdeal.nD Cert.ConvBIdeal.τ).loc Cert.ConvBIdeal.main_v0_0) = v0 c
          ∧ r.2.mem ((c.tc : Thread Cert.ConvBIdeal.nD Cert.ConvBIdeal.τ).loc Cert.ConvBIdeal.main_v0_1) = v1 c
          ∧ r.2.mem ((c.tc : Thread Cert.ConvBIdeal.nD Cert.ConvBIdeal.τ).loc Cert.ConvBIdeal.main_v0_2) = v2 c
          ∧ r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
          ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
          ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ θ_run (Cert.ConvBReferenceIdeal.defs (F := Ideal)) (onTc (τ := Cert.ConvBReferenceIdeal.τ) (Cert.ConvBReferenceIdeal.main (F := Ideal))) ⟨m', fun _ => 0, g'⟩ (fun r => ∀ c : Dev Cert.ConvBReferenceIdeal.nD,
          r.2.mem ((c.tc : Thread Cert.ConvBReferenceIdeal.nD Cert.ConvBReferenceIdeal.τ).loc Cert.ConvBReferenceIdeal.main_v85) = v0 c
          ∧ r.2.mem ((c.tc : Thread Cert.ConvBReferenceIdeal.nD Cert.ConvBReferenceIdeal.τ).loc Cert.ConvBReferenceIdeal.main_v80) = v1 c
          ∧ r.2.mem ((c.tc : Thread Cert.ConvBReferenceIdeal.nD Cert.ConvBReferenceIdeal.τ).loc Cert.ConvBReferenceIdeal.main_v86) = v2 c
          ∧ r.2.mem ((c.tc : Thread Cert.ConvBReferenceIdeal.nD Cert.ConvBReferenceIdeal.τ).loc Cert.ConvBReferenceIdeal.main_arg0) = m' ((c.tc : Thread Cert.ConvBReferenceIdeal.nD Cert.ConvBReferenceIdeal.τ).loc Cert.ConvBReferenceIdeal.main_arg0)
          ∧ r.2.mem ((c.tc : Thread Cert.ConvBReferenceIdeal.nD Cert.ConvBReferenceIdeal.τ).loc Cert.ConvBReferenceIdeal.main_arg1) = m' ((c.tc : Thread Cert.ConvBReferenceIdeal.nD Cert.ConvBReferenceIdeal.τ).loc Cert.ConvBReferenceIdeal.main_arg1)
          ∧ r.2.mem ((c.tc : Thread Cert.ConvBReferenceIdeal.nD Cert.ConvBReferenceIdeal.τ).loc Cert.ConvBReferenceIdeal.main_arg2) = m' ((c.tc : Thread Cert.ConvBReferenceIdeal.nD Cert.ConvBReferenceIdeal.τ).loc Cert.ConvBReferenceIdeal.main_arg2))

def preserves_NormF_NormFIdeal : Prop :=
  True

def algebraic_NormFIdeal_NormFReferenceIdeal [hNormFIdeal : Cert.NormFIdeal.Facts] [hNormFReferenceIdeal : Cert.NormFReferenceIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFReferenceIdeal.nD Cert.NormFReferenceIdeal.τ Cert.NormFReferenceIdeal.sig) → Buf (Elt Ideal) ℓ) (g' : Dev Cert.NormFReferenceIdeal.nD → PrngReg), Pre_NormFIdeal m →
    (∀ c : Dev Cert.NormFIdeal.nD,
      m' ((c.tc : Thread Cert.NormFReferenceIdeal.nD Cert.NormFReferenceIdeal.τ).loc Cert.NormFReferenceIdeal.main_arg0) = m ((c.tc : Thread Cert.NormFIdeal.nD Cert.NormFIdeal.τ).loc Cert.NormFIdeal.main_arg0)
      ∧ m' ((c.tc : Thread Cert.NormFReferenceIdeal.nD Cert.NormFReferenceIdeal.τ).loc Cert.NormFReferenceIdeal.main_arg1) = m ((c.tc : Thread Cert.NormFIdeal.nD Cert.NormFIdeal.τ).loc Cert.NormFIdeal.main_arg1)) →
    ∃ (v0 : (c : Dev Cert.NormFIdeal.nD) → Buf (Elt Ideal) ((c.tc : Thread Cert.NormFIdeal.nD Cert.NormFIdeal.τ).loc Cert.NormFIdeal.main_v1)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v1) = v0 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ θ_run (Cert.NormFReferenceIdeal.defs (F := Ideal)) (onTc (τ := Cert.NormFReferenceIdeal.τ) (Cert.NormFReferenceIdeal.main (F := Ideal))) ⟨m', fun _ => 0, g'⟩ (fun r => ∀ c : Dev Cert.NormFReferenceIdeal.nD,
          r.2.mem ((c.tc : Thread Cert.NormFReferenceIdeal.nD Cert.NormFReferenceIdeal.τ).loc Cert.NormFReferenceIdeal.main_v13) = v0 c
          ∧ r.2.mem ((c.tc : Thread Cert.NormFReferenceIdeal.nD Cert.NormFReferenceIdeal.τ).loc Cert.NormFReferenceIdeal.main_arg0) = m' ((c.tc : Thread Cert.NormFReferenceIdeal.nD Cert.NormFReferenceIdeal.τ).loc Cert.NormFReferenceIdeal.main_arg0)
          ∧ r.2.mem ((c.tc : Thread Cert.NormFReferenceIdeal.nD Cert.NormFReferenceIdeal.τ).loc Cert.NormFReferenceIdeal.main_arg1) = m' ((c.tc : Thread Cert.NormFReferenceIdeal.nD Cert.NormFReferenceIdeal.τ).loc Cert.NormFReferenceIdeal.main_arg1))

def preserves_PostF_PostFIdeal : Prop :=
  True

def algebraic_PostFIdeal_PostFReferenceIdeal [hPostFIdeal : Cert.PostFIdeal.Facts] [hPostFReferenceIdeal : Cert.PostFReferenceIdeal.Facts] : Prop :=
  ∀ (m : (ℓ : Loc Cert.PostFIdeal.nD Cert.PostFIdeal.τ Cert.PostFIdeal.sig) → Buf (Elt Ideal) ℓ) (g : Dev Cert.PostFIdeal.nD → PrngReg)
    (m' : (ℓ : Loc Cert.PostFReferenceIdeal.nD Cert.PostFReferenceIdeal.τ Cert.PostFReferenceIdeal.sig) → Buf (Elt Ideal) ℓ) (g' : Dev Cert.PostFReferenceIdeal.nD → PrngReg), Pre_PostFIdeal m →
    (∀ c : Dev Cert.PostFIdeal.nD,
      m' ((c.tc : Thread Cert.PostFReferenceIdeal.nD Cert.PostFReferenceIdeal.τ).loc Cert.PostFReferenceIdeal.main_arg0) = m ((c.tc : Thread Cert.PostFIdeal.nD Cert.PostFIdeal.τ).loc Cert.PostFIdeal.main_arg0)
      ∧ m' ((c.tc : Thread Cert.PostFReferenceIdeal.nD Cert.PostFReferenceIdeal.τ).loc Cert.PostFReferenceIdeal.main_arg1) = m ((c.tc : Thread Cert.PostFIdeal.nD Cert.PostFIdeal.τ).loc Cert.PostFIdeal.main_arg1)
      ∧ m' ((c.tc : Thread Cert.PostFReferenceIdeal.nD Cert.PostFReferenceIdeal.τ).loc Cert.PostFReferenceIdeal.main_arg2) = m ((c.tc : Thread Cert.PostFIdeal.nD Cert.PostFIdeal.τ).loc Cert.PostFIdeal.main_arg2)) →
    ∃ (v0 : (c : Dev Cert.PostFIdeal.nD) → Buf (Elt Ideal) ((c.tc : Thread Cert.PostFIdeal.nD Cert.PostFIdeal.τ).loc Cert.PostFIdeal.main_v1)),
      θ_run (Cert.PostFIdeal.defs (F := Ideal)) (onTc (τ := Cert.PostFIdeal.τ) (Cert.PostFIdeal.main (F := Ideal))) ⟨m, fun _ => 0, g⟩ (fun r => ∀ c : Dev Cert.PostFIdeal.nD,
          r.2.mem ((c.tc : Thread Cert.PostFIdeal.nD Cert.PostFIdeal.τ).loc Cert.PostFIdeal.main_v1) = v0 c
          ∧ r.2.mem ((c.tc : Thread Cert.PostFIdeal.nD Cert.PostFIdeal.τ).loc Cert.PostFIdeal.main_arg0) = m ((c.tc : Thread Cert.PostFIdeal.nD Cert.PostFIdeal.τ).loc Cert.PostFIdeal.main_arg0)
          ∧ r.2.mem ((c.tc : Thread Cert.PostFIdeal.nD Cert.PostFIdeal.τ).loc Cert.PostFIdeal.main_arg1) = m ((c.tc : Thread Cert.PostFIdeal.nD Cert.PostFIdeal.τ).loc Cert.PostFIdeal.main_arg1)
          ∧ r.2.mem ((c.tc : Thread Cert.PostFIdeal.nD Cert.PostFIdeal.τ).loc Cert.PostFIdeal.main_arg2) = m ((c.tc : Thread Cert.PostFIdeal.nD Cert.PostFIdeal.τ).loc Cert.PostFIdeal.main_arg2))
      ∧ θ_run (Cert.PostFReferenceIdeal.defs (F := Ideal)) (onTc (τ := Cert.PostFReferenceIdeal.τ) (Cert.PostFReferenceIdeal.main (F := Ideal))) ⟨m', fun _ => 0, g'⟩ (fun r => ∀ c : Dev Cert.PostFReferenceIdeal.nD,
          r.2.mem ((c.tc : Thread Cert.PostFReferenceIdeal.nD Cert.PostFReferenceIdeal.τ).loc Cert.PostFReferenceIdeal.main_v15) = v0 c
          ∧ r.2.mem ((c.tc : Thread Cert.PostFReferenceIdeal.nD Cert.PostFReferenceIdeal.τ).loc Cert.PostFReferenceIdeal.main_arg0) = m' ((c.tc : Thread Cert.PostFReferenceIdeal.nD Cert.PostFReferenceIdeal.τ).loc Cert.PostFReferenceIdeal.main_arg0)
          ∧ r.2.mem ((c.tc : Thread Cert.PostFReferenceIdeal.nD Cert.PostFReferenceIdeal.τ).loc Cert.PostFReferenceIdeal.main_arg1) = m' ((c.tc : Thread Cert.PostFReferenceIdeal.nD Cert.PostFReferenceIdeal.τ).loc Cert.PostFReferenceIdeal.main_arg1)
          ∧ r.2.mem ((c.tc : Thread Cert.PostFReferenceIdeal.nD Cert.PostFReferenceIdeal.τ).loc Cert.PostFReferenceIdeal.main_arg2) = m' ((c.tc : Thread Cert.PostFReferenceIdeal.nD Cert.PostFReferenceIdeal.τ).loc Cert.PostFReferenceIdeal.main_arg2))

def preserves_HybIn_HybInIdeal : Prop :=
  True

def algebraic_HybInIdeal_HybInReferenceIdeal [hHybInIdeal : Cert.HybInIdeal.Facts] [hHybInReferenceIdeal : Cert.HybInReferenceIdeal.Facts] : Prop :=
  ∀ (m : (ℓ : Loc Cert.HybInIdeal.nD Cert.HybInIdeal.τ Cert.HybInIdeal.sig) → Buf (Elt Ideal) ℓ) (g : Dev Cert.HybInIdeal.nD → PrngReg)
    (m' : (ℓ : Loc Cert.HybInReferenceIdeal.nD Cert.HybInReferenceIdeal.τ Cert.HybInReferenceIdeal.sig) → Buf (Elt Ideal) ℓ) (g' : Dev Cert.HybInReferenceIdeal.nD → PrngReg), Pre_HybInIdeal m →
    (∀ c : Dev Cert.HybInIdeal.nD,
      m' ((c.tc : Thread Cert.HybInReferenceIdeal.nD Cert.HybInReferenceIdeal.τ).loc Cert.HybInReferenceIdeal.main_arg0) = m ((c.tc : Thread Cert.HybInIdeal.nD Cert.HybInIdeal.τ).loc Cert.HybInIdeal.main_arg0)
      ∧ m' ((c.tc : Thread Cert.HybInReferenceIdeal.nD Cert.HybInReferenceIdeal.τ).loc Cert.HybInReferenceIdeal.main_arg1) = m ((c.tc : Thread Cert.HybInIdeal.nD Cert.HybInIdeal.τ).loc Cert.HybInIdeal.main_arg1)) →
    ∃ (v0 : (c : Dev Cert.HybInIdeal.nD) → Buf (Elt Ideal) ((c.tc : Thread Cert.HybInIdeal.nD Cert.HybInIdeal.τ).loc Cert.HybInIdeal.main_v2)),
      θ_run (Cert.HybInIdeal.defs (F := Ideal)) (onTc (τ := Cert.HybInIdeal.τ) (Cert.HybInIdeal.main (F := Ideal))) ⟨m, fun _ => 0, g⟩ (fun r => ∀ c : Dev Cert.HybInIdeal.nD,
          r.2.mem ((c.tc : Thread Cert.HybInIdeal.nD Cert.HybInIdeal.τ).loc Cert.HybInIdeal.main_v2) = v0 c
          ∧ r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
          ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1))
      ∧ θ_run (Cert.HybInReferenceIdeal.defs (F := Ideal)) (onTc (τ := Cert.HybInReferenceIdeal.τ) (Cert.HybInReferenceIdeal.main (F := Ideal))) ⟨m', fun _ => 0, g'⟩ (fun r => ∀ c : Dev Cert.HybInReferenceIdeal.nD,
          r.2.mem ((c.tc : Thread Cert.HybInReferenceIdeal.nD Cert.HybInReferenceIdeal.τ).loc Cert.HybInReferenceIdeal.main_v0) = v0 c
          ∧ r.2.mem ((c.tc : Thread Cert.HybInReferenceIdeal.nD Cert.HybInReferenceIdeal.τ).loc Cert.HybInReferenceIdeal.main_arg0) = m' ((c.tc : Thread Cert.HybInReferenceIdeal.nD Cert.HybInReferenceIdeal.τ).loc Cert.HybInReferenceIdeal.main_arg0)
          ∧ r.2.mem ((c.tc : Thread Cert.HybInReferenceIdeal.nD Cert.HybInReferenceIdeal.τ).loc Cert.HybInReferenceIdeal.main_arg1) = m' ((c.tc : Thread Cert.HybInReferenceIdeal.nD Cert.HybInReferenceIdeal.τ).loc Cert.HybInReferenceIdeal.main_arg1))

def preserves_HybInX_HybInXIdeal : Prop :=
  True

def algebraic_HybInXIdeal_HybInXReferenceIdeal [hHybInXIdeal : Cert.HybInXIdeal.Facts] [hHybInXReferenceIdeal : Cert.HybInXReferenceIdeal.Facts] : Prop :=
  ∀ (m : (ℓ : Loc Cert.HybInXIdeal.nD Cert.HybInXIdeal.τ Cert.HybInXIdeal.sig) → Buf (Elt Ideal) ℓ) (g : Dev Cert.HybInXIdeal.nD → PrngReg)
    (m' : (ℓ : Loc Cert.HybInXReferenceIdeal.nD Cert.HybInXReferenceIdeal.τ Cert.HybInXReferenceIdeal.sig) → Buf (Elt Ideal) ℓ) (g' : Dev Cert.HybInXReferenceIdeal.nD → PrngReg), Pre_HybInXIdeal m →
    (∀ c : Dev Cert.HybInXIdeal.nD,
      m' ((c.tc : Thread Cert.HybInXReferenceIdeal.nD Cert.HybInXReferenceIdeal.τ).loc Cert.HybInXReferenceIdeal.main_arg0) = m ((c.tc : Thread Cert.HybInXIdeal.nD Cert.HybInXIdeal.τ).loc Cert.HybInXIdeal.main_arg0)
      ∧ m' ((c.tc : Thread Cert.HybInXReferenceIdeal.nD Cert.HybInXReferenceIdeal.τ).loc Cert.HybInXReferenceIdeal.main_arg1) = m ((c.tc : Thread Cert.HybInXIdeal.nD Cert.HybInXIdeal.τ).loc Cert.HybInXIdeal.main_arg1)) →
    ∃ (v0 : (c : Dev Cert.HybInXIdeal.nD) → Buf (Elt Ideal) ((c.tc : Thread Cert.HybInXIdeal.nD Cert.HybInXIdeal.τ).loc Cert.HybInXIdeal.main_v2)),
      θ_run (Cert.HybInXIdeal.defs (F := Ideal)) (onTc (τ := Cert.HybInXIdeal.τ) (Cert.HybInXIdeal.main (F := Ideal))) ⟨m, fun _ => 0, g⟩ (fun r => ∀ c : Dev Cert.HybInXIdeal.nD,
          r.2.mem ((c.tc : Thread Cert.HybInXIdeal.nD Cert.HybInXIdeal.τ).loc Cert.HybInXIdeal.main_v2) = v0 c
          ∧ r.2.mem ((c.tc : Thread Cert.HybInXIdeal.nD Cert.HybInXIdeal.τ).loc Cert.HybInXIdeal.main_arg0) = m ((c.tc : Thread Cert.HybInXIdeal.nD Cert.HybInXIdeal.τ).loc Cert.HybInXIdeal.main_arg0)
          ∧ r.2.mem ((c.tc : Thread Cert.HybInXIdeal.nD Cert.HybInXIdeal.τ).loc Cert.HybInXIdeal.main_arg1) = m ((c.tc : Thread Cert.HybInXIdeal.nD Cert.HybInXIdeal.τ).loc Cert.HybInXIdeal.main_arg1))
      ∧ θ_run (Cert.HybInXReferenceIdeal.defs (F := Ideal)) (onTc (τ := Cert.HybInXReferenceIdeal.τ) (Cert.HybInXReferenceIdeal.main (F := Ideal))) ⟨m', fun _ => 0, g'⟩ (fun r => ∀ c : Dev Cert.HybInXReferenceIdeal.nD,
          r.2.mem ((c.tc : Thread Cert.HybInXReferenceIdeal.nD Cert.HybInXReferenceIdeal.τ).loc Cert.HybInXReferenceIdeal.main_v2) = v0 c
          ∧ r.2.mem ((c.tc : Thread Cert.HybInXReferenceIdeal.nD Cert.HybInXReferenceIdeal.τ).loc Cert.HybInXReferenceIdeal.main_arg0) = m' ((c.tc : Thread Cert.HybInXReferenceIdeal.nD Cert.HybInXReferenceIdeal.τ).loc Cert.HybInXReferenceIdeal.main_arg0)
          ∧ r.2.mem ((c.tc : Thread Cert.HybInXReferenceIdeal.nD Cert.HybInXReferenceIdeal.τ).loc Cert.HybInXReferenceIdeal.main_arg1) = m' ((c.tc : Thread Cert.HybInXReferenceIdeal.nD Cert.HybInXReferenceIdeal.τ).loc Cert.HybInXReferenceIdeal.main_arg1))

def preserves_HybInW_HybInWIdeal : Prop :=
  True

def algebraic_HybInWIdeal_HybInWReferenceIdeal [hHybInWIdeal : Cert.HybInWIdeal.Facts] [hHybInWReferenceIdeal : Cert.HybInWReferenceIdeal.Facts] : Prop :=
  ∀ (m : (ℓ : Loc Cert.HybInWIdeal.nD Cert.HybInWIdeal.τ Cert.HybInWIdeal.sig) → Buf (Elt Ideal) ℓ) (g : Dev Cert.HybInWIdeal.nD → PrngReg)
    (m' : (ℓ : Loc Cert.HybInWReferenceIdeal.nD Cert.HybInWReferenceIdeal.τ Cert.HybInWReferenceIdeal.sig) → Buf (Elt Ideal) ℓ) (g' : Dev Cert.HybInWReferenceIdeal.nD → PrngReg), Pre_HybInWIdeal m →
    (∀ c : Dev Cert.HybInWIdeal.nD,
      m' ((c.tc : Thread Cert.HybInWReferenceIdeal.nD Cert.HybInWReferenceIdeal.τ).loc Cert.HybInWReferenceIdeal.main_arg0) = m ((c.tc : Thread Cert.HybInWIdeal.nD Cert.HybInWIdeal.τ).loc Cert.HybInWIdeal.main_arg0)
      ∧ m' ((c.tc : Thread Cert.HybInWReferenceIdeal.nD Cert.HybInWReferenceIdeal.τ).loc Cert.HybInWReferenceIdeal.main_arg1) = m ((c.tc : Thread Cert.HybInWIdeal.nD Cert.HybInWIdeal.τ).loc Cert.HybInWIdeal.main_arg1)) →
    ∃ (v0 : (c : Dev Cert.HybInWIdeal.nD) → Buf (Elt Ideal) ((c.tc : Thread Cert.HybInWIdeal.nD Cert.HybInWIdeal.τ).loc Cert.HybInWIdeal.main_v2)),
      θ_run (Cert.HybInWIdeal.defs (F := Ideal)) (onTc (τ := Cert.HybInWIdeal.τ) (Cert.HybInWIdeal.main (F := Ideal))) ⟨m, fun _ => 0, g⟩ (fun r => ∀ c : Dev Cert.HybInWIdeal.nD,
          r.2.mem ((c.tc : Thread Cert.HybInWIdeal.nD Cert.HybInWIdeal.τ).loc Cert.HybInWIdeal.main_v2) = v0 c
          ∧ r.2.mem ((c.tc : Thread Cert.HybInWIdeal.nD Cert.HybInWIdeal.τ).loc Cert.HybInWIdeal.main_arg0) = m ((c.tc : Thread Cert.HybInWIdeal.nD Cert.HybInWIdeal.τ).loc Cert.HybInWIdeal.main_arg0)
          ∧ r.2.mem ((c.tc : Thread Cert.HybInWIdeal.nD Cert.HybInWIdeal.τ).loc Cert.HybInWIdeal.main_arg1) = m ((c.tc : Thread Cert.HybInWIdeal.nD Cert.HybInWIdeal.τ).loc Cert.HybInWIdeal.main_arg1))
      ∧ θ_run (Cert.HybInWReferenceIdeal.defs (F := Ideal)) (onTc (τ := Cert.HybInWReferenceIdeal.τ) (Cert.HybInWReferenceIdeal.main (F := Ideal))) ⟨m', fun _ => 0, g'⟩ (fun r => ∀ c : Dev Cert.HybInWReferenceIdeal.nD,
          r.2.mem ((c.tc : Thread Cert.HybInWReferenceIdeal.nD Cert.HybInWReferenceIdeal.τ).loc Cert.HybInWReferenceIdeal.main_v4) = v0 c
          ∧ r.2.mem ((c.tc : Thread Cert.HybInWReferenceIdeal.nD Cert.HybInWReferenceIdeal.τ).loc Cert.HybInWReferenceIdeal.main_arg0) = m' ((c.tc : Thread Cert.HybInWReferenceIdeal.nD Cert.HybInWReferenceIdeal.τ).loc Cert.HybInWReferenceIdeal.main_arg0)
          ∧ r.2.mem ((c.tc : Thread Cert.HybInWReferenceIdeal.nD Cert.HybInWReferenceIdeal.τ).loc Cert.HybInWReferenceIdeal.main_arg1) = m' ((c.tc : Thread Cert.HybInWReferenceIdeal.nD Cert.HybInWReferenceIdeal.τ).loc Cert.HybInWReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_HybOutX_HybOutXIdeal : Prop :=
  True

def algebraic_HybOutXIdeal_HybOutXReferenceIdeal [hHybOutXIdeal : Cert.HybOutXIdeal.Facts] [hHybOutXReferenceIdeal : Cert.HybOutXReferenceIdeal.Facts] : Prop :=
  ∀ (m : (ℓ : Loc Cert.HybOutXIdeal.nD Cert.HybOutXIdeal.τ Cert.HybOutXIdeal.sig) → Buf (Elt Ideal) ℓ) (g : Dev Cert.HybOutXIdeal.nD → PrngReg)
    (m' : (ℓ : Loc Cert.HybOutXReferenceIdeal.nD Cert.HybOutXReferenceIdeal.τ Cert.HybOutXReferenceIdeal.sig) → Buf (Elt Ideal) ℓ) (g' : Dev Cert.HybOutXReferenceIdeal.nD → PrngReg), Pre_HybOutXIdeal m →
    (∀ c : Dev Cert.HybOutXIdeal.nD,
      m' ((c.tc : Thread Cert.HybOutXReferenceIdeal.nD Cert.HybOutXReferenceIdeal.τ).loc Cert.HybOutXReferenceIdeal.main_arg0) = m ((c.tc : Thread Cert.HybOutXIdeal.nD Cert.HybOutXIdeal.τ).loc Cert.HybOutXIdeal.main_arg0)
      ∧ m' ((c.tc : Thread Cert.HybOutXReferenceIdeal.nD Cert.HybOutXReferenceIdeal.τ).loc Cert.HybOutXReferenceIdeal.main_arg1) = m ((c.tc : Thread Cert.HybOutXIdeal.nD Cert.HybOutXIdeal.τ).loc Cert.HybOutXIdeal.main_arg1)) →
    ∃ (v0 : (c : Dev Cert.HybOutXIdeal.nD) → Buf (Elt Ideal) ((c.tc : Thread Cert.HybOutXIdeal.nD Cert.HybOutXIdeal.τ).loc Cert.HybOutXIdeal.main_v2)),
      θ_run (Cert.HybOutXIdeal.defs (F := Ideal)) (onTc (τ := Cert.HybOutXIdeal.τ) (Cert.HybOutXIdeal.main (F := Ideal))) ⟨m, fun _ => 0, g⟩ (fun r => ∀ c : Dev Cert.HybOutXIdeal.nD,
          r.2.mem ((c.tc : Thread Cert.HybOutXIdeal.nD Cert.HybOutXIdeal.τ).loc Cert.HybOutXIdeal.main_v2) = v0 c
          ∧ r.2.mem ((c.tc : Thread Cert.HybOutXIdeal.nD Cert.HybOutXIdeal.τ).loc Cert.HybOutXIdeal.main_arg0) = m ((c.tc : Thread Cert.HybOutXIdeal.nD Cert.HybOutXIdeal.τ).loc Cert.HybOutXIdeal.main_arg0)
          ∧ r.2.mem ((c.tc : Thread Cert.HybOutXIdeal.nD Cert.HybOutXIdeal.τ).loc Cert.HybOutXIdeal.main_arg1) = m ((c.tc : Thread Cert.HybOutXIdeal.nD Cert.HybOutXIdeal.τ).loc Cert.HybOutXIdeal.main_arg1))
      ∧ θ_run (Cert.HybOutXReferenceIdeal.defs (F := Ideal)) (onTc (τ := Cert.HybOutXReferenceIdeal.τ) (Cert.HybOutXReferenceIdeal.main (F := Ideal))) ⟨m', fun _ => 0, g'⟩ (fun r => ∀ c : Dev Cert.HybOutXReferenceIdeal.nD,
          r.2.mem ((c.tc : Thread Cert.HybOutXReferenceIdeal.nD Cert.HybOutXReferenceIdeal.τ).loc Cert.HybOutXReferenceIdeal.main_v2) = v0 c
          ∧ r.2.mem ((c.tc : Thread Cert.HybOutXReferenceIdeal.nD Cert.HybOutXReferenceIdeal.τ).loc Cert.HybOutXReferenceIdeal.main_arg0) = m' ((c.tc : Thread Cert.HybOutXReferenceIdeal.nD Cert.HybOutXReferenceIdeal.τ).loc Cert.HybOutXReferenceIdeal.main_arg0)
          ∧ r.2.mem ((c.tc : Thread Cert.HybOutXReferenceIdeal.nD Cert.HybOutXReferenceIdeal.τ).loc Cert.HybOutXReferenceIdeal.main_arg1) = m' ((c.tc : Thread Cert.HybOutXReferenceIdeal.nD Cert.HybOutXReferenceIdeal.τ).loc Cert.HybOutXReferenceIdeal.main_arg1))

def preserves_MlaOutX_MlaOutXIdeal : Prop :=
  True

def algebraic_MlaOutXIdeal_MlaOutXReferenceIdeal [hMlaOutXIdeal : Cert.MlaOutXIdeal.Facts] [hMlaOutXReferenceIdeal : Cert.MlaOutXReferenceIdeal.Facts] : Prop :=
  ∀ (m : (ℓ : Loc Cert.MlaOutXIdeal.nD Cert.MlaOutXIdeal.τ Cert.MlaOutXIdeal.sig) → Buf (Elt Ideal) ℓ) (g : Dev Cert.MlaOutXIdeal.nD → PrngReg)
    (m' : (ℓ : Loc Cert.MlaOutXReferenceIdeal.nD Cert.MlaOutXReferenceIdeal.τ Cert.MlaOutXReferenceIdeal.sig) → Buf (Elt Ideal) ℓ) (g' : Dev Cert.MlaOutXReferenceIdeal.nD → PrngReg), Pre_MlaOutXIdeal m →
    (∀ c : Dev Cert.MlaOutXIdeal.nD,
      m' ((c.tc : Thread Cert.MlaOutXReferenceIdeal.nD Cert.MlaOutXReferenceIdeal.τ).loc Cert.MlaOutXReferenceIdeal.main_arg0) = m ((c.tc : Thread Cert.MlaOutXIdeal.nD Cert.MlaOutXIdeal.τ).loc Cert.MlaOutXIdeal.main_arg0)
      ∧ m' ((c.tc : Thread Cert.MlaOutXReferenceIdeal.nD Cert.MlaOutXReferenceIdeal.τ).loc Cert.MlaOutXReferenceIdeal.main_arg1) = m ((c.tc : Thread Cert.MlaOutXIdeal.nD Cert.MlaOutXIdeal.τ).loc Cert.MlaOutXIdeal.main_arg1)) →
    ∃ (v0 : (c : Dev Cert.MlaOutXIdeal.nD) → Buf (Elt Ideal) ((c.tc : Thread Cert.MlaOutXIdeal.nD Cert.MlaOutXIdeal.τ).loc Cert.MlaOutXIdeal.main_v2)),
      θ_run (Cert.MlaOutXIdeal.defs (F := Ideal)) (onTc (τ := Cert.MlaOutXIdeal.τ) (Cert.MlaOutXIdeal.main (F := Ideal))) ⟨m, fun _ => 0, g⟩ (fun r => ∀ c : Dev Cert.MlaOutXIdeal.nD,
          r.2.mem ((c.tc : Thread Cert.MlaOutXIdeal.nD Cert.MlaOutXIdeal.τ).loc Cert.MlaOutXIdeal.main_v2) = v0 c
          ∧ r.2.mem ((c.tc : Thread Cert.MlaOutXIdeal.nD Cert.MlaOutXIdeal.τ).loc Cert.MlaOutXIdeal.main_arg0) = m ((c.tc : Thread Cert.MlaOutXIdeal.nD Cert.MlaOutXIdeal.τ).loc Cert.MlaOutXIdeal.main_arg0)
          ∧ r.2.mem ((c.tc : Thread Cert.MlaOutXIdeal.nD Cert.MlaOutXIdeal.τ).loc Cert.MlaOutXIdeal.main_arg1) = m ((c.tc : Thread Cert.MlaOutXIdeal.nD Cert.MlaOutXIdeal.τ).loc Cert.MlaOutXIdeal.main_arg1))
      ∧ θ_run (Cert.MlaOutXReferenceIdeal.defs (F := Ideal)) (onTc (τ := Cert.MlaOutXReferenceIdeal.τ) (Cert.MlaOutXReferenceIdeal.main (F := Ideal))) ⟨m', fun _ => 0, g'⟩ (fun r => ∀ c : Dev Cert.MlaOutXReferenceIdeal.nD,
          r.2.mem ((c.tc : Thread Cert.MlaOutXReferenceIdeal.nD Cert.MlaOutXReferenceIdeal.τ).loc Cert.MlaOutXReferenceIdeal.main_v3) = v0 c
          ∧ r.2.mem ((c.tc : Thread Cert.MlaOutXReferenceIdeal.nD Cert.MlaOutXReferenceIdeal.τ).loc Cert.MlaOutXReferenceIdeal.main_arg0) = m' ((c.tc : Thread Cert.MlaOutXReferenceIdeal.nD Cert.MlaOutXReferenceIdeal.τ).loc Cert.MlaOutXReferenceIdeal.main_arg0)
          ∧ r.2.mem ((c.tc : Thread Cert.MlaOutXReferenceIdeal.nD Cert.MlaOutXReferenceIdeal.τ).loc Cert.MlaOutXReferenceIdeal.main_arg1) = m' ((c.tc : Thread Cert.MlaOutXReferenceIdeal.nD Cert.MlaOutXReferenceIdeal.τ).loc Cert.MlaOutXReferenceIdeal.main_arg1))

def preserves_OutW_OutWIdeal : Prop :=
  True

def algebraic_OutWIdeal_OutWReferenceIdeal [hOutWIdeal : Cert.OutWIdeal.Facts] [hOutWReferenceIdeal : Cert.OutWReferenceIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWIdeal m →
    (∀ c : Dev Cert.OutWIdeal.nD,
      m' ((c.tc : Thread Cert.OutWReferenceIdeal.nD Cert.OutWReferenceIdeal.τ).loc Cert.OutWReferenceIdeal.main_arg0) = m ((c.tc : Thread Cert.OutWIdeal.nD Cert.OutWIdeal.τ).loc Cert.OutWIdeal.main_arg0)
      ∧ m' ((c.tc : Thread Cert.OutWReferenceIdeal.nD Cert.OutWReferenceIdeal.τ).loc Cert.OutWReferenceIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v2)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v2) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v4) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1))

def preserves_MlaIn_MlaInIdeal : Prop :=
  True

def algebraic_MlaInIdeal_MlaInReferenceIdeal [hMlaInIdeal : Cert.MlaInIdeal.Facts] [hMlaInReferenceIdeal : Cert.MlaInReferenceIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInReferenceIdeal.nD Cert.MlaInReferenceIdeal.τ Cert.MlaInReferenceIdeal.sig) → Buf (Elt Ideal) ℓ) (g' : Dev Cert.MlaInReferenceIdeal.nD → PrngReg), Pre_MlaInIdeal m →
    (∀ c : Dev Cert.MlaInIdeal.nD,
      m' ((c.tc : Thread Cert.MlaInReferenceIdeal.nD Cert.MlaInReferenceIdeal.τ).loc Cert.MlaInReferenceIdeal.main_arg0) = m ((c.tc : Thread Cert.MlaInIdeal.nD Cert.MlaInIdeal.τ).loc Cert.MlaInIdeal.main_arg0)
      ∧ m' ((c.tc : Thread Cert.MlaInReferenceIdeal.nD Cert.MlaInReferenceIdeal.τ).loc Cert.MlaInReferenceIdeal.main_arg1) = m ((c.tc : Thread Cert.MlaInIdeal.nD Cert.MlaInIdeal.τ).loc Cert.MlaInIdeal.main_arg1)) →
    ∃ (v0 : (c : Dev Cert.MlaInIdeal.nD) → Buf (Elt Ideal) ((c.tc : Thread Cert.MlaInIdeal.nD Cert.MlaInIdeal.τ).loc Cert.MlaInIdeal.main_v2)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v2) = v0 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ θ_run (Cert.MlaInReferenceIdeal.defs (F := Ideal)) (onTc (τ := Cert.MlaInReferenceIdeal.τ) (Cert.MlaInReferenceIdeal.main (F := Ideal))) ⟨m', fun _ => 0, g'⟩ (fun r => ∀ c : Dev Cert.MlaInReferenceIdeal.nD,
          r.2.mem ((c.tc : Thread Cert.MlaInReferenceIdeal.nD Cert.MlaInReferenceIdeal.τ).loc Cert.MlaInReferenceIdeal.main_v0) = v0 c
          ∧ r.2.mem ((c.tc : Thread Cert.MlaInReferenceIdeal.nD Cert.MlaInReferenceIdeal.τ).loc Cert.MlaInReferenceIdeal.main_arg0) = m' ((c.tc : Thread Cert.MlaInReferenceIdeal.nD Cert.MlaInReferenceIdeal.τ).loc Cert.MlaInReferenceIdeal.main_arg0)
          ∧ r.2.mem ((c.tc : Thread Cert.MlaInReferenceIdeal.nD Cert.MlaInReferenceIdeal.τ).loc Cert.MlaInReferenceIdeal.main_arg1) = m' ((c.tc : Thread Cert.MlaInReferenceIdeal.nD Cert.MlaInReferenceIdeal.τ).loc Cert.MlaInReferenceIdeal.main_arg1))

def preserves_MlaInX_MlaInXIdeal : Prop :=
  True

def algebraic_MlaInXIdeal_MlaInXReferenceIdeal [hMlaInXIdeal : Cert.MlaInXIdeal.Facts] [hMlaInXReferenceIdeal : Cert.MlaInXReferenceIdeal.Facts] : Prop :=
  ∀ (m : (ℓ : Loc Cert.MlaInXIdeal.nD Cert.MlaInXIdeal.τ Cert.MlaInXIdeal.sig) → Buf (Elt Ideal) ℓ) (g : Dev Cert.MlaInXIdeal.nD → PrngReg)
    (m' : (ℓ : Loc Cert.MlaInXReferenceIdeal.nD Cert.MlaInXReferenceIdeal.τ Cert.MlaInXReferenceIdeal.sig) → Buf (Elt Ideal) ℓ) (g' : Dev Cert.MlaInXReferenceIdeal.nD → PrngReg), Pre_MlaInXIdeal m →
    (∀ c : Dev Cert.MlaInXIdeal.nD,
      m' ((c.tc : Thread Cert.MlaInXReferenceIdeal.nD Cert.MlaInXReferenceIdeal.τ).loc Cert.MlaInXReferenceIdeal.main_arg0) = m ((c.tc : Thread Cert.MlaInXIdeal.nD Cert.MlaInXIdeal.τ).loc Cert.MlaInXIdeal.main_arg0)
      ∧ m' ((c.tc : Thread Cert.MlaInXReferenceIdeal.nD Cert.MlaInXReferenceIdeal.τ).loc Cert.MlaInXReferenceIdeal.main_arg1) = m ((c.tc : Thread Cert.MlaInXIdeal.nD Cert.MlaInXIdeal.τ).loc Cert.MlaInXIdeal.main_arg1)) →
    ∃ (v0 : (c : Dev Cert.MlaInXIdeal.nD) → Buf (Elt Ideal) ((c.tc : Thread Cert.MlaInXIdeal.nD Cert.MlaInXIdeal.τ).loc Cert.MlaInXIdeal.main_v2)),
      θ_run (Cert.MlaInXIdeal.defs (F := Ideal)) (onTc (τ := Cert.MlaInXIdeal.τ) (Cert.MlaInXIdeal.main (F := Ideal))) ⟨m, fun _ => 0, g⟩ (fun r => ∀ c : Dev Cert.MlaInXIdeal.nD,
          r.2.mem ((c.tc : Thread Cert.MlaInXIdeal.nD Cert.MlaInXIdeal.τ).loc Cert.MlaInXIdeal.main_v2) = v0 c
          ∧ r.2.mem ((c.tc : Thread Cert.MlaInXIdeal.nD Cert.MlaInXIdeal.τ).loc Cert.MlaInXIdeal.main_arg0) = m ((c.tc : Thread Cert.MlaInXIdeal.nD Cert.MlaInXIdeal.τ).loc Cert.MlaInXIdeal.main_arg0)
          ∧ r.2.mem ((c.tc : Thread Cert.MlaInXIdeal.nD Cert.MlaInXIdeal.τ).loc Cert.MlaInXIdeal.main_arg1) = m ((c.tc : Thread Cert.MlaInXIdeal.nD Cert.MlaInXIdeal.τ).loc Cert.MlaInXIdeal.main_arg1))
      ∧ θ_run (Cert.MlaInXReferenceIdeal.defs (F := Ideal)) (onTc (τ := Cert.MlaInXReferenceIdeal.τ) (Cert.MlaInXReferenceIdeal.main (F := Ideal))) ⟨m', fun _ => 0, g'⟩ (fun r => ∀ c : Dev Cert.MlaInXReferenceIdeal.nD,
          r.2.mem ((c.tc : Thread Cert.MlaInXReferenceIdeal.nD Cert.MlaInXReferenceIdeal.τ).loc Cert.MlaInXReferenceIdeal.main_v2) = v0 c
          ∧ r.2.mem ((c.tc : Thread Cert.MlaInXReferenceIdeal.nD Cert.MlaInXReferenceIdeal.τ).loc Cert.MlaInXReferenceIdeal.main_arg0) = m' ((c.tc : Thread Cert.MlaInXReferenceIdeal.nD Cert.MlaInXReferenceIdeal.τ).loc Cert.MlaInXReferenceIdeal.main_arg0)
          ∧ r.2.mem ((c.tc : Thread Cert.MlaInXReferenceIdeal.nD Cert.MlaInXReferenceIdeal.τ).loc Cert.MlaInXReferenceIdeal.main_arg1) = m' ((c.tc : Thread Cert.MlaInXReferenceIdeal.nD Cert.MlaInXReferenceIdeal.τ).loc Cert.MlaInXReferenceIdeal.main_arg1))

def preserves_MlaInW_MlaInWIdeal : Prop :=
  True

def algebraic_MlaInWIdeal_MlaInWReferenceIdeal [hMlaInWIdeal : Cert.MlaInWIdeal.Facts] [hMlaInWReferenceIdeal : Cert.MlaInWReferenceIdeal.Facts] : Prop :=
  ∀ (m : (ℓ : Loc Cert.MlaInWIdeal.nD Cert.MlaInWIdeal.τ Cert.MlaInWIdeal.sig) → Buf (Elt Ideal) ℓ) (g : Dev Cert.MlaInWIdeal.nD → PrngReg)
    (m' : (ℓ : Loc Cert.MlaInWReferenceIdeal.nD Cert.MlaInWReferenceIdeal.τ Cert.MlaInWReferenceIdeal.sig) → Buf (Elt Ideal) ℓ) (g' : Dev Cert.MlaInWReferenceIdeal.nD → PrngReg), Pre_MlaInWIdeal m →
    (∀ c : Dev Cert.MlaInWIdeal.nD,
      m' ((c.tc : Thread Cert.MlaInWReferenceIdeal.nD Cert.MlaInWReferenceIdeal.τ).loc Cert.MlaInWReferenceIdeal.main_arg0) = m ((c.tc : Thread Cert.MlaInWIdeal.nD Cert.MlaInWIdeal.τ).loc Cert.MlaInWIdeal.main_arg0)
      ∧ m' ((c.tc : Thread Cert.MlaInWReferenceIdeal.nD Cert.MlaInWReferenceIdeal.τ).loc Cert.MlaInWReferenceIdeal.main_arg1) = m ((c.tc : Thread Cert.MlaInWIdeal.nD Cert.MlaInWIdeal.τ).loc Cert.MlaInWIdeal.main_arg1)) →
    ∃ (v0 : (c : Dev Cert.MlaInWIdeal.nD) → Buf (Elt Ideal) ((c.tc : Thread Cert.MlaInWIdeal.nD Cert.MlaInWIdeal.τ).loc Cert.MlaInWIdeal.main_v2)),
      θ_run (Cert.MlaInWIdeal.defs (F := Ideal)) (onTc (τ := Cert.MlaInWIdeal.τ) (Cert.MlaInWIdeal.main (F := Ideal))) ⟨m, fun _ => 0, g⟩ (fun r => ∀ c : Dev Cert.MlaInWIdeal.nD,
          r.2.mem ((c.tc : Thread Cert.MlaInWIdeal.nD Cert.MlaInWIdeal.τ).loc Cert.MlaInWIdeal.main_v2) = v0 c
          ∧ r.2.mem ((c.tc : Thread Cert.MlaInWIdeal.nD Cert.MlaInWIdeal.τ).loc Cert.MlaInWIdeal.main_arg0) = m ((c.tc : Thread Cert.MlaInWIdeal.nD Cert.MlaInWIdeal.τ).loc Cert.MlaInWIdeal.main_arg0)
          ∧ r.2.mem ((c.tc : Thread Cert.MlaInWIdeal.nD Cert.MlaInWIdeal.τ).loc Cert.MlaInWIdeal.main_arg1) = m ((c.tc : Thread Cert.MlaInWIdeal.nD Cert.MlaInWIdeal.τ).loc Cert.MlaInWIdeal.main_arg1))
      ∧ θ_run (Cert.MlaInWReferenceIdeal.defs (F := Ideal)) (onTc (τ := Cert.MlaInWReferenceIdeal.τ) (Cert.MlaInWReferenceIdeal.main (F := Ideal))) ⟨m', fun _ => 0, g'⟩ (fun r => ∀ c : Dev Cert.MlaInWReferenceIdeal.nD,
          r.2.mem ((c.tc : Thread Cert.MlaInWReferenceIdeal.nD Cert.MlaInWReferenceIdeal.τ).loc Cert.MlaInWReferenceIdeal.main_v3) = v0 c
          ∧ r.2.mem ((c.tc : Thread Cert.MlaInWReferenceIdeal.nD Cert.MlaInWReferenceIdeal.τ).loc Cert.MlaInWReferenceIdeal.main_arg0) = m' ((c.tc : Thread Cert.MlaInWReferenceIdeal.nD Cert.MlaInWReferenceIdeal.τ).loc Cert.MlaInWReferenceIdeal.main_arg0)
          ∧ r.2.mem ((c.tc : Thread Cert.MlaInWReferenceIdeal.nD Cert.MlaInWReferenceIdeal.τ).loc Cert.MlaInWReferenceIdeal.main_arg1) = m' ((c.tc : Thread Cert.MlaInWReferenceIdeal.nD Cert.MlaInWReferenceIdeal.τ).loc Cert.MlaInWReferenceIdeal.main_arg1))

def preserves_Uq_UqIdeal : Prop :=
  True

def algebraic_UqIdeal_UqReferenceIdeal [hUqIdeal : Cert.UqIdeal.Facts] [hUqReferenceIdeal : Cert.UqReferenceIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqReferenceIdeal.nD Cert.UqReferenceIdeal.τ Cert.UqReferenceIdeal.sig) → Buf (Elt Ideal) ℓ) (g' : Dev Cert.UqReferenceIdeal.nD → PrngReg), Pre_UqIdeal m →
    (∀ c : Dev Cert.UqIdeal.nD,
      m' ((c.tc : Thread Cert.UqReferenceIdeal.nD Cert.UqReferenceIdeal.τ).loc Cert.UqReferenceIdeal.main_arg0) = m ((c.tc : Thread Cert.UqIdeal.nD Cert.UqIdeal.τ).loc Cert.UqIdeal.main_arg0)
      ∧ m' ((c.tc : Thread Cert.UqReferenceIdeal.nD Cert.UqReferenceIdeal.τ).loc Cert.UqReferenceIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v2)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v2) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqReferenceIdeal.defs (F := Ideal)) (onTc (τ := Cert.UqReferenceIdeal.τ) (Cert.UqReferenceIdeal.main (F := Ideal))) ⟨m', fun _ => 0, g'⟩ (fun r => ∀ c : Dev Cert.UqReferenceIdeal.nD,
          r.2.mem ((c.tc : Thread Cert.UqReferenceIdeal.nD Cert.UqReferenceIdeal.τ).loc Cert.UqReferenceIdeal.main_v1) = v0 c
          ∧ r.2.mem ((c.tc : Thread Cert.UqReferenceIdeal.nD Cert.UqReferenceIdeal.τ).loc Cert.UqReferenceIdeal.main_arg0) = m' ((c.tc : Thread Cert.UqReferenceIdeal.nD Cert.UqReferenceIdeal.τ).loc Cert.UqReferenceIdeal.main_arg0)
          ∧ r.2.mem ((c.tc : Thread Cert.UqReferenceIdeal.nD Cert.UqReferenceIdeal.τ).loc Cert.UqReferenceIdeal.main_arg1) = m' ((c.tc : Thread Cert.UqReferenceIdeal.nD Cert.UqReferenceIdeal.τ).loc Cert.UqReferenceIdeal.main_arg1))

def preserves_UqX_UqXIdeal : Prop :=
  True

def algebraic_UqXIdeal_UqXReferenceIdeal [hUqXIdeal : Cert.UqXIdeal.Facts] [hUqXReferenceIdeal : Cert.UqXReferenceIdeal.Facts] : Prop :=
  ∀ (m : (ℓ : Loc Cert.UqXIdeal.nD Cert.UqXIdeal.τ Cert.UqXIdeal.sig) → Buf (Elt Ideal) ℓ) (g : Dev Cert.UqXIdeal.nD → PrngReg)
    (m' : (ℓ : Loc Cert.UqXReferenceIdeal.nD Cert.UqXReferenceIdeal.τ Cert.UqXReferenceIdeal.sig) → Buf (Elt Ideal) ℓ) (g' : Dev Cert.UqXReferenceIdeal.nD → PrngReg), Pre_UqXIdeal m →
    (∀ c : Dev Cert.UqXIdeal.nD,
      m' ((c.tc : Thread Cert.UqXReferenceIdeal.nD Cert.UqXReferenceIdeal.τ).loc Cert.UqXReferenceIdeal.main_arg0) = m ((c.tc : Thread Cert.UqXIdeal.nD Cert.UqXIdeal.τ).loc Cert.UqXIdeal.main_arg0)
      ∧ m' ((c.tc : Thread Cert.UqXReferenceIdeal.nD Cert.UqXReferenceIdeal.τ).loc Cert.UqXReferenceIdeal.main_arg1) = m ((c.tc : Thread Cert.UqXIdeal.nD Cert.UqXIdeal.τ).loc Cert.UqXIdeal.main_arg1)) →
    ∃ (v0 : (c : Dev Cert.UqXIdeal.nD) → Buf (Elt Ideal) ((c.tc : Thread Cert.UqXIdeal.nD Cert.UqXIdeal.τ).loc Cert.UqXIdeal.main_v2)),
      θ_run (Cert.UqXIdeal.defs (F := Ideal)) (onTc (τ := Cert.UqXIdeal.τ) (Cert.UqXIdeal.main (F := Ideal))) ⟨m, fun _ => 0, g⟩ (fun r => ∀ c : Dev Cert.UqXIdeal.nD,
          r.2.mem ((c.tc : Thread Cert.UqXIdeal.nD Cert.UqXIdeal.τ).loc Cert.UqXIdeal.main_v2) = v0 c
          ∧ r.2.mem ((c.tc : Thread Cert.UqXIdeal.nD Cert.UqXIdeal.τ).loc Cert.UqXIdeal.main_arg0) = m ((c.tc : Thread Cert.UqXIdeal.nD Cert.UqXIdeal.τ).loc Cert.UqXIdeal.main_arg0)
          ∧ r.2.mem ((c.tc : Thread Cert.UqXIdeal.nD Cert.UqXIdeal.τ).loc Cert.UqXIdeal.main_arg1) = m ((c.tc : Thread Cert.UqXIdeal.nD Cert.UqXIdeal.τ).loc Cert.UqXIdeal.main_arg1))
      ∧ θ_run (Cert.UqXReferenceIdeal.defs (F := Ideal)) (onTc (τ := Cert.UqXReferenceIdeal.τ) (Cert.UqXReferenceIdeal.main (F := Ideal))) ⟨m', fun _ => 0, g'⟩ (fun r => ∀ c : Dev Cert.UqXReferenceIdeal.nD,
          r.2.mem ((c.tc : Thread Cert.UqXReferenceIdeal.nD Cert.UqXReferenceIdeal.τ).loc Cert.UqXReferenceIdeal.main_v2) = v0 c
          ∧ r.2.mem ((c.tc : Thread Cert.UqXReferenceIdeal.nD Cert.UqXReferenceIdeal.τ).loc Cert.UqXReferenceIdeal.main_arg0) = m' ((c.tc : Thread Cert.UqXReferenceIdeal.nD Cert.UqXReferenceIdeal.τ).loc Cert.UqXReferenceIdeal.main_arg0)
          ∧ r.2.mem ((c.tc : Thread Cert.UqXReferenceIdeal.nD Cert.UqXReferenceIdeal.τ).loc Cert.UqXReferenceIdeal.main_arg1) = m' ((c.tc : Thread Cert.UqXReferenceIdeal.nD Cert.UqXReferenceIdeal.τ).loc Cert.UqXReferenceIdeal.main_arg1))

def preserves_UqW_UqWIdeal : Prop :=
  True

def algebraic_UqWIdeal_UqWReferenceIdeal [hUqWIdeal : Cert.UqWIdeal.Facts] [hUqWReferenceIdeal : Cert.UqWReferenceIdeal.Facts] : Prop :=
  ∀ (m : (ℓ : Loc Cert.UqWIdeal.nD Cert.UqWIdeal.τ Cert.UqWIdeal.sig) → Buf (Elt Ideal) ℓ) (g : Dev Cert.UqWIdeal.nD → PrngReg)
    (m' : (ℓ : Loc Cert.UqWReferenceIdeal.nD Cert.UqWReferenceIdeal.τ Cert.UqWReferenceIdeal.sig) → Buf (Elt Ideal) ℓ) (g' : Dev Cert.UqWReferenceIdeal.nD → PrngReg), Pre_UqWIdeal m →
    (∀ c : Dev Cert.UqWIdeal.nD,
      m' ((c.tc : Thread Cert.UqWReferenceIdeal.nD Cert.UqWReferenceIdeal.τ).loc Cert.UqWReferenceIdeal.main_arg0) = m ((c.tc : Thread Cert.UqWIdeal.nD Cert.UqWIdeal.τ).loc Cert.UqWIdeal.main_arg0)
      ∧ m' ((c.tc : Thread Cert.UqWReferenceIdeal.nD Cert.UqWReferenceIdeal.τ).loc Cert.UqWReferenceIdeal.main_arg1) = m ((c.tc : Thread Cert.UqWIdeal.nD Cert.UqWIdeal.τ).loc Cert.UqWIdeal.main_arg1)) →
    ∃ (v0 : (c : Dev Cert.UqWIdeal.nD) → Buf (Elt Ideal) ((c.tc : Thread Cert.UqWIdeal.nD Cert.UqWIdeal.τ).loc Cert.UqWIdeal.main_v2)),
      θ_run (Cert.UqWIdeal.defs (F := Ideal)) (onTc (τ := Cert.UqWIdeal.τ) (Cert.UqWIdeal.main (F := Ideal))) ⟨m, fun _ => 0, g⟩ (fun r => ∀ c : Dev Cert.UqWIdeal.nD,
          r.2.mem ((c.tc : Thread Cert.UqWIdeal.nD Cert.UqWIdeal.τ).loc Cert.UqWIdeal.main_v2) = v0 c
          ∧ r.2.mem ((c.tc : Thread Cert.UqWIdeal.nD Cert.UqWIdeal.τ).loc Cert.UqWIdeal.main_arg0) = m ((c.tc : Thread Cert.UqWIdeal.nD Cert.UqWIdeal.τ).loc Cert.UqWIdeal.main_arg0)
          ∧ r.2.mem ((c.tc : Thread Cert.UqWIdeal.nD Cert.UqWIdeal.τ).loc Cert.UqWIdeal.main_arg1) = m ((c.tc : Thread Cert.UqWIdeal.nD Cert.UqWIdeal.τ).loc Cert.UqWIdeal.main_arg1))
      ∧ θ_run (Cert.UqWReferenceIdeal.defs (F := Ideal)) (onTc (τ := Cert.UqWReferenceIdeal.τ) (Cert.UqWReferenceIdeal.main (F := Ideal))) ⟨m', fun _ => 0, g'⟩ (fun r => ∀ c : Dev Cert.UqWReferenceIdeal.nD,
          r.2.mem ((c.tc : Thread Cert.UqWReferenceIdeal.nD Cert.UqWReferenceIdeal.τ).loc Cert.UqWReferenceIdeal.main_v3) = v0 c
          ∧ r.2.mem ((c.tc : Thread Cert.UqWReferenceIdeal.nD Cert.UqWReferenceIdeal.τ).loc Cert.UqWReferenceIdeal.main_arg0) = m' ((c.tc : Thread Cert.UqWReferenceIdeal.nD Cert.UqWReferenceIdeal.τ).loc Cert.UqWReferenceIdeal.main_arg0)
          ∧ r.2.mem ((c.tc : Thread Cert.UqWReferenceIdeal.nD Cert.UqWReferenceIdeal.τ).loc Cert.UqWReferenceIdeal.main_arg1) = m' ((c.tc : Thread Cert.UqWReferenceIdeal.nD Cert.UqWReferenceIdeal.τ).loc Cert.UqWReferenceIdeal.main_arg1))

def preserves_Ukv_UkvIdeal : Prop :=
  True

def algebraic_UkvIdeal_UkvReferenceIdeal [hUkvIdeal : Cert.UkvIdeal.Facts] [hUkvReferenceIdeal : Cert.UkvReferenceIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvReferenceIdeal.nD Cert.UkvReferenceIdeal.τ Cert.UkvReferenceIdeal.sig) → Buf (Elt Ideal) ℓ) (g' : Dev Cert.UkvReferenceIdeal.nD → PrngReg), Pre_UkvIdeal m →
    (∀ c : Dev Cert.UkvIdeal.nD,
      m' ((c.tc : Thread Cert.UkvReferenceIdeal.nD Cert.UkvReferenceIdeal.τ).loc Cert.UkvReferenceIdeal.main_arg0) = m ((c.tc : Thread Cert.UkvIdeal.nD Cert.UkvIdeal.τ).loc Cert.UkvIdeal.main_arg0)
      ∧ m' ((c.tc : Thread Cert.UkvReferenceIdeal.nD Cert.UkvReferenceIdeal.τ).loc Cert.UkvReferenceIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v2)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v2) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvReferenceIdeal.defs (F := Ideal)) (onTc (τ := Cert.UkvReferenceIdeal.τ) (Cert.UkvReferenceIdeal.main (F := Ideal))) ⟨m', fun _ => 0, g'⟩ (fun r => ∀ c : Dev Cert.UkvReferenceIdeal.nD,
          r.2.mem ((c.tc : Thread Cert.UkvReferenceIdeal.nD Cert.UkvReferenceIdeal.τ).loc Cert.UkvReferenceIdeal.main_v1) = v0 c
          ∧ r.2.mem ((c.tc : Thread Cert.UkvReferenceIdeal.nD Cert.UkvReferenceIdeal.τ).loc Cert.UkvReferenceIdeal.main_arg0) = m' ((c.tc : Thread Cert.UkvReferenceIdeal.nD Cert.UkvReferenceIdeal.τ).loc Cert.UkvReferenceIdeal.main_arg0)
          ∧ r.2.mem ((c.tc : Thread Cert.UkvReferenceIdeal.nD Cert.UkvReferenceIdeal.τ).loc Cert.UkvReferenceIdeal.main_arg1) = m' ((c.tc : Thread Cert.UkvReferenceIdeal.nD Cert.UkvReferenceIdeal.τ).loc Cert.UkvReferenceIdeal.main_arg1))

def preserves_UkvX_UkvXIdeal : Prop :=
  True

def algebraic_UkvXIdeal_UkvXReferenceIdeal [hUkvXIdeal : Cert.UkvXIdeal.Facts] [hUkvXReferenceIdeal : Cert.UkvXReferenceIdeal.Facts] : Prop :=
  ∀ (m : (ℓ : Loc Cert.UkvXIdeal.nD Cert.UkvXIdeal.τ Cert.UkvXIdeal.sig) → Buf (Elt Ideal) ℓ) (g : Dev Cert.UkvXIdeal.nD → PrngReg)
    (m' : (ℓ : Loc Cert.UkvXReferenceIdeal.nD Cert.UkvXReferenceIdeal.τ Cert.UkvXReferenceIdeal.sig) → Buf (Elt Ideal) ℓ) (g' : Dev Cert.UkvXReferenceIdeal.nD → PrngReg), Pre_UkvXIdeal m →
    (∀ c : Dev Cert.UkvXIdeal.nD,
      m' ((c.tc : Thread Cert.UkvXReferenceIdeal.nD Cert.UkvXReferenceIdeal.τ).loc Cert.UkvXReferenceIdeal.main_arg0) = m ((c.tc : Thread Cert.UkvXIdeal.nD Cert.UkvXIdeal.τ).loc Cert.UkvXIdeal.main_arg0)
      ∧ m' ((c.tc : Thread Cert.UkvXReferenceIdeal.nD Cert.UkvXReferenceIdeal.τ).loc Cert.UkvXReferenceIdeal.main_arg1) = m ((c.tc : Thread Cert.UkvXIdeal.nD Cert.UkvXIdeal.τ).loc Cert.UkvXIdeal.main_arg1)) →
    ∃ (v0 : (c : Dev Cert.UkvXIdeal.nD) → Buf (Elt Ideal) ((c.tc : Thread Cert.UkvXIdeal.nD Cert.UkvXIdeal.τ).loc Cert.UkvXIdeal.main_v2)),
      θ_run (Cert.UkvXIdeal.defs (F := Ideal)) (onTc (τ := Cert.UkvXIdeal.τ) (Cert.UkvXIdeal.main (F := Ideal))) ⟨m, fun _ => 0, g⟩ (fun r => ∀ c : Dev Cert.UkvXIdeal.nD,
          r.2.mem ((c.tc : Thread Cert.UkvXIdeal.nD Cert.UkvXIdeal.τ).loc Cert.UkvXIdeal.main_v2) = v0 c
          ∧ r.2.mem ((c.tc : Thread Cert.UkvXIdeal.nD Cert.UkvXIdeal.τ).loc Cert.UkvXIdeal.main_arg0) = m ((c.tc : Thread Cert.UkvXIdeal.nD Cert.UkvXIdeal.τ).loc Cert.UkvXIdeal.main_arg0)
          ∧ r.2.mem ((c.tc : Thread Cert.UkvXIdeal.nD Cert.UkvXIdeal.τ).loc Cert.UkvXIdeal.main_arg1) = m ((c.tc : Thread Cert.UkvXIdeal.nD Cert.UkvXIdeal.τ).loc Cert.UkvXIdeal.main_arg1))
      ∧ θ_run (Cert.UkvXReferenceIdeal.defs (F := Ideal)) (onTc (τ := Cert.UkvXReferenceIdeal.τ) (Cert.UkvXReferenceIdeal.main (F := Ideal))) ⟨m', fun _ => 0, g'⟩ (fun r => ∀ c : Dev Cert.UkvXReferenceIdeal.nD,
          r.2.mem ((c.tc : Thread Cert.UkvXReferenceIdeal.nD Cert.UkvXReferenceIdeal.τ).loc Cert.UkvXReferenceIdeal.main_v2) = v0 c
          ∧ r.2.mem ((c.tc : Thread Cert.UkvXReferenceIdeal.nD Cert.UkvXReferenceIdeal.τ).loc Cert.UkvXReferenceIdeal.main_arg0) = m' ((c.tc : Thread Cert.UkvXReferenceIdeal.nD Cert.UkvXReferenceIdeal.τ).loc Cert.UkvXReferenceIdeal.main_arg0)
          ∧ r.2.mem ((c.tc : Thread Cert.UkvXReferenceIdeal.nD Cert.UkvXReferenceIdeal.τ).loc Cert.UkvXReferenceIdeal.main_arg1) = m' ((c.tc : Thread Cert.UkvXReferenceIdeal.nD Cert.UkvXReferenceIdeal.τ).loc Cert.UkvXReferenceIdeal.main_arg1))

def preserves_UkvW_UkvWIdeal : Prop :=
  True

def algebraic_UkvWIdeal_UkvWReferenceIdeal [hUkvWIdeal : Cert.UkvWIdeal.Facts] [hUkvWReferenceIdeal : Cert.UkvWReferenceIdeal.Facts] : Prop :=
  ∀ (m : (ℓ : Loc Cert.UkvWIdeal.nD Cert.UkvWIdeal.τ Cert.UkvWIdeal.sig) → Buf (Elt Ideal) ℓ) (g : Dev Cert.UkvWIdeal.nD → PrngReg)
    (m' : (ℓ : Loc Cert.UkvWReferenceIdeal.nD Cert.UkvWReferenceIdeal.τ Cert.UkvWReferenceIdeal.sig) → Buf (Elt Ideal) ℓ) (g' : Dev Cert.UkvWReferenceIdeal.nD → PrngReg), Pre_UkvWIdeal m →
    (∀ c : Dev Cert.UkvWIdeal.nD,
      m' ((c.tc : Thread Cert.UkvWReferenceIdeal.nD Cert.UkvWReferenceIdeal.τ).loc Cert.UkvWReferenceIdeal.main_arg0) = m ((c.tc : Thread Cert.UkvWIdeal.nD Cert.UkvWIdeal.τ).loc Cert.UkvWIdeal.main_arg0)
      ∧ m' ((c.tc : Thread Cert.UkvWReferenceIdeal.nD Cert.UkvWReferenceIdeal.τ).loc Cert.UkvWReferenceIdeal.main_arg1) = m ((c.tc : Thread Cert.UkvWIdeal.nD Cert.UkvWIdeal.τ).loc Cert.UkvWIdeal.main_arg1)) →
    ∃ (v0 : (c : Dev Cert.UkvWIdeal.nD) → Buf (Elt Ideal) ((c.tc : Thread Cert.UkvWIdeal.nD Cert.UkvWIdeal.τ).loc Cert.UkvWIdeal.main_v2)),
      θ_run (Cert.UkvWIdeal.defs (F := Ideal)) (onTc (τ := Cert.UkvWIdeal.τ) (Cert.UkvWIdeal.main (F := Ideal))) ⟨m, fun _ => 0, g⟩ (fun r => ∀ c : Dev Cert.UkvWIdeal.nD,
          r.2.mem ((c.tc : Thread Cert.UkvWIdeal.nD Cert.UkvWIdeal.τ).loc Cert.UkvWIdeal.main_v2) = v0 c
          ∧ r.2.mem ((c.tc : Thread Cert.UkvWIdeal.nD Cert.UkvWIdeal.τ).loc Cert.UkvWIdeal.main_arg0) = m ((c.tc : Thread Cert.UkvWIdeal.nD Cert.UkvWIdeal.τ).loc Cert.UkvWIdeal.main_arg0)
          ∧ r.2.mem ((c.tc : Thread Cert.UkvWIdeal.nD Cert.UkvWIdeal.τ).loc Cert.UkvWIdeal.main_arg1) = m ((c.tc : Thread Cert.UkvWIdeal.nD Cert.UkvWIdeal.τ).loc Cert.UkvWIdeal.main_arg1))
      ∧ θ_run (Cert.UkvWReferenceIdeal.defs (F := Ideal)) (onTc (τ := Cert.UkvWReferenceIdeal.τ) (Cert.UkvWReferenceIdeal.main (F := Ideal))) ⟨m', fun _ => 0, g'⟩ (fun r => ∀ c : Dev Cert.UkvWReferenceIdeal.nD,
          r.2.mem ((c.tc : Thread Cert.UkvWReferenceIdeal.nD Cert.UkvWReferenceIdeal.τ).loc Cert.UkvWReferenceIdeal.main_v3) = v0 c
          ∧ r.2.mem ((c.tc : Thread Cert.UkvWReferenceIdeal.nD Cert.UkvWReferenceIdeal.τ).loc Cert.UkvWReferenceIdeal.main_arg0) = m' ((c.tc : Thread Cert.UkvWReferenceIdeal.nD Cert.UkvWReferenceIdeal.τ).loc Cert.UkvWReferenceIdeal.main_arg0)
          ∧ r.2.mem ((c.tc : Thread Cert.UkvWReferenceIdeal.nD Cert.UkvWReferenceIdeal.τ).loc Cert.UkvWReferenceIdeal.main_arg1) = m' ((c.tc : Thread Cert.UkvWReferenceIdeal.nD Cert.UkvWReferenceIdeal.τ).loc Cert.UkvWReferenceIdeal.main_arg1))

def preserves_PleGate_PleGateIdeal : Prop :=
  True

def algebraic_PleGateIdeal_PleGateReferenceIdeal [hPleGateIdeal : Cert.PleGateIdeal.Facts] [hPleGateReferenceIdeal : Cert.PleGateReferenceIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateReferenceIdeal.nD Cert.PleGateReferenceIdeal.τ Cert.PleGateReferenceIdeal.sig) → Buf (Elt Ideal) ℓ) (g' : Dev Cert.PleGateReferenceIdeal.nD → PrngReg), Pre_PleGateIdeal m →
    (∀ c : Dev Cert.PleGateIdeal.nD,
      m' ((c.tc : Thread Cert.PleGateReferenceIdeal.nD Cert.PleGateReferenceIdeal.τ).loc Cert.PleGateReferenceIdeal.main_arg0) = m ((c.tc : Thread Cert.PleGateIdeal.nD Cert.PleGateIdeal.τ).loc Cert.PleGateIdeal.main_arg0)
      ∧ m' ((c.tc : Thread Cert.PleGateReferenceIdeal.nD Cert.PleGateReferenceIdeal.τ).loc Cert.PleGateReferenceIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v2)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v2) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateReferenceIdeal.defs (F := Ideal)) (onTc (τ := Cert.PleGateReferenceIdeal.τ) (Cert.PleGateReferenceIdeal.main (F := Ideal))) ⟨m', fun _ => 0, g'⟩ (fun r => ∀ c : Dev Cert.PleGateReferenceIdeal.nD,
          r.2.mem ((c.tc : Thread Cert.PleGateReferenceIdeal.nD Cert.PleGateReferenceIdeal.τ).loc Cert.PleGateReferenceIdeal.main_v0) = v0 c
          ∧ r.2.mem ((c.tc : Thread Cert.PleGateReferenceIdeal.nD Cert.PleGateReferenceIdeal.τ).loc Cert.PleGateReferenceIdeal.main_arg0) = m' ((c.tc : Thread Cert.PleGateReferenceIdeal.nD Cert.PleGateReferenceIdeal.τ).loc Cert.PleGateReferenceIdeal.main_arg0)
          ∧ r.2.mem ((c.tc : Thread Cert.PleGateReferenceIdeal.nD Cert.PleGateReferenceIdeal.τ).loc Cert.PleGateReferenceIdeal.main_arg1) = m' ((c.tc : Thread Cert.PleGateReferenceIdeal.nD Cert.PleGateReferenceIdeal.τ).loc Cert.PleGateReferenceIdeal.main_arg1))

def preserves_PleGateX_PleGateXIdeal : Prop :=
  True

def algebraic_PleGateXIdeal_PleGateXReferenceIdeal [hPleGateXIdeal : Cert.PleGateXIdeal.Facts] [hPleGateXReferenceIdeal : Cert.PleGateXReferenceIdeal.Facts] : Prop :=
  ∀ (m : (ℓ : Loc Cert.PleGateXIdeal.nD Cert.PleGateXIdeal.τ Cert.PleGateXIdeal.sig) → Buf (Elt Ideal) ℓ) (g : Dev Cert.PleGateXIdeal.nD → PrngReg)
    (m' : (ℓ : Loc Cert.PleGateXReferenceIdeal.nD Cert.PleGateXReferenceIdeal.τ Cert.PleGateXReferenceIdeal.sig) → Buf (Elt Ideal) ℓ) (g' : Dev Cert.PleGateXReferenceIdeal.nD → PrngReg), Pre_PleGateXIdeal m →
    (∀ c : Dev Cert.PleGateXIdeal.nD,
      m' ((c.tc : Thread Cert.PleGateXReferenceIdeal.nD Cert.PleGateXReferenceIdeal.τ).loc Cert.PleGateXReferenceIdeal.main_arg0) = m ((c.tc : Thread Cert.PleGateXIdeal.nD Cert.PleGateXIdeal.τ).loc Cert.PleGateXIdeal.main_arg0)
      ∧ m' ((c.tc : Thread Cert.PleGateXReferenceIdeal.nD Cert.PleGateXReferenceIdeal.τ).loc Cert.PleGateXReferenceIdeal.main_arg1) = m ((c.tc : Thread Cert.PleGateXIdeal.nD Cert.PleGateXIdeal.τ).loc Cert.PleGateXIdeal.main_arg1)) →
    ∃ (v0 : (c : Dev Cert.PleGateXIdeal.nD) → Buf (Elt Ideal) ((c.tc : Thread Cert.PleGateXIdeal.nD Cert.PleGateXIdeal.τ).loc Cert.PleGateXIdeal.main_v2)),
      θ_run (Cert.PleGateXIdeal.defs (F := Ideal)) (onTc (τ := Cert.PleGateXIdeal.τ) (Cert.PleGateXIdeal.main (F := Ideal))) ⟨m, fun _ => 0, g⟩ (fun r => ∀ c : Dev Cert.PleGateXIdeal.nD,
          r.2.mem ((c.tc : Thread Cert.PleGateXIdeal.nD Cert.PleGateXIdeal.τ).loc Cert.PleGateXIdeal.main_v2) = v0 c
          ∧ r.2.mem ((c.tc : Thread Cert.PleGateXIdeal.nD Cert.PleGateXIdeal.τ).loc Cert.PleGateXIdeal.main_arg0) = m ((c.tc : Thread Cert.PleGateXIdeal.nD Cert.PleGateXIdeal.τ).loc Cert.PleGateXIdeal.main_arg0)
          ∧ r.2.mem ((c.tc : Thread Cert.PleGateXIdeal.nD Cert.PleGateXIdeal.τ).loc Cert.PleGateXIdeal.main_arg1) = m ((c.tc : Thread Cert.PleGateXIdeal.nD Cert.PleGateXIdeal.τ).loc Cert.PleGateXIdeal.main_arg1))
      ∧ θ_run (Cert.PleGateXReferenceIdeal.defs (F := Ideal)) (onTc (τ := Cert.PleGateXReferenceIdeal.τ) (Cert.PleGateXReferenceIdeal.main (F := Ideal))) ⟨m', fun _ => 0, g'⟩ (fun r => ∀ c : Dev Cert.PleGateXReferenceIdeal.nD,
          r.2.mem ((c.tc : Thread Cert.PleGateXReferenceIdeal.nD Cert.PleGateXReferenceIdeal.τ).loc Cert.PleGateXReferenceIdeal.main_v2) = v0 c
          ∧ r.2.mem ((c.tc : Thread Cert.PleGateXReferenceIdeal.nD Cert.PleGateXReferenceIdeal.τ).loc Cert.PleGateXReferenceIdeal.main_arg0) = m' ((c.tc : Thread Cert.PleGateXReferenceIdeal.nD Cert.PleGateXReferenceIdeal.τ).loc Cert.PleGateXReferenceIdeal.main_arg0)
          ∧ r.2.mem ((c.tc : Thread Cert.PleGateXReferenceIdeal.nD Cert.PleGateXReferenceIdeal.τ).loc Cert.PleGateXReferenceIdeal.main_arg1) = m' ((c.tc : Thread Cert.PleGateXReferenceIdeal.nD Cert.PleGateXReferenceIdeal.τ).loc Cert.PleGateXReferenceIdeal.main_arg1))

def preserves_PleGateW_PleGateWIdeal : Prop :=
  True

def algebraic_PleGateWIdeal_PleGateWReferenceIdeal [hPleGateWIdeal : Cert.PleGateWIdeal.Facts] [hPleGateWReferenceIdeal : Cert.PleGateWReferenceIdeal.Facts] : Prop :=
  ∀ (m : (ℓ : Loc Cert.PleGateWIdeal.nD Cert.PleGateWIdeal.τ Cert.PleGateWIdeal.sig) → Buf (Elt Ideal) ℓ) (g : Dev Cert.PleGateWIdeal.nD → PrngReg)
    (m' : (ℓ : Loc Cert.PleGateWReferenceIdeal.nD Cert.PleGateWReferenceIdeal.τ Cert.PleGateWReferenceIdeal.sig) → Buf (Elt Ideal) ℓ) (g' : Dev Cert.PleGateWReferenceIdeal.nD → PrngReg), Pre_PleGateWIdeal m →
    (∀ c : Dev Cert.PleGateWIdeal.nD,
      m' ((c.tc : Thread Cert.PleGateWReferenceIdeal.nD Cert.PleGateWReferenceIdeal.τ).loc Cert.PleGateWReferenceIdeal.main_arg0) = m ((c.tc : Thread Cert.PleGateWIdeal.nD Cert.PleGateWIdeal.τ).loc Cert.PleGateWIdeal.main_arg0)
      ∧ m' ((c.tc : Thread Cert.PleGateWReferenceIdeal.nD Cert.PleGateWReferenceIdeal.τ).loc Cert.PleGateWReferenceIdeal.main_arg1) = m ((c.tc : Thread Cert.PleGateWIdeal.nD Cert.PleGateWIdeal.τ).loc Cert.PleGateWIdeal.main_arg1)) →
    ∃ (v0 : (c : Dev Cert.PleGateWIdeal.nD) → Buf (Elt Ideal) ((c.tc : Thread Cert.PleGateWIdeal.nD Cert.PleGateWIdeal.τ).loc Cert.PleGateWIdeal.main_v2)),
      θ_run (Cert.PleGateWIdeal.defs (F := Ideal)) (onTc (τ := Cert.PleGateWIdeal.τ) (Cert.PleGateWIdeal.main (F := Ideal))) ⟨m, fun _ => 0, g⟩ (fun r => ∀ c : Dev Cert.PleGateWIdeal.nD,
          r.2.mem ((c.tc : Thread Cert.PleGateWIdeal.nD Cert.PleGateWIdeal.τ).loc Cert.PleGateWIdeal.main_v2) = v0 c
          ∧ r.2.mem ((c.tc : Thread Cert.PleGateWIdeal.nD Cert.PleGateWIdeal.τ).loc Cert.PleGateWIdeal.main_arg0) = m ((c.tc : Thread Cert.PleGateWIdeal.nD Cert.PleGateWIdeal.τ).loc Cert.PleGateWIdeal.main_arg0)
          ∧ r.2.mem ((c.tc : Thread Cert.PleGateWIdeal.nD Cert.PleGateWIdeal.τ).loc Cert.PleGateWIdeal.main_arg1) = m ((c.tc : Thread Cert.PleGateWIdeal.nD Cert.PleGateWIdeal.τ).loc Cert.PleGateWIdeal.main_arg1))
      ∧ θ_run (Cert.PleGateWReferenceIdeal.defs (F := Ideal)) (onTc (τ := Cert.PleGateWReferenceIdeal.τ) (Cert.PleGateWReferenceIdeal.main (F := Ideal))) ⟨m', fun _ => 0, g'⟩ (fun r => ∀ c : Dev Cert.PleGateWReferenceIdeal.nD,
          r.2.mem ((c.tc : Thread Cert.PleGateWReferenceIdeal.nD Cert.PleGateWReferenceIdeal.τ).loc Cert.PleGateWReferenceIdeal.main_v4) = v0 c
          ∧ r.2.mem ((c.tc : Thread Cert.PleGateWReferenceIdeal.nD Cert.PleGateWReferenceIdeal.τ).loc Cert.PleGateWReferenceIdeal.main_arg0) = m' ((c.tc : Thread Cert.PleGateWReferenceIdeal.nD Cert.PleGateWReferenceIdeal.τ).loc Cert.PleGateWReferenceIdeal.main_arg0)
          ∧ r.2.mem ((c.tc : Thread Cert.PleGateWReferenceIdeal.nD Cert.PleGateWReferenceIdeal.τ).loc Cert.PleGateWReferenceIdeal.main_arg1) = m' ((c.tc : Thread Cert.PleGateWReferenceIdeal.nD Cert.PleGateWReferenceIdeal.τ).loc Cert.PleGateWReferenceIdeal.main_arg1))

def preserves_PleProj_PleProjIdeal : Prop :=
  True

def algebraic_PleProjIdeal_PleProjReferenceIdeal [hPleProjIdeal : Cert.PleProjIdeal.Facts] [hPleProjReferenceIdeal : Cert.PleProjReferenceIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjReferenceIdeal.nD Cert.PleProjReferenceIdeal.τ Cert.PleProjReferenceIdeal.sig) → Buf (Elt Ideal) ℓ) (g' : Dev Cert.PleProjReferenceIdeal.nD → PrngReg), Pre_PleProjIdeal m →
    (∀ c : Dev Cert.PleProjIdeal.nD,
      m' ((c.tc : Thread Cert.PleProjReferenceIdeal.nD Cert.PleProjReferenceIdeal.τ).loc Cert.PleProjReferenceIdeal.main_arg0) = m ((c.tc : Thread Cert.PleProjIdeal.nD Cert.PleProjIdeal.τ).loc Cert.PleProjIdeal.main_arg0)
      ∧ m' ((c.tc : Thread Cert.PleProjReferenceIdeal.nD Cert.PleProjReferenceIdeal.τ).loc Cert.PleProjReferenceIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v2)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v2) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjReferenceIdeal.defs (F := Ideal)) (onTc (τ := Cert.PleProjReferenceIdeal.τ) (Cert.PleProjReferenceIdeal.main (F := Ideal))) ⟨m', fun _ => 0, g'⟩ (fun r => ∀ c : Dev Cert.PleProjReferenceIdeal.nD,
          r.2.mem ((c.tc : Thread Cert.PleProjReferenceIdeal.nD Cert.PleProjReferenceIdeal.τ).loc Cert.PleProjReferenceIdeal.main_v0) = v0 c
          ∧ r.2.mem ((c.tc : Thread Cert.PleProjReferenceIdeal.nD Cert.PleProjReferenceIdeal.τ).loc Cert.PleProjReferenceIdeal.main_arg0) = m' ((c.tc : Thread Cert.PleProjReferenceIdeal.nD Cert.PleProjReferenceIdeal.τ).loc Cert.PleProjReferenceIdeal.main_arg0)
          ∧ r.2.mem ((c.tc : Thread Cert.PleProjReferenceIdeal.nD Cert.PleProjReferenceIdeal.τ).loc Cert.PleProjReferenceIdeal.main_arg1) = m' ((c.tc : Thread Cert.PleProjReferenceIdeal.nD Cert.PleProjReferenceIdeal.τ).loc Cert.PleProjReferenceIdeal.main_arg1))

def preserves_PleProjW_PleProjWIdeal : Prop :=
  True

def algebraic_PleProjWIdeal_PleProjWReferenceIdeal [hPleProjWIdeal : Cert.PleProjWIdeal.Facts] [hPleProjWReferenceIdeal : Cert.PleProjWReferenceIdeal.Facts] : Prop :=
  ∀ (m : (ℓ : Loc Cert.PleProjWIdeal.nD Cert.PleProjWIdeal.τ Cert.PleProjWIdeal.sig) → Buf (Elt Ideal) ℓ) (g : Dev Cert.PleProjWIdeal.nD → PrngReg)
    (m' : (ℓ : Loc Cert.PleProjWReferenceIdeal.nD Cert.PleProjWReferenceIdeal.τ Cert.PleProjWReferenceIdeal.sig) → Buf (Elt Ideal) ℓ) (g' : Dev Cert.PleProjWReferenceIdeal.nD → PrngReg), Pre_PleProjWIdeal m →
    (∀ c : Dev Cert.PleProjWIdeal.nD,
      m' ((c.tc : Thread Cert.PleProjWReferenceIdeal.nD Cert.PleProjWReferenceIdeal.τ).loc Cert.PleProjWReferenceIdeal.main_arg0) = m ((c.tc : Thread Cert.PleProjWIdeal.nD Cert.PleProjWIdeal.τ).loc Cert.PleProjWIdeal.main_arg0)
      ∧ m' ((c.tc : Thread Cert.PleProjWReferenceIdeal.nD Cert.PleProjWReferenceIdeal.τ).loc Cert.PleProjWReferenceIdeal.main_arg1) = m ((c.tc : Thread Cert.PleProjWIdeal.nD Cert.PleProjWIdeal.τ).loc Cert.PleProjWIdeal.main_arg1)) →
    ∃ (v0 : (c : Dev Cert.PleProjWIdeal.nD) → Buf (Elt Ideal) ((c.tc : Thread Cert.PleProjWIdeal.nD Cert.PleProjWIdeal.τ).loc Cert.PleProjWIdeal.main_v2)),
      θ_run (Cert.PleProjWIdeal.defs (F := Ideal)) (onTc (τ := Cert.PleProjWIdeal.τ) (Cert.PleProjWIdeal.main (F := Ideal))) ⟨m, fun _ => 0, g⟩ (fun r => ∀ c : Dev Cert.PleProjWIdeal.nD,
          r.2.mem ((c.tc : Thread Cert.PleProjWIdeal.nD Cert.PleProjWIdeal.τ).loc Cert.PleProjWIdeal.main_v2) = v0 c
          ∧ r.2.mem ((c.tc : Thread Cert.PleProjWIdeal.nD Cert.PleProjWIdeal.τ).loc Cert.PleProjWIdeal.main_arg0) = m ((c.tc : Thread Cert.PleProjWIdeal.nD Cert.PleProjWIdeal.τ).loc Cert.PleProjWIdeal.main_arg0)
          ∧ r.2.mem ((c.tc : Thread Cert.PleProjWIdeal.nD Cert.PleProjWIdeal.τ).loc Cert.PleProjWIdeal.main_arg1) = m ((c.tc : Thread Cert.PleProjWIdeal.nD Cert.PleProjWIdeal.τ).loc Cert.PleProjWIdeal.main_arg1))
      ∧ θ_run (Cert.PleProjWReferenceIdeal.defs (F := Ideal)) (onTc (τ := Cert.PleProjWReferenceIdeal.τ) (Cert.PleProjWReferenceIdeal.main (F := Ideal))) ⟨m', fun _ => 0, g'⟩ (fun r => ∀ c : Dev Cert.PleProjWReferenceIdeal.nD,
          r.2.mem ((c.tc : Thread Cert.PleProjWReferenceIdeal.nD Cert.PleProjWReferenceIdeal.τ).loc Cert.PleProjWReferenceIdeal.main_v4) = v0 c
          ∧ r.2.mem ((c.tc : Thread Cert.PleProjWReferenceIdeal.nD Cert.PleProjWReferenceIdeal.τ).loc Cert.PleProjWReferenceIdeal.main_arg0) = m' ((c.tc : Thread Cert.PleProjWReferenceIdeal.nD Cert.PleProjWReferenceIdeal.τ).loc Cert.PleProjWReferenceIdeal.main_arg0)
          ∧ r.2.mem ((c.tc : Thread Cert.PleProjWReferenceIdeal.nD Cert.PleProjWReferenceIdeal.τ).loc Cert.PleProjWReferenceIdeal.main_arg1) = m' ((c.tc : Thread Cert.PleProjWReferenceIdeal.nD Cert.PleProjWReferenceIdeal.τ).loc Cert.PleProjWReferenceIdeal.main_arg1))

def Claim : Prop :=
  ∃ (hKernel : Cert.Kernel.Facts) (hKernelIdeal : Cert.KernelIdeal.Facts) (hReferenceIdeal : Cert.ReferenceIdeal.Facts) (hAttnF : Cert.AttnF.Facts) (hAttnFIdeal : Cert.AttnFIdeal.Facts) (hAttnFReferenceIdeal : Cert.AttnFReferenceIdeal.Facts) (hGate : Cert.Gate.Facts) (hGateIdeal : Cert.GateIdeal.Facts) (hGateReferenceIdeal : Cert.GateReferenceIdeal.Facts) (hGateB : Cert.GateB.Facts) (hGateBIdeal : Cert.GateBIdeal.Facts) (hGateBReferenceIdeal : Cert.GateBReferenceIdeal.Facts) (hDown : Cert.Down.Facts) (hDownIdeal : Cert.DownIdeal.Facts) (hDownReferenceIdeal : Cert.DownReferenceIdeal.Facts) (hDownW : Cert.DownW.Facts) (hDownWIdeal : Cert.DownWIdeal.Facts) (hDownWReferenceIdeal : Cert.DownWReferenceIdeal.Facts) (hInX : Cert.InX.Facts) (hInXIdeal : Cert.InXIdeal.Facts) (hInXReferenceIdeal : Cert.InXReferenceIdeal.Facts) (hInW : Cert.InW.Facts) (hInWIdeal : Cert.InWIdeal.Facts) (hInWReferenceIdeal : Cert.InWReferenceIdeal.Facts) (hNormB : Cert.NormB.Facts) (hNormBIdeal : Cert.NormBIdeal.Facts) (hNormBReferenceIdeal : Cert.NormBReferenceIdeal.Facts) (hConvB : Cert.ConvB.Facts) (hConvBIdeal : Cert.ConvBIdeal.Facts) (hConvBReferenceIdeal : Cert.ConvBReferenceIdeal.Facts) (hNormF : Cert.NormF.Facts) (hNormFIdeal : Cert.NormFIdeal.Facts) (hNormFReferenceIdeal : Cert.NormFReferenceIdeal.Facts) (hPostF : Cert.PostF.Facts) (hPostFIdeal : Cert.PostFIdeal.Facts) (hPostFReferenceIdeal : Cert.PostFReferenceIdeal.Facts) (hHybIn : Cert.HybIn.Facts) (hHybInIdeal : Cert.HybInIdeal.Facts) (hHybInReferenceIdeal : Cert.HybInReferenceIdeal.Facts) (hHybInX : Cert.HybInX.Facts) (hHybInXIdeal : Cert.HybInXIdeal.Facts) (hHybInXReferenceIdeal : Cert.HybInXReferenceIdeal.Facts) (hHybInW : Cert.HybInW.Facts) (hHybInWIdeal : Cert.HybInWIdeal.Facts) (hHybInWReferenceIdeal : Cert.HybInWReferenceIdeal.Facts) (hOut : Cert.Out.Facts) (hOutIdeal : Cert.OutIdeal.Facts) (hOutReferenceIdeal : Cert.OutReferenceIdeal.Facts) (hHybOutX : Cert.HybOutX.Facts) (hHybOutXIdeal : Cert.HybOutXIdeal.Facts) (hHybOutXReferenceIdeal : Cert.HybOutXReferenceIdeal.Facts) (hMlaOutX : Cert.MlaOutX.Facts) (hMlaOutXIdeal : Cert.MlaOutXIdeal.Facts) (hMlaOutXReferenceIdeal : Cert.MlaOutXReferenceIdeal.Facts) (hOutW : Cert.OutW.Facts) (hOutWIdeal : Cert.OutWIdeal.Facts) (hOutWReferenceIdeal : Cert.OutWReferenceIdeal.Facts) (hMlaIn : Cert.MlaIn.Facts) (hMlaInIdeal : Cert.MlaInIdeal.Facts) (hMlaInReferenceIdeal : Cert.MlaInReferenceIdeal.Facts) (hMlaInX : Cert.MlaInX.Facts) (hMlaInXIdeal : Cert.MlaInXIdeal.Facts) (hMlaInXReferenceIdeal : Cert.MlaInXReferenceIdeal.Facts) (hMlaInW : Cert.MlaInW.Facts) (hMlaInWIdeal : Cert.MlaInWIdeal.Facts) (hMlaInWReferenceIdeal : Cert.MlaInWReferenceIdeal.Facts) (hUq : Cert.Uq.Facts) (hUqIdeal : Cert.UqIdeal.Facts) (hUqReferenceIdeal : Cert.UqReferenceIdeal.Facts) (hUqX : Cert.UqX.Facts) (hUqXIdeal : Cert.UqXIdeal.Facts) (hUqXReferenceIdeal : Cert.UqXReferenceIdeal.Facts) (hUqW : Cert.UqW.Facts) (hUqWIdeal : Cert.UqWIdeal.Facts) (hUqWReferenceIdeal : Cert.UqWReferenceIdeal.Facts) (hUkv : Cert.Ukv.Facts) (hUkvIdeal : Cert.UkvIdeal.Facts) (hUkvReferenceIdeal : Cert.UkvReferenceIdeal.Facts) (hUkvX : Cert.UkvX.Facts) (hUkvXIdeal : Cert.UkvXIdeal.Facts) (hUkvXReferenceIdeal : Cert.UkvXReferenceIdeal.Facts) (hUkvW : Cert.UkvW.Facts) (hUkvWIdeal : Cert.UkvWIdeal.Facts) (hUkvWReferenceIdeal : Cert.UkvWReferenceIdeal.Facts) (hPleGate : Cert.PleGate.Facts) (hPleGateIdeal : Cert.PleGateIdeal.Facts) (hPleGateReferenceIdeal : Cert.PleGateReferenceIdeal.Facts) (hPleGateX : Cert.PleGateX.Facts) (hPleGateXIdeal : Cert.PleGateXIdeal.Facts) (hPleGateXReferenceIdeal : Cert.PleGateXReferenceIdeal.Facts) (hPleGateW : Cert.PleGateW.Facts) (hPleGateWIdeal : Cert.PleGateWIdeal.Facts) (hPleGateWReferenceIdeal : Cert.PleGateWReferenceIdeal.Facts) (hPleProj : Cert.PleProj.Facts) (hPleProjIdeal : Cert.PleProjIdeal.Facts) (hPleProjReferenceIdeal : Cert.PleProjReferenceIdeal.Facts) (hPleProjW : Cert.PleProjW.Facts) (hPleProjWIdeal : Cert.PleProjWIdeal.Facts) (hPleProjWReferenceIdeal : Cert.PleProjWReferenceIdeal.Facts) (hPre_finite : Cert.Pre_finite.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnF (hAttnF := hAttnF)
    ∧ quiescent_AttnFIdeal (hAttnFIdeal := hAttnFIdeal)
    ∧ quiescent_AttnFIdeal_pre_finite_attn (hAttnFIdeal := hAttnFIdeal) (hPre_finite_attn := hPre_finite_attn)
    ∧ quiescent_AttnFReferenceIdeal (hAttnFReferenceIdeal := hAttnFReferenceIdeal)
    ∧ quiescent_AttnFReferenceIdeal_pre_finite_attn (hAttnFReferenceIdeal := hAttnFReferenceIdeal) (hPre_finite_attn := hPre_finite_attn)
    ∧ quiescent_Gate (hGate := hGate)
    ∧ quiescent_GateIdeal (hGateIdeal := hGateIdeal)
    ∧ quiescent_GateReferenceIdeal (hGateReferenceIdeal := hGateReferenceIdeal)
    ∧ quiescent_GateB (hGateB := hGateB)
    ∧ quiescent_GateBIdeal (hGateBIdeal := hGateBIdeal)
    ∧ quiescent_GateBReferenceIdeal (hGateBReferenceIdeal := hGateBReferenceIdeal)
    ∧ quiescent_Down (hDown := hDown)
    ∧ quiescent_DownIdeal (hDownIdeal := hDownIdeal)
    ∧ quiescent_DownReferenceIdeal (hDownReferenceIdeal := hDownReferenceIdeal)
    ∧ quiescent_DownW (hDownW := hDownW)
    ∧ quiescent_DownWIdeal (hDownWIdeal := hDownWIdeal)
    ∧ quiescent_DownWReferenceIdeal (hDownWReferenceIdeal := hDownWReferenceIdeal)
    ∧ quiescent_InX (hInX := hInX)
    ∧ quiescent_InXIdeal (hInXIdeal := hInXIdeal)
    ∧ quiescent_InXReferenceIdeal (hInXReferenceIdeal := hInXReferenceIdeal)
    ∧ quiescent_InW (hInW := hInW)
    ∧ quiescent_InWIdeal (hInWIdeal := hInWIdeal)
    ∧ quiescent_InWReferenceIdeal (hInWReferenceIdeal := hInWReferenceIdeal)
    ∧ quiescent_NormB (hNormB := hNormB)
    ∧ quiescent_NormBIdeal (hNormBIdeal := hNormBIdeal)
    ∧ quiescent_NormBReferenceIdeal (hNormBReferenceIdeal := hNormBReferenceIdeal)
    ∧ quiescent_ConvB (hConvB := hConvB)
    ∧ quiescent_ConvBIdeal (hConvBIdeal := hConvBIdeal)
    ∧ quiescent_ConvBReferenceIdeal (hConvBReferenceIdeal := hConvBReferenceIdeal)
    ∧ quiescent_NormF (hNormF := hNormF)
    ∧ quiescent_NormFIdeal (hNormFIdeal := hNormFIdeal)
    ∧ quiescent_NormFReferenceIdeal (hNormFReferenceIdeal := hNormFReferenceIdeal)
    ∧ quiescent_PostF (hPostF := hPostF)
    ∧ quiescent_PostFIdeal (hPostFIdeal := hPostFIdeal)
    ∧ quiescent_PostFReferenceIdeal (hPostFReferenceIdeal := hPostFReferenceIdeal)
    ∧ quiescent_HybIn (hHybIn := hHybIn)
    ∧ quiescent_HybInIdeal (hHybInIdeal := hHybInIdeal)
    ∧ quiescent_HybInReferenceIdeal (hHybInReferenceIdeal := hHybInReferenceIdeal)
    ∧ quiescent_HybInX (hHybInX := hHybInX)
    ∧ quiescent_HybInXIdeal (hHybInXIdeal := hHybInXIdeal)
    ∧ quiescent_HybInXReferenceIdeal (hHybInXReferenceIdeal := hHybInXReferenceIdeal)
    ∧ quiescent_HybInW (hHybInW := hHybInW)
    ∧ quiescent_HybInWIdeal (hHybInWIdeal := hHybInWIdeal)
    ∧ quiescent_HybInWReferenceIdeal (hHybInWReferenceIdeal := hHybInWReferenceIdeal)
    ∧ quiescent_Out (hOut := hOut)
    ∧ quiescent_OutIdeal (hOutIdeal := hOutIdeal)
    ∧ quiescent_OutReferenceIdeal (hOutReferenceIdeal := hOutReferenceIdeal)
    ∧ quiescent_HybOutX (hHybOutX := hHybOutX)
    ∧ quiescent_HybOutXIdeal (hHybOutXIdeal := hHybOutXIdeal)
    ∧ quiescent_HybOutXReferenceIdeal (hHybOutXReferenceIdeal := hHybOutXReferenceIdeal)
    ∧ quiescent_MlaOutX (hMlaOutX := hMlaOutX)
    ∧ quiescent_MlaOutXIdeal (hMlaOutXIdeal := hMlaOutXIdeal)
    ∧ quiescent_MlaOutXReferenceIdeal (hMlaOutXReferenceIdeal := hMlaOutXReferenceIdeal)
    ∧ quiescent_OutW (hOutW := hOutW)
    ∧ quiescent_OutWIdeal (hOutWIdeal := hOutWIdeal)
    ∧ quiescent_OutWReferenceIdeal (hOutWReferenceIdeal := hOutWReferenceIdeal)
    ∧ quiescent_MlaIn (hMlaIn := hMlaIn)
    ∧ quiescent_MlaInIdeal (hMlaInIdeal := hMlaInIdeal)
    ∧ quiescent_MlaInReferenceIdeal (hMlaInReferenceIdeal := hMlaInReferenceIdeal)
    ∧ quiescent_MlaInX (hMlaInX := hMlaInX)
    ∧ quiescent_MlaInXIdeal (hMlaInXIdeal := hMlaInXIdeal)
    ∧ quiescent_MlaInXReferenceIdeal (hMlaInXReferenceIdeal := hMlaInXReferenceIdeal)
    ∧ quiescent_MlaInW (hMlaInW := hMlaInW)
    ∧ quiescent_MlaInWIdeal (hMlaInWIdeal := hMlaInWIdeal)
    ∧ quiescent_MlaInWReferenceIdeal (hMlaInWReferenceIdeal := hMlaInWReferenceIdeal)
    ∧ quiescent_Uq (hUq := hUq)
    ∧ quiescent_UqIdeal (hUqIdeal := hUqIdeal)
    ∧ quiescent_UqReferenceIdeal (hUqReferenceIdeal := hUqReferenceIdeal)
    ∧ quiescent_UqX (hUqX := hUqX)
    ∧ quiescent_UqXIdeal (hUqXIdeal := hUqXIdeal)
    ∧ quiescent_UqXReferenceIdeal (hUqXReferenceIdeal := hUqXReferenceIdeal)
    ∧ quiescent_UqW (hUqW := hUqW)
    ∧ quiescent_UqWIdeal (hUqWIdeal := hUqWIdeal)
    ∧ quiescent_UqWReferenceIdeal (hUqWReferenceIdeal := hUqWReferenceIdeal)
    ∧ quiescent_Ukv (hUkv := hUkv)
    ∧ quiescent_UkvIdeal (hUkvIdeal := hUkvIdeal)
    ∧ quiescent_UkvReferenceIdeal (hUkvReferenceIdeal := hUkvReferenceIdeal)
    ∧ quiescent_UkvX (hUkvX := hUkvX)
    ∧ quiescent_UkvXIdeal (hUkvXIdeal := hUkvXIdeal)
    ∧ quiescent_UkvXReferenceIdeal (hUkvXReferenceIdeal := hUkvXReferenceIdeal)
    ∧ quiescent_UkvW (hUkvW := hUkvW)
    ∧ quiescent_UkvWIdeal (hUkvWIdeal := hUkvWIdeal)
    ∧ quiescent_UkvWReferenceIdeal (hUkvWReferenceIdeal := hUkvWReferenceIdeal)
    ∧ quiescent_PleGate (hPleGate := hPleGate)
    ∧ quiescent_PleGateIdeal (hPleGateIdeal := hPleGateIdeal)
    ∧ quiescent_PleGateReferenceIdeal (hPleGateReferenceIdeal := hPleGateReferenceIdeal)
    ∧ quiescent_PleGateX (hPleGateX := hPleGateX)
    ∧ quiescent_PleGateXIdeal (hPleGateXIdeal := hPleGateXIdeal)
    ∧ quiescent_PleGateXReferenceIdeal (hPleGateXReferenceIdeal := hPleGateXReferenceIdeal)
    ∧ quiescent_PleGateW (hPleGateW := hPleGateW)
    ∧ quiescent_PleGateWIdeal (hPleGateWIdeal := hPleGateWIdeal)
    ∧ quiescent_PleGateWReferenceIdeal (hPleGateWReferenceIdeal := hPleGateWReferenceIdeal)
    ∧ quiescent_PleProj (hPleProj := hPleProj)
    ∧ quiescent_PleProjIdeal (hPleProjIdeal := hPleProjIdeal)
    ∧ quiescent_PleProjReferenceIdeal (hPleProjReferenceIdeal := hPleProjReferenceIdeal)
    ∧ quiescent_PleProjW (hPleProjW := hPleProjW)
    ∧ quiescent_PleProjWIdeal (hPleProjWIdeal := hPleProjWIdeal)
    ∧ quiescent_PleProjWReferenceIdeal (hPleProjWReferenceIdeal := hPleProjWReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnF_AttnFIdeal
    ∧ algebraic_AttnFIdeal_AttnFReferenceIdeal_pre_finite_attn (hAttnFIdeal := hAttnFIdeal) (hAttnFReferenceIdeal := hAttnFReferenceIdeal) (hPre_finite_attn := hPre_finite_attn)
    ∧ preserves_Gate_GateIdeal
    ∧ algebraic_GateIdeal_GateReferenceIdeal (hGateIdeal := hGateIdeal) (hGateReferenceIdeal := hGateReferenceIdeal)
    ∧ preserves_GateB_GateBIdeal
    ∧ algebraic_GateBIdeal_GateBReferenceIdeal (hGateBIdeal := hGateBIdeal) (hGateBReferenceIdeal := hGateBReferenceIdeal)
    ∧ preserves_Down_DownIdeal
    ∧ algebraic_DownIdeal_DownReferenceIdeal (hDownIdeal := hDownIdeal) (hDownReferenceIdeal := hDownReferenceIdeal)
    ∧ preserves_DownW_DownWIdeal
    ∧ algebraic_DownWIdeal_DownWReferenceIdeal (hDownWIdeal := hDownWIdeal) (hDownWReferenceIdeal := hDownWReferenceIdeal)
    ∧ preserves_InX_InXIdeal
    ∧ algebraic_InXIdeal_InXReferenceIdeal (hInXIdeal := hInXIdeal) (hInXReferenceIdeal := hInXReferenceIdeal)
    ∧ preserves_InW_InWIdeal
    ∧ algebraic_InWIdeal_InWReferenceIdeal (hInWIdeal := hInWIdeal) (hInWReferenceIdeal := hInWReferenceIdeal)
    ∧ preserves_NormB_NormBIdeal
    ∧ algebraic_NormBIdeal_NormBReferenceIdeal (hNormBIdeal := hNormBIdeal) (hNormBReferenceIdeal := hNormBReferenceIdeal)
    ∧ preserves_ConvB_ConvBIdeal
    ∧ algebraic_ConvBIdeal_ConvBReferenceIdeal (hConvBIdeal := hConvBIdeal) (hConvBReferenceIdeal := hConvBReferenceIdeal)
    ∧ preserves_NormF_NormFIdeal
    ∧ algebraic_NormFIdeal_NormFReferenceIdeal (hNormFIdeal := hNormFIdeal) (hNormFReferenceIdeal := hNormFReferenceIdeal)
    ∧ preserves_PostF_PostFIdeal
    ∧ algebraic_PostFIdeal_PostFReferenceIdeal (hPostFIdeal := hPostFIdeal) (hPostFReferenceIdeal := hPostFReferenceIdeal)
    ∧ preserves_HybIn_HybInIdeal
    ∧ algebraic_HybInIdeal_HybInReferenceIdeal (hHybInIdeal := hHybInIdeal) (hHybInReferenceIdeal := hHybInReferenceIdeal)
    ∧ preserves_HybInX_HybInXIdeal
    ∧ algebraic_HybInXIdeal_HybInXReferenceIdeal (hHybInXIdeal := hHybInXIdeal) (hHybInXReferenceIdeal := hHybInXReferenceIdeal)
    ∧ preserves_HybInW_HybInWIdeal
    ∧ algebraic_HybInWIdeal_HybInWReferenceIdeal (hHybInWIdeal := hHybInWIdeal) (hHybInWReferenceIdeal := hHybInWReferenceIdeal)
    ∧ preserves_Out_OutIdeal
    ∧ algebraic_OutIdeal_OutReferenceIdeal (hOutIdeal := hOutIdeal) (hOutReferenceIdeal := hOutReferenceIdeal)
    ∧ preserves_HybOutX_HybOutXIdeal
    ∧ algebraic_HybOutXIdeal_HybOutXReferenceIdeal (hHybOutXIdeal := hHybOutXIdeal) (hHybOutXReferenceIdeal := hHybOutXReferenceIdeal)
    ∧ preserves_MlaOutX_MlaOutXIdeal
    ∧ algebraic_MlaOutXIdeal_MlaOutXReferenceIdeal (hMlaOutXIdeal := hMlaOutXIdeal) (hMlaOutXReferenceIdeal := hMlaOutXReferenceIdeal)
    ∧ preserves_OutW_OutWIdeal
    ∧ algebraic_OutWIdeal_OutWReferenceIdeal (hOutWIdeal := hOutWIdeal) (hOutWReferenceIdeal := hOutWReferenceIdeal)
    ∧ preserves_MlaIn_MlaInIdeal
    ∧ algebraic_MlaInIdeal_MlaInReferenceIdeal (hMlaInIdeal := hMlaInIdeal) (hMlaInReferenceIdeal := hMlaInReferenceIdeal)
    ∧ preserves_MlaInX_MlaInXIdeal
    ∧ algebraic_MlaInXIdeal_MlaInXReferenceIdeal (hMlaInXIdeal := hMlaInXIdeal) (hMlaInXReferenceIdeal := hMlaInXReferenceIdeal)
    ∧ preserves_MlaInW_MlaInWIdeal
    ∧ algebraic_MlaInWIdeal_MlaInWReferenceIdeal (hMlaInWIdeal := hMlaInWIdeal) (hMlaInWReferenceIdeal := hMlaInWReferenceIdeal)
    ∧ preserves_Uq_UqIdeal
    ∧ algebraic_UqIdeal_UqReferenceIdeal (hUqIdeal := hUqIdeal) (hUqReferenceIdeal := hUqReferenceIdeal)
    ∧ preserves_UqX_UqXIdeal
    ∧ algebraic_UqXIdeal_UqXReferenceIdeal (hUqXIdeal := hUqXIdeal) (hUqXReferenceIdeal := hUqXReferenceIdeal)
    ∧ preserves_UqW_UqWIdeal
    ∧ algebraic_UqWIdeal_UqWReferenceIdeal (hUqWIdeal := hUqWIdeal) (hUqWReferenceIdeal := hUqWReferenceIdeal)
    ∧ preserves_Ukv_UkvIdeal
    ∧ algebraic_UkvIdeal_UkvReferenceIdeal (hUkvIdeal := hUkvIdeal) (hUkvReferenceIdeal := hUkvReferenceIdeal)
    ∧ preserves_UkvX_UkvXIdeal
    ∧ algebraic_UkvXIdeal_UkvXReferenceIdeal (hUkvXIdeal := hUkvXIdeal) (hUkvXReferenceIdeal := hUkvXReferenceIdeal)
    ∧ preserves_UkvW_UkvWIdeal
    ∧ algebraic_UkvWIdeal_UkvWReferenceIdeal (hUkvWIdeal := hUkvWIdeal) (hUkvWReferenceIdeal := hUkvWReferenceIdeal)
    ∧ preserves_PleGate_PleGateIdeal
    ∧ algebraic_PleGateIdeal_PleGateReferenceIdeal (hPleGateIdeal := hPleGateIdeal) (hPleGateReferenceIdeal := hPleGateReferenceIdeal)
    ∧ preserves_PleGateX_PleGateXIdeal
    ∧ algebraic_PleGateXIdeal_PleGateXReferenceIdeal (hPleGateXIdeal := hPleGateXIdeal) (hPleGateXReferenceIdeal := hPleGateXReferenceIdeal)
    ∧ preserves_PleGateW_PleGateWIdeal
    ∧ algebraic_PleGateWIdeal_PleGateWReferenceIdeal (hPleGateWIdeal := hPleGateWIdeal) (hPleGateWReferenceIdeal := hPleGateWReferenceIdeal)
    ∧ preserves_PleProj_PleProjIdeal
    ∧ algebraic_PleProjIdeal_PleProjReferenceIdeal (hPleProjIdeal := hPleProjIdeal) (hPleProjReferenceIdeal := hPleProjReferenceIdeal)
    ∧ preserves_PleProjW_PleProjWIdeal
    ∧ algebraic_PleProjWIdeal_PleProjWReferenceIdeal (hPleProjWIdeal := hPleProjWIdeal) (hPleProjWReferenceIdeal := hPleProjWReferenceIdeal)
-- ==== Pre_finite.lean ====
abbrev S8192x16x192 : Shape := ⟨3, ![8192, 16, 192]⟩
abbrev S8192x16x128 : Shape := ⟨3, ![8192, 16, 128]⟩
abbrev S8192x64 : Shape := ⟨2, ![8192, 64]⟩
abbrev S_ : Shape := ⟨0, ![]⟩

class Facts : Prop where
  bcast_S_S8192x16x192 : S_.BroadcastsInDim S8192x16x192 (![] : Fin 0 → Fin S8192x16x192.rank)
  reducesTo_S8192x16x192_S_d0_1_2 : S8192x16x192.ReducesTo [0, 1, 2] S_
  h_S_ : 0 < S_.numel
  bcast_S_S8192x16x128 : S_.BroadcastsInDim S8192x16x128 (![] : Fin 0 → Fin S8192x16x128.rank)
  reducesTo_S8192x16x128_S_d0_1_2 : S8192x16x128.ReducesTo [0, 1, 2] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg4 : FVec F S8192x16x128 .f32) (main_v13 : IVec S_ 1) (main_v16 : IVec S8192x16x128 1) : IVec S_ 1 :=
  let main_c_5 : IVec S_ 1 := constantI S_ 1 1#1
  let main_v17 : IVec S_ 1 := (fun x v => Host.reduce IntOp.andi x v reducesTo_S8192x16x128_S_d0_1_2 h_S_) main_v16 main_c_5
  let main_v18 : IVec S_ 1 := andi main_v13 main_v17
  let main_v19 : FVec F S8192x16x128 .f32 := Host.absf main_arg4
  let main_cst_6 : FVec F S_ .f32 := constant S_ .f32 0x7F800000#32
  let main_v20 : FVec F S8192x16x128 .f32 := broadcastInDim S8192x16x128 ![] bcast_S_S8192x16x128 main_cst_6
  let main_v21 : IVec S8192x16x128 1 := cmpf .olt main_v19 main_v20
  let main_c_7 : IVec S_ 1 := constantI S_ 1 1#1
  let main_v22 : IVec S_ 1 := (fun x v => Host.reduce IntOp.andi x v reducesTo_S8192x16x128_S_d0_1_2 h_S_) main_v21 main_c_7
  let main_v23 : IVec S_ 1 := andi main_v18 main_v22
  main_v23

def fn {F : FTy → Type} [FloatOps F] (main_arg0 : FVec F S8192x16x192 .f32) (main_arg1 : FVec F S8192x16x128 .f32) (main_arg2 : FVec F S8192x64 .f32) (main_arg3 : FVec F S8192x16x128 .f32) (main_arg4 : FVec F S8192x16x128 .f32) : IVec S_ 1 :=
  let main_v0 : FVec F S8192x16x192 .f32 := Host.absf main_arg0
  let main_cst : FVec F S_ .f32 := constant S_ .f32 0x7F800000#32
  let main_v1 : FVec F S8192x16x192 .f32 := broadcastInDim S8192x16x192 ![] bcast_S_S8192x16x192 main_cst
  let main_v2 : IVec S8192x16x192 1 := cmpf .olt main_v0 main_v1
  let main_c : IVec S_ 1 := constantI S_ 1 1#1
  let main_v3 : IVec S_ 1 := (fun x v => Host.reduce IntOp.andi x v reducesTo_S8192x16x192_S_d0_1_2 h_S_) main_v2 main_c
  let main_v4 : FVec F S8192x16x128 .f32 := Host.absf main_arg1
  let main_cst_0 : FVec F S_ .f32 := constant S_ .f32 0x7F800000#32
  let main_v5 : FVec F S8192x16x128 .f32 := broadcastInDim S8192x16x128 ![] bcast_S_S8192x16x128 main_cst_0
  let main_v6 : IVec S8192x16x128 1 := cmpf .olt main_v4 main_v5
  let main_c_1 : IVec S_ 1 := constantI S_ 1 1#1
  let main_v7 : IVec S_ 1 := (fun x v => Host.reduce IntOp.andi x v reducesTo_S8192x16x128_S_d0_1_2 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x16x128 .f32 := Host.absf main_arg3
  let main_cst_4 : FVec F S_ .f32 := constant S_ .f32 0x7F800000#32
  let main_v15 : FVec F S8192x16x128 .f32 := broadcastInDim S8192x16x128 ![] bcast_S_S8192x16x128 main_cst_4
  let main_v16 : IVec S8192x16x128 1 := cmpf .olt main_v14 main_v15
  fn_part1 (F := F) main_arg4 main_v13 main_v16
-- ==== Pre_finite_attn.lean ====
abbrev S8192x16x192 : Shape := ⟨3, ![8192, 16, 192]⟩
abbrev S8192x16x128 : Shape := ⟨3, ![8192, 16, 128]⟩
abbrev S8192x64 : Shape := ⟨2, ![8192, 64]⟩
abbrev S_ : Shape := ⟨0, ![]⟩

class Facts : Prop where
  bcast_S_S8192x16x192 : S_.BroadcastsInDim S8192x16x192 (![] : Fin 0 → Fin S8192x16x192.rank)
  reducesTo_S8192x16x192_S_d0_1_2 : S8192x16x192.ReducesTo [0, 1, 2] S_
  h_S_ : 0 < S_.numel
  bcast_S_S8192x16x128 : S_.BroadcastsInDim S8192x16x128 (![] : Fin 0 → Fin S8192x16x128.rank)
  reducesTo_S8192x16x128_S_d0_1_2 : S8192x16x128.ReducesTo [0, 1, 2] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v13 : IVec S_ 1) (main_v16 : IVec S8192x16x128 1) : IVec S_ 1 :=
  let main_c_5 : IVec S_ 1 := constantI S_ 1 1#1
  let main_v17 : IVec S_ 1 := (fun x v => Host.reduce IntOp.andi x v reducesTo_S8192x16x128_S_d0_1_2 h_S_) main_v16 main_c_5
  let main_v18 : IVec S_ 1 := andi main_v13 main_v17
  main_v18

def fn {F : FTy → Type} [FloatOps F] (main_arg0 : FVec F S8192x16x192 .f32) (main_arg1 : FVec F S8192x16x128 .f32) (main_arg2 : FVec F S8192x64 .f32) (main_arg3 : FVec F S8192x16x128 .f32) : IVec S_ 1 :=
  let main_v0 : FVec F S8192x16x192 .f32 := Host.absf main_arg0
  let main_cst : FVec F S_ .f32 := constant S_ .f32 0x7F800000#32
  let main_v1 : FVec F S8192x16x192 .f32 := broadcastInDim S8192x16x192 ![] bcast_S_S8192x16x192 main_cst
  let main_v2 : IVec S8192x16x192 1 := cmpf .olt main_v0 main_v1
  let main_c : IVec S_ 1 := constantI S_ 1 1#1
  let main_v3 : IVec S_ 1 := (fun x v => Host.reduce IntOp.andi x v reducesTo_S8192x16x192_S_d0_1_2 h_S_) main_v2 main_c
  let main_v4 : FVec F S8192x16x128 .f32 := Host.absf main_arg1
  let main_cst_0 : FVec F S_ .f32 := constant S_ .f32 0x7F800000#32
  let main_v5 : FVec F S8192x16x128 .f32 := broadcastInDim S8192x16x128 ![] bcast_S_S8192x16x128 main_cst_0
  let main_v6 : IVec S8192x16x128 1 := cmpf .olt main_v4 main_v5
  let main_c_1 : IVec S_ 1 := constantI S_ 1 1#1
  let main_v7 : IVec S_ 1 := (fun x v => Host.reduce IntOp.andi x v reducesTo_S8192x16x128_S_d0_1_2 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x16x128 .f32 := Host.absf main_arg3
  let main_cst_4 : FVec F S_ .f32 := constant S_ .f32 0x7F800000#32
  let main_v15 : FVec F S8192x16x128 .f32 := broadcastInDim S8192x16x128 ![] bcast_S_S8192x16x128 main_cst_4
  let main_v16 : IVec S8192x16x128 1 := cmpf .olt main_v14 main_v15
  fn_part1 (F := F) main_v13 main_v16
-- ==== Kernel.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S8192x16 : Shape := ⟨2, ![8192, 16]⟩
abbrev S16x128x8192 : Shape := ⟨3, ![16, 128, 8192]⟩
abbrev S8192x16x1 : Shape := ⟨3, ![8192, 16, 1]⟩
abbrev S8192x2048 : Shape := ⟨2, ![8192, 2048]⟩
abbrev S8192x16x256 : Shape := ⟨3, ![8192, 16, 256]⟩
abbrev S8192x4096 : Shape := ⟨2, ![8192, 4096]⟩
abbrev S8192x128 : Shape := ⟨2, ![8192, 128]⟩
abbrev S8192x256 : Shape := ⟨2, ![8192, 256]⟩
abbrev S512x128 : Shape := ⟨2, ![512, 128]⟩
abbrev S512x256 : Shape := ⟨2, ![512, 256]⟩
abbrev S512x1 : Shape := ⟨2, ![512, 1]⟩
abbrev S512x512 : Shape := ⟨2, ![512, 512]⟩

abbrev nBuf : Space → Nat
  | .hbm => 83
  | .vmem => 20
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x64, .f32⟩
  | .hbm, ⟨3, _⟩ => ⟨S8192x16x128, .f32⟩
  | .hbm, ⟨4, _⟩ => ⟨S8192x16x128, .f32⟩
  | .hbm, ⟨5, _⟩ => ⟨S8192x1x64, .f32⟩
  | .hbm, ⟨6, _⟩ => ⟨S8192x16x64, .f32⟩
  | .hbm, ⟨7, _⟩ => ⟨S8192x16x192, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S16x8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192, .f32⟩
  | .hbm, ⟨25, _⟩ => ⟨S16x8192x1, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192, .f32⟩
  | .hbm, ⟨32, _⟩ => ⟨S16x8192, .f32⟩
  | .hbm, ⟨33, _⟩ => ⟨S8192x16, .f32⟩
  | .hbm, ⟨34, _⟩ => ⟨S16x8192x1, .f32⟩
  | .hbm, ⟨35, _⟩ => ⟨S16x8192x8192, .f32⟩
  | .hbm, ⟨36, _⟩ => ⟨S16x8192x8192, .f32⟩
  | .hbm, ⟨37, _⟩ => ⟨S16x128x8192, .f32⟩
  | .hbm, ⟨38, _⟩ => ⟨S8192x16x128, .f32⟩
  | .hbm, ⟨39, _⟩ => ⟨S8192x16x128, .f32⟩
  | .hbm, ⟨40, _⟩ => ⟨S_, .f32⟩
  | .hbm, ⟨41, _⟩ => ⟨S8192x16, .f32⟩
  | .hbm, ⟨42, _⟩ => ⟨S8192x16x128, .i32⟩
  | .hbm, ⟨43, _⟩ => ⟨S_, .i32⟩
  | .hbm, ⟨44, _⟩ => ⟨S8192x16x128, .i32⟩
  | .hbm, ⟨45, _⟩ => ⟨S8192x16x128, .i1⟩
  | .hbm, ⟨46, _⟩ => ⟨S8192x16x1, .f32⟩
  | .hbm, ⟨47, _⟩ => ⟨S8192x16x1, .f32⟩
  | .hbm, ⟨48, _⟩ => ⟨S8192x16x128, .f32⟩
  | .hbm, ⟨49, _⟩ => ⟨S8192x16x128, .f32⟩
  | .hbm, ⟨50, _⟩ => ⟨S8192x16x128, .f32⟩
  | .hbm, ⟨51, _⟩ => ⟨S8192x2048, .f32⟩
  | .hbm, ⟨52, _⟩ => ⟨S_, .f32⟩
  | .hbm, ⟨53, _⟩ => ⟨S8192x16x192, .f32⟩
  | .hbm, ⟨54, _⟩ => ⟨S8192x16x192, .f32⟩
  | .hbm, ⟨55, _⟩ => ⟨S_, .i32⟩
  | .hbm, ⟨56, _⟩ => ⟨S_, .f32⟩
  | .hbm, ⟨57, _⟩ => ⟨S8192x16x256, .f32⟩
  | .hbm, ⟨58, _⟩ => ⟨S8192x4096, .f32⟩
  | .hbm, ⟨59, _⟩ => ⟨S8192x4096, .bf16⟩
  | .hbm, ⟨60, _⟩ => ⟨S8192x2048, .f32⟩
  | .hbm, ⟨61, _⟩ => ⟨S8192x2048, .f32⟩
  | .hbm, ⟨62, _⟩ => ⟨S8192x4096, .f32⟩
  | .hbm, ⟨63, _⟩ => ⟨S8192x4096, .bf16⟩
  | .hbm, ⟨64, _⟩ => ⟨S_, .i32⟩
  | .hbm, ⟨65, _⟩ => ⟨S_, .f32⟩
  | .hbm, ⟨66, _⟩ => ⟨S8192x128, .f32⟩
  | .hbm, ⟨67, _⟩ => ⟨S8192x128, .bf16⟩
  | .hbm, ⟨68, _⟩ => ⟨S8192x2048, .f32⟩
  | .hbm, ⟨69, _⟩ => ⟨S8192x2048, .bf16⟩
  | .hbm, ⟨70, _⟩ => ⟨S8192x4096, .f32⟩
  | .hbm, ⟨71, _⟩ => ⟨S8192x2048, .bf16⟩
  | .hbm, ⟨72, _⟩ => ⟨S8192x2048, .bf16⟩
  | .hbm, ⟨73, _⟩ => ⟨S8192x2048, .f32⟩
  | .hbm, ⟨74, _⟩ => ⟨S8192x16x256, .f32⟩
  | .hbm, ⟨75, _⟩ => ⟨S8192x16x192, .f32⟩
  | .hbm, ⟨76, _⟩ => ⟨S_, .f32⟩
  | .hbm, ⟨77, _⟩ => ⟨S8192x16x192, .f32⟩
  | .hbm, ⟨78, _⟩ => ⟨S8192x16x192, .f32⟩
  | .hbm, ⟨79, _⟩ => ⟨S8192x16x128, .bf16⟩
  | .hbm, ⟨80, _⟩ => ⟨S8192x16x128, .f32⟩
  | .hbm, ⟨81, _⟩ => ⟨S8192x16x64, .f32⟩
  | .hbm, ⟨82, _⟩ => ⟨S8192x16x128, .bf16⟩
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .f32⟩
  | .local _ .vmem, ⟨5, _⟩ => ⟨S8192x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S8192x256, .f32⟩
  | .local _ .vmem, ⟨13, _⟩ => ⟨S8192x256, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_v0 : Ref sig .tc := ⟨.hbm, 48, rfl⟩
abbrev main_call1_v1 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_call3_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49_0 : Ref sig .tc := ⟨.hbm, 70, rfl⟩
abbrev main_v49_1 : Ref sig .tc := ⟨.hbm, 71, rfl⟩
abbrev main_v49_2 : Ref sig .tc := ⟨.hbm, 72, rfl⟩
abbrev main_v49_3 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_7 : Index := 0#32
  ![v14.toNat, 0]
def k0_off2 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v17 : Index := Scalar.indexCast v13
  let c0_8 : Index := 0#32
  ![v17.toNat, 0]
def k0_off3 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v20 : Index := Scalar.indexCast v13
  let c0_9 : Index := 0#32
  ![v20.toNat, 0]
def k0_off4 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v23 : Index := Scalar.indexCast v13
  let c64 : Index := 64#32
  ![v23.toNat, 64]
@[reducible] def k0_t1_loop (i : grid0.Coords) : Scf.Loop 32 :=
  let c0_i32_23 : BitVec 32 := 0#32
  let c15_i32 : BitVec 32 := 15#32
  let arg1 : BitVec 32 := BitVec.ofNat 32 (i 1).val
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_25 : BitVec 32 := 1#32
  ⟨c0_i32_23, v74, c1_i32_25⟩
def k0_mult2 (i : grid0.Coords) (k0_t1 : Fin (k0_t1_loop i).trips) : BitVec 32 :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let c0_i32_58 : BitVec 32 := 0#32
  let v129 : BitVec 32 := Scalar.addi v128 c0_i32_58
  let c512_i32_59 : BitVec 32 := 512#32
  let v130 : BitVec 32 := Scalar.muli v129 c512_i32_59
  v130
def k0_off5 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v132 : Index := Scalar.indexCast v131
  let c0_60 : Index := 0#32
  ![v132.toNat, 0]
def k0_off6 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v135 : Index := Scalar.indexCast v131
  let c0_61 : Index := 0#32
  ![v135.toNat, 0]
def k0_off7 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v138 : Index := Scalar.indexCast v131
  let c0_62 : Index := 0#32
  ![v138.toNat, 0]
def k0_off8 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v141 : Index := Scalar.indexCast v131
  let c64_63 : Index := 64#32
  ![v141.toNat, 64]
def k0_mult3 (i : grid0.Coords) (k0_t1 : Fin (k0_t1_loop i).trips) : BitVec 32 :=
  let arg1 : BitVec 32 := BitVec.ofNat 32 (i 1).val
  let c1_i32_71 : BitVec 32 := 1#32
  let v165 : BitVec 32 := Scalar.addi arg1 c1_i32_71
  let c4_i32_72 : BitVec 32 := 4#32
  let c0_i32_23 : BitVec 32 := 0#32
  let c1_i32_25 : BitVec 32 := 1#32
  let arg12 : BitVec 32 := Scf.iv c0_i32_23 c1_i32_25 k0_t1
  let v166 : BitVec 32 := Scalar.muli c4_i32_72 arg12
  let v167 : BitVec 32 := Scalar.addi v165 v166
  let c1_i32_73 : BitVec 32 := 1#32
  let v168 : BitVec 32 := Scalar.addi v167 c1_i32_73
  let c512_i32_74 : BitVec 32 := 512#32
  let v169 : BitVec 32 := Scalar.muli v168 c512_i32_74
  v169
def k0_mult4 (i : grid0.Coords) (k0_t1 : Fin (k0_t1_loop i).trips) : BitVec 32 :=
  let arg1 : BitVec 32 := BitVec.ofNat 32 (i 1).val
  let c1_i32_86 : BitVec 32 := 1#32
  let v204 : BitVec 32 := Scalar.addi arg1 c1_i32_86
  let c4_i32_87 : BitVec 32 := 4#32
  let c0_i32_23 : BitVec 32 := 0#32
  let c1_i32_25 : BitVec 32 := 1#32
  let arg12 : BitVec 32 := Scf.iv c0_i32_23 c1_i32_25 k0_t1
  let v205 : BitVec 32 := Scalar.muli c4_i32_87 arg12
  let v206 : BitVec 32 := Scalar.addi v204 v205
  let c2_i32_88 : BitVec 32 := 2#32
  let v207 : BitVec 32 := Scalar.addi v206 c2_i32_88
  let c512_i32_89 : BitVec 32 := 512#32
  let v208 : BitVec 32 := Scalar.muli v207 c512_i32_89
  v208
def k0_mult5 (i : grid0.Coords) (k0_t1 : Fin (k0_t1_loop i).trips) : BitVec 32 :=
  let arg1 : BitVec 32 := BitVec.ofNat 32 (i 1).val
  let c1_i32_101 : BitVec 32 := 1#32
  let v243 : BitVec 32 := Scalar.addi arg1 c1_i32_101
  let c4_i32_102 : BitVec 32 := 4#32
  let c0_i32_23 : BitVec 32 := 0#32
  let c1_i32_25 : BitVec 32 := 1#32
  let arg12 : BitVec 32 := Scf.iv c0_i32_23 c1_i32_25 k0_t1
  let v244 : BitVec 32 := Scalar.muli c4_i32_102 arg12
  let v245 : BitVec 32 := Scalar.addi v243 v244
  let c3_i32 : BitVec 32 := 3#32
  let v246 : BitVec 32 := Scalar.addi v245 c3_i32
  let c512_i32_103 : BitVec 32 := 512#32
  let v247 : BitVec 32 := Scalar.muli v246 c512_i32_103
  v247
@[reducible] def k0_t2_loop (i : grid0.Coords) : Scf.Loop 32 :=
  let c0_i32_23 : BitVec 32 := 0#32
  let c15_i32 : BitVec 32 := 15#32
  let arg1 : BitVec 32 := BitVec.ofNat 32 (i 1).val
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let v71 : BitVec 32 := Scalar.addi c0_i32_23 v70
  let c1_i32_26 : BitVec 32 := 1#32
  ⟨v74, v71, c1_i32_26⟩
def k0_mult6 (i : grid0.Coords) (k0_t2 : Fin (k0_t2_loop i).trips) : BitVec 32 :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let c0_i32_58 : BitVec 32 := 0#32
  let v129 : BitVec 32 := Scalar.addi v128 c0_i32_58
  let c512_i32_59 : BitVec 32 := 512#32
  let v130 : BitVec 32 := Scalar.muli v129 c512_i32_59
  v130
def k0_off9 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v132 : Index := Scalar.indexCast v131
  let c0_60 : Index := 0#32
  ![v132.toNat, 0]
def k0_off10 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v135 : Index := Scalar.indexCast v131
  let c0_61 : Index := 0#32
  ![v135.toNat, 0]
def k0_off11 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v138 : Index := Scalar.indexCast v131
  let c0_62 : Index := 0#32
  ![v138.toNat, 0]
def k0_off12 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v141 : Index := Scalar.indexCast v131
  let c64_63 : Index := 64#32
  ![v141.toNat, 64]
def k0_mult7 (i : grid0.Coords) (k0_t2 : Fin (k0_t2_loop i).trips) : BitVec 32 :=
  let arg1 : BitVec 32 := BitVec.ofNat 32 (i 1).val
  let c1_i32_71 : BitVec 32 := 1#32
  let v165 : BitVec 32 := Scalar.addi arg1 c1_i32_71
  let c4_i32_72 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v166 : BitVec 32 := Scalar.muli c4_i32_72 arg12
  let v167 : BitVec 32 := Scalar.addi v165 v166
  let c1_i32_73 : BitVec 32 := 1#32
  let v168 : BitVec 32 := Scalar.addi v167 c1_i32_73
  let c512_i32_74 : BitVec 32 := 512#32
  let v169 : BitVec 32 := Scalar.muli v168 c512_i32_74
  v169
def k0_mult8 (i : grid0.Coords) (k0_t2 : Fin (k0_t2_loop i).trips) : BitVec 32 :=
  let arg1 : BitVec 32 := BitVec.ofNat 32 (i 1).val
  let c1_i32_86 : BitVec 32 := 1#32
  let v204 : BitVec 32 := Scalar.addi arg1 c1_i32_86
  let c4_i32_87 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v205 : BitVec 32 := Scalar.muli c4_i32_87 arg12
  let v206 : BitVec 32 := Scalar.addi v204 v205
  let c2_i32_88 : BitVec 32 := 2#32
  let v207 : BitVec 32 := Scalar.addi v206 c2_i32_88
  let c512_i32_89 : BitVec 32 := 512#32
  let v208 : BitVec 32 := Scalar.muli v207 c512_i32_89
  v208
def k0_mult9 (i : grid0.Coords) (k0_t2 : Fin (k0_t2_loop i).trips) : BitVec 32 :=
  let arg1 : BitVec 32 := BitVec.ofNat 32 (i 1).val
  let c1_i32_101 : BitVec 32 := 1#32
  let v243 : BitVec 32 := Scalar.addi arg1 c1_i32_101
  let c4_i32_102 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v244 : BitVec 32 := Scalar.muli c4_i32_102 arg12
  let v245 : BitVec 32 := Scalar.addi v243 v244
  let c3_i32 : BitVec 32 := 3#32
  let v246 : BitVec 32 := Scalar.addi v245 c3_i32
  let c512_i32_103 : BitVec 32 := 512#32
  let v247 : BitVec 32 := Scalar.muli v246 c512_i32_103
  v247
def k0_cond2 (i : grid0.Coords) : BitVec 1 :=
  let c15_i32 : BitVec 32 := 15#32
  let arg1 : BitVec 32 := BitVec.ofNat 32 (i 1).val
  let v52 : BitVec 32 := Scalar.subi c15_i32 arg1
  let c4_i32_27 : BitVec 32 := 4#32
  let c0_i32_28 : BitVec 32 := 0#32
  let v77 : BitVec 1 := Scalar.cmpi .eq c4_i32_27 c0_i32_28
  let c1_i32_29 : BitVec 32 := 1#32
  let v78 : BitVec 32 := Scalar.select v77 c1_i32_29 c4_i32_27
  let v79 : BitVec 32 := Scalar.remsi v52 v78
  let c0_i32_31 : BitVec 32 := 0#32
  let v81 : BitVec 1 := Scalar.cmpi .slt v79 c0_i32_31
  let c0_i32_32 : BitVec 32 := 0#32
  let v82 : BitVec 1 := Scalar.cmpi .slt v78 c0_i32_32
  let v83 : BitVec 1 := Scalar.xori v81 v82
  let c0_i32_30 : BitVec 32 := 0#32
  let v80 : BitVec 1 := Scalar.cmpi .ne v79 c0_i32_30
  let v84 : BitVec 1 := Scalar.andi v83 v80
  let v85 : BitVec 32 := Scalar.addi v79 v78
  let v86 : BitVec 32 := Scalar.select v84 v85 v79
  let c0_i32_33 : BitVec 32 := 0#32
  let v87 : BitVec 1 := Scalar.cmpi .sgt v86 c0_i32_33
  let v88 : BitVec 32 := Scalar.extui v87
  let c0_i32_34 : BitVec 32 := 0#32
  let v89 : BitVec 1 := Scalar.cmpi .ne v88 c0_i32_34
  v89

def k0_mult10 : BitVec 32 :=
  let c7680_i32 : BitVec 32 := 7680#32
  c7680_i32
def k0_cond3 (i : grid0.Coords) : BitVec 1 :=
  let c15_i32 : BitVec 32 := 15#32
  let arg1 : BitVec 32 := BitVec.ofNat 32 (i 1).val
  let v52 : BitVec 32 := Scalar.subi c15_i32 arg1
  let c4_i32_35 : BitVec 32 := 4#32
  let c0_i32_36 : BitVec 32 := 0#32
  let v91 : BitVec 1 := Scalar.cmpi .eq c4_i32_35 c0_i32_36
  let c1_i32_37 : BitVec 32 := 1#32
  let v92 : BitVec 32 := Scalar.select v91 c1_i32_37 c4_i32_35
  let v93 : BitVec 32 := Scalar.remsi v52 v92
  let c0_i32_39 : BitVec 32 := 0#32
  let v95 : BitVec 1 := Scalar.cmpi .slt v93 c0_i32_39
  let c0_i32_40 : BitVec 32 := 0#32
  let v96 : BitVec 1 := Scalar.cmpi .slt v92 c0_i32_40
  let v97 : BitVec 1 := Scalar.xori v95 v96
  let c0_i32_38 : BitVec 32 := 0#32
  let v94 : BitVec 1 := Scalar.cmpi .ne v93 c0_i32_38
  let v98 : BitVec 1 := Scalar.andi v97 v94
  let v99 : BitVec 32 := Scalar.addi v93 v92
  let v100 : BitVec 32 := Scalar.select v98 v99 v93
  let c1_i32_41 : BitVec 32 := 1#32
  let v101 : BitVec 1 := Scalar.cmpi .sgt v100 c1_i32_41
  let v102 : BitVec 32 := Scalar.extui v101
  let c0_i32_42 : BitVec 32 := 0#32
  let v103 : BitVec 1 := Scalar.cmpi .ne v102 c0_i32_42
  v103

def k0_mult11 : BitVec 32 :=
  let c7168_i32 : BitVec 32 := 7168#32
  c7168_i32
def k0_cond4 (i : grid0.Coords) : BitVec 1 :=
  let c15_i32 : BitVec 32 := 15#32
  let arg1 : BitVec 32 := BitVec.ofNat 32 (i 1).val
  let v52 : BitVec 32 := Scalar.subi c15_i32 arg1
  let c4_i32_43 : BitVec 32 := 4#32
  let c0_i32_44 : BitVec 32 := 0#32
  let v105 : BitVec 1 := Scalar.cmpi .eq c4_i32_43 c0_i32_44
  let c1_i32_45 : BitVec 32 := 1#32
  let v106 : BitVec 32 := Scalar.select v105 c1_i32_45 c4_i32_43
  let v107 : BitVec 32 := Scalar.remsi v52 v106
  let c0_i32_47 : BitVec 32 := 0#32
  let v109 : BitVec 1 := Scalar.cmpi .slt v107 c0_i32_47
  let c0_i32_48 : BitVec 32 := 0#32
  let v110 : BitVec 1 := Scalar.cmpi .slt v106 c0_i32_48
  let v111 : BitVec 1 := Scalar.xori v109 v110
  let c0_i32_46 : BitVec 32 := 0#32
  let v108 : BitVec 1 := Scalar.cmpi .ne v107 c0_i32_46
  let v112 : BitVec 1 := Scalar.andi v111 v108
  let v113 : BitVec 32 := Scalar.addi v107 v106
  let v114 : BitVec 32 := Scalar.select v112 v113 v107
  let c2_i32 : BitVec 32 := 2#32
  let v115 : BitVec 1 := Scalar.cmpi .sgt v114 c2_i32
  let v116 : BitVec 32 := Scalar.extui v115
  let c0_i32_49 : BitVec 32 := 0#32
  let v117 : BitVec 1 := Scalar.cmpi .ne v116 c0_i32_49
  v117

def k0_mult12 : BitVec 32 :=
  let c6656_i32 : BitVec 32 := 6656#32
  c6656_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S8192x16 : Shape := ⟨2, ![8192, 16]⟩
abbrev S16x128x8192 : Shape := ⟨3, ![16, 128, 8192]⟩
abbrev S8192x16x1 : Shape := ⟨3, ![8192, 16, 1]⟩
abbrev S8192x2048 : Shape := ⟨2, ![8192, 2048]⟩
abbrev S8192x16x256 : Shape := ⟨3, ![8192, 16, 256]⟩
abbrev S8192x4096 : Shape := ⟨2, ![8192, 4096]⟩
abbrev S8192x128 : Shape := ⟨2, ![8192, 128]⟩
abbrev S8192x256 : Shape := ⟨2, ![8192, 256]⟩
abbrev S512x128 : Shape := ⟨2, ![512, 128]⟩
abbrev S512x256 : Shape := ⟨2, ![512, 256]⟩
abbrev S512x1 : Shape := ⟨2, ![512, 1]⟩
abbrev S512x512 : Shape := ⟨2, ![512, 512]⟩

abbrev nBuf : Space → Nat
  | .hbm => 83
  | .vmem => 20
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x64, .f32⟩
  | .hbm, ⟨3, _⟩ => ⟨S8192x16x128, .f32⟩
  | .hbm, ⟨4, _⟩ => ⟨S8192x16x128, .f32⟩
  | .hbm, ⟨5, _⟩ => ⟨S8192x1x64, .f32⟩
  | .hbm, ⟨6, _⟩ => ⟨S8192x16x64, .f32⟩
  | .hbm, ⟨7, _⟩ => ⟨S8192x16x192, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S16x8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192, .f32⟩
  | .hbm, ⟨25, _⟩ => ⟨S16x8192x1, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192, .f32⟩
  | .hbm, ⟨32, _⟩ => ⟨S16x8192, .f32⟩
  | .hbm, ⟨33, _⟩ => ⟨S8192x16, .f32⟩
  | .hbm, ⟨34, _⟩ => ⟨S16x8192x1, .f32⟩
  | .hbm, ⟨35, _⟩ => ⟨S16x8192x8192, .f32⟩
  | .hbm, ⟨36, _⟩ => ⟨S16x8192x8192, .f32⟩
  | .hbm, ⟨37, _⟩ => ⟨S16x128x8192, .f32⟩
  | .hbm, ⟨38, _⟩ => ⟨S8192x16x128, .f32⟩
  | .hbm, ⟨39, _⟩ => ⟨S8192x16x128, .f32⟩
  | .hbm, ⟨40, _⟩ => ⟨S_, .f32⟩
  | .hbm, ⟨41, _⟩ => ⟨S8192x16, .f32⟩
  | .hbm, ⟨42, _⟩ => ⟨S8192x16x128, .i32⟩
  | .hbm, ⟨43, _⟩ => ⟨S_, .i32⟩
  | .hbm, ⟨44, _⟩ => ⟨S8192x16x128, .i32⟩
  | .hbm, ⟨45, _⟩ => ⟨S8192x16x128, .i1⟩
  | .hbm, ⟨46, _⟩ => ⟨S8192x16x1, .f32⟩
  | .hbm, ⟨47, _⟩ => ⟨S8192x16x1, .f32⟩
  | .hbm, ⟨48, _⟩ => ⟨S8192x16x128, .f32⟩
  | .hbm, ⟨49, _⟩ => ⟨S8192x16x128, .f32⟩
  | .hbm, ⟨50, _⟩ => ⟨S8192x16x128, .f32⟩
  | .hbm, ⟨51, _⟩ => ⟨S8192x2048, .f32⟩
  | .hbm, ⟨52, _⟩ => ⟨S_, .f32⟩
  | .hbm, ⟨53, _⟩ => ⟨S8192x16x192, .f32⟩
  | .hbm, ⟨54, _⟩ => ⟨S8192x16x192, .f32⟩
  | .hbm, ⟨55, _⟩ => ⟨S_, .i32⟩
  | .hbm, ⟨56, _⟩ => ⟨S_, .f32⟩
  | .hbm, ⟨57, _⟩ => ⟨S8192x16x256, .f32⟩
  | .hbm, ⟨58, _⟩ => ⟨S8192x4096, .f32⟩
  | .hbm, ⟨59, _⟩ => ⟨S8192x4096, .bf16⟩
  | .hbm, ⟨60, _⟩ => ⟨S8192x2048, .f32⟩
  | .hbm, ⟨61, _⟩ => ⟨S8192x2048, .f32⟩
  | .hbm, ⟨62, _⟩ => ⟨S8192x4096, .f32⟩
  | .hbm, ⟨63, _⟩ => ⟨S8192x4096, .bf16⟩
  | .hbm, ⟨64, _⟩ => ⟨S_, .i32⟩
  | .hbm, ⟨65, _⟩ => ⟨S_, .f32⟩
  | .hbm, ⟨66, _⟩ => ⟨S8192x128, .f32⟩
  | .hbm, ⟨67, _⟩ => ⟨S8192x128, .bf16⟩
  | .hbm, ⟨68, _⟩ => ⟨S8192x2048, .f32⟩
  | .hbm, ⟨69, _⟩ => ⟨S8192x2048, .bf16⟩
  | .hbm, ⟨70, _⟩ => ⟨S8192x4096, .f32⟩
  | .hbm, ⟨71, _⟩ => ⟨S8192x2048, .bf16⟩
  | .hbm, ⟨72, _⟩ => ⟨S8192x2048, .bf16⟩
  | .hbm, ⟨73, _⟩ => ⟨S8192x2048, .f32⟩
  | .hbm, ⟨74, _⟩ => ⟨S8192x16x256, .f32⟩
  | .hbm, ⟨75, _⟩ => ⟨S8192x16x192, .f32⟩
  | .hbm, ⟨76, _⟩ => ⟨S_, .f32⟩
  | .hbm, ⟨77, _⟩ => ⟨S8192x16x192, .f32⟩
  | .hbm, ⟨78, _⟩ => ⟨S8192x16x192, .f32⟩
  | .hbm, ⟨79, _⟩ => ⟨S8192x16x128, .bf16⟩
  | .hbm, ⟨80, _⟩ => ⟨S8192x16x128, .f32⟩
  | .hbm, ⟨81, _⟩ => ⟨S8192x16x64, .f32⟩
  | .hbm, ⟨82, _⟩ => ⟨S8192x16x128, .bf16⟩
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .f32⟩
  | .local _ .vmem, ⟨5, _⟩ => ⟨S8192x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S8192x256, .f32⟩
  | .local _ .vmem, ⟨13, _⟩ => ⟨S8192x256, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_v0 : Ref sig .tc := ⟨.hbm, 48, rfl⟩
abbrev main_call1_v1 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_call3_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49_0 : Ref sig .tc := ⟨.hbm, 70, rfl⟩
abbrev main_v49_1 : Ref sig .tc := ⟨.hbm, 71, rfl⟩
abbrev main_v49_2 : Ref sig .tc := ⟨.hbm, 72, rfl⟩
abbrev main_v49_3 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F] [Named F]

def κ : String → Option EReal := fun
  | "mask" => some ⊥
  | _ => none

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_7 : Index := 0#32
  ![v14.toNat, 0]
def k0_off2 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v17 : Index := Scalar.indexCast v13
  let c0_8 : Index := 0#32
  ![v17.toNat, 0]
def k0_off3 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v20 : Index := Scalar.indexCast v13
  let c0_9 : Index := 0#32
  ![v20.toNat, 0]
def k0_off4 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v23 : Index := Scalar.indexCast v13
  let c64 : Index := 64#32
  ![v23.toNat, 64]
@[reducible] def k0_t1_loop (i : grid0.Coords) : Scf.Loop 32 :=
  let c0_i32_23 : BitVec 32 := 0#32
  let c15_i32 : BitVec 32 := 15#32
  let arg1 : BitVec 32 := BitVec.ofNat 32 (i 1).val
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_25 : BitVec 32 := 1#32
  ⟨c0_i32_23, v74, c1_i32_25⟩
def k0_mult2 (i : grid0.Coords) (k0_t1 : Fin (k0_t1_loop i).trips) : BitVec 32 :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let c0_i32_58 : BitVec 32 := 0#32
  let v129 : BitVec 32 := Scalar.addi v128 c0_i32_58
  let c512_i32_59 : BitVec 32 := 512#32
  let v130 : BitVec 32 := Scalar.muli v129 c512_i32_59
  v130
def k0_off5 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v132 : Index := Scalar.indexCast v131
  let c0_60 : Index := 0#32
  ![v132.toNat, 0]
def k0_off6 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v135 : Index := Scalar.indexCast v131
  let c0_61 : Index := 0#32
  ![v135.toNat, 0]
def k0_off7 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v138 : Index := Scalar.indexCast v131
  let c0_62 : Index := 0#32
  ![v138.toNat, 0]
def k0_off8 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v141 : Index := Scalar.indexCast v131
  let c64_63 : Index := 64#32
  ![v141.toNat, 64]
def k0_mult3 (i : grid0.Coords) (k0_t1 : Fin (k0_t1_loop i).trips) : BitVec 32 :=
  let arg1 : BitVec 32 := BitVec.ofNat 32 (i 1).val
  let c1_i32_71 : BitVec 32 := 1#32
  let v165 : BitVec 32 := Scalar.addi arg1 c1_i32_71
  let c4_i32_72 : BitVec 32 := 4#32
  let c0_i32_23 : BitVec 32 := 0#32
  let c1_i32_25 : BitVec 32 := 1#32
  let arg12 : BitVec 32 := Scf.iv c0_i32_23 c1_i32_25 k0_t1
  let v166 : BitVec 32 := Scalar.muli c4_i32_72 arg12
  let v167 : BitVec 32 := Scalar.addi v165 v166
  let c1_i32_73 : BitVec 32 := 1#32
  let v168 : BitVec 32 := Scalar.addi v167 c1_i32_73
  let c512_i32_74 : BitVec 32 := 512#32
  let v169 : BitVec 32 := Scalar.muli v168 c512_i32_74
  v169
def k0_mult4 (i : grid0.Coords) (k0_t1 : Fin (k0_t1_loop i).trips) : BitVec 32 :=
  let arg1 : BitVec 32 := BitVec.ofNat 32 (i 1).val
  let c1_i32_86 : BitVec 32 := 1#32
  let v204 : BitVec 32 := Scalar.addi arg1 c1_i32_86
  let c4_i32_87 : BitVec 32 := 4#32
  let c0_i32_23 : BitVec 32 := 0#32
  let c1_i32_25 : BitVec 32 := 1#32
  let arg12 : BitVec 32 := Scf.iv c0_i32_23 c1_i32_25 k0_t1
  let v205 : BitVec 32 := Scalar.muli c4_i32_87 arg12
  let v206 : BitVec 32 := Scalar.addi v204 v205
  let c2_i32_88 : BitVec 32 := 2#32
  let v207 : BitVec 32 := Scalar.addi v206 c2_i32_88
  let c512_i32_89 : BitVec 32 := 512#32
  let v208 : BitVec 32 := Scalar.muli v207 c512_i32_89
  v208
def k0_mult5 (i : grid0.Coords) (k0_t1 : Fin (k0_t1_loop i).trips) : BitVec 32 :=
  let arg1 : BitVec 32 := BitVec.ofNat 32 (i 1).val
  let c1_i32_101 : BitVec 32 := 1#32
  let v243 : BitVec 32 := Scalar.addi arg1 c1_i32_101
  let c4_i32_102 : BitVec 32 := 4#32
  let c0_i32_23 : BitVec 32 := 0#32
  let c1_i32_25 : BitVec 32 := 1#32
  let arg12 : BitVec 32 := Scf.iv c0_i32_23 c1_i32_25 k0_t1
  let v244 : BitVec 32 := Scalar.muli c4_i32_102 arg12
  let v245 : BitVec 32 := Scalar.addi v243 v244
  let c3_i32 : BitVec 32 := 3#32
  let v246 : BitVec 32 := Scalar.addi v245 c3_i32
  let c512_i32_103 : BitVec 32 := 512#32
  let v247 : BitVec 32 := Scalar.muli v246 c512_i32_103
  v247
@[reducible] def k0_t2_loop (i : grid0.Coords) : Scf.Loop 32 :=
  let c0_i32_23 : BitVec 32 := 0#32
  let c15_i32 : BitVec 32 := 15#32
  let arg1 : BitVec 32 := BitVec.ofNat 32 (i 1).val
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let v71 : BitVec 32 := Scalar.addi c0_i32_23 v70
  let c1_i32_26 : BitVec 32 := 1#32
  ⟨v74, v71, c1_i32_26⟩
def k0_mult6 (i : grid0.Coords) (k0_t2 : Fin (k0_t2_loop i).trips) : BitVec 32 :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let c0_i32_58 : BitVec 32 := 0#32
  let v129 : BitVec 32 := Scalar.addi v128 c0_i32_58
  let c512_i32_59 : BitVec 32 := 512#32
  let v130 : BitVec 32 := Scalar.muli v129 c512_i32_59
  v130
def k0_off9 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v132 : Index := Scalar.indexCast v131
  let c0_60 : Index := 0#32
  ![v132.toNat, 0]
def k0_off10 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v135 : Index := Scalar.indexCast v131
  let c0_61 : Index := 0#32
  ![v135.toNat, 0]
def k0_off11 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v138 : Index := Scalar.indexCast v131
  let c0_62 : Index := 0#32
  ![v138.toNat, 0]
def k0_off12 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v141 : Index := Scalar.indexCast v131
  let c64_63 : Index := 64#32
  ![v141.toNat, 64]
def k0_mult7 (i : grid0.Coords) (k0_t2 : Fin (k0_t2_loop i).trips) : BitVec 32 :=
  let arg1 : BitVec 32 := BitVec.ofNat 32 (i 1).val
  let c1_i32_71 : BitVec 32 := 1#32
  let v165 : BitVec 32 := Scalar.addi arg1 c1_i32_71
  let c4_i32_72 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v166 : BitVec 32 := Scalar.muli c4_i32_72 arg12
  let v167 : BitVec 32 := Scalar.addi v165 v166
  let c1_i32_73 : BitVec 32 := 1#32
  let v168 : BitVec 32 := Scalar.addi v167 c1_i32_73
  let c512_i32_74 : BitVec 32 := 512#32
  let v169 : BitVec 32 := Scalar.muli v168 c512_i32_74
  v169
def k0_mult8 (i : grid0.Coords) (k0_t2 : Fin (k0_t2_loop i).trips) : BitVec 32 :=
  let arg1 : BitVec 32 := BitVec.ofNat 32 (i 1).val
  let c1_i32_86 : BitVec 32 := 1#32
  let v204 : BitVec 32 := Scalar.addi arg1 c1_i32_86
  let c4_i32_87 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v205 : BitVec 32 := Scalar.muli c4_i32_87 arg12
  let v206 : BitVec 32 := Scalar.addi v204 v205
  let c2_i32_88 : BitVec 32 := 2#32
  let v207 : BitVec 32 := Scalar.addi v206 c2_i32_88
  let c512_i32_89 : BitVec 32 := 512#32
  let v208 : BitVec 32 := Scalar.muli v207 c512_i32_89
  v208
def k0_mult9 (i : grid0.Coords) (k0_t2 : Fin (k0_t2_loop i).trips) : BitVec 32 :=
  let arg1 : BitVec 32 := BitVec.ofNat 32 (i 1).val
  let c1_i32_101 : BitVec 32 := 1#32
  let v243 : BitVec 32 := Scalar.addi arg1 c1_i32_101
  let c4_i32_102 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v244 : BitVec 32 := Scalar.muli c4_i32_102 arg12
  let v245 : BitVec 32 := Scalar.addi v243 v244
  let c3_i32 : BitVec 32 := 3#32
  let v246 : BitVec 32 := Scalar.addi v245 c3_i32
  let c512_i32_103 : BitVec 32 := 512#32
  let v247 : BitVec 32 := Scalar.muli v246 c512_i32_103
  v247
def k0_cond2 (i : grid0.Coords) : BitVec 1 :=
  let c15_i32 : BitVec 32 := 15#32
  let arg1 : BitVec 32 := BitVec.ofNat 32 (i 1).val
  let v52 : BitVec 32 := Scalar.subi c15_i32 arg1
  let c4_i32_27 : BitVec 32 := 4#32
  let c0_i32_28 : BitVec 32 := 0#32
  let v77 : BitVec 1 := Scalar.cmpi .eq c4_i32_27 c0_i32_28
  let c1_i32_29 : BitVec 32 := 1#32
  let v78 : BitVec 32 := Scalar.select v77 c1_i32_29 c4_i32_27
  let v79 : BitVec 32 := Scalar.remsi v52 v78
  let c0_i32_31 : BitVec 32 := 0#32
  let v81 : BitVec 1 := Scalar.cmpi .slt v79 c0_i32_31
  let c0_i32_32 : BitVec 32 := 0#32
  let v82 : BitVec 1 := Scalar.cmpi .slt v78 c0_i32_32
  let v83 : BitVec 1 := Scalar.xori v81 v82
  let c0_i32_30 : BitVec 32 := 0#32
  let v80 : BitVec 1 := Scalar.cmpi .ne v79 c0_i32_30
  let v84 : BitVec 1 := Scalar.andi v83 v80
  let v85 : BitVec 32 := Scalar.addi v79 v78
  let v86 : BitVec 32 := Scalar.select v84 v85 v79
  let c0_i32_33 : BitVec 32 := 0#32
  let v87 : BitVec 1 := Scalar.cmpi .sgt v86 c0_i32_33
  let v88 : BitVec 32 := Scalar.extui v87
  let c0_i32_34 : BitVec 32 := 0#32
  let v89 : BitVec 1 := Scalar.cmpi .ne v88 c0_i32_34
  v89

def k0_mult10 : BitVec 32 :=
  let c7680_i32 : BitVec 32 := 7680#32
  c7680_i32
def k0_cond3 (i : grid0.Coords) : BitVec 1 :=
  let c15_i32 : BitVec 32 := 15#32
  let arg1 : BitVec 32 := BitVec.ofNat 32 (i 1).val
  let v52 : BitVec 32 := Scalar.subi c15_i32 arg1
  let c4_i32_35 : BitVec 32 := 4#32
  let c0_i32_36 : BitVec 32 := 0#32
  let v91 : BitVec 1 := Scalar.cmpi .eq c4_i32_35 c0_i32_36
  let c1_i32_37 : BitVec 32 := 1#32
  let v92 : BitVec 32 := Scalar.select v91 c1_i32_37 c4_i32_35
  let v93 : BitVec 32 := Scalar.remsi v52 v92
  let c0_i32_39 : BitVec 32 := 0#32
  let v95 : BitVec 1 := Scalar.cmpi .slt v93 c0_i32_39
  let c0_i32_40 : BitVec 32 := 0#32
  let v96 : BitVec 1 := Scalar.cmpi .slt v92 c0_i32_40
  let v97 : BitVec 1 := Scalar.xori v95 v96
  let c0_i32_38 : BitVec 32 := 0#32
  let v94 : BitVec 1 := Scalar.cmpi .ne v93 c0_i32_38
  let v98 : BitVec 1 := Scalar.andi v97 v94
  let v99 : BitVec 32 := Scalar.addi v93 v92
  let v100 : BitVec 32 := Scalar.select v98 v99 v93
  let c1_i32_41 : BitVec 32 := 1#32
  let v101 : BitVec 1 := Scalar.cmpi .sgt v100 c1_i32_41
  let v102 : BitVec 32 := Scalar.extui v101
  let c0_i32_42 : BitVec 32 := 0#32
  let v103 : BitVec 1 := Scalar.cmpi .ne v102 c0_i32_42
  v103

def k0_mult11 : BitVec 32 :=
  let c7168_i32 : BitVec 32 := 7168#32
  c7168_i32
def k0_cond4 (i : grid0.Coords) : BitVec 1 :=
  let c15_i32 : BitVec 32 := 15#32
  let arg1 : BitVec 32 := BitVec.ofNat 32 (i 1).val
  let v52 : BitVec 32 := Scalar.subi c15_i32 arg1
  let c4_i32_43 : BitVec 32 := 4#32
  let c0_i32_44 : BitVec 32 := 0#32
  let v105 : BitVec 1 := Scalar.cmpi .eq c4_i32_43 c0_i32_44
  let c1_i32_45 : BitVec 32 := 1#32
  let v106 : BitVec 32 := Scalar.select v105 c1_i32_45 c4_i32_43
  let v107 : BitVec 32 := Scalar.remsi v52 v106
  let c0_i32_47 : BitVec 32 := 0#32
  let v109 : BitVec 1 := Scalar.cmpi .slt v107 c0_i32_47
  let c0_i32_48 : BitVec 32 := 0#32
  let v110 : BitVec 1 := Scalar.cmpi .slt v106 c0_i32_48
  let v111 : BitVec 1 := Scalar.xori v109 v110
  let c0_i32_46 : BitVec 32 := 0#32
  let v108 : BitVec 1 := Scalar.cmpi .ne v107 c0_i32_46
  let v112 : BitVec 1 := Scalar.andi v111 v108
  let v113 : BitVec 32 := Scalar.addi v107 v106
  let v114 : BitVec 32 := Scalar.select v112 v113 v107
  let c2_i32 : BitVec 32 := 2#32
  let v115 : BitVec 1 := Scalar.cmpi .sgt v114 c2_i32
  let v116 : BitVec 32 := Scalar.extui v115
  let c0_i32_49 : BitVec 32 := 0#32
  let v117 : BitVec 1 := Scalar.cmpi .ne v116 c0_i32_49
  v117

def k0_mult12 : BitVec 32 :=
  let c6656_i32 : BitVec 32 := 6656#32
  c6656_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x192 : Shape := ⟨3, ![16, 8192, 192]⟩

abbrev nBuf : Space → Nat
  | .hbm => 97
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x64, .f32⟩
  | .hbm, ⟨3, _⟩ => ⟨S8192x16x128, .f32⟩
  | .hbm, ⟨4, _⟩ => ⟨S8192x16x128, .f32⟩
  | .hbm, ⟨5, _⟩ => ⟨S8192x1x64, .f32⟩
  | .hbm, ⟨6, _⟩ => ⟨S8192x16x64, .f32⟩
  | .hbm, ⟨7, _⟩ => ⟨S8192x16x192, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S16x8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .i1⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S_, .f32⟩
  | .hbm, ⟨34, _⟩ => ⟨S16x8192, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .i1⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S_, .f32⟩
  | .hbm, ⟨45, _⟩ => ⟨S16x8192, .f32⟩
  | .hbm, ⟨46, _⟩ => ⟨S_, .f32⟩
  | .hbm, ⟨47, _⟩ => ⟨S16x8192, .f32⟩
  | .hbm, ⟨48, _⟩ => ⟨S16x8192, .f32⟩
  | .hbm, ⟨49, _⟩ => ⟨S16x8192, .f32⟩
  | .hbm, ⟨50, _⟩ => ⟨S16x8192x1, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S_, .f32⟩
  | .hbm, ⟨55, _⟩ => ⟨S16x8192, .f32⟩
  | .hbm, ⟨56, _⟩ => ⟨S16x8192x1, .f32⟩
  | .hbm, ⟨57, _⟩ => ⟨S16x8192x8192, .f32⟩
  | .hbm, ⟨58, _⟩ => ⟨S16x8192x8192, .f32⟩
  | .hbm, ⟨59, _⟩ => ⟨S16x8192x1, .f32⟩
  | .hbm, ⟨60, _⟩ => ⟨S_, .f32⟩
  | .hbm, ⟨61, _⟩ => ⟨S16x8192x1, .f32⟩
  | .hbm, ⟨62, _⟩ => ⟨S16x8192x1, .f32⟩
  | .hbm, ⟨63, _⟩ => ⟨S16x128x8192, .f32⟩
  | .hbm, ⟨64, _⟩ => ⟨S8192x16x128, .f32⟩
  | .hbm, ⟨65, _⟩ => ⟨S16x128x8192, .f32⟩
  | .hbm, ⟨66, _⟩ => ⟨S16x8192x8192, .f32⟩
  | .hbm, ⟨67, _⟩ => ⟨S16x128x8192, .f32⟩
  | .hbm, ⟨68, _⟩ => ⟨S8192x16x128, .f32⟩
  | .hbm, ⟨69, _⟩ => ⟨S16x8192x8192, .f32⟩
  | .hbm, ⟨70, _⟩ => ⟨S16x8192x8192, .f32⟩
  | .hbm, ⟨71, _⟩ => ⟨S16x8192x8192, .f32⟩
  | .hbm, ⟨72, _⟩ => ⟨S_, .f32⟩
  | .hbm, ⟨73, _⟩ => ⟨S16x8192, .f32⟩
  | .hbm, ⟨74, _⟩ => ⟨S16x8192x1, .f32⟩
  | .hbm, ⟨75, _⟩ => ⟨S16x8192x1, .f32⟩
  | .hbm, ⟨76, _⟩ => ⟨S16x8192x8192, .f32⟩
  | .hbm, ⟨77, _⟩ => ⟨S16x8192x8192, .f32⟩
  | .hbm, ⟨78, _⟩ => ⟨S_, .f32⟩
  | .hbm, ⟨79, _⟩ => ⟨S16x8192, .f32⟩
  | .hbm, ⟨80, _⟩ => ⟨S16x8192x8192, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192x8192, .f32⟩
  | .hbm, ⟨88, _⟩ => ⟨S16x8192x8192, .f32⟩
  | .hbm, ⟨89, _⟩ => ⟨S16x8192x192, .f32⟩
  | .hbm, ⟨90, _⟩ => ⟨S8192x16x192, .f32⟩
  | .hbm, ⟨91, _⟩ => ⟨S16x8192x192, .f32⟩
  | .hbm, ⟨92, _⟩ => ⟨S8192x16x192, .f32⟩
  | .hbm, ⟨93, _⟩ => ⟨S8192x16x128, .f32⟩
  | .hbm, ⟨94, _⟩ => ⟨S8192x16x128, .bf16⟩
  | .hbm, ⟨95, _⟩ => ⟨S8192x16x64, .f32⟩
  | .hbm, ⟨96, _⟩ => ⟨S8192x16x128, .bf16⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]
-- ==== AttnF.lean ====
abbrev S8192x16x192 : Shape := ⟨3, ![8192, 16, 192]⟩
abbrev S8192x16x128 : Shape := ⟨3, ![8192, 16, 128]⟩
abbrev S8192x64 : Shape := ⟨2, ![8192, 64]⟩
abbrev S_ : Shape := ⟨0, ![]⟩
abbrev S8192x16x256 : Shape := ⟨3, ![8192, 16, 256]⟩
abbrev S8192x4096 : Shape := ⟨2, ![8192, 4096]⟩
abbrev S8192x2048 : Shape := ⟨2, ![8192, 2048]⟩
abbrev S8192x128 : Shape := ⟨2, ![8192, 128]⟩
abbrev S512x1024 : Shape := ⟨2, ![512, 1024]⟩
abbrev S8192x512 : Shape := ⟨2, ![8192, 512]⟩
abbrev S512x512 : Shape := ⟨2, ![512, 512]⟩
abbrev S512x256 : Shape := ⟨2, ![512, 256]⟩
abbrev S512x1 : Shape := ⟨2, ![512, 1]⟩
abbrev S512x128 : Shape := ⟨2, ![512, 128]⟩
abbrev S512 : Shape := ⟨1, ![512]⟩

abbrev nBuf : Space → Nat
  | .hbm => 22
  | .vmem => 11
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x64, .f32⟩
  | .hbm, ⟨3, _⟩ => ⟨S8192x16x128, .f32⟩
  | .hbm, ⟨4, _⟩ => ⟨S_, .f32⟩
  | .hbm, ⟨5, _⟩ => ⟨S8192x16x192, .f32⟩
  | .hbm, ⟨6, _⟩ => ⟨S8192x16x192, .f32⟩
  | .hbm, ⟨7, _⟩ => ⟨S_, .i32⟩
  | .hbm, ⟨8, _⟩ => ⟨S_, .f32⟩
  | .hbm, ⟨9, _⟩ => ⟨S8192x16x256, .f32⟩
  | .hbm, ⟨10, _⟩ => ⟨S8192x4096, .f32⟩
  | .hbm, ⟨11, _⟩ => ⟨S8192x4096, .bf16⟩
  | .hbm, ⟨12, _⟩ => ⟨S8192x2048, .f32⟩
  | .hbm, ⟨13, _⟩ => ⟨S8192x2048, .f32⟩
  | .hbm, ⟨14, _⟩ => ⟨S8192x4096, .f32⟩
  | .hbm, ⟨15, _⟩ => ⟨S8192x4096, .bf16⟩
  | .hbm, ⟨16, _⟩ => ⟨S_, .i32⟩
  | .hbm, ⟨17, _⟩ => ⟨S_, .f32⟩
  | .hbm, ⟨18, _⟩ => ⟨S8192x128, .f32⟩
  | .hbm, ⟨19, _⟩ => ⟨S8192x128, .bf16⟩
  | .hbm, ⟨20, _⟩ => ⟨S8192x2048, .bf16⟩
  | .hbm, ⟨21, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S8192x128, .bf16⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_6 : BitVec 32 := 1#32
  ⟨c0_i32, v15, c1_i32_6⟩
def k0_mult1 (i : grid0.Coords) (k0_t1 : Fin (k0_t1_loop i).trips) : BitVec 32 :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  v179
def k0_off1 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v181 : Index := Scalar.indexCast v180
  let c0_52 : Index := 0#32
  ![v181.toNat, 0]
def k0_off2 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v184 : Index := Scalar.indexCast v180
  let c0_53 : Index := 0#32
  ![v184.toNat, 0]
def k0_off3 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v209 : Index := Scalar.indexCast v180
  let c128_59 : Index := 128#32
  ![v209.toNat, 128]
def k0_off4 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v234 : Index := Scalar.indexCast v180
  let c256_65 : Index := 256#32
  ![v234.toNat, 256]
def k0_off5 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v259 : Index := Scalar.indexCast v180
  let c384_71 : Index := 384#32
  ![v259.toNat, 384]
@[reducible] def k0_t2_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_7 : BitVec 32 := 1#32
  ⟨v15, v12, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  v179
def k0_off6 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v181 : Index := Scalar.indexCast v180
  let c0_52 : Index := 0#32
  ![v181.toNat, 0]
def k0_off7 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v184 : Index := Scalar.indexCast v180
  let c0_53 : Index := 0#32
  ![v184.toNat, 0]
def k0_off8 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v209 : Index := Scalar.indexCast v180
  let c128_59 : Index := 128#32
  ![v209.toNat, 128]
def k0_off9 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v234 : Index := Scalar.indexCast v180
  let c256_65 : Index := 256#32
  ![v234.toNat, 256]
def k0_off10 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v259 : Index := Scalar.indexCast v180
  let c384_71 : Index := 384#32
  ![v259.toNat, 384]
def k0_mult3 (i : grid0.Coords) : BitVec 32 :=
  let arg1 : BitVec 32 := BitVec.ofNat 32 (i 1).val
  let c512_i32 : BitVec 32 := 512#32
  let v18 : BitVec 32 := Scalar.muli arg1 c512_i32
  v18
def k0_off11 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  let c0_8 : Index := 0#32
  ![v20.toNat, 0]
def k0_off12 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v23 : Index := Scalar.indexCast v19
  let c0_9 : Index := 0#32
  ![v23.toNat, 0]
def k0_off13 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v53 : Index := Scalar.indexCast v19
  let c128 : Index := 128#32
  ![v53.toNat, 128]
def k0_off14 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v83 : Index := Scalar.indexCast v19
  let c256_22 : Index := 256#32
  ![v83.toNat, 256]
def k0_off15 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v113 : Index := Scalar.indexCast v19
  let c384 : Index := 384#32
  ![v113.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFIdeal.lean ====
variable {F : FTy → Type} [FloatOps F] [Named F]
def κ : String → Option EReal := fun
  | "mask" => some ⊥
  | _ => none
-- ==== AttnFReferenceIdeal.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16 : Shape := ⟨2, ![8192, 16]⟩
abbrev S8192x16x1 : Shape := ⟨3, ![8192, 16, 1]⟩
abbrev S8192x2048 : Shape := ⟨2, ![8192, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x64, .f32⟩
  | .hbm, ⟨3, _⟩ => ⟨S8192x16x128, .f32⟩
  | .hbm, ⟨4, _⟩ => ⟨S8192x1x64, .f32⟩
  | .hbm, ⟨5, _⟩ => ⟨S8192x16x64, .f32⟩
  | .hbm, ⟨6, _⟩ => ⟨S8192x16x192, .f32⟩
  | .hbm, ⟨7, _⟩ => ⟨S16x8192x8192, .f32⟩
  | .hbm, ⟨8, _⟩ => ⟨S_, .f32⟩
  | .hbm, ⟨9, _⟩ => ⟨S16x8192x8192, .f32⟩
  | .hbm, ⟨10, _⟩ => ⟨S16x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S16x8192x8192, .i1⟩
  | .hbm, ⟨20, _⟩ => ⟨S16x8192x8192, .f32⟩
  | .hbm, ⟨21, _⟩ => ⟨S16x8192x8192, .f32⟩
  | .hbm, ⟨22, _⟩ => ⟨S_, .f32⟩
  | .hbm, ⟨23, _⟩ => ⟨S16x8192, .f32⟩
  | .hbm, ⟨24, _⟩ => ⟨S_, .f32⟩
  | .hbm, ⟨25, _⟩ => ⟨S16x8192, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .f32⟩
  | .hbm, ⟨36, _⟩ => ⟨S16x128x8192, .f32⟩
  | .hbm, ⟨37, _⟩ => ⟨S8192x16x128, .f32⟩
  | .hbm, ⟨38, _⟩ => ⟨S8192x16x128, .bf16⟩
  | .hbm, ⟨39, _⟩ => ⟨S_, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S16x8192, .f32⟩
  | .hbm, ⟨47, _⟩ => ⟨S16x8192, .f32⟩
  | .hbm, ⟨48, _⟩ => ⟨S16x8192, .f32⟩
  | .hbm, ⟨49, _⟩ => ⟨S8192x16, .f32⟩
  | .hbm, ⟨50, _⟩ => ⟨S8192x16x1, .f32⟩
  | .hbm, ⟨51, _⟩ => ⟨S8192x16x128, .f32⟩
  | .hbm, ⟨52, _⟩ => ⟨S8192x2048, .bf16⟩
  | .hbm, ⟨53, _⟩ => ⟨S8192x2048, .f32⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Gate.lean ====
abbrev S8192x1024 : Shape := ⟨2, ![8192, 1024]⟩
abbrev S1024x5632 : Shape := ⟨2, ![1024, 5632]⟩
abbrev S1x1024x5632 : Shape := ⟨3, ![1, 1024, 5632]⟩
abbrev S2x8192x2816 : Shape := ⟨3, ![2, 8192, 2816]⟩
abbrev S8192x2816 : Shape := ⟨2, ![8192, 2816]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S1024x1408 : Shape := ⟨2, ![1024, 1408]⟩
abbrev S1x512x1408 : Shape := ⟨3, ![1, 512, 1408]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S1x1024x5632, .bf16⟩
  | .hbm, ⟨5, _⟩ => ⟨S2x8192x2816, .bf16⟩
  | .hbm, ⟨6, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateReferenceIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S1x8192x2816, .f32⟩
  | .hbm, ⟨6, _⟩ => ⟨S1x8192x2816, .f32⟩
  | .hbm, ⟨7, _⟩ => ⟨S2x8192x2816, .f32⟩
  | .hbm, ⟨8, _⟩ => ⟨S2x8192x2816, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== GateB.lean ====
abbrev S8192x1024 : Shape := ⟨2, ![8192, 1024]⟩
abbrev S2816x1024 : Shape := ⟨2, ![2816, 1024]⟩
abbrev S2x8192x2816 : Shape := ⟨3, ![2, 8192, 2816]⟩
abbrev S1x2816x1024 : Shape := ⟨3, ![1, 2816, 1024]⟩
abbrev S512x1024 : Shape := ⟨2, ![512, 1024]⟩
abbrev S1x1408x1024 : Shape := ⟨3, ![1, 1408, 1024]⟩
abbrev S2x512x1408 : Shape := ⟨3, ![2, 512, 1408]⟩
abbrev S1408x1024 : Shape := ⟨2, ![1408, 1024]⟩
abbrev S512x1408 : Shape := ⟨2, ![512, 1408]⟩
abbrev S1x512x1408 : Shape := ⟨3, ![1, 512, 1408]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S2x8192x2816, .f32⟩
  | .hbm, ⟨3, _⟩ => ⟨S8192x1024, .bf16⟩
  | .hbm, ⟨4, _⟩ => ⟨S2816x1024, .bf16⟩
  | .hbm, ⟨5, _⟩ => ⟨S2x8192x2816, .bf16⟩
  | .hbm, ⟨6, _⟩ => ⟨S1x2816x1024, .bf16⟩
  | .hbm, ⟨7, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateBReferenceIdeal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S2x8192x2816, .f32⟩
  | .hbm, ⟨3, _⟩ => ⟨S1x8192x2816, .f32⟩
  | .hbm, ⟨4, _⟩ => ⟨S8192x2816, .f32⟩
  | .hbm, ⟨5, _⟩ => ⟨S1x8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S1x8192x2816, .f32⟩
  | .hbm, ⟨30, _⟩ => ⟨S1x8192x2816, .f32⟩
  | .hbm, ⟨31, _⟩ => ⟨S2x8192x2816, .f32⟩
  | .hbm, ⟨32, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownW.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InX.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x8192x2816, .f32⟩
  | .hbm, ⟨1, _⟩ => ⟨S1024x5632, .f32⟩
  | .hbm, ⟨2, _⟩ => ⟨S2x8192x2816, .bf16⟩
  | .hbm, ⟨3, _⟩ => ⟨S1024x5632, .bf16⟩
  | .hbm, ⟨4, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXReferenceIdeal.lean ====
abbrev S2x8192x2816 : Shape := ⟨3, ![2, 8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩
abbrev S8192x2816 : Shape := ⟨2, ![8192, 2816]⟩
abbrev S1x8192x2816 : Shape := ⟨3, ![1, 8192, 2816]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x2816, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S8192x2816, .f32⟩
  | .hbm, ⟨9, _⟩ => ⟨S1x8192x2816, .f32⟩
  | .hbm, ⟨10, _⟩ => ⟨S8192x2816, .f32⟩
  | .hbm, ⟨11, _⟩ => ⟨S8192x5632, .f32⟩
  | .hbm, ⟨12, _⟩ => ⟨S8192x1024, .f32⟩
  | _, _ => ⟨S2x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InW.lean ====
abbrev S8192x1024 : Shape := ⟨2, ![8192, 1024]⟩
abbrev S2x8192x2816 : Shape := ⟨3, ![2, 8192, 2816]⟩
abbrev S1024x5632 : Shape := ⟨2, ![1024, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2x8192x2816, .f32⟩
  | .hbm, ⟨2, _⟩ => ⟨S8192x1024, .bf16⟩
  | .hbm, ⟨3, _⟩ => ⟨S2x8192x2816, .bf16⟩
  | .hbm, ⟨4, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWReferenceIdeal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x2816, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S8192x2816, .f32⟩
  | .hbm, ⟨9, _⟩ => ⟨S1x8192x2816, .f32⟩
  | .hbm, ⟨10, _⟩ => ⟨S8192x2816, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== NormB.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== ConvB.lean ====
abbrev S8192x1536 : Shape := ⟨2, ![8192, 1536]⟩
abbrev S8192x5120 : Shape := ⟨2, ![8192, 5120]⟩
abbrev S4x1536 : Shape := ⟨2, ![4, 1536]⟩
abbrev S1x1536 : Shape := ⟨2, ![1, 1536]⟩
abbrev S256x1536 : Shape := ⟨2, ![256, 1536]⟩
abbrev S128x1536 : Shape := ⟨2, ![128, 1536]⟩
abbrev S384x1536 : Shape := ⟨2, ![384, 1536]⟩
abbrev S1536 : Shape := ⟨1, ![1536]⟩

abbrev nBuf : Space → Nat
  | .hbm => 6
  | .vmem => 15
  | .smem => 0
  | _ => 0

abbrev bufTy : (tb : Table) → Fin (tcTables nBuf tb) → BufTy
  | .hbm, ⟨0, _⟩ => ⟨S8192x1536, .f32⟩
  | .hbm, ⟨1, _⟩ => ⟨S8192x5120, .f32⟩
  | .hbm, ⟨2, _⟩ => ⟨S4x1536, .f32⟩
  | .hbm, ⟨3, _⟩ => ⟨S8192x1536, .bf16⟩
  | .hbm, ⟨4, _⟩ => ⟨S4x1536, .f32⟩
  | .hbm, ⟨5, _⟩ => ⟨S1x1536, .f32⟩
  | .local _ .vmem, ⟨0, _⟩ => ⟨S256x1536, .f32⟩
  | .local _ .vmem, ⟨1, _⟩ => ⟨S256x1536, .f32⟩
  | .local _ .vmem, ⟨2, _⟩ => ⟨S128x1536, .f32⟩
  | .local _ .vmem, ⟨3, _⟩ => ⟨S128x1536, .f32⟩
  | .local _ .vmem, ⟨4, _⟩ => ⟨S256x1536, .f32⟩
  | .local _ .vmem, ⟨5, _⟩ => ⟨S256x1536, .f32⟩
  | .local _ .vmem, ⟨6, _⟩ => ⟨S128x1536, .f32⟩
  | .local _ .vmem, ⟨7, _⟩ => ⟨S128x1536, .f32⟩
  | .local _ .vmem, ⟨8, _⟩ => ⟨S4x1536, .f32⟩
  | .local _ .vmem, ⟨9, _⟩ => ⟨S256x1536, .bf16⟩
  | .local _ .vmem, ⟨10, _⟩ => ⟨S256x1536, .bf16⟩
  | .local _ .vmem, ⟨11, _⟩ => ⟨S4x1536, .f32⟩
  | .local _ .vmem, ⟨12, _⟩ => ⟨S1x1536, .f32⟩
  | .local _ .vmem, ⟨13, _⟩ => ⟨S384x1536, .f32⟩
  | .local _ .vmem, ⟨14, _⟩ => ⟨S384x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![v2.toNat, c2_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBReferenceIdeal.lean ====
abbrev S8192x1536 : Shape := ⟨2, ![8192, 1536]⟩
abbrev S8192x5120 : Shape := ⟨2, ![8192, 5120]⟩
abbrev S4x1536 : Shape := ⟨2, ![4, 1536]⟩
abbrev S_ : Shape := ⟨0, ![]⟩
abbrev S1536 : Shape := ⟨1, ![1536]⟩
abbrev S3x1536 : Shape := ⟨2, ![3, 1536]⟩
abbrev S8195x1536 : Shape := ⟨2, ![8195, 1536]⟩
abbrev S1x1536 : Shape := ⟨2, ![1, 1536]⟩

abbrev nBuf : Space → Nat
  | .hbm => 112
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x5120, .f32⟩
  | .hbm, ⟨2, _⟩ => ⟨S4x1536, .f32⟩
  | .hbm, ⟨3, _⟩ => ⟨S8192x1536, .f32⟩
  | .hbm, ⟨4, _⟩ => ⟨S_, .f32⟩
  | .hbm, ⟨5, _⟩ => ⟨S1536, .f32⟩
  | .hbm, ⟨6, _⟩ => ⟨S_, .f32⟩
  | .hbm, ⟨7, _⟩ => ⟨S3x1536, .f32⟩
  | .hbm, ⟨8, _⟩ => ⟨S8195x1536, .f32⟩
  | .hbm, ⟨9, _⟩ => ⟨S_, .f32⟩
  | .hbm, ⟨10, _⟩ => ⟨S3x1536, .f32⟩
  | .hbm, ⟨11, _⟩ => ⟨S8192x1536, .f32⟩
  | .hbm, ⟨12, _⟩ => ⟨S1x1536, .f32⟩
  | .hbm, ⟨13, _⟩ => ⟨S1536, .f32⟩
  | .hbm, ⟨14, _⟩ => ⟨S1x1536, .f32⟩
  | .hbm, ⟨15, _⟩ => ⟨S8192x1536, .f32⟩
  | .hbm, ⟨16, _⟩ => ⟨S8192x1536, .f32⟩
  | .hbm, ⟨17, _⟩ => ⟨S_, .f32⟩
  | .hbm, ⟨18, _⟩ => ⟨S8192x1536, .f32⟩
  | .hbm, ⟨19, _⟩ => ⟨S8192x1536, .f32⟩
  | .hbm, ⟨20, _⟩ => ⟨S8192x1536, .f32⟩
  | .hbm, ⟨21, _⟩ => ⟨S1x1536, .f32⟩
  | .hbm, ⟨22, _⟩ => ⟨S1536, .f32⟩
  | .hbm, ⟨23, _⟩ => ⟨S1x1536, .f32⟩
  | .hbm, ⟨24, _⟩ => ⟨S8192x1536, .f32⟩
  | .hbm, ⟨25, _⟩ => ⟨S8192x1536, .f32⟩
  | .hbm, ⟨26, _⟩ => ⟨S8192x1536, .f32⟩
  | .hbm, ⟨27, _⟩ => ⟨S8192x1536, .f32⟩
  | .hbm, ⟨28, _⟩ => ⟨S1x1536, .f32⟩
  | .hbm, ⟨29, _⟩ => ⟨S1536, .f32⟩
  | .hbm, ⟨30, _⟩ => ⟨S1x1536, .f32⟩
  | .hbm, ⟨31, _⟩ => ⟨S8192x1536, .f32⟩
  | .hbm, ⟨32, _⟩ => ⟨S8192x1536, .f32⟩
  | .hbm, ⟨33, _⟩ => ⟨S8192x1536, .f32⟩
  | .hbm, ⟨34, _⟩ => ⟨S8192x1536, .f32⟩
  | .hbm, ⟨35, _⟩ => ⟨S1x1536, .f32⟩
  | .hbm, ⟨36, _⟩ => ⟨S1536, .f32⟩
  | .hbm, ⟨37, _⟩ => ⟨S1x1536, .f32⟩
  | .hbm, ⟨38, _⟩ => ⟨S8192x1536, .f32⟩
  | .hbm, ⟨39, _⟩ => ⟨S8192x1536, .f32⟩
  | .hbm, ⟨40, _⟩ => ⟨S8192x1536, .f32⟩
  | .hbm, ⟨41, _⟩ => ⟨S1x1536, .f32⟩
  | .hbm, ⟨42, _⟩ => ⟨S8192x1536, .f32⟩
  | .hbm, ⟨43, _⟩ => ⟨S8192x1536, .f32⟩
  | .hbm, ⟨44, _⟩ => ⟨S8192x1536, .f32⟩
  | .hbm, ⟨45, _⟩ => ⟨S_, .f32⟩
  | .hbm, ⟨46, _⟩ => ⟨S1536, .f32⟩
  | .hbm, ⟨47, _⟩ => ⟨S1x1536, .f32⟩
  | .hbm, ⟨48, _⟩ => ⟨S_, .f32⟩
  | .hbm, ⟨49, _⟩ => ⟨S1536, .f32⟩
  | .hbm, ⟨50, _⟩ => ⟨S8192x1536, .f32⟩
  | .hbm, ⟨51, _⟩ => ⟨S_, .f32⟩
  | .hbm, ⟨52, _⟩ => ⟨S1536, .f32⟩
  | .hbm, ⟨53, _⟩ => ⟨S1x1536, .f32⟩
  | .hbm, ⟨54, _⟩ => ⟨S8192x1536, .f32⟩
  | .hbm, ⟨55, _⟩ => ⟨S8192x1536, .f32⟩
  | .hbm, ⟨56, _⟩ => ⟨S_, .f32⟩
  | .hbm, ⟨57, _⟩ => ⟨S1536, .f32⟩
  | .hbm, ⟨58, _⟩ => ⟨S1x1536, .f32⟩
  | .hbm, ⟨59, _⟩ => ⟨S_, .f32⟩
  | .hbm, ⟨60, _⟩ => ⟨S4x1536, .f32⟩
  | .hbm, ⟨61, _⟩ => ⟨S_, .f32⟩
  | .hbm, ⟨62, _⟩ => ⟨S8195x1536, .f32⟩
  | .hbm, ⟨63, _⟩ => ⟨S8192x1536, .f32⟩
  | .hbm, ⟨64, _⟩ => ⟨S_, .f32⟩
  | .hbm, ⟨65, _⟩ => ⟨S1536, .f32⟩
  | .hbm, ⟨66, _⟩ => ⟨S1x1536, .f32⟩
  | .hbm, ⟨67, _⟩ => ⟨S8192x1536, .f32⟩
  | .hbm, ⟨68, _⟩ => ⟨S8192x1536, .f32⟩
  | .hbm, ⟨69, _⟩ => ⟨S_, .f32⟩
  | .hbm, ⟨70, _⟩ => ⟨S1536, .f32⟩
  | .hbm, ⟨71, _⟩ => ⟨S1x1536, .f32⟩
  | .hbm, ⟨72, _⟩ => ⟨S_, .f32⟩
  | .hbm, ⟨73, _⟩ => ⟨S4x1536, .f32⟩
  | .hbm, ⟨74, _⟩ => ⟨S4x1536, .f32⟩
  | .hbm, ⟨75, _⟩ => ⟨S_, .f32⟩
  | .hbm, ⟨76, _⟩ => ⟨S8195x1536, .f32⟩
  | .hbm, ⟨77, _⟩ => ⟨S8195x1536, .f32⟩
  | .hbm, ⟨78, _⟩ => ⟨S8192x1536, .f32⟩
  | .hbm, ⟨79, _⟩ => ⟨S_, .f32⟩
  | .hbm, ⟨80, _⟩ => ⟨S1536, .f32⟩
  | .hbm, ⟨81, _⟩ => ⟨S1x1536, .f32⟩
  | .hbm, ⟨82, _⟩ => ⟨S8192x1536, .f32⟩
  | .hbm, ⟨83, _⟩ => ⟨S8192x1536, .f32⟩
  | .hbm, ⟨84, _⟩ => ⟨S_, .f32⟩
  | .hbm, ⟨85, _⟩ => ⟨S1536, .f32⟩
  | .hbm, ⟨86, _⟩ => ⟨S1x1536, .f32⟩
  | .hbm, ⟨87, _⟩ => ⟨S_, .f32⟩
  | .hbm, ⟨88, _⟩ => ⟨S4x1536, .f32⟩
  | .hbm, ⟨89, _⟩ => ⟨S4x1536, .f32⟩
  | .hbm, ⟨90, _⟩ => ⟨S_, .f32⟩
  | .hbm, ⟨91, _⟩ => ⟨S8195x1536, .f32⟩
  | .hbm, ⟨92, _⟩ => ⟨S8195x1536, .f32⟩
  | .hbm, ⟨93, _⟩ => ⟨S8192x1536, .f32⟩
  | .hbm, ⟨94, _⟩ => ⟨S_, .f32⟩
  | .hbm, ⟨95, _⟩ => ⟨S1536, .f32⟩
  | .hbm, ⟨96, _⟩ => ⟨S1x1536, .f32⟩
  | .hbm, ⟨97, _⟩ => ⟨S8192x1536, .f32⟩
  | .hbm, ⟨98, _⟩ => ⟨S8192x1536, .f32⟩
  | .hbm, ⟨99, _⟩ => ⟨S_, .f32⟩
  | .hbm, ⟨100, _⟩ => ⟨S1536, .f32⟩
  | .hbm, ⟨101, _⟩ => ⟨S1x1536, .f32⟩
  | .hbm, ⟨102, _⟩ => ⟨S_, .f32⟩
  | .hbm, ⟨103, _⟩ => ⟨S4x1536, .f32⟩
  | .hbm, ⟨104, _⟩ => ⟨S4x1536, .f32⟩
  | .hbm, ⟨105, _⟩ => ⟨S_, .f32⟩
  | .hbm, ⟨106, _⟩ => ⟨S8195x1536, .f32⟩
  | .hbm, ⟨107, _⟩ => ⟨S8195x1536, .f32⟩
  | .hbm, ⟨108, _⟩ => ⟨S3x1536, .f32⟩
  | .hbm, ⟨109, _⟩ => ⟨S8192x1536, .f32⟩
  | .hbm, ⟨110, _⟩ => ⟨S8192x1536, .bf16⟩
  | .hbm, ⟨111, _⟩ => ⟨S1x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_17 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_cst_19 : Ref sig .tc := ⟨.hbm, 102, rfl⟩
abbrev main_v79 : Ref sig .tc := ⟨.hbm, 103, rfl⟩
abbrev main_v80 : Ref sig .tc := ⟨.hbm, 104, rfl⟩
abbrev main_cst_20 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== NormF.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PostF.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostFReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== HybIn.lean ====
abbrev S8192x1024 : Shape := ⟨2, ![8192, 1024]⟩
abbrev S1024x5120 : Shape := ⟨2, ![1024, 5120]⟩
abbrev S8192x5120 : Shape := ⟨2, ![8192, 5120]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5120, .f32⟩
  | .hbm, ⟨2, _⟩ => ⟨S8192x1024, .bf16⟩
  | .hbm, ⟨3, _⟩ => ⟨S1024x5120, .bf16⟩
  | .hbm, ⟨4, _⟩ => ⟨S8192x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInReferenceIdeal.lean ====
abbrev S8192x1024 : Shape := ⟨2, ![8192, 1024]⟩
abbrev S1024x5120 : Shape := ⟨2, ![1024, 5120]⟩
abbrev S8192x5120 : Shape := ⟨2, ![8192, 5120]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5120, .f32⟩
  | .hbm, ⟨2, _⟩ => ⟨S8192x5120, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== HybInX.lean ====
abbrev S8192x5120 : Shape := ⟨2, ![8192, 5120]⟩
abbrev S1024x5120 : Shape := ⟨2, ![1024, 5120]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5120, .f32⟩
  | .hbm, ⟨1, _⟩ => ⟨S1024x5120, .f32⟩
  | .hbm, ⟨2, _⟩ => ⟨S8192x5120, .bf16⟩
  | .hbm, ⟨3, _⟩ => ⟨S1024x5120, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInXIdeal.lean ====
abbrev S8192x5120 : Shape := ⟨2, ![8192, 5120]⟩
abbrev S1024x5120 : Shape := ⟨2, ![1024, 5120]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5120, .f32⟩
  | .hbm, ⟨1, _⟩ => ⟨S1024x5120, .f32⟩
  | .hbm, ⟨2, _⟩ => ⟨S8192x5120, .bf16⟩
  | .hbm, ⟨3, _⟩ => ⟨S1024x5120, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInXReferenceIdeal.lean ====
abbrev S8192x5120 : Shape := ⟨2, ![8192, 5120]⟩
abbrev S1024x5120 : Shape := ⟨2, ![1024, 5120]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S1024x5120, .f32⟩
  | .hbm, ⟨2, _⟩ => ⟨S_, .f32⟩
  | .hbm, ⟨3, _⟩ => ⟨S8192x1024, .f32⟩
  | .hbm, ⟨4, _⟩ => ⟨S8192x5120, .f32⟩
  | .hbm, ⟨5, _⟩ => ⟨S8192x1024, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== HybInW.lean ====
abbrev S8192x1024 : Shape := ⟨2, ![8192, 1024]⟩
abbrev S8192x5120 : Shape := ⟨2, ![8192, 5120]⟩
abbrev S1024x5120 : Shape := ⟨2, ![1024, 5120]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5120, .f32⟩
  | .hbm, ⟨2, _⟩ => ⟨S8192x1024, .bf16⟩
  | .hbm, ⟨3, _⟩ => ⟨S8192x5120, .bf16⟩
  | .hbm, ⟨4, _⟩ => ⟨S1024x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInWIdeal.lean ====
abbrev S8192x1024 : Shape := ⟨2, ![8192, 1024]⟩
abbrev S8192x5120 : Shape := ⟨2, ![8192, 5120]⟩
abbrev S1024x5120 : Shape := ⟨2, ![1024, 5120]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5120, .f32⟩
  | .hbm, ⟨2, _⟩ => ⟨S8192x1024, .bf16⟩
  | .hbm, ⟨3, _⟩ => ⟨S8192x5120, .bf16⟩
  | .hbm, ⟨4, _⟩ => ⟨S1024x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInWReferenceIdeal.lean ====
abbrev S8192x1024 : Shape := ⟨2, ![8192, 1024]⟩
abbrev S8192x5120 : Shape := ⟨2, ![8192, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5120, .f32⟩
  | .hbm, ⟨2, _⟩ => ⟨S_, .f32⟩
  | .hbm, ⟨3, _⟩ => ⟨S1024x5120, .f32⟩
  | .hbm, ⟨4, _⟩ => ⟨S8192x5120, .f32⟩
  | .hbm, ⟨5, _⟩ => ⟨S5120x1024, .f32⟩
  | .hbm, ⟨6, _⟩ => ⟨S1024x5120, .f32⟩
  | .hbm, ⟨7, _⟩ => ⟨S1024x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== HybOutX.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .bf16⟩
  | .hbm, ⟨3, _⟩ => ⟨S2048x1024, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybOutXIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .bf16⟩
  | .hbm, ⟨3, _⟩ => ⟨S2048x1024, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybOutXReferenceIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlaOutX.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .bf16⟩
  | .hbm, ⟨3, _⟩ => ⟨S2048x1024, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutXIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .bf16⟩
  | .hbm, ⟨3, _⟩ => ⟨S2048x1024, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutXReferenceIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | .hbm, ⟨6, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutW.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaIn.lean ====
abbrev S8192x1024 : Shape := ⟨2, ![8192, 1024]⟩
abbrev S1024x640 : Shape := ⟨2, ![1024, 640]⟩
abbrev S8192x640 : Shape := ⟨2, ![8192, 640]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x640, .f32⟩
  | .hbm, ⟨2, _⟩ => ⟨S8192x1024, .bf16⟩
  | .hbm, ⟨3, _⟩ => ⟨S1024x640, .bf16⟩
  | .hbm, ⟨4, _⟩ => ⟨S8192x640, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .f32⟩
  | .local _ .vmem, ⟨4, _⟩ => ⟨S1024x640, .f32⟩
  | .local _ .vmem, ⟨5, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInIdeal.lean ====
abbrev S8192x1024 : Shape := ⟨2, ![8192, 1024]⟩
abbrev S1024x640 : Shape := ⟨2, ![1024, 640]⟩
abbrev S8192x640 : Shape := ⟨2, ![8192, 640]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x640, .f32⟩
  | .hbm, ⟨2, _⟩ => ⟨S8192x1024, .bf16⟩
  | .hbm, ⟨3, _⟩ => ⟨S1024x640, .bf16⟩
  | .hbm, ⟨4, _⟩ => ⟨S8192x640, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .f32⟩
  | .local _ .vmem, ⟨4, _⟩ => ⟨S1024x640, .f32⟩
  | .local _ .vmem, ⟨5, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInReferenceIdeal.lean ====
abbrev S8192x1024 : Shape := ⟨2, ![8192, 1024]⟩
abbrev S1024x640 : Shape := ⟨2, ![1024, 640]⟩
abbrev S8192x640 : Shape := ⟨2, ![8192, 640]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x640, .f32⟩
  | .hbm, ⟨2, _⟩ => ⟨S8192x640, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MlaInX.lean ====
abbrev S8192x640 : Shape := ⟨2, ![8192, 640]⟩
abbrev S1024x640 : Shape := ⟨2, ![1024, 640]⟩
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x640, .f32⟩
  | .hbm, ⟨1, _⟩ => ⟨S1024x640, .f32⟩
  | .hbm, ⟨2, _⟩ => ⟨S8192x640, .bf16⟩
  | .hbm, ⟨3, _⟩ => ⟨S1024x640, .bf16⟩
  | .hbm, ⟨4, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInXIdeal.lean ====
abbrev S8192x640 : Shape := ⟨2, ![8192, 640]⟩
abbrev S1024x640 : Shape := ⟨2, ![1024, 640]⟩
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x640, .f32⟩
  | .hbm, ⟨1, _⟩ => ⟨S1024x640, .f32⟩
  | .hbm, ⟨2, _⟩ => ⟨S8192x640, .bf16⟩
  | .hbm, ⟨3, _⟩ => ⟨S1024x640, .bf16⟩
  | .hbm, ⟨4, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaInXReferenceIdeal.lean ====
abbrev S8192x640 : Shape := ⟨2, ![8192, 640]⟩
abbrev S1024x640 : Shape := ⟨2, ![1024, 640]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x640, .f32⟩
  | .hbm, ⟨1, _⟩ => ⟨S1024x640, .f32⟩
  | .hbm, ⟨2, _⟩ => ⟨S_, .f32⟩
  | .hbm, ⟨3, _⟩ => ⟨S8192x1024, .f32⟩
  | .hbm, ⟨4, _⟩ => ⟨S8192x640, .f32⟩
  | .hbm, ⟨5, _⟩ => ⟨S8192x1024, .f32⟩
  | _, _ => ⟨S8192x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlaInW.lean ====
abbrev S8192x1024 : Shape := ⟨2, ![8192, 1024]⟩
abbrev S8192x640 : Shape := ⟨2, ![8192, 640]⟩
abbrev S1024x640 : Shape := ⟨2, ![1024, 640]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x640, .f32⟩
  | .hbm, ⟨2, _⟩ => ⟨S8192x1024, .bf16⟩
  | .hbm, ⟨3, _⟩ => ⟨S8192x640, .bf16⟩
  | .hbm, ⟨4, _⟩ => ⟨S1024x640, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaInWIdeal.lean ====
abbrev S8192x1024 : Shape := ⟨2, ![8192, 1024]⟩
abbrev S8192x640 : Shape := ⟨2, ![8192, 640]⟩
abbrev S1024x640 : Shape := ⟨2, ![1024, 640]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x640, .f32⟩
  | .hbm, ⟨2, _⟩ => ⟨S8192x1024, .bf16⟩
  | .hbm, ⟨3, _⟩ => ⟨S8192x640, .bf16⟩
  | .hbm, ⟨4, _⟩ => ⟨S1024x640, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaInWReferenceIdeal.lean ====
abbrev S8192x1024 : Shape := ⟨2, ![8192, 1024]⟩
abbrev S8192x640 : Shape := ⟨2, ![8192, 640]⟩
abbrev S_ : Shape := ⟨0, ![]⟩
abbrev S1024x640 : Shape := ⟨2, ![1024, 640]⟩
abbrev S640x1024 : Shape := ⟨2, ![640, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x640, .f32⟩
  | .hbm, ⟨2, _⟩ => ⟨S_, .f32⟩
  | .hbm, ⟨3, _⟩ => ⟨S1024x640, .f32⟩
  | .hbm, ⟨4, _⟩ => ⟨S8192x640, .f32⟩
  | .hbm, ⟨5, _⟩ => ⟨S640x1024, .f32⟩
  | .hbm, ⟨6, _⟩ => ⟨S1024x640, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Uq.lean ====
abbrev S8192x256 : Shape := ⟨2, ![8192, 256]⟩
abbrev S256x8192 : Shape := ⟨2, ![256, 8192]⟩
abbrev S8192x8192 : Shape := ⟨2, ![8192, 8192]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x8192, .f32⟩
  | .hbm, ⟨2, _⟩ => ⟨S8192x256, .bf16⟩
  | .hbm, ⟨3, _⟩ => ⟨S256x8192, .bf16⟩
  | .hbm, ⟨4, _⟩ => ⟨S8192x8192, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqIdeal.lean ====
abbrev S8192x256 : Shape := ⟨2, ![8192, 256]⟩
abbrev S256x8192 : Shape := ⟨2, ![256, 8192]⟩
abbrev S8192x8192 : Shape := ⟨2, ![8192, 8192]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x8192, .f32⟩
  | .hbm, ⟨2, _⟩ => ⟨S8192x256, .bf16⟩
  | .hbm, ⟨3, _⟩ => ⟨S256x8192, .bf16⟩
  | .hbm, ⟨4, _⟩ => ⟨S8192x8192, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqReferenceIdeal.lean ====
abbrev S8192x256 : Shape := ⟨2, ![8192, 256]⟩
abbrev S256x8192 : Shape := ⟨2, ![256, 8192]⟩
abbrev S8192x8192 : Shape := ⟨2, ![8192, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x8192, .f32⟩
  | .hbm, ⟨2, _⟩ => ⟨S8192x8192, .f32⟩
  | .hbm, ⟨3, _⟩ => ⟨S8192x8192, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UqX.lean ====
abbrev S8192x8192 : Shape := ⟨2, ![8192, 8192]⟩
abbrev S256x8192 : Shape := ⟨2, ![256, 8192]⟩
abbrev S8192x256 : Shape := ⟨2, ![8192, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S256x8192, .f32⟩
  | .hbm, ⟨2, _⟩ => ⟨S8192x8192, .bf16⟩
  | .hbm, ⟨3, _⟩ => ⟨S256x8192, .bf16⟩
  | .hbm, ⟨4, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqXIdeal.lean ====
abbrev S8192x8192 : Shape := ⟨2, ![8192, 8192]⟩
abbrev S256x8192 : Shape := ⟨2, ![256, 8192]⟩
abbrev S8192x256 : Shape := ⟨2, ![8192, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S256x8192, .f32⟩
  | .hbm, ⟨2, _⟩ => ⟨S8192x8192, .bf16⟩
  | .hbm, ⟨3, _⟩ => ⟨S256x8192, .bf16⟩
  | .hbm, ⟨4, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqXReferenceIdeal.lean ====
abbrev S8192x8192 : Shape := ⟨2, ![8192, 8192]⟩
abbrev S256x8192 : Shape := ⟨2, ![256, 8192]⟩
abbrev S_ : Shape := ⟨0, ![]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S256x8192, .f32⟩
  | .hbm, ⟨2, _⟩ => ⟨S_, .f32⟩
  | .hbm, ⟨3, _⟩ => ⟨S8192x256, .f32⟩
  | .hbm, ⟨4, _⟩ => ⟨S8192x8192, .f32⟩
  | .hbm, ⟨5, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UqW.lean ====
abbrev S8192x256 : Shape := ⟨2, ![8192, 256]⟩
abbrev S8192x8192 : Shape := ⟨2, ![8192, 8192]⟩
abbrev S256x8192 : Shape := ⟨2, ![256, 8192]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x256, .bf16⟩
  | .hbm, ⟨3, _⟩ => ⟨S8192x8192, .bf16⟩
  | .hbm, ⟨4, _⟩ => ⟨S256x8192, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqWIdeal.lean ====
abbrev S8192x256 : Shape := ⟨2, ![8192, 256]⟩
abbrev S8192x8192 : Shape := ⟨2, ![8192, 8192]⟩
abbrev S256x8192 : Shape := ⟨2, ![256, 8192]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x256, .bf16⟩
  | .hbm, ⟨3, _⟩ => ⟨S8192x8192, .bf16⟩
  | .hbm, ⟨4, _⟩ => ⟨S256x8192, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqWReferenceIdeal.lean ====
abbrev S8192x256 : Shape := ⟨2, ![8192, 256]⟩
abbrev S8192x8192 : Shape := ⟨2, ![8192, 8192]⟩
abbrev S_ : Shape := ⟨0, ![]⟩
abbrev S256x8192 : Shape := ⟨2, ![256, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S_, .f32⟩
  | .hbm, ⟨3, _⟩ => ⟨S256x8192, .f32⟩
  | .hbm, ⟨4, _⟩ => ⟨S8192x8192, .f32⟩
  | .hbm, ⟨5, _⟩ => ⟨S8192x256, .f32⟩
  | .hbm, ⟨6, _⟩ => ⟨S256x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ukv.lean ====
abbrev S8192x128 : Shape := ⟨2, ![8192, 128]⟩
abbrev S128x4096 : Shape := ⟨2, ![128, 4096]⟩
abbrev S8192x4096 : Shape := ⟨2, ![8192, 4096]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S128x4096, .f32⟩
  | .hbm, ⟨2, _⟩ => ⟨S8192x128, .bf16⟩
  | .hbm, ⟨3, _⟩ => ⟨S128x4096, .bf16⟩
  | .hbm, ⟨4, _⟩ => ⟨S8192x4096, .bf16⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvIdeal.lean ====
abbrev S8192x128 : Shape := ⟨2, ![8192, 128]⟩
abbrev S128x4096 : Shape := ⟨2, ![128, 4096]⟩
abbrev S8192x4096 : Shape := ⟨2, ![8192, 4096]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S128x4096, .f32⟩
  | .hbm, ⟨2, _⟩ => ⟨S8192x128, .bf16⟩
  | .hbm, ⟨3, _⟩ => ⟨S128x4096, .bf16⟩
  | .hbm, ⟨4, _⟩ => ⟨S8192x4096, .bf16⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvReferenceIdeal.lean ====
abbrev S8192x128 : Shape := ⟨2, ![8192, 128]⟩
abbrev S128x4096 : Shape := ⟨2, ![128, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x4096, .f32⟩
  | .hbm, ⟨2, _⟩ => ⟨S8192x4096, .f32⟩
  | .hbm, ⟨3, _⟩ => ⟨S8192x4096, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UkvX.lean ====
abbrev S8192x4096 : Shape := ⟨2, ![8192, 4096]⟩
abbrev S128x4096 : Shape := ⟨2, ![128, 4096]⟩
abbrev S8192x128 : Shape := ⟨2, ![8192, 128]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S8192x4096, .bf16⟩
  | .hbm, ⟨3, _⟩ => ⟨S128x4096, .bf16⟩
  | .hbm, ⟨4, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvXIdeal.lean ====
abbrev S8192x4096 : Shape := ⟨2, ![8192, 4096]⟩
abbrev S128x4096 : Shape := ⟨2, ![128, 4096]⟩
abbrev S8192x128 : Shape := ⟨2, ![8192, 128]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S8192x4096, .bf16⟩
  | .hbm, ⟨3, _⟩ => ⟨S128x4096, .bf16⟩
  | .hbm, ⟨4, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvXReferenceIdeal.lean ====
abbrev S8192x4096 : Shape := ⟨2, ![8192, 4096]⟩
abbrev S128x4096 : Shape := ⟨2, ![128, 4096]⟩
abbrev S_ : Shape := ⟨0, ![]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S_, .f32⟩
  | .hbm, ⟨3, _⟩ => ⟨S8192x128, .f32⟩
  | .hbm, ⟨4, _⟩ => ⟨S8192x4096, .f32⟩
  | .hbm, ⟨5, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UkvW.lean ====
abbrev S8192x128 : Shape := ⟨2, ![8192, 128]⟩
abbrev S8192x4096 : Shape := ⟨2, ![8192, 4096]⟩
abbrev S128x4096 : Shape := ⟨2, ![128, 4096]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x4096, .f32⟩
  | .hbm, ⟨2, _⟩ => ⟨S8192x128, .bf16⟩
  | .hbm, ⟨3, _⟩ => ⟨S8192x4096, .bf16⟩
  | .hbm, ⟨4, _⟩ => ⟨S128x4096, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvWIdeal.lean ====
abbrev S8192x128 : Shape := ⟨2, ![8192, 128]⟩
abbrev S8192x4096 : Shape := ⟨2, ![8192, 4096]⟩
abbrev S128x4096 : Shape := ⟨2, ![128, 4096]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x4096, .f32⟩
  | .hbm, ⟨2, _⟩ => ⟨S8192x128, .bf16⟩
  | .hbm, ⟨3, _⟩ => ⟨S8192x4096, .bf16⟩
  | .hbm, ⟨4, _⟩ => ⟨S128x4096, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvWReferenceIdeal.lean ====
abbrev S8192x128 : Shape := ⟨2, ![8192, 128]⟩
abbrev S8192x4096 : Shape := ⟨2, ![8192, 4096]⟩
abbrev S_ : Shape := ⟨0, ![]⟩
abbrev S128x4096 : Shape := ⟨2, ![128, 4096]⟩
abbrev S4096x128 : Shape := ⟨2, ![4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x4096, .f32⟩
  | .hbm, ⟨2, _⟩ => ⟨S_, .f32⟩
  | .hbm, ⟨3, _⟩ => ⟨S128x4096, .f32⟩
  | .hbm, ⟨4, _⟩ => ⟨S8192x4096, .f32⟩
  | .hbm, ⟨5, _⟩ => ⟨S4096x128, .f32⟩
  | .hbm, ⟨6, _⟩ => ⟨S128x4096, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleGate.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateIdeal.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateReferenceIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleGateX.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateXIdeal.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateXReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PleGateW.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleGateWIdeal.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleGateWReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleProj.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjReferenceIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleProjW.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleProjWReferenceIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Offsets.lean ====
/-
  Where the kernel's accesses lie: the row offsets its loop computes word by word, as plain numbers.
-/
module

public import proofs.«01_k».proof.Proof.Gen.KernelIdeal
public import Idealize.ShloMosaic.Lib.Exec

@[expose] public section

namespace Cert.Proof.KernelIdeal

open Cert.KernelIdeal Cert.KernelIdeal.Gen
open Idealize.ShloMosaic Idealize.ShloMosaic.Tactic

/-- The main loop runs `(15 - ki) / 4` trips. -/
theorem t1_trips (i : grid0.Coords) : (k0_t1_loop i).trips = (15 - (i 1).val) / 4 := by
  revert i; decide +kernel

/-- The loop over the remainder of the main loop runs no trip. -/
theorem t2_trips (i : grid0.Coords) : (k0_t2_loop i).trips = 0 := by
  revert i; decide +kernel

set_option maxRecDepth 8192 in
theorem off5_eq : ∀ (i : grid0.Coords) (k : Fin (k0_t1_loop i).trips) (r : Fin 4),
    k0_off5 i k (BitVec.ofNat 32 r.val) = ![512 * ((i 1).val + 1 + 4 * k.val + r.val), 0] := by decide +kernel
set_option maxRecDepth 8192 in
theorem off6_eq : ∀ (i : grid0.Coords) (k : Fin (k0_t1_loop i).trips) (r : Fin 4),
    k0_off6 i k (BitVec.ofNat 32 r.val) = ![512 * ((i 1).val + 1 + 4 * k.val + r.val), 0] := by decide +kernel
set_option maxRecDepth 8192 in
theorem off7_eq : ∀ (i : grid0.Coords) (k : Fin (k0_t1_loop i).trips) (r : Fin 4),
    k0_off7 i k (BitVec.ofNat 32 r.val) = ![512 * ((i 1).val + 1 + 4 * k.val + r.val), 0] := by decide +kernel
set_option maxRecDepth 8192 in
theorem off8_eq : ∀ (i : grid0.Coords) (k : Fin (k0_t1_loop i).trips) (r : Fin 4),
    k0_off8 i k (BitVec.ofNat 32 r.val) = ![512 * ((i 1).val + 1 + 4 * k.val + r.val), 64] := by decide +kernel

instance closedOff5_0 (i : grid0.Coords) (k : Fin (k0_t1_loop i).trips) : ClosedOff (k0_off5 i k 0#32) := ⟨_, off5_eq i k 0⟩
instance closedOff5_1 (i : grid0.Coords) (k : Fin (k0_t1_loop i).trips) : ClosedOff (k0_off5 i k 1#32) := ⟨_, off5_eq i k 1⟩
instance closedOff5_2 (i : grid0.Coords) (k : Fin (k0_t1_loop i).trips) : ClosedOff (k0_off5 i k 2#32) := ⟨_, off5_eq i k 2⟩
instance closedOff5_3 (i : grid0.Coords) (k : Fin (k0_t1_loop i).trips) : ClosedOff (k0_off5 i k 3#32) := ⟨_, off5_eq i k 3⟩

/-- The first extra block runs when `(15 - ki) % 4` exceeds 0, the second when it exceeds 1, the third when it exceeds 2. -/
theorem cond2_iff : ∀ i : grid0.Coords, k0_cond2 i = 1#1 ↔ 0 < (15 - (i 1).val) % 4 := by decide +kernel
theorem cond3_iff : ∀ i : grid0.Coords, k0_cond3 i = 1#1 ↔ 1 < (15 - (i 1).val) % 4 := by decide +kernel
theorem cond4_iff : ∀ i : grid0.Coords, k0_cond4 i = 1#1 ↔ 2 < (15 - (i 1).val) % 4 := by decide +kernel

end Cert.Proof.KernelIdeal

end
-- ==== Proof.Step.lean ====
/-
  One block of queries against one block of keys, as a function: what the kernel's running sums (the key gradient, the
  value gradient) and the array of query gradients become when the block is added.
-/
module

public import proofs.«01_k».proof.Proof.Gen.KernelIdeal.Skeleton
public import Idealize.ShloMosaic.Lib.VecWindow

@[expose] public section

noncomputable section

namespace Cert.Proof.KernelIdeal

open Cert.KernelIdeal Cert.KernelIdeal.Gen
open Idealize.ShloMosaic Idealize.ShloMosaic.TcCoe

variable {F : FTy → Type} [FloatOps F] [Named F]

/-- The running sums: key gradient, value gradient, and the query gradients of the whole sequence. -/
abbrev St (F : FTy → Type) : Type := FVec F S512x256 .f32 × FVec F S512x128 .f32 × Vec F S8192x256 .f32

theorem inb256 (r : Fin 16) : ∀ a, (![512 * r.val, 0] : Fin 2 → ℕ) a + S512x256.size a ≤ S8192x256.size a := by
  revert r; decide
theorem inb128 (r : Fin 16) : ∀ a, (![512 * r.val, 0] : Fin 2 → ℕ) a + S512x128.size a ≤ S8192x128.size a := by
  revert r; decide
theorem inb1 (r : Fin 16) : ∀ a, (![512 * r.val, 0] : Fin 2 → ℕ) a + S512x1.size a ≤ S8192x128.size a := by
  revert r; decide
theorem inb1' (r : Fin 16) : ∀ a, (![512 * r.val, 64] : Fin 2 → ℕ) a + S512x1.size a ≤ S8192x128.size a := by
  revert r; decide

/-- Block `r` (512 rows) of the padded queries or of the query gradients. -/
def rowsQ {e : EltTy} (x : Vec F S8192x256 e) (r : Fin 16) : Vec F S512x256 e := VecWindow.window x ![512 * r.val, 0] S512x256.size (inb256 r)
/-- Block `r` of the upstream gradient. -/
def rowsO {e : EltTy} (x : Vec F S8192x128 e) (r : Fin 16) : Vec F S512x128 e := VecWindow.window x ![512 * r.val, 0] S512x128.size (inb128 r)
/-- The log-sum-exps of block `r`'s rows. -/
def rowsL {e : EltTy} (x : Vec F S8192x128 e) (r : Fin 16) : Vec F S512x1 e := VecWindow.window x ![512 * r.val, 0] S512x1.size (inb1 r)
/-- The row sums of gradient times output of block `r`'s rows. -/
def rowsS {e : EltTy} (x : Vec F S8192x128 e) (r : Fin 16) : Vec F S512x1 e := VecWindow.window x ![512 * r.val, 64] S512x1.size (inb1' r)
/-- The query gradients with block `r` replaced. -/
def putQ (x : Vec F S8192x256 .f32) (r : Fin 16) (w : Vec F S512x256 .f32) : Vec F S8192x256 .f32 :=
  VecWindow.put (s := S8192x256) x ![512 * r.val, 0] S512x256.size w

theorem rowsQ_putQ_same (x : Vec F S8192x256 .f32) (r : Fin 16) (w : Vec F S512x256 .f32) : rowsQ (putQ x r w) r = w :=
  VecWindow.window_put_same (s := S8192x256) x _ _ (inb256 r) w

theorem rowsQ_putQ_ne (x : Vec F S8192x256 .f32) (r r' : Fin 16) (w : Vec F S512x256 .f32) (h : r ≠ r') : rowsQ (putQ x r w) r' = rowsQ x r' :=
  VecWindow.window_put_of_disjoint (s := S8192x256) x _ _ _ _ (inb256 r') w 0 (by
    have : r.val ≠ r'.val := fun e => h (Fin.ext e)
    show 512 * r'.val + 512 ≤ 512 * r.val ∨ 512 * r.val + 512 ≤ 512 * r'.val
    omega)

/-- A block of queries below the diagonal: every key of the block is seen. -/
def blk (k : FVec F S512x256 .bf16) (v : FVec F S512x128 .bf16) (x0 : Vec F S8192x256 .bf16) (x1 : Vec F S8192x128 .bf16)
    (x2 : Vec F S8192x128 .f32) (r : Fin 16) (s : St F) : St F :=
  (k0_pay6 k v s.1 (rowsQ x0 r) (rowsO x1 r) (rowsL x2 r) (rowsS x2 r),
   k0_pay4 k s.2.1 (rowsQ x0 r) (rowsO x1 r) (rowsL x2 r),
   putQ s.2.2 r (k0_pay7 k v (rowsQ x0 r) (rowsO x1 r) (rowsL x2 r) (rowsS x2 r) (rowsQ s.2.2 r)))

/-- The block of queries on the diagonal: each query sees the keys up to its own position. -/
def diag (x0 : Vec F S8192x256 .bf16) (x1 : Vec F S8192x128 .bf16) (x2 : Vec F S8192x128 .f32)
    (x3 x4 x5 : Vec F S512x128 .bf16) (r : Fin 16) (D : Vec F S8192x256 .f32) : St F :=
  (k0_pay65 (k0_pay57 x4) (k0_pay58 (F := F)) (k0_pay59 (rowsQ x0 r)) (k0_pay60 (rowsO x1 r)) (k0_pay61 (rowsS x2 r))
      (k0_pay62 x3 x5 (rowsQ x0 r) (rowsL x2 r)) (constant S512x512 .f32 0x00000000#32),
   k0_pay63 x3 x5 (rowsQ x0 r) (rowsO x1 r) (rowsL x2 r),
   putQ D r (k0_pay66 (k0_pay56 x3 x5) (k0_pay57 x4) (k0_pay60 (rowsO x1 r)) (k0_pay61 (rowsS x2 r))
      (k0_pay62 x3 x5 (rowsQ x0 r) (rowsL x2 r)) (constant S512x512 .f32 0x00000000#32) (rowsQ D r)))

/-- Four blocks of queries in a row, from block `n` on. -/
def blk4 (k : FVec F S512x256 .bf16) (v : FVec F S512x128 .bf16) (x0 : Vec F S8192x256 .bf16) (x1 : Vec F S8192x128 .bf16)
    (x2 : Vec F S8192x128 .f32) (n : ℕ) (s : St F) : St F :=
  blk k v x0 x1 x2 (Fin.ofNat 16 (n + 3)) (blk k v x0 x1 x2 (Fin.ofNat 16 (n + 2))
    (blk k v x0 x1 x2 (Fin.ofNat 16 (n + 1)) (blk k v x0 x1 x2 (Fin.ofNat 16 n) s)))

/-- `j` groups of four blocks, from block `n` on. -/
def groups (k : FVec F S512x256 .bf16) (v : FVec F S512x128 .bf16) (x0 : Vec F S8192x256 .bf16) (x1 : Vec F S8192x128 .bf16)
    (x2 : Vec F S8192x128 .f32) (n : ℕ) : ℕ → St F → St F
  | 0, s => s
  | j + 1, s => blk4 k v x0 x1 x2 (n + 4 * j) (groups k v x0 x1 x2 n j s)

/-- The running sums at a point `ki` of the key axis, from the query gradients the point finds. -/
def point (x0 : Vec F S8192x256 .bf16) (x1 : Vec F S8192x128 .bf16) (x2 : Vec F S8192x128 .f32)
    (x3 x4 x5 : Vec F S512x128 .bf16) (ki : Fin 16) (D : Vec F S8192x256 .f32) : St F :=
  let s1 := groups (k0_pay56 x3 x5) (k0_pay57 x4) x0 x1 x2 (ki.val + 1) ((15 - ki.val) / 4) (diag x0 x1 x2 x3 x4 x5 ki D)
  let s2 := if 0 < (15 - ki.val) % 4 then blk (k0_pay56 x3 x5) (k0_pay57 x4) x0 x1 x2 15 s1 else s1
  let s3 := if 1 < (15 - ki.val) % 4 then blk (k0_pay56 x3 x5) (k0_pay57 x4) x0 x1 x2 14 s2 else s2
  if 2 < (15 - ki.val) % 4 then blk (k0_pay56 x3 x5) (k0_pay57 x4) x0 x1 x2 13 s3 else s3

end Cert.Proof.KernelIdeal

end
-- ==== Proof.Loops.lean ====
/-
  The kernel's two loops over blocks of queries: one trip of the main loop adds four blocks, the loop over its remainder
  never runs.
-/
module

public import proofs.«01_k».proof.Proof.Gen.KernelIdeal.Loops
public import proofs.«01_k».proof.Proof.Gen.KernelIdeal.Frame
public import proofs.«01_k».proof.Proof.Offsets
public import proofs.«01_k».proof.Proof.Step

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none

/-- Block `n` of the four of trip `k` is a block of the sequence. -/
theorem block_val (i : grid0.Coords) (k : Fin (k0_t1_loop i).trips) (r : Fin 4) :
    (Fin.ofNat 16 ((i 1).val + 1 + 4 * k.val + r.val)).val = (i 1).val + 1 + 4 * k.val + r.val := by
  have hk := k.isLt
  have hi : (i 1).val < 16 := (i 1).isLt
  have ht := t1_trips i
  have := r.isLt
  exact Nat.mod_eq_of_lt (by omega)

theorem off5_eq' (i : grid0.Coords) (k : Fin (k0_t1_loop i).trips) (r : Fin 4) :
    k0_off5 i k (BitVec.ofNat 32 r.val) = ![512 * (Fin.ofNat 16 ((i 1).val + 1 + 4 * k.val + r.val)).val, 0] := by
  rw [block_val]; exact off5_eq i k r
theorem off6_eq' (i : grid0.Coords) (k : Fin (k0_t1_loop i).trips) (r : Fin 4) :
    k0_off6 i k (BitVec.ofNat 32 r.val) = ![512 * (Fin.ofNat 16 ((i 1).val + 1 + 4 * k.val + r.val)).val, 0] := by
  rw [block_val]; exact off6_eq i k r
theorem off7_eq' (i : grid0.Coords) (k : Fin (k0_t1_loop i).trips) (r : Fin 4) :
    k0_off7 i k (BitVec.ofNat 32 r.val) = ![512 * (Fin.ofNat 16 ((i 1).val + 1 + 4 * k.val + r.val)).val, 0] := by
  rw [block_val]; exact off7_eq i k r
theorem off8_eq' (i : grid0.Coords) (k : Fin (k0_t1_loop i).trips) (r : Fin 4) :
    k0_off8 i k (BitVec.ofNat 32 r.val) = ![512 * (Fin.ofNat 16 ((i 1).val + 1 + 4 * k.val + r.val)).val, 64] := by
  rw [block_val]; exact off8_eq i k r

/-! A load of a block, by what it holds. -/

theorem ldQ {e : EltTy} (m : Memref sig .tc .vmem S8192x256 e) (f : m.view.ty.Contents (Elt F)) {off : Fin 2 → ℕ}
    (inb : ∀ a, off a + S512x256.size a ≤ S8192x256.size a) (r : Fin 16) (h : off = ![512 * r.val, 0]) :
    m.view.readAt (Elt F) (Rect.unit (s := S8192x256) off S512x256.size inb).toLoadRect f = rowsQ (m.view.read (Elt F) f) r :=
  View.readAt_unit m.view f inb h (inb256 r)
theorem ldO {e : EltTy} (m : Memref sig .tc .vmem S8192x128 e) (f : m.view.ty.Contents (Elt F)) {off : Fin 2 → ℕ}
    (inb : ∀ a, off a + S512x128.size a ≤ S8192x128.size a) (r : Fin 16) (h : off = ![512 * r.val, 0]) :
    m.view.readAt (Elt F) (Rect.unit (s := S8192x128) off S512x128.size inb).toLoadRect f = rowsO (m.view.read (Elt F) f) r :=
  View.readAt_unit m.view f inb h (inb128 r)
theorem ldL {e : EltTy} (m : Memref sig .tc .vmem S8192x128 e) (f : m.view.ty.Contents (Elt F)) {off : Fin 2 → ℕ}
    (inb : ∀ a, off a + S512x1.size a ≤ S8192x128.size a) (r : Fin 16) (h : off = ![512 * r.val, 0]) :
    m.view.readAt (Elt F) (Rect.unit (s := S8192x128) off S512x1.size inb).toLoadRect f = rowsL (m.view.read (Elt F) f) r :=
  View.readAt_unit m.view f inb h (inb1 r)
theorem ldS {e : EltTy} (m : Memref sig .tc .vmem S8192x128 e) (f : m.view.ty.Contents (Elt F)) {off : Fin 2 → ℕ}
    (inb : ∀ a, off a + S512x1.size a ≤ S8192x128.size a) (r : Fin 16) (h : off = ![512 * r.val, 64]) :
    m.view.readAt (Elt F) (Rect.unit (s := S8192x128) off S512x1.size inb).toLoadRect f = rowsS (m.view.read (Elt F) f) r :=
  View.readAt_unit m.view f inb h (inb1' r)
/-- A store of a block, by what the whole then holds. -/
theorem stQ (m : Memref sig .tc .vmem S8192x256 .f32) (f : m.view.ty.Contents (Elt F)) {off : Fin 2 → ℕ}
    (inb : ∀ a, off a + S512x256.size a ≤ S8192x256.size a) (w : Vec F S512x256 .f32)
    (L : List (View.Piece (Elt F) S8192x256 .f32)) (r : Fin 16) (h : off = ![512 * r.val, 0]) :
    m.view.read (Elt F) (m.view.writes (Elt F) f (⟨Rect.unit (s := S8192x256) off S512x256.size inb, w⟩ :: L))
      = putQ (m.view.read (Elt F) (m.view.writes (Elt F) f L)) r w :=
  View.read_writes_cons_put m.view f inb w L h

/-- Before trip `k`: the inputs as they were, and the sums after `k` groups. -/
def inv1 (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg8 : Memref sig .tc .vmem S8192x256 .f32)
    (v7 : FVec F S512x256 .bf16) (v9 : FVec F S512x128 .bf16) (x0 : Vec F S8192x256 .bf16) (x1 : Vec F S8192x128 .bf16) (x2 : Vec F S8192x128 .f32) (s0 : St F)
    (k : ℕ) (acc : FVec F S512x256 .f32 × FVec F S512x128 .f32) : sProp (MT nD τ sig Unit (Elt F) ℕ (UU nD τ) ℕ) :=
  iprop((arg2.view.loc (c : Thread nD τ) ↦[arg2.view.set]{fullShare} harg2.unread x0) ∗ (arg3.view.loc (c : Thread nD τ) ↦[arg3.view.set]{fullShare} harg3.unread x1)
    ∗ (arg4.view.loc (c : Thread nD τ) ↦[arg4.view.set]{fullShare} harg4.unread x2)
    ∗ ∃ f, (arg8.view.loc (c : Thread nD τ) ↦[arg8.view.set]{fullShare} f)
        ∗ ⌜(acc.1, acc.2, arg8.view.read (Elt F) f) = groups v7 v9 x0 x1 x2 ((i 1).val + 1) k s0⌝)

set_option maxHeartbeats 1000000 in
theorem step1 (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg1 : BitVec 32) (v7 : FVec F S512x256 .bf16) (v9 : FVec F S512x128 .bf16) (v10 : FVec F S512x256 .f32) (v13 : BitVec 32) (v16 : FVec F S512x256 .bf16) (v19 : FVec F S512x128 .bf16) (v25 : FVec F S512x1 .f32) (v34 : FVec F S512x512 .f32) (v37 : FVec F S512x128 .f32) (cst_13 : FVec F S512x512 .f32)
    (x0 : Vec F S8192x256 .bf16) (x1 : Vec F S8192x128 .bf16) (x2 : Vec F S8192x128 .f32) (s0 : St F)
    (k : Fin (k0_t1_loop i).trips) (acc : FVec F S512x256 .f32 × FVec F S512x128 .f32) :
    inv1 c i arg2 harg2 arg3 harg3 arg4 harg4 arg8 v7 v9 x0 x1 x2 s0 k.val acc
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg1 v7 v9 v10 v13 v16 v19 v25 v34 v37 cst_13 k acc)
          (inv1 c i arg2 harg2 arg3 harg3 arg4 harg4 arg8 v7 v9 x0 x1 x2 s0 (k.val + 1)) := by
  obtain ⟨dk, dv⟩ := acc
  unfold inv1 k0_t1_body
  iintro ⟨H2, H3, H4, ⟨%f, H8, %hf⟩⟩
  sl_exec
  sl_step
  isplitl [H2]; · iexact H2
  isplitl [H3]; · iexact H3
  isplitl [H4]; · iexact H4
  iexists _
  isplitl [H8]; · iexact H8
  ipureintro
  rw [groups, ← hf]
  have hf0 : arg8.view.read (Elt F) f = arg8.view.read (Elt F) (arg8.view.writes (Elt F) f []) := rfl
  have q0 := fun (r : Fin 4) => (ldQ (F := F) arg2 (harg2.unread x0) (k0_off5_inb i k r) _ (off5_eq' i k r)).symm
  have o0 := fun (r : Fin 4) => (ldO (F := F) arg3 (harg3.unread x1) (k0_off6_inb i k r) _ (off6_eq' i k r)).symm
  have l0 := fun (r : Fin 4) => (ldL (F := F) arg4 (harg4.unread x2) (k0_off7_inb i k r) _ (off7_eq' i k r)).symm
  have e0 := fun (r : Fin 4) => (ldS (F := F) arg4 (harg4.unread x2) (k0_off8_inb i k r) _ (off8_eq' i k r)).symm
  have d0 := fun (r : Fin 4) g => (ldQ (F := F) arg8 g (k0_off5_inb i k r) _ (off5_eq' i k r)).symm
  have p0 := fun (r : Fin 4) w L => (stQ (F := F) arg8 f (k0_off5_inb i k r) w L _ (off5_eq' i k r)).symm
  rw [harg2.read_unread] at q0
  rw [harg3.read_unread] at o0
  rw [harg4.read_unread] at l0 e0
  simp only [blk4, blk, hf0]
  rw [show (i 1).val + 1 + 4 * k.val = (i 1).val + 1 + 4 * k.val + (0 : Fin 4).val from rfl,
    show (i 1).val + 1 + 4 * k.val + (0 : Fin 4).val + 1 = (i 1).val + 1 + 4 * k.val + (1 : Fin 4).val from rfl,
    show (i 1).val + 1 + 4 * k.val + (0 : Fin 4).val + 2 = (i 1).val + 1 + 4 * k.val + (2 : Fin 4).val from rfl,
    show (i 1).val + 1 + 4 * k.val + (0 : Fin 4).val + 3 = (i 1).val + 1 + 4 * k.val + (3 : Fin 4).val from rfl]
  simp only [q0, o0, l0, e0]
  rw [p0 0, d0 0, d0 1, p0 1, d0 2, p0 2, d0 3, p0 3]
  rfl

/-- The loop over groups of four blocks, by what it has summed before each trip. -/
@[sl_loop, instance_reducible] def loopInv_k0_t1 (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg1 : BitVec 32) (v7 : FVec F S512x256 .bf16) (v9 : FVec F S512x128 .bf16) (v10 : FVec F S512x256 .f32) (v13 : BitVec 32) (v16 : FVec F S512x256 .bf16) (v19 : FVec F S512x128 .bf16) (v25 : FVec F S512x1 .f32) (v34 : FVec F S512x512 .f32) (v37 : FVec F S512x128 .f32) (cst_13 : FVec F S512x512 .f32) (init : FVec F S512x256 .f32 × FVec F S512x128 .f32)
    (x0 : Vec F S8192x256 .bf16) (x1 : Vec F S8192x128 .bf16) (x2 : Vec F S8192x128 .f32) (s0 : St F) :
    Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg1 v7 v9 v10 v13 v16 v19 v25 v34 v37 cst_13 init where
  inv := fun k acc => inv1 c i arg2 harg2 arg3 harg3 arg4 harg4 arg8 v7 v9 x0 x1 x2 s0 k acc
  step := fun k acc => step1 c i arg2 harg2 arg3 harg3 arg4 harg4 arg5 harg5 arg6 harg6 arg7 harg7 arg8 harg8 arg9 harg9 arg10 harg10 arg11 harg11 arg1 v7 v9 v10 v13 v16 v19 v25 v34 v37 cst_13 x0 x1 x2 s0 k acc

end Cert.Proof.KernelIdeal

end
-- ==== Proof.Parts.lean ====
/-
  The pieces of one point of the grid: the block on the diagonal and the groups of four below it; the blocks left over.
-/
module

public import proofs.«01_k».proof.Proof.Loops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 1000000 in
/-- The diagonal's store and the groups: what the sums are afterwards. -/
theorem part8_run (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg1 : BitVec 32) (v7 : FVec F S512x256 .bf16) (v9 : FVec F S512x128 .bf16) (v10 : FVec F S512x256 .f32) (v13 : BitVec 32) (v16 : FVec F S512x256 .bf16) (v19 : FVec F S512x128 .bf16) (v25 : FVec F S512x1 .f32) (v34 : FVec F S512x512 .f32) (v37 : FVec F S512x128 .f32) (cst_13 : FVec F S512x512 .f32)
    (x0 : Vec F S8192x256 .bf16) (x1 : Vec F S8192x128 .bf16) (x2 : Vec F S8192x128 .f32) (f : arg8.view.ty.Contents (Elt F)) :
    (iprop((arg2.view.loc (c : Thread nD τ) ↦[arg2.view.set]{fullShare} harg2.unread x0) ∗ (arg3.view.loc (c : Thread nD τ) ↦[arg3.view.set]{fullShare} harg3.unread x1)
        ∗ (arg4.view.loc (c : Thread nD τ) ↦[arg4.view.set]{fullShare} harg4.unread x2)
        ∗ (arg8.view.loc (c : Thread nD τ) ↦[arg8.view.set]{fullShare} f)) : sProp (MT nD τ sig Unit (Elt F) ℕ (UU nD τ) ℕ))
      ⊢ wp frame (wpE (defs₀ (F := F)) 𝒱₀ (c : Thread nD τ) none) Set.univ
          (k0_part8 i arg2 harg2 arg3 harg3 arg4 harg4 arg5 harg5 arg6 harg6 arg7 harg7 arg8 harg8 arg9 harg9 arg10 harg10 arg11 harg11 arg1 v7 v9 v10 v13 v16 v19 v25 v34 v37 cst_13)
          (fun r => iprop((arg2.view.loc (c : Thread nD τ) ↦[arg2.view.set]{fullShare} harg2.unread x0) ∗ (arg3.view.loc (c : Thread nD τ) ↦[arg3.view.set]{fullShare} harg3.unread x1)
            ∗ (arg4.view.loc (c : Thread nD τ) ↦[arg4.view.set]{fullShare} harg4.unread x2)
            ∗ ∃ g, (arg8.view.loc (c : Thread nD τ) ↦[arg8.view.set]{fullShare} g)
              ∗ ⌜(r.2.1, r.2.2.1, arg8.view.read (Elt F) g) = groups v7 v9 x0 x1 x2 ((i 1).val + 1) ((15 - (i 1).val) / 4)
                  (k0_pay65 v9 v10 v16 v19 v25 v34 cst_13, v37,
                    putQ (arg8.view.read (Elt F) f) (i 1) (k0_pay66 v7 v9 v19 v25 v34 cst_13 (rowsQ (arg8.view.read (Elt F) f) (i 1))))⌝)) := by
  have htr : (k0_t2_loop i).trips = 0 := t2_trips i
  rw [k0_part8_eq_skeleton]
  unfold k0_part8_skel
  iintro ⟨H2, H3, H4, H8⟩
  sl_exec
  sl_step
  isplitl [H2]; · iexact H2
  isplitl [H3]; · iexact H3
  isplitl [H4]; · iexact H4
  iexists _
  isplitl [H8]; · iexact H8
  ipureintro
  have ht : Scf.trips (k0_t1_loop i).lb (k0_t1_loop i).ub (k0_t1_loop i).st = (15 - (i 1).val) / 4 := t1_trips i
  rw [stQ (F := F) arg8 f (k0_off1_inb i) _ [] (i 1) (k0_off1_eq i), ldQ (F := F) arg8 f (k0_off1_inb i) (i 1) (k0_off1_eq i), ht] at hL4
  exact hL4

theorem pay82_eq : k0_pay82 (F := F) = k0_pay4 := rfl
theorem pay84_eq : k0_pay84 (F := F) = k0_pay6 := rfl
theorem pay85_eq : k0_pay85 (F := F) = k0_pay7 := rfl
theorem pay89_eq : k0_pay89 (F := F) = k0_pay4 := rfl
theorem pay91_eq : k0_pay91 (F := F) = k0_pay6 := rfl
theorem pay92_eq : k0_pay92 (F := F) = k0_pay7 := rfl

set_option maxHeartbeats 1000000 in
/-- The first two of the blocks left over. -/
theorem part9_run (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (v7 : FVec F S512x256 .bf16) (v9 : FVec F S512x128 .bf16) (v52 : BitVec 32) (a : FVec F S512x256 .f32) (b : FVec F S512x128 .f32) (c4 : BitVec 32) (v77 : BitVec 1) (c1 : BitVec 32)
    (x0 : Vec F S8192x256 .bf16) (x1 : Vec F S8192x128 .bf16) (x2 : Vec F S8192x128 .f32) (f : arg8.view.ty.Contents (Elt F)) :
    (iprop((arg2.view.loc (c : Thread nD τ) ↦[arg2.view.set]{fullShare} harg2.unread x0) ∗ (arg3.view.loc (c : Thread nD τ) ↦[arg3.view.set]{fullShare} harg3.unread x1)
        ∗ (arg4.view.loc (c : Thread nD τ) ↦[arg4.view.set]{fullShare} harg4.unread x2)
        ∗ (arg8.view.loc (c : Thread nD τ) ↦[arg8.view.set]{fullShare} f)) : sProp (MT nD τ sig Unit (Elt F) ℕ (UU nD τ) ℕ))
      ⊢ wp frame (wpE (defs₀ (F := F)) 𝒱₀ (c : Thread nD τ) none) Set.univ
          (k0_part9 i arg2 harg2 arg3 harg3 arg4 harg4 arg5 harg5 arg6 harg6 arg7 harg7 arg8 harg8 arg9 harg9 arg10 harg10 arg11 harg11 v7 v9 v52 a b c4 v77 c1)
          (fun r => iprop((arg2.view.loc (c : Thread nD τ) ↦[arg2.view.set]{fullShare} harg2.unread x0) ∗ (arg3.view.loc (c : Thread nD τ) ↦[arg3.view.set]{fullShare} harg3.unread x1)
            ∗ (arg4.view.loc (c : Thread nD τ) ↦[arg4.view.set]{fullShare} harg4.unread x2)
            ∗ ∃ g, (arg8.view.loc (c : Thread nD τ) ↦[arg8.view.set]{fullShare} g)
              ∗ ⌜(r.1, r.2.1, arg8.view.read (Elt F) g) =
                  (let s2 : St F := if 0 < (15 - (i 1).val) % 4 then blk v7 v9 x0 x1 x2 15 (a, b, arg8.view.read (Elt F) f) else (a, b, arg8.view.read (Elt F) f)
                   if 1 < (15 - (i 1).val) % 4 then blk v7 v9 x0 x1 x2 14 s2 else s2)⌝)) := by
  rw [k0_part9_eq_skeleton]
  unfold k0_part9_skel
  iintro ⟨H2, H3, H4, H8⟩
  have q15 := (ldQ (F := F) arg2 (harg2.unread x0) inb_S8192x256_S512x256_7680_0 15 rfl).symm
  have o15 := (ldO (F := F) arg3 (harg3.unread x1) inb_S8192x128_S512x128_7680_0 15 rfl).symm
  have l15 := (ldL (F := F) arg4 (harg4.unread x2) inb_S8192x128_S512x1_7680_0 15 rfl).symm
  have e15 := (ldS (F := F) arg4 (harg4.unread x2) inb_S8192x128_S512x1_7680_64 15 rfl).symm
  have d15 := fun g => (ldQ (F := F) arg8 g inb_S8192x256_S512x256_7680_0 15 rfl).symm
  have p15 := fun w L => (stQ (F := F) arg8 f inb_S8192x256_S512x256_7680_0 w L 15 rfl).symm
  have q14 := (ldQ (F := F) arg2 (harg2.unread x0) inb_S8192x256_S512x256_7168_0 14 rfl).symm
  have o14 := (ldO (F := F) arg3 (harg3.unread x1) inb_S8192x128_S512x128_7168_0 14 rfl).symm
  have l14 := (ldL (F := F) arg4 (harg4.unread x2) inb_S8192x128_S512x1_7168_0 14 rfl).symm
  have e14 := (ldS (F := F) arg4 (harg4.unread x2) inb_S8192x128_S512x1_7168_64 14 rfl).symm
  have d14 := fun g => (ldQ (F := F) arg8 g inb_S8192x256_S512x256_7168_0 14 rfl).symm
  have p14 := fun w L => (stQ (F := F) arg8 f inb_S8192x256_S512x256_7168_0 w L 14 rfl).symm
  rw [harg2.read_unread] at q15 q14
  rw [harg3.read_unread] at o15 o14
  rw [harg4.read_unread] at l15 e15 l14 e14
  have hf0 : arg8.view.read (Elt F) f = arg8.view.read (Elt F) (arg8.view.writes (Elt F) f []) := rfl
  by_cases h2 : k0_cond2 i = 1#1
  · have h2' := (cond2_iff i).mp h2
    by_cases h3 : k0_cond3 i = 1#1
    · have h3' := (cond3_iff i).mp h3
      sl_exec (disch := first | sl_exact h2 | sl_exact h3)
      sl_step
      isplitl [H2]; · iexact H2
      isplitl [H3]; · iexact H3
      isplitl [H4]; · iexact H4
      iexists _
      isplitl [H8]; · iexact H8
      ipureintro
      rw [pay82_eq, pay84_eq, pay85_eq, pay89_eq, pay91_eq, pay92_eq, if_pos h2', if_pos h3', hf0]
      simp only [blk]
      rw [rowsQ_putQ_ne _ 15 14 _ (by decide)]
      simp only [q15, o15, l15, e15, q14, o14, l14, e14]
      rw [p15, p14, ← hf0, d15, d14]
      rfl
    · have h3' : ¬ 1 < (15 - (i 1).val) % 4 := fun h => h3 ((cond3_iff i).mpr h)
      sl_exec (disch := first | sl_exact h2 | sl_exact h3)
      sl_step
      isplitl [H2]; · iexact H2
      isplitl [H3]; · iexact H3
      isplitl [H4]; · iexact H4
      iexists _
      isplitl [H8]; · iexact H8
      ipureintro
      rw [pay82_eq, pay84_eq, pay85_eq, if_pos h2', if_neg h3', hf0]
      simp only [blk, q15, o15, l15, e15]
      rw [p15, ← hf0, d15]
  · have h2' : ¬ 0 < (15 - (i 1).val) % 4 := fun h => h2 ((cond2_iff i).mpr h)
    have h3' : ¬ 1 < (15 - (i 1).val) % 4 := by omega
    have h3 := fun h => h3' ((cond3_iff i).mp h)
    sl_exec (disch := first | sl_exact h2 | sl_exact h3)
    sl_step
    isplitl [H2]; · iexact H2
    isplitl [H3]; · iexact H3
    isplitl [H4]; · iexact H4
    iexists _
    isplitl [H8]; · iexact H8
    ipureintro
    rw [if_neg h2', if_neg h3']

end Cert.Proof.KernelIdeal

end
-- ==== Proof.Body.lean ====
/-
  One point of the grid: a block of keys and every block of queries from the diagonal on.
-/
module

public import proofs.«01_k».proof.Proof.Parts

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The point is the first of its head: the query gradients start from zero there. -/
abbrev first (i : grid0.Coords) : Prop := (Scalar.cmpi .ne (Scalar.extui (Scalar.cmpi .eq (BitVec.ofNat 32 (i 1).val) 0#32)) 0#32) = 1#1

theorem first_iff : ∀ i : grid0.Coords, first i ↔ (i 1).val = 0 := by decide +kernel

/-- What a point computes, from what the run of its pieces says: the values the run loaded are the blocks, the sums of
    each piece are those the next begins from. -/
theorem point_of (i : grid0.Coords) (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole)
    (x0 : Vec F S8192x256 .bf16) (x1 : Vec F S8192x128 .bf16) (x2 : Vec F S8192x128 .f32) (x3 : Vec F S512x128 .bf16) (x4 : Vec F S512x128 .bf16) (x5 : Vec F S512x128 .bf16) (D : Vec F S8192x256 .f32)
    {v7 : FVec F S512x256 .bf16} {v9 : FVec F S512x128 .bf16} {v10 : FVec F S512x256 .f32} {v16 : FVec F S512x256 .bf16} {v19 : FVec F S512x128 .bf16} {v25 : FVec F S512x1 .f32} {v34 : FVec F S512x512 .f32} {v37 : FVec F S512x128 .f32} {cst : FVec F S512x512 .f32} {D' : Vec F S8192x256 .f32}
    {s1 s3 s4 : St F}
    (h7 : v7 = k0_pay56 (arg5.view.readAt (Elt F) (Rect.unit (s := S512x128) ![0, 0] S512x128.size inb_S512x128_S512x128_0_0).toLoadRect (harg5.unread x3)) (arg7.view.readAt (Elt F) (Rect.unit (s := S512x128) ![0, 0] S512x128.size inb_S512x128_S512x128_0_0).toLoadRect (harg7.unread x5)))
    (h9 : v9 = k0_pay57 (arg6.view.readAt (Elt F) (Rect.unit (s := S512x128) ![0, 0] S512x128.size inb_S512x128_S512x128_0_0).toLoadRect (harg6.unread x4))) (h10 : v10 = k0_pay58 (F := F))
    (h16 : v16 = k0_pay59 (arg2.view.readAt (Elt F) (Rect.unit (s := S8192x256) (k0_off1 i) S512x256.size (k0_off1_inb i)).toLoadRect (harg2.unread x0))) (h19 : v19 = k0_pay60 (arg3.view.readAt (Elt F) (Rect.unit (s := S8192x128) (k0_off2 i) S512x128.size (k0_off2_inb i)).toLoadRect (harg3.unread x1))) (h25 : v25 = k0_pay61 (arg4.view.readAt (Elt F) (Rect.unit (s := S8192x128) (k0_off4 i) S512x1.size (k0_off4_inb i)).toLoadRect (harg4.unread x2)))
    (h34 : v34 = k0_pay62 (arg5.view.readAt (Elt F) (Rect.unit (s := S512x128) ![0, 0] S512x128.size inb_S512x128_S512x128_0_0).toLoadRect (harg5.unread x3)) (arg7.view.readAt (Elt F) (Rect.unit (s := S512x128) ![0, 0] S512x128.size inb_S512x128_S512x128_0_0).toLoadRect (harg7.unread x5)) (arg2.view.readAt (Elt F) (Rect.unit (s := S8192x256) (k0_off1 i) S512x256.size (k0_off1_inb i)).toLoadRect (harg2.unread x0)) (arg4.view.readAt (Elt F) (Rect.unit (s := S8192x128) (k0_off3 i) S512x1.size (k0_off3_inb i)).toLoadRect (harg4.unread x2)))
    (h37 : v37 = k0_pay63 (arg5.view.readAt (Elt F) (Rect.unit (s := S512x128) ![0, 0] S512x128.size inb_S512x128_S512x128_0_0).toLoadRect (harg5.unread x3)) (arg7.view.readAt (Elt F) (Rect.unit (s := S512x128) ![0, 0] S512x128.size inb_S512x128_S512x128_0_0).toLoadRect (harg7.unread x5)) (arg2.view.readAt (Elt F) (Rect.unit (s := S8192x256) (k0_off1 i) S512x256.size (k0_off1_inb i)).toLoadRect (harg2.unread x0)) (arg3.view.readAt (Elt F) (Rect.unit (s := S8192x128) (k0_off2 i) S512x128.size (k0_off2_inb i)).toLoadRect (harg3.unread x1)) (arg4.view.readAt (Elt F) (Rect.unit (s := S8192x128) (k0_off3 i) S512x1.size (k0_off3_inb i)).toLoadRect (harg4.unread x2)))
    (hc : cst = constant S512x512 .f32 0x00000000#32) (hD : D' = D)
    (h1 : s1 = groups v7 v9 x0 x1 x2 ((i 1).val + 1) ((15 - (i 1).val) / 4)
      (k0_pay65 v9 v10 v16 v19 v25 v34 cst, v37, putQ D' (i 1) (k0_pay66 v7 v9 v19 v25 v34 cst (rowsQ D' (i 1)))))
    (h3 : s3 = (let s2 : St F := if 0 < (15 - (i 1).val) % 4 then blk v7 v9 x0 x1 x2 15 s1 else s1
                if 1 < (15 - (i 1).val) % 4 then blk v7 v9 x0 x1 x2 14 s2 else s2))
    (h4 : s4 = if 2 < (15 - (i 1).val) % 4 then blk v7 v9 x0 x1 x2 13 s3 else s3) :
    s4 = point x0 x1 x2 x3 x4 x5 (i 1) D := by
  have e3 : (arg5.view.readAt (Elt F) (Rect.unit (s := S512x128) ![0, 0] S512x128.size inb_S512x128_S512x128_0_0).toLoadRect (harg5.unread x3)) = x3 := (View.readAt_full arg5.view _ inb_S512x128_S512x128_0_0).trans (harg5.read_unread x3)
  have e4 : (arg6.view.readAt (Elt F) (Rect.unit (s := S512x128) ![0, 0] S512x128.size inb_S512x128_S512x128_0_0).toLoadRect (harg6.unread x4)) = x4 := (View.readAt_full arg6.view _ inb_S512x128_S512x128_0_0).trans (harg6.read_unread x4)
  have e5 : (arg7.view.readAt (Elt F) (Rect.unit (s := S512x128) ![0, 0] S512x128.size inb_S512x128_S512x128_0_0).toLoadRect (harg7.unread x5)) = x5 := (View.readAt_full arg7.view _ inb_S512x128_S512x128_0_0).trans (harg7.read_unread x5)
  have eq : (arg2.view.readAt (Elt F) (Rect.unit (s := S8192x256) (k0_off1 i) S512x256.size (k0_off1_inb i)).toLoadRect (harg2.unread x0)) = rowsQ x0 (i 1) := (ldQ (F := F) arg2 _ (k0_off1_inb i) (i 1) (k0_off1_eq i)).trans (by rw [harg2.read_unread])
  have eo : (arg3.view.readAt (Elt F) (Rect.unit (s := S8192x128) (k0_off2 i) S512x128.size (k0_off2_inb i)).toLoadRect (harg3.unread x1)) = rowsO x1 (i 1) := (ldO (F := F) arg3 _ (k0_off2_inb i) (i 1) (k0_off2_eq i)).trans (by rw [harg3.read_unread])
  have el : (arg4.view.readAt (Elt F) (Rect.unit (s := S8192x128) (k0_off3 i) S512x1.size (k0_off3_inb i)).toLoadRect (harg4.unread x2)) = rowsL x2 (i 1) := (ldL (F := F) arg4 _ (k0_off3_inb i) (i 1) (k0_off3_eq i)).trans (by rw [harg4.read_unread])
  have ee : (arg4.view.readAt (Elt F) (Rect.unit (s := S8192x128) (k0_off4 i) S512x1.size (k0_off4_inb i)).toLoadRect (harg4.unread x2)) = rowsS x2 (i 1) := (ldS (F := F) arg4 _ (k0_off4_inb i) (i 1) (k0_off4_eq i)).trans (by rw [harg4.read_unread])
  rw [e3, e5] at h7 h34 h37
  rw [e4] at h9
  rw [eq] at h16 h34 h37
  rw [eo] at h19 h37
  rw [ee] at h25
  rw [el] at h34 h37
  subst h7 h9 h10 h16 h19 h25 h34 h37 hc hD h1 h3 h4; rfl

/-- The last of the blocks left over, as the run leaves it. -/
theorem blk13 (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg8 : Memref sig .tc .vmem S8192x256 .f32) (x0 : Vec F S8192x256 .bf16) (x1 : Vec F S8192x128 .bf16) (x2 : Vec F S8192x128 .f32)
    (v7 : FVec F S512x256 .bf16) (v9 : FVec F S512x128 .bf16) (a : FVec F S512x256 .f32) (b : FVec F S512x128 .f32) (g : arg8.view.ty.Contents (Elt F)) :
    ((k0_pay6 v7 v9 a (arg2.view.readAt (Elt F) (Rect.unit (s := S8192x256) ![6656, 0] S512x256.size inb_S8192x256_S512x256_6656_0).toLoadRect (harg2.unread x0)) (arg3.view.readAt (Elt F) (Rect.unit (s := S8192x128) ![6656, 0] S512x128.size inb_S8192x128_S512x128_6656_0).toLoadRect (harg3.unread x1)) (arg4.view.readAt (Elt F) (Rect.unit (s := S8192x128) ![6656, 0] S512x1.size inb_S8192x128_S512x1_6656_0).toLoadRect (harg4.unread x2)) (arg4.view.readAt (Elt F) (Rect.unit (s := S8192x128) ![6656, 64] S512x1.size inb_S8192x128_S512x1_6656_64).toLoadRect (harg4.unread x2)), k0_pay4 v7 b (arg2.view.readAt (Elt F) (Rect.unit (s := S8192x256) ![6656, 0] S512x256.size inb_S8192x256_S512x256_6656_0).toLoadRect (harg2.unread x0)) (arg3.view.readAt (Elt F) (Rect.unit (s := S8192x128) ![6656, 0] S512x128.size inb_S8192x128_S512x128_6656_0).toLoadRect (harg3.unread x1)) (arg4.view.readAt (Elt F) (Rect.unit (s := S8192x128) ![6656, 0] S512x1.size inb_S8192x128_S512x1_6656_0).toLoadRect (harg4.unread x2)),
      arg8.view.read (Elt F) (arg8.view.writes (Elt F) g [⟨(Rect.unit (s := S8192x256) ![6656, 0] S512x256.size inb_S8192x256_S512x256_6656_0), k0_pay7 v7 v9 (arg2.view.readAt (Elt F) (Rect.unit (s := S8192x256) ![6656, 0] S512x256.size inb_S8192x256_S512x256_6656_0).toLoadRect (harg2.unread x0)) (arg3.view.readAt (Elt F) (Rect.unit (s := S8192x128) ![6656, 0] S512x128.size inb_S8192x128_S512x128_6656_0).toLoadRect (harg3.unread x1)) (arg4.view.readAt (Elt F) (Rect.unit (s := S8192x128) ![6656, 0] S512x1.size inb_S8192x128_S512x1_6656_0).toLoadRect (harg4.unread x2)) (arg4.view.readAt (Elt F) (Rect.unit (s := S8192x128) ![6656, 64] S512x1.size inb_S8192x128_S512x1_6656_64).toLoadRect (harg4.unread x2))
        (arg8.view.readAt (Elt F) (Rect.unit (s := S8192x256) ![6656, 0] S512x256.size inb_S8192x256_S512x256_6656_0).toLoadRect g)⟩])) : St F)
      = blk v7 v9 x0 x1 x2 13 (a, b, arg8.view.read (Elt F) g) := by
  have eq : (arg2.view.readAt (Elt F) (Rect.unit (s := S8192x256) ![6656, 0] S512x256.size inb_S8192x256_S512x256_6656_0).toLoadRect (harg2.unread x0)) = rowsQ x0 13 := (ldQ (F := F) arg2 _ inb_S8192x256_S512x256_6656_0 13 rfl).trans (by rw [harg2.read_unread])
  have eo : (arg3.view.readAt (Elt F) (Rect.unit (s := S8192x128) ![6656, 0] S512x128.size inb_S8192x128_S512x128_6656_0).toLoadRect (harg3.unread x1)) = rowsO x1 13 := (ldO (F := F) arg3 _ inb_S8192x128_S512x128_6656_0 13 rfl).trans (by rw [harg3.read_unread])
  have el : (arg4.view.readAt (Elt F) (Rect.unit (s := S8192x128) ![6656, 0] S512x1.size inb_S8192x128_S512x1_6656_0).toLoadRect (harg4.unread x2)) = rowsL x2 13 := (ldL (F := F) arg4 _ inb_S8192x128_S512x1_6656_0 13 rfl).trans (by rw [harg4.read_unread])
  have ee : (arg4.view.readAt (Elt F) (Rect.unit (s := S8192x128) ![6656, 64] S512x1.size inb_S8192x128_S512x1_6656_64).toLoadRect (harg4.unread x2)) = rowsS x2 13 := (ldS (F := F) arg4 _ inb_S8192x128_S512x1_6656_64 13 rfl).trans (by rw [harg4.read_unread])
  rw [eq, eo, el, ee, ldQ (F := F) arg8 g inb_S8192x256_S512x256_6656_0 13 rfl, stQ (F := F) arg8 g inb_S8192x256_S512x256_6656_0 _ [] 13 rfl]
  rfl

set_option maxHeartbeats 4000000 in
/-- A point that is not the first of its head adds to the query gradients it finds. -/
theorem body_rest (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (hc0 : ¬first i)
    (x0 : Vec F S8192x256 .bf16) (x1 : Vec F S8192x128 .bf16) (x2 : Vec F S8192x128 .f32) (x3 : Vec F S512x128 .bf16) (x4 : Vec F S512x128 .bf16) (x5 : Vec F S512x128 .bf16) (D : Vec F S8192x256 .f32) (K : PUnit → sProp (MT nD τ sig Unit (Elt F) ℕ (UU nD τ) ℕ)) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare D ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ owns (c : Thread nD τ) arg8 fullShare (point x0 x1 x2 x3 x4 x5 (i 1) D).2.2
              ∗ owns (c : Thread nD τ) arg9 fullShare (k0_pay8 (point x0 x1 x2 x3 x4 x5 (i 1) D).1)
              ∗ owns (c : Thread nD τ) arg10 fullShare (k0_pay10 (point x0 x1 x2 x3 x4 x5 (i 1) D).2.1)
              ∗ owns (c : Thread nD τ) arg11 fullShare (k0_pay9 (point x0 x1 x2 x3 x4 x5 (i 1) D).1)) -∗ K ⟨⟩))
          ⊢ wp frame (wpE (defs₀ (F := F)) 𝒱₀ c none) Set.univ (cc0_l3_mla_attn_b i arg2 harg2 arg3 harg3 arg4 harg4 arg5 harg5 arg6 harg6 arg7 harg7 arg8 harg8 arg9 harg9 arg10 harg10 arg11 harg11) K := by
    simp only [cc0_l3_mla_attn_b_eq_skeleton]; unfold cc0_l3_mla_attn_b_skel
    unfold owns
    have h8 := @part8_run F _ _ c i arg2 harg2 arg3 harg3 arg4 harg4 arg5 harg5 arg6 harg6 arg7 harg7 arg8 harg8 arg9 harg9 arg10 harg10 arg11 harg11
    have h9 := @part9_run F _ _ c i arg2 harg2 arg3 harg3 arg4 harg4 arg5 harg5 arg6 harg6 arg7 harg7 arg8 harg8 arg9 harg9 arg10 harg10 arg11 harg11
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    by_cases hc4 : k0_cond4 i = 1#1
    · sl_exec (disch := first | sl_exact hc0 | sl_exact hc4)
      sl_step
      have hp := point_of i arg2 harg2 arg3 harg3 arg4 harg4 arg5 harg5 arg6 harg6 arg7 harg7 arg8 harg8 arg9 harg9 arg10 harg10 arg11 harg11 x0 x1 x2 x3 x4 x5 D rfl rfl rfl rfl rfl rfl rfl rfl rfl (harg8.read_unread D) hk0_part8_4 hk0_part9_4
        ((blk13 arg2 harg2 arg3 harg3 arg4 harg4 arg8 x0 x1 x2 _ _ _ _ _).trans (if_pos ((cond4_iff i).mp hc4)).symm)
      iapply Hk
      isplitl [Hk0_part9_0]
      · iexists _; isplitr
        · ipureintro; exact harg2.read_unread _
        · iexact Hk0_part9_0
      isplitl [Hk0_part9_1]
      · iexists _; isplitr
        · ipureintro; exact harg3.read_unread _
        · iexact Hk0_part9_1
      isplitl [Hk0_part9_2]
      · iexists _; isplitr
        · ipureintro; exact harg4.read_unread _
        · iexact Hk0_part9_2
      isplitl [H3]
      · iexists _; isplitr
        · ipureintro; exact harg5.read_unread _
        · iexact H3
      isplitl [H4]
      · iexists _; isplitr
        · ipureintro; exact harg6.read_unread _
        · iexact H4
      isplitl [H5]
      · iexists _; isplitr
        · ipureintro; exact harg7.read_unread _
        · iexact H5
      isplitl [Hk0_part9_3]
      · iexists _; isplitr
        · ipureintro; exact congrArg (fun s : St F => s.2.2) hp
        · iexact Hk0_part9_3
      isplitl [H7]
      · iexists _; isplitr
        · ipureintro; exact (View.read_writes_full arg9.view f7 inb_S512x128_S512x128_0_0 _ []).trans (congrArg (fun s : St F => k0_pay8 s.1) hp)
        · iexact H7
      isplitl [H8]
      · iexists _; isplitr
        · ipureintro; exact (View.read_writes_full arg10.view f8 inb_S512x128_S512x128_0_0 _ []).trans (congrArg (fun s : St F => k0_pay10 s.2.1) hp)
        · iexact H8
      iexists _; isplitr
      · ipureintro; exact (View.read_writes_full arg11.view f9 inb_S512x128_S512x128_0_0 _ []).trans (congrArg (fun s : St F => k0_pay9 s.1) hp)
      · iexact H9
    · sl_exec (disch := first | sl_exact hc0 | sl_exact hc4)
      sl_step
      have hp := point_of i arg2 harg2 arg3 harg3 arg4 harg4 arg5 harg5 arg6 harg6 arg7 harg7 arg8 harg8 arg9 harg9 arg10 harg10 arg11 harg11 x0 x1 x2 x3 x4 x5 D rfl rfl rfl rfl rfl rfl rfl rfl rfl (harg8.read_unread D) hk0_part8_4 hk0_part9_4
        (if_neg fun h => hc4 ((cond4_iff i).mpr h)).symm
      iapply Hk
      isplitl [Hk0_part9_0]
      · iexists _; isplitr
        · ipureintro; exact harg2.read_unread _
        · iexact Hk0_part9_0
      isplitl [Hk0_part9_1]
      · iexists _; isplitr
        · ipureintro; exact harg3.read_unread _
        · iexact Hk0_part9_1
      isplitl [Hk0_part9_2]
      · iexists _; isplitr
        · ipureintro; exact harg4.read_unread _
        · iexact Hk0_part9_2
      isplitl [H3]
      · iexists _; isplitr
        · ipureintro; exact harg5.read_unread _
        · iexact H3
      isplitl [H4]
      · iexists _; isplitr
        · ipureintro; exact harg6.read_unread _
        · iexact H4
      isplitl [H5]
      · iexists _; isplitr
        · ipureintro; exact harg7.read_unread _
        · iexact H5
      isplitl [Hk0_part9_3]
      · iexists _; isplitr
        · ipureintro; exact congrArg (fun s : St F => s.2.2) hp
        · iexact Hk0_part9_3
      isplitl [H7]
      · iexists _; isplitr
        · ipureintro; exact (View.read_writes_full arg9.view f7 inb_S512x128_S512x128_0_0 _ []).trans (congrArg (fun s : St F => k0_pay8 s.1) hp)
        · iexact H7
      isplitl [H8]
      · iexists _; isplitr
        · ipureintro; exact (View.read_writes_full arg10.view f8 inb_S512x128_S512x128_0_0 _ []).trans (congrArg (fun s : St F => k0_pay10 s.2.1) hp)
        · iexact H8
      iexists _; isplitr
      · ipureintro; exact (View.read_writes_full arg11.view f9 inb_S512x128_S512x128_0_0 _ []).trans (congrArg (fun s : St F => k0_pay9 s.1) hp)
      · iexact H9

set_option maxHeartbeats 4000000 in
/-- The first point of a head begins from zero. -/
theorem body_first (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (hc0 : first i)
    (x0 : Vec F S8192x256 .bf16) (x1 : Vec F S8192x128 .bf16) (x2 : Vec F S8192x128 .f32) (x3 : Vec F S512x128 .bf16) (x4 : Vec F S512x128 .bf16) (x5 : Vec F S512x128 .bf16) (K : PUnit → sProp (MT nD τ sig Unit (Elt F) ℕ (UU nD τ) ℕ)) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ owns (c : Thread nD τ) arg8 fullShare (point x0 x1 x2 x3 x4 x5 (i 1) (k0_pay55 (F := F))).2.2
              ∗ owns (c : Thread nD τ) arg9 fullShare (k0_pay8 (point x0 x1 x2 x3 x4 x5 (i 1) (k0_pay55 (F := F))).1)
              ∗ owns (c : Thread nD τ) arg10 fullShare (k0_pay10 (point x0 x1 x2 x3 x4 x5 (i 1) (k0_pay55 (F := F))).2.1)
              ∗ owns (c : Thread nD τ) arg11 fullShare (k0_pay9 (point x0 x1 x2 x3 x4 x5 (i 1) (k0_pay55 (F := F))).1)) -∗ K ⟨⟩))
          ⊢ wp frame (wpE (defs₀ (F := F)) 𝒱₀ c none) Set.univ (cc0_l3_mla_attn_b i arg2 harg2 arg3 harg3 arg4 harg4 arg5 harg5 arg6 harg6 arg7 harg7 arg8 harg8 arg9 harg9 arg10 harg10 arg11 harg11) K := by
    simp only [cc0_l3_mla_attn_b_eq_skeleton]; unfold cc0_l3_mla_attn_b_skel
    unfold owns
    have h8 := @part8_run F _ _ c i arg2 harg2 arg3 harg3 arg4 harg4 arg5 harg5 arg6 harg6 arg7 harg7 arg8 harg8 arg9 harg9 arg10 harg10 arg11 harg11
    have h9 := @part9_run F _ _ c i arg2 harg2 arg3 harg3 arg4 harg4 arg5 harg5 arg6 harg6 arg7 harg7 arg8 harg8 arg9 harg9 arg10 harg10 arg11 harg11
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    by_cases hc4 : k0_cond4 i = 1#1
    · sl_exec (disch := first | sl_exact hc0 | sl_exact hc4)
      sl_step
      have hp := point_of i arg2 harg2 arg3 harg3 arg4 harg4 arg5 harg5 arg6 harg6 arg7 harg7 arg8 harg8 arg9 harg9 arg10 harg10 arg11 harg11 x0 x1 x2 x3 x4 x5 (k0_pay55 (F := F)) rfl rfl rfl rfl rfl rfl rfl rfl rfl (View.read_writes_full arg8.view f6 inb_S8192x256_S8192x256_0_0 _ []) hk0_part8_4 hk0_part9_4
        ((blk13 arg2 harg2 arg3 harg3 arg4 harg4 arg8 x0 x1 x2 _ _ _ _ _).trans (if_pos ((cond4_iff i).mp hc4)).symm)
      iapply Hk
      isplitl [Hk0_part9_0]
      · iexists _; isplitr
        · ipureintro; exact harg2.read_unread _
        · iexact Hk0_part9_0
      isplitl [Hk0_part9_1]
      · iexists _; isplitr
        · ipureintro; exact harg3.read_unread _
        · iexact Hk0_part9_1
      isplitl [Hk0_part9_2]
      · iexists _; isplitr
        · ipureintro; exact harg4.read_unread _
        · iexact Hk0_part9_2
      isplitl [H3]
      · iexists _; isplitr
        · ipureintro; exact harg5.read_unread _
        · iexact H3
      isplitl [H4]
      · iexists _; isplitr
        · ipureintro; exact harg6.read_unread _
        · iexact H4
      isplitl [H5]
      · iexists _; isplitr
        · ipureintro; exact harg7.read_unread _
        · iexact H5
      isplitl [Hk0_part9_3]
      · iexists _; isplitr
        · ipureintro; exact congrArg (fun s : St F => s.2.2) hp
        · iexact Hk0_part9_3
      isplitl [H7]
      · iexists _; isplitr
        · ipureintro; exact (View.read_writes_full arg9.view f7 inb_S512x128_S512x128_0_0 _ []).trans (congrArg (fun s : St F => k0_pay8 s.1) hp)
        · iexact H7
      isplitl [H8]
      · iexists _; isplitr
        · ipureintro; exact (View.read_writes_full arg10.view f8 inb_S512x128_S512x128_0_0 _ []).trans (congrArg (fun s : St F => k0_pay10 s.2.1) hp)
        · iexact H8
      iexists _; isplitr
      · ipureintro; exact (View.read_writes_full arg11.view f9 inb_S512x128_S512x128_0_0 _ []).trans (congrArg (fun s : St F => k0_pay9 s.1) hp)
      · iexact H9
    · sl_exec (disch := first | sl_exact hc0 | sl_exact hc4)
      sl_step
      have hp := point_of i arg2 harg2 arg3 harg3 arg4 harg4 arg5 harg5 arg6 harg6 arg7 harg7 arg8 harg8 arg9 harg9 arg10 harg10 arg11 harg11 x0 x1 x2 x3 x4 x5 (k0_pay55 (F := F)) rfl rfl rfl rfl rfl rfl rfl rfl rfl (View.read_writes_full arg8.view f6 inb_S8192x256_S8192x256_0_0 _ []) hk0_part8_4 hk0_part9_4
        (if_neg fun h => hc4 ((cond4_iff i).mpr h)).symm
      iapply Hk
      isplitl [Hk0_part9_0]
      · iexists _; isplitr
        · ipureintro; exact harg2.read_unread _
        · iexact Hk0_part9_0
      isplitl [Hk0_part9_1]
      · iexists _; isplitr
        · ipureintro; exact harg3.read_unread _
        · iexact Hk0_part9_1
      isplitl [Hk0_part9_2]
      · iexists _; isplitr
        · ipureintro; exact harg4.read_unread _
        · iexact Hk0_part9_2
      isplitl [H3]
      · iexists _; isplitr
        · ipureintro; exact harg5.read_unread _
        · iexact H3
      isplitl [H4]
      · iexists _; isplitr
        · ipureintro; exact harg6.read_unread _
        · iexact H4
      isplitl [H5]
      · iexists _; isplitr
        · ipureintro; exact harg7.read_unread _
        · iexact H5
      isplitl [Hk0_part9_3]
      · iexists _; isplitr
        · ipureintro; exact congrArg (fun s : St F => s.2.2) hp
        · iexact Hk0_part9_3
      isplitl [H7]
      · iexists _; isplitr
        · ipureintro; exact (View.read_writes_full arg9.view f7 inb_S512x128_S512x128_0_0 _ []).trans (congrArg (fun s : St F => k0_pay8 s.1) hp)
        · iexact H7
      isplitl [H8]
      · iexists _; isplitr
        · ipureintro; exact (View.read_writes_full arg10.view f8 inb_S512x128_S512x128_0_0 _ []).trans (congrArg (fun s : St F => k0_pay10 s.2.1) hp)
        · iexact H8
      iexists _; isplitr
      · ipureintro; exact (View.read_writes_full arg11.view f9 inb_S512x128_S512x128_0_0 _ []).trans (congrArg (fun s : St F => k0_pay9 s.1) hp)
      · iexact H9

end Cert.Proof.KernelIdeal

end
-- ==== Proof.Run.lean ====
/-
  The whole call: what each output's buffer holds after each point of the grid, the launch, and the frame.
-/
module

public import proofs.«01_k».proof.Proof.Body
public import proofs.«01_k».proof.Proof.Gen.KernelIdeal.Points
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The second coordinate of a point: the block of keys. -/
theorem key_of : ∀ t : Fin grid0.N, (grid0.coords t 1).val = t.val % 16 := by decide +kernel

/-- The sums after point `t`, from the query gradients it finds. -/
def at_ (c : Dev nD) (t : Fin cfg0.N) (D : Vec F S8192x256 .f32) : St F :=
  point (iblk m c 0 t) (iblk m c 1 t) (iblk m c 2 t) (iblk m c 3 t) (iblk m c 4 t) (iblk m c 5 t) (grid0.coords t 1) D

/-- The sums after each point: a head's first point begins its query gradients from zero. -/
def sums (c : Dev nD) : (n : ℕ) → n < cfg0.N → St F
  | 0, h => at_ m c ⟨0, h⟩ (k0_pay55 (F := F))
  | n + 1, h => at_ m c ⟨n + 1, h⟩ (if (n + 1) % 16 = 0 then k0_pay55 (F := F) else (sums c n (Nat.lt_of_succ_lt h)).2.2)

theorem sums_first (c : Dev nD) (t : Fin cfg0.N) (h0 : t.val % 16 = 0) : sums m c t.val t.isLt = at_ m c t (k0_pay55 (F := F)) := by
  obtain ⟨n, hn⟩ := t
  cases n with
  | zero => rfl
  | succ n => exact congrArg (at_ m c ⟨n + 1, hn⟩) (if_pos h0)

theorem sums_rest (c : Dev nD) (t : Fin cfg0.N) (h0 : ¬t.val % 16 = 0) :
    sums m c t.val t.isLt = at_ m c t (sums m c (t.val - 1) (Nat.lt_of_le_of_lt (Nat.sub_le _ _) t.isLt)).2.2 := by
  obtain ⟨n, hn⟩ := t
  cases n with
  | zero => exact absurd (Nat.zero_mod _) h0
  | succ n => exact congrArg (at_ m c ⟨n + 1, hn⟩) (if_neg h0)

/-- What the call's buffers hold: an input its block, an output what the sums say. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (sums m c t.val t.isLt).2.2
    | ⟨7, _⟩ => k0_pay8 (sums m c t.val t.isLt).1
    | ⟨8, _⟩ => k0_pay10 (sums m c t.val t.isLt).2.1
    | ⟨9, _⟩ => k0_pay9 (sums m c t.val t.isLt).1
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (sums m c t.val t.isLt).2.2 := by dsimp only [dats]
theorem after_7 (c : Dev nD) (t : Fin cfg0.N) : (dats m 0 c).after 7 t = k0_pay8 (sums m c t.val t.isLt).1 := by dsimp only [dats]
theorem after_8 (c : Dev nD) (t : Fin cfg0.N) : (dats m 0 c).after 8 t = k0_pay10 (sums m c t.val t.isLt).2.1 := by dsimp only [dats]
theorem after_9 (c : Dev nD) (t : Fin cfg0.N) : (dats m 0 c).after 9 t = k0_pay9 (sums m c t.val t.isLt).1 := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
/-- Between two points of a head the query gradients' buffer is not written back. -/
theorem before_6 (c : Dev nD) (t : Fin cfg0.N) (h0 : ¬t.val % 16 = 0) (d) :
    (dats m 0 c).before 6 t d = (sums m c (t.val - 1) (Nat.lt_of_le_of_lt (Nat.sub_le _ _) t.isLt)).2.2 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body takes at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- The body at any point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  by_cases h0 : t.val % 16 = 0
  · rw [sums_first m c t h0]
    have hc : first (grid0.coords t) := (first_iff _).mpr ((key_of t).trans h0)
    unfold at_
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ hc (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [sums_rest m c t h0]
    simp only [before_6 m c t h0]
    have hc : ¬first (grid0.coords t) := fun h => h0 ((key_of t).symm.trans ((first_iff _).mp h))
    unfold at_
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_rest c (grid0.coords t) _ _ _ _ _ _ _ _ _ _ _ _ _ _ _ _ _ _ _ _ hc (iblk m c 0 t) (iblk m c 1 t) (iblk m c 2 t) (iblk m c 3 t) (iblk m c 4 t) (iblk m c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, row]
  exact triple_restated (sound_body m c t) rfl .rfl fun _ => .rfl

set_option backward.isDefEq.respectTransparency.types false in
set_option maxHeartbeats 800000 in
/-- The launch: every execution ends with each array at what the blocks written back make of it. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ 𝒱₀ m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The argument arrays end as they began, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.KernelIdeal

end
-- ==== Proof.Host.lean ====
/-
  What the operations before the call leave in the call's operands: each written over what the earlier of them leave.
-/
module

public import proofs.«01_k».proof.Proof.Gen.KernelIdeal.Frame
public import Idealize.ShloMosaic.Lib.StableHlo.RunRead
public import Idealize.ShloMosaic.Lib.StableHlo.ReadAt

@[expose] public section

noncomputable section

namespace Cert.Proof.KernelIdeal

open Cert.KernelIdeal Cert.KernelIdeal.Gen
open Idealize.ShloMosaic Idealize.ShloMosaic.TcCoe Idealize.ShloMosaic.StableHlo Idealize.SL.Sem

variable {F : FTy → Type} [FloatOps F] (m : (ℓ : Loc nD τ sig) → Buf (Elt F) ℓ) (c : Dev nD)

/-- The joined keys. -/
def joinKeys (x : FVec F S8192x16x128 .f32) (y : FVec F S8192x16x64 .f32) : FVec F S8192x16x192 .f32 :=
  concatenate S8192x16x192 2 [⟨S8192x16x128, x⟩, ⟨S8192x16x64, y⟩] concatenates_S8192x16x128_S8192x16x64_S8192x16x192_d2
/-- The keys' own lanes of all heads, then the values. -/
def joinKV (x y : FVec F S8192x2048 .f32) : FVec F S8192x4096 .f32 :=
  concatenate S8192x4096 1 [⟨S8192x2048, x⟩, ⟨S8192x2048, y⟩] concatenates_S8192x2048_S8192x2048_S8192x4096_d1
/-- The mask: a key at or before the query. -/
def mask : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))
/-- The lanes of the row statistics that hold the log-sum-exp. -/
def lanes : IVec S8192x16x128 1 :=
  cmpi .slt (iotaInDim S8192x16x128 32 2) (broadcastInDim S8192x16x128 ![] bcast_S_S8192x16x128 (constantI S_ 32 64#32))

theorem V_v1 : V m c main_v1 = broadcastInDim S8192x16x64 ![0, 1, 2] bcast_S8192x1x64_S8192x16x64_0_1_2 (broadcastInDim S8192x1x64 ![0, 2] bcast_S8192x64_S8192x1x64_0_2 (m ((c : Thread nD τ).loc main_arg2))) := by
  after_reads_simp

theorem V_v2 : V m c main_v2 = joinKeys (m ((c : Thread nD τ).loc main_arg1)) (V m c main_v1) := by
  rw [V_v1]
  after_reads_simp
  refine (congrArg₂ joinKeys ?_ ?_ : joinKeys _ _ = joinKeys _ _)
  · after_reads_simp
  · after_reads_simp

theorem V_v5 : V m c main_v5 = mulf (Host.dotGeneral dot_S8192x16x192_S8192x16x192_S16x8192x8192_2_2_0_0_1_1 none (m ((c : Thread nD τ).loc main_arg0)) (V m c main_v2))
      (broadcastInDim S16x8192x8192 ![] bcast_S_S16x8192x8192 (constant S_ .f32 0x3D93CD3A#32)) := by
  after_reads_simp

theorem V_v12 : V m c main_v12 = select (broadcastInDim S16x8192x8192 ![1, 2] bcast_S8192x8192_S16x8192x8192_1_2 mask) (V m c main_v5)
      (broadcastInDim S16x8192x8192 ![] bcast_S_S16x8192x8192 (constant S_ .f32 0xFF800000#32)) := by
  after_reads_simp
  rfl

theorem V_v13 : V m c main_v13 = Host.reduce FloatOps.maximumf (V m c main_v12) (constant S_ .f32 0xFF800000#32) reducesTo_S16x8192x8192_S16x8192_d2 h_S_ := by
  after_reads_simp

theorem V_v17 : V m c main_v17 = Host.exp (subf (V m c main_v12) (broadcastInDim S16x8192x8192 ![0, 1, 2] bcast_S16x8192x1_S16x8192x8192_0_1_2
      (broadcastInDim S16x8192x1 ![0, 1] bcast_S16x8192_S16x8192x1_0_1 (V m c main_v13)))) := by
  after_reads_simp

theorem V_v18 : V m c main_v18 = Host.reduceAdd (V m c main_v17) (constant S_ .f32 0x00000000#32) reducesTo_S16x8192x8192_S16x8192_d2 h_S_ := by
  after_reads_simp

theorem V_v20 : V m c main_v20 = addf (V m c main_v13) (Host.log (V m c main_v18)) := by
  after_reads_simp

theorem V_v24 : V m c main_v24 = Host.divf (V m c main_v17) (broadcastInDim S16x8192x8192 ![0, 1, 2] bcast_S16x8192x1_S16x8192x8192_0_1_2
      (broadcastInDim S16x8192x1 ![0, 1] bcast_S16x8192_S16x8192x1_0_1 (V m c main_v18))) := by
  after_reads_simp

theorem V_v26 : V m c main_v26 = transpose S8192x16x128 [2, 0, 1] (Host.dotGeneral dot_S8192x16x128_S16x8192x8192_S16x128x8192_0_2_2_1_1_0 none (m ((c : Thread nD τ).loc main_arg3)) (V m c main_v24))
      transposes_S16x128x8192_S8192x16x128_2_0_1 := by
  after_reads_simp

theorem V_v28 : V m c main_v28 = Host.reduceAdd (mulf (m ((c : Thread nD τ).loc main_arg4)) (V m c main_v26)) (constant S_ .f32 0x00000000#32) reducesTo_S8192x16x128_S8192x16_d2 h_S_ := by
  after_reads_simp

theorem V_v35 : V m c main_v35 = shapeCast S8192x2048 (select lanes
      (broadcastInDim S8192x16x128 ![0, 1, 2] bcast_S8192x16x1_S8192x16x128_0_1_2 (broadcastInDim S8192x16x1 ![0, 1] bcast_S8192x16_S8192x16x1_0_1 (transpose S8192x16 [1, 0] (V m c main_v20) transposes_S16x8192_S8192x16_1_0)))
      (broadcastInDim S8192x16x128 ![0, 1, 2] bcast_S8192x16x1_S8192x16x128_0_1_2 (broadcastInDim S8192x16x1 ![0, 1] bcast_S8192x16_S8192x16x1_0_1 (V m c main_v28))))
      shapeCasts_S8192x16x128_S8192x2048 := by
  after_reads_simp
  rfl

theorem V_v44 : V m c main_v44 = truncf .bf16 (joinKV (shapeCast S8192x2048 (m ((c : Thread nD τ).loc main_arg1)) shapeCasts_S8192x16x128_S8192x2048) (shapeCast S8192x2048 (m ((c : Thread nD τ).loc main_arg3)) shapeCasts_S8192x16x128_S8192x2048)) bitsLt_bf16_f32 := by
  after_reads_simp
  refine congrArg (truncf .bf16 · bitsLt_bf16_f32) (congrArg₂ joinKV ?_ ?_ : joinKV _ _ = joinKV _ _)
  · after_reads_simp; rfl
  · after_reads_simp; rfl

theorem V_v48 : V m c main_v48 = truncf .bf16 (shapeCast S8192x2048 (m ((c : Thread nD τ).loc main_arg4)) shapeCasts_S8192x16x128_S8192x2048) bitsLt_bf16_f32 := by
  after_reads_simp; rfl

/-- Zero, as the padding is. -/
def zero : FVec F S_ .f32 := sitofp .f32 (constantI S_ 32 0#32)

theorem V_v40 : V m c main_v40 = truncf .bf16 (shapeCast S8192x4096 (pad S8192x16x256 ![0, 0, 0] ![0, 0, 64] ![0, 0, 0]
      (mulf (m ((c : Thread nD τ).loc main_arg0)) (broadcastInDim S8192x16x192 ![] bcast_S_S8192x16x192 (constant S_ .f32 0x3D93CD3A#32)))
      (zero (F := F)) pads_S8192x16x192_S8192x16x256_000_000_0640 h_S_) shapeCasts_S8192x16x256_S8192x4096) bitsLt_bf16_f32 := by
  after_reads_simp
  rfl

theorem V_v46 : V m c main_v46 = truncf .bf16 (pad S8192x128 ![0, 0] ![0, 64] ![0, 0] (m ((c : Thread nD τ).loc main_arg2)) (zero (F := F)) pads_S8192x64_S8192x128_000_0640 h_S_) bitsLt_bf16_f32 := by
  after_reads_simp
  rfl

end Cert.Proof.KernelIdeal

end
-- ==== Proof.Reals.lean ====
/-
  Arrays of real numbers among the extended reals, and the one product every block of the gradient is made of.
-/
module

public import Idealize.ShloMosaic.Lib.Pointwise
public import Idealize.ShloMosaic.PureOps.Ideal.Laws

@[expose] public section

noncomputable section

namespace Cert.Proof.Value

open Idealize.ShloMosaic

/-- A sum of reals, taken among the extended reals, is the real sum. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A matrix of reals as an array of extended reals. -/
def coe2 {a b : ℕ} (A : Fin a → Fin b → ℝ) : (⟨2, ![a, b]⟩ : Shape).Idx → EReal := fun i => ((A (i 0) (i 1) : ℝ) : EReal)

@[simp] theorem coe2_ix2 {a b : ℕ} (A : Fin a → Fin b → ℝ) (i : Fin a) (j : Fin b) : coe2 A (ix2 i j) = ((A i j : ℝ) : EReal) := rfl

/-- A box of reals as an array of extended reals. -/
def coe3 {a b c : ℕ} (A : Fin a → Fin b → Fin c → ℝ) : (⟨3, ![a, b, c]⟩ : Shape).Idx → EReal := fun i => ((A (i 0) (i 1) (i 2) : ℝ) : EReal)

@[simp] theorem coe3_ix3 {a b c : ℕ} (A : Fin a → Fin b → Fin c → ℝ) (i : Fin a) (j : Fin b) (k : Fin c) :
    coe3 A (ix3 i j k) = ((A i j k : ℝ) : EReal) := rfl

/-- The exponential of a real. -/
theorem exp_coe (r : ℝ) : Ideal.exp (r : EReal) = ((Real.exp r : ℝ) : EReal) := rfl

/-- The exponential of minus infinity less a real is zero. -/
theorem exp_bot_sub (r : ℝ) : Ideal.exp ((⊥ : EReal) - (r : EReal)) = ((0 : ℝ) : EReal) := by
  rw [EReal.bot_sub]; rfl

/-- The logarithm of a positive real. -/
theorem log_coe_pos {r : ℝ} (h : 0 < r) : Ideal.log ((r : ℝ) : EReal) = ((Real.log r : ℝ) : EReal) := by
  rw [Ideal.log_coe, if_neg (not_le.2 h)]

/-- A quotient of reals by a positive real. -/
theorem div_coe (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

end Cert.Proof.Value

end
-- ==== Proof.Math.lean ====
/-
  The gradient of causal softmax attention over the reals: scores, weights and gradients, and the equations by which the
  kernel's forms of them (log-sum-exp, row sums of gradient times output, padded lanes) are the reference's.
-/
module

public import Idealize.ShloMosaic.PureOps.Ideal.Laws

@[expose] public section

noncomputable section

namespace Cert.Proof.Value

/-- The arguments of the attention and the upstream gradient, as reals, with the scores' scale. -/
structure Args where
  q : Fin 8192 → Fin 16 → Fin 192 → ℝ
  kn : Fin 8192 → Fin 16 → Fin 128 → ℝ
  kr : Fin 8192 → Fin 64 → ℝ
  v : Fin 8192 → Fin 16 → Fin 128 → ℝ
  g : Fin 8192 → Fin 16 → Fin 128 → ℝ
  c : ℝ

variable (a : Args) (M : Fin 16 → Fin 8192 → ℝ)

/-- A head's keys: its own lanes, then the rotary lanes all heads share. -/
def Args.key (s : Fin 8192) (h : Fin 16) (d : Fin 192) : ℝ := if hd : d.val < 128 then a.kn s h ⟨d.val, hd⟩ else a.kr s ⟨d.val - 128, by omega⟩
/-- The scores. -/
def Args.S (h : Fin 16) (t s : Fin 8192) : ℝ := (∑ d, a.q t h d * a.key s h d) * a.c
/-- The exponentials of the scores less `M`, masked. -/
def Args.E (h : Fin 16) (t s : Fin 8192) : ℝ := if s ≤ t then Real.exp (a.S h t s - M h t) else 0
/-- Their row sums. -/
def Args.L (h : Fin 16) (t : Fin 8192) : ℝ := ∑ s, a.E M h t s
/-- The weights. -/
def Args.Y (h : Fin 16) (t s : Fin 8192) : ℝ := a.E M h t s / a.L M h t
/-- The gradient of the weights. -/
def Args.DY (h : Fin 16) (t s : Fin 8192) : ℝ := ∑ d, a.g t h d * a.v s h d
/-- Its mean in a row, by the row's weights. -/
def Args.mean (h : Fin 16) (t : Fin 8192) : ℝ := ∑ s, a.Y M h t s * a.DY h t s
/-- The gradient of the scores. -/
def Args.DS (h : Fin 16) (t s : Fin 8192) : ℝ := a.Y M h t s * (a.DY h t s - a.mean M h t)
/-- The gradient of the values. -/
def Args.dv (s : Fin 8192) (h : Fin 16) (d : Fin 128) : ℝ := ∑ t, a.g t h d * a.Y M h t s
/-- The gradient of the keys. -/
def Args.dk (s : Fin 8192) (h : Fin 16) (d : Fin 192) : ℝ := ∑ t, a.DS M h t s * a.c * a.q t h d
/-- The gradient of the queries. -/
def Args.dq (t : Fin 8192) (h : Fin 16) (d : Fin 192) : ℝ := ∑ s, a.DS M h t s * a.c * a.key s h d

theorem Args.E_nonneg (h : Fin 16) (t s : Fin 8192) : 0 ≤ a.E M h t s := by
  unfold Args.E; split
  · exact (Real.exp_pos _).le
  · exact le_rfl

/-- Every query sees a key: itself. -/
theorem Args.L_pos (h : Fin 16) (t : Fin 8192) : 0 < a.L M h t :=
  Finset.sum_pos' (fun s _ => a.E_nonneg M h t s) ⟨t, Finset.mem_univ _, by unfold Args.E; rw [if_pos le_rfl]; exact Real.exp_pos _⟩

theorem Args.Y_of_not_le (h : Fin 16) (t s : Fin 8192) (hs : ¬s ≤ t) : a.Y M h t s = 0 := by
  unfold Args.Y Args.E; rw [if_neg hs, zero_div]

/-- A weight by the log-sum-exp. -/
theorem Args.Y_eq_exp (h : Fin 16) (t s : Fin 8192) (hs : s ≤ t) :
    Real.exp (a.S h t s - (M h t + Real.log (a.L M h t))) = a.Y M h t s := by
  unfold Args.Y
  rw [← sub_sub, Real.exp_sub, Real.exp_log (a.L_pos M h t)]
  unfold Args.E
  rw [if_pos hs]

/-- The row's mean as the row sum of gradient times output. -/
theorem Args.mean_eq (h : Fin 16) (t : Fin 8192) : ∑ d, a.g t h d * (∑ s, a.v s h d * a.Y M h t s) = a.mean M h t := by
  unfold Args.mean Args.DY
  simp only [Finset.mul_sum]
  rw [Finset.sum_comm]
  exact Finset.sum_congr rfl fun s _ => Finset.sum_congr rfl fun d _ => by ring

/-- The scores' gradient as the derivative of a quotient gives it. -/
theorem Args.DS_eq (h : Fin 16) (t s : Fin 8192) :
    (a.DY h t s / a.L M h t + (-∑ s, a.DY h t s * (1 / (a.L M h t * a.L M h t)) * a.E M h t s)) * a.E M h t s = a.DS M h t s := by
  have hL := (a.L_pos M h t).ne'
  unfold Args.DS Args.mean Args.Y
  have e : ∑ s, a.DY h t s * (1 / (a.L M h t * a.L M h t)) * a.E M h t s = (∑ s, a.E M h t s / a.L M h t * a.DY h t s) / a.L M h t := by
    rw [Finset.sum_div]
    exact Finset.sum_congr rfl fun s _ => by field_simp
  rw [e]
  field_simp
  ring

theorem Args.DS_of_not_le (h : Fin 16) (t s : Fin 8192) (hs : ¬s ≤ t) : a.DS M h t s = 0 := by
  unfold Args.DS; rw [a.Y_of_not_le M h t s hs, zero_mul]

/-- The scaled queries, padded to whole lanes. -/
def Args.qp (t : Fin 8192) (h : Fin 16) (d : Fin 256) : ℝ := if hd : d.val < 192 then a.q t h ⟨d.val, hd⟩ * a.c else 0
/-- The rotary lanes, padded. -/
def Args.krp (s : Fin 8192) (d : Fin 128) : ℝ := if hd : d.val < 64 then a.kr s ⟨d.val, hd⟩ else 0
/-- The keys, padded. -/
def Args.kp (s : Fin 8192) (h : Fin 16) (d : Fin 256) : ℝ := if hd : d.val < 128 then a.kn s h ⟨d.val, hd⟩ else a.krp s ⟨d.val - 128, by omega⟩

theorem Args.qp_lt (t : Fin 8192) (h : Fin 16) (d : Fin 192) : a.qp t h ⟨d.val, by omega⟩ = a.q t h d * a.c := by
  unfold Args.qp; rw [dif_pos d.isLt]
theorem Args.kp_lt (s : Fin 8192) (h : Fin 16) (d : Fin 192) : a.kp s h ⟨d.val, by omega⟩ = a.key s h d := by
  unfold Args.kp Args.key Args.krp
  split
  · rfl
  · rw [dif_pos (by show d.val - 128 < 64; omega)]

/-- The padding adds nothing to a score. -/
theorem Args.score_eq (t s : Fin 8192) (h : Fin 16) : ∑ d, a.qp t h d * a.kp s h d = a.S h t s := by
  refine (Fin.sum_univ_add (a := 192) (b := 64) fun d : Fin 256 => a.qp t h d * a.kp s h d).trans ?_
  rw [Finset.sum_eq_zero (s := Finset.univ) (f := fun i : Fin 64 => _) (fun i _ => ?_), add_zero]
  · unfold Args.S
    rw [Finset.sum_mul]
    refine Finset.sum_congr rfl fun d _ => ?_
    have e1 := a.qp_lt t h d
    have e2 := a.kp_lt s h d
    show a.qp t h ⟨d.val, _⟩ * a.kp s h ⟨d.val, _⟩ = _
    rw [e1, e2]; ring
  · show a.qp t h (Fin.natAdd 192 i) * _ = 0
    rw [show a.qp t h (Fin.natAdd 192 i) = 0 from dif_neg (by show ¬192 + i.val < 192; omega), zero_mul]

end Cert.Proof.Value

end
-- ==== Proof.RefValue.lean ====
/-
  The reference's stages, at arguments that are reals: its masked scores, their row maximum, the weights and the gradients.
-/
module

public import proofs.«01_k».proof.Proof.Reals
public import proofs.«01_k».proof.Proof.Math
public import proofs.«01_k».proof.Proof.Gen.ReferenceIdeal.Read
public import Idealize.ShloMosaic.Lib.WordCmp

@[expose] public section

noncomputable section

namespace Cert.Proof.Value

open Idealize.ShloMosaic Idealize.ShloMosaic.StableHlo Cert.ReferenceIdeal Cert.ReferenceIdeal.Read

/-- The word a masked score is: minus infinity. -/
theorem ofBits_bot : Ideal.ofBits .f32 0xFF800000#32 = ⊥ := by
  simp [Ideal.ofBits, Ideal.ieee]

/-- The scale of the scores. -/
def scale : ℝ := (Ideal.ofBits .f32 0x3D93CD3A#32).toReal
theorem ofBits_scale : Ideal.ofBits .f32 0x3D93CD3A#32 = ↑scale := by
  unfold scale
  refine (EReal.coe_toReal ?_ ?_).symm <;> simp [Ideal.ofBits, Ideal.ieee, -EReal.coe_mul]

/-- The masked scores. -/
def Args.masked (a : Args) (h : Fin 16) (t s : Fin 8192) : EReal := if s ≤ t then ((a.S h t s : ℝ) : EReal) else ⊥
/-- The masked scores as an array. -/
def Args.maskedArr (a : Args) : (⟨3, ![16, 8192, 8192]⟩ : Shape).Idx → EReal := fun i => a.masked (i 0) (i 1) (i 2)

theorem fold_max_ne_top {ι : Type*} [DecidableEq ι] (f : ι → EReal) (s : Finset ι) (hf : ∀ i ∈ s, f i ≠ ⊤) : s.fold max ⊥ f ≠ ⊤ := by
  induction s using Finset.induction_on with
  | empty => simp
  | insert i s hi ih =>
    rw [Finset.fold_insert hi]
    rcases max_choice (f i) (s.fold max ⊥ f) with e | e <;> rw [e]
    · exact hf i (Finset.mem_insert_self i s)
    · exact ih fun j hj => hf j (Finset.mem_insert_of_mem hj)

/-- The row maximum. -/
def Args.top (a : Args) (h : Fin 16) (t : Fin 8192) : ℝ := (Finset.univ.fold max ⊥ fun s => a.masked h t s).toReal
/-- It is a real: a row's own score is one, and none is infinite. -/
theorem Args.top_eq (a : Args) (h : Fin 16) (t : Fin 8192) : (Finset.univ.fold max ⊥ fun s => a.masked h t s) = ((a.top h t : ℝ) : EReal) := by
  refine (EReal.coe_toReal (fold_max_ne_top _ _ fun s _ => ?_) (fun hb => ?_)).symm
  · unfold Args.masked; split
    · exact EReal.coe_ne_top _
    · exact bot_ne_top
  · have : a.masked h t t ≤ Finset.univ.fold max ⊥ fun s => a.masked h t s := (Finset.le_fold_max _).2 (.inr ⟨t, Finset.mem_univ _, le_rfl⟩)
    rw [hb, le_bot_iff] at this
    unfold Args.masked at this
    rw [if_pos le_rfl] at this
    exact EReal.coe_ne_bot _ this

/-- The row maximum of the masked scores, as a program takes it. -/
theorem rowMax (a : Args) (hr : Shape.ReducesTo (⟨3, ![16, 8192, 8192]⟩ : Shape) [2] ⟨2, ![16, 8192]⟩) (hu) :
    Host.reduce (FloatOps.maximumf (F := Ideal) (φ := .f32)) a.maskedArr (constant (F := Ideal) S_ .f32 0xFF800000#32) hr hu = coe2 a.top := by
  funext i
  rw [Host.reduce_eq_fold_single _ _ _ hr (by decide) hu]
  show Finset.univ.fold max (Ideal.ofBits .f32 0xFF800000#32) _ = _
  rw [ofBits_bot]
  exact a.top_eq (i 0) (i 1)

variable (a : Args)

/-- A choice by the mask's comparison of two positions. -/
theorem select_sle (s t : Fin 8192) (x y : EReal) :
    Scalar.select (IntOp.cmpi .sle (BitVec.ofNat 32 s.val) (BitVec.ofNat 32 t.val)) x y = if s ≤ t then x else y := by
  rw [WordCmp.cmpi_sle_ofNat (by omega) (by omega), WordCmp.select_ofBool]
  simp only [decide_eq_true_eq, Fin.le_def]

/-- The exponential of a masked score less the row's constant. -/
theorem exp_masked (M : Fin 16 → Fin 8192 → ℝ) (h : Fin 16) (t s : Fin 8192) : Ideal.exp (a.masked h t s - ↑(M h t)) = ((a.E M h t s : ℝ) : EReal) := by
  unfold Args.masked Args.E
  split
  · rw [← EReal.coe_sub, exp_coe]
  · exact exp_bot_sub _

/-- The keys, as the reference joins them. -/
theorem keys_coe : val_main_v2 (F := Ideal) (coe3 a.kn) (coe2 a.kr) = coe3 a.key := by
  funext i
  pointwise [val_main_v2, val_main_v1, val_main_v0]
  simp only [coe3, coe2]
  unfold Args.key
  split <;> rfl

/-- The scores. -/
theorem scores_coe (hc : a.c = scale) : val_main_v5 (F := Ideal) (coe3 a.q) (coe3 a.kn) (coe2 a.kr) = coe3 a.S := by
  funext i
  unfold val_main_v5 val_main_v3
  rw [keys_coe]
  pointwise [val_main_v4, val_main_cst]
  simp only [coe3]
  simp only [← EReal.coe_mul, ← coe_sum]
  rw [ofBits_scale, ← EReal.coe_mul, ← hc]
  rfl

theorem masked_coe (hc : a.c = scale) : val_main_v12_0 (F := Ideal) (coe3 a.q) (coe3 a.kn) (coe2 a.kr) = a.maskedArr := by
  funext i
  unfold val_main_v12_0
  rw [scores_coe a hc]
  pointwise [val_main_v12_1, val_main_v11, val_main_v10, val_main_v9, val_main_v8, val_main_v7, val_main_v6, val_main_call0_v2, val_main_call0_v0, val_main_cst_0]
  rw [show (id (constant (F := Ideal) S_ .f32 4286578688#32) ix0 : EReal) = ⊥ from ofBits_bot]
  exact select_sle _ _ _ _

theorem top_coe (hc : a.c = scale) : val_main_v13 (F := Ideal) (coe3 a.q) (coe3 a.kn) (coe2 a.kr) = coe2 a.top := by
  unfold val_main_v13
  rw [masked_coe a hc]
  exact rowMax a _ _

/-- The exponentials. -/
theorem exp_coe' (hc : a.c = scale) : val_main_v33 (F := Ideal) (coe3 a.q) (coe3 a.kn) (coe2 a.kr) = coe3 (a.E a.top) := by
  funext i
  unfold val_main_v33 val_main_v32 val_main_v31 val_main_v30 val_main_v20
  rw [masked_coe a hc, top_coe a hc]
  pointwise [val_main_v19, val_main_cst_3]
  rw [ofBits_bot, max_eq_right bot_le]
  exact exp_masked a a.top _ _ _

/-- The row sums. -/
theorem sum_coe (hc : a.c = scale) : val_main_v34 (F := Ideal) (coe3 a.q) (coe3 a.kn) (coe2 a.kr) = coe2 (a.L a.top) := by
  funext i
  unfold val_main_v34
  rw [exp_coe' a hc]
  pointwise [val_main_cst_9]
  simp only [coe3, ← coe_sum]
  rfl

/-- The weights. -/
theorem weights_coe (hc : a.c = scale) : val_main_v37 (F := Ideal) (coe3 a.q) (coe3 a.kn) (coe2 a.kr) = coe3 (a.Y a.top) := by
  funext i
  unfold val_main_v37 val_main_v36 val_main_v35
  rw [exp_coe' a hc, sum_coe a hc]
  pointwise []
  exact div_coe _ _ (a.L_pos a.top _ _)

/-- The gradient of the weights. -/
theorem dweights_coe : val_main_v44 (F := Ideal) (coe3 a.v) (coe3 a.g) = coe3 a.DY := by
  funext i
  unfold val_main_v44
  pointwise [val_main_v43]
  simp only [coe3, ← EReal.coe_mul, ← coe_sum]
  rfl

/-- One entry of the gradient of the scores, as the reference computes it. -/
theorem dscore (hc : a.c = scale) (h : Fin 16) (t s : Fin 8192) :
    Scalar.select (IntOp.cmpi .sle (BitVec.ofNat 32 s.val) (BitVec.ofNat 32 t.val))
      ((Ideal.div ((a.DY h t s : ℝ) : EReal) ((a.L a.top h t : ℝ) : EReal) + ∑ _x : Fin 1, -∑ x,
          ((a.DY h t x : ℝ) : EReal) * Ideal.div 1 (((a.L a.top h t : ℝ) : EReal) * ((a.L a.top h t : ℝ) : EReal)) * ((a.E a.top h t x : ℝ) : EReal))
        * ((a.E a.top h t s : ℝ) : EReal) * Ideal.ofBits .f32 1033096506#32) 0 = ((a.DS a.top h t s * a.c : ℝ) : EReal) := by
  refine (select_sle _ _ _ _).trans ?_
  rw [Finset.univ_unique, Finset.sum_singleton]
  split
  · rw [div_coe _ _ (a.L_pos a.top _ _)]
    simp only [← EReal.coe_mul]
    rw [show (1 : EReal) = ((1 : ℝ) : EReal) from rfl, div_coe _ _ (mul_pos (a.L_pos a.top _ _) (a.L_pos a.top _ _))]
    simp only [← EReal.coe_mul, ← coe_sum, ← EReal.coe_neg, ← EReal.coe_add]
    rw [ofBits_scale, ← EReal.coe_mul, ← hc, a.DS_eq a.top h t s]
  · rename_i hs
    rw [a.DS_of_not_le a.top _ _ _ hs, zero_mul, EReal.coe_zero]

/-- The gradient of the scores, scaled. -/
theorem dscores_coe (hc : a.c = scale) : val_main_v61 (F := Ideal) (coe3 a.q) (coe3 a.kn) (coe2 a.kr) (coe3 a.v) (coe3 a.g) = coe3 fun h t s => a.DS a.top h t s * a.c := by
  funext i
  unfold val_main_v61 val_main_v59 val_main_v58 val_main_v57 val_main_v56 val_main_v55 val_main_v54 val_main_v53 val_main_v52 val_main_v51 val_main_v50 val_main_v49 val_main_v48 val_main_v47 val_main_v40 val_main_v38 val_main_v35
  rw [exp_coe' a hc, sum_coe a hc, dweights_coe]
  pointwise [val_main_v60, val_main_cst_13, val_main_call1_v0, val_main_call1_cst, val_main_v12_1, val_main_v11, val_main_v10, val_main_v9, val_main_v8, val_main_v7, val_main_v6, val_main_cst_12, val_main_cst_11, val_main_v39, val_main_cst_10]
  exact dscore a hc (i 0) (i 1) (i 2)

/-- The reference's gradient of the values. -/
theorem ref_dv (hc : a.c = scale) : val_main_v69 (F := Ideal) (coe3 a.q) (coe3 a.kn) (coe2 a.kr) (coe3 a.g) = coe3 (a.dv a.top) := by
  funext i
  unfold val_main_v69 val_main_v46 val_main_v45
  rw [weights_coe a hc]
  pointwise [val_main_v43]
  simp only [coe3, ← EReal.coe_mul, ← coe_sum]
  rfl

/-- The reference's gradient of the queries. -/
theorem ref_dq (hc : a.c = scale) : val_main_v65 (F := Ideal) (coe3 a.q) (coe3 a.kn) (coe2 a.kr) (coe3 a.v) (coe3 a.g) = coe3 (a.dq a.top) := by
  funext i
  unfold val_main_v65 val_main_v64
  rw [dscores_coe a hc, keys_coe]
  pointwise []
  simp only [coe3, ← EReal.coe_mul, ← coe_sum]
  rfl

theorem ref_dk (hc : a.c = scale) : val_main_v63 (F := Ideal) (coe3 a.q) (coe3 a.kn) (coe2 a.kr) (coe3 a.v) (coe3 a.g) = coe3 (a.dk a.top) := by
  funext i
  unfold val_main_v63 val_main_v62
  rw [dscores_coe a hc]
  pointwise []
  simp only [coe3, ← EReal.coe_mul, ← coe_sum]
  rfl

/-- The reference's gradient of a head's own key lanes. -/
theorem ref_dkn (hc : a.c = scale) : val_main_v67 (F := Ideal) (coe3 a.q) (coe3 a.kn) (coe2 a.kr) (coe3 a.v) (coe3 a.g) = coe3 fun s h (d : Fin 128) => a.dk a.top s h ⟨d.val, by omega⟩ := by
  funext i
  unfold val_main_v67 val_main_v66
  rw [ref_dk a hc]
  pointwise []
  rfl

/-- The reference's gradient of the rotary lanes, head by head. -/
theorem ref_dkr (hc : a.c = scale) : val_main_v68 (F := Ideal) (coe3 a.q) (coe3 a.kn) (coe2 a.kr) (coe3 a.v) (coe3 a.g) = coe3 fun s h (d : Fin 64) => a.dk a.top s h ⟨128 + d.val, by omega⟩ := by
  funext i
  unfold val_main_v68
  rw [ref_dk a hc]
  pointwise []
  rfl

end Cert.Proof.Value

end
-- ==== Proof.HostValue.lean ====
/-
  What the operations before the call leave in the call's operands, at arguments that are reals: the scaled queries, the keys
  with the values, the rotary lanes, the gradient, and in each row of the statistics the log-sum-exp and the row's mean.
-/
module

public import proofs.«01_k».proof.Proof.Host
public import proofs.«01_k».proof.Proof.RefValue

@[expose] public section

noncomputable section

namespace Cert.Proof.KernelIdeal

open Cert.KernelIdeal Cert.KernelIdeal.Gen Cert.Proof.Value
open Idealize.ShloMosaic Idealize.ShloMosaic.TcCoe Idealize.ShloMosaic.StableHlo Idealize.SL.Sem

theorem sitofp_zero : (FloatOps.sitofp (F := Ideal) .f32 (0#32) : EReal) = ((0 : ℝ) : EReal) := by
  show (((0#32 : BitVec 32).toInt : ℝ) : EReal) = _
  simp

/-! The operands the forward pass takes too, as the operations on the arguments leave them. -/

/-- Lane `d` of head `h` of the queries, scaled and padded. -/
theorem queries_at (a : Args) (hc : a.c = scale) (t : Fin 8192) (h : Fin 16) (d : Fin 256) :
    (truncf .bf16 (shapeCast S8192x4096 (pad S8192x16x256 ![0, 0, 0] ![0, 0, 64] ![0, 0, 0]
      (mulf (F := Ideal) (φ := .f32) (coe3 a.q) (broadcastInDim S8192x16x192 ![] bcast_S_S8192x16x192 (constant S_ .f32 0x3D93CD3A#32)))
      (zero (F := Ideal)) pads_S8192x16x192_S8192x16x256_000_000_0640 h_S_) shapeCasts_S8192x16x256_S8192x4096) bitsLt_bf16_f32 : FVec Ideal S8192x4096 .bf16)
      (ix2 t ⟨h.val * 256 + d.val, by omega⟩) = ((a.qp t h d : ℝ) : EReal) := by
  pointwise [zero]
  unfold Args.qp
  split
  · rw [coe3_ix3, ofBits_scale, ← EReal.coe_mul, hc]
  · exact sitofp_zero

/-- Lane `d` of head `h` of the keys … -/
theorem keys_at (a : Args) (s : Fin 8192) (h : Fin 16) (d : Fin 128) :
    (truncf .bf16 (joinKV (F := Ideal) (shapeCast S8192x2048 (coe3 a.kn) shapeCasts_S8192x16x128_S8192x2048)
      (shapeCast S8192x2048 (coe3 a.v) shapeCasts_S8192x16x128_S8192x2048)) bitsLt_bf16_f32 : FVec Ideal S8192x4096 .bf16)
      (ix2 s ⟨h.val * 128 + d.val, by omega⟩) = ((a.kn s h d : ℝ) : EReal) := by
  pointwise [joinKV]
  rw [dif_pos (by omega)]
  rfl
/-- … and of the values after them. -/
theorem values_at (a : Args) (s : Fin 8192) (h : Fin 16) (d : Fin 128) :
    (truncf .bf16 (joinKV (F := Ideal) (shapeCast S8192x2048 (coe3 a.kn) shapeCasts_S8192x16x128_S8192x2048)
      (shapeCast S8192x2048 (coe3 a.v) shapeCasts_S8192x16x128_S8192x2048)) bitsLt_bf16_f32 : FVec Ideal S8192x4096 .bf16)
      (ix2 s ⟨(16 + h.val) * 128 + d.val, by omega⟩) = ((a.v s h d : ℝ) : EReal) := by
  pointwise [joinKV]
  rw [dif_neg (by omega), coe3_ix3]
  exact congrArg Real.toEReal (congrArg₂ (a.v s) (Fin.ext (by simp only; omega)) (Fin.ext (by simp only; omega)))

/-- The padded rotary lanes. -/
theorem rotary_at (a : Args) (s : Fin 8192) (d : Fin 128) :
    (truncf .bf16 (pad S8192x128 ![0, 0] ![0, 64] ![0, 0] (coe2 a.kr) (zero (F := Ideal)) pads_S8192x64_S8192x128_000_0640 h_S_) bitsLt_bf16_f32 : FVec Ideal S8192x128 .bf16)
      (ix2 s d) = ((a.krp s d : ℝ) : EReal) := by
  pointwise [zero]
  unfold Args.krp
  split
  · exact coe2_ix2 ..
  · exact sitofp_zero

/-- The device's arguments are these reals, and the scale is the program's constant. -/
structure At (m : (ℓ : Loc nD τ sig) → Buf (Elt Ideal) ℓ) (c : Dev nD) (a : Args) : Prop where
  q : m ((c : Thread nD τ).loc main_arg0) = coe3 a.q
  kn : m ((c : Thread nD τ).loc main_arg1) = coe3 a.kn
  kr : m ((c : Thread nD τ).loc main_arg2) = coe2 a.kr
  v : m ((c : Thread nD τ).loc main_arg3) = coe3 a.v
  g : m ((c : Thread nD τ).loc main_arg4) = coe3 a.g
  c : a.c = scale

variable {m : (ℓ : Loc nD τ sig) → Buf (Elt Ideal) ℓ} {c : Dev nD} {a : Args} (A : At m c a)
include A

theorem At.v2 : V m c main_v2 = coe3 a.key := by
  rw [V_v2, V_v1, A.kn, A.kr]
  exact keys_coe a

theorem At.v5 : V m c main_v5 = coe3 a.S := by
  rw [V_v5, A.v2, A.q]
  funext i
  pointwise []
  simp only [coe3]
  simp only [← EReal.coe_mul, ← coe_sum]
  rw [ofBits_scale, ← EReal.coe_mul, ← A.c]
  rfl

theorem At.v12 : V m c main_v12 = a.maskedArr := by
  rw [V_v12, A.v5]
  funext i
  pointwise [mask]
  rw [ofBits_bot]
  exact select_sle _ _ _ _

theorem At.v13 : V m c main_v13 = coe2 a.top := by
  rw [V_v13, A.v12]
  exact rowMax a _ _

theorem At.v17 : V m c main_v17 = coe3 (a.E a.top) := by
  rw [V_v17, A.v12, A.v13]
  funext i
  pointwise []
  exact exp_masked a a.top _ _ _

theorem At.v18 : V m c main_v18 = coe2 (a.L a.top) := by
  rw [V_v18, A.v17]
  funext i
  pointwise []
  simp only [coe3, ← coe_sum]
  rfl

theorem At.v20 : V m c main_v20 = coe2 fun h t => a.top h t + Real.log (a.L a.top h t) := by
  rw [V_v20, A.v13, A.v18]
  funext i
  pointwise []
  refine (congrArg (coe2 a.top i + ·) (log_coe_pos (a.L_pos a.top (i 0) (i 1)))).trans ?_
  exact (EReal.coe_add _ _).symm

theorem At.v24 : V m c main_v24 = coe3 (a.Y a.top) := by
  rw [V_v24, A.v17, A.v18]
  funext i
  pointwise []
  exact div_coe _ _ (a.L_pos a.top _ _)

theorem At.v26 : V m c main_v26 = coe3 fun t h d => ∑ s, a.v s h d * a.Y a.top h t s := by
  rw [V_v26, A.v, A.v24]
  funext i
  pointwise []
  simp only [coe3, ← EReal.coe_mul, ← coe_sum]
  rfl

theorem At.v28 : V m c main_v28 = coe2 fun t h => a.mean a.top h t := by
  rw [V_v28, A.g, A.v26]
  funext i
  pointwise []
  simp only [coe3, ← EReal.coe_mul, ← coe_sum]
  exact congrArg Real.toEReal (a.mean_eq a.top (i 1) (i 0))

/-- The statistics: lane `d` of head `h` is lane `128 h + d` of the row. -/
theorem At.v35 (t : Fin 8192) (h : Fin 16) (d : Fin 128) : V m c main_v35 (ix2 t ⟨h.val * 128 + d.val, by omega⟩)
    = ((if d.val < 64 then a.top h t + Real.log (a.L a.top h t) else a.mean a.top h t : ℝ) : EReal) := by
  rw [V_v35, A.v20, A.v28]
  pointwise [lanes]
  simp only [coe2_ix2]
  rw [WordCmp.cmpi_slt_ofNat (by omega) (by omega : 64 < 2 ^ 31), WordCmp.select_ofBool]
  simp only [decide_eq_true_eq]
  split <;> rfl

theorem At.v35_lse (t : Fin 8192) (h : Fin 16) (d : Fin 128) (hd : d.val < 64) : V m c main_v35 (ix2 t ⟨h.val * 128 + d.val, by omega⟩)
    = ((a.top h t + Real.log (a.L a.top h t) : ℝ) : EReal) := by
  rw [A.v35, if_pos hd]

theorem At.v35_mean (t : Fin 8192) (h : Fin 16) (d : Fin 128) (hd : ¬d.val < 64) : V m c main_v35 (ix2 t ⟨h.val * 128 + d.val, by omega⟩)
    = ((a.mean a.top h t : ℝ) : EReal) := by
  rw [A.v35, if_neg hd]

theorem At.v40 (t : Fin 8192) (h : Fin 16) (d : Fin 256) : V m c main_v40 (ix2 t ⟨h.val * 256 + d.val, by omega⟩) = ((a.qp t h d : ℝ) : EReal) := by
  rw [V_v40, A.q]
  exact queries_at a A.c t h d

theorem At.v44_key (s : Fin 8192) (h : Fin 16) (d : Fin 128) : V m c main_v44 (ix2 s ⟨h.val * 128 + d.val, by omega⟩) = ((a.kn s h d : ℝ) : EReal) := by
  rw [V_v44, A.kn, A.v]
  exact keys_at a s h d

theorem At.v44_val (s : Fin 8192) (h : Fin 16) (d : Fin 128) : V m c main_v44 (ix2 s ⟨(16 + h.val) * 128 + d.val, by omega⟩) = ((a.v s h d : ℝ) : EReal) := by
  rw [V_v44, A.kn, A.v]
  exact values_at a s h d

theorem At.v46 (s : Fin 8192) (d : Fin 128) : V m c main_v46 (ix2 s d) = ((a.krp s d : ℝ) : EReal) := by
  rw [V_v46, A.kr]
  exact rotary_at a s d

theorem At.v48 (t : Fin 8192) (h : Fin 16) (d : Fin 128) : V m c main_v48 (ix2 t ⟨h.val * 128 + d.val, by omega⟩) = ((a.g t h d : ℝ) : EReal) := by
  rw [V_v48, A.g]
  pointwise []
  rfl

end Cert.Proof.KernelIdeal

end
-- ==== Proof.Finite.lean ====
/-
  What the precondition says: every element of every argument is a real number.
-/
module

public import proofs.«01_k».proof.Proof.HostValue
public import proofs.«01_k».proof.Defs
public import Idealize.ShloMosaic.Lib.ReduceAll
public import Idealize.ShloMosaic.Lib.Decide

@[expose] public section

noncomputable section

namespace Cert.Proof.Value

open Idealize.ShloMosaic Idealize.ShloMosaic.TcCoe

/-- The shapes the precondition's operations state fit. -/
instance finite_facts : Cert.Pre_finite.Facts where
  bcast_S_S8192x16x192 := by decide
  reducesTo_S8192x16x192_S_d0_1_2 := by decide
  h_S_ := by decide
  bcast_S_S8192x16x128 := by decide
  reducesTo_S8192x16x128_S_d0_1_2 := by decide
  bcast_S_S8192x64 := by decide
  reducesTo_S8192x64_S_d0_1 := by decide

theorem ofBits_top : Ideal.ofBits .f32 0x7F800000#32 = ⊤ := by
  simp [Ideal.ofBits, Ideal.ieee]

/-- Below plus infinity in absolute value: a real. -/
theorem real_of_lt (x : EReal) (h : Ideal.cmp .olt (max x (-x)) (Ideal.ofBits .f32 0x7F800000#32) = 1#1) : x = ((x.toReal : ℝ) : EReal) := by
  rw [ofBits_top] at h
  have h' : max x (-x) < ⊤ := by
    by_contra hn
    simp [Ideal.cmp, hn] at h
  refine (EReal.coe_toReal ?_ ?_).symm
  · rintro rfl; simp at h'
  · rintro rfl; simp at h'

/-- A conjunction over a finite set holds of each element. -/
theorem fold_andi {ι : Type} (f : ι → BitVec 1) (s : Finset ι) (h : Finset.fold IntOp.andi 1#1 f s = 1#1) : ∀ k ∈ s, f k = 1#1 := by
  induction s using Finset.cons_induction with
  | empty => exact fun k hk => absurd hk (Finset.notMem_empty k)
  | cons b s hb ih =>
    rw [Finset.fold_cons] at h
    obtain ⟨h1, h2⟩ := IntOp.andi_eq_one.1 h
    intro k hk
    rcases Finset.mem_cons.1 hk with rfl | hk
    exacts [h1, ih h2 k hk]

theorem fold_andi3 {a b c : ℕ} (f : Fin a × Fin b × Fin c → BitVec 1) (h : Finset.fold IntOp.andi 1#1 f Finset.univ = 1#1) (i : Fin a) (j : Fin b) (k : Fin c) : f (i, j, k) = 1#1 :=
  fold_andi f _ h (i, j, k) (Finset.mem_univ _)
theorem fold_andi2 {a b : ℕ} (f : Fin a × Fin b → BitVec 1) (h : Finset.fold IntOp.andi 1#1 f Finset.univ = 1#1) (i : Fin a) (j : Fin b) : f (i, j) = 1#1 :=
  fold_andi f _ h (i, j) (Finset.mem_univ _)

theorem coe3_of {a b c : ℕ} (x : (⟨3, ![a, b, c]⟩ : Shape).Idx → EReal) (h : ∀ i j k, x (ix3 i j k) = (((x (ix3 i j k)).toReal : ℝ) : EReal)) :
    x = coe3 fun i j k => (x (ix3 i j k)).toReal := by
  funext i
  rw [eq_ix3 i]
  exact h (i 0) (i 1) (i 2)
theorem coe2_of {a b : ℕ} (x : (⟨2, ![a, b]⟩ : Shape).Idx → EReal) (h : ∀ i j, x (ix2 i j) = (((x (ix2 i j)).toReal : ℝ) : EReal)) :
    x = coe2 fun i j => (x (ix2 i j)).toReal := by
  funext i
  rw [eq_ix2 i]
  exact h (i 0) (i 1)

open Cert.Pre_finite in
/-- The precondition, argument by argument. -/
theorem real_args (x0 : FVec Ideal S8192x16x192 .f32) (x1 : FVec Ideal S8192x16x128 .f32) (x2 : FVec Ideal S8192x64 .f32)
    (x3 x4 : FVec Ideal S8192x16x128 .f32) (h : Cert.Pre_finite.fn (F := Ideal) x0 x1 x2 x3 x4 = fun _ => 1#1) :
    x0 = coe3 (fun i j k => (x0 (ix3 i j k)).toReal) ∧ x1 = coe3 (fun i j k => (x1 (ix3 i j k)).toReal)
    ∧ x2 = coe2 (fun i j => (x2 (ix2 i j)).toReal) ∧ x3 = coe3 (fun i j k => (x3 (ix3 i j k)).toReal)
    ∧ x4 = coe3 (fun i j k => (x4 (ix3 i j k)).toReal) := by
  have e := congrFun h finZeroElim
  pointwise [Cert.Pre_finite.fn, Cert.Pre_finite.fn_part1] at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨coe3_of _ fun i j k => real_of_lt _ (fold_andi3 _ h0 i j k),
    coe3_of _ fun i j k => real_of_lt _ (fold_andi3 _ h1 i j k),
    coe2_of _ fun i j => real_of_lt _ (fold_andi2 _ h2 i j),
    coe3_of _ fun i j k => real_of_lt _ (fold_andi3 _ h3 i j k),
    coe3_of _ fun i j k => real_of_lt _ (fold_andi3 _ h4 i j k)⟩

end Cert.Proof.Value

namespace Cert.Proof.KernelIdeal

open Cert.KernelIdeal Cert.Proof.Value
open Idealize.ShloMosaic Idealize.ShloMosaic.TcCoe Idealize.SL.Sem

/-- A device's arguments, read as reals, with the program's scale. -/
def argsOf (m : (ℓ : Loc nD τ sig) → Buf (Elt Ideal) ℓ) (c : Dev nD) : Args where
  q i j k := ((m ((c : Thread nD τ).loc main_arg0) : FVec Ideal S8192x16x192 .f32) (ix3 i j k)).toReal
  kn i j k := ((m ((c : Thread nD τ).loc main_arg1) : FVec Ideal S8192x16x128 .f32) (ix3 i j k)).toReal
  kr i j := ((m ((c : Thread nD τ).loc main_arg2) : FVec Ideal S8192x64 .f32) (ix2 i j)).toReal
  v i j k := ((m ((c : Thread nD τ).loc main_arg3) : FVec Ideal S8192x16x128 .f32) (ix3 i j k)).toReal
  g i j k := ((m ((c : Thread nD τ).loc main_arg4) : FVec Ideal S8192x16x128 .f32) (ix3 i j k)).toReal
  c := scale

/-- Under the precondition a device's arguments are the reals read off them. -/
theorem at_of_finite {m : (ℓ : Loc nD τ sig) → Buf (Elt Ideal) ℓ} (h : Cert.Pre_KernelIdeal_finite m) (c : Dev nD) : At m c (argsOf m c) :=
  have e := real_args _ _ _ _ _ (h c)
  ⟨e.1, e.2.1, e.2.2.1, e.2.2.2.1, e.2.2.2.2, rfl⟩

end Cert.Proof.KernelIdeal

end
-- ==== Proof.Pay.lean ====
/-
  What one block of queries adds to the running sums, over the reals: each operation of the body on arrays of reals.
-/
module

public import proofs.«01_k».proof.Proof.Step
public import proofs.«01_k».proof.Proof.Reals
public import Idealize.ShloMosaic.Lib.WordCmp

@[expose] public section

noncomputable section

namespace Cert.Proof.Value

open Cert.KernelIdeal Cert.KernelIdeal.Gen
open Idealize.ShloMosaic Idealize.ShloMosaic.TcCoe

/-- The weights of a block whose every key is seen: the exponential of score less log-sum-exp. -/
def weight (K Q : Fin 512 → Fin 256 → ℝ) (L : Fin 512 → ℝ) (i j : Fin 512) : ℝ := Real.exp ((∑ d, Q i d * K j d) - L i)
/-- The weights of the block on the diagonal: a query sees the keys up to its own position. -/
def weightM (K Q : Fin 512 → Fin 256 → ℝ) (L : Fin 512 → ℝ) (i j : Fin 512) : ℝ := if j ≤ i then weight K Q L i j else 0
/-- The gradient of the scores: weight times (gradient of the weight less the row sum). -/
def score' (P : Fin 512 → Fin 512 → ℝ) (V G : Fin 512 → Fin 128 → ℝ) (S : Fin 512 → ℝ) (i j : Fin 512) : ℝ := P i j * ((∑ d, G i d * V j d) - S i)

variable (K Q : Fin 512 → Fin 256 → ℝ) (V G : Fin 512 → Fin 128 → ℝ) (L S : Fin 512 → ℝ)

theorem weightM_of_le {i j : Fin 512} (h : j ≤ i) : weightM K Q L i j = weight K Q L i j := if_pos h
theorem weightM_of_not_le {i j : Fin 512} (h : ¬j ≤ i) : weightM K Q L i j = 0 := if_neg h

/-- A column of reals. -/
abbrev col (L : Fin 512 → ℝ) : S512x1.Idx → EReal := coe2 (a := 512) (b := 1) fun i _ => L i

theorem pay3_coe : k0_pay3 (F := Ideal) (coe2 K) (coe2 Q) (col L) = coe2 (weight K Q L) := by
  funext i
  pointwise [k0_pay3, k0_pay1]
  simp only [coe2]
  simp only [← EReal.coe_mul, ← coe_sum, ← EReal.coe_sub]
  rfl

theorem pay5_coe : k0_pay5 (F := Ideal) (coe2 K) (coe2 V) (coe2 Q) (coe2 G) (col L) (col S) = coe2 (score' (weight K Q L) V G S) := by
  funext i
  unfold k0_pay5
  rw [pay3_coe]
  pointwise [k0_pay2]
  simp only [coe2]
  simp only [← EReal.coe_mul, ← coe_sum, ← EReal.coe_sub]
  rfl

/-- The value gradient's share of a block. -/
theorem pay4_coe (A : Fin 512 → Fin 128 → ℝ) : k0_pay4 (F := Ideal) (coe2 K) (coe2 A) (coe2 Q) (coe2 G) (col L)
    = coe2 fun j d => A j d + ∑ i, weight K Q L i j * G i d := by
  funext i
  unfold k0_pay4
  rw [pay3_coe]
  pointwise [k0_pay2]
  simp only [coe2]
  simp only [← EReal.coe_mul, ← coe_sum, ← EReal.coe_add]
  rfl

/-- The key gradient's share of a block. -/
theorem pay6_coe (A : Fin 512 → Fin 256 → ℝ) : k0_pay6 (F := Ideal) (coe2 K) (coe2 V) (coe2 A) (coe2 Q) (coe2 G) (col L) (col S)
    = coe2 fun j d => A j d + ∑ i, score' (weight K Q L) V G S i j * Q i d := by
  funext i
  unfold k0_pay6
  rw [pay5_coe]
  pointwise [k0_pay1]
  simp only [coe2]
  simp only [← EReal.coe_mul, ← coe_sum, ← EReal.coe_add]
  rfl

/-- The query gradient's share of a block. -/
theorem pay7_coe (A : Fin 512 → Fin 256 → ℝ) : k0_pay7 (F := Ideal) (coe2 K) (coe2 V) (coe2 Q) (coe2 G) (col L) (col S) (coe2 A)
    = coe2 fun i d => A i d + ∑ j, score' (weight K Q L) V G S i j * K j d := by
  funext i
  unfold k0_pay7
  rw [pay5_coe]
  pointwise
  simp only [coe2]
  simp only [← EReal.coe_mul, ← coe_sum, ← EReal.coe_add]
  rfl

/-- A block's keys: the two halves side by side. -/
def keys (Kn Kr : Fin 512 → Fin 128 → ℝ) (j : Fin 512) (d : Fin 256) : ℝ := if h : d.val < 128 then Kn j ⟨d.val, h⟩ else Kr j ⟨d.val - 128, by omega⟩

theorem pay56_coe (Kn Kr : Fin 512 → Fin 128 → ℝ) : k0_pay56 (F := Ideal) (coe2 Kn) (coe2 Kr) = coe2 (keys Kn Kr) := by
  funext i
  pointwise [k0_pay56]
  simp only [coe2, keys]
  split <;> rfl

theorem pay57_coe : k0_pay57 (F := Ideal) (coe2 V) = coe2 V := by
  funext i; pointwise [k0_pay57]
theorem pay59_coe : k0_pay59 (F := Ideal) (coe2 Q) = coe2 Q := by
  funext i; pointwise [k0_pay59]
theorem pay60_coe : k0_pay60 (F := Ideal) (coe2 G) = coe2 G := by
  funext i; pointwise [k0_pay60]
theorem pay61_coe : k0_pay61 (F := Ideal) (col S) = col S := by
  funext i; pointwise [k0_pay61]
theorem pay58_coe : k0_pay58 (F := Ideal) = coe2 fun _ _ => 0 := by
  funext i; pointwise [k0_pay58]; rfl

theorem pay62_coe (Kn Kr : Fin 512 → Fin 128 → ℝ) : k0_pay62 (F := Ideal) (coe2 Kn) (coe2 Kr) (coe2 Q) (col L) = coe2 (weightM (keys Kn Kr) Q L) := by
  funext i
  unfold k0_pay62
  rw [pay56_coe, pay59_coe, IdealRules.named_const.ideal_named_scalar _ _ _ _ rfl]
  pointwise
  simp only [coe2]
  rw [WordCmp.cmpi_sle_ofNat (lt_of_lt_of_le (i 1).isLt (by decide)) (lt_of_lt_of_le (i 0).isLt (by decide)), WordCmp.select_ofBool]
  by_cases h : (i 1).val ≤ (i 0).val
  · rw [if_pos (decide_eq_true h)]
    refine Eq.trans ?_ (congrArg Real.toEReal (weightM_of_le (keys Kn Kr) Q L (i := i 0) (j := i 1) h)).symm
    simp only [← EReal.coe_mul, ← coe_sum, ← EReal.coe_sub]
    rfl
  · rw [if_neg (by simpa using h)]
    refine Eq.trans ?_ (congrArg Real.toEReal (weightM_of_not_le (keys Kn Kr) Q L (i := i 0) (j := i 1) h)).symm
    exact exp_bot_sub _

theorem pay64_coe (P : Fin 512 → Fin 512 → ℝ) : k0_pay64 (F := Ideal) (coe2 V) (coe2 G) (col S) (coe2 P) (constant S512x512 .f32 0x00000000#32) = coe2 (score' P V G S) := by
  funext i
  pointwise [k0_pay64]
  simp only [coe2]
  simp only [← EReal.coe_mul, ← coe_sum, ← EReal.coe_sub]
  rfl

theorem pay63_coe (Kn Kr : Fin 512 → Fin 128 → ℝ) : k0_pay63 (F := Ideal) (coe2 Kn) (coe2 Kr) (coe2 Q) (coe2 G) (col L)
    = coe2 fun j d => ∑ i, weightM (keys Kn Kr) Q L i j * G i d := by
  funext i
  unfold k0_pay63
  rw [pay62_coe, pay60_coe]
  pointwise
  simp only [coe2]
  simp only [← EReal.coe_mul, ← coe_sum, ← EReal.coe_add]
  rfl

theorem pay65_coe (P : Fin 512 → Fin 512 → ℝ) : k0_pay65 (F := Ideal) (coe2 V) (coe2 fun _ _ => 0) (coe2 Q) (coe2 G) (col S) (coe2 P)
    (constant S512x512 .f32 0x00000000#32) = coe2 fun j d => ∑ i, score' P V G S i j * Q i d := by
  funext i
  unfold k0_pay65
  rw [pay64_coe]
  pointwise
  simp only [coe2]
  simp only [← EReal.coe_mul, ← coe_sum, ← EReal.coe_add, zero_add]
  rfl

theorem pay66_coe (P : Fin 512 → Fin 512 → ℝ) (A : Fin 512 → Fin 256 → ℝ) : k0_pay66 (F := Ideal) (coe2 K) (coe2 V) (coe2 G) (col S) (coe2 P)
    (constant S512x512 .f32 0x00000000#32) (coe2 A) = coe2 fun i d => A i d + ∑ j, score' P V G S i j * K j d := by
  funext i
  unfold k0_pay66
  rw [pay64_coe]
  pointwise
  simp only [coe2]
  simp only [← EReal.coe_mul, ← coe_sum, ← EReal.coe_add]
  rfl

end Cert.Proof.Value

end
-- ==== Proof.Block.lean ====
/-
  A point of the key axis, over the reals: the running sums after all the blocks of queries that see the point's keys.
-/
module

public import proofs.«01_k».proof.Proof.Pay

@[expose] public section

noncomputable section

namespace Cert.Proof.Value

open Cert.KernelIdeal Cert.KernelIdeal.Gen Cert.Proof.KernelIdeal
open Idealize.ShloMosaic Idealize.ShloMosaic.TcCoe

/-- Row `i` of block `r`. -/
def row (r : Fin 16) (i : Fin 512) : Fin 8192 := ⟨512 * r.val + i.val, by omega⟩
/-- The block a row lies in. -/
def blockOf (t : Fin 8192) : Fin 16 := ⟨t.val / 512, by omega⟩
/-- A row's place in its block. -/
def within (t : Fin 8192) : Fin 512 := ⟨t.val % 512, by omega⟩
theorem row_blockOf (t : Fin 8192) : row (blockOf t) (within t) = t := Fin.ext (Nat.div_add_mod t.val 512)
theorem blockOf_row (r : Fin 16) (i : Fin 512) : blockOf (row r i) = r := Fin.ext (by show (512 * r.val + i.val) / 512 = r.val; omega)
theorem within_row (r : Fin 16) (i : Fin 512) : within (row r i) = i := Fin.ext (by show (512 * r.val + i.val) % 512 = i.val; omega)

/-- A sum over the rows is a sum over the blocks of sums over their rows. -/
theorem sum_rows {M : Type*} [AddCommMonoid M] (f : Fin 8192 → M) : ∑ t, f t = ∑ r, ∑ i, f (row r i) := by
  rw [← Finset.sum_product' Finset.univ Finset.univ (fun r i => f (row r i)), Finset.univ_product_univ]
  exact (Fintype.sum_equiv ⟨fun p : Fin 16 × Fin 512 => row p.1 p.2, fun t => (blockOf t, within t),
    fun p => Prod.ext (blockOf_row p.1 p.2) (within_row p.1 p.2), row_blockOf⟩ _ _ fun _ => rfl).symm

theorem emb_row {n : ℕ} (r : Fin 16) (inb) (y : (Rect.unit (s := (⟨2, ![8192, n]⟩ : Shape)) ![512 * r.val, 0] (![512, n] : Fin 2 → ℕ) inb).shape.Idx) :
    (Rect.unit (s := (⟨2, ![8192, n]⟩ : Shape)) ![512 * r.val, 0] (![512, n] : Fin 2 → ℕ) inb).emb y = ix2 (row r (y 0)) (y 1) := by
  funext a
  fin_cases a
  · exact Fin.ext (by show 512 * r.val + 1 * (y 0).val = 512 * r.val + (y 0).val; omega)
  · exact Fin.ext (by show 0 + 1 * (y 1).val = (y 1).val; omega)

theorem rowsQ_coe16 (q : Fin 8192 → Fin 256 → ℝ) (r : Fin 16) : rowsQ (F := Ideal) (e := .bf16) (coe2 q) r = coe2 fun i d => q (row r i) d := by
  funext y
  exact congrArg (coe2 q) (emb_row r (inb256 r) y)
theorem rowsQ_coe32 (q : Fin 8192 → Fin 256 → ℝ) (r : Fin 16) : rowsQ (F := Ideal) (e := .f32) (coe2 q) r = coe2 fun i d => q (row r i) d := by
  funext y
  exact congrArg (coe2 q) (emb_row r (inb256 r) y)
theorem rowsO_coe (g : Fin 8192 → Fin 128 → ℝ) (r : Fin 16) : rowsO (F := Ideal) (e := .bf16) (coe2 g) r = coe2 fun i d => g (row r i) d := by
  funext y
  exact congrArg (coe2 g) (emb_row r (inb128 r) y)

/-- The statistics of a head: on lane 0 each row's log-sum-exp, on lane 64 its row sum. -/
def Stats (x2 : Vec Ideal S8192x128 .f32) (l s : Fin 8192 → ℝ) : Prop :=
  ∀ t : Fin 8192, x2 (ix2 t 0) = ((l t : ℝ) : EReal) ∧ x2 (ix2 t 64) = ((s t : ℝ) : EReal)

theorem rowsL_coe {x2 : Vec Ideal S8192x128 .f32} {l s : Fin 8192 → ℝ} (h : Stats x2 l s) (r : Fin 16) : rowsL x2 r = col fun i => l (row r i) := by
  funext y
  have hy : y 1 = (0 : Fin 1) := Subsingleton.elim (α := Fin 1) _ _
  refine Eq.trans (congrArg x2 (a₂ := ix2 (row r (y 0)) 0) ?_) (h _).1
  funext a
  fin_cases a
  · exact Fin.ext (by show 512 * r.val + 1 * (y 0).val = 512 * r.val + (y 0).val; omega)
  · exact Fin.ext (by show 0 + 1 * (y 1).val = 0; rw [hy]; rfl)
theorem rowsS_coe {x2 : Vec Ideal S8192x128 .f32} {l s : Fin 8192 → ℝ} (h : Stats x2 l s) (r : Fin 16) : rowsS x2 r = col fun i => s (row r i) := by
  funext y
  have hy : y 1 = (0 : Fin 1) := Subsingleton.elim (α := Fin 1) _ _
  refine Eq.trans (congrArg x2 (a₂ := ix2 (row r (y 0)) 64) ?_) (h _).2
  funext a
  fin_cases a
  · exact Fin.ext (by show 512 * r.val + 1 * (y 0).val = 512 * r.val + (y 0).val; omega)
  · exact Fin.ext (by show 64 + 1 * (y 1).val = 64; rw [hy]; rfl)

theorem putQ_coe (D : Fin 8192 → Fin 256 → ℝ) (r : Fin 16) (w : Fin 512 → Fin 256 → ℝ) :
    putQ (F := Ideal) (coe2 D) r (coe2 w) = coe2 fun t d => if blockOf t = r then w (within t) d else D t d := by
  funext y
  unfold putQ VecWindow.put coe2
  have hb : blockOf (y 0) = r ↔ 512 * r.val ≤ (y 0).val ∧ (y 0).val < 512 * r.val + 512 := by
    rw [Fin.ext_iff]; show (y 0).val / 512 = r.val ↔ _; omega
  have h1 : (y 1).val < 256 := (y 1).isLt
  by_cases h : blockOf (y 0) = r
  · have h0 := hb.mp h
    rw [dif_pos (fun a => by fin_cases a; exacts [h0, ⟨Nat.zero_le _, by show (y 1).val < 0 + 256; omega⟩])]
    simp only [if_pos h]
    congr 2
    · refine Fin.ext ?_
      show (y 0).val - 512 * r.val = (y 0).val % 512
      omega
  · rw [dif_neg (fun hh => h (hb.mpr (hh 0)))]
    simp only [if_neg h]

/-- What a head's points share, over the reals: queries, upstream gradient, log-sum-exps and row sums. -/
structure Head where
  q : Fin 8192 → Fin 256 → ℝ
  g : Fin 8192 → Fin 128 → ℝ
  l : Fin 8192 → ℝ
  s : Fin 8192 → ℝ
/-- A point's block of keys and values. -/
structure Keys where
  kn : Fin 512 → Fin 128 → ℝ
  kr : Fin 512 → Fin 128 → ℝ
  v : Fin 512 → Fin 128 → ℝ

/-- A block's keys, both halves. -/
def Keys.k (B : Keys) : Fin 512 → Fin 256 → ℝ := keys B.kn B.kr

variable (H : Head) (B : Keys) (ki : Fin 16)

/-- The weight of key `j` of block `ki` for query `t`: none where the key comes after the query. -/
def W (t : Fin 8192) (j : Fin 512) : ℝ := if 512 * ki.val + j.val ≤ t.val then Real.exp ((∑ d, H.q t d * B.k j d) - H.l t) else 0
/-- The gradient of that score. -/
def dS (t : Fin 8192) (j : Fin 512) : ℝ := W H B ki t j * ((∑ d, H.g t d * B.v j d) - H.s t)

/-- The sums over the blocks of queries in `R`, on top of the query gradients `D`. -/
def acc (D : Fin 8192 → Fin 256 → ℝ) (R : Finset (Fin 16)) : St Ideal :=
  (coe2 fun j d => ∑ r ∈ R, ∑ i, dS H B ki (row r i) j * H.q (row r i) d,
   coe2 fun j d => ∑ r ∈ R, ∑ i, W H B ki (row r i) j * H.g (row r i) d,
   coe2 fun t d => D t d + if blockOf t ∈ R then ∑ j, dS H B ki t j * B.k j d else 0)

theorem weight_row {r : Fin 16} (h : ki < r) (i j : Fin 512) :
    weight B.k (fun i => H.q (row r i)) (fun i => H.l (row r i)) i j = W H B ki (row r i) j := by
  have : 512 * ki.val + j.val ≤ (row r i).val := by
    have : ki.val < r.val := h
    show _ ≤ 512 * r.val + i.val
    omega
  exact (if_pos this).symm
theorem weightM_row (i j : Fin 512) :
    weightM B.k (fun i => H.q (row ki i)) (fun i => H.l (row ki i)) i j = W H B ki (row ki i) j := by
  have : (512 * ki.val + j.val ≤ (row ki i).val) = (j ≤ i) := by
    show (512 * ki.val + j.val ≤ 512 * ki.val + i.val) = (j.val ≤ i.val)
    exact propext ⟨fun h => by omega, fun h => by omega⟩
  unfold weightM W
  simp only [this]
  rfl

variable {x2 : Vec Ideal S8192x128 .f32}

/-- A block below the diagonal joins the sums. -/
theorem blk_acc (D : Fin 8192 → Fin 256 → ℝ) (hS : Stats x2 H.l H.s) (R : Finset (Fin 16)) (r : Fin 16) (hr : ki < r) (hR : r ∉ R) :
    blk (F := Ideal) (coe2 B.k) (coe2 B.v) (coe2 H.q) (coe2 H.g) x2 r (acc H B ki D R) = acc H B ki D (insert r R) := by
  unfold blk acc
  rw [rowsQ_coe16, rowsO_coe, rowsL_coe hS, rowsS_coe hS, rowsQ_coe32, pay6_coe, pay4_coe, pay7_coe, putQ_coe]
  refine congrArg₂ Prod.mk ?_ (congrArg₂ Prod.mk ?_ ?_)
  · refine congrArg coe2 (funext fun j => funext fun d => ?_)
    rw [Finset.sum_insert hR, add_comm]
    refine congrArg (· + _) (Finset.sum_congr rfl fun i _ => ?_)
    unfold score' dS
    rw [weight_row H B ki hr]
  · refine congrArg coe2 (funext fun j => funext fun d => ?_)
    rw [Finset.sum_insert hR, add_comm]
    refine congrArg (· + _) (Finset.sum_congr rfl fun i _ => ?_)
    rw [weight_row H B ki hr]
  · refine congrArg coe2 (funext fun t => funext fun d => ?_)
    by_cases h : blockOf t = r
    · have ht : row r (within t) = t := by rw [← h]; exact row_blockOf t
      rw [if_pos h, ht, if_neg (by rw [h]; exact hR), if_pos (by rw [h]; exact Finset.mem_insert_self _ _), add_zero]
      refine congrArg (_ + ·) (Finset.sum_congr rfl fun j _ => ?_)
      unfold score' dS
      rw [weight_row H B ki hr]
      dsimp only
      rw [ht]
    · rw [if_neg h]
      simp only [Finset.mem_insert, h, false_or]

/-- The block on the diagonal begins them. -/
theorem diag_acc (D : Fin 8192 → Fin 256 → ℝ) (hS : Stats x2 H.l H.s) :
    diag (F := Ideal) (coe2 H.q) (coe2 H.g) x2 (coe2 B.kn) (coe2 B.v) (coe2 B.kr) ki (coe2 D) = acc H B ki D {ki} := by
  unfold diag acc
  rw [rowsQ_coe16, rowsO_coe, rowsL_coe hS, rowsS_coe hS, rowsQ_coe32, pay57_coe, pay58_coe, pay59_coe, pay60_coe, pay61_coe, pay62_coe,
    pay63_coe, pay65_coe, pay56_coe, pay66_coe, putQ_coe]
  refine congrArg₂ Prod.mk ?_ (congrArg₂ Prod.mk ?_ ?_)
  · refine congrArg coe2 (funext fun j => funext fun d => ?_)
    rw [Finset.sum_singleton]
    refine Finset.sum_congr rfl fun i _ => ?_
    unfold score' dS
    rw [← weightM_row H B ki]; rfl
  · refine congrArg coe2 (funext fun j => funext fun d => ?_)
    rw [Finset.sum_singleton]
    refine Finset.sum_congr rfl fun i _ => ?_
    rw [← weightM_row H B ki]; rfl
  · refine congrArg coe2 (funext fun t => funext fun d => ?_)
    by_cases h : blockOf t = ki
    · have ht : row ki (within t) = t := by rw [← h]; exact row_blockOf t
      rw [if_pos h, ht, if_pos (by rw [h]; exact Finset.mem_singleton_self _)]
      refine congrArg (_ + ·) (Finset.sum_congr rfl fun j _ => ?_)
      show weightM B.k (fun i => H.q (row ki i)) (fun i => H.l (row ki i)) (within t) j
        * ((∑ d, H.g (row ki (within t)) d * B.v j d) - H.s (row ki (within t))) * B.k j d = _
      rw [weightM_row H B ki, ht]
      rfl
    · rw [if_neg h, if_neg (by simpa using h), add_zero]

/-- The blocks of queries joined so far: from the diagonal up to block `n`, and the last `m`. -/
def seen (n m : ℕ) : Finset (Fin 16) := Finset.univ.filter fun r => ki ≤ r ∧ (r.val < n ∨ 16 - m ≤ r.val)

theorem mem_seen (n m : ℕ) (r : Fin 16) : r ∈ seen ki n m ↔ ki.val ≤ r.val ∧ (r.val < n ∨ 16 - m ≤ r.val) := by
  unfold seen; rw [Finset.mem_filter]; exact ⟨fun h => h.2, fun h => ⟨Finset.mem_univ _, h⟩⟩

/-- The next block joins. -/
theorem blk_next (D : Fin 8192 → Fin 256 → ℝ) (hS : Stats x2 H.l H.s) (n : ℕ) (hn : n < 16) (hk : ki.val < n) :
    blk (F := Ideal) (coe2 B.k) (coe2 B.v) (coe2 H.q) (coe2 H.g) x2 (Fin.ofNat 16 n) (acc H B ki D (seen ki n 0)) = acc H B ki D (seen ki (n + 1) 0) := by
  have hv : (Fin.ofNat 16 n).val = n := Nat.mod_eq_of_lt hn
  rw [blk_acc H B ki D hS _ _ (by show ki.val < (Fin.ofNat 16 n).val; omega) (by rw [mem_seen]; omega)]
  refine congrArg _ (Finset.ext fun r => ?_)
  rw [Finset.mem_insert, mem_seen, mem_seen, Fin.ext_iff, hv]
  have := r.isLt
  omega

/-- The last block not yet joined joins. -/
theorem blk_last (D : Fin 8192 → Fin 256 → ℝ) (hS : Stats x2 H.l H.s) (n m : ℕ) (r : Fin 16) (hr : r.val + m = 15) (hn : n ≤ r.val) (hk : ki.val < r.val) :
    blk (F := Ideal) (coe2 B.k) (coe2 B.v) (coe2 H.q) (coe2 H.g) x2 r (acc H B ki D (seen ki n m)) = acc H B ki D (seen ki n (m + 1)) := by
  rw [blk_acc H B ki D hS _ _ hk (by rw [mem_seen]; omega)]
  refine congrArg _ (Finset.ext fun r' => ?_)
  rw [Finset.mem_insert, mem_seen, mem_seen, Fin.ext_iff]
  have := r'.isLt
  omega

theorem groups_acc (D : Fin 8192 → Fin 256 → ℝ) (hS : Stats x2 H.l H.s) (j : ℕ) (hj : ki.val + 1 + 4 * j ≤ 16) :
    groups (F := Ideal) (coe2 B.k) (coe2 B.v) (coe2 H.q) (coe2 H.g) x2 (ki.val + 1) j (acc H B ki D {ki}) = acc H B ki D (seen ki (ki.val + 1 + 4 * j) 0) := by
  induction j with
  | zero =>
    refine congrArg (acc H B ki D) (Finset.ext fun r => ?_)
    rw [Finset.mem_singleton, mem_seen, Fin.ext_iff]
    have := r.isLt
    omega
  | succ j ih =>
    unfold groups blk4
    rw [ih (by omega), blk_next H B ki D hS _ (by omega) (by omega), blk_next H B ki D hS _ (by omega) (by omega), blk_next H B ki D hS _ (by omega) (by omega),
      blk_next H B ki D hS _ (by omega) (by omega)]
    rfl

/-- What a point leaves: the key and value gradients of its block, summed over all queries, and its keys' share in every query's gradient. -/
theorem point_coe (D : Fin 8192 → Fin 256 → ℝ) (hS : Stats x2 H.l H.s) :
    point (F := Ideal) (coe2 H.q) (coe2 H.g) x2 (coe2 B.kn) (coe2 B.v) (coe2 B.kr) ki (coe2 D)
      = (coe2 fun j d => ∑ t, dS H B ki t j * H.q t d, coe2 fun j d => ∑ t, W H B ki t j * H.g t d,
          coe2 fun t d => D t d + ∑ j, dS H B ki t j * B.k j d) := by
  have hki := ki.isLt
  have main : point (F := Ideal) (coe2 H.q) (coe2 H.g) x2 (coe2 B.kn) (coe2 B.v) (coe2 B.kr) ki (coe2 D) = acc H B ki D (Finset.univ.filter fun r => ki ≤ r) := by
    have fin : ∀ n m : ℕ, n + m = 16 → seen ki n m = Finset.univ.filter fun r => ki ≤ r := fun n m h => Finset.ext fun r => by
      rw [mem_seen, Finset.mem_filter]
      have := r.isLt
      exact ⟨fun h => ⟨Finset.mem_univ _, h.1⟩, fun h => ⟨h.2, by omega⟩⟩
    unfold point
    dsimp only
    rw [pay57_coe, pay56_coe, diag_acc H B ki D hS, show keys B.kn B.kr = B.k from rfl, groups_acc H B ki D hS _ (by omega)]
    obtain ⟨n, hn⟩ : ∃ n, n = ki.val + 1 + 4 * ((15 - ki.val) / 4) := ⟨_, rfl⟩
    rw [← hn]
    have h15 : ((15 : Fin 16).val = 15) ∧ ((14 : Fin 16).val = 14) ∧ ((13 : Fin 16).val = 13) := ⟨rfl, rfl, rfl⟩
    by_cases h0 : 0 < (15 - ki.val) % 4
    · rw [if_pos h0, blk_last H B ki D hS n 0 15 (by omega) (by omega) (by omega)]
      by_cases h1 : 1 < (15 - ki.val) % 4
      · rw [if_pos h1, blk_last H B ki D hS n 1 14 (by omega) (by omega) (by omega)]
        by_cases h2 : 2 < (15 - ki.val) % 4
        · rw [if_pos h2, blk_last H B ki D hS n 2 13 (by omega) (by omega) (by omega), fin n 3 (by omega)]
        · rw [if_neg h2, fin n 2 (by omega)]
      · rw [if_neg h1, if_neg (by omega), fin n 1 (by omega)]
    · rw [if_neg h0, if_neg (by omega), if_neg (by omega), fin n 0 (by omega)]
  rw [main]
  have zero : ∀ (t : Fin 8192) (j : Fin 512), ¬ki ≤ blockOf t → W H B ki t j = 0 := fun t j h => if_neg fun hh => h (by
    show ki.val ≤ t.val / 512; omega)
  have zero' : ∀ (t : Fin 8192) (j : Fin 512), ¬ki ≤ blockOf t → dS H B ki t j = 0 := fun t j h => by unfold dS; rw [zero t j h, zero_mul]
  unfold acc
  refine congrArg₂ Prod.mk ?_ (congrArg₂ Prod.mk ?_ ?_)
  · refine congrArg coe2 (funext fun j => funext fun d => ?_)
    rw [sum_rows]
    refine Finset.sum_subset (Finset.subset_univ _) fun r _ hr => Finset.sum_eq_zero fun i _ => ?_
    rw [zero' _ _ (by rw [blockOf_row]; exact fun h => hr (Finset.mem_filter.mpr ⟨Finset.mem_univ _, h⟩)), zero_mul]
  · refine congrArg coe2 (funext fun j => funext fun d => ?_)
    rw [sum_rows]
    refine Finset.sum_subset (Finset.subset_univ _) fun r _ hr => Finset.sum_eq_zero fun i _ => ?_
    rw [zero _ _ (by rw [blockOf_row]; exact fun h => hr (Finset.mem_filter.mpr ⟨Finset.mem_univ _, h⟩)), zero_mul]
  · refine congrArg coe2 (funext fun t => funext fun d => ?_)
    by_cases h : ki ≤ blockOf t
    · rw [if_pos (Finset.mem_filter.mpr ⟨Finset.mem_univ _, h⟩)]
    · rw [if_neg (fun hh => h (Finset.mem_filter.mp hh).2)]
      refine congrArg (_ + ·) (Finset.sum_eq_zero fun j _ => ?_).symm
      rw [zero' _ _ h, zero_mul]

end Cert.Proof.Value

end
-- ==== Proof.Sums.lean ====
/-
  The blocks a grid point reads, and the sums the points leave, at arguments that are reals.
-/
module

public import proofs.«01_k».proof.Proof.Run
public import proofs.«01_k».proof.Proof.Block
public import proofs.«01_k».proof.Proof.HostValue
public import Idealize.ShloMosaic.Lib.Pipeline.ValueKit

@[expose] public section

noncomputable section

namespace Cert.Proof.KernelIdeal

open Cert.KernelIdeal Cert.KernelIdeal.Gen Cert.Proof.Value
open Idealize.ShloMosaic Idealize.ShloMosaic.TcCoe Idealize.SL.Sem

/-- The head of a point. -/
def headOf (t : Fin cfg0.N) : Fin 16 := ⟨t.val / 16, by have := lt_of_lt_of_eq t.isLt (show cfg0.N = 256 from N_0); omega⟩
/-- Its block of keys. -/
abbrev keyBlock (t : Fin cfg0.N) : Fin 16 := grid0.coords t 1

/-- Where each window's block lies at a point. -/
theorem idx : ∀ t : Fin cfg0.N, win0_0.index t = ![0, t.val / 16] ∧ win0_1.index t = ![0, t.val / 16] ∧ win0_2.index t = ![0, t.val / 16]
    ∧ win0_3.index t = ![(keyBlock t).val, t.val / 16] ∧ win0_4.index t = ![(keyBlock t).val, 16 + t.val / 16] ∧ win0_5.index t = ![(keyBlock t).val, 0]
    ∧ win0_6.index t = ![0, t.val / 16] ∧ win0_7.index t = ![(keyBlock t).val, t.val / 16] ∧ win0_8.index t = ![(keyBlock t).val, t.val / 16]
    ∧ win0_9.index t = ![(keyBlock t).val, t.val / 16] := by decide +kernel

section
variable {F : FTy → Type} [FloatOps F] (m : (ℓ : Loc nD τ sig) → Buf (Elt F) ℓ) (c : Dev nD)

theorem blk0 (t : Fin cfg0.N) (i : Fin 8192) (d : Fin 256) : iblk m c 0 t (ix2 i d) = V m c main_v40 (ix2 i ⟨(headOf t).val * 256 + d.val, by omega⟩) := by
  have h := idx t
  unfold iblk headOf
  show ((cfg0.win 0).blk t).view.read (Elt F) (V m c main_v40) (ix2 i d) = _
  generalize V m c main_v40 = X
  blk_ext [h]
theorem blk1 (t : Fin cfg0.N) (i : Fin 8192) (d : Fin 128) : iblk m c 1 t (ix2 i d) = V m c main_v48 (ix2 i ⟨(headOf t).val * 128 + d.val, by omega⟩) := by
  have h := idx t
  unfold iblk headOf
  show ((cfg0.win 1).blk t).view.read (Elt F) (V m c main_v48) (ix2 i d) = _
  generalize V m c main_v48 = X
  blk_ext [h]
theorem blk2 (t : Fin cfg0.N) (i : Fin 8192) (d : Fin 128) : iblk m c 2 t (ix2 i d) = V m c main_v35 (ix2 i ⟨(headOf t).val * 128 + d.val, by omega⟩) := by
  have h := idx t
  unfold iblk headOf
  show ((cfg0.win 2).blk t).view.read (Elt F) (V m c main_v35) (ix2 i d) = _
  generalize V m c main_v35 = X
  blk_ext [h]
theorem blk3 (t : Fin cfg0.N) (i : Fin 512) (d : Fin 128) : iblk m c 3 t (ix2 i d) = V m c main_v44 (ix2 (Value.row (keyBlock t) i) ⟨(headOf t).val * 128 + d.val, by omega⟩) := by
  have h := idx t
  unfold iblk headOf Value.row
  show ((cfg0.win 3).blk t).view.read (Elt F) (V m c main_v44) (ix2 i d) = _
  generalize V m c main_v44 = X
  blk_ext [h]
theorem blk4' (t : Fin cfg0.N) (i : Fin 512) (d : Fin 128) : iblk m c 4 t (ix2 i d) = V m c main_v44 (ix2 (Value.row (keyBlock t) i) ⟨(16 + (headOf t).val) * 128 + d.val, by omega⟩) := by
  have h := idx t
  unfold iblk headOf Value.row
  show ((cfg0.win 4).blk t).view.read (Elt F) (V m c main_v44) (ix2 i d) = _
  generalize V m c main_v44 = X
  blk_ext [h]
theorem blk5 (t : Fin cfg0.N) (i : Fin 512) (d : Fin 128) : iblk m c 5 t (ix2 i d) = V m c main_v46 (ix2 (Value.row (keyBlock t) i) d) := by
  have h := idx t
  unfold iblk Value.row
  show ((cfg0.win 5).blk t).view.read (Elt F) (V m c main_v46) (ix2 i d) = _
  generalize V m c main_v46 = X
  blk_ext [h]
end

variable {m : (ℓ : Loc nD τ sig) → Buf (Elt Ideal) ℓ} {c : Dev nD} {a : Args} (A : At m c a)

/-- A head's queries, gradients and row statistics. -/
def headAt (a : Args) (h : Fin 16) : Head :=
  ⟨fun t d => a.qp t h d, fun t d => a.g t h d, fun t => a.top h t + Real.log (a.L a.top h t), fun t => a.mean a.top h t⟩
/-- A block of a head's keys and values. -/
def keysAt (a : Args) (h : Fin 16) (k : Fin 16) : Keys :=
  ⟨fun j d => a.kn (Value.row k j) h d, fun j d => a.krp (Value.row k j) d, fun j d => a.v (Value.row k j) h d⟩

theorem keysAt_k (h k : Fin 16) (j : Fin 512) (d : Fin 256) : (keysAt a h k).k j d = a.kp (Value.row k j) h d := by
  unfold Keys.k keys Args.kp keysAt; rfl

/-- A block's weight is the attention's. -/
theorem W_at (h k : Fin 16) (t : Fin 8192) (j : Fin 512) : W (headAt a h) (keysAt a h k) k t j = a.Y a.top h t (Value.row k j) := by
  unfold W
  by_cases hs : 512 * k.val + j.val ≤ t.val
  · rw [if_pos hs, ← a.Y_eq_exp a.top h t (Value.row k j) hs, ← a.score_eq]
    simp only [keysAt_k]
    unfold headAt; rfl
  · rw [if_neg hs, a.Y_of_not_le a.top h t (Value.row k j) hs]

/-- A block's scores' gradient is the attention's. -/
theorem dS_at (h k : Fin 16) (t : Fin 8192) (j : Fin 512) : dS (headAt a h) (keysAt a h k) k t j = a.DS a.top h t (Value.row k j) := by
  rw [dS, W_at, Args.DS, Args.DY]
  simp only [headAt, keysAt]

/-- What block `k` of keys adds to the gradient of query `t`, before the scale. -/
def share (a : Args) (h k : Fin 16) (t : Fin 8192) (d : Fin 256) : ℝ := ∑ j, a.DS a.top h t (Value.row k j) * a.kp (Value.row k j) h d
/-- The first `n` blocks' part of it. -/
def part (a : Args) (h : Fin 16) (n : ℕ) (t : Fin 8192) (d : Fin 256) : ℝ := ∑ k ∈ Finset.range n, if hk : k < 16 then share a h ⟨k, hk⟩ t d else 0

theorem part_all (h : Fin 16) (t : Fin 8192) (d : Fin 256) : part a h 16 t d = ∑ s, a.DS a.top h t s * a.kp s h d := by
  rw [sum_rows fun s => a.DS a.top h t s * a.kp s h d]
  exact (Finset.sum_fin_eq_sum_range fun k : Fin 16 => share a h k t d).symm

theorem part_succ (h k : Fin 16) (t : Fin 8192) (d : Fin 256) : part a h (k.val + 1) t d = part a h k.val t d + share a h k t d := by
  unfold part; rw [Finset.sum_range_succ, dif_pos k.isLt]

include A

/-- The lower lanes of a row of the statistics are its log-sum-exp. -/
theorem At.blk2_lse (t : Fin cfg0.N) (r : Fin 8192) (d : Fin 128) (hd : d.val < 64) : iblk m c 2 t (ix2 r d) = (((headAt a (headOf t)).l r : ℝ) : EReal) := by
  rw [blk2, A.v35_lse r (headOf t) d hd]
  rfl
/-- The upper lanes are its mean. -/
theorem At.blk2_mean (t : Fin cfg0.N) (r : Fin 8192) (d : Fin 128) (hd : ¬d.val < 64) : iblk m c 2 t (ix2 r d) = (((headAt a (headOf t)).s r : ℝ) : EReal) := by
  rw [blk2, A.v35_mean r (headOf t) d hd]
  simp only [headAt]

/-- The sums of a point over what it finds. -/
theorem At.point_eq (t : Fin cfg0.N) (D : Fin 8192 → Fin 256 → ℝ) :
    at_ m c t (coe2 D) = (coe2 fun j d => ∑ r, a.DS a.top (headOf t) r (Value.row (keyBlock t) j) * a.qp r (headOf t) d,
      coe2 fun j d => ∑ r, a.Y a.top (headOf t) r (Value.row (keyBlock t) j) * a.g r (headOf t) d,
      coe2 fun r d => D r d + share a (headOf t) (keyBlock t) r d) := by
  have e0 : iblk m c 0 t = coe2 (headAt a (headOf t)).q := by
    funext i; rw [← ix2_eta i]; exact (blk0 m c t _ _).trans (A.v40 _ _ _)
  have e1 : iblk m c 1 t = coe2 (headAt a (headOf t)).g := by
    funext i; rw [← ix2_eta i]; exact (blk1 m c t _ _).trans (A.v48 _ _ _)
  have e2 : Stats (iblk m c 2 t) (headAt a (headOf t)).l (headAt a (headOf t)).s := fun r => ⟨A.blk2_lse t r 0 (by decide), A.blk2_mean t r 64 (by decide)⟩
  have e3 : iblk m c 3 t = coe2 (keysAt a (headOf t) (keyBlock t)).kn := by
    funext i; rw [← ix2_eta i]; exact (blk3 m c t _ _).trans (A.v44_key _ _ _)
  have e4 : iblk m c 4 t = coe2 (keysAt a (headOf t) (keyBlock t)).v := by
    funext i; rw [← ix2_eta i]; exact (blk4' m c t _ _).trans (A.v44_val _ _ _)
  have e5 : iblk m c 5 t = coe2 (keysAt a (headOf t) (keyBlock t)).kr := by
    funext i; rw [← ix2_eta i]; exact (blk5 m c t _ _).trans (A.v46 _ _)
  unfold at_
  rw [e0, e1, e3, e4, e5]
  refine (point_coe (headAt a (headOf t)) (keysAt a (headOf t) (keyBlock t)) (keyBlock t) D e2).trans ?_
  simp only [W_at, dS_at, keysAt_k]
  rfl

omit A in
theorem pay55_coe : k0_pay55 (F := Ideal) = coe2 fun _ _ => 0 := by
  funext i
  pointwise [k0_pay55]
  rfl

/-- The sums after a point: a head's query gradients from its blocks of keys so far. -/
theorem At.sums_eq (n : ℕ) (hn : n < cfg0.N) : sums m c n hn = at_ m c ⟨n, hn⟩ (coe2 (part a (headOf ⟨n, hn⟩) (n % 16))) := by
  induction n with
  | zero =>
    rw [sums_first m c ⟨0, hn⟩ rfl, pay55_coe]
    rfl
  | succ n ih =>
    by_cases h0 : (n + 1) % 16 = 0
    · rw [sums_first m c ⟨n + 1, hn⟩ h0, pay55_coe, h0]
      rfl
    · rw [sums_rest m c ⟨n + 1, hn⟩ h0]
      simp only [Nat.add_sub_cancel]
      rw [ih (Nat.lt_of_succ_lt hn), A.point_eq]
      have hk : (keyBlock ⟨n, Nat.lt_of_succ_lt hn⟩).val = n % 16 := key_of ⟨n, Nat.lt_of_succ_lt hn⟩
      have hh : headOf ⟨n, Nat.lt_of_succ_lt hn⟩ = headOf ⟨n + 1, hn⟩ := Fin.ext (by unfold headOf; simp only; omega)
      generalize keyBlock ⟨n, Nat.lt_of_succ_lt hn⟩ = k at hk ⊢
      have h1 : (n + 1) % 16 = k.val + 1 := by omega
      rw [h1, hh, ← hk]
      have e : (fun r d => part a (headOf ⟨n + 1, hn⟩) k.val r d + share a (headOf ⟨n + 1, hn⟩) k r d) = part a (headOf ⟨n + 1, hn⟩) (k.val + 1) :=
        funext fun r => funext fun d => (part_succ (headOf ⟨n + 1, hn⟩) k r d).symm
      rw [e]

end Cert.Proof.KernelIdeal

end
-- ==== Proof.Arrays.lean ====
/-
  The arrays the call leaves, at arguments that are reals: every head's gradients in its own lanes.
-/
module

public import proofs.«01_k».proof.Proof.Sums

@[expose] public section

noncomputable section

namespace Cert.Proof.KernelIdeal

open Cert.KernelIdeal Cert.KernelIdeal.Gen Cert.Proof.Value
open Idealize.ShloMosaic Idealize.ShloMosaic.TcCoe Idealize.SL.Sem
open Idealize.ShloMosaic.Pipeline (Dat)

variable {m : (ℓ : Loc nD τ sig) → Buf (Elt Ideal) ℓ} {c : Dev nD} {a : Args} (A : At m c a)

/-- The key gradients of a head, in all padded lanes. -/
def dkp (a : Args) (s : Fin 8192) (h : Fin 16) (d : Fin 256) : ℝ := ∑ r, a.DS a.top h r s * a.qp r h d
/-- Its value gradients. -/
def dvp (a : Args) (s : Fin 8192) (h : Fin 16) (d : Fin 128) : ℝ := ∑ r, a.Y a.top h r s * a.g r h d
/-- Its query gradients, before the scale. -/
def dqp (a : Args) (t : Fin 8192) (h : Fin 16) (d : Fin 256) : ℝ := ∑ s, a.DS a.top h t s * a.kp s h d

theorem part_last (h k : Fin 16) (hk : k.val = 15) : (fun r d => part a h k.val r d + share a h k r d) = fun r d => dqp a r h d := by
  funext r d
  rw [← part_succ, hk]
  exact part_all h r d

include A

theorem At.sums_key (t : Fin cfg0.N) : (sums m c t.val t.isLt).1 = coe2 fun j d => dkp a (Value.row (keyBlock t) j) (headOf t) d := by
  rw [A.sums_eq, A.point_eq]; rfl
theorem At.sums_val (t : Fin cfg0.N) : (sums m c t.val t.isLt).2.1 = coe2 fun j d => dvp a (Value.row (keyBlock t) j) (headOf t) d := by
  rw [A.sums_eq, A.point_eq]; rfl
theorem At.sums_query (t : Fin cfg0.N) (ht : t.val % 16 = 15) : (sums m c t.val t.isLt).2.2 = coe2 fun r d => dqp a r (headOf t) d := by
  have hk : (keyBlock t).val = t.val % 16 := key_of t
  rw [A.sums_eq, A.point_eq, ← part_last (headOf t) (keyBlock t) (hk.trans ht), hk]

/-- The query gradients' array. -/
theorem At.arr6 : (dats m 0 c).arrAt 6 cfg0.N = coe2 fun s (x : Fin 4096) => dqp a s ⟨x.val / 256, by omega⟩ ⟨x.val % 256, by omega⟩ := by
  refine (dats m 0 c).arrAt_eq_of_covers 6 _ (by decide +kernel) fun t hf y => ?_
  have h := idx t
  have hy0 : (y 0).val < 8192 := (y 0).isLt
  have hy1 : (y 1).val < 256 := (y 1).isLt
  have h16 : t.val / 16 < 16 := (headOf t).isLt
  have e0 : (((cfg0.win 6).blk t).view.emb y 0).val = (y 0).val := by blk_simp [h]
  have e1 : (((cfg0.win 6).blk t).view.emb y 1).val = t.val / 16 * 256 + (y 1).val := by blk_simp [h]
  blk_simp [h]
  rw [after_6, A.sums_query t ((flush0_6 t).mp hf)]
  refine congrArg Real.toEReal (congr (congrArg₂ (dqp a) (Fin.ext ?_) (Fin.ext ?_)) (Fin.ext ?_))
  · exact e0.symm
  · show t.val / 16 = ((win0_6.blk t).view.emb y 1).val / 256
    rw [show ((win0_6.blk t).view.emb y 1).val = _ from e1]; omega
  · show (y 1).val = ((win0_6.blk t).view.emb y 1).val % 256
    rw [show ((win0_6.blk t).view.emb y 1).val = _ from e1]; omega

/-- The array of the key gradients' own lanes. -/
theorem At.arr7 : (dats m 0 c).arrAt 7 cfg0.N = coe2 fun s (x : Fin 2048) => dkp a s ⟨x.val / 128, by omega⟩ ⟨x.val % 128, by omega⟩ := by
  refine (dats m 0 c).arrAt_eq_of_covers 7 _ (by decide +kernel) fun t hf y => ?_
  have h := idx t
  have hy0 : (y 0).val < 512 := (y 0).isLt
  have hy1 : (y 1).val < 128 := (y 1).isLt
  have h16 : t.val / 16 < 16 := (headOf t).isLt
  have e0 : (((cfg0.win 7).blk t).view.emb y 0).val = 512 * (keyBlock t).val + (y 0).val := by blk_simp [h]; omega
  have e1 : (((cfg0.win 7).blk t).view.emb y 1).val = t.val / 16 * 128 + (y 1).val := by blk_simp [h]
  blk_simp [h]
  rw [after_7, A.sums_key t]
  have ep : k0_pay8 (F := Ideal) (coe2 fun j d => dkp a (Value.row (keyBlock t) j) (headOf t) d) y = ((dkp a (Value.row (keyBlock t) (y 0)) (headOf t) ⟨(y 1).val, by omega⟩ : ℝ) : EReal) := by
    pointwise [k0_pay8]
    rfl
  refine ep.trans (congrArg Real.toEReal (congr (congrArg₂ (dkp a) (Fin.ext ?_) (Fin.ext ?_)) (Fin.ext ?_)))
  · exact e0.symm
  · show t.val / 16 = ((win0_7.blk t).view.emb y 1).val / 128
    rw [show ((win0_7.blk t).view.emb y 1).val = _ from e1]; omega
  · show (y 1).val = ((win0_7.blk t).view.emb y 1).val % 128
    rw [show ((win0_7.blk t).view.emb y 1).val = _ from e1]; omega

/-- The value gradients' array. -/
theorem At.arr8 : (dats m 0 c).arrAt 8 cfg0.N = coe2 fun s (x : Fin 2048) => dvp a s ⟨x.val / 128, by omega⟩ ⟨x.val % 128, by omega⟩ := by
  refine (dats m 0 c).arrAt_eq_of_covers 8 _ (by decide +kernel) fun t hf y => ?_
  have h := idx t
  have hy0 : (y 0).val < 512 := (y 0).isLt
  have hy1 : (y 1).val < 128 := (y 1).isLt
  have h16 : t.val / 16 < 16 := (headOf t).isLt
  have e0 : (((cfg0.win 8).blk t).view.emb y 0).val = 512 * (keyBlock t).val + (y 0).val := by blk_simp [h]; omega
  have e1 : (((cfg0.win 8).blk t).view.emb y 1).val = t.val / 16 * 128 + (y 1).val := by blk_simp [h]
  blk_simp [h]
  rw [after_8, A.sums_val t]
  have ep : k0_pay10 (F := Ideal) (coe2 fun j d => dvp a (Value.row (keyBlock t) j) (headOf t) d) y = ((dvp a (Value.row (keyBlock t) (y 0)) (headOf t) (y 1) : ℝ) : EReal) := by
    pointwise [k0_pay10]
    rfl
  refine ep.trans (congrArg Real.toEReal (congr (congrArg₂ (dvp a) (Fin.ext ?_) (Fin.ext ?_)) (Fin.ext ?_)))
  · exact e0.symm
  · show t.val / 16 = ((win0_8.blk t).view.emb y 1).val / 128
    rw [show ((win0_8.blk t).view.emb y 1).val = _ from e1]; omega
  · show (y 1).val = ((win0_8.blk t).view.emb y 1).val % 128
    rw [show ((win0_8.blk t).view.emb y 1).val = _ from e1]; omega

/-- The array of the key gradients' rotary lanes. -/
theorem At.arr9 : (dats m 0 c).arrAt 9 cfg0.N = coe2 fun s (x : Fin 2048) => dkp a s ⟨x.val / 128, by omega⟩ ⟨128 + x.val % 128, by omega⟩ := by
  refine (dats m 0 c).arrAt_eq_of_covers 9 _ (by decide +kernel) fun t hf y => ?_
  have h := idx t
  have hy0 : (y 0).val < 512 := (y 0).isLt
  have hy1 : (y 1).val < 128 := (y 1).isLt
  have h16 : t.val / 16 < 16 := (headOf t).isLt
  have e0 : (((cfg0.win 9).blk t).view.emb y 0).val = 512 * (keyBlock t).val + (y 0).val := by blk_simp [h]; omega
  have e1 : (((cfg0.win 9).blk t).view.emb y 1).val = t.val / 16 * 128 + (y 1).val := by blk_simp [h]
  blk_simp [h]
  rw [after_9, A.sums_key t]
  have ep : k0_pay9 (F := Ideal) (coe2 fun j d => dkp a (Value.row (keyBlock t) j) (headOf t) d) y = ((dkp a (Value.row (keyBlock t) (y 0)) (headOf t) ⟨128 + (y 1).val, by omega⟩ : ℝ) : EReal) := by
    pointwise [k0_pay9]
    rfl
  refine ep.trans (congrArg Real.toEReal (congr (congrArg₂ (dkp a) (Fin.ext ?_) (Fin.ext ?_)) (Fin.ext ?_)))
  · exact e0.symm
  · show t.val / 16 = ((win0_9.blk t).view.emb y 1).val / 128
    rw [show ((win0_9.blk t).view.emb y 1).val = _ from e1]; omega
  · show 128 + (y 1).val = 128 + ((win0_9.blk t).view.emb y 1).val % 128
    rw [show ((win0_9.blk t).view.emb y 1).val = _ from e1]; omega

end Cert.Proof.KernelIdeal

end
-- ==== Proof.Tail.lean ====
/-
  The results: what the operations after the call make of the arrays it leaves.
-/
module

public import proofs.«01_k».proof.Proof.Arrays
public import Idealize.ShloMosaic.Lib.StableHlo.RunRead

@[expose] public section

noncomputable section

namespace Cert.Proof.KernelIdeal

open Cert.KernelIdeal Cert.KernelIdeal.Gen Cert.Proof.Value
open Idealize.ShloMosaic Idealize.ShloMosaic.TcCoe Idealize.ShloMosaic.StableHlo Idealize.SL.Sem

section Read

variable (m : (ℓ : Loc nD τ sig) → Buf (Elt Ideal) ℓ) (c : Dev nD)

/-- The buffers as the call leaves them. -/
def left : Valuation τ sig (Elt Ideal) :=
  Pipeline.withArrays spec0 c (V0 m c) fun w => (dats m 0 c).arrAt w cfg0.N

theorem left_6 : left m c (Proc.devRef .tc main_v49_0) = (dats m 0 c).arrAt 6 cfg0.N := Pipeline.Dat.withArrays_arrAt (dats m 0 c) sharedIn0 (V0 m c) (A_eq m c) 6
theorem left_7 : left m c (Proc.devRef .tc main_v49_1) = (dats m 0 c).arrAt 7 cfg0.N := Pipeline.Dat.withArrays_arrAt (dats m 0 c) sharedIn0 (V0 m c) (A_eq m c) 7
theorem left_8 : left m c (Proc.devRef .tc main_v49_2) = (dats m 0 c).arrAt 8 cfg0.N := Pipeline.Dat.withArrays_arrAt (dats m 0 c) sharedIn0 (V0 m c) (A_eq m c) 8
theorem left_9 : left m c (Proc.devRef .tc main_v49_3) = (dats m 0 c).arrAt 9 cfg0.N := Pipeline.Dat.withArrays_arrAt (dats m 0 c) sharedIn0 (V0 m c) (A_eq m c) 9

theorem W_v53 : Pipeline.afterTail₀ cfgs (dats m) 0 (V0 m) [hostOps1] c main_v53
    = (mulf (F := Ideal) (φ := .f32) (extractStridedSlice S8192x16x192 ![0, 0, 0] (shapeCast S8192x16x256 (α := EReal) ((dats m 0 c).arrAt 6 cfg0.N) shapeCasts_S8192x4096_S8192x16x256) slices_S8192x16x256_S8192x16x192_0_0_0)
        (broadcastInDim S8192x16x192 ![] bcast_S_S8192x16x192 (constant S_ .f32 0x3D93CD3A#32)) : FVec Ideal S8192x16x192 .f32) := by
  show StableHlo.after [hostOps1].flatten (left m c) (Proc.devRef .tc main_v53) = _
  have h6 := left_6 m c
  generalize left m c = V at h6 ⊢
  after_reads_simp
  rw [h6]
  rfl
theorem W_v54 : Pipeline.afterTail₀ cfgs (dats m) 0 (V0 m) [hostOps1] c main_v54
    = shapeCast S8192x16x128 ((dats m 0 c).arrAt 7 cfg0.N) shapeCasts_S8192x2048_S8192x16x128 := by
  show StableHlo.after [hostOps1].flatten (left m c) (Proc.devRef .tc main_v54) = _
  have h7 := left_7 m c
  generalize left m c = V at h7 ⊢
  after_reads_simp
  rw [h7]
  rfl
theorem W_v56 : Pipeline.afterTail₀ cfgs (dats m) 0 (V0 m) [hostOps1] c main_v56
    = extractStridedSlice S8192x16x64 ![0, 0, 0] (shapeCast S8192x16x128 ((dats m 0 c).arrAt 9 cfg0.N) shapeCasts_S8192x2048_S8192x16x128) slices_S8192x16x128_S8192x16x64_0_0_0 := by
  show StableHlo.after [hostOps1].flatten (left m c) (Proc.devRef .tc main_v56) = _
  have h9 := left_9 m c
  generalize left m c = V at h9 ⊢
  after_reads_simp
  rw [h9]
  rfl
theorem W_v57 : Pipeline.afterTail₀ cfgs (dats m) 0 (V0 m) [hostOps1] c main_v57
    = shapeCast S8192x16x128 ((dats m 0 c).arrAt 8 cfg0.N) shapeCasts_S8192x2048_S8192x16x128 := by
  show StableHlo.after [hostOps1].flatten (left m c) (Proc.devRef .tc main_v57) = _
  have h8 := left_8 m c
  generalize left m c = V at h8 ⊢
  after_reads_simp
  rw [h8]
  rfl

end Read

variable {m : (ℓ : Loc nD τ sig) → Buf (Elt Ideal) ℓ} {c : Dev nD} {a : Args} (A : At m c a)

theorem div_lane {n : ℕ} (h : ℕ) (d : ℕ) (hd : d < n) : (h * n + d) / n = h ∧ (h * n + d) % n = d := by
  have hn : 0 < n := by omega
  rw [Nat.mul_comm h n]
  exact ⟨by rw [Nat.mul_add_div hn, Nat.div_eq_of_lt hd, Nat.add_zero], by rw [Nat.mul_add_mod, Nat.mod_eq_of_lt hd]⟩

theorem dqp_lt (t : Fin 8192) (h : Fin 16) (d : Fin 192) : dqp a t h ⟨d.val, by omega⟩ * a.c = a.dq a.top t h d := by
  unfold dqp Args.dq
  rw [Finset.sum_mul]
  refine Finset.sum_congr rfl fun s _ => ?_
  rw [a.kp_lt s h d]; ring
theorem dkp_lt (s : Fin 8192) (h : Fin 16) (d : Fin 192) : dkp a s h ⟨d.val, by omega⟩ = a.dk a.top s h d := by
  unfold dkp Args.dk
  refine Finset.sum_congr rfl fun r _ => ?_
  rw [a.qp_lt r h d]; ring
theorem dvp_eq (s : Fin 8192) (h : Fin 16) (d : Fin 128) : dvp a s h d = a.dv a.top s h d := by
  unfold dvp Args.dv
  exact Finset.sum_congr rfl fun r _ => mul_comm _ _

/-- Lane `d` of head `h` in an array whose heads lie side by side. -/
theorem lane_q (t : Fin 8192) (h : Fin 16) (d : Fin 192) (hx : h.val * 256 + d.val < 4096) :
    coe2 (fun t (x : Fin 4096) => dqp a t ⟨x.val / 256, by omega⟩ ⟨x.val % 256, by omega⟩) (ix2 t ⟨h.val * 256 + d.val, hx⟩) = ((dqp a t h ⟨d.val, by omega⟩ : ℝ) : EReal) := by
  rw [coe2_ix2]
  have e := div_lane (n := 256) h.val d.val (by omega)
  exact congrArg Real.toEReal (congrArg₂ (dqp a t) (Fin.ext e.1) (Fin.ext e.2))
theorem lane_kn (s : Fin 8192) (h : Fin 16) (d : Fin 128) (hx : h.val * 128 + d.val < 2048) :
    coe2 (fun s (x : Fin 2048) => dkp a s ⟨x.val / 128, by omega⟩ ⟨x.val % 128, by omega⟩) (ix2 s ⟨h.val * 128 + d.val, hx⟩) = ((a.dk a.top s h ⟨d.val, by omega⟩ : ℝ) : EReal) := by
  rw [coe2_ix2]
  have e := div_lane (n := 128) h.val d.val d.isLt
  exact congrArg Real.toEReal ((congrArg₂ (dkp a s) (Fin.ext e.1) (Fin.ext e.2)).trans (dkp_lt s h ⟨d.val, by omega⟩))
theorem lane_kr (s : Fin 8192) (h : Fin 16) (d : Fin 64) (hx : h.val * 128 + d.val < 2048) :
    coe2 (fun s (x : Fin 2048) => dkp a s ⟨x.val / 128, by omega⟩ ⟨128 + x.val % 128, by omega⟩) (ix2 s ⟨h.val * 128 + d.val, hx⟩) = ((a.dk a.top s h ⟨128 + d.val, by omega⟩ : ℝ) : EReal) := by
  rw [coe2_ix2]
  have e := div_lane (n := 128) h.val d.val (by omega)
  exact congrArg Real.toEReal ((congrArg₂ (dkp a s) (Fin.ext e.1) (Fin.ext (congrArg (128 + ·) e.2))).trans (dkp_lt s h ⟨128 + d.val, by omega⟩))
theorem lane_v (s : Fin 8192) (h : Fin 16) (d : Fin 128) (hx : h.val * 128 + d.val < 2048) :
    coe2 (fun s (x : Fin 2048) => dvp a s ⟨x.val / 128, by omega⟩ ⟨x.val % 128, by omega⟩) (ix2 s ⟨h.val * 128 + d.val, hx⟩) = ((a.dv a.top s h d : ℝ) : EReal) := by
  rw [coe2_ix2]
  have e := div_lane (n := 128) h.val d.val d.isLt
  exact congrArg Real.toEReal ((congrArg₂ (dvp a s) (Fin.ext e.1) (Fin.ext e.2)).trans (dvp_eq s h d))

/-- The cut and scaled queries' gradients. -/
theorem scaled_coe (hc : a.c = scale) (X : FVec Ideal S8192x4096 .f32)
    (hX : ∀ (t : Fin 8192) (h : Fin 16) (d : Fin 192) (hx : h.val * 256 + d.val < 4096), X (ix2 t ⟨h.val * 256 + d.val, hx⟩) = ((dqp a t h ⟨d.val, by omega⟩ : ℝ) : EReal)) :
    (mulf (F := Ideal) (φ := .f32) (extractStridedSlice S8192x16x192 ![0, 0, 0] (shapeCast S8192x16x256 X shapeCasts_S8192x4096_S8192x16x256) slices_S8192x16x256_S8192x16x192_0_0_0)
      (broadcastInDim S8192x16x192 ![] bcast_S_S8192x16x192 (constant S_ .f32 0x3D93CD3A#32)) : FVec Ideal S8192x16x192 .f32) = coe3 (a.dq a.top) := by
  have e : ∀ (t : Fin 8192) (h : Fin 16) (d : Fin 192) (hx : h.val * 256 + d.val < 4096),
      X (ix2 t ⟨h.val * 256 + d.val, hx⟩) * Ideal.ofBits .f32 0x3D93CD3A#32 = ((a.dq a.top t h d : ℝ) : EReal) := by
    intro t h d hx
    rw [hX, ofBits_scale, ← EReal.coe_mul, ← hc, dqp_lt]
  funext i
  pointwise []
  exact e (i 0) (i 1) (i 2) _

include A

/-- The queries' gradients. -/
theorem At.res_q : Pipeline.afterTail₀ cfgs (dats m) 0 (V0 m) [hostOps1] c main_v53 = coe3 (a.dq a.top) := by
  rw [W_v53, A.arr6]
  exact scaled_coe A.c _ lane_q
theorem At.res_kn : Pipeline.afterTail₀ cfgs (dats m) 0 (V0 m) [hostOps1] c main_v54 = coe3 fun s h (d : Fin 128) => a.dk a.top s h ⟨d.val, by omega⟩ := by
  rw [W_v54, A.arr7]
  funext i
  pointwise []
  exact lane_kn (i 0) (i 1) (i 2) _
theorem At.res_kr : Pipeline.afterTail₀ cfgs (dats m) 0 (V0 m) [hostOps1] c main_v56 = coe3 fun s h (d : Fin 64) => a.dk a.top s h ⟨128 + d.val, by omega⟩ := by
  rw [W_v56, A.arr9]
  funext i
  pointwise []
  exact lane_kr (i 0) (i 1) (i 2) _
theorem At.res_v : Pipeline.afterTail₀ cfgs (dats m) 0 (V0 m) [hostOps1] c main_v57 = coe3 (a.dv a.top) := by
  rw [W_v57, A.arr8]
  funext i
  pointwise []
  exact lane_v (i 0) (i 1) (i 2) _

end Cert.Proof.KernelIdeal

end
-- ==== Proof.Feed.Gate.lean ====
/-
  The feed-forward block's first call: the two halves of the gate and the gated activation, what its stores leave in a
  block, its two results index by index, and the reference's.
-/
module

public import Idealize.ShloMosaic.Lib.Tactic
public import Idealize.ShloMosaic.Lib.Pointwise
public import Idealize.ShloMosaic.Lib.Claim
public import Idealize.ShloMosaic.Lib.Pipeline.ValueKit
public import proofs.«01_k».proof.Proof.Gen.GateIdeal.Value
public import proofs.«01_k».proof.Proof.Gen.GateReferenceIdeal.Run
public import proofs.«01_k».proof.Defs

@[expose] public section

noncomputable section

namespace Cert.GateIdeal.Value

open Cert.GateIdeal Cert.GateIdeal.Gen Idealize.ShloMosaic Idealize.ShloMosaic.TcCoe Idealize.SL.Sem
open Idealize.ShloMosaic.Pipeline (Dat)

/-- The gated activation of a gate `g` and a value `u`. -/
def gated (g u : EReal) : EReal := g * Ideal.logistic g * u

/-- The payloads at an index: the gate, the values, the activation. -/
theorem gate_apply (x : Vec Ideal S512x1024 .bf16) (w : Vec Ideal S1x1024x1408 .bf16) (y : S1x512x1408.Idx) :
    k0_pay4 x w y = ∑ k : Fin 1024, x (ix2 (y 1) k) * w (ix3 0 k (y 2)) := by
  pointwise [k0_pay4, k0_pay2, k0_pay1]

theorem up_apply (x : Vec Ideal S512x1024 .bf16) (w : Vec Ideal S1x1024x1408 .bf16) (y : S1x512x1408.Idx) :
    k0_pay5 x w y = ∑ k : Fin 1024, x (ix2 (y 1) k) * w (ix3 0 k (y 2)) := by
  pointwise [k0_pay5, k0_pay3, k0_pay1]

theorem act_apply (x : Vec Ideal S512x1024 .bf16) (w v : Vec Ideal S1x1024x1408 .bf16) (y : S512x1408.Idx) :
    k0_pay6 x w v y = gated (∑ k : Fin 1024, x (ix2 (y 0) k) * w (ix3 0 k (y 1))) (∑ k : Fin 1024, x (ix2 (y 0) k) * v (ix3 0 k (y 1))) := by
  unfold gated
  pointwise [k0_pay6, k0_pay3, k0_pay2, k0_pay1]

theorem hz : (![0, 0] : Fin 2 → ℕ) = 0 := by funext a; match a with | 0 => rfl | 1 => rfl
theorem hz3 : (![0, 0, 0] : Fin 3 → ℕ) = 0 := by funext a; match a with | 0 => rfl | 1 => rfl | 2 => rfl

/-- The block of the first result: the gate in plane 0, the values in plane 1. -/
def blockVal (x : Vec Ideal S512x1024 .bf16) (w v : Vec Ideal S1x1024x1408 .bf16) (y : S2x512x1408.Idx) : EReal :=
  if (y 0).val = 0 then ∑ k : Fin 1024, x (ix2 (y 1) k) * w (ix3 0 k (y 2)) else ∑ k : Fin 1024, x (ix2 (y 1) k) * v (ix3 0 k (y 2))

theorem block_eq (x : Vec Ideal S512x1024 .bf16) (w v : Vec Ideal S1x1024x1408 .bf16) (y : S2x512x1408.Idx) :
    out0_3 x w v y = blockVal x w v y := by
  have ex : View.ld x r0_0 = x := View.ld_unit_zero (S := S512x1024) hz _ _
  have ew : View.ld w r0_1 = w := View.ld_unit_zero (S := S1x1024x1408) hz3 _ _
  have ev : View.ld v r0_1 = v := View.ld_unit_zero (S := S1x1024x1408) hz3 _ _
  unfold out0_3
  rw [ex, ew, ev]
  refine View.canon_apply_of_pieces (Val := Elt Ideal) (e := .bf16) (blockVal x w v) _ ?_ y (cover0_3 _ _ y)
  intro pc hpc z
  rcases List.mem_cons.mp hpc with rfl | hpc
  · have hz0 : (z 0).val < 1 := (z 0).isLt
    refine (up_apply x v z).trans ?_
    unfold blockVal
    refine Eq.trans ?_ (if_neg (show ¬ (1 + 1 * (z 0).val = 0) by omega)).symm
    refine Finset.sum_congr rfl fun k _ => congrArg₂ (fun a b : EReal => a * b) (congrArg x (funext fun a => Fin.ext ?_)) (congrArg v (funext fun a => Fin.ext ?_))
    · match a with
      | ⟨0, _⟩ => show (z 1).val = 0 + 1 * (z 1).val; omega
      | ⟨1, _⟩ => rfl
    · match a with
      | ⟨0, _⟩ => rfl
      | ⟨1, _⟩ => rfl
      | ⟨2, _⟩ => show (z 2).val = 0 + 1 * (z 2).val; omega
  rcases List.mem_cons.mp hpc with rfl | hpc
  · have hz0 : (z 0).val < 1 := (z 0).isLt
    refine (gate_apply x w z).trans ?_
    unfold blockVal
    refine Eq.trans ?_ (if_pos (show 0 + 1 * (z 0).val = 0 by omega)).symm
    refine Finset.sum_congr rfl fun k _ => congrArg₂ (fun a b : EReal => a * b) (congrArg x (funext fun a => Fin.ext ?_)) (congrArg w (funext fun a => Fin.ext ?_))
    · match a with
      | ⟨0, _⟩ => show (z 1).val = 0 + 1 * (z 1).val; omega
      | ⟨1, _⟩ => rfl
    · match a with
      | ⟨0, _⟩ => rfl
      | ⟨1, _⟩ => rfl
      | ⟨2, _⟩ => show (z 2).val = 0 + 1 * (z 2).val; omega
  nomatch hpc

/-- The block of the second. -/
theorem block_act (x : Vec Ideal S512x1024 .bf16) (w v : Vec Ideal S1x1024x1408 .bf16) : out0_4 x w v = k0_pay6 x w v := by
  have ex : View.ld x r0_0 = x := View.ld_unit_zero (S := S512x1024) hz _ _
  have ew : View.ld w r0_1 = w := View.ld_unit_zero (S := S1x1024x1408) hz3 _ _
  have ev : View.ld v r0_1 = v := View.ld_unit_zero (S := S1x1024x1408) hz3 _ _
  unfold out0_4
  rw [ex, ew, ev]
  exact View.canon_cons_unit_zero (S := S512x1408) hz _ _ _

variable (m : (ℓ : Loc nD τ sig) → Buf (Elt Ideal) ℓ)

/-- A point's blocks of the arrays: where the grid stands on the rows and on the lanes, the values' weights past the
    gate's. -/
theorem idx_facts : ∀ t : Fin cfg0.N, win0_0.index t = ![t.val / 2, 0] ∧ win0_1.index t = ![0, 0, t.val % 2]
    ∧ win0_2.index t = ![0, 0, 2 + t.val % 2] ∧ win0_3.index t = ![0, t.val / 2, t.val % 2] ∧ win0_4.index t = ![t.val / 2, t.val % 2] :=
  (by decide +kernel : ∀ t : Fin grid0.N, _)

/-- The arguments as functions, -/
def X (c : Dev nD) (i : Fin 8192) (k : Fin 1024) : EReal := (m ((c : Thread nD τ).loc main_arg0) : Vec Ideal S8192x1024 .f32) (ix2 i k)
def W (c : Dev nD) (k : Fin 1024) (j : Fin 5632) : EReal := (m ((c : Thread nD τ).loc main_arg1) : Vec Ideal S1024x5632 .f32) (ix2 k j)
/-- their product, -/
def prod (c : Dev nD) (i : Fin 8192) (j : Fin 5632) : EReal := ∑ k : Fin 1024, X m c i k * W m c k j
/-- its two halves, -/
def gate (c : Dev nD) (i : Fin 8192) (j : Fin 2816) : EReal := prod m c i ⟨j.val, by omega⟩
def vals (c : Dev nD) (i : Fin 8192) (j : Fin 2816) : EReal := prod m c i ⟨2816 + j.val, by omega⟩
/-- the two results. -/
def GU (c : Dev nD) (y : S2x8192x2816.Idx) : EReal := if (y 0).val = 0 then gate m c (y 1) (y 2) else vals m c (y 1) (y 2)
def Act (c : Dev nD) (y : S8192x2816.Idx) : EReal := gated (gate m c (y 0) (y 1)) (vals m c (y 0) (y 1))

/-- A point's blocks of the arguments, -/
def xblk (c : Dev nD) (t : Fin cfg0.N) (p : Fin 512) (k : Fin 1024) : EReal := (iblk m c 0 t : Vec Ideal S512x1024 .bf16) (ix2 p k)
def wblk (c : Dev nD) (t : Fin cfg0.N) (k : Fin 1024) (q : Fin 1408) : EReal := (iblk m c 1 t : Vec Ideal S1x1024x1408 .bf16) (ix3 0 k q)
def vblk (c : Dev nD) (t : Fin cfg0.N) (k : Fin 1024) (q : Fin 1408) : EReal := (iblk m c 2 t : Vec Ideal S1x1024x1408 .bf16) (ix3 0 k q)

/-- read where they lie in the arrays. -/
theorem x_eq (c : Dev nD) (t : Fin cfg0.N) (p : Fin 512) (k : Fin 1024) (h0) :
    xblk m c t p k = X m c ⟨t.val / 2 * 512 + p.val, h0⟩ k := by
  unfold xblk X
  have h := (idx_facts t).1
  unfold iblk
  rw [View.read_apply]
  show V m c main_v0 _ = _
  entry_read
  refine congrArg (m ((c : Thread nD τ).loc main_arg0)) (funext fun a => Fin.ext ?_)
  match a with
  | ⟨0, _⟩ => show win0_0.index t 0 * 512 + 1 * p.val = _; rw [congrFun h 0]; show t.val / 2 * 512 + 1 * p.val = t.val / 2 * 512 + p.val; omega
  | ⟨1, _⟩ => show win0_0.index t 1 * 1024 + 1 * k.val = _; rw [congrFun h 1]; show 0 * 1024 + 1 * k.val = k.val; omega

theorem w_eq (c : Dev nD) (t : Fin cfg0.N) (k : Fin 1024) (q : Fin 1408) (h0) :
    wblk m c t k q = W m c k ⟨t.val % 2 * 1408 + q.val, h0⟩ := by
  unfold wblk W
  have h := (idx_facts t).2.1
  unfold iblk
  rw [View.read_apply]
  show V m c main_v2 _ = _
  entry_read
  refine congrArg (m ((c : Thread nD τ).loc main_arg1)) (funext fun b => Fin.ext ?_)
  match b with
  | ⟨0, _⟩ => show win0_1.index t 1 * 1024 + 1 * k.val = _; rw [congrFun h 1]; show 0 * 1024 + 1 * k.val = k.val; omega
  | ⟨1, _⟩ => show win0_1.index t 2 * 1408 + 1 * q.val = _; rw [congrFun h 2]; show t.val % 2 * 1408 + 1 * q.val = t.val % 2 * 1408 + q.val; omega

theorem v_eq (c : Dev nD) (t : Fin cfg0.N) (k : Fin 1024) (q : Fin 1408) (h0) :
    vblk m c t k q = W m c k ⟨2816 + (t.val % 2 * 1408 + q.val), h0⟩ := by
  unfold vblk W
  have h := (idx_facts t).2.2.1
  unfold iblk
  rw [View.read_apply]
  show V m c main_v2 _ = _
  entry_read
  refine congrArg (m ((c : Thread nD τ).loc main_arg1)) (funext fun b => Fin.ext ?_)
  match b with
  | ⟨0, _⟩ => show win0_2.index t 1 * 1024 + 1 * k.val = _; rw [congrFun h 1]; show 0 * 1024 + 1 * k.val = k.val; omega
  | ⟨1, _⟩ => show win0_2.index t 2 * 1408 + 1 * q.val = _; rw [congrFun h 2]; show (2 + t.val % 2) * 1408 + 1 * q.val = 2816 + (t.val % 2 * 1408 + q.val); omega

/-- A point's products are the halves' blocks. -/
theorem gate_blk (c : Dev nD) (t : Fin cfg0.N) (p : Fin 512) (q : Fin 1408) (h0 h1) :
    (∑ k : Fin 1024, xblk m c t p k * wblk m c t k q : EReal) = gate m c ⟨t.val / 2 * 512 + p.val, h0⟩ ⟨t.val % 2 * 1408 + q.val, h1⟩ :=
  Finset.sum_congr rfl fun k _ => congrArg₂ (fun a b : EReal => a * b) (x_eq m c t p k h0) (w_eq m c t k q (by omega))

theorem vals_blk (c : Dev nD) (t : Fin cfg0.N) (p : Fin 512) (q : Fin 1408) (h0 h1) :
    (∑ k : Fin 1024, xblk m c t p k * vblk m c t k q : EReal) = vals m c ⟨t.val / 2 * 512 + p.val, h0⟩ ⟨t.val % 2 * 1408 + q.val, h1⟩ :=
  Finset.sum_congr rfl fun k _ => congrArg₂ (fun a b : EReal => a * b) (x_eq m c t p k h0) (v_eq m c t k q (by omega))

/-- What a point leaves is the results' blocks. -/
theorem point (c : Dev nD) (t : Fin cfg0.N) (y : S2x512x1408.Idx) (h0 h1) :
    blockVal (iblk m c 0 t) (iblk m c 1 t) (iblk m c 2 t) y = GU m c (ix3 (y 0) ⟨t.val / 2 * 512 + (y 1).val, h0⟩ ⟨t.val % 2 * 1408 + (y 2).val, h1⟩) := by
  have eg := gate_blk m c t (y 1) (y 2) h0 h1
  have eu := vals_blk m c t (y 1) (y 2) h0 h1
  unfold blockVal GU
  by_cases hy : (y 0).val = 0
  · exact (if_pos hy).trans (eg.trans (if_pos (show (y 0).val = 0 from hy)).symm)
  · exact (if_neg hy).trans (eu.trans (if_neg (show ¬ (y 0).val = 0 from hy)).symm)

theorem point_act (c : Dev nD) (t : Fin cfg0.N) (y : S512x1408.Idx) (h0 h1) :
    k0_pay6 (iblk m c 0 t : Vec Ideal S512x1024 .bf16) (iblk m c 1 t) (iblk m c 2 t) y = Act m c (ix2 ⟨t.val / 2 * 512 + (y 0).val, h0⟩ ⟨t.val % 2 * 1408 + (y 1).val, h1⟩) :=
  (act_apply (iblk m c 0 t) (iblk m c 1 t) (iblk m c 2 t) y).trans
    (congrArg₂ gated (gate_blk m c t (y 0) (y 1) h0 h1) (vals_blk m c t (y 0) (y 1) h0 h1))

/-- The arrays the call leaves are the results. -/
theorem result_gu (c : Dev nD) : (dats m 0 c).arrAt 3 cfg0.N = GU m c := by
  refine (dats m 0 c).arrAt_eq_of_covers 3 _ (by decide +kernel) fun t hf y => ?_
  have h := (idx_facts t).2.2.2.1
  have ht : t.val < 32 := lt_of_lt_of_eq t.isLt N_0
  have hy1 : (y 1).val < 512 := (y 1).isLt
  have hy2 : (y 2).val < 1408 := (y 2).isLt
  have e0 : (((cfg0.win 3).blk t).view.emb y 0).val = (y 0).val := by blk_simp [h]
  have e1 : (((cfg0.win 3).blk t).view.emb y 1).val = t.val / 2 * 512 + (y 1).val := by blk_simp [h]
  have e2 : (((cfg0.win 3).blk t).view.emb y 2).val = t.val % 2 * 1408 + (y 2).val := by blk_simp [h]
  blk_simp [h]
  rw [after0_3]
  refine (block_eq ..).trans ((point m c t y (by omega) (by omega)).trans (congrArg (GU m c) (funext fun a => Fin.ext ?_)))
  match a with
  | ⟨0, _⟩ => exact e0.symm
  | ⟨1, _⟩ => exact e1.symm
  | ⟨2, _⟩ => exact e2.symm

theorem result_act (c : Dev nD) : (dats m 0 c).arrAt 4 cfg0.N = Act m c := by
  refine (dats m 0 c).arrAt_eq_of_covers 4 _ (by decide +kernel) fun t hf y => ?_
  have h := (idx_facts t).2.2.2.2
  have ht : t.val < 32 := lt_of_lt_of_eq t.isLt N_0
  have hy0 : (y 0).val < 512 := (y 0).isLt
  have hy1 : (y 1).val < 1408 := (y 1).isLt
  have e0 : (((cfg0.win 4).blk t).view.emb y 0).val = t.val / 2 * 512 + (y 0).val := by blk_simp [h]
  have e1 : (((cfg0.win 4).blk t).view.emb y 1).val = t.val % 2 * 1408 + (y 1).val := by blk_simp [h]
  blk_simp [h]
  rw [after0_4, block_act]
  refine (point_act m c t y (by omega) (by omega)).trans (congrArg (Act m c) (funext fun a => Fin.ext ?_))
  match a with
  | ⟨0, _⟩ => exact e0.symm
  | ⟨1, _⟩ => exact e1.symm

end Cert.GateIdeal.Value

namespace Cert.Proof.Feed

open Cert Idealize.ShloMosaic Idealize.ShloMosaic.TcCoe Idealize.SL.Sem

/-- The feed-forward block's gate and values, and its gated activation. -/
theorem gate : algebraic_GateIdeal_GateReferenceIdeal := fun m ρ m' ρ' _ hmm => by
  refine ⟨_, _, (θ_run GateIdeal.defs _ _).mono (fun r h c => ⟨((h c).1).trans (GateIdeal.Value.result_gu m c), ((h c).2.1).trans (GateIdeal.Value.result_act m c), (h c).2.2⟩) (GateIdeal.Value.run_blocks m ρ),
    (θ_run GateReferenceIdeal.defs _ _).mono (fun r h c => ⟨(h c).1.trans ?_, (h c).2.1.trans ?_, (h c).2.2⟩) (GateReferenceIdeal.Value.run (F := Ideal) m' ρ')⟩
  · rw [(hmm c).1, (hmm c).2]
    funext i
    unfold GateIdeal.Value.GU GateIdeal.Value.gate GateIdeal.Value.vals GateIdeal.Value.prod GateIdeal.Value.X GateIdeal.Value.W
    pointwise []
    by_cases hi : (i 0).val = 0
    · exact (dif_pos (show (i 0).val < 1 by omega)).trans (if_pos hi).symm
    · exact (dif_neg (show ¬ (i 0).val < 1 by omega)).trans (if_neg hi).symm
  · rw [(hmm c).1, (hmm c).2]
    funext i
    unfold GateIdeal.Value.Act GateIdeal.Value.gated GateIdeal.Value.gate GateIdeal.Value.vals GateIdeal.Value.prod GateIdeal.Value.X GateIdeal.Value.W
    pointwise []
    rfl

end Cert.Proof.Feed

end
-- ==== Proof.Feed.GateB.lean ====
/-
  The call that takes the gradient of the feed-forward block's activation back to the two halves of its gate: what its
  two stores leave in a block, its result index by index, and the reference's.
-/
module

public import Idealize.ShloMosaic.Lib.Tactic
public import Idealize.ShloMosaic.Lib.Pointwise
public import Idealize.ShloMosaic.Lib.Claim
public import Idealize.ShloMosaic.Lib.Pipeline.ValueKit
public import proofs.«01_k».proof.Proof.Gen.GateBIdeal.Value
public import proofs.«01_k».proof.Proof.Gen.GateBReferenceIdeal.Run
public import proofs.«01_k».proof.Defs

@[expose] public section

noncomputable section

namespace Cert.GateBIdeal.Value

open Cert.GateBIdeal Cert.GateBIdeal.Gen Idealize.ShloMosaic Idealize.ShloMosaic.TcCoe Idealize.SL.Sem
open Idealize.ShloMosaic.Pipeline (Dat)

/-- The logistic function. -/
def sgm (g : EReal) : EReal := Ideal.logistic g
/-- The gradients of the gate and of the values from the activation's gradient `d`, the gate `g` and the values `u`. -/
def dgate (d g u : EReal) : EReal := d * u * sgm g + g * (d * u) * (sgm g * (1 - sgm g))
def dvals (d g : EReal) : EReal := g * sgm g * d

/-- The first store's payload at an index, -/
theorem gate_apply (x : Vec Ideal S512x1024 .bf16) (w : Vec Ideal S1x1408x1024 .bf16) (g u : Vec Ideal S1x512x1408 .bf16) (y : S1x512x1408.Idx) :
    k0_pay4 x w g u y = dgate (∑ k : Fin 1024, x (ix2 (y 1) k) * w (ix3 0 (y 2) k)) (g y) (u y) := by
  unfold dgate sgm
  pointwise [k0_pay4, k0_pay3, k0_pay2, k0_pay1]

/-- and the second's. -/
theorem up_apply (x : Vec Ideal S512x1024 .bf16) (w : Vec Ideal S1x1408x1024 .bf16) (g : Vec Ideal S1x512x1408 .bf16) (y : S1x512x1408.Idx) :
    k0_pay5 x w g y = dvals (∑ k : Fin 1024, x (ix2 (y 1) k) * w (ix3 0 (y 2) k)) (g y) := by
  unfold dvals sgm
  pointwise [k0_pay5, k0_pay3, k0_pay2, k0_pay1]

theorem hz : (![0, 0] : Fin 2 → ℕ) = 0 := by funext a; match a with | 0 => rfl | 1 => rfl
theorem hz3 : (![0, 0, 0] : Fin 3 → ℕ) = 0 := by funext a; match a with | 0 => rfl | 1 => rfl | 2 => rfl

/-- The block the body leaves: the gate's gradients in plane 0, the values' in plane 1. -/
def blockVal (x : Vec Ideal S512x1024 .bf16) (w : Vec Ideal S1x1408x1024 .bf16) (gu : Vec Ideal S2x512x1408 .bf16) (y : S2x512x1408.Idx) : EReal :=
  if (y 0).val = 0 then
    dgate (∑ k : Fin 1024, x (ix2 (y 1) k) * w (ix3 0 (y 2) k)) (gu (ix3 0 (y 1) (y 2))) (gu (ix3 1 (y 1) (y 2)))
  else dvals (∑ k : Fin 1024, x (ix2 (y 1) k) * w (ix3 0 (y 2) k)) (gu (ix3 0 (y 1) (y 2)))

theorem block_eq (x : Vec Ideal S512x1024 .bf16) (w : Vec Ideal S1x1408x1024 .bf16) (gu : Vec Ideal S2x512x1408 .bf16) (y : S2x512x1408.Idx) :
    out0_3 x w gu y = blockVal x w gu y := by
  have ex : View.ld x r0_0 = x := View.ld_unit_zero (S := S512x1024) hz _ _
  have ew : View.ld w r0_1 = w := View.ld_unit_zero (S := S1x1408x1024) hz3 _ _
  unfold out0_3
  rw [ex, ew]
  refine View.canon_apply_of_pieces (Val := Elt Ideal) (e := .bf16) (blockVal x w gu) _ ?_ y (cover0_3 _ _ y)
  intro pc hpc z
  rcases List.mem_cons.mp hpc with rfl | hpc
  · have hz0 : (z 0).val < 1 := (z 0).isLt
    refine (up_apply x w _ z).trans ?_
    unfold blockVal
    refine Eq.trans ?_ (if_neg (show ¬ (1 + 1 * (z 0).val = 0) by omega)).symm
    refine congrArg₂ dvals (Finset.sum_congr rfl fun k _ => congrArg₂ (fun a b : EReal => a * b)
      (congrArg x (funext fun a => Fin.ext ?_)) (congrArg w (funext fun a => Fin.ext ?_))) (congrArg gu (funext fun a => Fin.ext ?_))
    · match a with
      | ⟨0, _⟩ => show (z 1).val = 0 + 1 * (z 1).val; omega
      | ⟨1, _⟩ => rfl
    · match a with
      | ⟨0, _⟩ => rfl
      | ⟨1, _⟩ => show (z 2).val = 0 + 1 * (z 2).val; omega
      | ⟨2, _⟩ => rfl
    · match a with
      | ⟨0, _⟩ => show 0 + 1 * (z 0).val = 0; omega
      | ⟨1, _⟩ => rfl
      | ⟨2, _⟩ => rfl
  rcases List.mem_cons.mp hpc with rfl | hpc
  · have hz0 : (z 0).val < 1 := (z 0).isLt
    refine (gate_apply x w _ _ z).trans ?_
    unfold blockVal
    refine Eq.trans ?_ (if_pos (show 0 + 1 * (z 0).val = 0 by omega)).symm
    refine congr (congrArg₂ dgate (Finset.sum_congr rfl fun k _ => congrArg₂ (fun a b : EReal => a * b)
      (congrArg x (funext fun a => Fin.ext ?_)) (congrArg w (funext fun a => Fin.ext ?_))) (congrArg gu (funext fun a => Fin.ext ?_))) (congrArg gu (funext fun a => Fin.ext ?_))
    · match a with
      | ⟨0, _⟩ => show (z 1).val = 0 + 1 * (z 1).val; omega
      | ⟨1, _⟩ => rfl
    · match a with
      | ⟨0, _⟩ => rfl
      | ⟨1, _⟩ => show (z 2).val = 0 + 1 * (z 2).val; omega
      | ⟨2, _⟩ => rfl
    · match a with
      | ⟨0, _⟩ => show 0 + 1 * (z 0).val = 0; omega
      | ⟨1, _⟩ => rfl
      | ⟨2, _⟩ => rfl
    · match a with
      | ⟨0, _⟩ => show 1 + 1 * (z 0).val = 1; omega
      | ⟨1, _⟩ => rfl
      | ⟨2, _⟩ => rfl
  nomatch hpc

variable (m : (ℓ : Loc nD τ sig) → Buf (Elt Ideal) ℓ)

/-- A point's blocks of the arrays: where the grid stands on the rows and on the lanes. -/
theorem idx_facts : ∀ t : Fin cfg0.N, win0_0.index t = ![t.val / 2, 0] ∧ win0_1.index t = ![0, t.val % 2, 0]
    ∧ win0_2.index t = ![0, t.val / 2, t.val % 2] ∧ win0_3.index t = ![0, t.val / 2, t.val % 2] :=
  (by decide +kernel : ∀ t : Fin grid0.N, _)

/-- The first two arguments as functions. -/
def X (c : Dev nD) (i : Fin 8192) (k : Fin 1024) : EReal := (m ((c : Thread nD τ).loc main_arg0) : Vec Ideal S8192x1024 .f32) (ix2 i k)
def W (c : Dev nD) (j : Fin 2816) (k : Fin 1024) : EReal := (m ((c : Thread nD τ).loc main_arg1) : Vec Ideal S2816x1024 .f32) (ix2 j k)

/-- The activation's gradient: a row of the first argument with a row of the weights, -/
def dact (c : Dev nD) (i : Fin 8192) (j : Fin 2816) : EReal := ∑ k : Fin 1024, X m c i k * W m c j k
/-- and the two planes of the third. -/
def plane (c : Dev nD) (p : Fin 2) (i : Fin 8192) (j : Fin 2816) : EReal :=
  (m ((c : Thread nD τ).loc main_arg2) : Vec Ideal S2x8192x2816 .f32) (ix3 p i j)

/-- The result. -/
def G (c : Dev nD) (y : S2x8192x2816.Idx) : EReal :=
  if (y 0).val = 0 then dgate (dact m c (y 1) (y 2)) (plane m c 0 (y 1) (y 2)) (plane m c 1 (y 1) (y 2))
  else dvals (dact m c (y 1) (y 2)) (plane m c 0 (y 1) (y 2))

/-- A point's blocks of the first two arguments, -/
def xblk (c : Dev nD) (t : Fin cfg0.N) (p : Fin 512) (k : Fin 1024) : EReal := (iblk m c 0 t : Vec Ideal S512x1024 .bf16) (ix2 p k)
def wblk (c : Dev nD) (t : Fin cfg0.N) (q : Fin 1408) (k : Fin 1024) : EReal := (iblk m c 1 t : Vec Ideal S1x1408x1024 .bf16) (ix3 0 q k)
/-- and of the planes. -/
def gublk (c : Dev nD) (t : Fin cfg0.N) (a : Fin 2) (p : Fin 512) (q : Fin 1408) : EReal := (iblk m c 2 t : Vec Ideal S2x512x1408 .bf16) (ix3 a p q)
/-- The blocks read where they lie in the arrays. -/
theorem x_eq (c : Dev nD) (t : Fin cfg0.N) (p : Fin 512) (k : Fin 1024) (h0) :
    xblk m c t p k = X m c ⟨t.val / 2 * 512 + p.val, h0⟩ k := by
  unfold xblk X
  have h := (idx_facts t).1
  unfold iblk
  rw [View.read_apply]
  show V m c main_v0 _ = _
  entry_read
  refine congrArg (m ((c : Thread nD τ).loc main_arg0)) (funext fun a => Fin.ext ?_)
  match a with
  | ⟨0, _⟩ => show win0_0.index t 0 * 512 + 1 * p.val = _; rw [congrFun h 0]; show t.val / 2 * 512 + 1 * p.val = t.val / 2 * 512 + p.val; omega
  | ⟨1, _⟩ => show win0_0.index t 1 * 1024 + 1 * k.val = _; rw [congrFun h 1]; show 0 * 1024 + 1 * k.val = k.val; omega

theorem w_eq (c : Dev nD) (t : Fin cfg0.N) (q : Fin 1408) (k : Fin 1024) (h0) :
    wblk m c t q k = W m c ⟨t.val % 2 * 1408 + q.val, h0⟩ k := by
  unfold wblk W
  have h := (idx_facts t).2.1
  unfold iblk
  rw [View.read_apply]
  show V m c main_v3 _ = _
  entry_read
  refine congrArg (m ((c : Thread nD τ).loc main_arg1)) (funext fun b => Fin.ext ?_)
  match b with
  | ⟨0, _⟩ => show win0_1.index t 1 * 1408 + 1 * q.val = _; rw [congrFun h 1]; show t.val % 2 * 1408 + 1 * q.val = t.val % 2 * 1408 + q.val; omega
  | ⟨1, _⟩ => show win0_1.index t 2 * 1024 + 1 * k.val = _; rw [congrFun h 2]; show 0 * 1024 + 1 * k.val = k.val; omega

theorem gu_eq (c : Dev nD) (t : Fin cfg0.N) (a : Fin 2) (p : Fin 512) (q : Fin 1408) (h0 h1) :
    gublk m c t a p q = plane m c a ⟨t.val / 2 * 512 + p.val, h0⟩ ⟨t.val % 2 * 1408 + q.val, h1⟩ := by
  unfold gublk plane
  have h := (idx_facts t).2.2.1
  unfold iblk
  rw [View.read_apply]
  show V m c main_v2 _ = _
  entry_read
  refine congrArg (m ((c : Thread nD τ).loc main_arg2)) (funext fun b => Fin.ext ?_)
  match b with
  | ⟨0, _⟩ => show win0_2.index t 0 * 2 + 1 * a.val = _; rw [congrFun h 0]; show 0 * 2 + 1 * a.val = a.val; omega
  | ⟨1, _⟩ => show win0_2.index t 1 * 512 + 1 * p.val = _; rw [congrFun h 1]; show t.val / 2 * 512 + 1 * p.val = t.val / 2 * 512 + p.val; omega
  | ⟨2, _⟩ => show win0_2.index t 2 * 1408 + 1 * q.val = _; rw [congrFun h 2]; show t.val % 2 * 1408 + 1 * q.val = t.val % 2 * 1408 + q.val; omega

/-- What a point leaves is the result's block. -/
theorem point (c : Dev nD) (t : Fin cfg0.N) (y : S2x512x1408.Idx) (h0 h1) :
    blockVal (iblk m c 0 t) (iblk m c 1 t) (iblk m c 2 t) y = G m c (ix3 (y 0) ⟨t.val / 2 * 512 + (y 1).val, h0⟩ ⟨t.val % 2 * 1408 + (y 2).val, h1⟩) := by
  have ed : (∑ k : Fin 1024, xblk m c t (y 1) k * wblk m c t (y 2) k : EReal)
      = dact m c ⟨t.val / 2 * 512 + (y 1).val, h0⟩ ⟨t.val % 2 * 1408 + (y 2).val, h1⟩ :=
    Finset.sum_congr rfl fun k _ => congrArg₂ (fun a b : EReal => a * b) (x_eq m c t (y 1) k h0) (w_eq m c t (y 2) k h1)
  have eg := gu_eq m c t 0 (y 1) (y 2) h0 h1
  have eu := gu_eq m c t 1 (y 1) (y 2) h0 h1
  unfold blockVal G
  by_cases hy : (y 0).val = 0
  · exact (if_pos hy).trans ((congr (congrArg₂ dgate ed eg) eu).trans (if_pos (show (y 0).val = 0 from hy)).symm)
  · exact (if_neg hy).trans ((congrArg₂ dvals ed eg).trans (if_neg (show ¬ (y 0).val = 0 from hy)).symm)

/-- The array the call leaves is the result. -/
theorem result (c : Dev nD) : (dats m 0 c).arrAt 3 cfg0.N = G m c := by
  refine (dats m 0 c).arrAt_eq_of_covers 3 _ (by decide +kernel) fun t hf y => ?_
  have h := (idx_facts t).2.2.2
  have ht : t.val < 32 := lt_of_lt_of_eq t.isLt N_0
  have hy1 : (y 1).val < 512 := (y 1).isLt
  have hy2 : (y 2).val < 1408 := (y 2).isLt
  have e0 : (((cfg0.win 3).blk t).view.emb y 0).val = (y 0).val := by blk_simp [h]
  have e1 : (((cfg0.win 3).blk t).view.emb y 1).val = t.val / 2 * 512 + (y 1).val := by blk_simp [h]
  have e2 : (((cfg0.win 3).blk t).view.emb y 2).val = t.val % 2 * 1408 + (y 2).val := by blk_simp [h]
  blk_simp [h]
  rw [after0_3]
  refine (block_eq ..).trans ((point m c t y (by omega) (by omega)).trans (congrArg (G m c) (funext fun a => Fin.ext ?_)))
  match a with
  | ⟨0, _⟩ => exact e0.symm
  | ⟨1, _⟩ => exact e1.symm
  | ⟨2, _⟩ => exact e2.symm

end Cert.GateBIdeal.Value

namespace Cert.Proof.Feed

open Cert Idealize.ShloMosaic Idealize.ShloMosaic.TcCoe Idealize.SL.Sem

/-- The gradient of the feed-forward block's gate and values. -/
theorem gate_b : algebraic_GateBIdeal_GateBReferenceIdeal := fun m ρ m' ρ' _ hmm => by
  refine ⟨_, (θ_run GateBIdeal.defs _ _).mono (fun r h c => ⟨((h c).1).trans (GateBIdeal.Value.result m c), (h c).2⟩) (GateBIdeal.Value.run_blocks m ρ),
    (θ_run GateBReferenceIdeal.defs _ _).mono (fun r h c => ⟨(h c).1.trans ?_, (h c).2⟩) (GateBReferenceIdeal.Value.run (F := Ideal) m' ρ')⟩
  rw [(hmm c).1, (hmm c).2.1, (hmm c).2.2]
  funext i
  unfold GateBIdeal.Value.G GateBIdeal.Value.dgate GateBIdeal.Value.dvals GateBIdeal.Value.dact GateBIdeal.Value.sgm GateBIdeal.Value.plane GateBIdeal.Value.X GateBIdeal.Value.W
  pointwise []
  by_cases hi : (i 0).val = 0
  · exact (dif_pos (show (i 0).val < 1 by omega)).trans (if_pos hi).symm
  · exact (dif_neg (show ¬ (i 0).val < 1 by omega)).trans (if_neg hi).symm

end Cert.Proof.Feed

end
-- ==== Proof.Feed.Sums.lean ====
/-
  Sums taken block by block: what an accumulator holds that is set at a run's first point and added to at the later
  ones, and a sum over an axis as the sum over its blocks.
-/
module

public import Idealize.ShloMosaic.PureOps.Ideal.Laws
public import Idealize.ShloMosaic.Lib.Pipeline.Value

@[expose] public section

noncomputable section

namespace Cert.Proof.Feed

open Idealize.ShloMosaic

/-- An accumulator set at the points that `n` divides and added to at the others: after a point it holds the sum of the
    terms of its run so far. -/
theorem accumulated {N n : ℕ} (S : (t : ℕ) → t < N → EReal) (f : ℕ → EReal) (h0 : ∀ t h, t % n = 0 → S t h = f t)
    (h1 : ∀ t h, (t + 1) % n ≠ 0 → S (t + 1) h = S t (Nat.lt_of_succ_lt h) + f (t + 1)) :
    ∀ t h, S t h = ∑ κ ∈ Finset.range (t % n + 1), f (n * (t / n) + κ) := by
  intro t
  induction t with
  | zero => intro h; rw [h0 0 h (Nat.zero_mod n)]; simp
  | succ t ih =>
    intro h
    have hd := Nat.div_add_mod (t + 1) n
    by_cases hz : (t + 1) % n = 0
    · rw [h0 _ h hz, hz, Finset.sum_range_one, Nat.add_zero]
      rw [hz, Nat.add_zero] at hd; rw [hd]
    · have hm : (t + 1) % n = t % n + 1 := by
        rcases Nat.eq_zero_or_pos n with rfl | hn
        · simp
        · have hl := Nat.mod_lt t hn
          rcases Nat.lt_or_ge 1 n with h1n | h1n
          · rw [Nat.add_mod_eq_ite, Nat.mod_eq_of_lt h1n] at hz ⊢
            split at hz
            · exfalso; omega
            · rw [if_neg (by omega)]
          · exact absurd (by rw [show n = 1 by omega, Nat.mod_one]) hz
      have hq : (t + 1) / n = t / n := by
        have hd' := Nat.div_add_mod t n
        rcases Nat.eq_zero_or_pos n with rfl | hn
        · simp
        · exact Nat.eq_of_mul_eq_mul_left hn (by omega)
      rw [h1 t h hz, ih, hm, Finset.sum_range_succ _ (t % n + 1), hq]
      congr 2
      rw [hm, hq] at hd; omega

/-- A sum over an axis of `n` blocks of `b` places is the sum over the blocks of the sums over their places. -/
theorem sum_blocks {M : Type*} [AddCommMonoid M] (n b K : ℕ) (hK : n * b = K) (f : Fin K → M) (g : ℕ → Fin b → M)
    (hg : ∀ (κ : Fin n) (j : Fin b) (h : κ.val * b + j.val < K), g κ.val j = f ⟨κ.val * b + j.val, h⟩) :
    ∑ κ ∈ Finset.range n, ∑ j, g κ j = ∑ x, f x := by
  subst hK
  rw [Finset.sum_range (fun κ => ∑ j, g κ j), ← Finset.sum_product' Finset.univ Finset.univ (fun κ : Fin n => g κ.val), Finset.univ_product_univ]
  refine Fintype.sum_equiv finProdFinEquiv _ _ fun p => ?_
  rw [hg p.1 p.2 (by have := (finProdFinEquiv p).isLt; simp only [finProdFinEquiv_apply_val] at this; linarith)]
  exact congrArg f (Fin.ext (by simp only [finProdFinEquiv_apply_val]; ring))

end Cert.Proof.Feed

end
-- ==== Proof.Feed.Down.lean ====
/-
  The product by the second weights, block by block, is the plain product.
-/
module

public import proofs.«01_k».proof.Defs
public import proofs.«01_k».proof.Proof.Feed.Sums
public import proofs.«01_k».proof.Proof.Gen.DownIdeal.Value
public import proofs.«01_k».proof.Proof.Gen.DownReferenceIdeal.Run
public import Idealize.ShloMosaic.Lib.Tactic
public import Idealize.ShloMosaic.Lib.Pointwise
public import Idealize.ShloMosaic.Lib.Claim
public import Idealize.ShloMosaic.Lib.Pipeline.ValueKit

@[expose] public section

noncomputable section

namespace Cert.DownIdeal.Value

open Cert.DownIdeal Cert.DownIdeal.Gen Idealize.ShloMosaic Idealize.ShloMosaic.TcCoe Idealize.SL.Sem
open Cert.Proof.Feed

variable (m : (ℓ : Loc nD τ sig) → Buf (Elt Ideal) ℓ) (ρ : Dev nD → PrngReg)

theorem hz : (![0, 0] : Fin 2 → Nat) = fun _ => 0 := funext fun a => by fin_cases a <;> rfl

/-- The first point of a run leaves the product of its blocks in the accumulator. -/
theorem sout_A (c : Dev nD) (i : grid0.Coords) (a1 h1 a2 h2 a3 h3 a4 h4 hc0 hc1) (x : Vec Ideal S1024x1408 .bf16) (w : Vec Ideal S1408x1024 .bf16) :
    sout0_A_0 c i a1 h1 a2 h2 a3 h3 a4 h4 hc0 hc1 x w = k0_pay2 k0_pay1 x w := by
  unfold sout0_A_0
  rw [View.read_writes_eq_canon _ _ _ (scover0_A_0 c i a1 h1 a2 h2 a3 h3 a4 h4 hc0 hc1 x w)]
  unfold kernelRun0_A
  dsimp only
  sl_unfold_words
  rw [View.canon_cons_unit_zero (S := S1024x1024) hz, View.readCov_unit_zero (S := S1024x1024) _ hz]
  simp only [View.readAt_eq_ld, h1.read_unread, h2.read_unread, View.ld_unit_zero (S := S1024x1408) hz, View.ld_unit_zero (S := S1408x1024) hz]

/-- A later point adds the product of its blocks to it, -/
theorem sout_B (c : Dev nD) (i : grid0.Coords) (a1 h1 a2 h2 a3 h3 a4 h4 hc0 hc1) (x : Vec Ideal S1024x1408 .bf16) (w : Vec Ideal S1408x1024 .bf16) (acc : Vec Ideal S1024x1024 .f32) :
    sout0_B_0 c i a1 h1 a2 h2 a3 h3 a4 h4 hc0 hc1 x w acc = k0_pay2 acc x w := by
  unfold sout0_B_0
  rw [View.read_writes_eq_canon _ _ _ (scover0_B_0 c i a1 h1 a2 h2 a3 h3 a4 h4 hc0 hc1 x w acc)]
  unfold kernelRun0_B
  dsimp only
  sl_unfold_words
  rw [View.canon_unit_zero hz]
  simp only [View.readAt_eq_ld, h1.read_unread, h2.read_unread, h4.read_unread, View.ld_unit_zero (S := S1024x1408) hz, View.ld_unit_zero (S := S1408x1024) hz, View.ld_unit_zero (S := S1024x1024) hz]

/-- and the last writes the result's block from it. -/
theorem out_B (c : Dev nD) (i : grid0.Coords) (a1 h1 a2 h2 a3 h3 a4 h4 hc0 hc1) (x : Vec Ideal S1024x1408 .bf16) (w : Vec Ideal S1408x1024 .bf16) (acc : Vec Ideal S1024x1024 .f32) :
    out0_B_2 c i a1 h1 a2 h2 a3 h3 a4 h4 hc0 hc1 x w acc = k0_pay2 acc x w := by
  unfold out0_B_2
  rw [View.read_writes_eq_canon _ _ _ (cover0_B_2 c i a1 h1 a2 h2 a3 h3 a4 h4 hc0 hc1 x w acc)]
  unfold kernelRun0_B
  dsimp only
  sl_unfold_words
  rw [View.canon_unit_zero hz]
  rw [View.readCov_unit_zero (S := S1024x1024) _ hz]
  simp only [View.readAt_eq_ld, h1.read_unread, h2.read_unread, h4.read_unread, View.ld_unit_zero (S := S1024x1408) hz, View.ld_unit_zero (S := S1408x1024) hz, View.ld_unit_zero (S := S1024x1024) hz]

/-- The product a point adds, at an index. -/
theorem pay_apply (acc : Vec Ideal S1024x1024 .f32) (x : Vec Ideal S1024x1408 .bf16) (w : Vec Ideal S1408x1024 .bf16) (y : S1024x1024.Idx) :
    k0_pay2 acc x w y = acc y + ∑ j : Fin 1408, x (ix2 (y 0) j) * w (ix2 j (y 1)) := by
  pointwise [k0_pay2]

theorem zero_apply (y : S1024x1024.Idx) : k0_pay1 (F := Ideal) y = 0 := by
  pointwise [k0_pay1]

/-- A point's blocks of the two arrays: where the grid stands on the rows and on the summed axis. -/
theorem idx_facts : ∀ t : Fin cfg0.N, win0_0.index t = ![t.val / 2, t.val % 2] ∧ win0_1.index t = ![t.val % 2, 0] :=
  (by decide +kernel : ∀ t : Fin grid0.N, _)

/-- The two arguments, -/
def lhs (c : Dev nD) (i : Fin 8192) (k : Fin 2816) : EReal := (m ((c : Thread nD τ).loc main_arg0) : Vec Ideal S8192x2816 .f32) (ix2 i k)
def rhs (c : Dev nD) (k : Fin 2816) (j : Fin 1024) : EReal := (m ((c : Thread nD τ).loc main_arg1) : Vec Ideal S2816x1024 .f32) (ix2 k j)
/-- and their blocks at a point. -/
def lblk (c : Dev nD) (t : Fin cfg0.N) (p : Fin 1024) (j : Fin 1408) : EReal := (iblk m c 0 t : Vec Ideal S1024x1408 .bf16) (ix2 p j)
def rblk (c : Dev nD) (t : Fin cfg0.N) (j : Fin 1408) (q : Fin 1024) : EReal := (iblk m c 1 t : Vec Ideal S1408x1024 .bf16) (ix2 j q)

theorem lblk_eq (c : Dev nD) (t : Fin cfg0.N) (p : Fin 1024) (j : Fin 1408) (h0 h1) :
    lblk m c t p j = lhs m c ⟨t.val / 2 * 1024 + p.val, h0⟩ ⟨t.val % 2 * 1408 + j.val, h1⟩ := by
  unfold lblk lhs
  have h := (idx_facts t).1
  unfold iblk
  rw [View.read_apply]
  show V m c main_v0 _ = _
  entry_read
  refine congrArg (m ((c : Thread nD τ).loc main_arg0)) (funext fun a => Fin.ext ?_)
  match a with
  | ⟨0, _⟩ => show win0_0.index t 0 * 1024 + 1 * p.val = _; rw [congrFun h 0]; show t.val / 2 * 1024 + 1 * p.val = t.val / 2 * 1024 + p.val; omega
  | ⟨1, _⟩ => show win0_0.index t 1 * 1408 + 1 * j.val = _; rw [congrFun h 1]; show t.val % 2 * 1408 + 1 * j.val = t.val % 2 * 1408 + j.val; omega

theorem rblk_eq (c : Dev nD) (t : Fin cfg0.N) (j : Fin 1408) (q : Fin 1024) (h0) :
    rblk m c t j q = rhs m c ⟨t.val % 2 * 1408 + j.val, h0⟩ q := by
  unfold rblk rhs
  have h := (idx_facts t).2
  unfold iblk
  rw [View.read_apply]
  show V m c main_v1 _ = _
  entry_read
  refine congrArg (m ((c : Thread nD τ).loc main_arg1)) (funext fun a => Fin.ext ?_)
  match a with
  | ⟨0, _⟩ => show win0_1.index t 0 * 1408 + 1 * j.val = _; rw [congrFun h 0]; show t.val % 2 * 1408 + 1 * j.val = t.val % 2 * 1408 + j.val; omega
  | ⟨1, _⟩ => show win0_1.index t 1 * 1024 + 1 * q.val = _; rw [congrFun h 1]; show 0 * 1024 + 1 * q.val = q.val; omega

/-- What point `t` adds to the accumulator at `y`. -/
def term (c : Dev nD) (y : S1024x1024.Idx) (t : ℕ) (j : Fin 1408) : EReal :=
  if h : t < cfg0.N then lblk m c ⟨t, h⟩ (y 0) j * rblk m c ⟨t, h⟩ j (y 1) else 0

theorem step_eq (c : Dev nD) (t : ℕ) (h : t < cfg0.N) (acc : Vec Ideal S1024x1024 .f32) (y : S1024x1024.Idx) :
    k0_pay2 acc (iblk m c 0 ⟨t, h⟩) (iblk m c 1 ⟨t, h⟩) y = acc y + ∑ j, term m c y t j := by
  refine (pay_apply ..).trans (congrArg (acc y + ·) (Finset.sum_congr rfl fun j _ => ?_))
  unfold term
  rw [dif_pos h]
  rfl

theorem first (c : Dev nD) (t : Fin cfg0.N) (h0 : t.val % 2 = 0) : (outsAt0 m c t.val t.isLt).2 = k0_pay2 k0_pay1 (iblk m c 0 t) (iblk m c 1 t) := by
  rw [outsAt0_A m c t h0 (by omega)]
  dsimp only
  rw [sout_A]

theorem later (c : Dev nD) (t : Fin cfg0.N) (h0 : ¬t.val % 2 = 0) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 (by omega)]
  dsimp only
  rw [sout_B]

theorem last (c : Dev nD) (t : Fin cfg0.N) (h1 : t.val % 2 = 1) : (outsAt0 m c t.val t.isLt).1 = (outsAt0 m c t.val t.isLt).2 := by
  rw [outsAt0_B m c t (by omega) h1]
  dsimp only
  rw [out_B, sout_B]

/-- The accumulator after a point: the sum of its run's terms so far. -/
theorem scratch (c : Dev nD) (y : S1024x1024.Idx) (t : ℕ) (h : t < cfg0.N) :
    (outsAt0 m c t h).2 y = ∑ κ ∈ Finset.range (t % 2 + 1), ∑ j, term m c y (2 * (t / 2) + κ) j :=
  accumulated (n := 2) (fun t h => (outsAt0 m c t h).2 y) (fun t => ∑ j, term m c y t j)
    (fun t h hz => (congrFun (first m c ⟨t, h⟩ hz) y).trans (by rw [step_eq, zero_apply, zero_add]))
    (fun t h hz => (congrFun (later m c ⟨t + 1, h⟩ hz) y).trans (step_eq m c (t + 1) h _ y))
    t h

/-- The result is the product. -/
theorem result (c : Dev nD) (i : S8192x1024.Idx) : G2 m c i = (∑ k, lhs m c (i 0) k * rhs m c k (i 1) : EReal) := by
  have hi0 : (i 0).val < 8192 := (i 0).isLt
  have hi1 : (i 1).val < 1024 := (i 1).isLt
  have hN : cfg0.N = 16 := N_0
  have hp : pt2Of i = 2 * ((i 0).val / 1024) + 1 := by show 2 * (1 * ((i 0).val / 1024 - 0) + 1 * ((i 1).val / 1024 - 0)) + 1 = _; omega
  have hlt : pt2Of i < cfg0.N := by omega
  have ho : pt2Of i % 2 = 1 := by omega
  unfold G2
  rw [dif_pos hlt, ← outsAt0_sweep m c _ hlt]
  rw [last m c ⟨pt2Of i, hlt⟩ ho, scratch, ho, show pt2Of i / 2 = (i 0).val / 1024 by omega]
  refine sum_blocks (M := EReal) 2 1408 2816 rfl _ _ fun κ j h => ?_
  have hk : κ.val < 2 := κ.isLt
  have ht : 2 * ((i 0).val / 1024) + κ.val < cfg0.N := by omega
  have e0 : (2 * ((i 0).val / 1024) + κ.val) / 2 * 1024 + (i 0).val % 1024 = (i 0).val := by omega
  have e1 : (2 * ((i 0).val / 1024) + κ.val) % 2 * 1408 + j.val = κ.val * 1408 + j.val := by omega
  have e2 : (i 1).val % 1024 = (i 1).val := by omega
  exact (dif_pos ht).trans (congrArg₂ (fun a b : EReal => a * b)
    ((lblk_eq m c ⟨_, ht⟩ (loc2Of i 0) j (lt_of_eq_of_lt e0 hi0) (lt_of_eq_of_lt e1 h)).trans (congrArg₂ (lhs m c) (Fin.ext e0) (Fin.ext e1)))
    ((rblk_eq m c ⟨_, ht⟩ j (loc2Of i 1) (lt_of_eq_of_lt e1 h)).trans (congrArg₂ (rhs m c) (Fin.ext e1) (Fin.ext e2))))

end Cert.DownIdeal.Value

namespace Cert.Proof.Feed

open Cert Idealize.ShloMosaic Idealize.ShloMosaic.TcCoe Idealize.SL.Sem

/-- The plain product at an index. -/
theorem down_reference_apply (x : Vec Ideal DownReferenceIdeal.S8192x2816 .f32) (w : Vec Ideal DownReferenceIdeal.S2816x1024 .f32) (i : DownReferenceIdeal.S8192x1024.Idx) :
    Host.dotGeneral (F := Ideal) (φ₁ := .f32) (φ₂ := .f32) DownReferenceIdeal.dot_S8192x2816_S2816x1024_S8192x1024_1_0_0_1_n_n none x w i = ∑ k : Fin 2816, x (ix2 (i 0) k) * w (ix2 k (i 1)) := by
  pointwise []

/-- The product by the second weights. -/
theorem down : algebraic_DownIdeal_DownReferenceIdeal := fun m ρ m' ρ' _ hmm => by
  refine ⟨_, DownIdeal.Value.run m ρ, (θ_run DownReferenceIdeal.defs _ _).mono (fun r h c => ⟨(h c).1.trans ?_, (h c).2⟩) (DownReferenceIdeal.Value.run (F := Ideal) m' ρ')⟩
  rw [(hmm c).1, (hmm c).2]
  funext i
  exact (down_reference_apply _ _ i).trans (DownIdeal.Value.result m c i).symm

end Cert.Proof.Feed

end
-- ==== Proof.Feed.DownW.lean ====
/-
  The gradient of the second weights: the product of the transposed activations and the gradient, block by block over the
  rows, is the plain product's.
-/
module

public import proofs.«01_k».proof.Defs
public import proofs.«01_k».proof.Proof.Feed.Sums
public import proofs.«01_k».proof.Proof.Gen.DownWIdeal.Value
public import proofs.«01_k».proof.Proof.Gen.DownWReferenceIdeal.Run
public import Idealize.ShloMosaic.Lib.Tactic
public import Idealize.ShloMosaic.Lib.Pointwise
public import Idealize.ShloMosaic.Lib.Claim
public import Idealize.ShloMosaic.Lib.Pipeline.ValueKit

@[expose] public section

noncomputable section

namespace Cert.DownWIdeal.Value

open Cert.DownWIdeal Cert.DownWIdeal.Gen Idealize.ShloMosaic Idealize.ShloMosaic.TcCoe Idealize.SL.Sem
open Cert.Proof.Feed

variable (m : (ℓ : Loc nD τ sig) → Buf (Elt Ideal) ℓ) (ρ : Dev nD → PrngReg)

theorem hz : (![0, 0] : Fin 2 → Nat) = fun _ => 0 := funext fun a => by fin_cases a <;> rfl

/-- The first point of a run leaves the product of its blocks in the accumulator. -/
theorem sout_A (c : Dev nD) (i : grid0.Coords) (a1 h1 a2 h2 a3 h3 a4 h4 hc0 hc1) (x : Vec Ideal S1024x1408 .bf16) (w : Vec Ideal S1024x1024 .bf16) :
    sout0_A_0 c i a1 h1 a2 h2 a3 h3 a4 h4 hc0 hc1 x w = k0_pay2 k0_pay1 x w := by
  unfold sout0_A_0
  rw [View.read_writes_eq_canon _ _ _ (scover0_A_0 c i a1 h1 a2 h2 a3 h3 a4 h4 hc0 hc1 x w)]
  unfold kernelRun0_A
  dsimp only
  sl_unfold_words
  rw [View.canon_cons_unit_zero (S := S1408x1024) hz, View.readCov_unit_zero (S := S1408x1024) _ hz]
  simp only [View.readAt_eq_ld, h1.read_unread, h2.read_unread, View.ld_unit_zero (S := S1024x1408) hz, View.ld_unit_zero (S := S1024x1024) hz]

/-- A later point adds the product of its blocks to it, -/
theorem sout_B (c : Dev nD) (i : grid0.Coords) (a1 h1 a2 h2 a3 h3 a4 h4 hc0 hc1) (x : Vec Ideal S1024x1408 .bf16) (w : Vec Ideal S1024x1024 .bf16) (acc : Vec Ideal S1408x1024 .f32) :
    sout0_B_0 c i a1 h1 a2 h2 a3 h3 a4 h4 hc0 hc1 x w acc = k0_pay2 acc x w := by
  unfold sout0_B_0
  rw [View.read_writes_eq_canon _ _ _ (scover0_B_0 c i a1 h1 a2 h2 a3 h3 a4 h4 hc0 hc1 x w acc)]
  unfold kernelRun0_B
  dsimp only
  sl_unfold_words
  rw [View.canon_unit_zero hz]
  simp only [View.readAt_eq_ld, h1.read_unread, h2.read_unread, h4.read_unread, View.ld_unit_zero (S := S1024x1408) hz, View.ld_unit_zero (S := S1024x1024) hz, View.ld_unit_zero (S := S1408x1024) hz]

/-- so does the last, -/
theorem sout_C (c : Dev nD) (i : grid0.Coords) (a1 h1 a2 h2 a3 h3 a4 h4 hc0 hc1) (x : Vec Ideal S1024x1408 .bf16) (w : Vec Ideal S1024x1024 .bf16) (acc : Vec Ideal S1408x1024 .f32) :
    sout0_C_0 c i a1 h1 a2 h2 a3 h3 a4 h4 hc0 hc1 x w acc = k0_pay2 acc x w := by
  unfold sout0_C_0
  rw [View.read_writes_eq_canon _ _ _ (scover0_C_0 c i a1 h1 a2 h2 a3 h3 a4 h4 hc0 hc1 x w acc)]
  unfold kernelRun0_C
  dsimp only
  sl_unfold_words
  rw [View.canon_unit_zero hz]
  simp only [View.readAt_eq_ld, h1.read_unread, h2.read_unread, h4.read_unread, View.ld_unit_zero (S := S1024x1408) hz, View.ld_unit_zero (S := S1024x1024) hz, View.ld_unit_zero (S := S1408x1024) hz]

/-- which writes the result's block from it. -/
theorem out_C (c : Dev nD) (i : grid0.Coords) (a1 h1 a2 h2 a3 h3 a4 h4 hc0 hc1) (x : Vec Ideal S1024x1408 .bf16) (w : Vec Ideal S1024x1024 .bf16) (acc : Vec Ideal S1408x1024 .f32) :
    out0_C_2 c i a1 h1 a2 h2 a3 h3 a4 h4 hc0 hc1 x w acc = k0_pay3 (k0_pay2 acc x w) := by
  unfold out0_C_2
  rw [View.read_writes_eq_canon _ _ _ (cover0_C_2 c i a1 h1 a2 h2 a3 h3 a4 h4 hc0 hc1 x w acc)]
  unfold kernelRun0_C
  dsimp only
  sl_unfold_words
  rw [View.canon_unit_zero hz, View.readCov_unit_zero (S := S1408x1024) _ hz]
  simp only [View.readAt_eq_ld, h1.read_unread, h2.read_unread, h4.read_unread, View.ld_unit_zero (S := S1024x1408) hz, View.ld_unit_zero (S := S1024x1024) hz, View.ld_unit_zero (S := S1408x1024) hz]

/-- The product a point adds, at an index. -/
theorem pay_apply (acc : Vec Ideal S1408x1024 .f32) (x : Vec Ideal S1024x1408 .bf16) (w : Vec Ideal S1024x1024 .bf16) (y : S1408x1024.Idx) :
    k0_pay2 acc x w y = acc y + ∑ j : Fin 1024, x (ix2 j (y 0)) * w (ix2 j (y 1)) := by
  pointwise [k0_pay2]

theorem zero_apply (y : S1408x1024.Idx) : k0_pay1 (F := Ideal) y = 0 := by
  pointwise [k0_pay1]

/-- A point's blocks of the two arrays: where the grid stands on the result's rows and on the summed axis. -/
theorem idx_facts : ∀ t : Fin cfg0.N, win0_0.index t = ![t.val % 8, t.val / 8] ∧ win0_1.index t = ![t.val % 8, 0] :=
  (by decide +kernel : ∀ t : Fin grid0.N, _)

/-- The two arguments, -/
def lhs (c : Dev nD) (k : Fin 8192) (i : Fin 2816) : EReal := (m ((c : Thread nD τ).loc main_arg0) : Vec Ideal S8192x2816 .f32) (ix2 k i)
def rhs (c : Dev nD) (k : Fin 8192) (j : Fin 1024) : EReal := (m ((c : Thread nD τ).loc main_arg1) : Vec Ideal S8192x1024 .f32) (ix2 k j)
/-- and their blocks at a point. -/
def lblk (c : Dev nD) (t : Fin cfg0.N) (j : Fin 1024) (p : Fin 1408) : EReal := (iblk m c 0 t : Vec Ideal S1024x1408 .bf16) (ix2 j p)
def rblk (c : Dev nD) (t : Fin cfg0.N) (j : Fin 1024) (q : Fin 1024) : EReal := (iblk m c 1 t : Vec Ideal S1024x1024 .bf16) (ix2 j q)

theorem lblk_eq (c : Dev nD) (t : Fin cfg0.N) (j : Fin 1024) (p : Fin 1408) (h0 h1) :
    lblk m c t j p = lhs m c ⟨t.val % 8 * 1024 + j.val, h0⟩ ⟨t.val / 8 * 1408 + p.val, h1⟩ := by
  unfold lblk lhs
  have h := (idx_facts t).1
  unfold iblk
  rw [View.read_apply]
  show V m c main_v0 _ = _
  entry_read
  refine congrArg (m ((c : Thread nD τ).loc main_arg0)) (funext fun a => Fin.ext ?_)
  match a with
  | ⟨0, _⟩ => show win0_0.index t 0 * 1024 + 1 * j.val = _; rw [congrFun h 0]; show t.val % 8 * 1024 + 1 * j.val = t.val % 8 * 1024 + j.val; omega
  | ⟨1, _⟩ => show win0_0.index t 1 * 1408 + 1 * p.val = _; rw [congrFun h 1]; show t.val / 8 * 1408 + 1 * p.val = t.val / 8 * 1408 + p.val; omega

theorem rblk_eq (c : Dev nD) (t : Fin cfg0.N) (j : Fin 1024) (q : Fin 1024) (h0) :
    rblk m c t j q = rhs m c ⟨t.val % 8 * 1024 + j.val, h0⟩ q := by
  unfold rblk rhs
  have h := (idx_facts t).2
  unfold iblk
  rw [View.read_apply]
  show V m c main_v1 _ = _
  entry_read
  refine congrArg (m ((c : Thread nD τ).loc main_arg1)) (funext fun a => Fin.ext ?_)
  match a with
  | ⟨0, _⟩ => show win0_1.index t 0 * 1024 + 1 * j.val = _; rw [congrFun h 0]; show t.val % 8 * 1024 + 1 * j.val = t.val % 8 * 1024 + j.val; omega
  | ⟨1, _⟩ => show win0_1.index t 1 * 1024 + 1 * q.val = _; rw [congrFun h 1]; show 0 * 1024 + 1 * q.val = q.val; omega

/-- What point `t` adds to the accumulator at `y`. -/
def term (c : Dev nD) (y : S1408x1024.Idx) (t : ℕ) (j : Fin 1024) : EReal :=
  if h : t < cfg0.N then lblk m c ⟨t, h⟩ j (y 0) * rblk m c ⟨t, h⟩ j (y 1) else 0

theorem step_eq (c : Dev nD) (t : ℕ) (h : t < cfg0.N) (acc : Vec Ideal S1408x1024 .f32) (y : S1408x1024.Idx) :
    k0_pay2 acc (iblk m c 0 ⟨t, h⟩) (iblk m c 1 ⟨t, h⟩) y = acc y + ∑ j, term m c y t j := by
  refine (pay_apply ..).trans (congrArg (acc y + ·) (Finset.sum_congr rfl fun j _ => ?_))
  unfold term
  rw [dif_pos h]
  rfl

theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  rw [sout_A]

theorem later (c : Dev nD) (t : Fin cfg0.N) (h0 : ¬t.val % 8 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    rw [sout_C]
  · rw [outsAt0_B m c t h0 h1]
    dsimp only
    rw [sout_B]

theorem last (c : Dev nD) (t : Fin cfg0.N) (h1 : t.val % 8 = 7) : (outsAt0 m c t.val t.isLt).1 = k0_pay3 (outsAt0 m c t.val t.isLt).2 := by
  rw [outsAt0_C m c t (by omega) h1]
  dsimp only
  rw [out_C, sout_C]

/-- The accumulator after a point: the sum of its run's terms so far. -/
theorem scratch (c : Dev nD) (y : S1408x1024.Idx) (t : ℕ) (h : t < cfg0.N) :
    (outsAt0 m c t h).2 y = ∑ κ ∈ Finset.range (t % 8 + 1), ∑ j, term m c y (8 * (t / 8) + κ) j :=
  accumulated (n := 8) (fun t h => (outsAt0 m c t h).2 y) (fun t => ∑ j, term m c y t j)
    (fun t h hz => (congrFun (first m c ⟨t, h⟩ hz) y).trans (by rw [step_eq, zero_apply, zero_add]))
    (fun t h hz => (congrFun (later m c ⟨t + 1, h⟩ hz) y).trans (step_eq m c (t + 1) h _ y))
    t h

/-- The result is the product. -/
theorem result (c : Dev nD) (i : S2816x1024.Idx) : G2 m c i = (∑ k, lhs m c k (i 0) * rhs m c k (i 1) : EReal) := by
  have hi0 : (i 0).val < 2816 := (i 0).isLt
  have hi1 : (i 1).val < 1024 := (i 1).isLt
  have hN : cfg0.N = 16 := N_0
  have hp : pt2Of i = 8 * ((i 0).val / 1408) + 7 := by show 8 * (1 * ((i 0).val / 1408 - 0) + 1 * ((i 1).val / 1024 - 0)) + 7 = _; omega
  have hlt : pt2Of i < cfg0.N := by omega
  have ho : pt2Of i % 8 = 7 := by omega
  unfold G2
  rw [dif_pos hlt, ← outsAt0_sweep m c _ hlt, last m c ⟨pt2Of i, hlt⟩ ho]
  refine (scratch m c (loc2Of i) (pt2Of i) hlt).trans ?_
  rw [ho, show pt2Of i / 8 = (i 0).val / 1408 by omega]
  refine sum_blocks (M := EReal) 8 1024 8192 rfl _ _ fun κ j h => ?_
  have hk : κ.val < 8 := κ.isLt
  have ht : 8 * ((i 0).val / 1408) + κ.val < cfg0.N := by omega
  have e0 : (8 * ((i 0).val / 1408) + κ.val) / 8 * 1408 + (i 0).val % 1408 = (i 0).val := by omega
  have e1 : (8 * ((i 0).val / 1408) + κ.val) % 8 * 1024 + j.val = κ.val * 1024 + j.val := by omega
  have e2 : (i 1).val % 1024 = (i 1).val := by omega
  exact (dif_pos ht).trans (congrArg₂ (fun a b : EReal => a * b)
    ((lblk_eq m c ⟨_, ht⟩ j (loc2Of i 0) (lt_of_eq_of_lt e1 h) (lt_of_eq_of_lt e0 hi0)).trans (congrArg₂ (lhs m c) (Fin.ext e1) (Fin.ext e0)))
    ((rblk_eq m c ⟨_, ht⟩ j (loc2Of i 1) (lt_of_eq_of_lt e1 h)).trans (congrArg₂ (rhs m c) (Fin.ext e1) (Fin.ext e2))))

end Cert.DownWIdeal.Value

namespace Cert.Proof.Feed

open Cert Idealize.ShloMosaic Idealize.ShloMosaic.TcCoe Idealize.SL.Sem

/-- The reference's gradient at an index: the product with its factors the other way around. -/
theorem down_w_reference_apply (g : Vec Ideal DownWReferenceIdeal.S8192x1024 .f32) (a : Vec Ideal DownWReferenceIdeal.S8192x2816 .f32) (h t) (i : DownWReferenceIdeal.S2816x1024.Idx) :
    truncf (F := Ideal) (φ := .f32) .bf16 (transpose DownWReferenceIdeal.S2816x1024 [1, 0] (Host.dotGeneral (F := Ideal) (φ₁ := .f32) (φ₂ := .f32) DownWReferenceIdeal.dot_S8192x1024_S8192x2816_S1024x2816_0_0_1_1_n_n none g a) t) h i
      = ∑ k : Fin 8192, a (ix2 k (i 0)) * g (ix2 k (i 1)) := by
  refine Eq.trans (b := ∑ k : Fin 8192, g (ix2 k (i 1)) * a (ix2 k (i 0))) ?_ (Finset.sum_congr rfl fun k _ => mul_comm (G := EReal) _ _)
  pointwise []

/-- The gradient of the second weights. -/
theorem down_w : algebraic_DownWIdeal_DownWReferenceIdeal := fun m ρ m' ρ' _ hmm => by
  refine ⟨_, DownWIdeal.Value.run m ρ, (θ_run DownWReferenceIdeal.defs _ _).mono (fun r h c => ⟨(h c).1.trans ?_, (h c).2⟩) (DownWReferenceIdeal.Value.run (F := Ideal) m' ρ')⟩
  rw [(hmm c).1, (hmm c).2]
  funext i
  exact (down_w_reference_apply _ _ _ _ i).trans (DownWIdeal.Value.result m c i).symm

end Cert.Proof.Feed

end
-- ==== Proof.Feed.InX.lean ====
/-
  The gradient of the part's input: the product of the two gradients, gate's and up's, by the transposed first weights,
  block by block over their lanes, is the plain product of the two side by side.
-/
module

public import proofs.«01_k».proof.Defs
public import proofs.«01_k».proof.Proof.Feed.Sums
public import proofs.«01_k».proof.Proof.Gen.InXIdeal.Value
public import proofs.«01_k».proof.Proof.Gen.InXReferenceIdeal.Run
public import Idealize.ShloMosaic.Lib.Tactic
public import Idealize.ShloMosaic.Lib.Pointwise
public import Idealize.ShloMosaic.Lib.Claim
public import Idealize.ShloMosaic.Lib.Pipeline.ValueKit

@[expose] public section

noncomputable section

namespace Cert.InXIdeal.Value

open Cert.InXIdeal Cert.InXIdeal.Gen Idealize.ShloMosaic Idealize.ShloMosaic.TcCoe Idealize.SL.Sem
open Cert.Proof.Feed

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The first point of a run leaves the product of its blocks in the accumulator. -/
theorem sout_A (c : Dev nD) (i : grid0.Coords) (a1 h1 a2 h2 a3 h3 a4 h4 hc0 hc1) (x : Vec Ideal S1x1024x1408 .bf16) (w : Vec Ideal S1024x1408 .bf16) :
    sout0_A_0 c i a1 h1 a2 h2 a3 h3 a4 h4 hc0 hc1 x w = k0_pay2 k0_pay1 x w := by
  unfold sout0_A_0
  rw [View.read_writes_eq_canon _ _ _ (scover0_A_0 c i a1 h1 a2 h2 a3 h3 a4 h4 hc0 hc1 x w)]
  unfold kernelRun0_A
  dsimp only
  sl_unfold_words
  rw [View.canon_cons_unit_zero (S := S1024x1024) hz, View.readCov_unit_zero (S := S1024x1024) _ hz]
  simp only [View.readAt_eq_ld, h1.read_unread, h2.read_unread, View.ld_unit_zero (S := S1x1024x1408) hz3, View.ld_unit_zero (S := S1024x1408) hz]

/-- A later point adds the product of its blocks to it, -/
theorem sout_B (c : Dev nD) (i : grid0.Coords) (a1 h1 a2 h2 a3 h3 a4 h4 hc0 hc1) (x : Vec Ideal S1x1024x1408 .bf16) (w : Vec Ideal S1024x1408 .bf16) (acc : Vec Ideal S1024x1024 .f32) :
    sout0_B_0 c i a1 h1 a2 h2 a3 h3 a4 h4 hc0 hc1 x w acc = k0_pay2 acc x w := by
  unfold sout0_B_0
  rw [View.read_writes_eq_canon _ _ _ (scover0_B_0 c i a1 h1 a2 h2 a3 h3 a4 h4 hc0 hc1 x w acc)]
  unfold kernelRun0_B
  dsimp only
  sl_unfold_words
  rw [View.canon_unit_zero hz]
  simp only [View.readAt_eq_ld, h1.read_unread, h2.read_unread, h4.read_unread, View.ld_unit_zero (S := S1x1024x1408) hz3, View.ld_unit_zero (S := S1024x1408) hz, View.ld_unit_zero (S := S1024x1024) hz]

/-- so does the last, -/
theorem sout_C (c : Dev nD) (i : grid0.Coords) (a1 h1 a2 h2 a3 h3 a4 h4 hc0 hc1) (x : Vec Ideal S1x1024x1408 .bf16) (w : Vec Ideal S1024x1408 .bf16) (acc : Vec Ideal S1024x1024 .f32) :
    sout0_C_0 c i a1 h1 a2 h2 a3 h3 a4 h4 hc0 hc1 x w acc = k0_pay2 acc x w := by
  unfold sout0_C_0
  rw [View.read_writes_eq_canon _ _ _ (scover0_C_0 c i a1 h1 a2 h2 a3 h3 a4 h4 hc0 hc1 x w acc)]
  unfold kernelRun0_C
  dsimp only
  sl_unfold_words
  rw [View.canon_unit_zero hz]
  simp only [View.readAt_eq_ld, h1.read_unread, h2.read_unread, h4.read_unread, View.ld_unit_zero (S := S1x1024x1408) hz3, View.ld_unit_zero (S := S1024x1408) hz, View.ld_unit_zero (S := S1024x1024) hz]

/-- which writes the result's block from it. -/
theorem out_C (c : Dev nD) (i : grid0.Coords) (a1 h1 a2 h2 a3 h3 a4 h4 hc0 hc1) (x : Vec Ideal S1x1024x1408 .bf16) (w : Vec Ideal S1024x1408 .bf16) (acc : Vec Ideal S1024x1024 .f32) :
    out0_C_2 c i a1 h1 a2 h2 a3 h3 a4 h4 hc0 hc1 x w acc = k0_pay2 acc x w := by
  unfold out0_C_2
  rw [View.read_writes_eq_canon _ _ _ (cover0_C_2 c i a1 h1 a2 h2 a3 h3 a4 h4 hc0 hc1 x w acc)]
  unfold kernelRun0_C
  dsimp only
  sl_unfold_words
  rw [View.canon_unit_zero hz, View.readCov_unit_zero (S := S1024x1024) _ hz]
  simp only [View.readAt_eq_ld, h1.read_unread, h2.read_unread, h4.read_unread, View.ld_unit_zero (S := S1x1024x1408) hz3, View.ld_unit_zero (S := S1024x1408) hz, View.ld_unit_zero (S := S1024x1024) hz]

/-- The product a point adds, at an index. -/
theorem pay_apply (acc : Vec Ideal S1024x1024 .f32) (x : Vec Ideal S1x1024x1408 .bf16) (w : Vec Ideal S1024x1408 .bf16) (y : S1024x1024.Idx) :
    k0_pay2 acc x w y = acc y + ∑ j : Fin 1408, x (ix3 0 (y 0) j) * w (ix2 (y 1) j) := by
  pointwise [k0_pay2]

theorem zero_apply (y : S1024x1024.Idx) : k0_pay1 (F := Ideal) y = 0 := by
  pointwise [k0_pay1]

/-- A point's blocks of the two arrays: where the grid stands on the rows and on the summed axis, whose first half of
    blocks lies in the first plane and whose second half in the second. -/
theorem idx_facts : ∀ t : Fin cfg0.N, win0_0.index t = ![t.val % 4 / 2, t.val / 4, t.val % 4 % 2] ∧ win0_1.index t = ![0, t.val % 4] :=
  (by decide +kernel : ∀ t : Fin grid0.N, _)

/-- The two arguments, the planes of the first side by side, -/
def lhs (c : Dev nD) (i : Fin 8192) (k : Fin 5632) : EReal :=
  (m ((c : Thread nD τ).loc main_arg0) : Vec Ideal S2x8192x2816 .f32) (ix3 ⟨k.val / 2816, by omega⟩ i ⟨k.val % 2816, by omega⟩)
def rhs (c : Dev nD) (j : Fin 1024) (k : Fin 5632) : EReal := (m ((c : Thread nD τ).loc main_arg1) : Vec Ideal S1024x5632 .f32) (ix2 j k)
/-- and their blocks at a point. -/
def lblk (c : Dev nD) (t : Fin cfg0.N) (p : Fin 1024) (j : Fin 1408) : EReal := (iblk m c 0 t : Vec Ideal S1x1024x1408 .bf16) (ix3 0 p j)
def rblk (c : Dev nD) (t : Fin cfg0.N) (q : Fin 1024) (j : Fin 1408) : EReal := (iblk m c 1 t : Vec Ideal S1024x1408 .bf16) (ix2 q j)

theorem lblk_eq (c : Dev nD) (t : Fin cfg0.N) (p : Fin 1024) (j : Fin 1408) (h0 h1) :
    lblk m c t p j = lhs m c ⟨t.val / 4 * 1024 + p.val, h0⟩ ⟨t.val % 4 * 1408 + j.val, h1⟩ := by
  unfold lblk lhs
  have h := (idx_facts t).1
  unfold iblk
  rw [View.read_apply]
  show V m c main_v0 _ = _
  entry_read
  refine congrArg (m ((c : Thread nD τ).loc main_arg0)) (funext fun a => Fin.ext ?_)
  match a with
  | ⟨0, _⟩ => show win0_0.index t 0 * 1 + 1 * 0 = _; rw [congrFun h 0]; show t.val % 4 / 2 * 1 + 1 * 0 = (t.val % 4 * 1408 + j.val) / 2816; omega
  | ⟨1, _⟩ => show win0_0.index t 1 * 1024 + 1 * p.val = _; rw [congrFun h 1]; show t.val / 4 * 1024 + 1 * p.val = t.val / 4 * 1024 + p.val; omega
  | ⟨2, _⟩ => show win0_0.index t 2 * 1408 + 1 * j.val = _; rw [congrFun h 2]; show t.val % 4 % 2 * 1408 + 1 * j.val = (t.val % 4 * 1408 + j.val) % 2816; omega

theorem rblk_eq (c : Dev nD) (t : Fin cfg0.N) (q : Fin 1024) (j : Fin 1408) (h0) :
    rblk m c t q j = rhs m c q ⟨t.val % 4 * 1408 + j.val, h0⟩ := by
  unfold rblk rhs
  have h := (idx_facts t).2
  unfold iblk
  rw [View.read_apply]
  show V m c main_v1 _ = _
  entry_read
  refine congrArg (m ((c : Thread nD τ).loc main_arg1)) (funext fun a => Fin.ext ?_)
  match a with
  | ⟨0, _⟩ => show win0_1.index t 0 * 1024 + 1 * q.val = _; rw [congrFun h 0]; show 0 * 1024 + 1 * q.val = q.val; omega
  | ⟨1, _⟩ => show win0_1.index t 1 * 1408 + 1 * j.val = _; rw [congrFun h 1]; show t.val % 4 * 1408 + 1 * j.val = t.val % 4 * 1408 + j.val; omega

/-- What point `t` adds to the accumulator at `y`. -/
def term (c : Dev nD) (y : S1024x1024.Idx) (t : ℕ) (j : Fin 1408) : EReal :=
  if h : t < cfg0.N then lblk m c ⟨t, h⟩ (y 0) j * rblk m c ⟨t, h⟩ (y 1) j else 0

theorem step_eq (c : Dev nD) (t : ℕ) (h : t < cfg0.N) (acc : Vec Ideal S1024x1024 .f32) (y : S1024x1024.Idx) :
    k0_pay2 acc (iblk m c 0 ⟨t, h⟩) (iblk m c 1 ⟨t, h⟩) y = acc y + ∑ j, term m c y t j := by
  refine (pay_apply ..).trans (congrArg (acc y + ·) (Finset.sum_congr rfl fun j _ => ?_))
  unfold term
  rw [dif_pos h]
  rfl

theorem first (c : Dev nD) (t : Fin cfg0.N) (h0 : t.val % 4 = 0) : (outsAt0 m c t.val t.isLt).2 = k0_pay2 k0_pay1 (iblk m c 0 t) (iblk m c 1 t) := by
  rw [outsAt0_A m c t h0 (by omega)]
  dsimp only
  rw [sout_A]

theorem later (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    rw [sout_C]
  · rw [outsAt0_B m c t h0 h1]
    dsimp only
    rw [sout_B]

theorem last (c : Dev nD) (t : Fin cfg0.N) (h1 : t.val % 4 = 3) : (outsAt0 m c t.val t.isLt).1 = (outsAt0 m c t.val t.isLt).2 := by
  rw [outsAt0_C m c t (by omega) h1]
  dsimp only
  rw [out_C, sout_C]

/-- The accumulator after a point: the sum of its run's terms so far. -/
theorem scratch (c : Dev nD) (y : S1024x1024.Idx) (t : ℕ) (h : t < cfg0.N) :
    (outsAt0 m c t h).2 y = ∑ κ ∈ Finset.range (t % 4 + 1), ∑ j, term m c y (4 * (t / 4) + κ) j :=
  accumulated (n := 4) (fun t h => (outsAt0 m c t h).2 y) (fun t => ∑ j, term m c y t j)
    (fun t h hz => (congrFun (first m c ⟨t, h⟩ hz) y).trans (by rw [step_eq, zero_apply, zero_add]))
    (fun t h hz => (congrFun (later m c ⟨t + 1, h⟩ hz) y).trans (step_eq m c (t + 1) h _ y))
    t h

/-- The result is the product. -/
theorem result (c : Dev nD) (i : S8192x1024.Idx) : G2 m c i = (∑ k, lhs m c (i 0) k * rhs m c (i 1) k : EReal) := by
  have hi0 : (i 0).val < 8192 := (i 0).isLt
  have hi1 : (i 1).val < 1024 := (i 1).isLt
  have hN : cfg0.N = 32 := N_0
  have hp : pt2Of i = 4 * ((i 0).val / 1024) + 3 := by show 4 * (1 * ((i 0).val / 1024 - 0) + 1 * ((i 1).val / 1024 - 0)) + 3 = _; omega
  have hlt : pt2Of i < cfg0.N := by omega
  have ho : pt2Of i % 4 = 3 := by omega
  unfold G2
  rw [dif_pos hlt, ← outsAt0_sweep m c _ hlt, last m c ⟨pt2Of i, hlt⟩ ho, scratch, ho, show pt2Of i / 4 = (i 0).val / 1024 by omega]
  refine sum_blocks (M := EReal) 4 1408 5632 rfl _ _ fun κ j h => ?_
  have hk : κ.val < 4 := κ.isLt
  have ht : 4 * ((i 0).val / 1024) + κ.val < cfg0.N := by omega
  have e0 : (4 * ((i 0).val / 1024) + κ.val) / 4 * 1024 + (i 0).val % 1024 = (i 0).val := by omega
  have e1 : (4 * ((i 0).val / 1024) + κ.val) % 4 * 1408 + j.val = κ.val * 1408 + j.val := by omega
  have e2 : (i 1).val % 1024 = (i 1).val := by omega
  exact (dif_pos ht).trans (congrArg₂ (fun a b : EReal => a * b)
    ((lblk_eq m c ⟨_, ht⟩ (loc2Of i 0) j (lt_of_eq_of_lt e0 hi0) (lt_of_eq_of_lt e1 h)).trans (congrArg₂ (lhs m c) (Fin.ext e0) (Fin.ext e1)))
    ((rblk_eq m c ⟨_, ht⟩ (loc2Of i 1) j (lt_of_eq_of_lt e1 h)).trans (congrArg₂ (rhs m c) (Fin.ext e2) (Fin.ext e1))))

end Cert.InXIdeal.Value

namespace Cert.Proof.Feed

open Cert Idealize.ShloMosaic Idealize.ShloMosaic.TcCoe Idealize.SL.Sem

/-- The two gradients side by side, at an index. -/
theorem beside_apply (g : Vec Ideal InXReferenceIdeal.S2x8192x2816 .f32) (s0 s1 c0 c1) (h) (i : Fin 8192) (k : Fin 5632) :
    concatenate (α := EReal) InXReferenceIdeal.S8192x5632 1 [⟨InXReferenceIdeal.S8192x2816, (shapeCast InXReferenceIdeal.S8192x2816 (extractStridedSlice InXReferenceIdeal.S1x8192x2816 ![0, 0, 0] g s0) c0)⟩, ⟨InXReferenceIdeal.S8192x2816, (shapeCast InXReferenceIdeal.S8192x2816 (extractStridedSlice InXReferenceIdeal.S1x8192x2816 ![1, 0, 0] g s1) c1)⟩] h (ix2 i k)
      = g (ix3 ⟨k.val / 2816, by omega⟩ i ⟨k.val % 2816, by omega⟩) := by
  have hk : k.val < 5632 := k.isLt
  pointwise []
  split
  · refine congrArg g (congrArg₂ (fun a b => ix3 a i b) (Fin.ext ?_) (Fin.ext ?_))
    · show 0 = k.val / 2816; omega
    · show k.val = k.val % 2816; omega
  · refine congrArg g (congrArg₂ (fun a b => ix3 a i b) (Fin.ext ?_) (Fin.ext ?_))
    · show 1 = k.val / 2816; omega
    · show k.val - 2816 = k.val % 2816; omega

/-- The plain product by the transposed weights, at an index. -/
theorem in_x_product_apply (x : Vec Ideal InXReferenceIdeal.S8192x5632 .f32) (w : Vec Ideal InXReferenceIdeal.S1024x5632 .f32) (i : InXReferenceIdeal.S8192x1024.Idx) :
    Host.dotGeneral (F := Ideal) (φ₁ := .f32) (φ₂ := .f32) InXReferenceIdeal.dot_S8192x5632_S1024x5632_S8192x1024_1_1_0_0_n_n none x w i = ∑ k : Fin 5632, x (ix2 (i 0) k) * w (ix2 (i 1) k) := by
  pointwise []

/-- The gradient of the part's input. -/
theorem in_x : algebraic_InXIdeal_InXReferenceIdeal := fun m ρ m' ρ' _ hmm => by
  refine ⟨_, InXIdeal.Value.run m ρ, (θ_run InXReferenceIdeal.defs _ _).mono (fun r h c => ⟨(h c).1.trans ?_, (h c).2⟩) (InXReferenceIdeal.Value.run (F := Ideal) m' ρ')⟩
  rw [(hmm c).1, (hmm c).2]
  funext i
  refine (in_x_product_apply _ _ i).trans (Eq.trans (Finset.sum_congr rfl fun k _ => ?_) (InXIdeal.Value.result m c i).symm)
  exact congrArg (fun a : EReal => a * InXIdeal.Value.rhs m c (i 1) k) (beside_apply _ _ _ _ _ _ (i 0) k)

end Cert.Proof.Feed

end
-- ==== Proof.Feed.InW.lean ====
/-
  The gradient of the first weights: the product of the transposed input and the two gradients, gate's and up's, block by
  block over the rows, is the plain product's with the two side by side.
-/
module

public import proofs.«01_k».proof.Defs
public import proofs.«01_k».proof.Proof.Feed.InX
public import proofs.«01_k».proof.Proof.Gen.InWIdeal.Value
public import proofs.«01_k».proof.Proof.Gen.InWReferenceIdeal.Run
public import Idealize.ShloMosaic.Lib.Tactic
public import Idealize.ShloMosaic.Lib.Pointwise
public import Idealize.ShloMosaic.Lib.Claim
public import Idealize.ShloMosaic.Lib.Pipeline.ValueKit

@[expose] public section

noncomputable section

namespace Cert.InWIdeal.Value

open Cert.InWIdeal Cert.InWIdeal.Gen Idealize.ShloMosaic Idealize.ShloMosaic.TcCoe Idealize.SL.Sem
open Cert.Proof.Feed

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The first point of a run leaves the product of its blocks in the accumulator. -/
theorem sout_A (c : Dev nD) (i : grid0.Coords) (a1 h1 a2 h2 a3 h3 a4 h4 hc0 hc1) (x : Vec Ideal S1024x1024 .bf16) (w : Vec Ideal S1x1024x1408 .bf16) :
    sout0_A_0 c i a1 h1 a2 h2 a3 h3 a4 h4 hc0 hc1 x w = k0_pay2 k0_pay1 x w := by
  unfold sout0_A_0
  rw [View.read_writes_eq_canon _ _ _ (scover0_A_0 c i a1 h1 a2 h2 a3 h3 a4 h4 hc0 hc1 x w)]
  unfold kernelRun0_A
  dsimp only
  sl_unfold_words
  rw [View.canon_cons_unit_zero (S := S1024x1408) hz, View.readCov_unit_zero (S := S1024x1408) _ hz]
  simp only [View.readAt_eq_ld, h1.read_unread, h2.read_unread, View.ld_unit_zero (S := S1024x1024) hz, View.ld_unit_zero (S := S1x1024x1408) hz3]

/-- A later point adds the product of its blocks to it, -/
theorem sout_B (c : Dev nD) (i : grid0.Coords) (a1 h1 a2 h2 a3 h3 a4 h4 hc0 hc1) (x : Vec Ideal S1024x1024 .bf16) (w : Vec Ideal S1x1024x1408 .bf16) (acc : Vec Ideal S1024x1408 .f32) :
    sout0_B_0 c i a1 h1 a2 h2 a3 h3 a4 h4 hc0 hc1 x w acc = k0_pay2 acc x w := by
  unfold sout0_B_0
  rw [View.read_writes_eq_canon _ _ _ (scover0_B_0 c i a1 h1 a2 h2 a3 h3 a4 h4 hc0 hc1 x w acc)]
  unfold kernelRun0_B
  dsimp only
  sl_unfold_words
  rw [View.canon_unit_zero hz]
  simp only [View.readAt_eq_ld, h1.read_unread, h2.read_unread, h4.read_unread, View.ld_unit_zero (S := S1024x1024) hz, View.ld_unit_zero (S := S1x1024x1408) hz3, View.ld_unit_zero (S := S1024x1408) hz]

/-- so does the last, -/
theorem sout_C (c : Dev nD) (i : grid0.Coords) (a1 h1 a2 h2 a3 h3 a4 h4 hc0 hc1) (x : Vec Ideal S1024x1024 .bf16) (w : Vec Ideal S1x1024x1408 .bf16) (acc : Vec Ideal S1024x1408 .f32) :
    sout0_C_0 c i a1 h1 a2 h2 a3 h3 a4 h4 hc0 hc1 x w acc = k0_pay2 acc x w := by
  unfold sout0_C_0
  rw [View.read_writes_eq_canon _ _ _ (scover0_C_0 c i a1 h1 a2 h2 a3 h3 a4 h4 hc0 hc1 x w acc)]
  unfold kernelRun0_C
  dsimp only
  sl_unfold_words
  rw [View.canon_unit_zero hz]
  simp only [View.readAt_eq_ld, h1.read_unread, h2.read_unread, h4.read_unread, View.ld_unit_zero (S := S1024x1024) hz, View.ld_unit_zero (S := S1x1024x1408) hz3, View.ld_unit_zero (S := S1024x1408) hz]

/-- which writes the result's block from it. -/
theorem out_C (c : Dev nD) (i : grid0.Coords) (a1 h1 a2 h2 a3 h3 a4 h4 hc0 hc1) (x : Vec Ideal S1024x1024 .bf16) (w : Vec Ideal S1x1024x1408 .bf16) (acc : Vec Ideal S1024x1408 .f32) :
    out0_C_2 c i a1 h1 a2 h2 a3 h3 a4 h4 hc0 hc1 x w acc = k0_pay3 (k0_pay2 acc x w) := by
  unfold out0_C_2
  rw [View.read_writes_eq_canon _ _ _ (cover0_C_2 c i a1 h1 a2 h2 a3 h3 a4 h4 hc0 hc1 x w acc)]
  unfold kernelRun0_C
  dsimp only
  sl_unfold_words
  rw [View.canon_unit_zero hz, View.readCov_unit_zero (S := S1024x1408) _ hz]
  simp only [View.readAt_eq_ld, h1.read_unread, h2.read_unread, h4.read_unread, View.ld_unit_zero (S := S1024x1024) hz, View.ld_unit_zero (S := S1x1024x1408) hz3, View.ld_unit_zero (S := S1024x1408) hz]

/-- The product a point adds, at an index. -/
theorem pay_apply (acc : Vec Ideal S1024x1408 .f32) (x : Vec Ideal S1024x1024 .bf16) (w : Vec Ideal S1x1024x1408 .bf16) (y : S1024x1408.Idx) :
    k0_pay2 acc x w y = acc y + ∑ j : Fin 1024, x (ix2 j (y 0)) * w (ix3 0 j (y 1)) := by
  pointwise [k0_pay2]

theorem zero_apply (y : S1024x1408.Idx) : k0_pay1 (F := Ideal) y = 0 := by
  pointwise [k0_pay1]

/-- A point's blocks of the two arrays: where the grid stands on the result's lanes, whose first half of blocks lies in the
    first plane and whose second half in the second, and on the summed axis. -/
theorem idx_facts : ∀ t : Fin cfg0.N, win0_0.index t = ![t.val % 8, 0] ∧ win0_1.index t = ![t.val / 8 / 2, t.val % 8, t.val / 8 % 2] :=
  (by decide +kernel : ∀ t : Fin grid0.N, _)

/-- The two arguments, the planes of the second side by side, -/
def lhs (c : Dev nD) (k : Fin 8192) (i : Fin 1024) : EReal := (m ((c : Thread nD τ).loc main_arg0) : Vec Ideal S8192x1024 .f32) (ix2 k i)
def rhs (c : Dev nD) (k : Fin 8192) (j : Fin 5632) : EReal :=
  (m ((c : Thread nD τ).loc main_arg1) : Vec Ideal S2x8192x2816 .f32) (ix3 ⟨j.val / 2816, by omega⟩ k ⟨j.val % 2816, by omega⟩)
/-- and their blocks at a point. -/
def lblk (c : Dev nD) (t : Fin cfg0.N) (j : Fin 1024) (p : Fin 1024) : EReal := (iblk m c 0 t : Vec Ideal S1024x1024 .bf16) (ix2 j p)
def rblk (c : Dev nD) (t : Fin cfg0.N) (j : Fin 1024) (q : Fin 1408) : EReal := (iblk m c 1 t : Vec Ideal S1x1024x1408 .bf16) (ix3 0 j q)

theorem lblk_eq (c : Dev nD) (t : Fin cfg0.N) (j : Fin 1024) (p : Fin 1024) (h0) :
    lblk m c t j p = lhs m c ⟨t.val % 8 * 1024 + j.val, h0⟩ p := by
  unfold lblk lhs
  have h := (idx_facts t).1
  unfold iblk
  rw [View.read_apply]
  show V m c main_v0 _ = _
  entry_read
  refine congrArg (m ((c : Thread nD τ).loc main_arg0)) (funext fun a => Fin.ext ?_)
  match a with
  | ⟨0, _⟩ => show win0_0.index t 0 * 1024 + 1 * j.val = _; rw [congrFun h 0]; show t.val % 8 * 1024 + 1 * j.val = t.val % 8 * 1024 + j.val; omega
  | ⟨1, _⟩ => show win0_0.index t 1 * 1024 + 1 * p.val = _; rw [congrFun h 1]; show 0 * 1024 + 1 * p.val = p.val; omega

theorem rblk_eq (c : Dev nD) (t : Fin cfg0.N) (j : Fin 1024) (q : Fin 1408) (h0 h1) :
    rblk m c t j q = rhs m c ⟨t.val % 8 * 1024 + j.val, h0⟩ ⟨t.val / 8 * 1408 + q.val, h1⟩ := by
  unfold rblk rhs
  have h := (idx_facts t).2
  unfold iblk
  rw [View.read_apply]
  show V m c main_v1 _ = _
  entry_read
  refine congrArg (m ((c : Thread nD τ).loc main_arg1)) (funext fun a => Fin.ext ?_)
  match a with
  | ⟨0, _⟩ => show win0_1.index t 0 * 1 + 1 * 0 = _; rw [congrFun h 0]; show t.val / 8 / 2 * 1 + 1 * 0 = (t.val / 8 * 1408 + q.val) / 2816; omega
  | ⟨1, _⟩ => show win0_1.index t 1 * 1024 + 1 * j.val = _; rw [congrFun h 1]; show t.val % 8 * 1024 + 1 * j.val = t.val % 8 * 1024 + j.val; omega
  | ⟨2, _⟩ => show win0_1.index t 2 * 1408 + 1 * q.val = _; rw [congrFun h 2]; show t.val / 8 % 2 * 1408 + 1 * q.val = (t.val / 8 * 1408 + q.val) % 2816; omega

/-- What point `t` adds to the accumulator at `y`. -/
def term (c : Dev nD) (y : S1024x1408.Idx) (t : ℕ) (j : Fin 1024) : EReal :=
  if h : t < cfg0.N then lblk m c ⟨t, h⟩ j (y 0) * rblk m c ⟨t, h⟩ j (y 1) else 0

theorem step_eq (c : Dev nD) (t : ℕ) (h : t < cfg0.N) (acc : Vec Ideal S1024x1408 .f32) (y : S1024x1408.Idx) :
    k0_pay2 acc (iblk m c 0 ⟨t, h⟩) (iblk m c 1 ⟨t, h⟩) y = acc y + ∑ j, term m c y t j := by
  refine (pay_apply ..).trans (congrArg (acc y + ·) (Finset.sum_congr rfl fun j _ => ?_))
  unfold term
  rw [dif_pos h]
  rfl

theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  rw [sout_A]

theorem later (c : Dev nD) (t : Fin cfg0.N) (h0 : ¬t.val % 8 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    rw [sout_C]
  · rw [outsAt0_B m c t h0 h1]
    dsimp only
    rw [sout_B]

theorem last (c : Dev nD) (t : Fin cfg0.N) (h1 : t.val % 8 = 7) : (outsAt0 m c t.val t.isLt).1 = k0_pay3 (outsAt0 m c t.val t.isLt).2 := by
  rw [outsAt0_C m c t (by omega) h1]
  dsimp only
  rw [out_C, sout_C]

/-- The accumulator after a point: the sum of its run's terms so far. -/
theorem scratch (c : Dev nD) (y : S1024x1408.Idx) (t : ℕ) (h : t < cfg0.N) :
    (outsAt0 m c t h).2 y = ∑ κ ∈ Finset.range (t % 8 + 1), ∑ j, term m c y (8 * (t / 8) + κ) j :=
  accumulated (n := 8) (fun t h => (outsAt0 m c t h).2 y) (fun t => ∑ j, term m c y t j)
    (fun t h hz => (congrFun (first m c ⟨t, h⟩ hz) y).trans (by rw [step_eq, zero_apply, zero_add]))
    (fun t h hz => (congrFun (later m c ⟨t + 1, h⟩ hz) y).trans (step_eq m c (t + 1) h _ y))
    t h

/-- The result is the product. -/
theorem result (c : Dev nD) (i : S1024x5632.Idx) : G2 m c i = (∑ k, lhs m c k (i 0) * rhs m c k (i 1) : EReal) := by
  have hi0 : (i 0).val < 1024 := (i 0).isLt
  have hi1 : (i 1).val < 5632 := (i 1).isLt
  have hN : cfg0.N = 32 := N_0
  have hp : pt2Of i = 8 * ((i 1).val / 1408) + 7 := by show 8 * (4 * ((i 0).val / 1024 - 0) + 1 * ((i 1).val / 1408 - 0)) + 7 = _; omega
  have hlt : pt2Of i < cfg0.N := by omega
  have ho : pt2Of i % 8 = 7 := by omega
  unfold G2
  rw [dif_pos hlt, ← outsAt0_sweep m c _ hlt, last m c ⟨pt2Of i, hlt⟩ ho]
  refine (scratch m c (loc2Of i) (pt2Of i) hlt).trans ?_
  rw [ho, show pt2Of i / 8 = (i 1).val / 1408 by omega]
  refine sum_blocks (M := EReal) 8 1024 8192 rfl _ _ fun κ j h => ?_
  have hk : κ.val < 8 := κ.isLt
  have ht : 8 * ((i 1).val / 1408) + κ.val < cfg0.N := by omega
  have e0 : (i 0).val % 1024 = (i 0).val := by omega
  have e1 : (8 * ((i 1).val / 1408) + κ.val) % 8 * 1024 + j.val = κ.val * 1024 + j.val := by omega
  have e2 : (8 * ((i 1).val / 1408) + κ.val) / 8 * 1408 + (i 1).val % 1408 = (i 1).val := by omega
  exact (dif_pos ht).trans (congrArg₂ (fun a b : EReal => a * b)
    ((lblk_eq m c ⟨_, ht⟩ j (loc2Of i 0) (lt_of_eq_of_lt e1 h)).trans (congrArg₂ (lhs m c) (Fin.ext e1) (Fin.ext e0)))
    ((rblk_eq m c ⟨_, ht⟩ j (loc2Of i 1) (lt_of_eq_of_lt e1 h) (lt_of_eq_of_lt e2 hi1)).trans (congrArg₂ (rhs m c) (Fin.ext e1) (Fin.ext e2))))

end Cert.InWIdeal.Value

namespace Cert.Proof.Feed

open Cert Idealize.ShloMosaic Idealize.ShloMosaic.TcCoe Idealize.SL.Sem

/-- The reference's gradient at an index: the product with its factors the other way around. -/
theorem in_w_product_apply (g : Vec Ideal InWReferenceIdeal.S8192x5632 .f32) (x : Vec Ideal InWReferenceIdeal.S8192x1024 .f32) (h t) (i : InWReferenceIdeal.S1024x5632.Idx) :
    truncf (F := Ideal) (φ := .f32) .bf16 (transpose InWReferenceIdeal.S1024x5632 [1, 0] (Host.dotGeneral (F := Ideal) (φ₁ := .f32) (φ₂ := .f32) InWReferenceIdeal.dot_S8192x5632_S8192x1024_S5632x1024_0_0_1_1_n_n none g x) t) h i
      = ∑ k : Fin 8192, x (ix2 k (i 0)) * g (ix2 k (i 1)) := by
  refine Eq.trans (b := ∑ k : Fin 8192, g (ix2 k (i 1)) * x (ix2 k (i 0))) ?_ (Finset.sum_congr rfl fun k _ => mul_comm (G := EReal) _ _)
  pointwise []

/-- The gradient of the first weights. -/
theorem in_w : algebraic_InWIdeal_InWReferenceIdeal := fun m ρ m' ρ' _ hmm => by
  refine ⟨_, InWIdeal.Value.run m ρ, (θ_run InWReferenceIdeal.defs _ _).mono (fun r h c => ⟨(h c).1.trans ?_, (h c).2⟩) (InWReferenceIdeal.Value.run (F := Ideal) m' ρ')⟩
  rw [(hmm c).1, (hmm c).2]
  funext i
  refine (in_w_product_apply _ _ _ _ i).trans (Eq.trans (Finset.sum_congr rfl fun k _ => ?_) (InWIdeal.Value.result m c i).symm)
  exact congrArg (fun a : EReal => InWIdeal.Value.lhs m c k (i 0) * a) (beside_apply _ _ _ _ _ _ k (i 1))

end Cert.Proof.Feed

end
-- ==== Proof.Norm.NormB.lean ====
/-
  The gradient of a root-mean-square norm and of the path around it: row by row, the kernel's block holds what the plain
  derivative holds; the gradient of the weights adds up over the blocks of rows.
-/
module

public import proofs.«01_k».proof.Defs
public import proofs.«01_k».proof.Proof.Feed.Sums
public import proofs.«01_k».proof.Proof.Gen.NormBIdeal.Value
public import proofs.«01_k».proof.Proof.Gen.NormBReferenceIdeal.Read
public import Idealize.ShloMosaic.Lib.Tactic
public import Idealize.ShloMosaic.Lib.Pointwise
public import Idealize.ShloMosaic.Lib.Claim
public import Idealize.ShloMosaic.Lib.Pipeline.ValueKit

@[expose] public section

noncomputable section

namespace Cert.Proof.Norm

open Idealize.ShloMosaic

/-- What the norm takes the reciprocal root of: the mean of a row's squares and a small constant. -/
def ms (x : Fin 1024 → EReal) : EReal :=
  Ideal.div (∑ j, x j * x j) (Ideal.ofBits FTy.f32 0x44800000#32) + Ideal.ofBits FTy.f32 0x358637BD#32
/-- The derivative through that mean: the same number for every lane of a row. -/
def thr (x d g : Fin 1024 → EReal) : EReal :=
  ∑ _x : Fin 1, Ideal.div ((∑ j, x j * (d j * g j)) * (Ideal.ofBits FTy.f32 0xBF000000#32 * Ideal.div (Ideal.rsqrt (ms x)) (ms x)))
    (Ideal.ofBits FTy.f32 0x44800000#32)
/-- The gradient of a row `x` under the norm with weights `g`, from the norm's gradient `d`, added to `r`, -/
def grad (x d g : Fin 1024 → EReal) (r : EReal) (j : Fin 1024) : EReal :=
  r + (d j * g j * Ideal.rsqrt (ms x) + x j * thr x d g + thr x d g * x j)
/-- and what a row adds to the gradient of the weights. -/
def gradG (x d : Fin 1024 → EReal) (j : Fin 1024) : EReal := x j * Ideal.rsqrt (ms x) * d j

end Cert.Proof.Norm

namespace Cert.NormBIdeal.Value

open Cert.NormBIdeal Cert.NormBIdeal.Gen Idealize.ShloMosaic Idealize.ShloMosaic.TcCoe Idealize.SL.Sem
open Idealize.ShloMosaic.Pipeline (Dat)
open Cert.Proof.Feed Cert.Proof.Norm

variable (m : (ℓ : Loc nD τ sig) → Buf (Elt Ideal) ℓ) (ρ : Dev nD → PrngReg)

theorem hz : (![0, 0] : Fin 2 → Nat) = fun _ => 0 := funext fun a => by fin_cases a <;> rfl

/-! ## What the two stores hold -/

/-- The rows' gradient at an index of a block. -/
theorem row_apply (x d r : Vec Ideal S512x1024 .f32) (g : Vec Ideal S1x1024 .f32) (p : Fin 512) (q : Fin 1024) :
    k0_pay6 x d r g (ix2 p q) = grad (fun j => x (ix2 p j)) (fun j => d (ix2 p j)) (fun j => g (ix2 0 j)) (r (ix2 p q)) q := by
  unfold grad thr ms
  dsimp only
  pointwise [k0_pay6, k0_pay4, k0_pay3]

/-- What a block adds to the gradient of the weights, -/
theorem weight_apply (x d : Vec Ideal S512x1024 .f32) (acc : Vec Ideal S1x1024 .f32) (y : S1x1024.Idx) :
    k0_pay2 (k0_pay5 x d) acc y = acc y + ∑ p : Fin 512, gradG (fun j => x (ix2 p j)) (fun j => d (ix2 p j)) (y 1) := by
  unfold gradG ms
  pointwise [k0_pay2, k0_pay5, k0_pay4, k0_pay3]

/-- and where the sum starts. -/
theorem zero_apply (y : S1x1024.Idx) : k0_pay1 (F := Ideal) y = 0 := by pointwise [k0_pay1]

/-! ## What a point leaves -/

theorem out4_A (c : Dev nD) (i : grid0.Coords) (a1 h1 a2 h2 a3 h3 a4 h4 a5 h5 a6 h6 hc) (x d r : Vec Ideal S512x1024 .f32) (g : Vec Ideal S1x1024 .f32) :
    out0_A_4 c i a1 h1 a2 h2 a3 h3 a4 h4 a5 h5 a6 h6 hc x d r g = k0_pay6 x d r g := by
  unfold out0_A_4
  rw [View.read_writes_eq_canon _ _ _ (cover0_A_4 c i a1 h1 a2 h2 a3 h3 a4 h4 a5 h5 a6 h6 hc x d r g)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

theorem out4_B (c : Dev nD) (i : grid0.Coords) (a1 h1 a2 h2 a3 h3 a4 h4 a5 h5 a6 h6 hc) (x d r : Vec Ideal S512x1024 .f32) (g acc : Vec Ideal S1x1024 .f32) :
    out0_B_4 c i a1 h1 a2 h2 a3 h3 a4 h4 a5 h5 a6 h6 hc x d r g acc = k0_pay6 x d r g := by
  unfold out0_B_4
  rw [View.read_writes_eq_canon _ _ _ (cover0_B_4 c i a1 h1 a2 h2 a3 h3 a4 h4 a5 h5 a6 h6 hc x d r g acc)]
  unfold kernelRun0_B
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

theorem out5_A (c : Dev nD) (i : grid0.Coords) (a1 h1 a2 h2 a3 h3 a4 h4 a5 h5 a6 h6 hc) (x d r : Vec Ideal S512x1024 .f32) (g : Vec Ideal S1x1024 .f32) :
    out0_A_5 c i a1 h1 a2 h2 a3 h3 a4 h4 a5 h5 a6 h6 hc x d r g = k0_pay2 (k0_pay5 x d) (k0_pay1 (F := Ideal)) := by
  unfold out0_A_5
  rw [View.read_writes_eq_canon _ _ _ (cover0_A_5 c i a1 h1 a2 h2 a3 h3 a4 h4 a5 h5 a6 h6 hc x d r g)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S512x1024) hz]

theorem out5_B (c : Dev nD) (i : grid0.Coords) (a1 h1 a2 h2 a3 h3 a4 h4 a5 h5 a6 h6 hc) (x d r : Vec Ideal S512x1024 .f32) (g acc : Vec Ideal S1x1024 .f32) :
    out0_B_5 c i a1 h1 a2 h2 a3 h3 a4 h4 a5 h5 a6 h6 hc x d r g acc = k0_pay2 (k0_pay5 x d) acc := by
  unfold out0_B_5
  rw [View.read_writes_eq_canon _ _ _ (cover0_B_5 c i a1 h1 a2 h2 a3 h3 a4 h4 a5 h5 a6 h6 hc x d r g acc)]
  unfold kernelRun0_B
  dsimp only
  sl_unfold_words
  rw [View.canon_unit_zero hz]
  simp only [View.readAt_eq_ld, h1.read_unread, h2.read_unread, h6.read_unread, View.ld_unit_zero (S := S512x1024) hz, View.ld_unit_zero (S := S1x1024) hz]

/-- The block of the rows' gradient, at every point, -/
theorem rows (c : Dev nD) (t : Fin cfg0.N) : (outsAt0 m c t.val t.isLt).1 = k0_pay6 (iblk m c 0 t) (iblk m c 1 t) (iblk m c 2 t) (iblk m c 3 t) := by
  by_cases h0 : t.val % 16 = 0
  · rw [outsAt0_A m c t h0]; dsimp only; rw [out4_A]
  · rw [outsAt0_B m c t h0]; dsimp only; rw [out4_B]

/-- the weights' gradient at the first, -/
theorem first (c : Dev nD) (t : Fin cfg0.N) (h0 : t.val % 16 = 0) : (outsAt0 m c t.val t.isLt).2 = k0_pay2 (k0_pay5 (iblk m c 0 t) (iblk m c 1 t)) (k0_pay1 (F := Ideal)) := by
  rw [outsAt0_A m c t h0]; dsimp only; rw [out5_A]

/-- and at a later one. -/
theorem later (c : Dev nD) (t : Fin cfg0.N) (h0 : ¬t.val % 16 = 0) :
    (outsAt0 m c t.val t.isLt).2 = k0_pay2 (k0_pay5 (iblk m c 0 t) (iblk m c 1 t)) (outsAt0 m c (t.val - 1) (Nat.lt_of_le_of_lt (Nat.sub_le _ _) t.isLt)).2 := by
  rw [outsAt0_B m c t h0]; dsimp only; rw [out5_B]

/-! ## The blocks in the arrays -/

theorem idx_facts : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- The arguments: the rows, the norm's gradient, the gradient around it, the weights; -/
def X (c : Dev nD) (i : Fin 8192) (j : Fin 1024) : EReal := (m ((c : Thread nD τ).loc main_arg0) : Vec Ideal S8192x1024 .f32) (ix2 i j)
def D (c : Dev nD) (i : Fin 8192) (j : Fin 1024) : EReal := (m ((c : Thread nD τ).loc main_arg1) : Vec Ideal S8192x1024 .f32) (ix2 i j)
def R (c : Dev nD) (i : Fin 8192) (j : Fin 1024) : EReal := (m ((c : Thread nD τ).loc main_arg2) : Vec Ideal S8192x1024 .f32) (ix2 i j)
def W (c : Dev nD) (j : Fin 1024) : EReal := (m ((c : Thread nD τ).loc main_arg3) : Vec Ideal S1024 .f32) (ix1 j)
/-- and their blocks at a point. -/
def xblk (c : Dev nD) (t : Fin cfg0.N) (p : Fin 512) (j : Fin 1024) : EReal := (iblk m c 0 t : Vec Ideal S512x1024 .f32) (ix2 p j)
def dblk (c : Dev nD) (t : Fin cfg0.N) (p : Fin 512) (j : Fin 1024) : EReal := (iblk m c 1 t : Vec Ideal S512x1024 .f32) (ix2 p j)
def rblk (c : Dev nD) (t : Fin cfg0.N) (p : Fin 512) (j : Fin 1024) : EReal := (iblk m c 2 t : Vec Ideal S512x1024 .f32) (ix2 p j)
def wblk (c : Dev nD) (t : Fin cfg0.N) (j : Fin 1024) : EReal := (iblk m c 3 t : Vec Ideal S1x1024 .f32) (ix2 0 j)

theorem xblk_eq (c : Dev nD) (t : Fin cfg0.N) (p : Fin 512) (j : Fin 1024) (h0) : xblk m c t p j = X m c ⟨t.val * 512 + p.val, h0⟩ j := by
  unfold xblk X
  have h := (idx_facts t).1
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * p.val = _; rw [congrFun h 0]; show t.val * 512 + 1 * p.val = t.val * 512 + p.val; omega
  | ⟨1, _⟩ => show win0_0.index t 1 * 1024 + 1 * j.val = _; rw [congrFun h 1]; show 0 * 1024 + 1 * j.val = j.val; omega

theorem dblk_eq (c : Dev nD) (t : Fin cfg0.N) (p : Fin 512) (j : Fin 1024) (h0) : dblk m c t p j = D m c ⟨t.val * 512 + p.val, h0⟩ j := by
  unfold dblk D
  have h := (idx_facts t).2.1
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * p.val = _; rw [congrFun h 0]; show t.val * 512 + 1 * p.val = t.val * 512 + p.val; omega
  | ⟨1, _⟩ => show win0_1.index t 1 * 1024 + 1 * j.val = _; rw [congrFun h 1]; show 0 * 1024 + 1 * j.val = j.val; omega

theorem rblk_eq (c : Dev nD) (t : Fin cfg0.N) (p : Fin 512) (j : Fin 1024) (h0) : rblk m c t p j = R m c ⟨t.val * 512 + p.val, h0⟩ j := by
  unfold rblk R
  have h := (idx_facts t).2.2.1
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * p.val = _; rw [congrFun h 0]; show t.val * 512 + 1 * p.val = t.val * 512 + p.val; omega
  | ⟨1, _⟩ => show win0_2.index t 1 * 1024 + 1 * j.val = _; rw [congrFun h 1]; show 0 * 1024 + 1 * j.val = j.val; omega

theorem wblk_eq (c : Dev nD) (t : Fin cfg0.N) (j : Fin 1024) : wblk m c t j = W m c j := by
  unfold wblk W
  have h := (idx_facts t).2.2.2.1
  unfold iblk
  rw [View.read_apply]
  show V m c main_v0 _ = _
  entry_read
  refine congrArg (m ((c : Thread nD τ).loc main_arg3)) (Shape.reshapeEquiv_eq_of_rowMajor _ ?_)
  refine (Shape.rowMajor_val_one (ix1 j)).trans (Eq.trans ?_ (Shape.rowMajor_val_two (((View.whole main_v0).slice ((win0 3).rect t)).emb (ix2 0 j) : S1x1024.Idx)).symm)
  show j.val = (win0_3.index t 0 * 1 + 1 * 0) * 1024 + (win0_3.index t 1 * 1024 + 1 * j.val)
  rw [congrFun h 0, congrFun h 1]
  show j.val = (0 * 1 + 1 * 0) * 1024 + (0 * 1024 + 1 * j.val)
  omega

/-! ## The two results -/

/-- The rows' gradient, -/
def G4 (c : Dev nD) (y : S8192x1024.Idx) : EReal := grad (X m c (y 0)) (D m c (y 0)) (W m c) (R m c (y 0) (y 1)) (y 1)
/-- and the weights'. -/
def G5 (c : Dev nD) (y : S1x1024.Idx) : EReal := ∑ i : Fin 8192, gradG (X m c i) (D m c i) (y 1)

theorem result4 (c : Dev nD) : (dats m 0 c).arrAt 4 cfg0.N = G4 m c := by
  refine (dats m 0 c).arrAt_eq_of_covers 4 _ (by decide +kernel) fun t hf y => ?_
  have h := (idx_facts t).2.2.2.2.1
  have ht : t.val < 16 := lt_of_lt_of_eq t.isLt N_0
  have hy0 : (y 0).val < 512 := (y 0).isLt
  have e0 : (((cfg0.win 4).blk t).view.emb y 0).val = t.val * 512 + (y 0).val := by blk_simp [h]
  have e1 : (((cfg0.win 4).blk t).view.emb y 1).val = (y 1).val := by blk_simp [h]
  have f0 : ((cfg0.win 4).blk t).view.emb y 0 = (⟨t.val * 512 + (y 0).val, by omega⟩ : Fin 8192) := Fin.ext e0
  have f1 : ((cfg0.win 4).blk t).view.emb y 1 = y 1 := Fin.ext e1
  blk_simp [h]
  rw [after0_4, rows]
  refine (congrArg _ (show y = ix2 (y 0) (y 1) from funext fun a => by fin_cases a <;> rfl)).trans
    ((row_apply (iblk m c 0 t) (iblk m c 1 t) (iblk m c 2 t) (iblk m c 3 t) (y 0) (y 1)).trans ?_)
  unfold G4
  rw [f0, f1]
  have ex : xblk m c t (y 0) = X m c ⟨t.val * 512 + (y 0).val, by omega⟩ := funext fun j => xblk_eq m c t (y 0) j _
  have ed : dblk m c t (y 0) = D m c ⟨t.val * 512 + (y 0).val, by omega⟩ := funext fun j => dblk_eq m c t (y 0) j _
  have ew : wblk m c t = W m c := funext fun j => wblk_eq m c t j
  have er := rblk_eq m c t (y 0) (y 1) (by omega)
  rw [← ex, ← ed, ← ew, ← er]
  rfl

/-- What point `t` adds to the gradient of the weights. -/
def term (c : Dev nD) (y : S1x1024.Idx) (t : ℕ) (p : Fin 512) : EReal :=
  if h : t < cfg0.N then gradG (xblk m c ⟨t, h⟩ p) (dblk m c ⟨t, h⟩ p) (y 1) else 0

theorem step_eq (c : Dev nD) (t : ℕ) (h : t < cfg0.N) (acc : Vec Ideal S1x1024 .f32) (y : S1x1024.Idx) :
    k0_pay2 (k0_pay5 (iblk m c 0 ⟨t, h⟩) (iblk m c 1 ⟨t, h⟩)) acc y = acc y + ∑ p, term m c y t p := by
  refine (weight_apply ..).trans (congrArg (acc y + ·) (Finset.sum_congr rfl fun p _ => ?_))
  unfold term
  rw [dif_pos h]
  rfl

/-- The gradient of the weights after a point: the sum of the terms so far. -/
theorem so_far (c : Dev nD) (y : S1x1024.Idx) (t : ℕ) (h : t < cfg0.N) :
    (outsAt0 m c t h).2 y = ∑ κ ∈ Finset.range (t % 16 + 1), ∑ p, term m c y (16 * (t / 16) + κ) p :=
  accumulated (n := 16) (fun t h => (outsAt0 m c t h).2 y) (fun t => ∑ p, term m c y t p)
    (fun t h hz => (congrFun (first m c ⟨t, h⟩ hz) y).trans (by rw [step_eq, zero_apply, zero_add]))
    (fun t h hz => (congrFun (later m c ⟨t + 1, h⟩ hz) y).trans (step_eq m c (t + 1) h _ y))
    t h

theorem result5 (c : Dev nD) : (dats m 0 c).arrAt 5 cfg0.N = G5 m c := by
  refine (dats m 0 c).arrAt_eq_of_covers 5 _ (by decide +kernel) fun t hf y => ?_
  have h := (idx_facts t).2.2.2.2.2
  have hN : cfg0.N = 16 := N_0
  have ht : t.val = 15 := (by decide +kernel : ∀ t : Fin grid0.N, (cfg0.win 5).flush t = true → t.val = 15) t hf
  have e1 : (((cfg0.win 5).blk t).view.emb y 1).val = (y 1).val := by blk_simp [h]
  have f1 : ((cfg0.win 5).blk t).view.emb y 1 = y 1 := Fin.ext e1
  blk_simp [h]
  rw [after0_5]
  refine (so_far m c y t.val t.isLt).trans ?_
  unfold G5
  rw [f1, ht]
  refine sum_blocks (M := EReal) 16 512 8192 rfl _ _ fun κ p h => ?_
  have hk : κ.val < 16 := κ.isLt
  have hlt : 16 * (15 / 16) + κ.val < cfg0.N := by omega
  have e : 16 * (15 / 16) + κ.val = κ.val := by omega
  unfold term
  rw [dif_pos hlt]
  have hp : (⟨16 * (15 / 16) + κ.val, hlt⟩ : Fin cfg0.N).val * 512 + p.val = κ.val * 512 + p.val := by show (16 * (15 / 16) + κ.val) * 512 + p.val = _; omega
  have ex : xblk m c ⟨_, hlt⟩ p = X m c ⟨κ.val * 512 + p.val, h⟩ :=
    funext fun j => (xblk_eq m c ⟨_, hlt⟩ p j (lt_of_eq_of_lt hp h)).trans (congrArg (X m c · j) (Fin.ext hp))
  have ed : dblk m c ⟨_, hlt⟩ p = D m c ⟨κ.val * 512 + p.val, h⟩ :=
    funext fun j => (dblk_eq m c ⟨_, hlt⟩ p j (lt_of_eq_of_lt hp h)).trans (congrArg (D m c · j) (Fin.ext hp))
  rw [ex, ed]

end Cert.NormBIdeal.Value

namespace Cert.Proof.Norm

open Cert Idealize.ShloMosaic Idealize.ShloMosaic.TcCoe Idealize.SL.Sem

/-- The reference's gradient of the rows at an index, -/
theorem ref_rows (x d r : Vec Ideal NormBReferenceIdeal.S8192x1024 .f32) (g : Vec Ideal NormBReferenceIdeal.S1024 .f32) (i : Fin 8192) (j : Fin 1024) :
    NormBReferenceIdeal.Read.val_main_v36 (F := Ideal) x d r g (ix2 i j)
      = grad (fun j => x (ix2 i j)) (fun j => d (ix2 i j)) (fun j => g (ix1 j)) (r (ix2 i j)) j := by
  rw [← NormBReferenceIdeal.Read.val_main_v36_eq]
  unfold grad thr ms
  dsimp only
  rw [← add_assoc, ← add_assoc]
  pointwise []

/-- and of the weights. -/
theorem ref_weights (x d : Vec Ideal NormBReferenceIdeal.S8192x1024 .f32) (y : NormBReferenceIdeal.S1x1024.Idx) :
    NormBReferenceIdeal.Read.val_main_v37 (F := Ideal) x d y
      = ∑ i : Fin 8192, gradG (fun j => x (ix2 i j)) (fun j => d (ix2 i j)) (y 1) := by
  rw [← NormBReferenceIdeal.Read.val_main_v37_eq]
  refine Eq.trans (b := ∑ _x : Fin 1, ∑ i : Fin 8192, gradG (fun j => x (ix2 i j)) (fun j => d (ix2 i j)) (y 1)) ?_ (Fin.sum_univ_one _)
  unfold gradG ms
  pointwise []

/-- The gradient of a norm and of the path around it. -/
theorem norm_b : algebraic_NormBIdeal_NormBReferenceIdeal := fun m ρ m' ρ' _ hmm => by
  refine ⟨_, _, (θ_run NormBIdeal.defs _ _).mono (fun r h c => ⟨(h c).1.trans (NormBIdeal.Value.result4 m c), (h c).2.1.trans (NormBIdeal.Value.result5 m c), (h c).2.2⟩) (NormBIdeal.Value.run_blocks m ρ),
    (θ_run NormBReferenceIdeal.defs _ _).mono (fun r h c => ⟨(h c).1.trans ?_, (h c).2.1.trans ?_, (h c).2.2⟩) (NormBReferenceIdeal.Value.run (F := Ideal) m' ρ')⟩
  · rw [(hmm c).1, (hmm c).2.1, (hmm c).2.2.1, (hmm c).2.2.2]
    exact (NormBReferenceIdeal.Read.val_main_v36_eq ..).trans (funext fun y => (congrArg _ (show y = ix2 (y 0) (y 1) from funext fun a => by fin_cases a <;> rfl)).trans (ref_rows _ _ _ _ (y 0) (y 1)))
  · rw [(hmm c).1, (hmm c).2.1]
    exact (NormBReferenceIdeal.Read.val_main_v37_eq ..).trans (funext fun y => ref_weights _ _ y)

end Cert.Proof.Norm

end
-- ==== Proof.Norm.ConvBlock.lean ====
/-
  The gradient of the short causal convolution, one block of rows: what the kernel's two padded scratch buffers hold, and
  with them what its three stores leave.
-/
module

public import proofs.«01_k».proof.Defs
public import proofs.«01_k».proof.Proof.Gen.ConvBIdeal.Value
public import Idealize.ShloMosaic.Lib.Tactic
public import Idealize.ShloMosaic.Lib.Pointwise
public import Idealize.ShloMosaic.Lib.Pipeline.ValueKit
public import Idealize.ShloMosaic.Lib.Pipeline.CanonAppend

@[expose] public section

noncomputable section

namespace Cert.ConvBIdeal.Value

open Cert.ConvBIdeal Cert.ConvBIdeal.Gen Idealize.ShloMosaic Idealize.ShloMosaic.TcCoe Idealize.SL.Sem

theorem hz : (![0, 0] : Fin 2 → Nat) = fun _ => 0 := funext fun a => by fin_cases a <;> rfl

/-! ## The scratch buffers -/

/-- The rows of the gradient with the first rows of the next block behind them, zeros past the last block; -/
def dext (i : grid0.Coords) (d : Vec Ideal S256x1536 .f32) (dn : Vec Ideal S128x1536 .f32) (r : ℕ) (j : Fin 1536) : EReal :=
  if h : r < 256 then d (ix2 ⟨r, h⟩ j) else if h : r - 256 < 128 then k0_pay7 (F := Ideal) i dn (ix2 ⟨r - 256, h⟩ j) else 0
/-- the rows of the input with the last rows of the block before in front of them, zeros before the first block. -/
def xext (i : grid0.Coords) (x : Vec Ideal S256x1536 .f32) (xp : Vec Ideal S128x1536 .f32) (r : ℕ) (j : Fin 1536) : EReal :=
  if h : r < 128 then k0_pay8 (F := Ideal) i xp (ix2 ⟨r, h⟩ j) else if h : r - 128 < 256 then x (ix2 ⟨r - 128, h⟩ j) else 0

theorem pay6_eq (d : Vec Ideal S256x1536 .f32) : k0_pay6 (F := Ideal) d = d := funext fun y => by pointwise [k0_pay6]
theorem pay9_eq (x : Vec Ideal S256x1536 .f32) : k0_pay9 (F := Ideal) x = x := funext fun y => by pointwise [k0_pay9]

/-- A load of 256 rows of the first, from row `o`, -/
theorem dload {κ : Kind} {sp : Space} (v : View sig κ sp S384x1536 .f32) (i : grid0.Coords) (d : Vec Ideal S256x1536 .f32) (dn : Vec Ideal S128x1536 .f32) (o : ℕ) (inb : ∀ e : Fin 2, (![o, 0] : Fin 2 → ℕ) e + (![256, 1536] : Fin 2 → ℕ) e ≤ S384x1536.size e) :
    v.readCov (Val := Elt Ideal)
        [⟨Rect.unit ![256, 0] ![128, 1536] inb_S384x1536_S128x1536_256_0, k0_pay7 i dn⟩, ⟨Rect.unit ![0, 0] ![256, 1536] inb_S384x1536_S256x1536_0_0, k0_pay6 d⟩]
        (Rect.unit (s := S384x1536) ![o, 0] ![256, 1536] inb).toLoadRect
      = fun y : S256x1536.Idx => dext i d dn (o + (y 0).val) (y 1) := by
  rw [View.readCov_eq_canon']
  funext y
  refine (View.canon_apply_of_pieces (Val := Elt Ideal) (e := .f32) (fun z : S384x1536.Idx => dext i d dn (z 0).val (z 1)) _ ?_ _
    (View.cover_of_tiledBy (Val := Elt Ideal) _ ![128, 1536] (by sl_kernel_rfl) _)).trans ?_
  · intro pc hpc x
    rcases List.mem_cons.mp hpc with rfl | hpc
    · have hx : (x 0).val < 128 := (x 0).isLt
      show k0_pay7 i dn x = dext i d dn (256 + 1 * (x 0).val) _
      unfold dext
      rw [dif_neg (by omega), dif_pos (by omega)]
      refine congrArg _ (funext fun a => Fin.ext ?_)
      match a with
      | ⟨0, _⟩ => show (x 0).val = 256 + 1 * (x 0).val - 256; omega
      | ⟨1, _⟩ => show (x 1).val = 0 + 1 * (x 1).val; omega
    · obtain rfl := List.mem_singleton.mp hpc
      have hx : (x 0).val < 256 := (x 0).isLt
      show k0_pay6 d x = dext i d dn (0 + 1 * (x 0).val) _
      unfold dext
      rw [dif_pos (by omega), pay6_eq]
      refine congrArg _ (funext fun a => Fin.ext ?_)
      match a with
      | ⟨0, _⟩ => show (x 0).val = 0 + 1 * (x 0).val; omega
      | ⟨1, _⟩ => show (x 1).val = 0 + 1 * (x 1).val; omega
  · show dext i d dn (o + 1 * (y 0).val) _ = _
    rw [Nat.one_mul]
    refine congrArg _ (Fin.ext ?_)
    show 0 + 1 * (y 1).val = (y 1).val
    omega

/-- and of the second. -/
theorem xload {κ : Kind} {sp : Space} (v : View sig κ sp S384x1536 .f32) (i : grid0.Coords) (x : Vec Ideal S256x1536 .f32) (xp : Vec Ideal S128x1536 .f32) (o : ℕ) (inb : ∀ e : Fin 2, (![o, 0] : Fin 2 → ℕ) e + (![256, 1536] : Fin 2 → ℕ) e ≤ S384x1536.size e) :
    v.readCov (Val := Elt Ideal)
        [⟨Rect.unit ![128, 0] ![256, 1536] inb_S384x1536_S256x1536_128_0, k0_pay9 x⟩, ⟨Rect.unit ![0, 0] ![128, 1536] inb_S384x1536_S128x1536_0_0, k0_pay8 i xp⟩]
        (Rect.unit (s := S384x1536) ![o, 0] ![256, 1536] inb).toLoadRect
      = fun y : S256x1536.Idx => xext i x xp (o + (y 0).val) (y 1) := by
  rw [View.readCov_eq_canon']
  funext y
  refine (View.canon_apply_of_pieces (Val := Elt Ideal) (e := .f32) (fun z : S384x1536.Idx => xext i x xp (z 0).val (z 1)) _ ?_ _
    (View.cover_of_tiledBy (Val := Elt Ideal) _ ![128, 1536] (by sl_kernel_rfl) _)).trans ?_
  · intro pc hpc z
    rcases List.mem_cons.mp hpc with rfl | hpc
    · have hx : (z 0).val < 256 := (z 0).isLt
      show k0_pay9 x z = xext i x xp (128 + 1 * (z 0).val) _
      unfold xext
      rw [dif_neg (by omega), dif_pos (by omega), pay9_eq]
      refine congrArg _ (funext fun a => Fin.ext ?_)
      match a with
      | ⟨0, _⟩ => show (z 0).val = 128 + 1 * (z 0).val - 128; omega
      | ⟨1, _⟩ => show (z 1).val = 0 + 1 * (z 1).val; omega
    · obtain rfl := List.mem_singleton.mp hpc
      have hx : (z 0).val < 128 := (z 0).isLt
      show k0_pay8 i xp z = xext i x xp (0 + 1 * (z 0).val) _
      unfold xext
      rw [dif_pos (by omega)]
      refine congrArg _ (funext fun a => Fin.ext ?_)
      match a with
      | ⟨0, _⟩ => show (z 0).val = 0 + 1 * (z 0).val; omega
      | ⟨1, _⟩ => show (z 1).val = 0 + 1 * (z 1).val; omega
  · show xext i x xp (o + 1 * (y 0).val) _ = _
    rw [Nat.one_mul]
    refine congrArg _ (Fin.ext ?_)
    show 0 + 1 * (y 1).val = (y 1).val
    omega

/-! ## The rows of the taps' gradient -/

/-- A load of a row of the taps' gradient passes over a store of another row, -/
theorem skip {κ : Kind} {sp : Space} (v : View sig κ sp S4x1536 .f32) (a b : ℕ) (hab : a ≠ b)
    (inb : ∀ e : Fin 2, (![a, 0] : Fin 2 → ℕ) e + (![1, 1536] : Fin 2 → ℕ) e ≤ S4x1536.size e)
    (inb' : ∀ e : Fin 2, (![b, 0] : Fin 2 → ℕ) e + (![1, 1536] : Fin 2 → ℕ) e ≤ S4x1536.size e) (w) (L : List (View.Piece (Elt Ideal) S4x1536 .f32)) :
    v.readCov (Val := Elt Ideal) (⟨Rect.unit (s := S4x1536) ![a, 0] ![1, 1536] inb, w⟩ :: L) (Rect.unit (s := S4x1536) ![b, 0] ![1, 1536] inb').toLoadRect
      = v.readCov L (Rect.unit (s := S4x1536) ![b, 0] ![1, 1536] inb').toLoadRect :=
  View.readCov_cons_of_disjoint v _ L _ (Rect.unit_disjoint (inb := inb) (inb' := inb') 0 (by show a + 1 ≤ b ∨ b + 1 ≤ a; omega))

/-- and finds zeros where nothing but the start is stored. -/
theorem zeros {κ : Kind} {sp : Space} (v : View sig κ sp S4x1536 .f32) (b : ℕ)
    (inb : ∀ e : Fin 2, (![0, 0] : Fin 2 → ℕ) e + (![4, 1536] : Fin 2 → ℕ) e ≤ S4x1536.size e)
    (inb' : ∀ e : Fin 2, (![b, 0] : Fin 2 → ℕ) e + (![1, 1536] : Fin 2 → ℕ) e ≤ S4x1536.size e) :
    v.readCov (Val := Elt Ideal) [⟨Rect.unit (s := S4x1536) ![0, 0] ![4, 1536] inb, k0_pay4 (F := Ideal)⟩] (Rect.unit (s := S4x1536) ![b, 0] ![1, 1536] inb').toLoadRect = fun _ : S1x1536.Idx => (0 : EReal) := by
  rw [View.readCov_eq_canon']
  funext y
  rw [View.canon_unit_zero (S := S4x1536) hz]
  pointwise [k0_pay4]

/-- A load of a row, -/
theorem ld_row (a : Vec Ideal S4x1536 .f32) (b : ℕ) (hb : b < 4) (inb : ∀ e : Fin 2, (![b, 0] : Fin 2 → ℕ) e + (![1, 1536] : Fin 2 → ℕ) e ≤ S4x1536.size e) :
    View.ld a (Rect.unit (s := S4x1536) ![b, 0] ![1, 1536] inb) = fun y : S1x1536.Idx => a (ix2 ⟨b, hb⟩ (y 1)) := by
  funext y
  have h0 : (y 0).val < 1 := (y 0).isLt
  refine congrArg a (funext fun e => Fin.ext ?_)
  match e with
  | ⟨0, _⟩ => show b + 1 * (y 0).val = b; omega
  | ⟨1, _⟩ => show 0 + 1 * (y 1).val = (y 1).val; omega

/-- and what the stores of the four rows leave, whatever was stored before them. -/
theorem rows4 (G : S4x1536.Idx → EReal) (p0 p1 p2 p3 : Vec Ideal S1x1536 .f32) (L' : List (View.Piece (Elt Ideal) S4x1536 .f32))
    (h0 : ∀ y, p0 y = G (ix2 0 (y 1))) (h1 : ∀ y, p1 y = G (ix2 1 (y 1))) (h2 : ∀ y, p2 y = G (ix2 2 (y 1))) (h3 : ∀ y, p3 y = G (ix2 3 (y 1))) :
    (View.canon (Val := Elt Ideal) (⟨Rect.unit ![3, 0] ![1, 1536] inb_S4x1536_S1x1536_3_0, p3⟩ :: ⟨Rect.unit ![2, 0] ![1, 1536] inb_S4x1536_S1x1536_2_0, p2⟩
        :: ⟨Rect.unit ![1, 0] ![1, 1536] inb_S4x1536_S1x1536_1_0, p1⟩ :: ⟨Rect.unit ![0, 0] ![1, 1536] inb_S4x1536_S1x1536_0_0, p0⟩ :: L') : Vec Ideal S4x1536 .f32)
      = G := by
  funext y
  have key : ∀ (b : ℕ) (hb : b < 4) (x : S1x1536.Idx) (inb : ∀ e : Fin 2, (![b, 0] : Fin 2 → ℕ) e + (![1, 1536] : Fin 2 → ℕ) e ≤ S4x1536.size e), (ix2 ⟨b, hb⟩ (x 1) : S4x1536.Idx) = (Rect.unit (s := S4x1536) ![b, 0] ![1, 1536] inb).emb x := by
    intro b hb x inb
    have h0 : (x 0).val < 1 := (x 0).isLt
    refine funext fun e => Fin.ext ?_
    match e with
    | ⟨0, _⟩ => show b = b + 1 * (x 0).val; omega
    | ⟨1, _⟩ => show (x 1).val = 0 + 1 * (x 1).val; omega
  refine View.canon_append_of_pieces (Val := Elt Ideal) (e := .f32) G L' [⟨Rect.unit ![3, 0] ![1, 1536] inb_S4x1536_S1x1536_3_0, p3⟩, ⟨Rect.unit ![2, 0] ![1, 1536] inb_S4x1536_S1x1536_2_0, p2⟩,
        ⟨Rect.unit ![1, 0] ![1, 1536] inb_S4x1536_S1x1536_1_0, p1⟩, ⟨Rect.unit ![0, 0] ![1, 1536] inb_S4x1536_S1x1536_0_0, p0⟩] ?_ y
    (View.cover_of_tiledBy (Val := Elt Ideal) _ ![1, 1536] (by sl_kernel_rfl) y)
  intro pc hpc x
  rcases List.mem_cons.mp hpc with rfl | hpc
  · exact (h3 x).trans (congrArg G (key 3 (by decide) x inb_S4x1536_S1x1536_3_0))
  rcases List.mem_cons.mp hpc with rfl | hpc
  · exact (h2 x).trans (congrArg G (key 2 (by decide) x inb_S4x1536_S1x1536_2_0))
  rcases List.mem_cons.mp hpc with rfl | hpc
  · exact (h1 x).trans (congrArg G (key 1 (by decide) x inb_S4x1536_S1x1536_1_0))
  obtain rfl := List.mem_singleton.mp hpc
  exact (h0 x).trans (congrArg G (key 0 (by decide) x inb_S4x1536_S1x1536_0_0))

/-! ## What the stores hold at an index -/

theorem dx_apply (d d1 d2 d3 : Vec Ideal S256x1536 .f32) (w0 w1 w2 w3 : Vec Ideal S1x1536 .f32) (y : S256x1536.Idx) :
    k0_pay11 (F := Ideal) (k0_pay10 d w3) w0 d3 w1 d2 w2 d1 y
      = w3 (ix2 0 (y 1)) * d y + w0 (ix2 0 (y 1)) * d3 y + w1 (ix2 0 (y 1)) * d2 y + w2 (ix2 0 (y 1)) * d1 y := by
  pointwise [k0_pay11, k0_pay10]

theorem dw0_apply (d x : Vec Ideal S256x1536 .f32) (acc : Vec Ideal S1x1536 .f32) (y : S1x1536.Idx) :
    k0_pay12 (F := Ideal) d x acc y = acc y + ∑ p : Fin 256, d (ix2 p (y 1)) * x (ix2 p (y 1)) := by pointwise [k0_pay12]
theorem dw1_apply (d x : Vec Ideal S256x1536 .f32) (acc : Vec Ideal S1x1536 .f32) (y : S1x1536.Idx) :
    k0_pay13 (F := Ideal) d x acc y = acc y + ∑ p : Fin 256, d (ix2 p (y 1)) * x (ix2 p (y 1)) := by pointwise [k0_pay13]
theorem dw2_apply (d x : Vec Ideal S256x1536 .f32) (acc : Vec Ideal S1x1536 .f32) (y : S1x1536.Idx) :
    k0_pay1 (F := Ideal) d x acc y = acc y + ∑ p : Fin 256, d (ix2 p (y 1)) * x (ix2 p (y 1)) := by pointwise [k0_pay1]
theorem dw3_apply (d x : Vec Ideal S256x1536 .f32) (acc : Vec Ideal S1x1536 .f32) (y : S1x1536.Idx) :
    k0_pay2 (F := Ideal) d x acc y = acc y + ∑ p : Fin 256, d (ix2 p (y 1)) * x (ix2 p (y 1)) := by pointwise [k0_pay2]
theorem db_apply (d : Vec Ideal S256x1536 .f32) (acc : Vec Ideal S1x1536 .f32) (y : S1x1536.Idx) :
    k0_pay3 (F := Ideal) d acc y = acc y + ∑ p : Fin 256, d (ix2 p (y 1)) := by pointwise [k0_pay3]
theorem db0_apply (y : S1x1536.Idx) : k0_pay5 (F := Ideal) y = 0 := by pointwise [k0_pay5]

/-- The block of the input's gradient, -/
def dxBlk (i : grid0.Coords) (d : Vec Ideal S256x1536 .f32) (dn : Vec Ideal S128x1536 .f32) (w : Vec Ideal S4x1536 .f32) : Vec Ideal S256x1536 .bf16 := fun y =>
  w (ix2 3 (y 1)) * d y + w (ix2 0 (y 1)) * dext i d dn (3 + (y 0).val) (y 1) + w (ix2 1 (y 1)) * dext i d dn (2 + (y 0).val) (y 1)
    + w (ix2 2 (y 1)) * dext i d dn (1 + (y 0).val) (y 1)
/-- what a block adds to the taps' gradient -/
def dwBlk (i : grid0.Coords) (d : Vec Ideal S256x1536 .f32) (x : Vec Ideal S256x1536 .f32) (xp : Vec Ideal S128x1536 .f32) (y : S4x1536.Idx) : EReal :=
  ∑ p : Fin 256, d (ix2 p (y 1)) * xext i x xp (125 + (y 0).val + p.val) (y 1)
/-- and to the bias's. -/
def dbBlk (d : Vec Ideal S256x1536 .f32) (y : S1x1536.Idx) : EReal := ∑ p : Fin 256, d (ix2 p (y 1))

/-! ## What a point leaves -/

section

variable (c : Dev nD) (i : grid0.Coords) (d : Vec Ideal S256x1536 .f32) (dn : Vec Ideal S128x1536 .f32) (x : Vec Ideal S256x1536 .f32) (xp : Vec Ideal S128x1536 .f32) (w : Vec Ideal S4x1536 .f32)
  (acc6 : Vec Ideal S4x1536 .f32) (acc7 : Vec Ideal S1x1536 .f32)

theorem out5_A (a1 h1 a2 h2 a3 h3 a4 h4 a5 h5 a6 h6 a7 h7 a8 h8 a9 h9 a10 h10 hc) :
    out0_A_5 (F := Ideal) c i a1 h1 a2 h2 a3 h3 a4 h4 a5 h5 a6 h6 a7 h7 a8 h8 a9 h9 a10 h10 hc d dn x xp w = dxBlk i d dn w := by
  unfold out0_A_5
  rw [View.read_writes_eq_canon _ _ _ (cover0_A_5 c i a1 h1 a2 h2 a3 h3 a4 h4 a5 h5 a6 h6 a7 h7 a8 h8 a9 h9 a10 h10 hc d dn x xp w)]
  unfold kernelRun0_A
  dsimp only
  sl_unfold_words
  rw [View.canon_unit_zero hz]
  simp only [View.readAt_eq_ld, h1.read_unread, h2.read_unread, h5.read_unread, View.ld_unit_zero (S := S256x1536) hz, View.ld_unit_zero (S := S128x1536) hz]
  funext y
  refine (dx_apply ..).trans ?_
  rw [dload, dload, dload, ld_row w 0 (by decide), ld_row w 1 (by decide), ld_row w 2 (by decide), ld_row w 3 (by decide)]
  rfl

theorem out5_B (a1 h1 a2 h2 a3 h3 a4 h4 a5 h5 a6 h6 a7 h7 a8 h8 a9 h9 a10 h10 hc) :
    out0_B_5 (F := Ideal) c i a1 h1 a2 h2 a3 h3 a4 h4 a5 h5 a6 h6 a7 h7 a8 h8 a9 h9 a10 h10 hc d dn x xp w acc6 acc7 = dxBlk i d dn w := by
  unfold out0_B_5
  rw [View.read_writes_eq_canon _ _ _ (cover0_B_5 c i a1 h1 a2 h2 a3 h3 a4 h4 a5 h5 a6 h6 a7 h7 a8 h8 a9 h9 a10 h10 hc d dn x xp w acc6 acc7)]
  unfold kernelRun0_B
  dsimp only
  sl_unfold_words
  rw [View.canon_unit_zero hz]
  simp only [View.readAt_eq_ld, h1.read_unread, h2.read_unread, h5.read_unread, View.ld_unit_zero (S := S256x1536) hz, View.ld_unit_zero (S := S128x1536) hz]
  funext y
  refine (dx_apply ..).trans ?_
  rw [dload, dload, dload, ld_row w 0 (by decide), ld_row w 1 (by decide), ld_row w 2 (by decide), ld_row w 3 (by decide)]
  rfl

theorem out6_A (a1 h1 a2 h2 a3 h3 a4 h4 a5 h5 a6 h6 a7 h7 a8 h8 a9 h9 a10 h10 hc) :
    out0_A_6 (F := Ideal) c i a1 h1 a2 h2 a3 h3 a4 h4 a5 h5 a6 h6 a7 h7 a8 h8 a9 h9 a10 h10 hc d dn x xp w = fun y => 0 + dwBlk i d x xp y := by
  unfold out0_A_6
  rw [View.read_writes_eq_canon _ _ _ (cover0_A_6 c i a1 h1 a2 h2 a3 h3 a4 h4 a5 h5 a6 h6 a7 h7 a8 h8 a9 h9 a10 h10 hc d dn x xp w)]
  unfold kernelRun0_A
  dsimp only
  sl_unfold_words
  simp only [View.readAt_eq_ld, h1.read_unread, h3.read_unread, h4.read_unread, View.ld_unit_zero (S := S256x1536) hz, View.ld_unit_zero (S := S128x1536) hz]
  refine rows4 _ _ _ _ _ _ (fun y => (dw0_apply ..).trans ?_) (fun y => (dw1_apply ..).trans ?_) (fun y => (dw2_apply ..).trans ?_) (fun y => (dw3_apply ..).trans ?_)
  · rw [zeros, xload]; rfl
  · rw [skip _ 0 1 (by decide), zeros, xload]; rfl
  · rw [skip _ 1 2 (by decide), skip _ 0 2 (by decide), zeros, xload]; rfl
  · rw [skip _ 2 3 (by decide), skip _ 1 3 (by decide), skip _ 0 3 (by decide), zeros, xload]; rfl

theorem out6_B (a1 h1 a2 h2 a3 h3 a4 h4 a5 h5 a6 h6 a7 h7 a8 h8 a9 h9 a10 h10 hc) :
    out0_B_6 (F := Ideal) c i a1 h1 a2 h2 a3 h3 a4 h4 a5 h5 a6 h6 a7 h7 a8 h8 a9 h9 a10 h10 hc d dn x xp w acc6 acc7 = fun y => acc6 y + dwBlk i d x xp y := by
  unfold out0_B_6
  rw [View.read_writes_eq_canon _ _ _ (cover0_B_6 c i a1 h1 a2 h2 a3 h3 a4 h4 a5 h5 a6 h6 a7 h7 a8 h8 a9 h9 a10 h10 hc d dn x xp w acc6 acc7)]
  unfold kernelRun0_B
  dsimp only
  sl_unfold_words
  simp only [View.readAt_eq_ld, h1.read_unread, h3.read_unread, h4.read_unread, h7.read_unread, View.ld_unit_zero (S := S256x1536) hz, View.ld_unit_zero (S := S128x1536) hz]
  refine rows4 _ _ _ _ _ _ (fun y => (dw0_apply ..).trans ?_) (fun y => (dw1_apply ..).trans ?_) (fun y => (dw2_apply ..).trans ?_) (fun y => (dw3_apply ..).trans ?_)
  · rw [ld_row acc6 0 (by decide), xload]; rfl
  · rw [ld_row acc6 1 (by decide), xload]; rfl
  · rw [ld_row acc6 2 (by decide), xload]; rfl
  · rw [ld_row acc6 3 (by decide), xload]; rfl

theorem out7_A (a1 h1 a2 h2 a3 h3 a4 h4 a5 h5 a6 h6 a7 h7 a8 h8 a9 h9 a10 h10 hc) :
    out0_A_7 (F := Ideal) c i a1 h1 a2 h2 a3 h3 a4 h4 a5 h5 a6 h6 a7 h7 a8 h8 a9 h9 a10 h10 hc d dn x xp w = fun y => 0 + dbBlk d y := by
  unfold out0_A_7
  rw [View.read_writes_eq_canon _ _ _ (cover0_A_7 c i a1 h1 a2 h2 a3 h3 a4 h4 a5 h5 a6 h6 a7 h7 a8 h8 a9 h9 a10 h10 hc d dn x xp w)]
  unfold kernelRun0_A
  dsimp only
  sl_unfold_words
  rw [View.canon_cons_unit_zero (S := S1x1536) hz, View.readCov_unit_zero (S := S1x1536) _ hz]
  simp only [View.readAt_eq_ld, h1.read_unread, View.ld_unit_zero (S := S256x1536) hz]
  funext y
  rw [db_apply, db0_apply]
  rfl

theorem out7_B (a1 h1 a2 h2 a3 h3 a4 h4 a5 h5 a6 h6 a7 h7 a8 h8 a9 h9 a10 h10 hc) :
    out0_B_7 (F := Ideal) c i a1 h1 a2 h2 a3 h3 a4 h4 a5 h5 a6 h6 a7 h7 a8 h8 a9 h9 a10 h10 hc d dn x xp w acc6 acc7 = fun y => acc7 y + dbBlk d y := by
  unfold out0_B_7
  rw [View.read_writes_eq_canon _ _ _ (cover0_B_7 c i a1 h1 a2 h2 a3 h3 a4 h4 a5 h5 a6 h6 a7 h7 a8 h8 a9 h9 a10 h10 hc d dn x xp w acc6 acc7)]
  unfold kernelRun0_B
  dsimp only
  sl_unfold_words
  rw [View.canon_unit_zero hz]
  simp only [View.readAt_eq_ld, h1.read_unread, h8.read_unread, View.ld_unit_zero (S := S256x1536) hz, View.ld_unit_zero (S := S1x1536) hz]
  funext y
  rw [db_apply]
  rfl

end

end Cert.ConvBIdeal.Value

end
-- ==== Proof.Norm.ConvB.lean ====
/-
  The gradient of the short causal convolution: the kernel's blocks of rows put together are the derivative of the plain
  sum of shifted products, for the input, the taps and the bias.
-/
module

public import proofs.«01_k».proof.Proof.Norm.ConvBlock
public import proofs.«01_k».proof.Proof.Feed.Sums
public import proofs.«01_k».proof.Proof.Gen.ConvBReferenceIdeal.Read
public import Idealize.ShloMosaic.Lib.Claim

@[expose] public section

noncomputable section

namespace Cert.ConvBIdeal.Value

open Cert.ConvBIdeal Cert.ConvBIdeal.Gen Idealize.ShloMosaic Idealize.ShloMosaic.TcCoe Idealize.SL.Sem
open Cert.Proof.Feed

variable (m : (ℓ : Loc nD τ sig) → Buf (Elt Ideal) ℓ) (ρ : Dev nD → PrngReg)

/-! ## The blocks in the arrays -/

theorem idx_facts : ∀ t : Fin cfg0.N, win0_0.index t = ![t.val, 0] ∧ win0_1.index t = ![min (2 * t.val + 2) 63, 0] ∧ win0_2.index t = ![t.val, 2]
    ∧ win0_3.index t = ![2 * t.val - 1, 2] ∧ win0_4.index t = ![0, 0] ∧ win0_5.index t = ![t.val, 0] ∧ win0_6.index t = ![0, 0] ∧ win0_7.index t = ![0, 0] :=
  (by decide +kernel : ∀ t : Fin grid0.N, _)

/-- Which points have a block after them, and which before. -/
theorem next_facts : ∀ t : Fin grid0.N, Scalar.cmpi CmpIPredicate.slt (BitVec.ofNat 32 ((grid0.coords t) 0).val) 31#32 = if t.val < 31 then 1#1 else 0#1 := by decide +kernel
theorem prev_facts : ∀ t : Fin grid0.N, Scalar.cmpi CmpIPredicate.sgt (BitVec.ofNat 32 ((grid0.coords t) 0).val) 0#32 = if 0 < t.val then 1#1 else 0#1 := by decide +kernel

/-- The convolution's gradient, zeros past the last row; -/
def D (c : Dev nD) (r : ℕ) (j : Fin 1536) : EReal :=
  if h : r < 8192 then (m ((c : Thread nD τ).loc main_arg0) : Vec Ideal S8192x1536 .f32) (ix2 ⟨r, h⟩ j) else 0
/-- the input, three rows on, zeros before the first; -/
def X3 (c : Dev nD) (r : ℕ) (j : Fin 1536) : EReal :=
  if h : 3 ≤ r ∧ r - 3 < 8192 then (m ((c : Thread nD τ).loc main_arg1) : Vec Ideal S8192x5120 .f32) (ix2 ⟨r - 3, h.2⟩ ⟨3072 + j.val, by omega⟩) else 0
/-- the taps; -/
def W (c : Dev nD) (k : Fin 4) (j : Fin 1536) : EReal := (m ((c : Thread nD τ).loc main_arg2) : Vec Ideal S4x1536 .f32) (ix2 k j)
/-- and their blocks at a point. -/
def dblk (c : Dev nD) (t : Fin cfg0.N) (p : Fin 256) (j : Fin 1536) : EReal := (iblk m c 0 t : Vec Ideal S256x1536 .f32) (ix2 p j)
def nblk (c : Dev nD) (t : Fin cfg0.N) (p : Fin 128) (j : Fin 1536) : EReal := (iblk m c 1 t : Vec Ideal S128x1536 .f32) (ix2 p j)
def xblk (c : Dev nD) (t : Fin cfg0.N) (p : Fin 256) (j : Fin 1536) : EReal := (X0_2 m c t : Vec Ideal S256x1536 .f32) (ix2 p j)
def pblk (c : Dev nD) (t : Fin cfg0.N) (p : Fin 128) (j : Fin 1536) : EReal := (X0_3 m c t : Vec Ideal S128x1536 .f32) (ix2 p j)
def wblk (c : Dev nD) (t : Fin cfg0.N) (k : Fin 4) (j : Fin 1536) : EReal := (iblk m c 4 t : Vec Ideal S4x1536 .f32) (ix2 k j)

theorem dblk_eq (c : Dev nD) (t : Fin cfg0.N) (p : Fin 256) (j : Fin 1536) : dblk m c t p j = D m c (256 * t.val + p.val) j := by
  have ht : t.val < 32 := lt_of_lt_of_eq t.isLt N_0
  unfold dblk D
  rw [dif_pos (by omega)]
  have h := (idx_facts t).1
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * p.val = _; rw [congrFun h 0]; show t.val * 256 + 1 * p.val = 256 * t.val + p.val; omega
  | ⟨1, _⟩ => show win0_0.index t 1 * 1536 + 1 * j.val = _; rw [congrFun h 1]; show 0 * 1536 + 1 * j.val = j.val; omega

theorem nblk_eq (c : Dev nD) (t : Fin cfg0.N) (ht : t.val < 31) (p : Fin 128) (j : Fin 1536) : nblk m c t p j = D m c (256 * t.val + 256 + p.val) j := by
  unfold nblk D
  rw [dif_pos (by omega)]
  have h := (idx_facts t).2.1
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 128 + 1 * p.val = _; rw [congrFun h 0]; show min (2 * t.val + 2) 63 * 128 + 1 * p.val = 256 * t.val + 256 + p.val; omega
  | ⟨1, _⟩ => show win0_1.index t 1 * 1536 + 1 * j.val = _; rw [congrFun h 1]; show 0 * 1536 + 1 * j.val = j.val; omega

theorem xblk_eq (c : Dev nD) (t : Fin cfg0.N) (p : Fin 256) (j : Fin 1536) : xblk m c t p j = X3 m c (256 * t.val + p.val + 3) j := by
  have ht : t.val < 32 := lt_of_lt_of_eq t.isLt N_0
  unfold xblk X3
  rw [dif_pos (by omega)]
  have h := (idx_facts t).2.2.1
  unfold X0_2 Pipeline.Window.fill
  rw [dif_pos (moved0_2 t _)]
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t 0 * 256 + 1 * p.val = _; rw [congrFun h 0]; show t.val * 256 + 1 * p.val = 256 * t.val + p.val + 3 - 3; omega
  | ⟨1, _⟩ => show win0_2.index t 1 * 1536 + 1 * j.val = _; rw [congrFun h 1]; show 2 * 1536 + 1 * j.val = 3072 + j.val; omega

theorem pblk_eq (c : Dev nD) (t : Fin cfg0.N) (ht : 0 < t.val) (p : Fin 128) (j : Fin 1536) : pblk m c t p j = X3 m c (256 * t.val + p.val - 125) j := by
  have ht' : t.val < 32 := lt_of_lt_of_eq t.isLt N_0
  unfold pblk X3
  rw [dif_pos (by omega)]
  have h := (idx_facts t).2.2.2.1
  unfold X0_3 Pipeline.Window.fill
  rw [dif_pos (moved0_3 t _)]
  unfold iblk
  rw [View.read_apply]
  show V m c main_arg1 _ = _
  rw [V_main_arg1]
  refine congrArg (m ((c : Thread nD τ).loc main_arg1)) (funext fun a => Fin.ext ?_)
  match a with
  | ⟨0, _⟩ => show win0_3.index t 0 * 128 + 1 * p.val = _; rw [congrFun h 0]; show (2 * t.val - 1) * 128 + 1 * p.val = 256 * t.val + p.val - 125 - 3; omega
  | ⟨1, _⟩ => show win0_3.index t 1 * 1536 + 1 * j.val = _; rw [congrFun h 1]; show 2 * 1536 + 1 * j.val = 3072 + j.val; omega

theorem wblk_eq (c : Dev nD) (t : Fin cfg0.N) (k : Fin 4) (j : Fin 1536) : wblk m c t k j = W m c k j := by
  unfold wblk W
  have h := (idx_facts t).2.2.2.2.1
  unfold iblk
  rw [View.read_apply]
  show V m c main_arg2 _ = _
  rw [V_main_arg2]
  refine congrArg (m ((c : Thread nD τ).loc main_arg2)) (funext fun a => Fin.ext ?_)
  match a with
  | ⟨0, _⟩ => show win0_4.index t 0 * 4 + 1 * k.val = _; rw [congrFun h 0]; show 0 * 4 + 1 * k.val = k.val; omega
  | ⟨1, _⟩ => show win0_4.index t 1 * 1536 + 1 * j.val = _; rw [congrFun h 1]; show 0 * 1536 + 1 * j.val = j.val; omega

/-! ## The scratch buffers in the arrays -/

theorem pay7_apply (i : grid0.Coords) (dn : Vec Ideal S128x1536 .f32) (y : S128x1536.Idx) :
    k0_pay7 (F := Ideal) i dn y = Scalar.select (Scalar.cmpi CmpIPredicate.slt (BitVec.ofNat 32 (i 0).val) 31#32) (dn y) 0 := by pointwise [k0_pay7]
theorem pay8_apply (i : grid0.Coords) (xp : Vec Ideal S128x1536 .f32) (y : S128x1536.Idx) :
    k0_pay8 (F := Ideal) i xp y = Scalar.select (Scalar.cmpi CmpIPredicate.sgt (BitVec.ofNat 32 (i 0).val) 0#32) (xp y) 0 := by pointwise [k0_pay8]

theorem dext_eq (c : Dev nD) (t : Fin cfg0.N) (r : ℕ) (hr : r < 384) (j : Fin 1536) :
    dext (grid0.coords t) (iblk m c 0 t) (iblk m c 1 t) r j = D m c (256 * t.val + r) j := by
  have ht : t.val < 32 := lt_of_lt_of_eq t.isLt N_0
  unfold dext
  by_cases h : r < 256
  · rw [dif_pos h]
    exact dblk_eq m c t ⟨r, h⟩ j
  · rw [dif_neg h, dif_pos (by omega), pay7_apply, next_facts t]
    by_cases h31 : t.val < 31
    · rw [if_pos h31]
      refine (nblk_eq m c t h31 ⟨r - 256, by omega⟩ j).trans (congrArg (D m c · j) ?_)
      show 256 * t.val + 256 + (r - 256) = _
      omega
    · rw [if_neg h31]
      unfold D
      rw [dif_neg (by omega)]
      rfl

theorem xext_eq (c : Dev nD) (t : Fin cfg0.N) (r : ℕ) (hr : r < 259) (j : Fin 1536) :
    xext (grid0.coords t) (X0_2 m c t) (X0_3 m c t) (125 + r) j = X3 m c (256 * t.val + r) j := by
  unfold xext
  by_cases h : 125 + r < 128
  · rw [dif_pos h, pay8_apply, prev_facts t]
    by_cases h0 : 0 < t.val
    · rw [if_pos h0]
      refine (pblk_eq m c t h0 ⟨125 + r, h⟩ j).trans (congrArg (X3 m c · j) ?_)
      show 256 * t.val + (125 + r) - 125 = _
      omega
    · rw [if_neg h0]
      unfold X3
      rw [dif_neg (by omega)]
      rfl
  · rw [dif_neg h, dif_pos (by omega)]
    refine (xblk_eq m c t ⟨125 + r - 128, by omega⟩ j).trans (congrArg (X3 m c · j) ?_)
    show 256 * t.val + (125 + r - 128) + 3 = _
    omega

/-! ## What a point leaves -/

/-- The block of the input's gradient, at every point, -/
theorem rows (c : Dev nD) (t : Fin cfg0.N) : (outsAt0 m c t.val t.isLt).1 = dxBlk (grid0.coords t) (iblk m c 0 t) (iblk m c 1 t) (iblk m c 4 t) := by
  by_cases h0 : t.val % 32 = 0
  · rw [outsAt0_A m c t h0]; dsimp only; rw [out5_A]
  · rw [outsAt0_B m c t h0]; dsimp only; rw [out5_B]

/-- the sums at the first, -/
theorem first (c : Dev nD) (t : Fin cfg0.N) (h0 : t.val % 32 = 0) :
    (outsAt0 m c t.val t.isLt).2.1 = (fun y => 0 + dwBlk (grid0.coords t) (iblk m c 0 t) (X0_2 m c t) (X0_3 m c t) y)
      ∧ (outsAt0 m c t.val t.isLt).2.2 = fun y => 0 + dbBlk (iblk m c 0 t) y := by
  rw [outsAt0_A m c t h0]; dsimp only; rw [out6_A, out7_A]; exact ⟨rfl, rfl⟩

/-- and at a later one. -/
theorem later (c : Dev nD) (t : Fin cfg0.N) (h0 : ¬t.val % 32 = 0) :
    (outsAt0 m c t.val t.isLt).2.1 = (fun y => (outsAt0 m c (t.val - 1) (Nat.lt_of_le_of_lt (Nat.sub_le _ _) t.isLt)).2.1 y + dwBlk (grid0.coords t) (iblk m c 0 t) (X0_2 m c t) (X0_3 m c t) y)
      ∧ (outsAt0 m c t.val t.isLt).2.2 = fun y => (outsAt0 m c (t.val - 1) (Nat.lt_of_le_of_lt (Nat.sub_le _ _) t.isLt)).2.2 y + dbBlk (iblk m c 0 t) y := by
  rw [outsAt0_B m c t h0]; dsimp only; rw [out6_B, out7_B]; exact ⟨rfl, rfl⟩

/-! ## The three results -/

/-- The input's gradient: every later row the taps reach, -/
def G5 (c : Dev nD) (y : S8192x1536.Idx) : EReal :=
  W m c 3 (y 1) * D m c (y 0).val (y 1) + W m c 0 (y 1) * D m c ((y 0).val + 3) (y 1) + W m c 1 (y 1) * D m c ((y 0).val + 2) (y 1)
    + W m c 2 (y 1) * D m c ((y 0).val + 1) (y 1)
/-- a tap's, -/
def G6 (c : Dev nD) (y : S4x1536.Idx) : EReal := ∑ r : Fin 8192, D m c r.val (y 1) * X3 m c (r.val + (y 0).val) (y 1)
/-- and the bias's. -/
def G7 (c : Dev nD) (y : S1x1536.Idx) : EReal := ∑ r : Fin 8192, D m c r.val (y 1)

theorem result5 (c : Dev nD) : (dats m 0 c).arrAt 5 cfg0.N = G5 m c := by
  refine (dats m 0 c).arrAt_eq_of_covers 5 _ (by decide +kernel) fun t hf y => ?_
  have h := (idx_facts t).2.2.2.2.2.1
  have hy0 : (y 0).val < 256 := (y 0).isLt
  have e0 : (((cfg0.win 5).blk t).view.emb y 0).val = t.val * 256 + (y 0).val := by blk_simp [h]
  have e1 : (((cfg0.win 5).blk t).view.emb y 1).val = (y 1).val := by blk_simp [h]
  have f1 : ((cfg0.win 5).blk t).view.emb y 1 = y 1 := Fin.ext e1
  blk_simp [h]
  rw [after0_5, rows]
  have ed : (iblk m c 0 t : Vec Ideal S256x1536 .f32) y = D m c (t.val * 256 + (y 0).val) (y 1) :=
    (congrArg (iblk m c 0 t) (show y = ix2 (y 0) (y 1) from funext fun a => by fin_cases a <;> rfl)).trans
      ((dblk_eq m c t (y 0) (y 1)).trans (congrArg (D m c · (y 1)) (by omega)))
  have ex : ∀ k : ℕ, k < 4 → dext (grid0.coords t) (iblk m c 0 t) (iblk m c 1 t) (k + (y 0).val) (y 1) = D m c (t.val * 256 + (y 0).val + k) (y 1) :=
    fun k hk => (dext_eq m c t _ (by omega) _).trans (congrArg (D m c · (y 1)) (by omega))
  have ew : ∀ k, (iblk m c 4 t : Vec Ideal S4x1536 .f32) (ix2 k (y 1)) = W m c k (y 1) := fun k => wblk_eq m c t k (y 1)
  unfold G5
  rw [f1, e0]
  exact congrArg₂ (· + ·) (congrArg₂ (· + ·) (congrArg₂ (· + ·) (congrArg₂ (· * ·) (ew 3) ed) (congrArg₂ (· * ·) (ew 0) (ex 3 (by decide))))
    (congrArg₂ (· * ·) (ew 1) (ex 2 (by decide)))) (congrArg₂ (· * ·) (ew 2) (ex 1 (by decide)))

/-- What point `t` adds to the taps' gradient, -/
def term6 (c : Dev nD) (y : S4x1536.Idx) (t : ℕ) (p : Fin 256) : EReal :=
  D m c (256 * t + p.val) (y 1) * X3 m c (256 * t + p.val + (y 0).val) (y 1)
/-- and to the bias's. -/
def term7 (c : Dev nD) (y : S1x1536.Idx) (t : ℕ) (p : Fin 256) : EReal := D m c (256 * t + p.val) (y 1)

theorem dw_eq (c : Dev nD) (t : Fin cfg0.N) (y : S4x1536.Idx) : dwBlk (grid0.coords t) (iblk m c 0 t) (X0_2 m c t) (X0_3 m c t) y = ∑ p : Fin 256, term6 m c y t.val p := by
  have hy : (y 0).val < 4 := (y 0).isLt
  refine Finset.sum_congr rfl fun p _ => ?_
  exact congrArg₂ (· * ·) (dblk_eq m c t p (y 1))
    ((congrArg (xext _ _ _ · (y 1)) (show 125 + (y 0).val + p.val = 125 + (p.val + (y 0).val) by omega)).trans
      ((xext_eq m c t _ (by omega) _).trans (congrArg (X3 m c · (y 1)) (by omega))))
theorem db_eq (c : Dev nD) (t : Fin cfg0.N) (y : S1x1536.Idx) : dbBlk (iblk m c 0 t) y = ∑ p, term7 m c y t.val p :=
  Finset.sum_congr rfl fun p _ => dblk_eq m c t p (y 1)

/-- The taps' gradient after a point: the sum of the terms so far, -/
theorem so_far6 (c : Dev nD) (y : S4x1536.Idx) (t : ℕ) (h : t < cfg0.N) :
    (outsAt0 m c t h).2.1 y = ∑ κ ∈ Finset.range (t % 32 + 1), ∑ p, term6 m c y (32 * (t / 32) + κ) p :=
  accumulated (n := 32) (fun t h => (outsAt0 m c t h).2.1 y) (fun t => ∑ p, term6 m c y t p)
    (fun t h hz => (congrFun (first m c ⟨t, h⟩ hz).1 y).trans ((zero_add _).trans (dw_eq m c ⟨t, h⟩ y)))
    (fun t h hz => (congrFun (later m c ⟨t + 1, h⟩ hz).1 y).trans (congrArg (_ + ·) (dw_eq m c ⟨t + 1, h⟩ y)))
    t h

/-- and the bias's. -/
theorem so_far7 (c : Dev nD) (y : S1x1536.Idx) (t : ℕ) (h : t < cfg0.N) :
    (outsAt0 m c t h).2.2 y = ∑ κ ∈ Finset.range (t % 32 + 1), ∑ p, term7 m c y (32 * (t / 32) + κ) p :=
  accumulated (n := 32) (fun t h => (outsAt0 m c t h).2.2 y) (fun t => ∑ p, term7 m c y t p)
    (fun t h hz => (congrFun (first m c ⟨t, h⟩ hz).2 y).trans ((zero_add _).trans (db_eq m c ⟨t, h⟩ y)))
    (fun t h hz => (congrFun (later m c ⟨t + 1, h⟩ hz).2 y).trans (congrArg (_ + ·) (db_eq m c ⟨t + 1, h⟩ y)))
    t h

theorem result6 (c : Dev nD) : (dats m 0 c).arrAt 6 cfg0.N = G6 m c := by
  refine (dats m 0 c).arrAt_eq_of_covers 6 _ (by decide +kernel) fun t hf y => ?_
  have h := (idx_facts t).2.2.2.2.2.2.1
  have ht : t.val = 31 := (by decide +kernel : ∀ t : Fin grid0.N, (cfg0.win 6).flush t = true → t.val = 31) t hf
  have e0 : (((cfg0.win 6).blk t).view.emb y 0).val = (y 0).val := by blk_simp [h]
  have e1 : (((cfg0.win 6).blk t).view.emb y 1).val = (y 1).val := by blk_simp [h]
  have f1 : ((cfg0.win 6).blk t).view.emb y 1 = y 1 := Fin.ext e1
  blk_simp [h]
  rw [after0_6]
  refine (so_far6 m c y t.val t.isLt).trans ?_
  unfold G6
  rw [f1, e0, ht]
  refine sum_blocks (M := EReal) 32 256 8192 rfl _ _ fun κ p h => ?_
  have e : 256 * (32 * (31 / 32) + κ.val) + p.val = κ.val * 256 + p.val := by omega
  unfold term6
  rw [e]

theorem result7 (c : Dev nD) : (dats m 0 c).arrAt 7 cfg0.N = G7 m c := by
  refine (dats m 0 c).arrAt_eq_of_covers 7 _ (by decide +kernel) fun t hf y => ?_
  have h := (idx_facts t).2.2.2.2.2.2.2
  have ht : t.val = 31 := (by decide +kernel : ∀ t : Fin grid0.N, (cfg0.win 7).flush t = true → t.val = 31) t hf
  have e1 : (((cfg0.win 7).blk t).view.emb y 1).val = (y 1).val := by blk_simp [h]
  have f1 : ((cfg0.win 7).blk t).view.emb y 1 = y 1 := Fin.ext e1
  blk_simp [h]
  rw [after0_7]
  refine (so_far7 m c y t.val t.isLt).trans ?_
  unfold G7
  rw [f1, ht]
  refine sum_blocks (M := EReal) 32 256 8192 rfl _ _ fun κ p h => ?_
  have e : 256 * (32 * (31 / 32) + κ.val) + p.val = κ.val * 256 + p.val := by omega
  unfold term7
  rw [e]

end Cert.ConvBIdeal.Value

namespace Cert.Proof.Norm

open Cert Idealize.ShloMosaic Idealize.ShloMosaic.TcCoe Idealize.SL.Sem

/-- The reference's gradient of the input at an index: four shifted products, each where its row exists, -/
theorem ref_dx (d : Vec Ideal ConvBReferenceIdeal.S8192x1536 .f32) (w : Vec Ideal ConvBReferenceIdeal.S4x1536 .f32) (D : ℕ → Fin 1536 → EReal)
    (hD : D = fun r j => if h : r < 8192 then d (ix2 ⟨r, h⟩ j) else 0) (y : ConvBReferenceIdeal.S8192x1536.Idx) :
    ConvBReferenceIdeal.Read.val_main_v85 (F := Ideal) d w y
      = w (ix2 3 (y 1)) * D (y 0).val (y 1) + w (ix2 0 (y 1)) * D ((y 0).val + 3) (y 1) + w (ix2 1 (y 1)) * D ((y 0).val + 2) (y 1)
        + w (ix2 2 (y 1)) * D ((y 0).val + 1) (y 1) := by
  rw [← ConvBReferenceIdeal.Read.val_main_v85_eq]
  have hy : (y 0).val < 8192 := (y 0).isLt
  have e0 : d y = D (y 0).val (y 1) := by
    subst hD; dsimp only; rw [dif_pos hy]
    exact congrArg d (funext fun a => by fin_cases a <;> rfl)
  have e1 : (if h : 2 ≤ 3 + (y 0).val ∧ 3 + (y 0).val - 2 < 8192 then d (ix2 ⟨3 + (y 0).val - 2, h.2⟩ (y 1)) * w (ix2 2 (y 1)) else 0) = D ((y 0).val + 1) (y 1) * w (ix2 2 (y 1)) := by
    subst hD; dsimp only
    by_cases h : (y 0).val + 1 < 8192
    · rw [dif_pos (by omega), dif_pos h]
      exact congrArg (d · * _) (congrArg (ix2 · (y 1)) (Fin.ext (by show 3 + (y 0).val - 2 = (y 0).val + 1; omega)))
    · rw [dif_neg (by omega), dif_neg h, zero_mul]
  have e2 : (if h : 1 ≤ 3 + (y 0).val ∧ 3 + (y 0).val - 1 < 8192 then d (ix2 ⟨3 + (y 0).val - 1, h.2⟩ (y 1)) * w (ix2 1 (y 1)) else 0) = D ((y 0).val + 2) (y 1) * w (ix2 1 (y 1)) := by
    subst hD; dsimp only
    by_cases h : (y 0).val + 2 < 8192
    · rw [dif_pos (by omega), dif_pos h]
      exact congrArg (d · * _) (congrArg (ix2 · (y 1)) (Fin.ext (by show 3 + (y 0).val - 1 = (y 0).val + 2; omega)))
    · rw [dif_neg (by omega), dif_neg h, zero_mul]
  have e3 : (if h : 3 + (y 0).val < 8192 then d (ix2 ⟨3 + (y 0).val, h⟩ (y 1)) * w (ix2 0 (y 1)) else 0) = D ((y 0).val + 3) (y 1) * w (ix2 0 (y 1)) := by
    subst hD; dsimp only
    by_cases h : (y 0).val + 3 < 8192
    · rw [dif_pos (by omega), dif_pos h]
      exact congrArg (d · * _) (congrArg (ix2 · (y 1)) (Fin.ext (by show 3 + (y 0).val = (y 0).val + 3; omega)))
    · rw [dif_neg (by omega), dif_neg h, zero_mul]
  pointwise []
  rw [e0, e1, e2, e3]
  rw [mul_comm (w (ix2 3 (y 1))), mul_comm (w (ix2 2 (y 1))), mul_comm (w (ix2 1 (y 1))), mul_comm (w (ix2 0 (y 1)))]
  ac_rfl

/-- of the bias, -/
theorem ref_db (d : Vec Ideal ConvBReferenceIdeal.S8192x1536 .f32) (y : ConvBReferenceIdeal.S1x1536.Idx) :
    ConvBReferenceIdeal.Read.val_main_v86 (F := Ideal) d y = ∑ r : Fin 8192, d (ix2 r (y 1)) := by
  rw [← ConvBReferenceIdeal.Read.val_main_v86_eq]
  refine Eq.trans (b := ∑ _x : Fin 1, ∑ r : Fin 8192, d (ix2 r (y 1))) ?_ (Fin.sum_univ_one _)
  pointwise []

/-- and of a tap: the sum over the rows of the gradient's times the input's. -/
theorem ref_dw (d : Vec Ideal ConvBReferenceIdeal.S8192x1536 .f32) (x : Vec Ideal ConvBReferenceIdeal.S8192x5120 .f32) (X : ℕ → Fin 1536 → EReal)
    (hX : X = fun r j => if h : 3 ≤ r ∧ r - 3 < 8192 then x (ix2 ⟨r - 3, h.2⟩ ⟨3072 + j.val, by omega⟩) else 0) (k : Fin 4) (j : Fin 1536) :
    ConvBReferenceIdeal.Read.val_main_v80 (F := Ideal) d x (ix2 k j) = ∑ r : Fin 8192, d (ix2 r j) * X (r.val + k.val) j := by
  rw [← ConvBReferenceIdeal.Read.val_main_v80_eq]
  have hi : ∀ (r : ℕ) (h3 : 3 ≤ r) (hr : r - 3 < 8192), X r j = x (ix2 ⟨r - 3, hr⟩ ⟨3072 + j.val, by omega⟩) := fun r h3 hr => by
    subst hX; exact dif_pos ⟨h3, hr⟩
  have lo : ∀ r : ℕ, r < 3 → X r j = 0 := fun r h3 => by subst hX; exact dif_neg (by omega)
  have mid : ∀ (k : ℕ) (r : Fin 8192) (hk : k < 3) (y : EReal),
      (if h : k + r.val < 3 then 0 else x (ix2 ⟨k + r.val - 3, by omega⟩ ⟨3072 + j.val, by omega⟩)) * y = y * X (r.val + k) j := fun k r hk y => by
    rw [Nat.add_comm r.val k, mul_comm]
    by_cases h : k + r.val < 3
    · rw [dif_pos h, lo _ h]
    · rw [dif_neg h, hi _ (by omega) (by omega)]
  fin_cases k
  · pointwise []
    refine (Fin.sum_univ_one _).trans (Eq.trans ?_ (Fin.sum_univ_add (a := 3) (b := 8189) fun r : Fin 8192 => d (ix2 r j) * X (r.val + 0) j).symm)
    refine congrArg₂ (· + ·) (Finset.sum_congr rfl fun r _ => ?_) (Finset.sum_congr rfl fun r _ => ?_)
    · exact (zero_mul _).trans ((mul_zero _).symm.trans (congrArg (d (ix2 _ j) * ·) (lo _ r.isLt).symm))
    · refine (mul_comm _ _).trans (congrArg (d (ix2 _ j) * ·) ((hi _ (by show 3 ≤ 3 + r.val + 0; omega) (by show 3 + r.val + 0 - 3 < 8192; omega)).trans ?_).symm)
      exact congrArg (fun q => x (ix2 q _)) (Fin.ext (by show 3 + r.val + 0 - 3 = r.val; omega))
  · pointwise []
    exact (Fin.sum_univ_one _).trans (Finset.sum_congr rfl fun r _ => mid 1 r (by decide) _)
  · pointwise []
    exact (Fin.sum_univ_one _).trans (Finset.sum_congr rfl fun r _ => mid 2 r (by decide) _)
  · pointwise []
    refine (Fin.sum_univ_one _).trans (Finset.sum_congr rfl fun r _ => (mul_comm _ _).trans (congrArg (d (ix2 r j) * ·) ?_))
    exact (hi (r.val + 3) (by omega) (by omega)).symm

/-- The gradient of the short convolution. -/
theorem conv_b : algebraic_ConvBIdeal_ConvBReferenceIdeal := fun m ρ m' ρ' _ hmm => by
  refine ⟨_, _, _, (θ_run ConvBIdeal.defs _ _).mono (fun r h c => ⟨(h c).1.trans (ConvBIdeal.Value.result5 m c), (h c).2.1.trans (ConvBIdeal.Value.result6 m c),
      (h c).2.2.1.trans (ConvBIdeal.Value.result7 m c), (h c).2.2.2⟩) (ConvBIdeal.Value.run_blocks m ρ),
    (θ_run ConvBReferenceIdeal.defs _ _).mono (fun r h c => ⟨(h c).1.trans ?_, (h c).2.1.trans ?_, (h c).2.2.1.trans ?_, (h c).2.2.2⟩) (ConvBReferenceIdeal.Value.run (F := Ideal) m' ρ')⟩
  · rw [(hmm c).1, (hmm c).2.2]
    exact (ConvBReferenceIdeal.Read.val_main_v85_eq ..).trans (funext fun y => ref_dx _ _ (ConvBIdeal.Value.D m c) rfl y)
  · rw [(hmm c).1, (hmm c).2.1]
    refine (ConvBReferenceIdeal.Read.val_main_v80_eq ..).trans (funext fun y => (congrArg _ (show y = ix2 (y 0) (y 1) from funext fun a => by fin_cases a <;> rfl)).trans
      ((ref_dw _ _ (ConvBIdeal.Value.X3 m c) rfl (y 0) (y 1)).trans ?_))
    exact Finset.sum_congr rfl fun r _ => congrArg (· * _) (dif_pos r.isLt : ConvBIdeal.Value.D m c r.val (y 1) = _).symm
  · rw [(hmm c).1]
    exact (ConvBReferenceIdeal.Read.val_main_v86_eq ..).trans (funext fun y => (ref_db _ y).trans
      (Finset.sum_congr rfl fun r _ => (dif_pos r.isLt : ConvBIdeal.Value.D m c r.val (y 1) = _).symm))

end Cert.Proof.Norm

end
-- ==== Proof.Feed.RunSum.lean ====
/-
  What the products' proofs share: the sum that a run of points leaves, its accumulator set at the first point, added to
  at the later ones, and written out at the last.
-/
module

public import proofs.«01_k».proof.Proof.Feed.Sums
public import Idealize.ShloMosaic.Lib.Tactic
public import Idealize.ShloMosaic.Lib.Pointwise
public import Idealize.ShloMosaic.Lib.Claim
public import Idealize.ShloMosaic.Lib.Pipeline.ValueKit

@[expose] public section

noncomputable section

namespace Cert.Proof.Feed

open Idealize.ShloMosaic

theorem hz2 : (![0, 0] : Fin 2 → Nat) = fun _ => 0 := funext fun a => by fin_cases a <;> rfl

theorem at_two {a b : ℕ} (y : Shape.Idx ⟨2, ![a, b]⟩) : y = ix2 (y 0) (y 1) := funext fun a => by fin_cases a <;> rfl

/-- Place `j` of block `κ` of an axis of `n` blocks of `b` places. -/
def place {n b K : ℕ} (hK : n * b = K) (t : ℕ) (hn : 0 < n) (j : Fin b) : Fin K :=
  ⟨t % n * b + j.val, by
    have h := Nat.mod_lt t hn
    have := Nat.mul_le_mul_right b (Nat.succ_le_of_lt h)
    rw [Nat.succ_mul] at this; have := j.isLt; omega⟩

/-- A run of `n` points, the point's number over `n` the run's: its first point sets the accumulator to the sum of the
    terms of the first block of an axis, each later one adds those of its own block, and what the last point writes is
    the sum over the axis. -/
theorem run_sum {N n b K : ℕ} (hn : 1 < n) (hK : n * b = K) (acc out : (t : ℕ) → t < N → EReal) (f : Fin K → EReal)
    (t : Fin N) (ht : t.val % n = n - 1)
    (first : ∀ s : Fin N, s.val / n = t.val / n → s.val % n = 0 → acc s.val s.isLt = ∑ j : Fin b, f (place hK s.val (Nat.zero_lt_of_lt hn) j))
    (later : ∀ s : Fin N, s.val / n = t.val / n → s.val % n ≠ 0 → s.val % n ≠ n - 1 →
      acc s.val s.isLt = acc (s.val - 1) (Nat.lt_of_le_of_lt (Nat.sub_le _ _) s.isLt) + ∑ j : Fin b, f (place hK s.val (Nat.zero_lt_of_lt hn) j))
    (last : out t.val t.isLt = acc (t.val - 1) (Nat.lt_of_le_of_lt (Nat.sub_le _ _) t.isLt) + ∑ j : Fin b, f (place hK t.val (Nat.zero_lt_of_lt hn) j)) :
    out t.val t.isLt = ∑ k, f k := by
  have h0 : 0 < n := Nat.zero_lt_of_lt hn
  have hd := Nat.div_add_mod t.val n
  have hdiv : ∀ κ, κ < n → (n * (t.val / n) + κ) / n = t.val / n := fun κ hκ => by
    rw [Nat.mul_add_div h0, Nat.div_eq_of_lt hκ, Nat.add_zero]
  have hmod : ∀ κ, κ < n → (n * (t.val / n) + κ) % n = κ := fun κ hκ => by
    rw [Nat.mul_add_mod, Nat.mod_eq_of_lt hκ]
  let g : ℕ → Fin b → EReal := fun κ j => f (place hK κ h0 j)
  have hg : ∀ κ, κ < n → ∀ s, s % n = κ → (fun j : Fin b => f (place hK s h0 j)) = g κ := fun κ hκ s hs =>
    funext fun j => congrArg f (Fin.ext (show s % n * b + j.val = κ % n * b + j.val by rw [hs, Nat.mod_eq_of_lt hκ]))
  have sofar : ∀ κ (hκ : κ < n - 1) (h : n * (t.val / n) + κ < N), acc (n * (t.val / n) + κ) h = ∑ x ∈ Finset.range (κ + 1), ∑ j, g x j := by
    intro κ
    induction κ with
    | zero =>
      intro hκ h
      refine (first ⟨_, h⟩ (hdiv 0 h0) (hmod 0 h0)).trans ?_
      rw [hg 0 h0 _ (hmod 0 h0), Finset.sum_range_one]
    | succ κ ih =>
      intro hκ h
      have hm := hmod (κ + 1) (by omega)
      refine (later ⟨_, h⟩ (hdiv (κ + 1) (by omega)) (by show (n * (t.val / n) + (κ + 1)) % n ≠ 0; omega) (by show (n * (t.val / n) + (κ + 1)) % n ≠ n - 1; omega)).trans ?_
      rw [hg (κ + 1) (by omega) _ hm, Finset.sum_range_succ _ (κ + 1)]
      exact congrArg (· + ∑ j, g (κ + 1) j) (ih (by omega) (by omega))
  have e : t.val - 1 = n * (t.val / n) + (n - 2) := by omega
  have hl : acc (t.val - 1) (Nat.lt_of_le_of_lt (Nat.sub_le _ _) t.isLt) = ∑ x ∈ Finset.range (n - 1), ∑ j, g x j := by
    have ht' := t.isLt
    have := sofar (n - 2) (by omega) (by omega)
    rw [show n - 2 + 1 = n - 1 by omega] at this
    rw [← this]; congr 1
  rw [last, hl, hg (n - 1) (by omega) _ ht, ← Finset.sum_range_succ (fun x => ∑ j, g x j), show n - 1 + 1 = n by omega]
  refine sum_blocks n b K hK f g fun κ j h => congrArg f (Fin.ext ?_)
  show κ.val % n * b + j.val = _
  rw [Nat.mod_eq_of_lt κ.isLt]

end Cert.Proof.Feed

end
-- ==== Proof.Feed.PleProjW.lean ====
/-
  The gradient of the weights of the product that projects the per-layer embeddings: the product of the transposed
  input by the result's gradient, block by block over the rows, is the plain one.
-/
module

public import proofs.«01_k».proof.Defs
public import proofs.«01_k».proof.Proof.Feed.RunSum
public import proofs.«01_k».proof.Proof.Gen.PleProjWIdeal.Value
public import proofs.«01_k».proof.Proof.Gen.PleProjWReferenceIdeal.Run

@[expose] public section

noncomputable section

namespace Cert.PleProjWIdeal.Value

open Cert.PleProjWIdeal Cert.PleProjWIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S256x1024) hz2, View.readCov_unit_zero (S := S256x1024) _ hz2]
  simp only [View.readAt_eq_ld, (hs0_0 t).read_unread, (hs0_1 t).read_unread, View.ld_unit_zero (S := S1024x256) hz2, View.ld_unit_zero (S := S1024x1024) hz2, View.ld_unit_zero (S := S256x1024) hz2]

/-- a later one adds its product, -/
theorem later (c : Dev nD) (t : Fin cfg0.N) (h0 : t.val % 8 ≠ 0) (h1 : t.val % 8 ≠ 7) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x256) hz2, View.ld_unit_zero (S := S1024x1024) hz2, View.ld_unit_zero (S := S256x1024) hz2]

/-- and the last writes the sum. -/
theorem last (c : Dev nD) (t : Fin cfg0.N) (h1 : t.val % 8 = 7) : (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero (S := S256x1024) hz2, View.readCov_unit_zero (S := S256x1024) _ hz2]
  simp only [View.readAt_eq_ld, (hs0_0 t).read_unread, (hs0_1 t).read_unread, (Memref.isWhole_whole _).read_unread, View.ld_unit_zero (S := S1024x256) hz2, View.ld_unit_zero (S := S1024x1024) hz2, View.ld_unit_zero (S := S256x1024) hz2]

theorem pay_apply (acc : Vec Ideal S256x1024 .f32) (x : Vec Ideal S1024x256 .bf16) (w : Vec Ideal S1024x1024 .bf16) (p : Fin 256) (q : Fin 1024) :
    k0_pay2 acc x w (ix2 p q) = acc (ix2 p q) + ∑ k : Fin 1024, x (ix2 k p) * w (ix2 k q) := by
  pointwise [k0_pay2]

theorem zero_apply (y : S256x1024.Idx) : k0_pay1 (F := Ideal) y = 0 := by
  pointwise [k0_pay1]

theorem idx_facts : ∀ t : Fin cfg0.N, win0_0.index t = ![t.val % 8, 0] ∧ win0_1.index t = ![t.val % 8, 0] ∧ win0_2.index t = ![0, 0] :=
  (by decide +kernel : ∀ t : Fin grid0.N, _)

/-- The two arguments, and the terms of the product. -/
def lhs (c : Dev nD) : Vec Ideal S8192x256 .f32 := m ((c : Thread nD τ).loc main_arg0)
def rhs (c : Dev nD) : Vec Ideal S8192x1024 .f32 := m ((c : Thread nD τ).loc main_arg1)
def term (c : Dev nD) (i : Fin 256) (j : Fin 1024) (k : Fin 8192) : EReal := lhs m c (ix2 k i) * rhs m c (ix2 k j)

theorem lblk_eq (c : Dev nD) (t : Fin cfg0.N) (k : Fin 1024) (p : Fin 256) :
    (iblk m c 0 t : Vec Ideal S1024x256 .bf16) (ix2 k p) = lhs m c (ix2 (place rfl t.val (by omega : 0 < 8) k) p) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; rfl
  · blk_simp [h]; rfl

theorem rblk_eq (c : Dev nD) (t : Fin cfg0.N) (k : Fin 1024) (q : Fin 1024) :
    (iblk m c 1 t : Vec Ideal S1024x1024 .bf16) (ix2 k q) = rhs m c (ix2 (place rfl t.val (by omega : 0 < 8) k) q) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; rfl

/-- What a point adds. -/
theorem step (c : Dev nD) (t : Fin cfg0.N) (acc : Vec Ideal S256x1024 .f32) (p : Fin 256) (q : Fin 1024) :
    k0_pay2 acc (iblk m c 0 t) (iblk m c 1 t) (ix2 p q) = acc (ix2 p q) + ∑ k : Fin 1024, term m c p q (place rfl t.val (by omega : 0 < 8) k) :=
  (pay_apply ..).trans (congrArg (acc (ix2 p q) + ·) (Finset.sum_congr rfl fun k _ =>
    congrArg₂ (fun a b : EReal => a * b) (lblk_eq m c t k p) (rblk_eq m c t k q)))

theorem flush_facts : ∀ t : Fin cfg0.N, (cfg0.win 2).flush t → t.val % 8 = 7 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : ((cfg0.win 2).blk t).view.emb y 0 = y 0 := Fin.ext (by blk_simp [h])
  have e1 : ((cfg0.win 2).blk t).view.emb y 1 = y 1 := Fin.ext (by blk_simp [h])
  rw [e0, e1]
  blk_simp [h]
  rw [after0_2]
  refine (congrArg _ (at_two y)).trans ?_
  exact run_sum (n := 8) (b := 1024) (K := 8192) (by omega) rfl (fun s hs => (outsAt0 m c s hs).2 (ix2 (y 0) (y 1)))
    (fun s hs => (outsAt0 m c s hs).1 (ix2 (y 0) (y 1))) (term m c (y 0) (y 1)) t (flush_facts t hf)
    (fun s hs h0 => (congrFun (first m c s h0) _).trans ((step m c s _ _ _).trans (by rw [zero_apply, zero_add])))
    (fun s hs h0 h1 => (congrFun (later m c s h0 h1) _).trans (step m c s _ _ _))
    ((congrFun (last m c t (flush_facts t hf)) _).trans (step m c t _ _ _))

end Cert.PleProjWIdeal.Value

namespace Cert.Proof.Feed

open Cert Idealize.ShloMosaic Idealize.ShloMosaic.TcCoe Idealize.SL.Sem

/-- The gradient of the weights of the product that projects the per-layer embeddings. The reference has its
    factors the other way around. -/
theorem ple_proj_w : algebraic_PleProjWIdeal_PleProjWReferenceIdeal := fun m ρ m' ρ' _ hmm => by
  refine ⟨_, (θ_run PleProjWIdeal.defs _ _).mono (fun r h c => ⟨(h c).1.trans (PleProjWIdeal.Value.result m c), (h c).2⟩) (PleProjWIdeal.Value.run_blocks m ρ),
    (θ_run PleProjWReferenceIdeal.defs _ _).mono (fun r h c => ⟨(h c).1.trans ?_, (h c).2⟩) (PleProjWReferenceIdeal.Value.run (F := Ideal) m' ρ')⟩
  rw [(hmm c).1, (hmm c).2]
  funext y
  refine Eq.trans (b := ∑ k, PleProjWIdeal.Value.rhs m c (ix2 k (y 1)) * PleProjWIdeal.Value.lhs m c (ix2 k (y 0))) ?_ (Finset.sum_congr rfl fun k _ => mul_comm (G := EReal) _ _)
  unfold PleProjWIdeal.Value.lhs PleProjWIdeal.Value.rhs
  pointwise []

end Cert.Proof.Feed

end
-- ==== Proof.Feed.PleProj.lean ====
/-
  The product that projects the per-layer embeddings, its whole inner axis in one block.
-/
module

public import proofs.«01_k».proof.Defs
public import proofs.«01_k».proof.Proof.Feed.RunSum
public import proofs.«01_k».proof.Proof.Gen.PleProjIdeal.Value
public import proofs.«01_k».proof.Proof.Gen.PleProjReferenceIdeal.Run

@[expose] public section

noncomputable section

namespace Cert.PleProjIdeal.Value

open Cert.PleProjIdeal Cert.PleProjIdeal.Gen Idealize.ShloMosaic Idealize.ShloMosaic.TcCoe Idealize.SL.Sem
open Cert.Proof.Feed

variable (m : (ℓ : Loc nD τ sig) → Buf (Elt Ideal) ℓ)

/-- A point writes the product of its blocks, -/
theorem out_eq (c : Dev nD) (t : Fin cfg0.N) : outsAt0 m c t = k0_pay2 k0_pay1 (iblk m c 0 t) (iblk m c 1 t) := by
  unfold outsAt0
  unfold out0_A_2
  rw [View.read_writes_eq_canon _ _ _ (cover0_A_2 _ _ _ _ _ _ _ _ _ _ _ _ _ _)]
  unfold kernelRun0_A
  dsimp only
  sl_unfold_words
  rw [View.canon_unit_zero hz2, View.readCov_cons_toLoadRect, View.readCov_unit_zero (S := S1024x1024) _ hz2]
  simp only [View.readAt_eq_ld, (hs0_0 t).read_unread, (hs0_1 t).read_unread, View.ld_unit_zero (S := S1024x256) hz2, View.ld_unit_zero (S := S256x1024) hz2]

/-- read at an index. -/
theorem pay_apply (x : Vec Ideal S1024x256 .bf16) (w : Vec Ideal S256x1024 .bf16) (p q : Fin 1024) :
    k0_pay2 k0_pay1 x w (ix2 p q) = ∑ k : Fin 256, x (ix2 p k) * w (ix2 k q) := by
  refine Eq.trans (b := 0 + ∑ k : Fin 256, x (ix2 p k) * w (ix2 k q)) ?_ (zero_add _)
  pointwise [k0_pay2, k0_pay1]

theorem idx_facts : ∀ t : Fin cfg0.N, win0_0.index t = ![t.val, 0] ∧ win0_1.index t = ![0, 0] ∧ win0_2.index t = ![t.val, 0] :=
  (by decide +kernel : ∀ t : Fin grid0.N, _)

/-- The two arguments, and their blocks. -/
def lhs (c : Dev nD) : Vec Ideal S8192x256 .f32 := m ((c : Thread nD τ).loc main_arg0)
def rhs (c : Dev nD) : Vec Ideal S256x1024 .f32 := m ((c : Thread nD τ).loc main_arg1)

theorem lblk_eq (c : Dev nD) (t : Fin cfg0.N) (p : Fin 1024) (k : Fin 256) (i : Fin 8192) (hi : i.val = t.val * 1024 + p.val) :
    (iblk m c 0 t : Vec Ideal S1024x256 .bf16) (ix2 p k) = lhs m c (ix2 i k) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (k : Fin 256) (q : Fin 1024) :
    (iblk m c 1 t : Vec Ideal S256x1024 .bf16) (ix2 k q) = rhs m c (ix2 k q) := by
  have h := (idx_facts t).2.1
  unfold iblk rhs
  rw [View.read_apply]
  show V m c main_v1 _ = _
  entry_read
  refine congrArg (m ((c : Thread nD τ).loc main_arg1)) (funext fun a => Fin.ext ?_)
  fin_cases a <;> blk_simp [h]

/-- The result is the product. -/
theorem result (c : Dev nD) : (dats m 0 c).arrAt 2 cfg0.N = fun y => (∑ k, lhs m c (ix2 (y 0) k) * rhs m c (ix2 k (y 1)) : EReal) := by
  refine (dats m 0 c).arrAt_eq_of_covers 2 _ (by decide +kernel) fun t hf y => ?_
  have h := (idx_facts t).2.2
  have e0 : (((cfg0.win 2).blk t).view.emb y 0).val = t.val * 1024 + (y 0).val := by blk_simp [h]
  have e1 : ((cfg0.win 2).blk t).view.emb y 1 = y 1 := Fin.ext (by blk_simp [h])
  rw [e1]
  blk_simp [h]
  rw [after0_2]
  refine (congrArg _ (at_two y)).trans ((congrFun (out_eq m c t) _).trans ((pay_apply _ _ (y 0) (y 1)).trans ?_))
  exact Finset.sum_congr rfl fun k _ => congrArg₂ (fun a b : EReal => a * b) (lblk_eq m c t _ k _ e0) (rblk_eq m c t k _)

end Cert.PleProjIdeal.Value

namespace Cert.Proof.Feed

open Cert Idealize.ShloMosaic Idealize.ShloMosaic.TcCoe Idealize.SL.Sem

/-- The product that projects the per-layer embeddings. -/
theorem ple_proj : algebraic_PleProjIdeal_PleProjReferenceIdeal := fun m ρ m' ρ' _ hmm => by
  refine ⟨_, (θ_run PleProjIdeal.defs _ _).mono (fun r h c => ⟨(h c).1.trans (PleProjIdeal.Value.result m c), (h c).2⟩) (PleProjIdeal.Value.run_blocks m ρ),
    (θ_run PleProjReferenceIdeal.defs _ _).mono (fun r h c => ⟨(h c).1.trans ?_, (h c).2⟩) (PleProjReferenceIdeal.Value.run (F := Ideal) m' ρ')⟩
  rw [(hmm c).1, (hmm c).2]
  funext y
  unfold PleProjIdeal.Value.lhs PleProjIdeal.Value.rhs
  pointwise []

end Cert.Proof.Feed

end
-- ==== Proof.Feed.PleGateW.lean ====
/-
  The gradient of the weights of the product that gates the per-layer embeddings: the product of the transposed input
  by the result's gradient, block by block over the rows, is the plain one.
-/
module

public import proofs.«01_k».proof.Defs
public import proofs.«01_k».proof.Proof.Feed.RunSum
public import proofs.«01_k».proof.Proof.Gen.PleGateWIdeal.Value
public import proofs.«01_k».proof.Proof.Gen.PleGateWReferenceIdeal.Run

@[expose] public section

noncomputable section

namespace Cert.PleGateWIdeal.Value

open Cert.PleGateWIdeal Cert.PleGateWIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x1024) hz2, View.readCov_unit_zero (S := S1024x1024) _ hz2]
  simp only [View.readAt_eq_ld, (hs0_0 t).read_unread, (hs0_1 t).read_unread, View.ld_unit_zero (S := S1024x1024) hz2]

/-- a later one adds its product, -/
theorem later (c : Dev nD) (t : Fin cfg0.N) (h0 : t.val % 8 ≠ 0) (h1 : t.val % 8 ≠ 7) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x1024) hz2]

/-- and the last writes the sum. -/
theorem last (c : Dev nD) (t : Fin cfg0.N) (h1 : t.val % 8 = 7) : (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero (S := S1024x1024) hz2, View.readCov_unit_zero (S := S1024x1024) _ hz2]
  simp only [View.readAt_eq_ld, (hs0_0 t).read_unread, (hs0_1 t).read_unread, (Memref.isWhole_whole _).read_unread, View.ld_unit_zero (S := S1024x1024) hz2]

theorem pay_apply (acc : Vec Ideal S1024x1024 .f32) (x : Vec Ideal S1024x1024 .bf16) (w : Vec Ideal S1024x1024 .bf16) (p q : Fin 1024) :
    k0_pay2 acc x w (ix2 p q) = acc (ix2 p q) + ∑ k : Fin 1024, x (ix2 k p) * w (ix2 k q) := by
  pointwise [k0_pay2]

theorem zero_apply (y : S1024x1024.Idx) : k0_pay1 (F := Ideal) y = 0 := by
  pointwise [k0_pay1]

theorem idx_facts : ∀ t : Fin cfg0.N, win0_0.index t = ![t.val % 8, 0] ∧ win0_1.index t = ![t.val % 8, 0] ∧ win0_2.index t = ![0, 0] :=
  (by decide +kernel : ∀ t : Fin grid0.N, _)

/-- The two arguments, and the terms of the product. -/
def lhs (c : Dev nD) : Vec Ideal S8192x1024 .f32 := m ((c : Thread nD τ).loc main_arg0)
def rhs (c : Dev nD) : Vec Ideal S8192x1024 .f32 := m ((c : Thread nD τ).loc main_arg1)
def term (c : Dev nD) (i : Fin 1024) (j : Fin 1024) (k : Fin 8192) : EReal := lhs m c (ix2 k i) * rhs m c (ix2 k j)

theorem lblk_eq (c : Dev nD) (t : Fin cfg0.N) (k : Fin 1024) (p : Fin 1024) :
    (iblk m c 0 t : Vec Ideal S1024x1024 .bf16) (ix2 k p) = lhs m c (ix2 (place rfl t.val (by omega : 0 < 8) k) p) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; rfl
  · blk_simp [h]; rfl

theorem rblk_eq (c : Dev nD) (t : Fin cfg0.N) (k : Fin 1024) (q : Fin 1024) :
    (iblk m c 1 t : Vec Ideal S1024x1024 .bf16) (ix2 k q) = rhs m c (ix2 (place rfl t.val (by omega : 0 < 8) k) q) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; rfl

/-- What a point adds. -/
theorem step (c : Dev nD) (t : Fin cfg0.N) (acc : Vec Ideal S1024x1024 .f32) (p q : Fin 1024) :
    k0_pay2 acc (iblk m c 0 t) (iblk m c 1 t) (ix2 p q) = acc (ix2 p q) + ∑ k : Fin 1024, term m c p q (place rfl t.val (by omega : 0 < 8) k) :=
  (pay_apply ..).trans (congrArg (acc (ix2 p q) + ·) (Finset.sum_congr rfl fun k _ =>
    congrArg₂ (fun a b : EReal => a * b) (lblk_eq m c t k p) (rblk_eq m c t k q)))

theorem flush_facts : ∀ t : Fin cfg0.N, (cfg0.win 2).flush t → t.val % 8 = 7 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : ((cfg0.win 2).blk t).view.emb y 0 = y 0 := Fin.ext (by blk_simp [h])
  have e1 : ((cfg0.win 2).blk t).view.emb y 1 = y 1 := Fin.ext (by blk_simp [h])
  rw [e0, e1]
  blk_simp [h]
  rw [after0_2]
  refine (congrArg _ (at_two y)).trans ?_
  exact run_sum (n := 8) (b := 1024) (K := 8192) (by omega) rfl (fun s hs => (outsAt0 m c s hs).2 (ix2 (y 0) (y 1)))
    (fun s hs => (outsAt0 m c s hs).1 (ix2 (y 0) (y 1))) (term m c (y 0) (y 1)) t (flush_facts t hf)
    (fun s hs h0 => (congrFun (first m c s h0) _).trans ((step m c s _ _ _).trans (by rw [zero_apply, zero_add])))
    (fun s hs h0 h1 => (congrFun (later m c s h0 h1) _).trans (step m c s _ _ _))
    ((congrFun (last m c t (flush_facts t hf)) _).trans (step m c t _ _ _))

end Cert.PleGateWIdeal.Value

namespace Cert.Proof.Feed

open Cert Idealize.ShloMosaic Idealize.ShloMosaic.TcCoe Idealize.SL.Sem

/-- The gradient of the weights of the product that gates the per-layer embeddings. The reference has its
    factors the other way around. -/
theorem ple_gate_w : algebraic_PleGateWIdeal_PleGateWReferenceIdeal := fun m ρ m' ρ' _ hmm => by
  refine ⟨_, (θ_run PleGateWIdeal.defs _ _).mono (fun r h c => ⟨(h c).1.trans (PleGateWIdeal.Value.result m c), (h c).2⟩) (PleGateWIdeal.Value.run_blocks m ρ),
    (θ_run PleGateWReferenceIdeal.defs _ _).mono (fun r h c => ⟨(h c).1.trans ?_, (h c).2⟩) (PleGateWReferenceIdeal.Value.run (F := Ideal) m' ρ')⟩
  rw [(hmm c).1, (hmm c).2]
  funext y
  refine Eq.trans (b := ∑ k, PleGateWIdeal.Value.rhs m c (ix2 k (y 1)) * PleGateWIdeal.Value.lhs m c (ix2 k (y 0))) ?_ (Finset.sum_congr rfl fun k _ => mul_comm (G := EReal) _ _)
  unfold PleGateWIdeal.Value.lhs PleGateWIdeal.Value.rhs
  pointwise []

end Cert.Proof.Feed

end
-- ==== Proof.Feed.PleGateX.lean ====
/-
  The gradient of the input of the product that gates the per-layer embeddings: the product by the transposed weights,
  its whole inner axis in one block.
-/
module

public import proofs.«01_k».proof.Defs
public import proofs.«01_k».proof.Proof.Feed.RunSum
public import proofs.«01_k».proof.Proof.Gen.PleGateXIdeal.Value
public import proofs.«01_k».proof.Proof.Gen.PleGateXReferenceIdeal.Run

@[expose] public section

noncomputable section

namespace Cert.PleGateXIdeal.Value

open Cert.PleGateXIdeal Cert.PleGateXIdeal.Gen Idealize.ShloMosaic Idealize.ShloMosaic.TcCoe Idealize.SL.Sem
open Cert.Proof.Feed

variable (m : (ℓ : Loc nD τ sig) → Buf (Elt Ideal) ℓ)

/-- A point writes the product of its blocks, -/
theorem out_eq (c : Dev nD) (t : Fin cfg0.N) : outsAt0 m c t = k0_pay2 k0_pay1 (iblk m c 0 t) (iblk m c 1 t) := by
  unfold outsAt0
  unfold out0_A_2
  rw [View.read_writes_eq_canon _ _ _ (cover0_A_2 _ _ _ _ _ _ _ _ _ _ _ _ _ _)]
  unfold kernelRun0_A
  dsimp only
  sl_unfold_words
  rw [View.canon_unit_zero hz2, View.readCov_cons_toLoadRect, View.readCov_unit_zero (S := S1024x1024) _ hz2]
  simp only [View.readAt_eq_ld, (hs0_0 t).read_unread, (hs0_1 t).read_unread, View.ld_unit_zero (S := S1024x1024) hz2]

/-- read at an index. -/
theorem pay_apply (x w : Vec Ideal S1024x1024 .bf16) (p q : Fin 1024) :
    k0_pay2 k0_pay1 x w (ix2 p q) = ∑ k : Fin 1024, x (ix2 p k) * w (ix2 q k) := by
  refine Eq.trans (b := 0 + ∑ k : Fin 1024, x (ix2 p k) * w (ix2 q k)) ?_ (zero_add _)
  pointwise [k0_pay2, k0_pay1]

theorem idx_facts : ∀ t : Fin cfg0.N, win0_0.index t = ![t.val, 0] ∧ win0_1.index t = ![0, 0] ∧ win0_2.index t = ![t.val, 0] :=
  (by decide +kernel : ∀ t : Fin grid0.N, _)

/-- The two arguments, and their blocks. -/
def lhs (c : Dev nD) : Vec Ideal S8192x1024 .f32 := m ((c : Thread nD τ).loc main_arg0)
def rhs (c : Dev nD) : Vec Ideal S1024x1024 .f32 := m ((c : Thread nD τ).loc main_arg1)

theorem lblk_eq (c : Dev nD) (t : Fin cfg0.N) (p k : Fin 1024) (i : Fin 8192) (hi : i.val = t.val * 1024 + p.val) :
    (iblk m c 0 t : Vec Ideal S1024x1024 .bf16) (ix2 p k) = lhs m c (ix2 i k) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (q k : Fin 1024) :
    (iblk m c 1 t : Vec Ideal S1024x1024 .bf16) (ix2 q k) = rhs m c (ix2 q k) := by
  have h := (idx_facts t).2.1
  unfold iblk rhs
  rw [View.read_apply]
  show V m c main_v1 _ = _
  entry_read
  refine congrArg (m ((c : Thread nD τ).loc main_arg1)) (funext fun a => Fin.ext ?_)
  fin_cases a <;> blk_simp [h]

/-- The result is the product. -/
theorem result (c : Dev nD) : (dats m 0 c).arrAt 2 cfg0.N = fun y => (∑ k, lhs m c (ix2 (y 0) k) * rhs m c (ix2 (y 1) k) : EReal) := by
  refine (dats m 0 c).arrAt_eq_of_covers 2 _ (by decide +kernel) fun t hf y => ?_
  have h := (idx_facts t).2.2
  have e0 : (((cfg0.win 2).blk t).view.emb y 0).val = t.val * 1024 + (y 0).val := by blk_simp [h]
  have e1 : ((cfg0.win 2).blk t).view.emb y 1 = y 1 := Fin.ext (by blk_simp [h])
  rw [e1]
  blk_simp [h]
  rw [after0_2]
  refine (congrArg _ (at_two y)).trans ((congrFun (out_eq m c t) _).trans ((pay_apply _ _ (y 0) (y 1)).trans ?_))
  exact Finset.sum_congr rfl fun k _ => congrArg₂ (fun a b : EReal => a * b) (lblk_eq m c t _ k _ e0) (rblk_eq m c t _ k)

end Cert.PleGateXIdeal.Value

namespace Cert.Proof.Feed

open Cert Idealize.ShloMosaic Idealize.ShloMosaic.TcCoe Idealize.SL.Sem

/-- The gradient of the input of the product that gates the per-layer embeddings. -/
theorem ple_gate_x : algebraic_PleGateXIdeal_PleGateXReferenceIdeal := fun m ρ m' ρ' _ hmm => by
  refine ⟨_, (θ_run PleGateXIdeal.defs _ _).mono (fun r h c => ⟨(h c).1.trans (PleGateXIdeal.Value.result m c), (h c).2⟩) (PleGateXIdeal.Value.run_blocks m ρ),
    (θ_run PleGateXReferenceIdeal.defs _ _).mono (fun r h c => ⟨(h c).1.trans ?_, (h c).2⟩) (PleGateXReferenceIdeal.Value.run (F := Ideal) m' ρ')⟩
  rw [(hmm c).1, (hmm c).2]
  funext y
  unfold PleGateXIdeal.Value.lhs PleGateXIdeal.Value.rhs
  pointwise []

end Cert.Proof.Feed

end
-- ==== Proof.Feed.PleGate.lean ====
/-
  The product that gates the per-layer embeddings, its whole inner axis in one block.
-/
module

public import proofs.«01_k».proof.Defs
public import proofs.«01_k».proof.Proof.Feed.RunSum
public import proofs.«01_k».proof.Proof.Gen.PleGateIdeal.Value
public import proofs.«01_k».proof.Proof.Gen.PleGateReferenceIdeal.Run

@[expose] public section

noncomputable section

namespace Cert.PleGateIdeal.Value

open Cert.PleGateIdeal Cert.PleGateIdeal.Gen Idealize.ShloMosaic Idealize.ShloMosaic.TcCoe Idealize.SL.Sem
open Cert.Proof.Feed

variable (m : (ℓ : Loc nD τ sig) → Buf (Elt Ideal) ℓ)

/-- A point writes the product of its blocks, -/
theorem out_eq (c : Dev nD) (t : Fin cfg0.N) : outsAt0 m c t = k0_pay2 k0_pay1 (iblk m c 0 t) (iblk m c 1 t) := by
  unfold outsAt0
  unfold out0_A_2
  rw [View.read_writes_eq_canon _ _ _ (cover0_A_2 _ _ _ _ _ _ _ _ _ _ _ _ _ _)]
  unfold kernelRun0_A
  dsimp only
  sl_unfold_words
  rw [View.canon_unit_zero hz2, View.readCov_cons_toLoadRect, View.readCov_unit_zero (S := S1024x1024) _ hz2]
  simp only [View.readAt_eq_ld, (hs0_0 t).read_unread, (hs0_1 t).read_unread, View.ld_unit_zero (S := S1024x1024) hz2]

/-- read at an index. -/
theorem pay_apply (x w : Vec Ideal S1024x1024 .bf16) (p q : Fin 1024) :
    k0_pay2 k0_pay1 x w (ix2 p q) = ∑ k : Fin 1024, x (ix2 p k) * w (ix2 k q) := by
  refine Eq.trans (b := 0 + ∑ k : Fin 1024, x (ix2 p k) * w (ix2 k q)) ?_ (zero_add _)
  pointwise [k0_pay2, k0_pay1]

theorem idx_facts : ∀ t : Fin cfg0.N, win0_0.index t = ![t.val, 0] ∧ win0_1.index t = ![0, 0] ∧ win0_2.index t = ![t.val, 0] :=
  (by decide +kernel : ∀ t : Fin grid0.N, _)

/-- The two arguments, and their blocks. -/
def lhs (c : Dev nD) : Vec Ideal S8192x1024 .f32 := m ((c : Thread nD τ).loc main_arg0)
def rhs (c : Dev nD) : Vec Ideal S1024x1024 .f32 := m ((c : Thread nD τ).loc main_arg1)

theorem lblk_eq (c : Dev nD) (t : Fin cfg0.N) (p k : Fin 1024) (i : Fin 8192) (hi : i.val = t.val * 1024 + p.val) :
    (iblk m c 0 t : Vec Ideal S1024x1024 .bf16) (ix2 p k) = lhs m c (ix2 i k) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (k q : Fin 1024) :
    (iblk m c 1 t : Vec Ideal S1024x1024 .bf16) (ix2 k q) = rhs m c (ix2 k q) := by
  have h := (idx_facts t).2.1
  unfold iblk rhs
  rw [View.read_apply]
  show V m c main_v1 _ = _
  entry_read
  refine congrArg (m ((c : Thread nD τ).loc main_arg1)) (funext fun a => Fin.ext ?_)
  fin_cases a <;> blk_simp [h]

/-- The result is the product. -/
theorem result (c : Dev nD) : (dats m 0 c).arrAt 2 cfg0.N = fun y => (∑ k, lhs m c (ix2 (y 0) k) * rhs m c (ix2 k (y 1)) : EReal) := by
  refine (dats m 0 c).arrAt_eq_of_covers 2 _ (by decide +kernel) fun t hf y => ?_
  have h := (idx_facts t).2.2
  have e0 : (((cfg0.win 2).blk t).view.emb y 0).val = t.val * 1024 + (y 0).val := by blk_simp [h]
  have e1 : ((cfg0.win 2).blk t).view.emb y 1 = y 1 := Fin.ext (by blk_simp [h])
  rw [e1]
  blk_simp [h]
  rw [after0_2]
  refine (congrArg _ (at_two y)).trans ((congrFun (out_eq m c t) _).trans ((pay_apply _ _ (y 0) (y 1)).trans ?_))
  exact Finset.sum_congr rfl fun k _ => congrArg₂ (fun a b : EReal => a * b) (lblk_eq m c t _ k _ e0) (rblk_eq m c t k _)

end Cert.PleGateIdeal.Value

namespace Cert.Proof.Feed

open Cert Idealize.ShloMosaic Idealize.ShloMosaic.TcCoe Idealize.SL.Sem

/-- The product that gates the per-layer embeddings. -/
theorem ple_gate : algebraic_PleGateIdeal_PleGateReferenceIdeal := fun m ρ m' ρ' _ hmm => by
  refine ⟨_, (θ_run PleGateIdeal.defs _ _).mono (fun r h c => ⟨(h c).1.trans (PleGateIdeal.Value.result m c), (h c).2⟩) (PleGateIdeal.Value.run_blocks m ρ),
    (θ_run PleGateReferenceIdeal.defs _ _).mono (fun r h c => ⟨(h c).1.trans ?_, (h c).2⟩) (PleGateReferenceIdeal.Value.run (F := Ideal) m' ρ')⟩
  rw [(hmm c).1, (hmm c).2]
  funext y
  unfold PleGateIdeal.Value.lhs PleGateIdeal.Value.rhs
  pointwise []

end Cert.Proof.Feed

end
-- ==== Proof.Feed.UkvW.lean ====
/-
  The gradient of the weights of the product from which the latent attention's keys and values are: the product of the
  transposed input by the result's gradient, block by block over the rows, is the plain one.
-/
module

public import proofs.«01_k».proof.Defs
public import proofs.«01_k».proof.Proof.Feed.RunSum
public import proofs.«01_k».proof.Proof.Gen.UkvWIdeal.Value
public import proofs.«01_k».proof.Proof.Gen.UkvWReferenceIdeal.Run

@[expose] public section

noncomputable section

namespace Cert.UkvWIdeal.Value

open Cert.UkvWIdeal Cert.UkvWIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S128x1024) hz2, View.readCov_unit_zero (S := S128x1024) _ hz2]
  simp only [View.readAt_eq_ld, (hs0_0 t).read_unread, (hs0_1 t).read_unread, View.ld_unit_zero (S := S1024x128) hz2, View.ld_unit_zero (S := S1024x1024) hz2, View.ld_unit_zero (S := S128x1024) hz2]

/-- a later one adds its product, -/
theorem later (c : Dev nD) (t : Fin cfg0.N) (h0 : t.val % 8 ≠ 0) (h1 : t.val % 8 ≠ 7) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x128) hz2, View.ld_unit_zero (S := S1024x1024) hz2, View.ld_unit_zero (S := S128x1024) hz2]

/-- and the last writes the sum. -/
theorem last (c : Dev nD) (t : Fin cfg0.N) (h1 : t.val % 8 = 7) : (outsAt0 m c t.val t.isLt).1 = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero (S := S128x1024) hz2, View.readCov_unit_zero (S := S128x1024) _ hz2]
  simp only [View.readAt_eq_ld, (hs0_0 t).read_unread, (hs0_1 t).read_unread, (Memref.isWhole_whole _).read_unread, View.ld_unit_zero (S := S1024x128) hz2, View.ld_unit_zero (S := S1024x1024) hz2, View.ld_unit_zero (S := S128x1024) hz2]

theorem pay_apply (acc : Vec Ideal S128x1024 .f32) (x : Vec Ideal S1024x128 .bf16) (w : Vec Ideal S1024x1024 .bf16) (p : Fin 128) (q : Fin 1024) :
    k0_pay2 acc x w (ix2 p q) = acc (ix2 p q) + ∑ k : Fin 1024, x (ix2 k p) * w (ix2 k q) := by
  pointwise [k0_pay2]

theorem zero_apply (y : S128x1024.Idx) : k0_pay1 (F := Ideal) y = 0 := by
  pointwise [k0_pay1]

theorem idx_facts : ∀ t : Fin cfg0.N, win0_0.index t = ![t.val % 8, 0] ∧ win0_1.index t = ![t.val % 8, t.val / 8] ∧ win0_2.index t = ![0, t.val / 8] :=
  (by decide +kernel : ∀ t : Fin grid0.N, _)

/-- The two arguments, and the terms of the product. -/
def lhs (c : Dev nD) : Vec Ideal S8192x128 .f32 := m ((c : Thread nD τ).loc main_arg0)
def rhs (c : Dev nD) : Vec Ideal S8192x4096 .f32 := m ((c : Thread nD τ).loc main_arg1)
def term (c : Dev nD) (i : Fin 128) (j : Fin 4096) (k : Fin 8192) : EReal := lhs m c (ix2 k i) * rhs m c (ix2 k j)

theorem lblk_eq (c : Dev nD) (t : Fin cfg0.N) (k : Fin 1024) (p : Fin 128) :
    (iblk m c 0 t : Vec Ideal S1024x128 .bf16) (ix2 k p) = lhs m c (ix2 (place rfl t.val (by omega : 0 < 8) k) p) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; rfl
  · blk_simp [h]; rfl

theorem rblk_eq (c : Dev nD) (t : Fin cfg0.N) (k : Fin 1024) (q : Fin 1024) (j : Fin 4096) (hj : j.val = t.val / 8 * 1024 + q.val) :
    (iblk m c 1 t : Vec Ideal S1024x1024 .bf16) (ix2 k q) = rhs m c (ix2 (place rfl t.val (by omega : 0 < 8) k) j) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; exact hj.symm

/-- What a point adds. -/
theorem step (c : Dev nD) (t : Fin cfg0.N) (acc : Vec Ideal S128x1024 .f32) (p : Fin 128) (q : Fin 1024) (j : Fin 4096) (hj : j.val = t.val / 8 * 1024 + q.val) :
    k0_pay2 acc (iblk m c 0 t) (iblk m c 1 t) (ix2 p q) = acc (ix2 p q) + ∑ k : Fin 1024, term m c p j (place rfl t.val (by omega : 0 < 8) k) :=
  (pay_apply ..).trans (congrArg (acc (ix2 p q) + ·) (Finset.sum_congr rfl fun k _ =>
    congrArg₂ (fun a b : EReal => a * b) (lblk_eq m c t k p) (rblk_eq m c t k q j hj)))

theorem flush_facts : ∀ t : Fin cfg0.N, (cfg0.win 2).flush t → t.val % 8 = 7 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : ((cfg0.win 2).blk t).view.emb y 0 = y 0 := Fin.ext (by blk_simp [h])
  have e1 : (((cfg0.win 2).blk t).view.emb y 1).val = t.val / 8 * 1024 + (y 1).val := by blk_simp [h]
  rw [e0]
  blk_simp [h]
  rw [after0_2]
  refine (congrArg _ (at_two y)).trans ?_
  exact run_sum (n := 8) (b := 1024) (K := 8192) (by omega) rfl (fun s hs => (outsAt0 m c s hs).2 (ix2 (y 0) (y 1)))
    (fun s hs => (outsAt0 m c s hs).1 (ix2 (y 0) (y 1))) (term m c (y 0) (((cfg0.win 2).blk t).view.emb y 1)) t (flush_facts t hf)
    (fun s hs h0 => (congrFun (first m c s h0) _).trans ((step m c s _ _ _ _ (e1.trans (by rw [hs]))).trans (by rw [zero_apply, zero_add])))
    (fun s hs h0 h1 => (congrFun (later m c s h0 h1) _).trans (step m c s _ _ _ _ (e1.trans (by rw [hs]))))
    ((congrFun (last m c t (flush_facts t hf)) _).trans (step m c t _ _ _ _ e1))

end Cert.UkvWIdeal.Value

namespace Cert.Proof.Feed

open Cert Idealize.ShloMosaic Idealize.ShloMosaic.TcCoe Idealize.SL.Sem

/-- The gradient of the weights of the product from which the latent attention's keys and values are. The reference has its
    factors the other way around. -/
theorem ukv_w : algebraic_UkvWIdeal_UkvWReferenceIdeal := fun m ρ m' ρ' _ hmm => by
  refine ⟨_, (θ_run UkvWIdeal.defs _ _).mono (fun r h c => ⟨(h c).1.trans (UkvWIdeal.Value.result m c), (h c).2⟩) (UkvWIdeal.Value.run_blocks m ρ),
    (θ_run UkvWReferenceIdeal.defs _ _).mono (fun r h c => ⟨(h c).1.trans ?_, (h c).2⟩) (UkvWReferenceIdeal.Value.run (F := Ideal) m' ρ')⟩
  rw [(hmm c).1, (hmm c).2]
  funext y
  refine Eq.trans (b := ∑ k, UkvWIdeal.Value.rhs m c (ix2 k (y 1)) * UkvWIdeal.Value.lhs m c (ix2 k (y 0))) ?_ (Finset.sum_congr rfl fun k _ => mul_comm (G := EReal) _ _)
  unfold UkvWIdeal.Value.lhs UkvWIdeal.Value.rhs
  pointwise []

end Cert.Proof.Feed

end
-- ==== Proof.Feed.UkvX.lean ====
/-
  The gradient of the input of the product from which the latent attention's keys and values are: the product by the
  transposed weights, block by block over the columns, is the plain one.
-/
module

public import proofs.«01_k».proof.Defs
public import proofs.«01_k».proof.Proof.Feed.RunSum
public import proofs.«01_k».proof.Proof.Gen.UkvXIdeal.Value
public import proofs.«01_k».proof.Proof.Gen.UkvXReferenceIdeal.Run

@[expose] public section

noncomputable section

namespace Cert.UkvXIdeal.Value

open Cert.UkvXIdeal Cert.UkvXIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 4 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x128) hz2, View.readCov_unit_zero (S := S1024x128) _ hz2]
  simp only [View.readAt_eq_ld, (hs0_0 t).read_unread, (hs0_1 t).read_unread, View.ld_unit_zero (S := S1024x1024) hz2, View.ld_unit_zero (S := S128x1024) hz2, View.ld_unit_zero (S := S1024x128) hz2]

/-- a later one adds its product, -/
theorem later (c : Dev nD) (t : Fin cfg0.N) (h0 : t.val % 4 ≠ 0) (h1 : t.val % 4 ≠ 3) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x1024) hz2, View.ld_unit_zero (S := S128x1024) hz2, View.ld_unit_zero (S := S1024x128) hz2]

/-- and the last writes the sum. -/
theorem last (c : Dev nD) (t : Fin cfg0.N) (h1 : t.val % 4 = 3) : (outsAt0 m c t.val t.isLt).1 = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero hz2, View.readCov_unit_zero (S := S1024x128) _ hz2]
  simp only [View.readAt_eq_ld, (hs0_0 t).read_unread, (hs0_1 t).read_unread, (Memref.isWhole_whole _).read_unread, View.ld_unit_zero (S := S1024x1024) hz2, View.ld_unit_zero (S := S128x1024) hz2, View.ld_unit_zero (S := S1024x128) hz2]

theorem pay_apply (acc : Vec Ideal S1024x128 .f32) (x : Vec Ideal S1024x1024 .bf16) (w : Vec Ideal S128x1024 .bf16) (p : Fin 1024) (q : Fin 128) :
    k0_pay2 acc x w (ix2 p q) = acc (ix2 p q) + ∑ j : Fin 1024, x (ix2 p j) * w (ix2 q j) := by
  pointwise [k0_pay2]

theorem zero_apply (y : S1024x128.Idx) : k0_pay1 (F := Ideal) y = 0 := by
  pointwise [k0_pay1]

theorem idx_facts : ∀ t : Fin cfg0.N, win0_0.index t = ![t.val / 4, t.val % 4] ∧ win0_1.index t = ![0, t.val % 4] ∧ win0_2.index t = ![t.val / 4, 0] :=
  (by decide +kernel : ∀ t : Fin grid0.N, _)

/-- The two arguments, and the terms of the product. -/
def lhs (c : Dev nD) : Vec Ideal S8192x4096 .f32 := m ((c : Thread nD τ).loc main_arg0)
def rhs (c : Dev nD) : Vec Ideal S128x4096 .f32 := m ((c : Thread nD τ).loc main_arg1)
def term (c : Dev nD) (i : Fin 8192) (j : Fin 128) (k : Fin 4096) : EReal := lhs m c (ix2 i k) * rhs m c (ix2 j k)

theorem lblk_eq (c : Dev nD) (t : Fin cfg0.N) (p k : Fin 1024) (i : Fin 8192) (hi : i.val = t.val / 4 * 1024 + p.val) :
    (iblk m c 0 t : Vec Ideal S1024x1024 .bf16) (ix2 p k) = lhs m c (ix2 i (place rfl t.val (by omega : 0 < 4) k)) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (q : Fin 128) (k : Fin 1024) :
    (iblk m c 1 t : Vec Ideal S128x1024 .bf16) (ix2 q k) = rhs m c (ix2 q (place rfl t.val (by omega : 0 < 4) k)) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; rfl

/-- What a point adds. -/
theorem step (c : Dev nD) (t : Fin cfg0.N) (acc : Vec Ideal S1024x128 .f32) (p : Fin 1024) (q : Fin 128) (i : Fin 8192) (hi : i.val = t.val / 4 * 1024 + p.val) :
    k0_pay2 acc (iblk m c 0 t) (iblk m c 1 t) (ix2 p q) = acc (ix2 p q) + ∑ k : Fin 1024, term m c i q (place rfl t.val (by omega : 0 < 4) k) :=
  (pay_apply ..).trans (congrArg (acc (ix2 p q) + ·) (Finset.sum_congr rfl fun k _ =>
    congrArg₂ (fun a b : EReal => a * b) (lblk_eq m c t p k i hi) (rblk_eq m c t q k)))

theorem flush_facts : ∀ t : Fin cfg0.N, (cfg0.win 2).flush t → t.val % 4 = 3 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : (((cfg0.win 2).blk t).view.emb y 0).val = t.val / 4 * 1024 + (y 0).val := by blk_simp [h]
  have e1 : ((cfg0.win 2).blk t).view.emb y 1 = y 1 := Fin.ext (by blk_simp [h])
  rw [e1]
  blk_simp [h]
  rw [after0_2]
  refine (congrArg _ (at_two y)).trans ?_
  exact run_sum (n := 4) (b := 1024) (K := 4096) (by omega) rfl (fun s hs => (outsAt0 m c s hs).2 (ix2 (y 0) (y 1)))
    (fun s hs => (outsAt0 m c s hs).1 (ix2 (y 0) (y 1))) (term m c (((cfg0.win 2).blk t).view.emb y 0) (y 1)) t (flush_facts t hf)
    (fun s hs h0 => (congrFun (first m c s h0) _).trans ((step m c s _ _ _ _ (e0.trans (by rw [hs]))).trans (by rw [zero_apply, zero_add])))
    (fun s hs h0 h1 => (congrFun (later m c s h0 h1) _).trans (step m c s _ _ _ _ (e0.trans (by rw [hs]))))
    ((congrFun (last m c t (flush_facts t hf)) _).trans (step m c t _ _ _ _ e0))

end Cert.UkvXIdeal.Value

namespace Cert.Proof.Feed

open Cert Idealize.ShloMosaic Idealize.ShloMosaic.TcCoe Idealize.SL.Sem

/-- The gradient of the input of the product from which the latent attention's keys and values are. -/
theorem ukv_x : algebraic_UkvXIdeal_UkvXReferenceIdeal := fun m ρ m' ρ' _ hmm => by
  refine ⟨_, (θ_run UkvXIdeal.defs _ _).mono (fun r h c => ⟨(h c).1.trans (UkvXIdeal.Value.result m c), (h c).2⟩) (UkvXIdeal.Value.run_blocks m ρ),
    (θ_run UkvXReferenceIdeal.defs _ _).mono (fun r h c => ⟨(h c).1.trans ?_, (h c).2⟩) (UkvXReferenceIdeal.Value.run (F := Ideal) m' ρ')⟩
  rw [(hmm c).1, (hmm c).2]
  funext y
  unfold UkvXIdeal.Value.term UkvXIdeal.Value.lhs UkvXIdeal.Value.rhs
  pointwise []

end Cert.Proof.Feed

end
-- ==== Proof.Feed.Ukv.lean ====
/-
  The product from which the latent attention's keys and values are, its whole inner axis in one block.
-/
module

public import proofs.«01_k».proof.Defs
public import proofs.«01_k».proof.Proof.Feed.RunSum
public import proofs.«01_k».proof.Proof.Gen.UkvIdeal.Value
public import proofs.«01_k».proof.Proof.Gen.UkvReferenceIdeal.Run

@[expose] public section

noncomputable section

namespace Cert.UkvIdeal.Value

open Cert.UkvIdeal Cert.UkvIdeal.Gen Idealize.ShloMosaic Idealize.ShloMosaic.TcCoe Idealize.SL.Sem
open Cert.Proof.Feed

variable (m : (ℓ : Loc nD τ sig) → Buf (Elt Ideal) ℓ)

/-- A point writes the product of its blocks, -/
theorem out_eq (c : Dev nD) (t : Fin cfg0.N) : outsAt0 m c t = k0_pay3 (k0_pay2 k0_pay1 (iblk m c 0 t) (iblk m c 1 t)) := by
  unfold outsAt0
  unfold out0_A_2
  rw [View.read_writes_eq_canon _ _ _ (cover0_A_2 _ _ _ _ _ _ _ _ _ _ _ _ _ _)]
  unfold kernelRun0_A
  dsimp only
  sl_unfold_words
  rw [View.canon_unit_zero hz2, View.readCov_cons_toLoadRect, View.readCov_unit_zero (S := S1024x1024) _ hz2]
  simp only [View.readAt_eq_ld, (hs0_0 t).read_unread, (hs0_1 t).read_unread, View.ld_unit_zero (S := S1024x128) hz2, View.ld_unit_zero (S := S128x1024) hz2]

/-- read at an index. -/
theorem pay_apply (x : Vec Ideal S1024x128 .bf16) (w : Vec Ideal S128x1024 .bf16) (p q : Fin 1024) :
    k0_pay2 k0_pay1 x w (ix2 p q) = ∑ k : Fin 128, x (ix2 p k) * w (ix2 k q) := by
  refine Eq.trans (b := 0 + ∑ k : Fin 128, x (ix2 p k) * w (ix2 k q)) ?_ (zero_add _)
  pointwise [k0_pay2, k0_pay1]

theorem idx_facts : ∀ t : Fin cfg0.N, win0_0.index t = ![t.val / 4, 0] ∧ win0_1.index t = ![0, t.val % 4] ∧ win0_2.index t = ![t.val / 4, t.val % 4] :=
  (by decide +kernel : ∀ t : Fin grid0.N, _)

/-- The two arguments, and their blocks. -/
def lhs (c : Dev nD) : Vec Ideal S8192x128 .f32 := m ((c : Thread nD τ).loc main_arg0)
def rhs (c : Dev nD) : Vec Ideal S128x4096 .f32 := m ((c : Thread nD τ).loc main_arg1)

theorem lblk_eq (c : Dev nD) (t : Fin cfg0.N) (p : Fin 1024) (k : Fin 128) (i : Fin 8192) (hi : i.val = t.val / 4 * 1024 + p.val) :
    (iblk m c 0 t : Vec Ideal S1024x128 .bf16) (ix2 p k) = lhs m c (ix2 i k) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (k : Fin 128) (q : Fin 1024) (j : Fin 4096) (hj : j.val = t.val % 4 * 1024 + q.val) :
    (iblk m c 1 t : Vec Ideal S128x1024 .bf16) (ix2 k q) = rhs m c (ix2 k j) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; exact hj.symm

/-- The result is the product. -/
theorem result (c : Dev nD) : (dats m 0 c).arrAt 2 cfg0.N = fun y => (∑ k, lhs m c (ix2 (y 0) k) * rhs m c (ix2 k (y 1)) : EReal) := by
  refine (dats m 0 c).arrAt_eq_of_covers 2 _ (by decide +kernel) fun t hf y => ?_
  have h := (idx_facts t).2.2
  have e0 : (((cfg0.win 2).blk t).view.emb y 0).val = t.val / 4 * 1024 + (y 0).val := by blk_simp [h]
  have e1 : (((cfg0.win 2).blk t).view.emb y 1).val = t.val % 4 * 1024 + (y 1).val := by blk_simp [h]
  blk_simp [h]
  rw [after0_2]
  refine (congrArg _ (at_two y)).trans ((congrFun (out_eq m c t) _).trans ((pay_apply _ _ (y 0) (y 1)).trans ?_))
  exact Finset.sum_congr rfl fun k _ => congrArg₂ (fun a b : EReal => a * b) (lblk_eq m c t _ k _ e0) (rblk_eq m c t k _ _ e1)

end Cert.UkvIdeal.Value

namespace Cert.Proof.Feed

open Cert Idealize.ShloMosaic Idealize.ShloMosaic.TcCoe Idealize.SL.Sem

/-- The product from which the latent attention's keys and values are. -/
theorem ukv : algebraic_UkvIdeal_UkvReferenceIdeal := fun m ρ m' ρ' _ hmm => by
  refine ⟨_, (θ_run UkvIdeal.defs _ _).mono (fun r h c => ⟨(h c).1.trans (UkvIdeal.Value.result m c), (h c).2⟩) (UkvIdeal.Value.run_blocks m ρ),
    (θ_run UkvReferenceIdeal.defs _ _).mono (fun r h c => ⟨(h c).1.trans ?_, (h c).2⟩) (UkvReferenceIdeal.Value.run (F := Ideal) m' ρ')⟩
  rw [(hmm c).1, (hmm c).2]
  funext y
  unfold UkvIdeal.Value.lhs UkvIdeal.Value.rhs
  pointwise []

end Cert.Proof.Feed

end
-- ==== Proof.Feed.UqW.lean ====
/-
  The gradient of the weights of the product from which the latent attention's queries are: the product of the
  transposed input by the result's gradient, block by block over the rows, is the plain one.
-/
module

public import proofs.«01_k».proof.Defs
public import proofs.«01_k».proof.Proof.Feed.RunSum
public import proofs.«01_k».proof.Proof.Gen.UqWIdeal.Value
public import proofs.«01_k».proof.Proof.Gen.UqWReferenceIdeal.Run

@[expose] public section

noncomputable section

namespace Cert.UqWIdeal.Value

open Cert.UqWIdeal Cert.UqWIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S256x1024) hz2, View.readCov_unit_zero (S := S256x1024) _ hz2]
  simp only [View.readAt_eq_ld, (hs0_0 t).read_unread, (hs0_1 t).read_unread, View.ld_unit_zero (S := S1024x256) hz2, View.ld_unit_zero (S := S1024x1024) hz2, View.ld_unit_zero (S := S256x1024) hz2]

/-- a later one adds its product, -/
theorem later (c : Dev nD) (t : Fin cfg0.N) (h0 : t.val % 8 ≠ 0) (h1 : t.val % 8 ≠ 7) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x256) hz2, View.ld_unit_zero (S := S1024x1024) hz2, View.ld_unit_zero (S := S256x1024) hz2]

/-- and the last writes the sum. -/
theorem last (c : Dev nD) (t : Fin cfg0.N) (h1 : t.val % 8 = 7) : (outsAt0 m c t.val t.isLt).1 = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero (S := S256x1024) hz2, View.readCov_unit_zero (S := S256x1024) _ hz2]
  simp only [View.readAt_eq_ld, (hs0_0 t).read_unread, (hs0_1 t).read_unread, (Memref.isWhole_whole _).read_unread, View.ld_unit_zero (S := S1024x256) hz2, View.ld_unit_zero (S := S1024x1024) hz2, View.ld_unit_zero (S := S256x1024) hz2]

theorem pay_apply (acc : Vec Ideal S256x1024 .f32) (x : Vec Ideal S1024x256 .bf16) (w : Vec Ideal S1024x1024 .bf16) (p : Fin 256) (q : Fin 1024) :
    k0_pay2 acc x w (ix2 p q) = acc (ix2 p q) + ∑ k : Fin 1024, x (ix2 k p) * w (ix2 k q) := by
  pointwise [k0_pay2]

theorem zero_apply (y : S256x1024.Idx) : k0_pay1 (F := Ideal) y = 0 := by
  pointwise [k0_pay1]

theorem idx_facts : ∀ t : Fin cfg0.N, win0_0.index t = ![t.val % 8, 0] ∧ win0_1.index t = ![t.val % 8, t.val / 8] ∧ win0_2.index t = ![0, t.val / 8] :=
  (by decide +kernel : ∀ t : Fin grid0.N, _)

/-- The two arguments, and the terms of the product. -/
def lhs (c : Dev nD) : Vec Ideal S8192x256 .f32 := m ((c : Thread nD τ).loc main_arg0)
def rhs (c : Dev nD) : Vec Ideal S8192x8192 .f32 := m ((c : Thread nD τ).loc main_arg1)
def term (c : Dev nD) (i : Fin 256) (j : Fin 8192) (k : Fin 8192) : EReal := lhs m c (ix2 k i) * rhs m c (ix2 k j)

theorem lblk_eq (c : Dev nD) (t : Fin cfg0.N) (k : Fin 1024) (p : Fin 256) :
    (iblk m c 0 t : Vec Ideal S1024x256 .bf16) (ix2 k p) = lhs m c (ix2 (place rfl t.val (by omega : 0 < 8) k) p) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; rfl
  · blk_simp [h]; rfl

theorem rblk_eq (c : Dev nD) (t : Fin cfg0.N) (k : Fin 1024) (q : Fin 1024) (j : Fin 8192) (hj : j.val = t.val / 8 * 1024 + q.val) :
    (iblk m c 1 t : Vec Ideal S1024x1024 .bf16) (ix2 k q) = rhs m c (ix2 (place rfl t.val (by omega : 0 < 8) k) j) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; exact hj.symm

/-- What a point adds. -/
theorem step (c : Dev nD) (t : Fin cfg0.N) (acc : Vec Ideal S256x1024 .f32) (p : Fin 256) (q : Fin 1024) (j : Fin 8192) (hj : j.val = t.val / 8 * 1024 + q.val) :
    k0_pay2 acc (iblk m c 0 t) (iblk m c 1 t) (ix2 p q) = acc (ix2 p q) + ∑ k : Fin 1024, term m c p j (place rfl t.val (by omega : 0 < 8) k) :=
  (pay_apply ..).trans (congrArg (acc (ix2 p q) + ·) (Finset.sum_congr rfl fun k _ =>
    congrArg₂ (fun a b : EReal => a * b) (lblk_eq m c t k p) (rblk_eq m c t k q j hj)))

theorem flush_facts : ∀ t : Fin cfg0.N, (cfg0.win 2).flush t → t.val % 8 = 7 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : ((cfg0.win 2).blk t).view.emb y 0 = y 0 := Fin.ext (by blk_simp [h])
  have e1 : (((cfg0.win 2).blk t).view.emb y 1).val = t.val / 8 * 1024 + (y 1).val := by blk_simp [h]
  rw [e0]
  blk_simp [h]
  rw [after0_2]
  refine (congrArg _ (at_two y)).trans ?_
  exact run_sum (n := 8) (b := 1024) (K := 8192) (by omega) rfl (fun s hs => (outsAt0 m c s hs).2 (ix2 (y 0) (y 1)))
    (fun s hs => (outsAt0 m c s hs).1 (ix2 (y 0) (y 1))) (term m c (y 0) (((cfg0.win 2).blk t).view.emb y 1)) t (flush_facts t hf)
    (fun s hs h0 => (congrFun (first m c s h0) _).trans ((step m c s _ _ _ _ (e1.trans (by rw [hs]))).trans (by rw [zero_apply, zero_add])))
    (fun s hs h0 h1 => (congrFun (later m c s h0 h1) _).trans (step m c s _ _ _ _ (e1.trans (by rw [hs]))))
    ((congrFun (last m c t (flush_facts t hf)) _).trans (step m c t _ _ _ _ e1))

end Cert.UqWIdeal.Value

namespace Cert.Proof.Feed

open Cert Idealize.ShloMosaic Idealize.ShloMosaic.TcCoe Idealize.SL.Sem

/-- The gradient of the weights of the product from which the latent attention's queries are. The reference has its
    factors the other way around. -/
theorem uq_w : algebraic_UqWIdeal_UqWReferenceIdeal := fun m ρ m' ρ' _ hmm => by
  refine ⟨_, (θ_run UqWIdeal.defs _ _).mono (fun r h c => ⟨(h c).1.trans (UqWIdeal.Value.result m c), (h c).2⟩) (UqWIdeal.Value.run_blocks m ρ),
    (θ_run UqWReferenceIdeal.defs _ _).mono (fun r h c => ⟨(h c).1.trans ?_, (h c).2⟩) (UqWReferenceIdeal.Value.run (F := Ideal) m' ρ')⟩
  rw [(hmm c).1, (hmm c).2]
  funext y
  refine Eq.trans (b := ∑ k, UqWIdeal.Value.rhs m c (ix2 k (y 1)) * UqWIdeal.Value.lhs m c (ix2 k (y 0))) ?_ (Finset.sum_congr rfl fun k _ => mul_comm (G := EReal) _ _)
  unfold UqWIdeal.Value.lhs UqWIdeal.Value.rhs
  pointwise []

end Cert.Proof.Feed

end
-- ==== Proof.Feed.UqX.lean ====
/-
  The gradient of the input of the product from which the latent attention's queries are: the product by the
  transposed weights, block by block over the columns, is the plain one.
-/
module

public import proofs.«01_k».proof.Defs
public import proofs.«01_k».proof.Proof.Feed.RunSum
public import proofs.«01_k».proof.Proof.Gen.UqXIdeal.Value
public import proofs.«01_k».proof.Proof.Gen.UqXReferenceIdeal.Run

@[expose] public section

noncomputable section

namespace Cert.UqXIdeal.Value

open Cert.UqXIdeal Cert.UqXIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x256) hz2, View.readCov_unit_zero (S := S1024x256) _ hz2]
  simp only [View.readAt_eq_ld, (hs0_0 t).read_unread, (hs0_1 t).read_unread, View.ld_unit_zero (S := S1024x1024) hz2, View.ld_unit_zero (S := S256x1024) hz2, View.ld_unit_zero (S := S1024x256) hz2]

/-- a later one adds its product, -/
theorem later (c : Dev nD) (t : Fin cfg0.N) (h0 : t.val % 8 ≠ 0) (h1 : t.val % 8 ≠ 7) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x1024) hz2, View.ld_unit_zero (S := S256x1024) hz2, View.ld_unit_zero (S := S1024x256) hz2]

/-- and the last writes the sum. -/
theorem last (c : Dev nD) (t : Fin cfg0.N) (h1 : t.val % 8 = 7) : (outsAt0 m c t.val t.isLt).1 = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero hz2, View.readCov_unit_zero (S := S1024x256) _ hz2]
  simp only [View.readAt_eq_ld, (hs0_0 t).read_unread, (hs0_1 t).read_unread, (Memref.isWhole_whole _).read_unread, View.ld_unit_zero (S := S1024x1024) hz2, View.ld_unit_zero (S := S256x1024) hz2, View.ld_unit_zero (S := S1024x256) hz2]

theorem pay_apply (acc : Vec Ideal S1024x256 .f32) (x : Vec Ideal S1024x1024 .bf16) (w : Vec Ideal S256x1024 .bf16) (p : Fin 1024) (q : Fin 256) :
    k0_pay2 acc x w (ix2 p q) = acc (ix2 p q) + ∑ j : Fin 1024, x (ix2 p j) * w (ix2 q j) := by
  pointwise [k0_pay2]

theorem zero_apply (y : S1024x256.Idx) : k0_pay1 (F := Ideal) y = 0 := by
  pointwise [k0_pay1]

theorem idx_facts : ∀ t : Fin cfg0.N, win0_0.index t = ![t.val / 8, t.val % 8] ∧ win0_1.index t = ![0, t.val % 8] ∧ win0_2.index t = ![t.val / 8, 0] :=
  (by decide +kernel : ∀ t : Fin grid0.N, _)

/-- The two arguments, and the terms of the product. -/
def lhs (c : Dev nD) : Vec Ideal S8192x8192 .f32 := m ((c : Thread nD τ).loc main_arg0)
def rhs (c : Dev nD) : Vec Ideal S256x8192 .f32 := m ((c : Thread nD τ).loc main_arg1)
def term (c : Dev nD) (i : Fin 8192) (j : Fin 256) (k : Fin 8192) : EReal := lhs m c (ix2 i k) * rhs m c (ix2 j k)

theorem lblk_eq (c : Dev nD) (t : Fin cfg0.N) (p k : Fin 1024) (i : Fin 8192) (hi : i.val = t.val / 8 * 1024 + p.val) :
    (iblk m c 0 t : Vec Ideal S1024x1024 .bf16) (ix2 p k) = lhs m c (ix2 i (place rfl t.val (by omega : 0 < 8) k)) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (q : Fin 256) (k : Fin 1024) :
    (iblk m c 1 t : Vec Ideal S256x1024 .bf16) (ix2 q k) = rhs m c (ix2 q (place rfl t.val (by omega : 0 < 8) k)) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; rfl

/-- What a point adds. -/
theorem step (c : Dev nD) (t : Fin cfg0.N) (acc : Vec Ideal S1024x256 .f32) (p : Fin 1024) (q : Fin 256) (i : Fin 8192) (hi : i.val = t.val / 8 * 1024 + p.val) :
    k0_pay2 acc (iblk m c 0 t) (iblk m c 1 t) (ix2 p q) = acc (ix2 p q) + ∑ k : Fin 1024, term m c i q (place rfl t.val (by omega : 0 < 8) k) :=
  (pay_apply ..).trans (congrArg (acc (ix2 p q) + ·) (Finset.sum_congr rfl fun k _ =>
    congrArg₂ (fun a b : EReal => a * b) (lblk_eq m c t p k i hi) (rblk_eq m c t q k)))

theorem flush_facts : ∀ t : Fin cfg0.N, (cfg0.win 2).flush t → t.val % 8 = 7 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : (((cfg0.win 2).blk t).view.emb y 0).val = t.val / 8 * 1024 + (y 0).val := by blk_simp [h]
  have e1 : ((cfg0.win 2).blk t).view.emb y 1 = y 1 := Fin.ext (by blk_simp [h])
  rw [e1]
  blk_simp [h]
  rw [after0_2]
  refine (congrArg _ (at_two y)).trans ?_
  exact run_sum (n := 8) (b := 1024) (K := 8192) (by omega) rfl (fun s hs => (outsAt0 m c s hs).2 (ix2 (y 0) (y 1)))
    (fun s hs => (outsAt0 m c s hs).1 (ix2 (y 0) (y 1))) (term m c (((cfg0.win 2).blk t).view.emb y 0) (y 1)) t (flush_facts t hf)
    (fun s hs h0 => (congrFun (first m c s h0) _).trans ((step m c s _ _ _ _ (e0.trans (by rw [hs]))).trans (by rw [zero_apply, zero_add])))
    (fun s hs h0 h1 => (congrFun (later m c s h0 h1) _).trans (step m c s _ _ _ _ (e0.trans (by rw [hs]))))
    ((congrFun (last m c t (flush_facts t hf)) _).trans (step m c t _ _ _ _ e0))

end Cert.UqXIdeal.Value

namespace Cert.Proof.Feed

open Cert Idealize.ShloMosaic Idealize.ShloMosaic.TcCoe Idealize.SL.Sem

/-- The gradient of the input of the product from which the latent attention's queries are. -/
theorem uq_x : algebraic_UqXIdeal_UqXReferenceIdeal := fun m ρ m' ρ' _ hmm => by
  refine ⟨_, (θ_run UqXIdeal.defs _ _).mono (fun r h c => ⟨(h c).1.trans (UqXIdeal.Value.result m c), (h c).2⟩) (UqXIdeal.Value.run_blocks m ρ),
    (θ_run UqXReferenceIdeal.defs _ _).mono (fun r h c => ⟨(h c).1.trans ?_, (h c).2⟩) (UqXReferenceIdeal.Value.run (F := Ideal) m' ρ')⟩
  rw [(hmm c).1, (hmm c).2]
  funext y
  unfold UqXIdeal.Value.term UqXIdeal.Value.lhs UqXIdeal.Value.rhs
  pointwise []

end Cert.Proof.Feed

end
-- ==== Proof.Feed.Uq.lean ====
/-
  The product from which the latent attention's queries are, its whole inner axis in one block.
-/
module

public import proofs.«01_k».proof.Defs
public import proofs.«01_k».proof.Proof.Feed.RunSum
public import proofs.«01_k».proof.Proof.Gen.UqIdeal.Value
public import proofs.«01_k».proof.Proof.Gen.UqReferenceIdeal.Run

@[expose] public section

noncomputable section

namespace Cert.UqIdeal.Value

open Cert.UqIdeal Cert.UqIdeal.Gen Idealize.ShloMosaic Idealize.ShloMosaic.TcCoe Idealize.SL.Sem
open Cert.Proof.Feed

variable (m : (ℓ : Loc nD τ sig) → Buf (Elt Ideal) ℓ)

/-- A point writes the product of its blocks, -/
theorem out_eq (c : Dev nD) (t : Fin cfg0.N) : outsAt0 m c t = k0_pay3 (k0_pay2 k0_pay1 (iblk m c 0 t) (iblk m c 1 t)) := by
  unfold outsAt0
  unfold out0_A_2
  rw [View.read_writes_eq_canon _ _ _ (cover0_A_2 _ _ _ _ _ _ _ _ _ _ _ _ _ _)]
  unfold kernelRun0_A
  dsimp only
  sl_unfold_words
  rw [View.canon_unit_zero hz2, View.readCov_cons_toLoadRect, View.readCov_unit_zero (S := S1024x1024) _ hz2]
  simp only [View.readAt_eq_ld, (hs0_0 t).read_unread, (hs0_1 t).read_unread, View.ld_unit_zero (S := S1024x256) hz2, View.ld_unit_zero (S := S256x1024) hz2]

/-- read at an index. -/
theorem pay_apply (x : Vec Ideal S1024x256 .bf16) (w : Vec Ideal S256x1024 .bf16) (p q : Fin 1024) :
    k0_pay2 k0_pay1 x w (ix2 p q) = ∑ k : Fin 256, x (ix2 p k) * w (ix2 k q) := by
  refine Eq.trans (b := 0 + ∑ k : Fin 256, x (ix2 p k) * w (ix2 k q)) ?_ (zero_add _)
  pointwise [k0_pay2, k0_pay1]

theorem idx_facts : ∀ t : Fin cfg0.N, win0_0.index t = ![t.val / 8, 0] ∧ win0_1.index t = ![0, t.val % 8] ∧ win0_2.index t = ![t.val / 8, t.val % 8] :=
  (by decide +kernel : ∀ t : Fin grid0.N, _)

/-- The two arguments, and their blocks. -/
def lhs (c : Dev nD) : Vec Ideal S8192x256 .f32 := m ((c : Thread nD τ).loc main_arg0)
def rhs (c : Dev nD) : Vec Ideal S256x8192 .f32 := m ((c : Thread nD τ).loc main_arg1)

theorem lblk_eq (c : Dev nD) (t : Fin cfg0.N) (p : Fin 1024) (k : Fin 256) (i : Fin 8192) (hi : i.val = t.val / 8 * 1024 + p.val) :
    (iblk m c 0 t : Vec Ideal S1024x256 .bf16) (ix2 p k) = lhs m c (ix2 i k) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (k : Fin 256) (q : Fin 1024) (j : Fin 8192) (hj : j.val = t.val % 8 * 1024 + q.val) :
    (iblk m c 1 t : Vec Ideal S256x1024 .bf16) (ix2 k q) = rhs m c (ix2 k j) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; exact hj.symm

/-- The result is the product. -/
theorem result (c : Dev nD) : (dats m 0 c).arrAt 2 cfg0.N = fun y => (∑ k, lhs m c (ix2 (y 0) k) * rhs m c (ix2 k (y 1)) : EReal) := by
  refine (dats m 0 c).arrAt_eq_of_covers 2 _ (by decide +kernel) fun t hf y => ?_
  have h := (idx_facts t).2.2
  have e0 : (((cfg0.win 2).blk t).view.emb y 0).val = t.val / 8 * 1024 + (y 0).val := by blk_simp [h]
  have e1 : (((cfg0.win 2).blk t).view.emb y 1).val = t.val % 8 * 1024 + (y 1).val := by blk_simp [h]
  blk_simp [h]
  rw [after0_2]
  refine (congrArg _ (at_two y)).trans ((congrFun (out_eq m c t) _).trans ((pay_apply _ _ (y 0) (y 1)).trans ?_))
  exact Finset.sum_congr rfl fun k _ => congrArg₂ (fun a b : EReal => a * b) (lblk_eq m c t _ k _ e0) (rblk_eq m c t k _ _ e1)

end Cert.UqIdeal.Value

namespace Cert.Proof.Feed

open Cert Idealize.ShloMosaic Idealize.ShloMosaic.TcCoe Idealize.SL.Sem

/-- The product from which the latent attention's queries are. -/
theorem uq : algebraic_UqIdeal_UqReferenceIdeal := fun m ρ m' ρ' _ hmm => by
  refine ⟨_, (θ_run UqIdeal.defs _ _).mono (fun r h c => ⟨(h c).1.trans (UqIdeal.Value.result m c), (h c).2⟩) (UqIdeal.Value.run_blocks m ρ),
    (θ_run UqReferenceIdeal.defs _ _).mono (fun r h c => ⟨(h c).1.trans ?_, (h c).2⟩) (UqReferenceIdeal.Value.run (F := Ideal) m' ρ')⟩
  rw [(hmm c).1, (hmm c).2]
  funext y
  unfold UqIdeal.Value.lhs UqIdeal.Value.rhs
  pointwise []

end Cert.Proof.Feed

end
-- ==== Proof.Feed.MlaInW.lean ====
/-
  The gradient of the weights of the latent attention's first product: the product of the transposed input by the
  result's gradient, block by block over the rows, is the plain one.
-/
module

public import proofs.«01_k».proof.Defs
public import proofs.«01_k».proof.Proof.Feed.RunSum
public import proofs.«01_k».proof.Proof.Gen.MlaInWIdeal.Value
public import proofs.«01_k».proof.Proof.Gen.MlaInWReferenceIdeal.Run

@[expose] public section

noncomputable section

namespace Cert.MlaInWIdeal.Value

open Cert.MlaInWIdeal Cert.MlaInWIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x640) hz2, View.readCov_unit_zero (S := S1024x640) _ hz2]
  simp only [View.readAt_eq_ld, (hs0_0 t).read_unread, (hs0_1 t).read_unread, View.ld_unit_zero (S := S1024x1024) hz2, View.ld_unit_zero (S := S1024x640) hz2]

/-- a later one adds its product, -/
theorem later (c : Dev nD) (t : Fin cfg0.N) (h0 : t.val % 8 ≠ 0) (h1 : t.val % 8 ≠ 7) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x1024) hz2, View.ld_unit_zero (S := S1024x640) hz2]

/-- and the last writes the sum. -/
theorem last (c : Dev nD) (t : Fin cfg0.N) (h1 : t.val % 8 = 7) : (outsAt0 m c t.val t.isLt).1 = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero (S := S1024x640) hz2, View.readCov_unit_zero (S := S1024x640) _ hz2]
  simp only [View.readAt_eq_ld, (hs0_0 t).read_unread, (hs0_1 t).read_unread, (Memref.isWhole_whole _).read_unread, View.ld_unit_zero (S := S1024x1024) hz2, View.ld_unit_zero (S := S1024x640) hz2]

theorem pay_apply (acc : Vec Ideal S1024x640 .f32) (x : Vec Ideal S1024x1024 .bf16) (w : Vec Ideal S1024x640 .bf16) (p : Fin 1024) (q : Fin 640) :
    k0_pay2 acc x w (ix2 p q) = acc (ix2 p q) + ∑ k : Fin 1024, x (ix2 k p) * w (ix2 k q) := by
  pointwise [k0_pay2]

theorem zero_apply (y : S1024x640.Idx) : k0_pay1 (F := Ideal) y = 0 := by
  pointwise [k0_pay1]

theorem idx_facts : ∀ t : Fin cfg0.N, win0_0.index t = ![t.val % 8, 0] ∧ win0_1.index t = ![t.val % 8, 0] ∧ win0_2.index t = ![0, 0] :=
  (by decide +kernel : ∀ t : Fin grid0.N, _)

/-- The two arguments, and the terms of the product. -/
def lhs (c : Dev nD) : Vec Ideal S8192x1024 .f32 := m ((c : Thread nD τ).loc main_arg0)
def rhs (c : Dev nD) : Vec Ideal S8192x640 .f32 := m ((c : Thread nD τ).loc main_arg1)
def term (c : Dev nD) (i : Fin 1024) (j : Fin 640) (k : Fin 8192) : EReal := lhs m c (ix2 k i) * rhs m c (ix2 k j)

theorem lblk_eq (c : Dev nD) (t : Fin cfg0.N) (k : Fin 1024) (p : Fin 1024) :
    (iblk m c 0 t : Vec Ideal S1024x1024 .bf16) (ix2 k p) = lhs m c (ix2 (place rfl t.val (by omega : 0 < 8) k) p) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; rfl
  · blk_simp [h]; rfl

theorem rblk_eq (c : Dev nD) (t : Fin cfg0.N) (k : Fin 1024) (q : Fin 640) :
    (iblk m c 1 t : Vec Ideal S1024x640 .bf16) (ix2 k q) = rhs m c (ix2 (place rfl t.val (by omega : 0 < 8) k) q) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; rfl

/-- What a point adds. -/
theorem step (c : Dev nD) (t : Fin cfg0.N) (acc : Vec Ideal S1024x640 .f32) (p : Fin 1024) (q : Fin 640) :
    k0_pay2 acc (iblk m c 0 t) (iblk m c 1 t) (ix2 p q) = acc (ix2 p q) + ∑ k : Fin 1024, term m c p q (place rfl t.val (by omega : 0 < 8) k) :=
  (pay_apply ..).trans (congrArg (acc (ix2 p q) + ·) (Finset.sum_congr rfl fun k _ =>
    congrArg₂ (fun a b : EReal => a * b) (lblk_eq m c t k p) (rblk_eq m c t k q)))

theorem flush_facts : ∀ t : Fin cfg0.N, (cfg0.win 2).flush t → t.val % 8 = 7 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : ((cfg0.win 2).blk t).view.emb y 0 = y 0 := Fin.ext (by blk_simp [h])
  have e1 : ((cfg0.win 2).blk t).view.emb y 1 = y 1 := Fin.ext (by blk_simp [h])
  rw [e0, e1]
  blk_simp [h]
  rw [after0_2]
  refine (congrArg _ (at_two y)).trans ?_
  exact run_sum (n := 8) (b := 1024) (K := 8192) (by omega) rfl (fun s hs => (outsAt0 m c s hs).2 (ix2 (y 0) (y 1)))
    (fun s hs => (outsAt0 m c s hs).1 (ix2 (y 0) (y 1))) (term m c (y 0) (y 1)) t (flush_facts t hf)
    (fun s hs h0 => (congrFun (first m c s h0) _).trans ((step m c s _ _ _).trans (by rw [zero_apply, zero_add])))
    (fun s hs h0 h1 => (congrFun (later m c s h0 h1) _).trans (step m c s _ _ _))
    ((congrFun (last m c t (flush_facts t hf)) _).trans (step m c t _ _ _))

end Cert.MlaInWIdeal.Value

namespace Cert.Proof.Feed

open Cert Idealize.ShloMosaic Idealize.ShloMosaic.TcCoe Idealize.SL.Sem

/-- The gradient of the weights of the latent attention's first product. The reference has its
    factors the other way around. -/
theorem mla_in_w : algebraic_MlaInWIdeal_MlaInWReferenceIdeal := fun m ρ m' ρ' _ hmm => by
  refine ⟨_, (θ_run MlaInWIdeal.defs _ _).mono (fun r h c => ⟨(h c).1.trans (MlaInWIdeal.Value.result m c), (h c).2⟩) (MlaInWIdeal.Value.run_blocks m ρ),
    (θ_run MlaInWReferenceIdeal.defs _ _).mono (fun r h c => ⟨(h c).1.trans ?_, (h c).2⟩) (MlaInWReferenceIdeal.Value.run (F := Ideal) m' ρ')⟩
  rw [(hmm c).1, (hmm c).2]
  funext y
  refine Eq.trans (b := ∑ k, MlaInWIdeal.Value.rhs m c (ix2 k (y 1)) * MlaInWIdeal.Value.lhs m c (ix2 k (y 0))) ?_ (Finset.sum_congr rfl fun k _ => mul_comm (G := EReal) _ _)
  unfold MlaInWIdeal.Value.lhs MlaInWIdeal.Value.rhs
  pointwise []

end Cert.Proof.Feed

end
-- ==== Proof.Feed.MlaInX.lean ====
/-
  The gradient of the input of the latent attention's first product: the product by the transposed weights, its whole
  inner axis in one block.
-/
module

public import proofs.«01_k».proof.Defs
public import proofs.«01_k».proof.Proof.Feed.RunSum
public import proofs.«01_k».proof.Proof.Gen.MlaInXIdeal.Value
public import proofs.«01_k».proof.Proof.Gen.MlaInXReferenceIdeal.Run

@[expose] public section

noncomputable section

namespace Cert.MlaInXIdeal.Value

open Cert.MlaInXIdeal Cert.MlaInXIdeal.Gen Idealize.ShloMosaic Idealize.ShloMosaic.TcCoe Idealize.SL.Sem
open Cert.Proof.Feed

variable (m : (ℓ : Loc nD τ sig) → Buf (Elt Ideal) ℓ)

/-- A point writes the product of its blocks, -/
theorem out_eq (c : Dev nD) (t : Fin cfg0.N) : outsAt0 m c t = k0_pay2 k0_pay1 (iblk m c 0 t) (iblk m c 1 t) := by
  unfold outsAt0
  unfold out0_A_2
  rw [View.read_writes_eq_canon _ _ _ (cover0_A_2 _ _ _ _ _ _ _ _ _ _ _ _ _ _)]
  unfold kernelRun0_A
  dsimp only
  sl_unfold_words
  rw [View.canon_unit_zero hz2, View.readCov_cons_toLoadRect, View.readCov_unit_zero (S := S1024x1024) _ hz2]
  simp only [View.readAt_eq_ld, (hs0_0 t).read_unread, (hs0_1 t).read_unread, View.ld_unit_zero (S := S1024x640) hz2]

/-- read at an index. -/
theorem pay_apply (x w : Vec Ideal S1024x640 .bf16) (p q : Fin 1024) :
    k0_pay2 k0_pay1 x w (ix2 p q) = ∑ k : Fin 640, x (ix2 p k) * w (ix2 q k) := by
  refine Eq.trans (b := 0 + ∑ k : Fin 640, x (ix2 p k) * w (ix2 q k)) ?_ (zero_add _)
  pointwise [k0_pay2, k0_pay1]

theorem idx_facts : ∀ t : Fin cfg0.N, win0_0.index t = ![t.val, 0] ∧ win0_1.index t = ![0, 0] ∧ win0_2.index t = ![t.val, 0] :=
  (by decide +kernel : ∀ t : Fin grid0.N, _)

/-- The two arguments, and their blocks. -/
def lhs (c : Dev nD) : Vec Ideal S8192x640 .f32 := m ((c : Thread nD τ).loc main_arg0)
def rhs (c : Dev nD) : Vec Ideal S1024x640 .f32 := m ((c : Thread nD τ).loc main_arg1)

theorem lblk_eq (c : Dev nD) (t : Fin cfg0.N) (p : Fin 1024) (k : Fin 640) (i : Fin 8192) (hi : i.val = t.val * 1024 + p.val) :
    (iblk m c 0 t : Vec Ideal S1024x640 .bf16) (ix2 p k) = lhs m c (ix2 i k) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (q : Fin 1024) (k : Fin 640) :
    (iblk m c 1 t : Vec Ideal S1024x640 .bf16) (ix2 q k) = rhs m c (ix2 q k) := by
  have h := (idx_facts t).2.1
  unfold iblk rhs
  rw [View.read_apply]
  show V m c main_v1 _ = _
  entry_read
  refine congrArg (m ((c : Thread nD τ).loc main_arg1)) (funext fun a => Fin.ext ?_)
  fin_cases a <;> blk_simp [h]

/-- The result is the product. -/
theorem result (c : Dev nD) : (dats m 0 c).arrAt 2 cfg0.N = fun y => (∑ k, lhs m c (ix2 (y 0) k) * rhs m c (ix2 (y 1) k) : EReal) := by
  refine (dats m 0 c).arrAt_eq_of_covers 2 _ (by decide +kernel) fun t hf y => ?_
  have h := (idx_facts t).2.2
  have e0 : (((cfg0.win 2).blk t).view.emb y 0).val = t.val * 1024 + (y 0).val := by blk_simp [h]
  have e1 : ((cfg0.win 2).blk t).view.emb y 1 = y 1 := Fin.ext (by blk_simp [h])
  rw [e1]
  blk_simp [h]
  rw [after0_2]
  refine (congrArg _ (at_two y)).trans ((congrFun (out_eq m c t) _).trans ((pay_apply _ _ (y 0) (y 1)).trans ?_))
  exact Finset.sum_congr rfl fun k _ => congrArg₂ (fun a b : EReal => a * b) (lblk_eq m c t _ k _ e0) (rblk_eq m c t _ k)

end Cert.MlaInXIdeal.Value

namespace Cert.Proof.Feed

open Cert Idealize.ShloMosaic Idealize.ShloMosaic.TcCoe Idealize.SL.Sem

/-- The gradient of the input of the latent attention's first product. -/
theorem mla_in_x : algebraic_MlaInXIdeal_MlaInXReferenceIdeal := fun m ρ m' ρ' _ hmm => by
  refine ⟨_, (θ_run MlaInXIdeal.defs _ _).mono (fun r h c => ⟨(h c).1.trans (MlaInXIdeal.Value.result m c), (h c).2⟩) (MlaInXIdeal.Value.run_blocks m ρ),
    (θ_run MlaInXReferenceIdeal.defs _ _).mono (fun r h c => ⟨(h c).1.trans ?_, (h c).2⟩) (MlaInXReferenceIdeal.Value.run (F := Ideal) m' ρ')⟩
  rw [(hmm c).1, (hmm c).2]
  funext y
  unfold MlaInXIdeal.Value.lhs MlaInXIdeal.Value.rhs
  pointwise []

end Cert.Proof.Feed

end
-- ==== Proof.Feed.MlaIn.lean ====
/-
  The latent attention's first product, its whole inner axis in one block.
-/
module

public import proofs.«01_k».proof.Defs
public import proofs.«01_k».proof.Proof.Feed.RunSum
public import proofs.«01_k».proof.Proof.Gen.MlaInIdeal.Value
public import proofs.«01_k».proof.Proof.Gen.MlaInReferenceIdeal.Run

@[expose] public section

noncomputable section

namespace Cert.MlaInIdeal.Value

open Cert.MlaInIdeal Cert.MlaInIdeal.Gen Idealize.ShloMosaic Idealize.ShloMosaic.TcCoe Idealize.SL.Sem
open Cert.Proof.Feed

variable (m : (ℓ : Loc nD τ sig) → Buf (Elt Ideal) ℓ)

/-- A point writes the product of its blocks, -/
theorem out_eq (c : Dev nD) (t : Fin cfg0.N) : outsAt0 m c t = k0_pay2 k0_pay1 (iblk m c 0 t) (iblk m c 1 t) := by
  unfold outsAt0
  unfold out0_A_2
  rw [View.read_writes_eq_canon _ _ _ (cover0_A_2 _ _ _ _ _ _ _ _ _ _ _ _ _ _)]
  unfold kernelRun0_A
  dsimp only
  sl_unfold_words
  rw [View.canon_unit_zero hz2, View.readCov_cons_toLoadRect, View.readCov_unit_zero (S := S1024x640) _ hz2]
  simp only [View.readAt_eq_ld, (hs0_0 t).read_unread, (hs0_1 t).read_unread, View.ld_unit_zero (S := S1024x1024) hz2, View.ld_unit_zero (S := S1024x640) hz2]

/-- read at an index. -/
theorem pay_apply (x : Vec Ideal S1024x1024 .bf16) (w : Vec Ideal S1024x640 .bf16) (p : Fin 1024) (q : Fin 640) :
    k0_pay2 k0_pay1 x w (ix2 p q) = ∑ k : Fin 1024, x (ix2 p k) * w (ix2 k q) := by
  refine Eq.trans (b := 0 + ∑ k : Fin 1024, x (ix2 p k) * w (ix2 k q)) ?_ (zero_add _)
  pointwise [k0_pay2, k0_pay1]

theorem idx_facts : ∀ t : Fin cfg0.N, win0_0.index t = ![t.val, 0] ∧ win0_1.index t = ![0, 0] ∧ win0_2.index t = ![t.val, 0] :=
  (by decide +kernel : ∀ t : Fin grid0.N, _)

/-- The two arguments, and their blocks. -/
def lhs (c : Dev nD) : Vec Ideal S8192x1024 .f32 := m ((c : Thread nD τ).loc main_arg0)
def rhs (c : Dev nD) : Vec Ideal S1024x640 .f32 := m ((c : Thread nD τ).loc main_arg1)

theorem lblk_eq (c : Dev nD) (t : Fin cfg0.N) (p k : Fin 1024) (i : Fin 8192) (hi : i.val = t.val * 1024 + p.val) :
    (iblk m c 0 t : Vec Ideal S1024x1024 .bf16) (ix2 p k) = lhs m c (ix2 i k) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (k : Fin 1024) (q : Fin 640) :
    (iblk m c 1 t : Vec Ideal S1024x640 .bf16) (ix2 k q) = rhs m c (ix2 k q) := by
  have h := (idx_facts t).2.1
  unfold iblk rhs
  rw [View.read_apply]
  show V m c main_v1 _ = _
  entry_read
  refine congrArg (m ((c : Thread nD τ).loc main_arg1)) (funext fun a => Fin.ext ?_)
  fin_cases a <;> blk_simp [h]

/-- The result is the product. -/
theorem result (c : Dev nD) : (dats m 0 c).arrAt 2 cfg0.N = fun y => (∑ k, lhs m c (ix2 (y 0) k) * rhs m c (ix2 k (y 1)) : EReal) := by
  refine (dats m 0 c).arrAt_eq_of_covers 2 _ (by decide +kernel) fun t hf y => ?_
  have h := (idx_facts t).2.2
  have e0 : (((cfg0.win 2).blk t).view.emb y 0).val = t.val * 1024 + (y 0).val := by blk_simp [h]
  have e1 : ((cfg0.win 2).blk t).view.emb y 1 = y 1 := Fin.ext (by blk_simp [h])
  rw [e1]
  blk_simp [h]
  rw [after0_2]
  refine (congrArg _ (at_two y)).trans ((congrFun (out_eq m c t) _).trans ((pay_apply _ _ (y 0) (y 1)).trans ?_))
  exact Finset.sum_congr rfl fun k _ => congrArg₂ (fun a b : EReal => a * b) (lblk_eq m c t _ k _ e0) (rblk_eq m c t k _)

end Cert.MlaInIdeal.Value

namespace Cert.Proof.Feed

open Cert Idealize.ShloMosaic Idealize.ShloMosaic.TcCoe Idealize.SL.Sem

/-- The latent attention's first product. -/
theorem mla_in : algebraic_MlaInIdeal_MlaInReferenceIdeal := fun m ρ m' ρ' _ hmm => by
  refine ⟨_, (θ_run MlaInIdeal.defs _ _).mono (fun r h c => ⟨(h c).1.trans (MlaInIdeal.Value.result m c), (h c).2⟩) (MlaInIdeal.Value.run_blocks m ρ),
    (θ_run MlaInReferenceIdeal.defs _ _).mono (fun r h c => ⟨(h c).1.trans ?_, (h c).2⟩) (MlaInReferenceIdeal.Value.run (F := Ideal) m' ρ')⟩
  rw [(hmm c).1, (hmm c).2]
  funext y
  unfold MlaInIdeal.Value.lhs MlaInIdeal.Value.rhs
  pointwise []

end Cert.Proof.Feed

end
-- ==== Proof.Feed.OutW.lean ====
/-
  The gradient of the weights of a mixer's last product: the product of the transposed input by the result's gradient,
  block by block over the rows, is the plain one.
-/
module

public import proofs.«01_k».proof.Defs
public import proofs.«01_k».proof.Proof.Feed.RunSum
public import proofs.«01_k».proof.Proof.Gen.OutWIdeal.Value
public import proofs.«01_k».proof.Proof.Gen.OutWReferenceIdeal.Run

@[expose] public section

noncomputable section

namespace Cert.OutWIdeal.Value

open Cert.OutWIdeal Cert.OutWIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x1024) hz2, View.readCov_unit_zero (S := S1024x1024) _ hz2]
  simp only [View.readAt_eq_ld, (hs0_0 t).read_unread, (hs0_1 t).read_unread, View.ld_unit_zero (S := S1024x1024) hz2]

/-- a later one adds its product, -/
theorem later (c : Dev nD) (t : Fin cfg0.N) (h0 : t.val % 8 ≠ 0) (h1 : t.val % 8 ≠ 7) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x1024) hz2]

/-- and the last writes the sum. -/
theorem last (c : Dev nD) (t : Fin cfg0.N) (h1 : t.val % 8 = 7) : (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero (S := S1024x1024) hz2, View.readCov_unit_zero (S := S1024x1024) _ hz2]
  simp only [View.readAt_eq_ld, (hs0_0 t).read_unread, (hs0_1 t).read_unread, (Memref.isWhole_whole _).read_unread, View.ld_unit_zero (S := S1024x1024) hz2]

theorem pay_apply (acc : Vec Ideal S1024x1024 .f32) (x : Vec Ideal S1024x1024 .bf16) (w : Vec Ideal S1024x1024 .bf16) (p q : Fin 1024) :
    k0_pay2 acc x w (ix2 p q) = acc (ix2 p q) + ∑ k : Fin 1024, x (ix2 k p) * w (ix2 k q) := by
  pointwise [k0_pay2]

theorem zero_apply (y : S1024x1024.Idx) : k0_pay1 (F := Ideal) y = 0 := by
  pointwise [k0_pay1]

theorem idx_facts : ∀ t : Fin cfg0.N, win0_0.index t = ![t.val % 8, t.val / 8] ∧ win0_1.index t = ![t.val % 8, 0] ∧ win0_2.index t = ![t.val / 8, 0] :=
  (by decide +kernel : ∀ t : Fin grid0.N, _)

/-- The two arguments, and the terms of the product. -/
def lhs (c : Dev nD) : Vec Ideal S8192x2048 .f32 := m ((c : Thread nD τ).loc main_arg0)
def rhs (c : Dev nD) : Vec Ideal S8192x1024 .f32 := m ((c : Thread nD τ).loc main_arg1)
def term (c : Dev nD) (i : Fin 2048) (j : Fin 1024) (k : Fin 8192) : EReal := lhs m c (ix2 k i) * rhs m c (ix2 k j)

theorem lblk_eq (c : Dev nD) (t : Fin cfg0.N) (k : Fin 1024) (p : Fin 1024) (i : Fin 2048) (hi : i.val = t.val / 8 * 1024 + p.val) :
    (iblk m c 0 t : Vec Ideal S1024x1024 .bf16) (ix2 k p) = lhs m c (ix2 (place rfl t.val (by omega : 0 < 8) k) i) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; rfl
  · blk_simp [h]; exact hi.symm

theorem rblk_eq (c : Dev nD) (t : Fin cfg0.N) (k : Fin 1024) (q : Fin 1024) :
    (iblk m c 1 t : Vec Ideal S1024x1024 .bf16) (ix2 k q) = rhs m c (ix2 (place rfl t.val (by omega : 0 < 8) k) q) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; rfl

/-- What a point adds. -/
theorem step (c : Dev nD) (t : Fin cfg0.N) (acc : Vec Ideal S1024x1024 .f32) (p q : Fin 1024) (i : Fin 2048) (hi : i.val = t.val / 8 * 1024 + p.val) :
    k0_pay2 acc (iblk m c 0 t) (iblk m c 1 t) (ix2 p q) = acc (ix2 p q) + ∑ k : Fin 1024, term m c i q (place rfl t.val (by omega : 0 < 8) k) :=
  (pay_apply ..).trans (congrArg (acc (ix2 p q) + ·) (Finset.sum_congr rfl fun k _ =>
    congrArg₂ (fun a b : EReal => a * b) (lblk_eq m c t k p i hi) (rblk_eq m c t k q)))

theorem flush_facts : ∀ t : Fin cfg0.N, (cfg0.win 2).flush t → t.val % 8 = 7 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : (((cfg0.win 2).blk t).view.emb y 0).val = t.val / 8 * 1024 + (y 0).val := by blk_simp [h]
  have e1 : ((cfg0.win 2).blk t).view.emb y 1 = y 1 := Fin.ext (by blk_simp [h])
  rw [e1]
  blk_simp [h]
  rw [after0_2]
  refine (congrArg _ (at_two y)).trans ?_
  exact run_sum (n := 8) (b := 1024) (K := 8192) (by omega) rfl (fun s hs => (outsAt0 m c s hs).2 (ix2 (y 0) (y 1)))
    (fun s hs => (outsAt0 m c s hs).1 (ix2 (y 0) (y 1))) (term m c (((cfg0.win 2).blk t).view.emb y 0) (y 1)) t (flush_facts t hf)
    (fun s hs h0 => (congrFun (first m c s h0) _).trans ((step m c s _ _ _ _ (e0.trans (by rw [hs]))).trans (by rw [zero_apply, zero_add])))
    (fun s hs h0 h1 => (congrFun (later m c s h0 h1) _).trans (step m c s _ _ _ _ (e0.trans (by rw [hs]))))
    ((congrFun (last m c t (flush_facts t hf)) _).trans (step m c t _ _ _ _ e0))

end Cert.OutWIdeal.Value

namespace Cert.Proof.Feed

open Cert Idealize.ShloMosaic Idealize.ShloMosaic.TcCoe Idealize.SL.Sem

/-- The gradient of the weights of a mixer's last product. The reference has its
    factors the other way around. -/
theorem out_w : algebraic_OutWIdeal_OutWReferenceIdeal := fun m ρ m' ρ' _ hmm => by
  refine ⟨_, (θ_run OutWIdeal.defs _ _).mono (fun r h c => ⟨(h c).1.trans (OutWIdeal.Value.result m c), (h c).2⟩) (OutWIdeal.Value.run_blocks m ρ),
    (θ_run OutWReferenceIdeal.defs _ _).mono (fun r h c => ⟨(h c).1.trans ?_, (h c).2⟩) (OutWReferenceIdeal.Value.run (F := Ideal) m' ρ')⟩
  rw [(hmm c).1, (hmm c).2]
  funext y
  refine Eq.trans (b := ∑ k, OutWIdeal.Value.rhs m c (ix2 k (y 1)) * OutWIdeal.Value.lhs m c (ix2 k (y 0))) ?_ (Finset.sum_congr rfl fun k _ => mul_comm (G := EReal) _ _)
  unfold OutWIdeal.Value.lhs OutWIdeal.Value.rhs
  pointwise []

end Cert.Proof.Feed

end
-- ==== Proof.Feed.MlaOutX.lean ====
/-
  The gradient of the input of the latent attention's last product: the product by the transposed weights, its whole
  inner axis in one block, and rounded.
-/
module

public import proofs.«01_k».proof.Defs
public import proofs.«01_k».proof.Proof.Feed.RunSum
public import proofs.«01_k».proof.Proof.Gen.MlaOutXIdeal.Value
public import proofs.«01_k».proof.Proof.Gen.MlaOutXReferenceIdeal.Run

@[expose] public section

noncomputable section

namespace Cert.MlaOutXIdeal.Value

open Cert.MlaOutXIdeal Cert.MlaOutXIdeal.Gen Idealize.ShloMosaic Idealize.ShloMosaic.TcCoe Idealize.SL.Sem
open Cert.Proof.Feed

variable (m : (ℓ : Loc nD τ sig) → Buf (Elt Ideal) ℓ)

/-- A point writes the product of its blocks, -/
theorem out_eq (c : Dev nD) (t : Fin cfg0.N) : outsAt0 m c t = k0_pay3 (k0_pay2 k0_pay1 (iblk m c 0 t) (iblk m c 1 t)) := by
  unfold outsAt0
  unfold out0_A_2
  rw [View.read_writes_eq_canon _ _ _ (cover0_A_2 _ _ _ _ _ _ _ _ _ _ _ _ _ _)]
  unfold kernelRun0_A
  dsimp only
  sl_unfold_words
  rw [View.canon_unit_zero hz2, View.readCov_cons_toLoadRect, View.readCov_unit_zero (S := S1024x1024) _ hz2]
  simp only [View.readAt_eq_ld, (hs0_0 t).read_unread, (hs0_1 t).read_unread, View.ld_unit_zero (S := S1024x1024) hz2]

/-- read at an index. -/
theorem pay_apply (x w : Vec Ideal S1024x1024 .bf16) (p q : Fin 1024) :
    k0_pay2 k0_pay1 x w (ix2 p q) = ∑ k : Fin 1024, x (ix2 p k) * w (ix2 q k) := by
  refine Eq.trans (b := 0 + ∑ k : Fin 1024, x (ix2 p k) * w (ix2 q k)) ?_ (zero_add _)
  pointwise [k0_pay2, k0_pay1]

theorem idx_facts : ∀ t : Fin cfg0.N, win0_0.index t = ![t.val / 2, 0] ∧ win0_1.index t = ![t.val % 2, 0] ∧ win0_2.index t = ![t.val / 2, t.val % 2] :=
  (by decide +kernel : ∀ t : Fin grid0.N, _)

/-- The two arguments, and their blocks. -/
def lhs (c : Dev nD) : Vec Ideal S8192x1024 .f32 := m ((c : Thread nD τ).loc main_arg0)
def rhs (c : Dev nD) : Vec Ideal S2048x1024 .f32 := m ((c : Thread nD τ).loc main_arg1)

theorem lblk_eq (c : Dev nD) (t : Fin cfg0.N) (p k : Fin 1024) (i : Fin 8192) (hi : i.val = t.val / 2 * 1024 + p.val) :
    (iblk m c 0 t : Vec Ideal S1024x1024 .bf16) (ix2 p k) = lhs m c (ix2 i k) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (q k : Fin 1024) (j : Fin 2048) (hj : j.val = t.val % 2 * 1024 + q.val) :
    (iblk m c 1 t : Vec Ideal S1024x1024 .bf16) (ix2 q k) = rhs m c (ix2 j k) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; exact hj.symm
  · blk_simp [h]; rfl

/-- The result is the product. -/
theorem result (c : Dev nD) : (dats m 0 c).arrAt 2 cfg0.N = fun y => (∑ k, lhs m c (ix2 (y 0) k) * rhs m c (ix2 (y 1) k) : EReal) := by
  refine (dats m 0 c).arrAt_eq_of_covers 2 _ (by decide +kernel) fun t hf y => ?_
  have h := (idx_facts t).2.2
  have e0 : (((cfg0.win 2).blk t).view.emb y 0).val = t.val / 2 * 1024 + (y 0).val := by blk_simp [h]
  have e1 : (((cfg0.win 2).blk t).view.emb y 1).val = t.val % 2 * 1024 + (y 1).val := by blk_simp [h]
  blk_simp [h]
  rw [after0_2]
  refine (congrArg _ (at_two y)).trans ((congrFun (out_eq m c t) _).trans ((pay_apply _ _ (y 0) (y 1)).trans ?_))
  exact Finset.sum_congr rfl fun k _ => congrArg₂ (fun a b : EReal => a * b) (lblk_eq m c t _ k _ e0) (rblk_eq m c t _ k _ e1)

end Cert.MlaOutXIdeal.Value

namespace Cert.Proof.Feed

open Cert Idealize.ShloMosaic Idealize.ShloMosaic.TcCoe Idealize.SL.Sem

/-- The gradient of the input of the latent attention's last product. -/
theorem mla_out_x : algebraic_MlaOutXIdeal_MlaOutXReferenceIdeal := fun m ρ m' ρ' _ hmm => by
  refine ⟨_, (θ_run MlaOutXIdeal.defs _ _).mono (fun r h c => ⟨(h c).1.trans (MlaOutXIdeal.Value.result m c), (h c).2⟩) (MlaOutXIdeal.Value.run_blocks m ρ),
    (θ_run MlaOutXReferenceIdeal.defs _ _).mono (fun r h c => ⟨(h c).1.trans ?_, (h c).2⟩) (MlaOutXReferenceIdeal.Value.run (F := Ideal) m' ρ')⟩
  rw [(hmm c).1, (hmm c).2]
  funext y
  unfold MlaOutXIdeal.Value.lhs MlaOutXIdeal.Value.rhs
  pointwise []

end Cert.Proof.Feed

end
-- ==== Proof.Feed.HybOutX.lean ====
/-
  The gradient of the input of the hybrid mixer's last product: the product by the transposed weights, its whole inner
  axis in one block.
-/
module

public import proofs.«01_k».proof.Defs
public import proofs.«01_k».proof.Proof.Feed.RunSum
public import proofs.«01_k».proof.Proof.Gen.HybOutXIdeal.Value
public import proofs.«01_k».proof.Proof.Gen.HybOutXReferenceIdeal.Run

@[expose] public section

noncomputable section

namespace Cert.HybOutXIdeal.Value

open Cert.HybOutXIdeal Cert.HybOutXIdeal.Gen Idealize.ShloMosaic Idealize.ShloMosaic.TcCoe Idealize.SL.Sem
open Cert.Proof.Feed

variable (m : (ℓ : Loc nD τ sig) → Buf (Elt Ideal) ℓ)

/-- A point writes the product of its blocks, -/
theorem out_eq (c : Dev nD) (t : Fin cfg0.N) : outsAt0 m c t = k0_pay2 k0_pay1 (iblk m c 0 t) (iblk m c 1 t) := by
  unfold outsAt0
  unfold out0_A_2
  rw [View.read_writes_eq_canon _ _ _ (cover0_A_2 _ _ _ _ _ _ _ _ _ _ _ _ _ _)]
  unfold kernelRun0_A
  dsimp only
  sl_unfold_words
  rw [View.canon_unit_zero hz2, View.readCov_cons_toLoadRect, View.readCov_unit_zero (S := S1024x1024) _ hz2]
  simp only [View.readAt_eq_ld, (hs0_0 t).read_unread, (hs0_1 t).read_unread, View.ld_unit_zero (S := S1024x1024) hz2]

/-- read at an index. -/
theorem pay_apply (x w : Vec Ideal S1024x1024 .bf16) (p q : Fin 1024) :
    k0_pay2 k0_pay1 x w (ix2 p q) = ∑ k : Fin 1024, x (ix2 p k) * w (ix2 q k) := by
  refine Eq.trans (b := 0 + ∑ k : Fin 1024, x (ix2 p k) * w (ix2 q k)) ?_ (zero_add _)
  pointwise [k0_pay2, k0_pay1]

theorem idx_facts : ∀ t : Fin cfg0.N, win0_0.index t = ![t.val / 2, 0] ∧ win0_1.index t = ![t.val % 2, 0] ∧ win0_2.index t = ![t.val / 2, t.val % 2] :=
  (by decide +kernel : ∀ t : Fin grid0.N, _)

/-- The two arguments, and their blocks. -/
def lhs (c : Dev nD) : Vec Ideal S8192x1024 .f32 := m ((c : Thread nD τ).loc main_arg0)
def rhs (c : Dev nD) : Vec Ideal S2048x1024 .f32 := m ((c : Thread nD τ).loc main_arg1)

theorem lblk_eq (c : Dev nD) (t : Fin cfg0.N) (p k : Fin 1024) (i : Fin 8192) (hi : i.val = t.val / 2 * 1024 + p.val) :
    (iblk m c 0 t : Vec Ideal S1024x1024 .bf16) (ix2 p k) = lhs m c (ix2 i k) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (q k : Fin 1024) (j : Fin 2048) (hj : j.val = t.val % 2 * 1024 + q.val) :
    (iblk m c 1 t : Vec Ideal S1024x1024 .bf16) (ix2 q k) = rhs m c (ix2 j k) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; exact hj.symm
  · blk_simp [h]; rfl

/-- The result is the product. -/
theorem result (c : Dev nD) : (dats m 0 c).arrAt 2 cfg0.N = fun y => (∑ k, lhs m c (ix2 (y 0) k) * rhs m c (ix2 (y 1) k) : EReal) := by
  refine (dats m 0 c).arrAt_eq_of_covers 2 _ (by decide +kernel) fun t hf y => ?_
  have h := (idx_facts t).2.2
  have e0 : (((cfg0.win 2).blk t).view.emb y 0).val = t.val / 2 * 1024 + (y 0).val := by blk_simp [h]
  have e1 : (((cfg0.win 2).blk t).view.emb y 1).val = t.val % 2 * 1024 + (y 1).val := by blk_simp [h]
  blk_simp [h]
  rw [after0_2]
  refine (congrArg _ (at_two y)).trans ((congrFun (out_eq m c t) _).trans ((pay_apply _ _ (y 0) (y 1)).trans ?_))
  exact Finset.sum_congr rfl fun k _ => congrArg₂ (fun a b : EReal => a * b) (lblk_eq m c t _ k _ e0) (rblk_eq m c t _ k _ e1)

end Cert.HybOutXIdeal.Value

namespace Cert.Proof.Feed

open Cert Idealize.ShloMosaic Idealize.ShloMosaic.TcCoe Idealize.SL.Sem

/-- The gradient of the input of the hybrid mixer's last product. -/
theorem hyb_out_x : algebraic_HybOutXIdeal_HybOutXReferenceIdeal := fun m ρ m' ρ' _ hmm => by
  refine ⟨_, (θ_run HybOutXIdeal.defs _ _).mono (fun r h c => ⟨(h c).1.trans (HybOutXIdeal.Value.result m c), (h c).2⟩) (HybOutXIdeal.Value.run_blocks m ρ),
    (θ_run HybOutXReferenceIdeal.defs _ _).mono (fun r h c => ⟨(h c).1.trans ?_, (h c).2⟩) (HybOutXReferenceIdeal.Value.run (F := Ideal) m' ρ')⟩
  rw [(hmm c).1, (hmm c).2]
  funext y
  unfold HybOutXIdeal.Value.lhs HybOutXIdeal.Value.rhs
  pointwise []

end Cert.Proof.Feed

end
-- ==== Proof.Feed.Out.lean ====
/-
  A mixer's last product: its two blocks of the inner axis together are the plain product.
-/
module

public import proofs.«01_k».proof.Defs
public import proofs.«01_k».proof.Proof.Feed.RunSum
public import proofs.«01_k».proof.Proof.Gen.OutIdeal.Value
public import proofs.«01_k».proof.Proof.Gen.OutReferenceIdeal.Run

@[expose] public section

noncomputable section

namespace Cert.OutIdeal.Value

open Cert.OutIdeal Cert.OutIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 2 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x1024) hz2, View.readCov_unit_zero (S := S1024x1024) _ hz2]
  simp only [View.readAt_eq_ld, (hs0_0 t).read_unread, (hs0_1 t).read_unread, View.ld_unit_zero (S := S1024x1024) hz2]

/-- and the second writes the sum of the two. -/
theorem last (c : Dev nD) (t : Fin cfg0.N) (h1 : t.val % 2 = 1) : (outsAt0 m c t.val t.isLt).1 = k0_pay2 (outsAt0 m c (t.val - 1) (Nat.lt_of_le_of_lt (Nat.sub_le _ _) t.isLt)).2 (iblk m c 0 t) (iblk m c 1 t) := by
  rw [outsAt0_B m c t (by omega) h1]
  dsimp only
  unfold out0_B_2
  rw [View.read_writes_eq_canon _ _ _ (cover0_B_2 _ _ _ _ _ _ _ _ _ _ _ _ _ _ _)]
  unfold kernelRun0_B
  dsimp only
  sl_unfold_words
  rw [View.canon_unit_zero hz2, View.readCov_unit_zero (S := S1024x1024) _ hz2]
  simp only [View.readAt_eq_ld, (hs0_0 t).read_unread, (hs0_1 t).read_unread, (Memref.isWhole_whole _).read_unread, View.ld_unit_zero (S := S1024x1024) hz2]

theorem pay_apply (acc : Vec Ideal S1024x1024 .f32) (x w : Vec Ideal S1024x1024 .bf16) (p q : Fin 1024) :
    k0_pay2 acc x w (ix2 p q) = acc (ix2 p q) + ∑ j : Fin 1024, x (ix2 p j) * w (ix2 j q) := by
  pointwise [k0_pay2]

theorem zero_apply (y : S1024x1024.Idx) : k0_pay1 (F := Ideal) y = 0 := by
  pointwise [k0_pay1]

theorem idx_facts : ∀ t : Fin cfg0.N, win0_0.index t = ![t.val / 2, t.val % 2] ∧ win0_1.index t = ![t.val % 2, 0] ∧ win0_2.index t = ![t.val / 2, 0] :=
  (by decide +kernel : ∀ t : Fin grid0.N, _)

/-- The two arguments, and the terms of the product. -/
def lhs (c : Dev nD) : Vec Ideal S8192x2048 .f32 := m ((c : Thread nD τ).loc main_arg0)
def rhs (c : Dev nD) : Vec Ideal S2048x1024 .f32 := m ((c : Thread nD τ).loc main_arg1)
def term (c : Dev nD) (i : Fin 8192) (j : Fin 1024) (k : Fin 2048) : EReal := lhs m c (ix2 i k) * rhs m c (ix2 k j)

theorem lblk_eq (c : Dev nD) (t : Fin cfg0.N) (p k : Fin 1024) (i : Fin 8192) (hi : i.val = t.val / 2 * 1024 + p.val) :
    (iblk m c 0 t : Vec Ideal S1024x1024 .bf16) (ix2 p k) = lhs m c (ix2 i (place rfl t.val (by omega : 0 < 2) k)) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (k q : Fin 1024) :
    (iblk m c 1 t : Vec Ideal S1024x1024 .bf16) (ix2 k q) = rhs m c (ix2 (place rfl t.val (by omega : 0 < 2) k) q) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; rfl

/-- What a point adds. -/
theorem step (c : Dev nD) (t : Fin cfg0.N) (acc : Vec Ideal S1024x1024 .f32) (p q : Fin 1024) (i : Fin 8192) (hi : i.val = t.val / 2 * 1024 + p.val) :
    k0_pay2 acc (iblk m c 0 t) (iblk m c 1 t) (ix2 p q) = acc (ix2 p q) + ∑ k : Fin 1024, term m c i q (place rfl t.val (by omega : 0 < 2) k) :=
  (pay_apply ..).trans (congrArg (acc (ix2 p q) + ·) (Finset.sum_congr rfl fun k _ =>
    congrArg₂ (fun a b : EReal => a * b) (lblk_eq m c t p k i hi) (rblk_eq m c t k q)))

theorem flush_facts : ∀ t : Fin cfg0.N, (cfg0.win 2).flush t → t.val % 2 = 1 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : (((cfg0.win 2).blk t).view.emb y 0).val = t.val / 2 * 1024 + (y 0).val := by blk_simp [h]
  have e1 : ((cfg0.win 2).blk t).view.emb y 1 = y 1 := Fin.ext (by blk_simp [h])
  rw [e1]
  blk_simp [h]
  rw [after0_2]
  refine (congrArg _ (at_two y)).trans ?_
  exact run_sum (n := 2) (b := 1024) (K := 2048) (by omega) rfl (fun s hs => (outsAt0 m c s hs).2 (ix2 (y 0) (y 1)))
    (fun s hs => (outsAt0 m c s hs).1 (ix2 (y 0) (y 1))) (term m c (((cfg0.win 2).blk t).view.emb y 0) (y 1)) t (flush_facts t hf)
    (fun s hs h0 => (congrFun (first m c s h0) _).trans ((step m c s _ _ _ _ (e0.trans (by rw [hs]))).trans (by rw [zero_apply, zero_add])))
    (fun s _ h0 h1 => by omega)
    ((congrFun (last m c t (flush_facts t hf)) _).trans (step m c t _ _ _ _ e0))

end Cert.OutIdeal.Value

namespace Cert.Proof.Feed

open Cert Idealize.ShloMosaic Idealize.ShloMosaic.TcCoe Idealize.SL.Sem

/-- A mixer's last product, the hybrid one's and the latent attention's. -/
theorem out : algebraic_OutIdeal_OutReferenceIdeal := fun m ρ m' ρ' _ hmm => by
  refine ⟨_, (θ_run OutIdeal.defs _ _).mono (fun r h c => ⟨(h c).1.trans (OutIdeal.Value.result m c), (h c).2⟩) (OutIdeal.Value.run_blocks m ρ),
    (θ_run OutReferenceIdeal.defs _ _).mono (fun r h c => ⟨(h c).1.trans ?_, (h c).2⟩) (OutReferenceIdeal.Value.run (F := Ideal) m' ρ')⟩
  rw [(hmm c).1, (hmm c).2]
  funext y
  unfold OutIdeal.Value.term OutIdeal.Value.lhs OutIdeal.Value.rhs
  pointwise []

end Cert.Proof.Feed

end
-- ==== Proof.Feed.HybInW.lean ====
/-
  The gradient of the weights of the hybrid mixer's first product: the product of the transposed input by the result's
  gradient, block by block over the rows, is the plain one.
-/
module

public import proofs.«01_k».proof.Defs
public import proofs.«01_k».proof.Proof.Feed.RunSum
public import proofs.«01_k».proof.Proof.Gen.HybInWIdeal.Value
public import proofs.«01_k».proof.Proof.Gen.HybInWReferenceIdeal.Run

@[expose] public section

noncomputable section

namespace Cert.HybInWIdeal.Value

open Cert.HybInWIdeal Cert.HybInWIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero hz2, View.readCov_unit_zero _ hz2]
  simp only [View.readAt_eq_ld, (hs0_0 t).read_unread, (hs0_1 t).read_unread, View.ld_unit_zero (S := S1024x1024) hz2]

/-- a later one adds its product, -/
theorem later (c : Dev nD) (t : Fin cfg0.N) (h0 : t.val % 8 ≠ 0) (h1 : t.val % 8 ≠ 7) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x1024) hz2]

/-- and the last writes the sum. -/
theorem last (c : Dev nD) (t : Fin cfg0.N) (h1 : t.val % 8 = 7) : (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero hz2, View.readCov_unit_zero _ hz2]
  simp only [View.readAt_eq_ld, (hs0_0 t).read_unread, (hs0_1 t).read_unread, (Memref.isWhole_whole _).read_unread, View.ld_unit_zero (S := S1024x1024) hz2]

theorem pay_apply (acc : Vec Ideal S1024x1024 .f32) (x w : Vec Ideal S1024x1024 .bf16) (p q : Fin 1024) :
    k0_pay2 acc x w (ix2 p q) = acc (ix2 p q) + ∑ k : Fin 1024, x (ix2 k p) * w (ix2 k q) := by
  pointwise [k0_pay2]

theorem zero_apply (y : S1024x1024.Idx) : k0_pay1 (F := Ideal) y = 0 := by
  pointwise [k0_pay1]

theorem idx_facts : ∀ t : Fin cfg0.N, win0_0.index t = ![t.val % 8, 0] ∧ win0_1.index t = ![t.val % 8, t.val / 8] ∧ win0_2.index t = ![0, t.val / 8] :=
  (by decide +kernel : ∀ t : Fin grid0.N, _)

/-- The two arguments, and the terms of the product. -/
def lhs (c : Dev nD) : Vec Ideal S8192x1024 .f32 := m ((c : Thread nD τ).loc main_arg0)
def rhs (c : Dev nD) : Vec Ideal S8192x5120 .f32 := m ((c : Thread nD τ).loc main_arg1)
def term (c : Dev nD) (i : Fin 1024) (j : Fin 5120) (k : Fin 8192) : EReal := lhs m c (ix2 k i) * rhs m c (ix2 k j)

theorem lblk_eq (c : Dev nD) (t : Fin cfg0.N) (k p : Fin 1024) :
    (iblk m c 0 t : Vec Ideal S1024x1024 .bf16) (ix2 k p) = lhs m c (ix2 (place rfl t.val (by omega : 0 < 8) k) p) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; rfl
  · blk_simp [h]; rfl

theorem rblk_eq (c : Dev nD) (t : Fin cfg0.N) (k q : Fin 1024) (j : Fin 5120) (hj : j.val = t.val / 8 * 1024 + q.val) :
    (iblk m c 1 t : Vec Ideal S1024x1024 .bf16) (ix2 k q) = rhs m c (ix2 (place rfl t.val (by omega : 0 < 8) k) j) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; exact hj.symm

/-- What a point adds. -/
theorem step (c : Dev nD) (t : Fin cfg0.N) (acc : Vec Ideal S1024x1024 .f32) (p q : Fin 1024) (j : Fin 5120) (hj : j.val = t.val / 8 * 1024 + q.val) :
    k0_pay2 acc (iblk m c 0 t) (iblk m c 1 t) (ix2 p q) = acc (ix2 p q) + ∑ k : Fin 1024, term m c p j (place rfl t.val (by omega : 0 < 8) k) :=
  (pay_apply ..).trans (congrArg (acc (ix2 p q) + ·) (Finset.sum_congr rfl fun k _ =>
    congrArg₂ (fun a b : EReal => a * b) (lblk_eq m c t k p) (rblk_eq m c t k q j hj)))

theorem flush_facts : ∀ t : Fin cfg0.N, (cfg0.win 2).flush t → t.val % 8 = 7 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : ((cfg0.win 2).blk t).view.emb y 0 = y 0 := Fin.ext (by blk_simp [h])
  have e1 : (((cfg0.win 2).blk t).view.emb y 1).val = t.val / 8 * 1024 + (y 1).val := by blk_simp [h]
  rw [e0]
  blk_simp [h]
  rw [after0_2]
  refine (congrArg _ (at_two y)).trans ?_
  exact run_sum (n := 8) (b := 1024) (K := 8192) (by omega) rfl (fun s hs => (outsAt0 m c s hs).2 (ix2 (y 0) (y 1)))
    (fun s hs => (outsAt0 m c s hs).1 (ix2 (y 0) (y 1))) (term m c (y 0) (((cfg0.win 2).blk t).view.emb y 1)) t (flush_facts t hf)
    (fun s hs h0 => (congrFun (first m c s h0) _).trans ((step m c s _ _ _ _ (e1.trans (by rw [hs]))).trans (by rw [zero_apply, zero_add])))
    (fun s hs h0 h1 => (congrFun (later m c s h0 h1) _).trans (step m c s _ _ _ _ (e1.trans (by rw [hs]))))
    ((congrFun (last m c t (flush_facts t hf)) _).trans (step m c t _ _ _ _ e1))

end Cert.HybInWIdeal.Value

namespace Cert.Proof.Feed

open Cert Idealize.ShloMosaic Idealize.ShloMosaic.TcCoe Idealize.SL.Sem

/-- The gradient of the weights of the hybrid mixer's first product. The reference has its factors the other way
    around. -/
theorem hyb_in_w : algebraic_HybInWIdeal_HybInWReferenceIdeal := fun m ρ m' ρ' _ hmm => by
  refine ⟨_, (θ_run HybInWIdeal.defs _ _).mono (fun r h c => ⟨(h c).1.trans (HybInWIdeal.Value.result m c), (h c).2⟩) (HybInWIdeal.Value.run_blocks m ρ),
    (θ_run HybInWReferenceIdeal.defs _ _).mono (fun r h c => ⟨(h c).1.trans ?_, (h c).2⟩) (HybInWReferenceIdeal.Value.run (F := Ideal) m' ρ')⟩
  rw [(hmm c).1, (hmm c).2]
  funext y
  refine Eq.trans (b := ∑ k, HybInWIdeal.Value.rhs m c (ix2 k (y 1)) * HybInWIdeal.Value.lhs m c (ix2 k (y 0))) ?_ (Finset.sum_congr rfl fun k _ => mul_comm (G := EReal) _ _)
  unfold HybInWIdeal.Value.lhs HybInWIdeal.Value.rhs
  pointwise []

end Cert.Proof.Feed

end
-- ==== Proof.Feed.HybInX.lean ====
/-
  The gradient of the input of the hybrid mixer's first product: the product by the transposed weights, block by block
  over the projected columns, is the plain one.
-/
module

public import proofs.«01_k».proof.Defs
public import proofs.«01_k».proof.Proof.Feed.RunSum
public import proofs.«01_k».proof.Proof.Gen.HybInXIdeal.Value
public import proofs.«01_k».proof.Proof.Gen.HybInXReferenceIdeal.Run

@[expose] public section

noncomputable section

namespace Cert.HybInXIdeal.Value

open Cert.HybInXIdeal Cert.HybInXIdeal.Gen Idealize.ShloMosaic Idealize.ShloMosaic.TcCoe Idealize.SL.Sem
open Cert.Proof.Feed

variable (m : (ℓ : Loc nD τ sig) → Buf (Elt Ideal) ℓ)

/-- The first point of a run leaves its own product in the accumulator, -/
theorem first (c : Dev nD) (t : Fin cfg0.N) (h0 : t.val % 5 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x1024) hz2, View.readCov_unit_zero (S := S1024x1024) _ hz2]
  simp only [View.readAt_eq_ld, (hs0_0 t).read_unread, (hs0_1 t).read_unread, View.ld_unit_zero (S := S1024x1024) hz2]

/-- a later one adds its product, -/
theorem later (c : Dev nD) (t : Fin cfg0.N) (h0 : t.val % 5 ≠ 0) (h1 : t.val % 5 ≠ 4) : (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x1024) hz2]

/-- and the last writes the sum. -/
theorem last (c : Dev nD) (t : Fin cfg0.N) (h1 : t.val % 5 = 4) : (outsAt0 m c t.val t.isLt).1 = k0_pay2 (outsAt0 m c (t.val - 1) (Nat.lt_of_le_of_lt (Nat.sub_le _ _) t.isLt)).2 (iblk m c 0 t) (iblk m c 1 t) := by
  rw [outsAt0_C m c t (by omega) h1]
  dsimp only
  unfold out0_C_2
  rw [View.read_writes_eq_canon _ _ _ (cover0_C_2 _ _ _ _ _ _ _ _ _ _ _ _ _ _ _)]
  unfold kernelRun0_C
  dsimp only
  sl_unfold_words
  rw [View.canon_unit_zero hz2, View.readCov_unit_zero (S := S1024x1024) _ hz2]
  simp only [View.readAt_eq_ld, (hs0_0 t).read_unread, (hs0_1 t).read_unread, (Memref.isWhole_whole _).read_unread, View.ld_unit_zero (S := S1024x1024) hz2]

theorem pay_apply (acc : Vec Ideal S1024x1024 .f32) (x w : Vec Ideal S1024x1024 .bf16) (p q : Fin 1024) :
    k0_pay2 acc x w (ix2 p q) = acc (ix2 p q) + ∑ j : Fin 1024, x (ix2 p j) * w (ix2 q j) := by
  pointwise [k0_pay2]

theorem zero_apply (y : S1024x1024.Idx) : k0_pay1 (F := Ideal) y = 0 := by
  pointwise [k0_pay1]

theorem idx_facts : ∀ t : Fin cfg0.N, win0_0.index t = ![t.val / 5, t.val % 5] ∧ win0_1.index t = ![0, t.val % 5] ∧ win0_2.index t = ![t.val / 5, 0] :=
  (by decide +kernel : ∀ t : Fin grid0.N, _)

/-- The two arguments, and the terms of the product. -/
def lhs (c : Dev nD) : Vec Ideal S8192x5120 .f32 := m ((c : Thread nD τ).loc main_arg0)
def rhs (c : Dev nD) : Vec Ideal S1024x5120 .f32 := m ((c : Thread nD τ).loc main_arg1)
def term (c : Dev nD) (i : Fin 8192) (j : Fin 1024) (k : Fin 5120) : EReal := lhs m c (ix2 i k) * rhs m c (ix2 j k)

theorem lblk_eq (c : Dev nD) (t : Fin cfg0.N) (p k : Fin 1024) (i : Fin 8192) (hi : i.val = t.val / 5 * 1024 + p.val) :
    (iblk m c 0 t : Vec Ideal S1024x1024 .bf16) (ix2 p k) = lhs m c (ix2 i (place rfl t.val (by omega : 0 < 5) k)) := by
  have h := (idx_facts t).1
  unfold iblk lhs
  rw [View.read_apply]
  show V m c main_v0 _ = _
  entry_read
  refine congrArg (m ((c : Thread nD τ).loc main_arg0)) (funext fun a => Fin.ext ?_)
  fin_cases a
  · blk_simp [h]; exact hi.symm
  · blk_simp [h]; rfl

theorem rblk_eq (c : Dev nD) (t : Fin cfg0.N) (q k : Fin 1024) :
    (iblk m c 1 t : Vec Ideal S1024x1024 .bf16) (ix2 q k) = rhs m c (ix2 q (place rfl t.val (by omega : 0 < 5) k)) := by
  have h := (idx_facts t).2.1
  unfold iblk rhs
  rw [View.read_apply]
  show V m c main_v1 _ = _
  entry_read
  refine congrArg (m ((c : Thread nD τ).loc main_arg1)) (funext fun a => Fin.ext ?_)
  fin_cases a
  · blk_simp [h]; rfl
  · blk_simp [h]; rfl

/-- What a point adds. -/
theorem step (c : Dev nD) (t : Fin cfg0.N) (acc : Vec Ideal S1024x1024 .f32) (p q : Fin 1024) (i : Fin 8192) (hi : i.val = t.val / 5 * 1024 + p.val) :
    k0_pay2 acc (iblk m c 0 t) (iblk m c 1 t) (ix2 p q) = acc (ix2 p q) + ∑ k : Fin 1024, term m c i q (place rfl t.val (by omega : 0 < 5) k) :=
  (pay_apply ..).trans (congrArg (acc (ix2 p q) + ·) (Finset.sum_congr rfl fun k _ =>
    congrArg₂ (fun a b : EReal => a * b) (lblk_eq m c t p k i hi) (rblk_eq m c t q k)))

theorem flush_facts : ∀ t : Fin cfg0.N, (cfg0.win 2).flush t → t.val % 5 = 4 := (by decide +kernel : ∀ t : Fin grid0.N, _)

/-- The result is the product. -/
theorem result (c : Dev nD) : (dats m 0 c).arrAt 2 cfg0.N = fun y => ∑ k, term m c (y 0) (y 1) k := by
  refine (dats m 0 c).arrAt_eq_of_covers 2 _ (by decide +kernel) fun t hf y => ?_
  have h := (idx_facts t).2.2
  have e0 : (((cfg0.win 2).blk t).view.emb y 0).val = t.val / 5 * 1024 + (y 0).val := by blk_simp [h]
  have e1 : ((cfg0.win 2).blk t).view.emb y 1 = y 1 := Fin.ext (by blk_simp [h])
  rw [e1]
  blk_simp [h]
  rw [after0_2]
  refine (congrArg _ (at_two y)).trans ?_
  exact run_sum (n := 5) (b := 1024) (K := 5120) (by omega) rfl (fun s hs => (outsAt0 m c s hs).2 (ix2 (y 0) (y 1)))
    (fun s hs => (outsAt0 m c s hs).1 (ix2 (y 0) (y 1))) (term m c (((cfg0.win 2).blk t).view.emb y 0) (y 1)) t (flush_facts t hf)
    (fun s hs h0 => (congrFun (first m c s h0) _).trans ((step m c s _ _ _ _ (e0.trans (by rw [hs]))).trans (by rw [zero_apply, zero_add])))
    (fun s hs h0 h1 => (congrFun (later m c s h0 h1) _).trans (step m c s _ _ _ _ (e0.trans (by rw [hs]))))
    ((congrFun (last m c t (flush_facts t hf)) _).trans (step m c t _ _ _ _ e0))

end Cert.HybInXIdeal.Value

namespace Cert.Proof.Feed

open Cert Idealize.ShloMosaic Idealize.ShloMosaic.TcCoe Idealize.SL.Sem

/-- The gradient of the input of the hybrid mixer's first product. -/
theorem hyb_in_x : algebraic_HybInXIdeal_HybInXReferenceIdeal := fun m ρ m' ρ' _ hmm => by
  refine ⟨_, (θ_run HybInXIdeal.defs _ _).mono (fun r h c => ⟨(h c).1.trans (HybInXIdeal.Value.result m c), (h c).2⟩) (HybInXIdeal.Value.run_blocks m ρ),
    (θ_run HybInXReferenceIdeal.defs _ _).mono (fun r h c => ⟨(h c).1.trans ?_, (h c).2⟩) (HybInXReferenceIdeal.Value.run (F := Ideal) m' ρ')⟩
  rw [(hmm c).1, (hmm c).2]
  funext y
  unfold HybInXIdeal.Value.term HybInXIdeal.Value.lhs HybInXIdeal.Value.rhs
  pointwise []

end Cert.Proof.Feed

end
-- ==== Proof.Feed.HybIn.lean ====
/-
  The first product of the hybrid mixer, its whole inner axis in one block: the blocks of the result are the plain
  product's.
-/
module

public import proofs.«01_k».proof.Defs
public import proofs.«01_k».proof.Proof.Gen.HybInIdeal.Value
public import proofs.«01_k».proof.Proof.Gen.HybInReferenceIdeal.Run
public import Idealize.ShloMosaic.Lib.Tactic
public import Idealize.ShloMosaic.Lib.Pointwise
public import Idealize.ShloMosaic.Lib.Claim
public import Idealize.ShloMosaic.Lib.Pipeline.ValueKit

@[expose] public section

noncomputable section

namespace Cert.HybInIdeal.Value

open Cert.HybInIdeal Cert.HybInIdeal.Gen Idealize.ShloMosaic Idealize.ShloMosaic.TcCoe Idealize.SL.Sem

variable (m : (ℓ : Loc nD τ sig) → Buf (Elt Ideal) ℓ)

theorem hz : (![0, 0] : Fin 2 → Nat) = fun _ => 0 := funext fun a => by fin_cases a <;> rfl

/-- A point writes the product of its blocks, -/
theorem out_eq (c : Dev nD) (i : grid0.Coords) (a1 h1 a2 h2 a3 h3 a4 h4 hc0 hc1) (x w : Vec Ideal S1024x1024 .bf16) :
    out0_A_2 c i a1 h1 a2 h2 a3 h3 a4 h4 hc0 hc1 x w = k0_pay2 k0_pay1 x w := by
  unfold out0_A_2
  rw [View.read_writes_eq_canon _ _ _ (cover0_A_2 c i a1 h1 a2 h2 a3 h3 a4 h4 hc0 hc1 x w)]
  unfold kernelRun0_A
  dsimp only
  sl_unfold_words
  rw [View.canon_unit_zero hz, View.readCov_cons_toLoadRect, View.readCov_unit_zero (S := S1024x1024) _ hz]
  simp only [View.readAt_eq_ld, h1.read_unread, h2.read_unread, View.ld_unit_zero (S := S1024x1024) hz]

/-- read at an index. -/
theorem pay_apply (x w : Vec Ideal S1024x1024 .bf16) (p q : Fin 1024) :
    k0_pay2 k0_pay1 x w (ix2 p q) = ∑ k : Fin 1024, x (ix2 p k) * w (ix2 k q) := by
  refine Eq.trans (b := 0 + ∑ k : Fin 1024, x (ix2 p k) * w (ix2 k q)) ?_ (zero_add _)
  pointwise [k0_pay2, k0_pay1]

theorem idx_facts : ∀ t : Fin cfg0.N, win0_0.index t = ![t.val / 5, 0] ∧ win0_1.index t = ![0, t.val % 5] ∧ win0_2.index t = ![t.val / 5, t.val % 5] :=
  (by decide +kernel : ∀ t : Fin grid0.N, _)

/-- The two arguments, -/
def lhs (c : Dev nD) (i : Fin 8192) (k : Fin 1024) : EReal := (m ((c : Thread nD τ).loc main_arg0) : Vec Ideal S8192x1024 .f32) (ix2 i k)
def rhs (c : Dev nD) (k : Fin 1024) (j : Fin 5120) : EReal := (m ((c : Thread nD τ).loc main_arg1) : Vec Ideal S1024x5120 .f32) (ix2 k j)
/-- their blocks at a point, -/
def lblk (c : Dev nD) (t : Fin cfg0.N) (p k : Fin 1024) : EReal := (iblk m c 0 t : Vec Ideal S1024x1024 .bf16) (ix2 p k)
def rblk (c : Dev nD) (t : Fin cfg0.N) (k q : Fin 1024) : EReal := (iblk m c 1 t : Vec Ideal S1024x1024 .bf16) (ix2 k q)
/-- and the product. -/
def G (c : Dev nD) (y : S8192x5120.Idx) : EReal := ∑ k, lhs m c (y 0) k * rhs m c k (y 1)

theorem lblk_eq (c : Dev nD) (t : Fin cfg0.N) (p k : Fin 1024) (h0) : lblk m c t p k = lhs m c ⟨t.val / 5 * 1024 + p.val, h0⟩ k := by
  unfold lblk lhs
  have h := (idx_facts t).1
  unfold iblk
  rw [View.read_apply]
  show V m c main_v0 _ = _
  entry_read
  refine congrArg (m ((c : Thread nD τ).loc main_arg0)) (funext fun a => Fin.ext ?_)
  match a with
  | ⟨0, _⟩ => show win0_0.index t 0 * 1024 + 1 * p.val = _; rw [congrFun h 0]; show t.val / 5 * 1024 + 1 * p.val = t.val / 5 * 1024 + p.val; omega
  | ⟨1, _⟩ => show win0_0.index t 1 * 1024 + 1 * k.val = _; rw [congrFun h 1]; show 0 * 1024 + 1 * k.val = k.val; omega

theorem rblk_eq (c : Dev nD) (t : Fin cfg0.N) (k q : Fin 1024) (h0) : rblk m c t k q = rhs m c k ⟨t.val % 5 * 1024 + q.val, h0⟩ := by
  unfold rblk rhs
  have h := (idx_facts t).2.1
  unfold iblk
  rw [View.read_apply]
  show V m c main_v1 _ = _
  entry_read
  refine congrArg (m ((c : Thread nD τ).loc main_arg1)) (funext fun a => Fin.ext ?_)
  match a with
  | ⟨0, _⟩ => show win0_1.index t 0 * 1024 + 1 * k.val = _; rw [congrFun h 0]; show 0 * 1024 + 1 * k.val = k.val; omega
  | ⟨1, _⟩ => show win0_1.index t 1 * 1024 + 1 * q.val = _; rw [congrFun h 1]; show t.val % 5 * 1024 + 1 * q.val = t.val % 5 * 1024 + q.val; omega

theorem result (c : Dev nD) : (dats m 0 c).arrAt 2 cfg0.N = G m c := by
  refine (dats m 0 c).arrAt_eq_of_covers 2 _ (by decide +kernel) fun t hf y => ?_
  have h := (idx_facts t).2.2
  have ht : t.val < 40 := lt_of_lt_of_eq t.isLt N_0
  have hy0 : (y 0).val < 1024 := (y 0).isLt
  have hy1 : (y 1).val < 1024 := (y 1).isLt
  have e0 : (((cfg0.win 2).blk t).view.emb y 0).val = t.val / 5 * 1024 + (y 0).val := by blk_simp [h]
  have e1 : (((cfg0.win 2).blk t).view.emb y 1).val = t.val % 5 * 1024 + (y 1).val := by blk_simp [h]
  have f0 : ((cfg0.win 2).blk t).view.emb y 0 = (⟨t.val / 5 * 1024 + (y 0).val, by omega⟩ : Fin 8192) := Fin.ext e0
  have f1 : ((cfg0.win 2).blk t).view.emb y 1 = (⟨t.val % 5 * 1024 + (y 1).val, by omega⟩ : Fin 5120) := Fin.ext e1
  blk_simp [h]
  rw [after0_2]
  unfold outsAt0
  rw [out_eq]
  refine (congrArg _ (show y = ix2 (y 0) (y 1) from funext fun a => by fin_cases a <;> rfl)).trans
    ((pay_apply (iblk m c 0 t) (iblk m c 1 t) (y 0) (y 1)).trans ?_)
  unfold G
  rw [f0, f1]
  exact Finset.sum_congr rfl fun k _ => congrArg₂ (fun a b : EReal => a * b) (lblk_eq m c t (y 0) k (by omega)) (rblk_eq m c t k (y 1) (by omega))

end Cert.HybInIdeal.Value

namespace Cert.Proof.Feed

open Cert Idealize.ShloMosaic Idealize.ShloMosaic.TcCoe Idealize.SL.Sem

/-- The hybrid mixer's first product. -/
theorem hyb_in : algebraic_HybInIdeal_HybInReferenceIdeal := fun m ρ m' ρ' _ hmm => by
  refine ⟨_, (θ_run HybInIdeal.defs _ _).mono (fun r h c => ⟨(h c).1.trans (HybInIdeal.Value.result m c), (h c).2⟩) (HybInIdeal.Value.run_blocks m ρ),
    (θ_run HybInReferenceIdeal.defs _ _).mono (fun r h c => ⟨(h c).1.trans ?_, (h c).2⟩) (HybInReferenceIdeal.Value.run (F := Ideal) m' ρ')⟩
  rw [(hmm c).1, (hmm c).2]
  funext y
  unfold HybInIdeal.Value.G HybInIdeal.Value.lhs HybInIdeal.Value.rhs
  pointwise []

end Cert.Proof.Feed

end
-- ==== Proof.Norm.NormF.lean ====
/-
  The norm's forward pass: every row over the root of its mean square, times the weights, block by block.
-/
module

public import proofs.«01_k».proof.Proof.Norm.NormB
public import proofs.«01_k».proof.Proof.Gen.NormFIdeal.Value
public import proofs.«01_k».proof.Proof.Gen.NormFReferenceIdeal.Read

@[expose] public section

noncomputable section

namespace Cert.Proof.Norm

open Idealize.ShloMosaic

/-- A row under the norm with weights `g`. -/
def normed (x g : Fin 1024 → EReal) (j : Fin 1024) : EReal := x j * Ideal.rsqrt (ms x) * g j

end Cert.Proof.Norm

namespace Cert.NormFIdeal.Value

open Cert.NormFIdeal Cert.NormFIdeal.Gen Idealize.ShloMosaic Idealize.ShloMosaic.TcCoe Idealize.SL.Sem
open Cert.Proof.Norm

variable (m : (ℓ : Loc nD τ sig) → Buf (Elt Ideal) ℓ)

theorem hz : (![0, 0] : Fin 2 → Nat) = fun _ => 0 := funext fun a => by fin_cases a <;> rfl

/-- The stored value at an index of a block, -/
theorem row_apply (x : Vec Ideal S512x1024 .f32) (g : Vec Ideal S1x1024 .f32) (p : Fin 512) (q : Fin 1024) :
    k0_pay1 x g (ix2 p q) = normed (fun j => x (ix2 p j)) (fun j => g (ix2 0 j)) q := by
  unfold normed ms
  pointwise [k0_pay1]

/-- which is what a point leaves. -/
theorem block_eq (x : Vec Ideal S512x1024 .f32) (g : Vec Ideal S1x1024 .f32) : out0_2 x g = k0_pay1 x g := by
  have ex : View.ld x r0_0 = x := View.ld_unit_zero (S := S512x1024) hz _ _
  have eg : View.ld g r0_1 = g := View.ld_unit_zero (S := S1x1024) hz _ _
  unfold out0_2
  rw [ex, eg]
  exact View.canon_cons_unit_zero (S := S512x1024) hz _ _ _

theorem idx_facts : ∀ t : Fin cfg0.N, win0_0.index t = ![t.val, 0] ∧ win0_1.index t = ![0, 0] ∧ win0_2.index t = ![t.val, 0] :=
  (by decide +kernel : ∀ t : Fin grid0.N, _)

/-- The rows and the weights, -/
def X (c : Dev nD) (i : Fin 8192) (j : Fin 1024) : EReal := (m ((c : Thread nD τ).loc main_arg0) : Vec Ideal S8192x1024 .f32) (ix2 i j)
def W (c : Dev nD) (j : Fin 1024) : EReal := (m ((c : Thread nD τ).loc main_arg1) : Vec Ideal S1024 .f32) (ix1 j)
/-- and their blocks at a point. -/
def xblk (c : Dev nD) (t : Fin cfg0.N) (p : Fin 512) (j : Fin 1024) : EReal := (iblk m c 0 t : Vec Ideal S512x1024 .f32) (ix2 p j)
def wblk (c : Dev nD) (t : Fin cfg0.N) (j : Fin 1024) : EReal := (iblk m c 1 t : Vec Ideal S1x1024 .f32) (ix2 0 j)

theorem xblk_eq (c : Dev nD) (t : Fin cfg0.N) (p : Fin 512) (j : Fin 1024) (h0) : xblk m c t p j = X m c ⟨t.val * 512 + p.val, h0⟩ j := by
  unfold xblk X
  have h := (idx_facts t).1
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * p.val = _; rw [congrFun h 0]; show t.val * 512 + 1 * p.val = t.val * 512 + p.val; omega
  | ⟨1, _⟩ => show win0_0.index t 1 * 1024 + 1 * j.val = _; rw [congrFun h 1]; show 0 * 1024 + 1 * j.val = j.val; omega

theorem wblk_eq (c : Dev nD) (t : Fin cfg0.N) (j : Fin 1024) : wblk m c t j = W m c j := by
  unfold wblk W
  have h := (idx_facts t).2.1
  unfold iblk
  rw [View.read_apply]
  show V m c main_v0 _ = _
  entry_read
  refine congrArg (m ((c : Thread nD τ).loc main_arg1)) (Shape.reshapeEquiv_eq_of_rowMajor _ ?_)
  refine (Shape.rowMajor_val_one (ix1 j)).trans (Eq.trans ?_ (Shape.rowMajor_val_two (((View.whole main_v0).slice ((win0 1).rect t)).emb (ix2 0 j) : S1x1024.Idx)).symm)
  show j.val = (win0_1.index t 0 * 1 + 1 * 0) * 1024 + (win0_1.index t 1 * 1024 + 1 * j.val)
  rw [congrFun h 0, congrFun h 1]
  show j.val = (0 * 1 + 1 * 0) * 1024 + (0 * 1024 + 1 * j.val)
  omega

/-- The result: every row under the norm. -/
def G (c : Dev nD) (y : S8192x1024.Idx) : EReal := normed (X m c (y 0)) (W m c) (y 1)

theorem result (c : Dev nD) : (dats m 0 c).arrAt 2 cfg0.N = G m c := by
  refine (dats m 0 c).arrAt_eq_of_covers 2 _ (by decide +kernel) fun t hf y => ?_
  have h := (idx_facts t).2.2
  have ht : t.val < 16 := lt_of_lt_of_eq t.isLt N_0
  have hy0 : (y 0).val < 512 := (y 0).isLt
  have e0 : (((cfg0.win 2).blk t).view.emb y 0).val = t.val * 512 + (y 0).val := by blk_simp [h]
  have e1 : (((cfg0.win 2).blk t).view.emb y 1).val = (y 1).val := by blk_simp [h]
  have f0 : ((cfg0.win 2).blk t).view.emb y 0 = (⟨t.val * 512 + (y 0).val, by omega⟩ : Fin 8192) := Fin.ext e0
  have f1 : ((cfg0.win 2).blk t).view.emb y 1 = y 1 := Fin.ext e1
  blk_simp [h]
  rw [after0_2, block_eq]
  refine (congrArg _ (show y = ix2 (y 0) (y 1) from funext fun a => by fin_cases a <;> rfl)).trans
    ((row_apply (iblk m c 0 t) (iblk m c 1 t) (y 0) (y 1)).trans ?_)
  unfold G
  rw [f0, f1, ← (funext fun j => xblk_eq m c t (y 0) j _ : xblk m c t (y 0) = X m c ⟨t.val * 512 + (y 0).val, by omega⟩),
    ← (funext fun j => wblk_eq m c t j : wblk m c t = W m c)]
  rfl

end Cert.NormFIdeal.Value

namespace Cert.Proof.Norm

open Cert Idealize.ShloMosaic Idealize.ShloMosaic.TcCoe Idealize.SL.Sem

/-- The norm of every row. -/
theorem norm_f : algebraic_NormFIdeal_NormFReferenceIdeal := fun m ρ m' ρ' _ hmm => by
  refine ⟨_, (θ_run NormFIdeal.defs _ _).mono (fun r h c => ⟨(h c).1.trans (NormFIdeal.Value.result m c), (h c).2⟩) (NormFIdeal.Value.run_blocks m ρ),
    (θ_run NormFReferenceIdeal.defs _ _).mono (fun r h c => ⟨(h c).1.trans ?_, (h c).2⟩) (NormFReferenceIdeal.Value.run (F := Ideal) m' ρ')⟩
  rw [(hmm c).1, (hmm c).2]
  funext y
  unfold NormFIdeal.Value.G NormFIdeal.Value.X NormFIdeal.Value.W normed ms
  pointwise []

end Cert.Proof.Norm

end
-- ==== Proof.Norm.PostF.lean ====
/-
  The norm after a part and the path around it: half of every row of the part's output under the norm, added to the row
  that went in.
-/
module

public import proofs.«01_k».proof.Proof.Norm.NormF
public import proofs.«01_k».proof.Proof.Gen.PostFIdeal.Value
public import proofs.«01_k».proof.Proof.Gen.PostFReferenceIdeal.Read

@[expose] public section

noncomputable section

namespace Cert.PostFIdeal.Value

open Cert.PostFIdeal Cert.PostFIdeal.Gen Idealize.ShloMosaic Idealize.ShloMosaic.TcCoe Idealize.SL.Sem
open Cert.Proof.Norm

variable (m : (ℓ : Loc nD τ sig) → Buf (Elt Ideal) ℓ)

theorem hz : (![0, 0] : Fin 2 → Nat) = fun _ => 0 := funext fun a => by fin_cases a <;> rfl

/-- A row `r` and half of the row `x` under the norm. -/
def added (r : EReal) (x g : Fin 1024 → EReal) (j : Fin 1024) : EReal := r + Ideal.ofBits FTy.f32 0x3F000000#32 * normed x g j

/-- The stored value at an index of a block, -/
theorem row_apply (r x : Vec Ideal S512x1024 .f32) (g : Vec Ideal S1x1024 .f32) (p : Fin 512) (q : Fin 1024) :
    k0_pay1 r x g (ix2 p q) = added (r (ix2 p q)) (fun j => x (ix2 p j)) (fun j => g (ix2 0 j)) q := by
  unfold added normed ms
  pointwise [k0_pay1]

/-- which is what a point leaves. -/
theorem block_eq (r x : Vec Ideal S512x1024 .f32) (g : Vec Ideal S1x1024 .f32) : out0_3 r x g = k0_pay1 r x g := by
  have er : View.ld r r0_0 = r := View.ld_unit_zero (S := S512x1024) hz _ _
  have ex : View.ld x r0_0 = x := View.ld_unit_zero (S := S512x1024) hz _ _
  have eg : View.ld g r0_1 = g := View.ld_unit_zero (S := S1x1024) hz _ _
  unfold out0_3
  rw [er, ex, eg]
  exact View.canon_cons_unit_zero (S := S512x1024) hz _ _ _

theorem idx_facts : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The rows that went in, the part's output, the weights, -/
def R (c : Dev nD) (i : Fin 8192) (j : Fin 1024) : EReal := (m ((c : Thread nD τ).loc main_arg0) : Vec Ideal S8192x1024 .f32) (ix2 i j)
def X (c : Dev nD) (i : Fin 8192) (j : Fin 1024) : EReal := (m ((c : Thread nD τ).loc main_arg1) : Vec Ideal S8192x1024 .f32) (ix2 i j)
def W (c : Dev nD) (j : Fin 1024) : EReal := (m ((c : Thread nD τ).loc main_arg2) : Vec Ideal S1024 .f32) (ix1 j)
/-- and their blocks at a point. -/
def rblk (c : Dev nD) (t : Fin cfg0.N) (p : Fin 512) (j : Fin 1024) : EReal := (iblk m c 0 t : Vec Ideal S512x1024 .f32) (ix2 p j)
def xblk (c : Dev nD) (t : Fin cfg0.N) (p : Fin 512) (j : Fin 1024) : EReal := (iblk m c 1 t : Vec Ideal S512x1024 .f32) (ix2 p j)
def wblk (c : Dev nD) (t : Fin cfg0.N) (j : Fin 1024) : EReal := (iblk m c 2 t : Vec Ideal S1x1024 .f32) (ix2 0 j)

theorem rblk_eq (c : Dev nD) (t : Fin cfg0.N) (p : Fin 512) (j : Fin 1024) (h0) : rblk m c t p j = R m c ⟨t.val * 512 + p.val, h0⟩ j := by
  unfold rblk R
  have h := (idx_facts t).1
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * p.val = _; rw [congrFun h 0]; show t.val * 512 + 1 * p.val = t.val * 512 + p.val; omega
  | ⟨1, _⟩ => show win0_0.index t 1 * 1024 + 1 * j.val = _; rw [congrFun h 1]; show 0 * 1024 + 1 * j.val = j.val; omega

theorem xblk_eq (c : Dev nD) (t : Fin cfg0.N) (p : Fin 512) (j : Fin 1024) (h0) : xblk m c t p j = X m c ⟨t.val * 512 + p.val, h0⟩ j := by
  unfold xblk X
  have h := (idx_facts t).2.1
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * p.val = _; rw [congrFun h 0]; show t.val * 512 + 1 * p.val = t.val * 512 + p.val; omega
  | ⟨1, _⟩ => show win0_1.index t 1 * 1024 + 1 * j.val = _; rw [congrFun h 1]; show 0 * 1024 + 1 * j.val = j.val; omega

theorem wblk_eq (c : Dev nD) (t : Fin cfg0.N) (j : Fin 1024) : wblk m c t j = W m c j := by
  unfold wblk W
  have h := (idx_facts t).2.2.1
  unfold iblk
  rw [View.read_apply]
  show V m c main_v0 _ = _
  entry_read
  refine congrArg (m ((c : Thread nD τ).loc main_arg2)) (Shape.reshapeEquiv_eq_of_rowMajor _ ?_)
  refine (Shape.rowMajor_val_one (ix1 j)).trans (Eq.trans ?_ (Shape.rowMajor_val_two (((View.whole main_v0).slice ((win0 2).rect t)).emb (ix2 0 j) : S1x1024.Idx)).symm)
  show j.val = (win0_2.index t 0 * 1 + 1 * 0) * 1024 + (win0_2.index t 1 * 1024 + 1 * j.val)
  rw [congrFun h 0, congrFun h 1]
  show j.val = (0 * 1 + 1 * 0) * 1024 + (0 * 1024 + 1 * j.val)
  omega

/-- The result, row by row. -/
def G (c : Dev nD) (y : S8192x1024.Idx) : EReal := added (R m c (y 0) (y 1)) (X m c (y 0)) (W m c) (y 1)

theorem result (c : Dev nD) : (dats m 0 c).arrAt 3 cfg0.N = G m c := by
  refine (dats m 0 c).arrAt_eq_of_covers 3 _ (by decide +kernel) fun t hf y => ?_
  have h := (idx_facts t).2.2.2
  have ht : t.val < 16 := lt_of_lt_of_eq t.isLt N_0
  have hy0 : (y 0).val < 512 := (y 0).isLt
  have e0 : (((cfg0.win 3).blk t).view.emb y 0).val = t.val * 512 + (y 0).val := by blk_simp [h]
  have e1 : (((cfg0.win 3).blk t).view.emb y 1).val = (y 1).val := by blk_simp [h]
  have f0 : ((cfg0.win 3).blk t).view.emb y 0 = (⟨t.val * 512 + (y 0).val, by omega⟩ : Fin 8192) := Fin.ext e0
  have f1 : ((cfg0.win 3).blk t).view.emb y 1 = y 1 := Fin.ext e1
  blk_simp [h]
  rw [after0_3, block_eq]
  refine (congrArg _ (show y = ix2 (y 0) (y 1) from funext fun a => by fin_cases a <;> rfl)).trans
    ((row_apply (iblk m c 0 t) (iblk m c 1 t) (iblk m c 2 t) (y 0) (y 1)).trans ?_)
  unfold G
  rw [f0, f1, ← rblk_eq m c t (y 0) (y 1) (by omega),
    ← (funext fun j => xblk_eq m c t (y 0) j _ : xblk m c t (y 0) = X m c ⟨t.val * 512 + (y 0).val, by omega⟩),
    ← (funext fun j => wblk_eq m c t j : wblk m c t = W m c)]
  rfl

end Cert.PostFIdeal.Value

namespace Cert.Proof.Norm

open Cert Idealize.ShloMosaic Idealize.ShloMosaic.TcCoe Idealize.SL.Sem

/-- The norm after a part and the path around it. -/
theorem post_f : algebraic_PostFIdeal_PostFReferenceIdeal := fun m ρ m' ρ' _ hmm => by
  refine ⟨_, (θ_run PostFIdeal.defs _ _).mono (fun r h c => ⟨(h c).1.trans (PostFIdeal.Value.result m c), (h c).2⟩) (PostFIdeal.Value.run_blocks m ρ),
    (θ_run PostFReferenceIdeal.defs _ _).mono (fun r h c => ⟨(h c).1.trans ?_, (h c).2⟩) (PostFReferenceIdeal.Value.run (F := Ideal) m' ρ')⟩
  rw [(hmm c).1, (hmm c).2.1, (hmm c).2.2]
  funext y
  unfold PostFIdeal.Value.G PostFIdeal.Value.added PostFIdeal.Value.R PostFIdeal.Value.X PostFIdeal.Value.W normed ms
  pointwise []

end Cert.Proof.Norm

end
-- ==== Proof.Fwd.Tile.lean ====
/-
  One tile of keys of one head in the attention's forward pass: what its scores make of a row's running maximum, running
  sum and running output, as functions that no longer depend on the head, and read at an index over the reals.
-/
module

public import proofs.«01_k».proof.Proof.Gen.AttnFIdeal.Skeleton
public import proofs.«01_k».proof.Proof.RefValue
public import Idealize.ShloMosaic.Lib.Pointwise

@[expose] public section

noncomputable section

namespace Cert.Proof.Fwd

open Cert.AttnFIdeal Cert.AttnFIdeal.Gen Cert.Proof.Value
open Idealize.ShloMosaic Idealize.ShloMosaic.TcCoe

section Functions

variable {F : FTy → Type} [FloatOps F] [Named F]

/-- A head's running maximum, sum and output, for the 512 rows of a block. -/
abbrev Run (F : FTy → Type) : Type := FVec F S512x1 .f32 × FVec F S512x1 .f32 × FVec F S512x128 .f32

/-- The maximum after a tile of scores `s`. -/
def newMax (s : FVec F S512x512 .f32) (m : FVec F S512x1 .f32) : FVec F S512x1 .f32 :=
  maximumf m (shapeCast S512x1 (multiReduction .maximumf [1] S512 s 0xFF800000#32 reduces_S512x512_S512 (.inl rfl) rfl) shapeCasts_S512_S512x1)
/-- The exponentials of the tile's scores less a maximum. -/
def expo (s : FVec F S512x512 .f32) (m : FVec F S512x1 .f32) : FVec F S512x512 .f32 :=
  exp (subf s (broadcastTo S512x512 m broadcasts_S512x1_S512x512))
/-- The sum after the tile, from the maximum before and after it. -/
def newSum (s : FVec F S512x512 .f32) (m m' l : FVec F S512x1 .f32) : FVec F S512x1 .f32 :=
  addf (mulf (exp (subf m m')) l)
    (shapeCast S512x1 (multiReduction .add [1] S512 (expo s m') 0x00000000#32 reduces_S512x512_S512 (.inl rfl) rfl) shapeCasts_S512_S512x1)
/-- The output after the tile. -/
def newOut (s : FVec F S512x512 .f32) (v : Vec F S512x128 .bf16) (m m' : FVec F S512x1 .f32) (o : FVec F S512x128 .f32) : FVec F S512x128 .f32 :=
  addf (mulf (broadcastTo S512x128 (exp (subf m m')) broadcasts_S512x1_S512x128) o)
    (matmul dot_S512x512_S512x128_S512x128_1_0_0_1_n_n none (truncf .bf16 (expo s m') bitsLt_bf16_f32)
      (shapeCast S512x128 v shapeCasts_S512x128_S512x128) (constant S512x128 .f32 0x00000000#32))
/-- The three after the tile. -/
def tile (s : FVec F S512x512 .f32) (v : Vec F S512x128 .bf16) (r : Run F) : Run F :=
  (newMax s r.1, newSum s r.1 (newMax s r.1) r.2.1, newOut s v r.1 (newMax s r.1) r.2.2)

end Functions

/-! Read at an index. -/

theorem newMax_at (s : FVec Ideal S512x512 .f32) (m : FVec Ideal S512x1 .f32) (p : Fin 512) :
    newMax s m (ix2 p (0 : Fin 1)) = max (m (ix2 p (0 : Fin 1))) (Finset.univ.fold max ⊥ fun j : Fin 512 => s (ix2 p j)) := by
  rw [← ofBits_bot]
  pointwise [newMax]

theorem expo_at (s : FVec Ideal S512x512 .f32) (m : FVec Ideal S512x1 .f32) (p j : Fin 512) :
    expo s m (ix2 p j) = Ideal.exp (s (ix2 p j) - m (ix2 p (0 : Fin 1))) := by
  pointwise [expo]

theorem newSum_at (s : FVec Ideal S512x512 .f32) (m m' l : FVec Ideal S512x1 .f32) (p : Fin 512) :
    newSum s m m' l (ix2 p (0 : Fin 1)) = Ideal.exp (m (ix2 p (0 : Fin 1)) - m' (ix2 p (0 : Fin 1))) * l (ix2 p (0 : Fin 1))
      + ∑ j : Fin 512, Ideal.exp (s (ix2 p j) - m' (ix2 p (0 : Fin 1))) := by
  pointwise [newSum, expo]

theorem newOut_at (s : FVec Ideal S512x512 .f32) (v : Vec Ideal S512x128 .bf16) (m m' : FVec Ideal S512x1 .f32) (o : FVec Ideal S512x128 .f32)
    (p : Fin 512) (d : Fin 128) :
    newOut s v m m' o (ix2 p d) = Ideal.exp (m (ix2 p (0 : Fin 1)) - m' (ix2 p (0 : Fin 1))) * o (ix2 p d)
      + ∑ j : Fin 512, Ideal.exp (s (ix2 p j) - m' (ix2 p (0 : Fin 1))) * v (ix2 j d) := by
  pointwise [newOut, expo]

/-- The scores of a tile whose every key is seen. -/
theorem pay3_at (q : FVec Ideal S512x256 .bf16) (kr kn : Vec Ideal S512x128 .bf16) (p j : Fin 512) :
    k0_pay3 (F := Ideal) q kr kn (ix2 p j)
      = ∑ d : Fin 256, q (ix2 p d) * (if h : d.val < 128 then kn (ix2 j ⟨d.val, h⟩) else kr (ix2 j ⟨d.val - 128, by omega⟩)) := by
  pointwise [k0_pay3, k0_pay2]

/-- The scores of the tile on the diagonal. -/
theorem pay64_at (q : FVec Ideal S512x256 .bf16) (kr kn : Vec Ideal S512x128 .bf16) (p j : Fin 512) :
    k0_pay64 (F := Ideal) q kr kn (ix2 p j) = if j ≤ p then
      ∑ d : Fin 256, q (ix2 p d) * (if h : d.val < 128 then kn (ix2 j ⟨d.val, h⟩) else kr (ix2 j ⟨d.val - 128, by omega⟩)) else ⊥ := by
  unfold k0_pay64
  rw [IdealRules.named_const.ideal_named_scalar _ _ _ _ rfl]
  pointwise [k0_pay63, k0_pay52]
  exact select_sle ⟨j.val, by omega⟩ ⟨p.val, by omega⟩ _ _

end Cert.Proof.Fwd

end
-- ==== Proof.Fwd.Running.lean ====
/-
  The running maximum, sum and output of a row of the attention: after `n` tiles of keys they are some real number, the
  sum of the exponentials less that number over the tiles' keys, and the sum of the exponentials times the values.
  The number cancels in the output and in the log-sum-exp.
-/
module

public import proofs.«01_k».proof.Proof.Fwd.Tile

@[expose] public section

noncomputable section

namespace Cert.Proof.Fwd

open Cert.AttnFIdeal Cert.AttnFIdeal.Gen Cert.Proof.Value
open Idealize.ShloMosaic Idealize.ShloMosaic.TcCoe

/-- Row `j` of tile `n`. -/
def pos (n : ℕ) (j : Fin 512) : Fin 8192 := Fin.ofNat 8192 (512 * n + j.val)

theorem pos_val {n : ℕ} (hn : n < 16) (j : Fin 512) : (pos n j).val = 512 * n + j.val := Nat.mod_eq_of_lt (by omega)

variable (a : Args) (h : Fin 16) (t : Fin 8192)

/-- The exponentials of a row less the number `μ`, masked. -/
def ex (μ : ℝ) (s : Fin 8192) : ℝ := a.E (fun _ _ => μ) h t s

/-- Another number is another factor. -/
theorem ex_shift (μ ν : ℝ) (s : Fin 8192) : Real.exp (μ - ν) * ex a h t μ s = ex a h t ν s := by
  unfold ex Args.E
  split
  · rw [← Real.exp_add]; congr 1; ring
  · rw [mul_zero]

/-- The sum over the first `n` tiles of the exponentials times `f`. -/
def part (μ : ℝ) (n : ℕ) (f : Fin 8192 → ℝ) : ℝ := ∑ r ∈ Finset.range n, ∑ j : Fin 512, ex a h t μ (pos r j) * f (pos r j)

theorem part_shift (μ ν : ℝ) (n : ℕ) (f : Fin 8192 → ℝ) : Real.exp (μ - ν) * part a h t μ n f = part a h t ν n f := by
  unfold part
  simp only [Finset.mul_sum]
  refine Finset.sum_congr rfl fun r _ => Finset.sum_congr rfl fun j _ => ?_
  rw [← mul_assoc, ex_shift]

theorem part_succ (μ : ℝ) (n : ℕ) (f : Fin 8192 → ℝ) :
    part a h t μ (n + 1) f = part a h t μ n f + ∑ j : Fin 512, ex a h t μ (pos n j) * f (pos n j) :=
  Finset.sum_range_succ _ _

/-- What a row holds after `n` tiles. -/
def Held (n : ℕ) (m l : EReal) (o : Fin 128 → EReal) : Prop :=
  (n = 0 ∧ m = ⊥ ∧ l = 0 ∧ ∀ d, o d = 0)
    ∨ ∃ μ : ℝ, m = ↑μ ∧ l = ((part a h t μ n fun _ => 1 : ℝ) : EReal) ∧ ∀ d, o d = ((part a h t μ n fun s => a.v s h d : ℝ) : EReal)

/-- The maximum of what a row had and a tile's scores, one of which is seen, is real. -/
theorem max_real (n : ℕ) (m : EReal) (hm : m ≠ ⊤) (hs : ∃ j, pos n j ≤ t) :
    ∃ μ : ℝ, max m (Finset.univ.fold max ⊥ fun j : Fin 512 => a.masked h t (pos n j)) = ↑μ := by
  refine ⟨_, (EReal.coe_toReal (x := max m _) ?_ ?_).symm⟩
  · rcases max_choice m (Finset.univ.fold max ⊥ fun j : Fin 512 => a.masked h t (pos n j)) with e | e <;> rw [e]
    · exact hm
    · refine fold_max_ne_top _ _ fun j _ => ?_
      unfold Args.masked; split
      · exact EReal.coe_ne_top _
      · exact bot_ne_top
  · obtain ⟨j, hj⟩ := hs
    intro hb
    have h1 : a.masked h t (pos n j) ≤ Finset.univ.fold max ⊥ fun j : Fin 512 => a.masked h t (pos n j) :=
      (Finset.le_fold_max _).2 (.inr ⟨j, Finset.mem_univ _, le_rfl⟩)
    have h2 := h1.trans (le_max_right m _)
    rw [hb, le_bot_iff] at h2
    unfold Args.masked at h2
    rw [if_pos hj] at h2
    exact EReal.coe_ne_bot _ h2

/-- One tile more. -/
theorem Held.step {n : ℕ} {m l : EReal} {o : Fin 128 → EReal} (H : Held a h t n m l o) (hs : ∃ j, pos n j ≤ t)
    {m' : EReal} (hm' : m' = max m (Finset.univ.fold max ⊥ fun j : Fin 512 => a.masked h t (pos n j))) :
    Held a h t (n + 1) m' (Ideal.exp (m - m') * l + ∑ j : Fin 512, Ideal.exp (a.masked h t (pos n j) - m'))
      (fun d => Ideal.exp (m - m') * o d + ∑ j : Fin 512, Ideal.exp (a.masked h t (pos n j) - m') * ((a.v (pos n j) h d : ℝ) : EReal)) := by
  have hm : m ≠ ⊤ := by
    rcases H with ⟨-, e, -⟩ | ⟨μ, e, -⟩ <;> rw [e]
    · exact bot_ne_top
    · exact EReal.coe_ne_top _
  obtain ⟨ν, hν⟩ := max_real a h t n m hm hs
  rw [hν] at hm'
  subst hm'
  have hE : ∀ j, Ideal.exp (a.masked h t (pos n j) - ↑ν) = ((ex a h t ν (pos n j) : ℝ) : EReal) :=
    fun j => exp_masked a (fun _ _ => ν) h t (pos n j)
  simp only [hE, ← EReal.coe_mul, ← coe_sum]
  refine .inr ⟨ν, rfl, ?_, fun d => ?_⟩
  · rw [part_succ]
    simp only [mul_one]
    rcases H with ⟨rfl, -, e, -⟩ | ⟨μ, rfl, e, -⟩
    · rw [e, mul_zero, zero_add]
      simp only [part, Finset.range_zero, Finset.sum_empty, zero_add]
    · rw [e, ← EReal.coe_sub, exp_coe, ← EReal.coe_mul, part_shift, ← EReal.coe_add]
  · show Ideal.exp (m - ↑ν) * o d + _ = _
    rw [part_succ]
    rcases H with ⟨rfl, -, -, e⟩ | ⟨μ, rfl, -, e⟩
    · rw [e d, mul_zero, zero_add]
      simp only [part, Finset.range_zero, Finset.sum_empty, zero_add]
    · rw [e d, ← EReal.coe_sub, exp_coe, ← EReal.coe_mul, part_shift, ← EReal.coe_add]

/-- All rows of a block of queries, for a head. -/
def HeldAll (i n : ℕ) (r : Run Ideal) : Prop :=
  ∀ p : Fin 512, Held a h (pos i p) n (r.1 (ix2 p (0 : Fin 1))) (r.2.1 (ix2 p (0 : Fin 1))) fun d => r.2.2 (ix2 p d)

/-- One tile more, for all rows. -/
theorem HeldAll.step {i n : ℕ} {r : Run Ideal} (H : HeldAll a h i n r) (s : FVec Ideal S512x512 .f32) (v : Vec Ideal S512x128 .bf16)
    (hs : ∀ p j, s (ix2 p j) = a.masked h (pos i p) (pos n j)) (hv : ∀ j d, v (ix2 j d) = ((a.v (pos n j) h d : ℝ) : EReal))
    (hp : ∀ p, ∃ j, pos n j ≤ pos i p) : HeldAll a h i (n + 1) (tile s v r) := by
  intro p
  have hm := newMax_at s r.1 p
  simp only [hs] at hm
  have e := (H p).step a h (pos i p) (hp p) hm
  have h1 := newSum_at s r.1 (newMax s r.1) r.2.1 p
  have h2 := fun d => newOut_at s v r.1 (newMax s r.1) r.2.2 p d
  simp only [hs, hv] at h1 h2
  show Held a h (pos i p) (n + 1) (newMax s r.1 (ix2 p (0 : Fin 1))) (newSum s r.1 (newMax s r.1) r.2.1 (ix2 p (0 : Fin 1)))
    (fun d => newOut s v r.1 (newMax s r.1) r.2.2 (ix2 p d))
  rw [h1, funext h2]
  exact e

/-- The tiles up to the row's own hold all it sees. -/
theorem part_all {i : ℕ} (hi : i < 16) (p : Fin 512) (μ : ℝ) (f : Fin 8192 → ℝ) :
    part a h (pos i p) μ (i + 1) f = ∑ s, ex a h (pos i p) μ s * f s := by
  have e : ∑ s, ex a h (pos i p) μ s * f s = part a h (pos i p) μ 16 f := by
    unfold part
    rw [Finset.sum_range, ← (finProdFinEquiv (m := 16) (n := 512)).sum_comp, Fintype.sum_prod_type]
    refine Finset.sum_congr rfl fun r _ => Finset.sum_congr rfl fun j _ => ?_
    have : (finProdFinEquiv (m := 16) (n := 512) (r, j) : Fin 8192) = pos r.val j := Fin.ext (by
      rw [pos_val r.isLt]; show j.val + 512 * r.val = _; omega)
    exact congrArg (fun s => ex a h (pos i p) μ s * f s) this
  rw [e]
  unfold part
  refine Finset.sum_subset (Finset.range_mono (by omega)) fun r hr hr' => Finset.sum_eq_zero fun j _ => ?_
  rw [Finset.mem_range] at hr hr'
  unfold ex Args.E
  rw [if_neg, zero_mul]
  rw [Fin.le_def, pos_val hr, pos_val hi]
  have := p.isLt
  omega

/-- The output of a row, over the reals. -/
def _root_.Cert.Proof.Value.Args.out (M : Fin 16 → Fin 8192 → ℝ) (d : Fin 128) : ℝ := ∑ s, a.Y M h t s * a.v s h d
/-- The log-sum-exp of a row. -/
def _root_.Cert.Proof.Value.Args.lse (M : Fin 16 → Fin 8192 → ℝ) : ℝ := M h t + Real.log (a.L M h t)

/-- Neither depends on the number. -/
theorem L_shift (M : Fin 16 → Fin 8192 → ℝ) (μ : ℝ) : a.L (fun _ _ => μ) h t = Real.exp (M h t - μ) * a.L M h t := by
  unfold Args.L
  rw [Finset.mul_sum]
  refine Finset.sum_congr rfl fun s _ => ?_
  unfold Args.E
  split
  · rw [← Real.exp_add]; congr 1; ring
  · rw [mul_zero]

theorem out_const (M : Fin 16 → Fin 8192 → ℝ) (μ : ℝ) (d : Fin 128) : a.out h t (fun _ _ => μ) d = a.out h t M d := by
  unfold Args.out
  refine Finset.sum_congr rfl fun s _ => congrArg (· * a.v s h d) ?_
  unfold Args.Y
  rw [L_shift a h t M μ]
  have : a.E (fun _ _ => μ) h t s = Real.exp (M h t - μ) * a.E M h t s := by
    unfold Args.E
    split
    · rw [← Real.exp_add]; congr 1; ring
    · rw [mul_zero]
  rw [this, mul_div_mul_left _ _ (Real.exp_pos _).ne']

theorem lse_const (M : Fin 16 → Fin 8192 → ℝ) (μ : ℝ) : a.lse h t (fun _ _ => μ) = a.lse h t M := by
  unfold Args.lse
  rw [L_shift a h t M μ, Real.log_mul (Real.exp_pos _).ne' (a.L_pos M h t).ne', Real.log_exp]
  ring

/-- A row after its last tile gives its output … -/
theorem Held.out_eq {i : ℕ} (hi : i < 16) (p : Fin 512) {m l : EReal} {o : Fin 128 → EReal} (H : Held a h (pos i p) (i + 1) m l o)
    (M : Fin 16 → Fin 8192 → ℝ) (d : Fin 128) : Ideal.div (o d) l = ((a.out h (pos i p) M d : ℝ) : EReal) := by
  rcases H with ⟨e, -⟩ | ⟨μ, -, hl, ho⟩
  · omega
  have el : part a h (pos i p) μ (i + 1) (fun _ => 1) = a.L (fun _ _ => μ) h (pos i p) := by
    rw [part_all a h hi]; simp only [mul_one]; rfl
  rw [hl, ho d, el, div_coe _ _ (a.L_pos _ _ _), part_all a h hi, ← out_const a h (pos i p) M μ d]
  unfold Args.out Args.Y
  rw [Finset.sum_div]
  refine congrArg Real.toEReal (Finset.sum_congr rfl fun s _ => ?_)
  show a.E _ _ _ _ * _ / _ = _
  ring

/-- … and its log-sum-exp. -/
theorem Held.lse_eq {i : ℕ} (hi : i < 16) (p : Fin 512) {m l : EReal} {o : Fin 128 → EReal} (H : Held a h (pos i p) (i + 1) m l o)
    (M : Fin 16 → Fin 8192 → ℝ) : m + Ideal.log l = ((a.lse h (pos i p) M : ℝ) : EReal) := by
  rcases H with ⟨e, -⟩ | ⟨μ, rfl, hl, -⟩
  · omega
  have el : part a h (pos i p) μ (i + 1) (fun _ => 1) = a.L (fun _ _ => μ) h (pos i p) := by
    rw [part_all a h hi]; simp only [mul_one]; rfl
  rw [hl, el, log_coe_pos (a.L_pos _ _ _), ← EReal.coe_add, ← lse_const a h (pos i p) M μ]
  rfl

end Cert.Proof.Fwd

end
-- ==== Proof.Fwd.Body.lean ====
/-
  The attention's forward body for one block of queries and four heads, as tiles: a trip of its loop takes one tile for
  each head, the tile on the diagonal comes after the loop, and the results are a head's 128 columns each.
-/
module

public import proofs.«01_k».proof.Proof.Fwd.Running
public import proofs.«01_k».proof.Proof.Gen.AttnFIdeal.Frame
public import Idealize.ShloMosaic.Lib.Tactic
public import Idealize.ShloMosaic.Lib.VecWindow

@[expose] public section

set_option maxRecDepth 16384

noncomputable section

namespace Cert.Proof.Fwd

open Cert.AttnFIdeal Cert.AttnFIdeal.Gen Cert.Proof.Value
open Idealize.ShloMosaic Idealize.ShloMosaic.TcCoe Idealize.SL.Sem

variable {F : FTy → Type} [FloatOps F] [Named F]

/-- What the loop carries: the four heads' running maximum, sum and output. -/
abbrev Carry (F : FTy → Type) : Type :=
  FVec F S512x1 .f32 × FVec F S512x1 .f32 × FVec F S512x128 .f32 × FVec F S512x1 .f32 × FVec F S512x1 .f32 × FVec F S512x128 .f32
    × FVec F S512x1 .f32 × FVec F S512x1 .f32 × FVec F S512x128 .f32 × FVec F S512x1 .f32 × FVec F S512x1 .f32 × FVec F S512x128 .f32
/-- A head's part of it. -/
def Carry.head (r : Carry F) : Fin 4 → Run F
  | 0 => (r.1, r.2.1, r.2.2.1)
  | 1 => (r.2.2.2.1, r.2.2.2.2.1, r.2.2.2.2.2.1)
  | 2 => (r.2.2.2.2.2.2.1, r.2.2.2.2.2.2.2.1, r.2.2.2.2.2.2.2.2.1)
  | 3 => (r.2.2.2.2.2.2.2.2.2.1, r.2.2.2.2.2.2.2.2.2.2.1, r.2.2.2.2.2.2.2.2.2.2.2)

variable (arg3 : Memref sig .tc .vmem S8192x512 .bf16) (arg4 : Memref sig .tc .vmem S8192x512 .bf16) (arg5 : Memref sig .tc .vmem S8192x128 .bf16)

theorem inbK (n : Fin 16) (e : Fin 4) : ∀ a, (![512 * n.val, 128 * e.val] : Fin 2 → ℕ) a + S512x128.size a ≤ S8192x512.size a := by
  revert n e; decide
theorem inbR (n : Fin 16) : ∀ a, (![512 * n.val, 0] : Fin 2 → ℕ) a + S512x128.size a ≤ S8192x128.size a := by
  revert n; decide
theorem inbQ (e : Fin 4) : ∀ a, (![0, 256 * e.val] : Fin 2 → ℕ) a + S512x256.size a ≤ S512x1024.size a := by
  revert e; decide
/-- A head's columns of tile `n` of the keys or the values. -/
def rowsK (x : Vec F S8192x512 .bf16) (n : Fin 16) (e : Fin 4) : Vec F S512x128 .bf16 := VecWindow.window x ![512 * n.val, 128 * e.val] S512x128.size (inbK n e)
/-- Tile `n` of the rotary lanes. -/
def rowsR (x : Vec F S8192x128 .bf16) (n : Fin 16) : Vec F S512x128 .bf16 := VecWindow.window x ![512 * n.val, 0] S512x128.size (inbR n)
/-- A head's columns of the queries. -/
def colsQ (x : Vec F S512x1024 .bf16) (e : Fin 4) : Vec F S512x256 .bf16 := VecWindow.window x ![0, 256 * e.val] S512x256.size (inbQ e)

theorem ldK (m : Memref sig .tc .vmem S8192x512 .bf16) (hm : m.IsWhole) (x : Vec F S8192x512 .bf16) {off : Fin 2 → ℕ}
    (inb : ∀ a, off a + S512x128.size a ≤ S8192x512.size a) (n : Fin 16) (e : Fin 4) (h : off = ![512 * n.val, 128 * e.val]) :
    m.view.readAt (Elt F) (Rect.unit (s := S8192x512) off S512x128.size inb).toLoadRect (hm.unread x) = rowsK x n e :=
  (View.readAt_unit m.view _ inb h (inbK n e)).trans (by rw [hm.read_unread]; rfl)
theorem ldR (m : Memref sig .tc .vmem S8192x128 .bf16) (hm : m.IsWhole) (x : Vec F S8192x128 .bf16) {off : Fin 2 → ℕ}
    (inb : ∀ a, off a + S512x128.size a ≤ S8192x128.size a) (n : Fin 16) (h : off = ![512 * n.val, 0]) :
    m.view.readAt (Elt F) (Rect.unit (s := S8192x128) off S512x128.size inb).toLoadRect (hm.unread x) = rowsR x n :=
  (View.readAt_unit m.view _ inb h (inbR n)).trans (by rw [hm.read_unread]; rfl)
theorem ldQ (m : Memref sig .tc .vmem S512x1024 .bf16) (hm : m.IsWhole) (x : Vec F S512x1024 .bf16) {off : Fin 2 → ℕ}
    (inb : ∀ a, off a + S512x256.size a ≤ S512x1024.size a) (e : Fin 4) (h : off = ![0, 256 * e.val]) :
    m.view.readAt (Elt F) (Rect.unit (s := S512x1024) off S512x256.size inb).toLoadRect (hm.unread x) = colsQ x e :=
  (View.readAt_unit m.view _ inb h (inbQ e)).trans (by rw [hm.read_unread]; rfl)

/-- A head's scores of a tile before the diagonal. -/
def seen (x0 : Vec F S512x256 .bf16) (x3 x1 : Vec F S512x128 .bf16) : FVec F S512x512 .f32 := k0_pay3 (k0_pay52 x0) x3 x1

/-- The loop runs once for each tile before the diagonal. -/
theorem t1_trips (i : grid0.Coords) : (k0_t1_loop i).trips = (i 1).val := by revert i; decide +kernel
theorem t2_trips (i : grid0.Coords) : (k0_t2_loop i).trips = 0 := by revert i; decide +kernel

theorem trip_lt {i : grid0.Coords} (k : Fin (k0_t1_loop i).trips) : k.val < 16 := by
  have := k.isLt; have h := t1_trips i; have h2 : (i 1).val < 16 := (i 1).isLt; omega
/-- The tile a trip takes. -/
abbrev tileOf {i : grid0.Coords} (k : Fin (k0_t1_loop i).trips) : Fin 16 := ⟨k.val, trip_lt k⟩

set_option maxHeartbeats 1000000 in
/-- A trip takes one tile for each head. -/
theorem trip_eq (c : Dev nD) (i : grid0.Coords) (arg2 : Memref sig .tc .vmem S512x1024 .bf16) (harg2 : arg2.IsWhole) (harg3 : arg3.IsWhole) (harg4 : arg4.IsWhole) (harg5 : arg5.IsWhole) (arg6 : Memref sig .tc .vmem S512x512 .bf16) (harg6 : arg6.IsWhole) (arg7 : Memref sig .tc .vmem S512x512 .f32) (harg7 : arg7.IsWhole)
    (v0 v2 v4 v6 : Vec F S512x256 .bf16) (x1 x2 : Vec F S8192x512 .bf16) (x3 : Vec F S8192x128 .bf16) (k : Fin (k0_t1_loop i).trips) (r : Carry F) :
    ∀ e : Fin 4, Carry.head (tripR_k0_t1 (F := F) Variants.none c none i arg2 harg2 arg3 harg3 arg4 harg4 arg5 harg5 arg6 harg6 arg7 harg7 v0 v2 v4 v6
        (harg3.unread x1) (harg4.unread x2) (harg5.unread x3) k r) e
      = tile (seen (![v0, v2, v4, v6] e) (rowsR x3 (tileOf k)) (rowsK x1 (tileOf k) e)) (rowsK x2 (tileOf k) e) (r.head e) := by
  have eR := ldR arg5 harg5 x3 (k0_off1_inb i k) (tileOf k) (k0_off1_eq i k)
  have e0 := fun (m : Memref sig .tc .vmem S8192x512 .bf16) (hm : m.IsWhole) x => ldK (F := F) m hm x (k0_off2_inb i k) (tileOf k) 0 (k0_off2_eq i k)
  have e1 := fun (m : Memref sig .tc .vmem S8192x512 .bf16) (hm : m.IsWhole) x => ldK (F := F) m hm x (k0_off3_inb i k) (tileOf k) 1 (k0_off3_eq i k)
  have e2 := fun (m : Memref sig .tc .vmem S8192x512 .bf16) (hm : m.IsWhole) x => ldK (F := F) m hm x (k0_off4_inb i k) (tileOf k) 2 (k0_off4_eq i k)
  have e3 := fun (m : Memref sig .tc .vmem S8192x512 .bf16) (hm : m.IsWhole) x => ldK (F := F) m hm x (k0_off5_inb i k) (tileOf k) 3 (k0_off5_eq i k)
  unfold tripR_k0_t1 trip_k0_t1
  dsimp only
  intro e
  match e with
  | 0 => rw [← eR, ← e0 arg3 harg3 x1, ← e0 arg4 harg4 x2]; rfl
  | 1 => rw [← eR, ← e1 arg3 harg3 x1, ← e1 arg4 harg4 x2]; rfl
  | 2 => rw [← eR, ← e2 arg3 harg3 x1, ← e2 arg4 harg4 x2]; rfl
  | 3 => rw [← eR, ← e3 arg3 harg3 x1, ← e3 arg4 harg4 x2]; rfl

/-- What the loop has carried after `n` trips. -/
def carried (c : Dev nD) (i : grid0.Coords) (arg2 : Memref sig .tc .vmem S512x1024 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S8192x128 .bf16) (harg5 : arg5.IsWhole) (arg6 : Memref sig .tc .vmem S512x512 .bf16) (harg6 : arg6.IsWhole) (arg7 : Memref sig .tc .vmem S512x512 .f32) (harg7 : arg7.IsWhole)
  (x0 : Vec F S512x1024 .bf16) (x1 x2 : Vec F S8192x512 .bf16) (x3 : Vec F S8192x128 .bf16) (n : ℕ) : Carry F :=
  st_k0_t1 (F := F) Variants.none c none i arg2 harg2 arg3 harg3 arg4 harg4 arg5 harg5 arg6 harg6 arg7 harg7
    (arg2.view.readAt (Elt F) (Rect.unit (s := S512x1024) ![0, 0] S512x256.size inb_S512x1024_S512x256_0_0).toLoadRect (harg2.unread x0))
    (arg2.view.readAt (Elt F) (Rect.unit (s := S512x1024) ![0, 256] S512x256.size inb_S512x1024_S512x256_0_256).toLoadRect (harg2.unread x0))
    (arg2.view.readAt (Elt F) (Rect.unit (s := S512x1024) ![0, 512] S512x256.size inb_S512x1024_S512x256_0_512).toLoadRect (harg2.unread x0))
    (arg2.view.readAt (Elt F) (Rect.unit (s := S512x1024) ![0, 768] S512x256.size inb_S512x1024_S512x256_0_768).toLoadRect (harg2.unread x0))
    (harg3.unread x1) (harg4.unread x2) (harg5.unread x3)
    (k0_pay56, k0_pay57, k0_pay58, k0_pay56, k0_pay57, k0_pay58, k0_pay56, k0_pay57, k0_pay58, k0_pay56, k0_pay57, k0_pay58) n

/-- A head after the tile on the diagonal. -/
def last (x0 : Vec F S512x1024 .bf16) (x1 x2 : Vec F S8192x512 .bf16) (x3 : Vec F S8192x128 .bf16) (n : Fin 16) (e : Fin 4) (r : Run F) : Run F :=
  tile (k0_pay64 (colsQ x0 e) (rowsR x3 n) (rowsK x1 n e)) (rowsK x2 n e) r
/-- A head's output, and its log-sum-exp. -/
def outOf (r : Run F) : FVec F S512x128 .bf16 := k0_pay89 r.2.1 r.2.2
def lseOf (r : Run F) : FVec F S512x128 .f32 := k0_pay90 r.1 r.2.1
/-- The block of a query's coordinates. -/
abbrev blockOf (i : grid0.Coords) : Fin 16 := ⟨(i 1).val, (i 1).isLt⟩

set_option maxHeartbeats 2000000 in
/-- The output and the log-sum-exps are stored a head at a time. -/
theorem out_pieces (c : Dev nD) (i : grid0.Coords) (arg2 : Memref sig .tc .vmem S512x1024 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S8192x128 .bf16) (harg5 : arg5.IsWhole) (arg6 : Memref sig .tc .vmem S512x512 .bf16) (harg6 : arg6.IsWhole) (arg7 : Memref sig .tc .vmem S512x512 .f32) (harg7 : arg7.IsWhole)
  (x0 : Vec F S512x1024 .bf16) (x1 x2 : Vec F S8192x512 .bf16) (x3 : Vec F S8192x128 .bf16) (S : Carry F)
    (hS : carried c i arg2 harg2 arg3 harg3 arg4 harg4 arg5 harg5 arg6 harg6 arg7 harg7 x0 x1 x2 x3 (k0_t1_loop i).trips = S) :
    out0_A_4 c i arg2 harg2 arg3 harg3 arg4 harg4 arg5 harg5 arg6 harg6 arg7 harg7 x0 x1 x2 x3 = View.canon (Val := Elt F) (s := S512x512) (e := .bf16)
      [⟨Rect.unit (s := S512x512) ![0, 384] S512x128.size inb_S512x512_S512x128_0_384, outOf (last x0 x1 x2 x3 (blockOf i) 3 (S.head 3))⟩,
       ⟨Rect.unit (s := S512x512) ![0, 256] S512x128.size inb_S512x512_S512x128_0_256, outOf (last x0 x1 x2 x3 (blockOf i) 2 (S.head 2))⟩,
       ⟨Rect.unit (s := S512x512) ![0, 128] S512x128.size inb_S512x512_S512x128_0_128, outOf (last x0 x1 x2 x3 (blockOf i) 1 (S.head 1))⟩,
       ⟨Rect.unit (s := S512x512) ![0, 0] S512x128.size inb_S512x512_S512x128_0_0, outOf (last x0 x1 x2 x3 (blockOf i) 0 (S.head 0))⟩]
    ∧ out0_A_5 c i arg2 harg2 arg3 harg3 arg4 harg4 arg5 harg5 arg6 harg6 arg7 harg7 x0 x1 x2 x3 = View.canon (Val := Elt F) (s := S512x512) (e := .f32)
      [⟨Rect.unit (s := S512x512) ![0, 384] S512x128.size inb_S512x512_S512x128_0_384, lseOf (last x0 x1 x2 x3 (blockOf i) 3 (S.head 3))⟩,
       ⟨Rect.unit (s := S512x512) ![0, 256] S512x128.size inb_S512x512_S512x128_0_256, lseOf (last x0 x1 x2 x3 (blockOf i) 2 (S.head 2))⟩,
       ⟨Rect.unit (s := S512x512) ![0, 128] S512x128.size inb_S512x512_S512x128_0_128, lseOf (last x0 x1 x2 x3 (blockOf i) 1 (S.head 1))⟩,
       ⟨Rect.unit (s := S512x512) ![0, 0] S512x128.size inb_S512x512_S512x128_0_0, lseOf (last x0 x1 x2 x3 (blockOf i) 0 (S.head 0))⟩] := by
  have eR := ldR arg5 harg5 x3 (k0_off11_inb i) (blockOf i) (k0_off11_eq i)
  have e0 := fun (m : Memref sig .tc .vmem S8192x512 .bf16) (hm : m.IsWhole) x => ldK (F := F) m hm x (k0_off12_inb i) (blockOf i) 0 (k0_off12_eq i)
  have e1 := fun (m : Memref sig .tc .vmem S8192x512 .bf16) (hm : m.IsWhole) x => ldK (F := F) m hm x (k0_off13_inb i) (blockOf i) 1 (k0_off13_eq i)
  have e2 := fun (m : Memref sig .tc .vmem S8192x512 .bf16) (hm : m.IsWhole) x => ldK (F := F) m hm x (k0_off14_inb i) (blockOf i) 2 (k0_off14_eq i)
  have e3 := fun (m : Memref sig .tc .vmem S8192x512 .bf16) (hm : m.IsWhole) x => ldK (F := F) m hm x (k0_off15_inb i) (blockOf i) 3 (k0_off15_eq i)
  have q0 := ldQ (F := F) arg2 harg2 x0 inb_S512x1024_S512x256_0_0 0 rfl
  have q1 := ldQ (F := F) arg2 harg2 x0 inb_S512x1024_S512x256_0_256 1 rfl
  have q2 := ldQ (F := F) arg2 harg2 x0 inb_S512x1024_S512x256_0_512 2 rfl
  have q3 := ldQ (F := F) arg2 harg2 x0 inb_S512x1024_S512x256_0_768 3 rfl
  unfold carried at hS
  unfold out0_A_4 out0_A_5
  rw [View.read_writes_eq_canon _ _ _ (cover0_A_4 c i arg2 harg2 arg3 harg3 arg4 harg4 arg5 harg5 arg6 harg6 arg7 harg7 x0 x1 x2 x3), View.read_writes_eq_canon _ _ _ (cover0_A_5 c i arg2 harg2 arg3 harg3 arg4 harg4 arg5 harg5 arg6 harg6 arg7 harg7 x0 x1 x2 x3)]
  unfold kernelRun0_A
  dsimp only
  sl_unfold_words
  rw [show Scf.trips (k0_t1_loop i).lb (k0_t1_loop i).ub (k0_t1_loop i).st = (k0_t1_loop i).trips from rfl, hS,
    show Scf.trips (k0_t2_loop i).lb (k0_t2_loop i).ub (k0_t2_loop i).st = 0 from t2_trips i]
  unfold last
  rw [← eR, ← e0 arg3 harg3 x1, ← e0 arg4 harg4 x2, ← e1 arg3 harg3 x1, ← e1 arg4 harg4 x2, ← e2 arg3 harg3 x1, ← e2 arg4 harg4 x2,
    ← e3 arg3 harg3 x1, ← e3 arg4 harg4 x2, ← q0, ← q1, ← q2, ← q3]
  exact ⟨rfl, rfl⟩

end Cert.Proof.Fwd

end
-- ==== Proof.Fwd.Loop.lean ====
/-
  The loop over the tiles before the diagonal and the tile on it, over the reals: from operands that are the arguments'
  block of queries and four heads, each head ends with its output and its log-sum-exp.
-/
module

public import proofs.«01_k».proof.Proof.Fwd.Body

@[expose] public section

noncomputable section

namespace Cert.Proof.Fwd

open Cert.AttnFIdeal Cert.AttnFIdeal.Gen Cert.Proof.Value
open Idealize.ShloMosaic Idealize.ShloMosaic.TcCoe Idealize.SL.Sem

/-- The number of a head of a point's four. -/
def headNo (i : grid0.Coords) (e : Fin 4) : Fin 16 := ⟨4 * (i 0).val + e.val, by have : (i 0).val < 4 := (i 0).isLt; omega⟩

/-- The operands hold the arguments. -/
structure Holds (a : Args) (i : grid0.Coords) (x0 : Vec Ideal S512x1024 .bf16) (x1 x2 : Vec Ideal S8192x512 .bf16) (x3 : Vec Ideal S8192x128 .bf16) : Prop where
  q : ∀ e p d, colsQ x0 e (ix2 p d) = ((a.qp (pos (i 1).val p) (headNo i e) d : ℝ) : EReal)
  kn : ∀ n e j d, rowsK x1 n e (ix2 j d) = ((a.kn (pos n.val j) (headNo i e) d : ℝ) : EReal)
  v : ∀ n e j d, rowsK x2 n e (ix2 j d) = ((a.v (pos n.val j) (headNo i e) d : ℝ) : EReal)
  kr : ∀ n j d, rowsR x3 n (ix2 j d) = ((a.krp (pos n.val j) d : ℝ) : EReal)

variable {a : Args} {i : grid0.Coords} {x0 : Vec Ideal S512x1024 .bf16} {x1 x2 : Vec Ideal S8192x512 .bf16} {x3 : Vec Ideal S8192x128 .bf16}

/-- The products of a query with the keys of a tile are its scores. -/
theorem Holds.score (H : Holds a i x0 x1 x2 x3) (n : Fin 16) (e : Fin 4) (p j : Fin 512) :
    (∑ d : Fin 256, colsQ x0 e (ix2 p d) * (if h : d.val < 128 then rowsK x1 n e (ix2 j ⟨d.val, h⟩) else rowsR x3 n (ix2 j ⟨d.val - 128, by omega⟩)))
      = ((a.S (headNo i e) (pos (i 1).val p) (pos n.val j) : ℝ) : EReal) := by
  rw [← a.score_eq, coe_sum]
  refine Finset.sum_congr rfl fun d _ => ?_
  rw [EReal.coe_mul, H.q]
  congr 1
  unfold Args.kp
  split
  · exact H.kn _ _ _ _
  · exact H.kr _ _ _

theorem pay52_eq (q : Vec Ideal S512x256 .bf16) : k0_pay52 (F := Ideal) q = q := by
  funext y; pointwise [k0_pay52]

/-- The scores of a tile before the diagonal, all of them seen. -/
theorem Holds.seen_eq (H : Holds a i x0 x1 x2 x3) (n : Fin 16) (hn : n.val < (i 1).val) (e : Fin 4) (p j : Fin 512) :
    seen (colsQ x0 e) (rowsR x3 n) (rowsK x1 n e) (ix2 p j) = a.masked (headNo i e) (pos (i 1).val p) (pos n.val j) := by
  have hi : (i 1).val < 16 := (i 1).isLt
  unfold seen
  rw [pay52_eq, pay3_at, H.score]
  unfold Args.masked
  rw [if_pos]
  rw [Fin.le_def, pos_val n.isLt, pos_val hi]
  omega

/-- The scores of the tile on the diagonal. -/
theorem Holds.diag_eq (H : Holds a i x0 x1 x2 x3) (e : Fin 4) (p j : Fin 512) :
    k0_pay64 (F := Ideal) (colsQ x0 e) (rowsR x3 (blockOf i)) (rowsK x1 (blockOf i) e) (ix2 p j)
      = a.masked (headNo i e) (pos (i 1).val p) (pos (i 1).val j) := by
  have hi : (i 1).val < 16 := (i 1).isLt
  rw [pay64_at, H.score]
  unfold Args.masked
  refine if_congr ?_ rfl rfl
  rw [Fin.le_def, Fin.le_def, pos_val hi, pos_val hi]
  omega

theorem pay56_at (p : Fin 512) : k0_pay56 (F := Ideal) (ix2 p (0 : Fin 1)) = ⊥ := by
  unfold k0_pay56
  rw [IdealRules.named_const.ideal_named_scalar _ _ _ _ rfl]
  rfl
theorem pay57_at (p : Fin 512) : k0_pay57 (F := Ideal) (ix2 p (0 : Fin 1)) = 0 := by
  pointwise [k0_pay57]
theorem pay58_at (p : Fin 512) (d : Fin 128) : k0_pay58 (F := Ideal) (ix2 p d) = 0 := by
  pointwise [k0_pay58]

theorem start (h : Fin 16) (n : ℕ) : HeldAll a h n 0 (k0_pay56 (F := Ideal), k0_pay57 (F := Ideal), k0_pay58 (F := Ideal)) :=
  fun p => .inl ⟨rfl, pay56_at p, pay57_at p, fun d => pay58_at p d⟩

variable (c : Dev nD) (arg2 : Memref sig .tc .vmem S512x1024 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S8192x128 .bf16) (harg5 : arg5.IsWhole) (arg6 : Memref sig .tc .vmem S512x512 .bf16) (harg6 : arg6.IsWhole) (arg7 : Memref sig .tc .vmem S512x512 .f32) (harg7 : arg7.IsWhole)

/-- What each head holds before a trip. -/
theorem carried_held (H : Holds a i x0 x1 x2 x3) (n : ℕ) (hn : n ≤ (k0_t1_loop i).trips) (e : Fin 4) :
    HeldAll a (headNo i e) (i 1).val n (Carry.head (carried c i arg2 harg2 arg3 harg3 arg4 harg4 arg5 harg5 arg6 harg6 arg7 harg7 x0 x1 x2 x3 n) e) := by
  have hi : (i 1).val < 16 := (i 1).isLt
  have ht := t1_trips i
  induction n with
  | zero =>
    have := start (a := a) (headNo i e) (i 1).val
    match e with
    | 0 => exact this
    | 1 => exact this
    | 2 => exact this
    | 3 => exact this
  | succ n ih =>
    have hk : n < (k0_t1_loop i).trips := hn
    have ih := ih (by omega)
    unfold carried at ih ⊢
    rw [st_k0_t1_succ (k := ⟨n, hk⟩), trip_eq]
    rw [show (![_, _, _, _] : Fin 4 → Vec Ideal S512x256 .bf16) e = colsQ x0 e from by
      match e with
      | 0 => exact ldQ arg2 harg2 x0 inb_S512x1024_S512x256_0_0 0 rfl
      | 1 => exact ldQ arg2 harg2 x0 inb_S512x1024_S512x256_0_256 1 rfl
      | 2 => exact ldQ arg2 harg2 x0 inb_S512x1024_S512x256_0_512 2 rfl
      | 3 => exact ldQ arg2 harg2 x0 inb_S512x1024_S512x256_0_768 3 rfl]
    refine ih.step a (headNo i e) _ _ (fun p j => H.seen_eq _ (by show n < _; omega) e p j) (fun j d => H.v _ e j d) fun p => ⟨p, ?_⟩
    rw [Fin.le_def, pos_val (by omega), pos_val hi]
    omega

/-- What each head holds at the end. -/
theorem last_held (H : Holds a i x0 x1 x2 x3) (e : Fin 4) :
    HeldAll a (headNo i e) (i 1).val ((i 1).val + 1) (last x0 x1 x2 x3 (blockOf i) e
      (Carry.head (carried c i arg2 harg2 arg3 harg3 arg4 harg4 arg5 harg5 arg6 harg6 arg7 harg7 x0 x1 x2 x3 (k0_t1_loop i).trips) e)) := by
  have h := carried_held c arg2 harg2 arg3 harg3 arg4 harg4 arg5 harg5 arg6 harg6 arg7 harg7 H (k0_t1_loop i).trips le_rfl e
  rw [t1_trips i] at h ⊢
  exact h.step a (headNo i e) _ _ (fun p j => H.diag_eq e p j) (fun j d => H.v (blockOf i) e j d) fun p => ⟨p, le_rfl⟩

theorem outOf_at (r : Run Ideal) (p : Fin 512) (d : Fin 128) : outOf r (ix2 p d) = Ideal.div (r.2.2 (ix2 p d)) (r.2.1 (ix2 p (0 : Fin 1))) := by
  pointwise [outOf, k0_pay89]
theorem lseOf_at (r : Run Ideal) (p : Fin 512) (d : Fin 128) : lseOf r (ix2 p d) = r.1 (ix2 p (0 : Fin 1)) + Ideal.log (r.2.1 (ix2 p (0 : Fin 1))) := by
  pointwise [lseOf, k0_pay90]

/-- Its output … -/
theorem last_out (H : Holds a i x0 x1 x2 x3) (M : Fin 16 → Fin 8192 → ℝ) (e : Fin 4) (p : Fin 512) (d : Fin 128) :
    outOf (last x0 x1 x2 x3 (blockOf i) e (Carry.head (carried c i arg2 harg2 arg3 harg3 arg4 harg4 arg5 harg5 arg6 harg6 arg7 harg7 x0 x1 x2 x3 (k0_t1_loop i).trips) e)) (ix2 p d)
      = ((a.out (headNo i e) (pos (i 1).val p) M d : ℝ) : EReal) :=
  (outOf_at _ p d).trans ((last_held c arg2 harg2 arg3 harg3 arg4 harg4 arg5 harg5 arg6 harg6 arg7 harg7 H e p).out_eq a (headNo i e) (i 1).isLt p M d)
/-- … and its log-sum-exp. -/
theorem last_lse (H : Holds a i x0 x1 x2 x3) (M : Fin 16 → Fin 8192 → ℝ) (e : Fin 4) (p : Fin 512) (d : Fin 128) :
    lseOf (last x0 x1 x2 x3 (blockOf i) e (Carry.head (carried c i arg2 harg2 arg3 harg3 arg4 harg4 arg5 harg5 arg6 harg6 arg7 harg7 x0 x1 x2 x3 (k0_t1_loop i).trips) e)) (ix2 p d)
      = ((a.lse (headNo i e) (pos (i 1).val p) M : ℝ) : EReal) :=
  (lseOf_at _ p d).trans ((last_held c arg2 harg2 arg3 harg3 arg4 harg4 arg5 harg5 arg6 harg6 arg7 harg7 H e p).lse_eq a (headNo i e) (i 1).isLt p M)

end Cert.Proof.Fwd

end
-- ==== Proof.Fwd.Store.lean ====
/-
  What the attention's forward body leaves in its two blocks: every head's output and log-sum-exp in the head's columns.
-/
module

public import proofs.«01_k».proof.Proof.Fwd.Loop

@[expose] public section

noncomputable section

namespace Cert.Proof.Fwd

open Cert.AttnFIdeal Cert.AttnFIdeal.Gen Cert.Proof.Value
open Idealize.ShloMosaic Idealize.ShloMosaic.TcCoe Idealize.SL.Sem

/-- A block of four heads side by side, from what each head's entries are. -/
def heads (f : Fin 4 → Fin 512 → Fin 128 → ℝ) (y : S512x512.Idx) : EReal :=
  ((f ⟨(y 1).val / 128, by have : (y 1).val < 512 := (y 1).isLt; omega⟩ (y 0) ⟨(y 1).val % 128, by omega⟩ : ℝ) : EReal)

/-- A head's store, read in the block. -/
theorem heads_at (f : Fin 4 → Fin 512 → Fin 128 → ℝ) (e : Fin 4) (inb) (P : S512x128.Idx → EReal) (hP : ∀ p d, P (ix2 p d) = ((f e p d : ℝ) : EReal)) (z : S512x128.Idx) :
    P z = heads f ((Rect.unit (s := S512x512) ![0, 128 * e.val] S512x128.size inb).emb z) := by
  have h1 : (z 1).val < 128 := (z 1).isLt
  refine (congrArg P (eq_ix2 z)).trans ((hP (z 0) (z 1)).trans (congrArg Real.toEReal (congr (congrArg₂ f (Fin.ext ?_) (Fin.ext ?_)) (Fin.ext ?_))))
  · show e.val = (128 * e.val + 1 * (z 1).val) / 128; omega
  · show (z 0).val = 0 + 1 * (z 0).val; omega
  · show (z 1).val = (128 * e.val + 1 * (z 1).val) % 128; omega

/-- Four stores of a head's columns leave the block of four heads. -/
theorem stores (t : EltTy) (ht : Elt Ideal t = EReal) (f : Fin 4 → Fin 512 → Fin 128 → ℝ) (P : Fin 4 → S512x128.Idx → Elt Ideal t)
    (hP : ∀ e p d, cast ht (P e (ix2 p d)) = ((f e p d : ℝ) : EReal)) (y : S512x512.Idx) :
    cast ht (View.canon (Val := Elt Ideal) (s := S512x512) (e := t)
      [⟨Rect.unit (s := S512x512) ![0, 384] S512x128.size inb_S512x512_S512x128_0_384, P 3⟩,
       ⟨Rect.unit (s := S512x512) ![0, 256] S512x128.size inb_S512x512_S512x128_0_256, P 2⟩,
       ⟨Rect.unit (s := S512x512) ![0, 128] S512x128.size inb_S512x512_S512x128_0_128, P 1⟩,
       ⟨Rect.unit (s := S512x512) ![0, 0] S512x128.size inb_S512x512_S512x128_0_0, P 0⟩] y) = heads f y := by
  have key : ∀ e inb z, P e z = cast ht.symm (heads f ((Rect.unit (s := S512x512) ![0, 128 * e.val] S512x128.size inb).emb z)) := fun e inb z => by
    rw [← heads_at f e inb (fun z => cast ht (P e z)) (hP e) z]; simp
  refine (congrArg (cast ht) (View.canon_apply_of_pieces (Val := Elt Ideal) (S := S512x512) (e := t) (fun y => cast ht.symm (heads f y)) _ ?_ y ?_)).trans ?_
  · intro pc hpc z
    rcases List.mem_cons.mp hpc with rfl | hpc
    · exact key 3 inb_S512x512_S512x128_0_384 z
    rcases List.mem_cons.mp hpc with rfl | hpc
    · exact key 2 inb_S512x512_S512x128_0_256 z
    rcases List.mem_cons.mp hpc with rfl | hpc
    · exact key 1 inb_S512x512_S512x128_0_128 z
    rcases List.mem_cons.mp hpc with rfl | hpc
    · exact key 0 inb_S512x512_S512x128_0_0 z
    nomatch hpc
  · exact View.cover_of_tiledL (s := S512x512) _ S512x128.size (by sl_kernel_rfl) y
  · simp

variable {a : Args} {i : grid0.Coords} {x0 : Vec Ideal S512x1024 .bf16} {x1 x2 : Vec Ideal S8192x512 .bf16} {x3 : Vec Ideal S8192x128 .bf16}
variable (c : Dev nD) (arg2 : Memref sig .tc .vmem S512x1024 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S8192x128 .bf16) (harg5 : arg5.IsWhole) (arg6 : Memref sig .tc .vmem S512x512 .bf16) (harg6 : arg6.IsWhole) (arg7 : Memref sig .tc .vmem S512x512 .f32) (harg7 : arg7.IsWhole)

/-- The block of the output … -/
theorem block_out (H : Holds a i x0 x1 x2 x3) (M : Fin 16 → Fin 8192 → ℝ) (y : S512x512.Idx) :
    out0_A_4 c i arg2 harg2 arg3 harg3 arg4 harg4 arg5 harg5 arg6 harg6 arg7 harg7 x0 x1 x2 x3 y
      = heads (fun e p d => a.out (headNo i e) (pos (i 1).val p) M d) y := by
  have hl := fun e => last_out c arg2 harg2 arg3 harg3 arg4 harg4 arg5 harg5 arg6 harg6 arg7 harg7 H M e
  obtain ⟨S, hS⟩ : ∃ S, carried c i arg2 harg2 arg3 harg3 arg4 harg4 arg5 harg5 arg6 harg6 arg7 harg7 x0 x1 x2 x3 (k0_t1_loop i).trips = S := ⟨_, rfl⟩
  rw [hS] at hl
  rw [(out_pieces c i arg2 harg2 arg3 harg3 arg4 harg4 arg5 harg5 arg6 harg6 arg7 harg7 x0 x1 x2 x3 S hS).1]
  exact stores .bf16 rfl _ (fun e => outOf (last x0 x1 x2 x3 (blockOf i) e (S.head e))) hl y

/-- … and of the log-sum-exps. -/
theorem block_lse (H : Holds a i x0 x1 x2 x3) (M : Fin 16 → Fin 8192 → ℝ) (y : S512x512.Idx) :
    out0_A_5 c i arg2 harg2 arg3 harg3 arg4 harg4 arg5 harg5 arg6 harg6 arg7 harg7 x0 x1 x2 x3 y
      = heads (fun e p _ => a.lse (headNo i e) (pos (i 1).val p) M) y := by
  have hl := fun e => last_lse c arg2 harg2 arg3 harg3 arg4 harg4 arg5 harg5 arg6 harg6 arg7 harg7 H M e
  obtain ⟨S, hS⟩ : ∃ S, carried c i arg2 harg2 arg3 harg3 arg4 harg4 arg5 harg5 arg6 harg6 arg7 harg7 x0 x1 x2 x3 (k0_t1_loop i).trips = S := ⟨_, rfl⟩
  rw [hS] at hl
  rw [(out_pieces c i arg2 harg2 arg3 harg3 arg4 harg4 arg5 harg5 arg6 harg6 arg7 harg7 x0 x1 x2 x3 S hS).2]
  exact stores .f32 rfl _ (fun e => lseOf (last x0 x1 x2 x3 (blockOf i) e (S.head e))) hl y

end Cert.Proof.Fwd

end
-- ==== Proof.Fwd.Host.lean ====
/-
  What the operations before the forward call leave in its operands, at arguments that are reals.
-/
module

public import proofs.«01_k».proof.Proof.HostValue
public import proofs.«01_k».proof.Proof.Gen.AttnFIdeal.Frame
public import Idealize.ShloMosaic.Lib.StableHlo.RunRead
public import Idealize.ShloMosaic.Lib.StableHlo.ReadAt

@[expose] public section

noncomputable section

namespace Cert.Proof.Fwd

open Cert.AttnFIdeal Cert.AttnFIdeal.Gen Cert.Proof.Value
open Cert.Proof.KernelIdeal (zero queries_at keys_at values_at rotary_at)
open Idealize.ShloMosaic Idealize.ShloMosaic.TcCoe Idealize.ShloMosaic.StableHlo Idealize.SL.Sem

variable {m : (ℓ : Loc nD τ sig) → Buf (Elt Ideal) ℓ} {c : Dev nD} {a : Args}

/-- The device's arguments are these reals, and the scale is the program's constant. -/
structure At (m : (ℓ : Loc nD τ sig) → Buf (Elt Ideal) ℓ) (c : Dev nD) (a : Args) : Prop where
  q : m ((c : Thread nD τ).loc main_arg0) = coe3 a.q
  kn : m ((c : Thread nD τ).loc main_arg1) = coe3 a.kn
  kr : m ((c : Thread nD τ).loc main_arg2) = coe2 a.kr
  v : m ((c : Thread nD τ).loc main_arg3) = coe3 a.v
  c : a.c = scale

/-- The keys' own lanes of all heads, then the values. -/
def joinKV (x y : FVec Ideal S8192x2048 .f32) : FVec Ideal S8192x4096 .f32 :=
  concatenate S8192x4096 1 [⟨S8192x2048, x⟩, ⟨S8192x2048, y⟩] concatenates_S8192x2048_S8192x2048_S8192x4096_d1

theorem V_v4 : V m c main_v4 = truncf .bf16 (shapeCast S8192x4096 (pad S8192x16x256 ![0, 0, 0] ![0, 0, 64] ![0, 0, 0]
      (mulf (m ((c : Thread nD τ).loc main_arg0)) (broadcastInDim S8192x16x192 ![] bcast_S_S8192x16x192 (constant S_ .f32 0x3D93CD3A#32)))
      (zero (F := Ideal)) pads_S8192x16x192_S8192x16x256_000_000_0640 h_S_) shapeCasts_S8192x16x256_S8192x4096) bitsLt_bf16_f32 := by
  after_reads_simp
  rfl

theorem V_v8 : V m c main_v8 = truncf .bf16 (joinKV (shapeCast S8192x2048 (m ((c : Thread nD τ).loc main_arg1)) shapeCasts_S8192x16x128_S8192x2048) (shapeCast S8192x2048 (m ((c : Thread nD τ).loc main_arg3)) shapeCasts_S8192x16x128_S8192x2048)) bitsLt_bf16_f32 := by
  after_reads_simp
  refine congrArg (truncf .bf16 · bitsLt_bf16_f32) (congrArg₂ joinKV ?_ ?_ : joinKV _ _ = joinKV _ _)
  · after_reads_simp; rfl
  · after_reads_simp; rfl

theorem V_v10 : V m c main_v10 = truncf .bf16 (pad S8192x128 ![0, 0] ![0, 64] ![0, 0] (m ((c : Thread nD τ).loc main_arg2)) (zero (F := Ideal)) pads_S8192x64_S8192x128_000_0640 h_S_) bitsLt_bf16_f32 := by
  after_reads_simp
  rfl

variable (A : At m c a)
include A

theorem At.v4 (t : Fin 8192) (h : Fin 16) (d : Fin 256) : V m c main_v4 (ix2 t ⟨h.val * 256 + d.val, by omega⟩) = ((a.qp t h d : ℝ) : EReal) := by
  rw [V_v4, A.q]
  exact queries_at a A.c t h d
theorem At.v8_key (s : Fin 8192) (h : Fin 16) (d : Fin 128) : V m c main_v8 (ix2 s ⟨h.val * 128 + d.val, by omega⟩) = ((a.kn s h d : ℝ) : EReal) := by
  rw [V_v8, A.kn, A.v]
  exact keys_at a s h d
theorem At.v8_val (s : Fin 8192) (h : Fin 16) (d : Fin 128) : V m c main_v8 (ix2 s ⟨(16 + h.val) * 128 + d.val, by omega⟩) = ((a.v s h d : ℝ) : EReal) := by
  rw [V_v8, A.kn, A.v]
  exact values_at a s h d
theorem At.v10 (s : Fin 8192) (d : Fin 128) : V m c main_v10 (ix2 s d) = ((a.krp s d : ℝ) : EReal) := by
  rw [V_v10, A.kr]
  exact rotary_at a s d

end Cert.Proof.Fwd

end
-- ==== Proof.Fwd.Ref.lean ====
/-
  The forward reference's two results, at arguments that are reals: the softmax-weighted values and the log-sum-exps.
-/
module

public import proofs.«01_k».proof.Proof.Fwd.Running
public import proofs.«01_k».proof.Proof.Gen.AttnFReferenceIdeal.Read

@[expose] public section

noncomputable section

namespace Cert.Proof.Fwd

open Idealize.ShloMosaic Idealize.ShloMosaic.StableHlo Cert.AttnFReferenceIdeal Cert.AttnFReferenceIdeal.Read
open Cert.Proof.Value

/-- The output, the heads side by side, and the log-sum-exps, each once for each of the head's columns. -/
def outArr (a : Args) : (⟨2, ![8192, 2048]⟩ : Shape).Idx → EReal :=
  coe2 fun t (x : Fin 2048) => a.out ⟨x.val / 128, by omega⟩ t a.top ⟨x.val % 128, by omega⟩
def lseArr (a : Args) : (⟨2, ![8192, 2048]⟩ : Shape).Idx → EReal :=
  coe2 fun t (x : Fin 2048) => a.lse ⟨x.val / 128, by omega⟩ t a.top

variable (a : Args)

theorem masked_coe (hc : a.c = scale) : val_main_v12 (F := Ideal) (coe3 a.q) (coe3 a.kn) (coe2 a.kr) = a.maskedArr :=
  Value.masked_coe a hc

theorem top_coe (hc : a.c = scale) : val_main_v13 (F := Ideal) (coe3 a.q) (coe3 a.kn) (coe2 a.kr) = coe2 a.top :=
  Value.top_coe a hc
theorem top_coe' (hc : a.c = scale) : val_main_v27 (F := Ideal) (coe3 a.q) (coe3 a.kn) (coe2 a.kr) = coe2 a.top :=
  Value.top_coe a hc

theorem weights_coe (hc : a.c = scale) : val_main_v23 (F := Ideal) (coe3 a.q) (coe3 a.kn) (coe2 a.kr) = coe3 (a.Y a.top) :=
  Value.weights_coe a hc

theorem out_coe (hc : a.c = scale) : val_main_v24 (F := Ideal) (coe3 a.q) (coe3 a.kn) (coe2 a.kr) (coe3 a.v) = coe3 fun h (d : Fin 128) t => a.out h t a.top d := by
  funext i
  unfold val_main_v24
  rw [weights_coe a hc]
  pointwise []
  simp only [coe3, ← EReal.coe_mul, ← coe_sum]
  exact congrArg Real.toEReal (Finset.sum_congr rfl fun s _ => mul_comm _ _)

/-- The first result. -/
theorem ref_out (hc : a.c = scale) : val_main_v38 (F := Ideal) (coe3 a.q) (coe3 a.kn) (coe2 a.kr) (coe3 a.v) = outArr a := by
  funext i
  unfold val_main_v38 val_main_v26 val_main_v25
  rw [out_coe a hc]
  pointwise []
  rfl

theorem exp_coe (hc : a.c = scale) : val_main_v31 (F := Ideal) (coe3 a.q) (coe3 a.kn) (coe2 a.kr) = coe3 (a.E a.top) := by
  funext i
  unfold val_main_v31 val_main_v30 val_main_v29 val_main_v28
  rw [masked_coe a hc, top_coe' a hc]
  pointwise []
  exact exp_masked a a.top _ _ _

theorem lse_coe (hc : a.c = scale) : val_main_v34 (F := Ideal) (coe3 a.q) (coe3 a.kn) (coe2 a.kr) = coe2 fun h t => a.lse h t a.top := by
  funext i
  unfold val_main_v34 val_main_v33 val_main_v32
  rw [exp_coe a hc, top_coe' a hc]
  pointwise [val_main_cst_5]
  simp only [coe3, ← coe_sum]
  refine (congrArg (coe2 a.top i + ·) (log_coe_pos (a.L_pos a.top (i 0) (i 1)))).trans ?_
  exact (EReal.coe_add _ _).symm

/-- The second. -/
theorem ref_lse (hc : a.c = scale) : val_main_v39 (F := Ideal) (coe3 a.q) (coe3 a.kn) (coe2 a.kr) = lseArr a := by
  funext i
  unfold val_main_v39 val_main_v37 val_main_v36 val_main_v35
  rw [lse_coe a hc]
  pointwise []
  rfl

end Cert.Proof.Fwd

end
-- ==== Proof.Fwd.Arrays.lean ====
/-
  The two arrays the attention's forward call leaves, at arguments that are reals.
-/
module

public import proofs.«01_k».proof.Proof.Fwd.Store
public import proofs.«01_k».proof.Proof.Fwd.Host
public import proofs.«01_k».proof.Proof.Fwd.Ref
public import proofs.«01_k».proof.Proof.Gen.AttnFIdeal.Value
public import Idealize.ShloMosaic.Lib.Pipeline.ValueKit

@[expose] public section

noncomputable section

namespace Cert.Proof.Fwd

open Cert.AttnFIdeal Cert.AttnFIdeal.Gen Cert.Proof.Value
open Idealize.ShloMosaic Idealize.ShloMosaic.TcCoe Idealize.SL.Sem
open Idealize.ShloMosaic.Pipeline (Dat)

variable {m : (ℓ : Loc nD τ sig) → Buf (Elt Ideal) ℓ} {c : Dev nD} {a : Args}

/-- Where a point's blocks lie: its block of queries on the rows, its four heads on the columns. -/
theorem idx_facts : ∀ t : Fin cfg0.N, win0_0.index t = ![(grid0.coords t 1).val, (grid0.coords t 0).val]
    ∧ win0_1.index t = ![0, (grid0.coords t 0).val] ∧ win0_2.index t = ![0, 4 + (grid0.coords t 0).val] ∧ win0_3.index t = ![0, 0]
    ∧ win0_4.index t = ![(grid0.coords t 1).val, (grid0.coords t 0).val] ∧ win0_5.index t = ![(grid0.coords t 1).val, (grid0.coords t 0).val] :=
  (by decide +kernel : ∀ t : Fin grid0.N, _)

theorem g_lt (t : Fin cfg0.N) : (grid0.coords t 0).val < 4 := (grid0.coords t 0).isLt
theorem i_lt (t : Fin cfg0.N) : (grid0.coords t 1).val < 16 := (grid0.coords t 1).isLt

variable (A : At m c a)
include A

theorem At.q_eq (t : Fin cfg0.N) (e : Fin 4) (p : Fin 512) (d : Fin 256) :
    colsQ (iblk m c 0 t) e (ix2 p d) = ((a.qp (pos (grid0.coords t 1).val p) (headNo (grid0.coords t) e) d : ℝ) : EReal) := by
  have h := (idx_facts t).1
  have hp := pos_val (i_lt t) p
  refine Eq.trans ?_ (A.v4 (pos (grid0.coords t 1).val p) (headNo (grid0.coords t) e) d)
  unfold colsQ VecWindow.window iblk
  rw [View.read_apply]
  refine congrArg (V m c main_v4) (funext fun b => Fin.ext ?_)
  match b with
  | ⟨0, _⟩ => show win0_0.index t 0 * 512 + 1 * (0 + 1 * p.val) = _; rw [congrFun h 0]; refine Eq.trans ?_ hp.symm; show (grid0.coords t 1).val * 512 + 1 * (0 + 1 * p.val) = _; omega
  | ⟨1, _⟩ => show win0_0.index t 1 * 1024 + 1 * (256 * e.val + 1 * d.val) = _; rw [congrFun h 1]; show (grid0.coords t 0).val * 1024 + 1 * (256 * e.val + 1 * d.val) = (4 * (grid0.coords t 0).val + e.val) * 256 + d.val; omega

theorem At.kn_eq (t : Fin cfg0.N) (n : Fin 16) (e : Fin 4) (j : Fin 512) (d : Fin 128) :
    rowsK (iblk m c 1 t) n e (ix2 j d) = ((a.kn (pos n.val j) (headNo (grid0.coords t) e) d : ℝ) : EReal) := by
  have h := (idx_facts t).2.1
  have hp := pos_val n.isLt j
  refine Eq.trans ?_ (A.v8_key (pos n.val j) (headNo (grid0.coords t) e) d)
  unfold rowsK VecWindow.window iblk
  rw [View.read_apply]
  refine congrArg (V m c main_v8) (funext fun b => Fin.ext ?_)
  match b with
  | ⟨0, _⟩ => show win0_1.index t 0 * 8192 + 1 * (512 * n.val + 1 * j.val) = _; rw [congrFun h 0]; refine Eq.trans ?_ hp.symm; show 0 * 8192 + 1 * (512 * n.val + 1 * j.val) = _; omega
  | ⟨1, _⟩ => show win0_1.index t 1 * 512 + 1 * (128 * e.val + 1 * d.val) = _; rw [congrFun h 1]; show (grid0.coords t 0).val * 512 + 1 * (128 * e.val + 1 * d.val) = (4 * (grid0.coords t 0).val + e.val) * 128 + d.val; omega

theorem At.v_eq (t : Fin cfg0.N) (n : Fin 16) (e : Fin 4) (j : Fin 512) (d : Fin 128) :
    rowsK (iblk m c 2 t) n e (ix2 j d) = ((a.v (pos n.val j) (headNo (grid0.coords t) e) d : ℝ) : EReal) := by
  have h := (idx_facts t).2.2.1
  have hp := pos_val n.isLt j
  refine Eq.trans ?_ (A.v8_val (pos n.val j) (headNo (grid0.coords t) e) d)
  unfold rowsK VecWindow.window iblk
  rw [View.read_apply]
  refine congrArg (V m c main_v8) (funext fun b => Fin.ext ?_)
  match b with
  | ⟨0, _⟩ => show win0_2.index t 0 * 8192 + 1 * (512 * n.val + 1 * j.val) = _; rw [congrFun h 0]; refine Eq.trans ?_ hp.symm; show 0 * 8192 + 1 * (512 * n.val + 1 * j.val) = _; omega
  | ⟨1, _⟩ => show win0_2.index t 1 * 512 + 1 * (128 * e.val + 1 * d.val) = _; rw [congrFun h 1]; show (4 + (grid0.coords t 0).val) * 512 + 1 * (128 * e.val + 1 * d.val) = (16 + (4 * (grid0.coords t 0).val + e.val)) * 128 + d.val; omega

theorem At.kr_eq (t : Fin cfg0.N) (n : Fin 16) (j : Fin 512) (d : Fin 128) :
    rowsR (iblk m c 3 t) n (ix2 j d) = ((a.krp (pos n.val j) d : ℝ) : EReal) := by
  have h := (idx_facts t).2.2.2.1
  have hp := pos_val n.isLt j
  refine Eq.trans ?_ (A.v10 (pos n.val j) d)
  unfold rowsR VecWindow.window iblk
  rw [View.read_apply]
  refine congrArg (V m c main_v10) (funext fun b => Fin.ext ?_)
  match b with
  | ⟨0, _⟩ => show win0_3.index t 0 * 8192 + 1 * (512 * n.val + 1 * j.val) = _; rw [congrFun h 0]; refine Eq.trans ?_ hp.symm; show 0 * 8192 + 1 * (512 * n.val + 1 * j.val) = _; omega
  | ⟨1, _⟩ => show win0_3.index t 1 * 128 + 1 * (0 + 1 * d.val) = _; rw [congrFun h 1]; show 0 * 128 + 1 * (0 + 1 * d.val) = d.val; omega

/-- A point's operands hold the arguments. -/
theorem At.holds (t : Fin cfg0.N) : Holds a (grid0.coords t) (iblk m c 0 t) (iblk m c 1 t) (iblk m c 2 t) (iblk m c 3 t) where
  q := A.q_eq t
  kn := A.kn_eq t
  v := A.v_eq t
  kr := A.kr_eq t

omit A in
/-- A block of four heads, read in the array of all of them. -/
theorem heads_array (f : Fin 16 → Fin 8192 → Fin 128 → ℝ) (t : Fin cfg0.N) (y : S512x512.Idx) (r : Fin 8192) (x : Fin 2048)
    (hr : r.val = (grid0.coords t 1).val * 512 + (y 0).val) (hx : x.val = (grid0.coords t 0).val * 512 + (y 1).val) :
    heads (fun e p d => f (headNo (grid0.coords t) e) (pos (grid0.coords t 1).val p) d) y
      = ((f ⟨x.val / 128, by omega⟩ r ⟨x.val % 128, by omega⟩ : ℝ) : EReal) := by
  have hy0 : (y 0).val < 512 := (y 0).isLt
  have hy1 : (y 1).val < 512 := (y 1).isLt
  have hp := pos_val (i_lt t) (y 0)
  refine congrArg Real.toEReal (congr (congrArg₂ f (Fin.ext ?_) (Fin.ext ?_)) (Fin.ext ?_))
  · show 4 * (grid0.coords t 0).val + (y 1).val / 128 = x.val / 128; omega
  · exact hp.trans (by rw [hr]; omega)
  · show (y 1).val % 128 = x.val % 128; omega

/-- The array of the output … -/
theorem At.arr4 : (dats m 0 c).arrAt 4 cfg0.N = outArr a := by
  refine (dats m 0 c).arrAt_eq_of_covers 4 _ (by decide +kernel) fun t hf y => ?_
  have h := (idx_facts t).2.2.2.2.1
  have hg := g_lt t
  have hi := i_lt t
  have hy0 : (y 0).val < 512 := (y 0).isLt
  have hy1 : (y 1).val < 512 := (y 1).isLt
  have e0 : (((cfg0.win 4).blk t).view.emb y 0).val = (grid0.coords t 1).val * 512 + (y 0).val := by blk_simp [h]
  have e1 : (((cfg0.win 4).blk t).view.emb y 1).val = (grid0.coords t 0).val * 512 + (y 1).val := by blk_simp [h]
  blk_simp [h]
  rw [after0_4]
  refine (block_out c _ _ _ _ _ _ _ _ _ _ _ _ (A.holds t) a.top y).trans ?_
  exact heads_array (fun h t d => a.out h t a.top d) t y _ _ e0 e1

/-- … and of the log-sum-exps. -/
theorem At.arr5 : (dats m 0 c).arrAt 5 cfg0.N = lseArr a := by
  refine (dats m 0 c).arrAt_eq_of_covers 5 _ (by decide +kernel) fun t hf y => ?_
  have h := (idx_facts t).2.2.2.2.2
  have hg := g_lt t
  have hi := i_lt t
  have hy0 : (y 0).val < 512 := (y 0).isLt
  have hy1 : (y 1).val < 512 := (y 1).isLt
  have e0 : (((cfg0.win 5).blk t).view.emb y 0).val = (grid0.coords t 1).val * 512 + (y 0).val := by blk_simp [h]
  have e1 : (((cfg0.win 5).blk t).view.emb y 1).val = (grid0.coords t 0).val * 512 + (y 1).val := by blk_simp [h]
  blk_simp [h]
  rw [after0_5]
  refine (block_lse c _ _ _ _ _ _ _ _ _ _ _ _ (A.holds t) a.top y).trans ?_
  exact heads_array (fun h t _ => a.lse h t a.top) t y _ _ e0 e1

end Cert.Proof.Fwd

end
-- ==== Proof.Fwd.Attn.lean ====
/-
  The attention's forward call and its reference leave the same two arrays over the reals.
-/
module

public import proofs.«01_k».proof.Proof.Fwd.Arrays
public import proofs.«01_k».proof.Proof.Finite
public import proofs.«01_k».proof.Proof.Gen.AttnFReferenceIdeal.Run

@[expose] public section

noncomputable section

namespace Cert.Proof.Value

/-- The shapes the forward precondition's operations state fit. -/
instance finite_attn_facts : Cert.Pre_finite_attn.Facts where
  bcast_S_S8192x16x192 := by decide
  reducesTo_S8192x16x192_S_d0_1_2 := by decide
  h_S_ := by decide
  bcast_S_S8192x16x128 := by decide
  reducesTo_S8192x16x128_S_d0_1_2 := by decide
  bcast_S_S8192x64 := by decide
  reducesTo_S8192x64_S_d0_1 := by decide

open Idealize.ShloMosaic Cert.Pre_finite_attn in
/-- The precondition, argument by argument. -/
theorem real_args_attn (x0 : FVec Ideal S8192x16x192 .f32) (x1 : FVec Ideal S8192x16x128 .f32) (x2 : FVec Ideal S8192x64 .f32)
    (x3 : FVec Ideal S8192x16x128 .f32) (h : Cert.Pre_finite_attn.fn (F := Ideal) x0 x1 x2 x3 = fun _ => 1#1) :
    x0 = coe3 (fun i j k => (x0 (ix3 i j k)).toReal) ∧ x1 = coe3 (fun i j k => (x1 (ix3 i j k)).toReal)
    ∧ x2 = coe2 (fun i j => (x2 (ix2 i j)).toReal) ∧ x3 = coe3 (fun i j k => (x3 (ix3 i j k)).toReal) := by
  have e := congrFun h finZeroElim
  pointwise [Cert.Pre_finite_attn.fn, Cert.Pre_finite_attn.fn_part1] at e
  obtain ⟨e, h3⟩ := IntOp.andi_eq_one.1 e
  obtain ⟨e, h2⟩ := IntOp.andi_eq_one.1 e
  obtain ⟨h0, h1⟩ := IntOp.andi_eq_one.1 e
  exact ⟨coe3_of _ fun i j k => real_of_lt _ (fold_andi3 _ h0 i j k),
    coe3_of _ fun i j k => real_of_lt _ (fold_andi3 _ h1 i j k),
    coe2_of _ fun i j => real_of_lt _ (fold_andi2 _ h2 i j),
    coe3_of _ fun i j k => real_of_lt _ (fold_andi3 _ h3 i j k)⟩

end Cert.Proof.Value

namespace Cert.Proof.Fwd

open Cert.AttnFIdeal Cert.AttnFIdeal.Gen Cert.Proof.Value
open Idealize.ShloMosaic Idealize.ShloMosaic.TcCoe Idealize.SL.Sem

/-- A device's arguments, read as reals, with the program's scale; the forward pass has no gradient among them. -/
def argsOf (m : (ℓ : Loc nD τ sig) → Buf (Elt Ideal) ℓ) (c : Dev nD) : Args where
  q i j k := ((m ((c : Thread nD τ).loc main_arg0) : FVec Ideal S8192x16x192 .f32) (ix3 i j k)).toReal
  kn i j k := ((m ((c : Thread nD τ).loc main_arg1) : FVec Ideal S8192x16x128 .f32) (ix3 i j k)).toReal
  kr i j := ((m ((c : Thread nD τ).loc main_arg2) : FVec Ideal S8192x64 .f32) (ix2 i j)).toReal
  v i j k := ((m ((c : Thread nD τ).loc main_arg3) : FVec Ideal S8192x16x128 .f32) (ix3 i j k)).toReal
  g _ _ _ := 0
  c := scale

/-- Under the precondition a device's arguments are the reals read off them. -/
theorem at_of_finite {m : (ℓ : Loc nD τ sig) → Buf (Elt Ideal) ℓ} (h : Cert.Pre_AttnFIdeal_finite_attn m) (c : Dev nD) : At m c (argsOf m c) :=
  have e := real_args_attn _ _ _ _ (h c)
  ⟨e.1, e.2.1, e.2.2.1, e.2.2.2, rfl⟩

/-- The stand-in of minus infinity is the name's value. -/
theorem named_mask : preserves_AttnF_AttnFIdeal :=
  ⟨rfl, fun s => IdealRules.named_const.ideal_named _ _ _ _ rfl, IdealRules.named_const.ideal_named_scalar _ _ _ _ rfl⟩

/-- The reference runs, its arguments stay, and it has no counters. -/
theorem reference_frame : quiescent_AttnFReferenceIdeal := fun m ρ _ =>
  (θ_run Cert.AttnFReferenceIdeal.defs _ _).mono (fun r h => ⟨fun c => (h c).2.2, sem_eq_zero_of_no_sems (by decide) r.2⟩)
    (Cert.AttnFReferenceIdeal.Value.run (F := Ideal) m ρ)

/-- At finite arguments the call and the reference leave the same output and the same log-sum-exps. -/
theorem attn_f : algebraic_AttnFIdeal_AttnFReferenceIdeal_pre_finite_attn := fun m ρ m' ρ' hm hmm => by
  refine ⟨fun c => outArr (argsOf m c), fun c => lseArr (argsOf m c), (θ_run defs _ _).mono (fun r h c => ?_) (Cert.AttnFIdeal.Value.run_blocks m ρ),
    (θ_run Cert.AttnFReferenceIdeal.defs _ _).mono (fun r h c => ?_) (Cert.AttnFReferenceIdeal.Value.run (F := Ideal) m' ρ')⟩
  · have A := at_of_finite hm c
    have H := h c
    exact ⟨H.1.trans A.arr4, H.2.1.trans A.arr5, H.2.2⟩
  · have A := at_of_finite hm c
    have e := hmm c
    have H := h c
    refine ⟨H.1.trans ((Cert.AttnFReferenceIdeal.Read.val_main_v38_eq m' c).trans ?_), H.2.1.trans ((Cert.AttnFReferenceIdeal.Read.val_main_v39_eq ..).trans ?_), H.2.2⟩
    · rw [e.1.trans A.q, e.2.1.trans A.kn, e.2.2.1.trans A.kr, e.2.2.2.trans A.v]
      exact ref_out _ A.c
    · rw [e.1.trans A.q, e.2.1.trans A.kn, e.2.2.1.trans A.kr]
      exact ref_lse _ A.c

end Cert.Proof.Fwd

end
-- ==== Proof.lean ====
/-
  The proof of the claims: for each program the frames, the named constant and the value.
-/
module

public import proofs.«01_k».proof.Defs
public import proofs.«01_k».proof.Proof.Run
public import proofs.«01_k».proof.Proof.Word.Run
public import proofs.«01_k».proof.Proof.Finite
public import proofs.«01_k».proof.Proof.Tail
public import proofs.«01_k».proof.Proof.Feed.Gate
public import proofs.«01_k».proof.Proof.Feed.GateB
public import proofs.«01_k».proof.Proof.Feed.Down
public import proofs.«01_k».proof.Proof.Feed.DownW
public import proofs.«01_k».proof.Proof.Feed.InX
public import proofs.«01_k».proof.Proof.Feed.InW
public import proofs.«01_k».proof.Proof.Norm.NormB
public import proofs.«01_k».proof.Proof.Norm.ConvB
public import proofs.«01_k».proof.Proof.Feed.PleProjW
public import proofs.«01_k».proof.Proof.Feed.PleProj
public import proofs.«01_k».proof.Proof.Feed.PleGateW
public import proofs.«01_k».proof.Proof.Feed.PleGateX
public import proofs.«01_k».proof.Proof.Feed.PleGate
public import proofs.«01_k».proof.Proof.Feed.UkvW
public import proofs.«01_k».proof.Proof.Feed.UkvX
public import proofs.«01_k».proof.Proof.Feed.Ukv
public import proofs.«01_k».proof.Proof.Feed.UqW
public import proofs.«01_k».proof.Proof.Feed.UqX
public import proofs.«01_k».proof.Proof.Feed.Uq
public import proofs.«01_k».proof.Proof.Feed.MlaInW
public import proofs.«01_k».proof.Proof.Feed.MlaInX
public import proofs.«01_k».proof.Proof.Feed.MlaIn
public import proofs.«01_k».proof.Proof.Feed.OutW
public import proofs.«01_k».proof.Proof.Feed.MlaOutX
public import proofs.«01_k».proof.Proof.Feed.HybOutX
public import proofs.«01_k».proof.Proof.Feed.Out
public import proofs.«01_k».proof.Proof.Feed.HybInW
public import proofs.«01_k».proof.Proof.Feed.HybInX
public import proofs.«01_k».proof.Proof.Feed.HybIn
public import proofs.«01_k».proof.Proof.Norm.PostF
public import proofs.«01_k».proof.Proof.Norm.NormF
public import proofs.«01_k».proof.Proof.Gen.NormB
public import proofs.«01_k».proof.Proof.Gen.NormB.Frame
public import proofs.«01_k».proof.Proof.Gen.NormBIdeal
public import proofs.«01_k».proof.Proof.Gen.NormBIdeal.Value
public import proofs.«01_k».proof.Proof.Gen.NormBReferenceIdeal
public import proofs.«01_k».proof.Proof.Gen.NormBReferenceIdeal.Run
public import proofs.«01_k».proof.Proof.Gen.NormBReferenceIdeal.Read
public import proofs.«01_k».proof.Proof.Gen.ConvB
public import proofs.«01_k».proof.Proof.Gen.ConvB.Frame
public import proofs.«01_k».proof.Proof.Gen.ConvBIdeal
public import proofs.«01_k».proof.Proof.Gen.ConvBIdeal.Value
public import proofs.«01_k».proof.Proof.Gen.ConvBReferenceIdeal
public import proofs.«01_k».proof.Proof.Gen.ConvBReferenceIdeal.Run
public import proofs.«01_k».proof.Proof.Gen.ConvBReferenceIdeal.Read
public import proofs.«01_k».proof.Proof.Gen.Gate
public import proofs.«01_k».proof.Proof.Gen.Gate.Frame
public import proofs.«01_k».proof.Proof.Gen.GateIdeal
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.GateB
public import proofs.«01_k».proof.Proof.Gen.GateB.Frame
public import proofs.«01_k».proof.Proof.Gen.GateBIdeal
public import proofs.«01_k».proof.Proof.Gen.GateBIdeal.Value
public import proofs.«01_k».proof.Proof.Gen.GateBReferenceIdeal
public import proofs.«01_k».proof.Proof.Gen.GateBReferenceIdeal.Run
public import proofs.«01_k».proof.Proof.Gen.GateBReferenceIdeal.Read
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.DownW
public import proofs.«01_k».proof.Proof.Gen.DownW.Frame
public import proofs.«01_k».proof.Proof.Gen.DownWIdeal
public import proofs.«01_k».proof.Proof.Gen.DownWIdeal.Value
public import proofs.«01_k».proof.Proof.Gen.DownWReferenceIdeal
public import proofs.«01_k».proof.Proof.Gen.DownWReferenceIdeal.Run
public import proofs.«01_k».proof.Proof.Gen.DownWReferenceIdeal.Read
public import proofs.«01_k».proof.Proof.Gen.InX
public import proofs.«01_k».proof.Proof.Gen.InX.Frame
public import proofs.«01_k».proof.Proof.Gen.InXIdeal
public import proofs.«01_k».proof.Proof.Gen.InXIdeal.Value
public import proofs.«01_k».proof.Proof.Gen.InXReferenceIdeal
public import proofs.«01_k».proof.Proof.Gen.InXReferenceIdeal.Run
public import proofs.«01_k».proof.Proof.Gen.InXReferenceIdeal.Read
public import proofs.«01_k».proof.Proof.Gen.InW
public import proofs.«01_k».proof.Proof.Gen.InW.Frame
public import proofs.«01_k».proof.Proof.Gen.InWIdeal
public import proofs.«01_k».proof.Proof.Gen.InWIdeal.Value
public import proofs.«01_k».proof.Proof.Gen.InWReferenceIdeal
public import proofs.«01_k».proof.Proof.Gen.InWReferenceIdeal.Run
public import proofs.«01_k».proof.Proof.Gen.InWReferenceIdeal.Read
public import proofs.«01_k».proof.Proof.Gen.AttnF
public import proofs.«01_k».proof.Proof.Gen.AttnF.Frame
public import proofs.«01_k».proof.Proof.Gen.AttnFIdeal
public import proofs.«01_k».proof.Proof.Gen.AttnFIdeal.Frame
public import proofs.«01_k».proof.Proof.Gen.AttnFIdeal.Value
public import proofs.«01_k».proof.Proof.Gen.AttnFReferenceIdeal
public import proofs.«01_k».proof.Proof.Gen.AttnFReferenceIdeal.Run
public import proofs.«01_k».proof.Proof.Gen.AttnFReferenceIdeal.Read
public import proofs.«01_k».proof.Proof.Gen.NormF
public import proofs.«01_k».proof.Proof.Gen.NormF.Frame
public import proofs.«01_k».proof.Proof.Gen.NormFIdeal
public import proofs.«01_k».proof.Proof.Gen.NormFIdeal.Value
public import proofs.«01_k».proof.Proof.Gen.NormFReferenceIdeal
public import proofs.«01_k».proof.Proof.Gen.NormFReferenceIdeal.Run
public import proofs.«01_k».proof.Proof.Gen.NormFReferenceIdeal.Read
public import proofs.«01_k».proof.Proof.Gen.PostF
public import proofs.«01_k».proof.Proof.Gen.PostF.Frame
public import proofs.«01_k».proof.Proof.Gen.PostFIdeal
public import proofs.«01_k».proof.Proof.Gen.PostFIdeal.Value
public import proofs.«01_k».proof.Proof.Gen.PostFReferenceIdeal
public import proofs.«01_k».proof.Proof.Gen.PostFReferenceIdeal.Run
public import proofs.«01_k».proof.Proof.Gen.PostFReferenceIdeal.Read
public import proofs.«01_k».proof.Proof.Gen.HybIn
public import proofs.«01_k».proof.Proof.Gen.HybIn.Frame
public import proofs.«01_k».proof.Proof.Gen.HybInIdeal
public import proofs.«01_k».proof.Proof.Gen.HybInIdeal.Value
public import proofs.«01_k».proof.Proof.Gen.HybInReferenceIdeal
public import proofs.«01_k».proof.Proof.Gen.HybInReferenceIdeal.Run
public import proofs.«01_k».proof.Proof.Gen.HybInReferenceIdeal.Read
public import proofs.«01_k».proof.Proof.Fwd.Attn
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.HybInX
public import proofs.«01_k».proof.Proof.Gen.HybInX.Frame
public import proofs.«01_k».proof.Proof.Gen.HybInXIdeal
public import proofs.«01_k».proof.Proof.Gen.HybInXIdeal.Value
public import proofs.«01_k».proof.Proof.Gen.HybInXReferenceIdeal
public import proofs.«01_k».proof.Proof.Gen.HybInXReferenceIdeal.Run
public import proofs.«01_k».proof.Proof.Gen.HybInXReferenceIdeal.Read
public import proofs.«01_k».proof.Proof.Gen.HybInW
public import proofs.«01_k».proof.Proof.Gen.HybInW.Frame
public import proofs.«01_k».proof.Proof.Gen.HybInWIdeal
public import proofs.«01_k».proof.Proof.Gen.HybInWIdeal.Value
public import proofs.«01_k».proof.Proof.Gen.HybInWReferenceIdeal
public import proofs.«01_k».proof.Proof.Gen.HybInWReferenceIdeal.Run
public import proofs.«01_k».proof.Proof.Gen.HybInWReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.HybOutX
public import proofs.«01_k».proof.Proof.Gen.HybOutX.Frame
public import proofs.«01_k».proof.Proof.Gen.HybOutXIdeal
public import proofs.«01_k».proof.Proof.Gen.HybOutXIdeal.Value
public import proofs.«01_k».proof.Proof.Gen.HybOutXReferenceIdeal
public import proofs.«01_k».proof.Proof.Gen.HybOutXReferenceIdeal.Run
public import proofs.«01_k».proof.Proof.Gen.HybOutXReferenceIdeal.Read
public import proofs.«01_k».proof.Proof.Gen.MlaOutX
public import proofs.«01_k».proof.Proof.Gen.MlaOutX.Frame
public import proofs.«01_k».proof.Proof.Gen.MlaOutXIdeal
public import proofs.«01_k».proof.Proof.Gen.MlaOutXIdeal.Value
public import proofs.«01_k».proof.Proof.Gen.MlaOutXReferenceIdeal
public import proofs.«01_k».proof.Proof.Gen.MlaOutXReferenceIdeal.Run
public import proofs.«01_k».proof.Proof.Gen.MlaOutXReferenceIdeal.Read
public import proofs.«01_k».proof.Proof.Gen.OutW
public import proofs.«01_k».proof.Proof.Gen.OutW.Frame
public import proofs.«01_k».proof.Proof.Gen.OutWIdeal
public import proofs.«01_k».proof.Proof.Gen.OutWIdeal.Value
public import proofs.«01_k».proof.Proof.Gen.OutWReferenceIdeal
public import proofs.«01_k».proof.Proof.Gen.OutWReferenceIdeal.Run
public import proofs.«01_k».proof.Proof.Gen.OutWReferenceIdeal.Read
public import proofs.«01_k».proof.Proof.Gen.MlaIn
public import proofs.«01_k».proof.Proof.Gen.MlaIn.Frame
public import proofs.«01_k».proof.Proof.Gen.MlaInIdeal
public import proofs.«01_k».proof.Proof.Gen.MlaInIdeal.Value
public import proofs.«01_k».proof.Proof.Gen.MlaInReferenceIdeal
public import proofs.«01_k».proof.Proof.Gen.MlaInReferenceIdeal.Run
public import proofs.«01_k».proof.Proof.Gen.MlaInReferenceIdeal.Read
public import proofs.«01_k».proof.Proof.Gen.MlaInX
public import proofs.«01_k».proof.Proof.Gen.MlaInX.Frame
public import proofs.«01_k».proof.Proof.Gen.MlaInXIdeal
public import proofs.«01_k».proof.Proof.Gen.MlaInXIdeal.Value
public import proofs.«01_k».proof.Proof.Gen.MlaInXReferenceIdeal
public import proofs.«01_k».proof.Proof.Gen.MlaInXReferenceIdeal.Run
public import proofs.«01_k».proof.Proof.Gen.MlaInXReferenceIdeal.Read
public import proofs.«01_k».proof.Proof.Gen.MlaInW
public import proofs.«01_k».proof.Proof.Gen.MlaInW.Frame
public import proofs.«01_k».proof.Proof.Gen.MlaInWIdeal
public import proofs.«01_k».proof.Proof.Gen.MlaInWIdeal.Value
public import proofs.«01_k».proof.Proof.Gen.MlaInWReferenceIdeal
public import proofs.«01_k».proof.Proof.Gen.MlaInWReferenceIdeal.Run
public import proofs.«01_k».proof.Proof.Gen.MlaInWReferenceIdeal.Read
public import proofs.«01_k».proof.Proof.Gen.Uq
public import proofs.«01_k».proof.Proof.Gen.Uq.Frame
public import proofs.«01_k».proof.Proof.Gen.UqIdeal
public import proofs.«01_k».proof.Proof.Gen.UqIdeal.Value
public import proofs.«01_k».proof.Proof.Gen.UqReferenceIdeal
public import proofs.«01_k».proof.Proof.Gen.UqReferenceIdeal.Run
public import proofs.«01_k».proof.Proof.Gen.UqReferenceIdeal.Read
public import proofs.«01_k».proof.Proof.Gen.UqX
public import proofs.«01_k».proof.Proof.Gen.UqX.Frame
public import proofs.«01_k».proof.Proof.Gen.UqXIdeal
public import proofs.«01_k».proof.Proof.Gen.UqXIdeal.Value
public import proofs.«01_k».proof.Proof.Gen.UqXReferenceIdeal
public import proofs.«01_k».proof.Proof.Gen.UqXReferenceIdeal.Run
public import proofs.«01_k».proof.Proof.Gen.UqXReferenceIdeal.Read
public import proofs.«01_k».proof.Proof.Gen.UqW
public import proofs.«01_k».proof.Proof.Gen.UqW.Frame
public import proofs.«01_k».proof.Proof.Gen.UqWIdeal
public import proofs.«01_k».proof.Proof.Gen.UqWIdeal.Value
public import proofs.«01_k».proof.Proof.Gen.UqWReferenceIdeal
public import proofs.«01_k».proof.Proof.Gen.UqWReferenceIdeal.Run
public import proofs.«01_k».proof.Proof.Gen.UqWReferenceIdeal.Read
public import proofs.«01_k».proof.Proof.Gen.Ukv
public import proofs.«01_k».proof.Proof.Gen.Ukv.Frame
public import proofs.«01_k».proof.Proof.Gen.UkvIdeal
public import proofs.«01_k».proof.Proof.Gen.UkvIdeal.Value
public import proofs.«01_k».proof.Proof.Gen.UkvReferenceIdeal
public import proofs.«01_k».proof.Proof.Gen.UkvReferenceIdeal.Run
public import proofs.«01_k».proof.Proof.Gen.UkvReferenceIdeal.Read
public import proofs.«01_k».proof.Proof.Gen.UkvX
public import proofs.«01_k».proof.Proof.Gen.UkvX.Frame
public import proofs.«01_k».proof.Proof.Gen.UkvXIdeal
public import proofs.«01_k».proof.Proof.Gen.UkvXIdeal.Value
public import proofs.«01_k».proof.Proof.Gen.UkvXReferenceIdeal
public import proofs.«01_k».proof.Proof.Gen.UkvXReferenceIdeal.Run
public import proofs.«01_k».proof.Proof.Gen.UkvXReferenceIdeal.Read
public import proofs.«01_k».proof.Proof.Gen.UkvW
public import proofs.«01_k».proof.Proof.Gen.UkvW.Frame
public import proofs.«01_k».proof.Proof.Gen.UkvWIdeal
public import proofs.«01_k».proof.Proof.Gen.UkvWIdeal.Value
public import proofs.«01_k».proof.Proof.Gen.UkvWReferenceIdeal
public import proofs.«01_k».proof.Proof.Gen.UkvWReferenceIdeal.Run
public import proofs.«01_k».proof.Proof.Gen.UkvWReferenceIdeal.Read
public import proofs.«01_k».proof.Proof.Gen.PleGate
public import proofs.«01_k».proof.Proof.Gen.PleGate.Frame
public import proofs.«01_k».proof.Proof.Gen.PleGateIdeal
public import proofs.«01_k».proof.Proof.Gen.PleGateIdeal.Value
public import proofs.«01_k».proof.Proof.Gen.PleGateReferenceIdeal
public import proofs.«01_k».proof.Proof.Gen.PleGateReferenceIdeal.Run
public import proofs.«01_k».proof.Proof.Gen.PleGateReferenceIdeal.Read
public import proofs.«01_k».proof.Proof.Gen.PleGateX
public import proofs.«01_k».proof.Proof.Gen.PleGateX.Frame
public import proofs.«01_k».proof.Proof.Gen.PleGateXIdeal
public import proofs.«01_k».proof.Proof.Gen.PleGateXIdeal.Value
public import proofs.«01_k».proof.Proof.Gen.PleGateXReferenceIdeal
public import proofs.«01_k».proof.Proof.Gen.PleGateXReferenceIdeal.Run
public import proofs.«01_k».proof.Proof.Gen.PleGateXReferenceIdeal.Read
public import proofs.«01_k».proof.Proof.Gen.PleGateW
public import proofs.«01_k».proof.Proof.Gen.PleGateW.Frame
public import proofs.«01_k».proof.Proof.Gen.PleGateWIdeal
public import proofs.«01_k».proof.Proof.Gen.PleGateWIdeal.Value
public import proofs.«01_k».proof.Proof.Gen.PleGateWReferenceIdeal
public import proofs.«01_k».proof.Proof.Gen.PleGateWReferenceIdeal.Run
public import proofs.«01_k».proof.Proof.Gen.PleGateWReferenceIdeal.Read
public import proofs.«01_k».proof.Proof.Gen.PleProj
public import proofs.«01_k».proof.Proof.Gen.PleProj.Frame
public import proofs.«01_k».proof.Proof.Gen.PleProjIdeal
public import proofs.«01_k».proof.Proof.Gen.PleProjIdeal.Value
public import proofs.«01_k».proof.Proof.Gen.PleProjReferenceIdeal
public import proofs.«01_k».proof.Proof.Gen.PleProjReferenceIdeal.Run
public import proofs.«01_k».proof.Proof.Gen.PleProjReferenceIdeal.Read
public import proofs.«01_k».proof.Proof.Gen.PleProjW
public import proofs.«01_k».proof.Proof.Gen.PleProjW.Frame
public import proofs.«01_k».proof.Proof.Gen.PleProjWIdeal
public import proofs.«01_k».proof.Proof.Gen.PleProjWIdeal.Value
public import proofs.«01_k».proof.Proof.Gen.PleProjWReferenceIdeal
public import proofs.«01_k».proof.Proof.Gen.PleProjWReferenceIdeal.Run
public import proofs.«01_k».proof.Proof.Gen.PleProjWReferenceIdeal.Read

@[expose] public section

noncomputable section

namespace Cert.Proof

open Idealize.ShloMosaic Idealize.ShloMosaic.TcCoe Idealize.SL.Sem
open Cert.Proof.Value

/-- The stand-in of minus infinity is the name's value. -/
theorem named_mask : preserves_Kernel_KernelIdeal :=
  ⟨rfl, fun s => IdealRules.named_const.ideal_named _ _ _ _ rfl, IdealRules.named_const.ideal_named_scalar _ _ _ _ rfl⟩

/-- The reference runs, its arguments stay, and it has no counters. -/
theorem reference_frame : quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

section Results

open Cert.KernelIdeal Cert.KernelIdeal.Gen

/-- The kernel's run leaves the four gradients, over the reals, and its arguments as they were. -/
theorem kernel_results (m : (ℓ : Loc nD τ sig) → Buf (Elt Ideal) ℓ) (ρ : Dev nD → PrngReg) (hm : Pre_KernelIdeal_finite m) :
    θ_run defs (onTc (τ := τ) (main (F := Ideal))) ⟨m, fun _ => 0, ρ⟩ (fun r => ∀ c : Dev nD,
      r.2.mem ((c.tc : Thread nD τ).loc main_v53) = coe3 ((KernelIdeal.argsOf m c).dq (KernelIdeal.argsOf m c).top)
      ∧ r.2.mem ((c.tc : Thread nD τ).loc main_v54) = coe3 (fun s h (d : Fin 128) => (KernelIdeal.argsOf m c).dk (KernelIdeal.argsOf m c).top s h ⟨d.val, by omega⟩)
      ∧ r.2.mem ((c.tc : Thread nD τ).loc main_v56) = coe3 (fun s h (d : Fin 64) => (KernelIdeal.argsOf m c).dk (KernelIdeal.argsOf m c).top s h ⟨128 + d.val, by omega⟩)
      ∧ r.2.mem ((c.tc : Thread nD τ).loc main_v57) = coe3 ((KernelIdeal.argsOf m c).dv (KernelIdeal.argsOf m c).top)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    have A := KernelIdeal.at_of_finite hm c
    ⟨((h.1 c).2 main_v53 (Pipeline.mem_restRefs_of main_v53 (by decide) (by decide))).trans A.res_q,
      ((h.1 c).2 main_v54 (Pipeline.mem_restRefs_of main_v54 (by decide) (by decide))).trans A.res_kn,
      ((h.1 c).2 main_v56 (Pipeline.mem_restRefs_of main_v56 (by decide) (by decide))).trans A.res_kr,
      ((h.1 c).2 main_v57 (Pipeline.mem_restRefs_of main_v57 (by decide) (by decide))).trans A.res_v,
      (h.2.1 c)⟩)
    (θ_run_and (KernelIdeal.run_main m ρ) (KernelIdeal.frame_all m ρ))

end Results

/-- At arguments that are these reals the reference's four results are the gradients. -/
theorem reference_results (a : Args) (hc : a.c = scale) (m : (ℓ : Loc Cert.ReferenceIdeal.nD Cert.ReferenceIdeal.τ Cert.ReferenceIdeal.sig) → Buf (Elt Ideal) ℓ)
    (c : Dev Cert.ReferenceIdeal.nD)
    (h0 : m ((c.tc : Thread Cert.ReferenceIdeal.nD Cert.ReferenceIdeal.τ).loc Cert.ReferenceIdeal.main_arg0) = coe3 a.q)
    (h1 : m ((c.tc : Thread Cert.ReferenceIdeal.nD Cert.ReferenceIdeal.τ).loc Cert.ReferenceIdeal.main_arg1) = coe3 a.kn)
    (h2 : m ((c.tc : Thread Cert.ReferenceIdeal.nD Cert.ReferenceIdeal.τ).loc Cert.ReferenceIdeal.main_arg2) = coe2 a.kr)
    (h3 : m ((c.tc : Thread Cert.ReferenceIdeal.nD Cert.ReferenceIdeal.τ).loc Cert.ReferenceIdeal.main_arg3) = coe3 a.v)
    (h4 : m ((c.tc : Thread Cert.ReferenceIdeal.nD Cert.ReferenceIdeal.τ).loc Cert.ReferenceIdeal.main_arg4) = coe3 a.g) :
    Cert.ReferenceIdeal.Value.res_main_v65 m c = coe3 (a.dq a.top)
    ∧ Cert.ReferenceIdeal.Value.res_main_v67 m c = coe3 (fun s h (d : Fin 128) => a.dk a.top s h ⟨d.val, by omega⟩)
    ∧ Cert.ReferenceIdeal.Value.res_main_v68 m c = coe3 (fun s h (d : Fin 64) => a.dk a.top s h ⟨128 + d.val, by omega⟩)
    ∧ Cert.ReferenceIdeal.Value.res_main_v69 m c = coe3 (a.dv a.top) := by
  refine ⟨(Cert.ReferenceIdeal.Read.val_main_v65_eq m c).trans ?_, (Cert.ReferenceIdeal.Read.val_main_v67_eq m c).trans ?_,
    (Cert.ReferenceIdeal.Read.val_main_v68_eq m c).trans ?_, (Cert.ReferenceIdeal.Read.val_main_v69_eq m c).trans ?_⟩
  · rw [h0, h1, h2, h3, h4]; exact ref_dq a hc
  · rw [h0, h1, h2, h3, h4]; exact ref_dkn a hc
  · rw [h0, h1, h2, h3, h4]; exact ref_dkr a hc
  · rw [h0, h1, h2, h4]; exact ref_dv a hc

/-- The kernel's gradients are the reference's: at finite arguments both leave the same four arrays. -/
theorem gradients : algebraic_KernelIdeal_ReferenceIdeal_pre_finite := fun m ρ m' ρ' hm hmm => by
  refine ⟨_, _, _, _, kernel_results m ρ hm, (θ_run Cert.ReferenceIdeal.defs _ _).mono (fun r h c => ?_) (Cert.ReferenceIdeal.Value.run (F := Ideal) m' ρ')⟩
  have A := KernelIdeal.at_of_finite hm c
  have e := hmm c
  have R := reference_results (KernelIdeal.argsOf m c) rfl m' c (e.1.trans A.q) (e.2.1.trans A.kn) (e.2.2.1.trans A.kr) (e.2.2.2.1.trans A.v) (e.2.2.2.2.trans A.g)
  have H := h c
  exact ⟨H.1.trans R.1, H.2.1.trans R.2.1, H.2.2.1.trans R.2.2.1, H.2.2.2.1.trans R.2.2.2, H.2.2.2.2⟩

/-! The frames of the feed-forward block's references: they run, their arguments stay, and they have no counters. -/

theorem gate_reference_frame : quiescent_GateReferenceIdeal := fun m ρ _ =>
  (θ_run Cert.GateReferenceIdeal.defs _ _).mono (fun r h => ⟨fun c => (h c).2.2, sem_eq_zero_of_no_sems (by decide) r.2⟩)
    (Cert.GateReferenceIdeal.Value.run (F := Ideal) m ρ)

theorem gate_b_reference_frame : quiescent_GateBReferenceIdeal := fun m ρ _ =>
  (θ_run Cert.GateBReferenceIdeal.defs _ _).mono (fun r h => ⟨fun c => (h c).2, sem_eq_zero_of_no_sems (by decide) r.2⟩)
    (Cert.GateBReferenceIdeal.Value.run (F := Ideal) m ρ)

theorem down_reference_frame : quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

theorem down_w_reference_frame : quiescent_DownWReferenceIdeal := fun m ρ _ =>
  (θ_run Cert.DownWReferenceIdeal.defs _ _).mono (fun r h => ⟨fun c => (h c).2, sem_eq_zero_of_no_sems (by decide) r.2⟩)
    (Cert.DownWReferenceIdeal.Value.run (F := Ideal) m ρ)

theorem in_x_reference_frame : quiescent_InXReferenceIdeal := fun m ρ _ =>
  (θ_run Cert.InXReferenceIdeal.defs _ _).mono (fun r h => ⟨fun c => (h c).2, sem_eq_zero_of_no_sems (by decide) r.2⟩)
    (Cert.InXReferenceIdeal.Value.run (F := Ideal) m ρ)

theorem in_w_reference_frame : quiescent_InWReferenceIdeal := fun m ρ _ =>
  (θ_run Cert.InWReferenceIdeal.defs _ _).mono (fun r h => ⟨fun c => (h c).2, sem_eq_zero_of_no_sems (by decide) r.2⟩)
    (Cert.InWReferenceIdeal.Value.run (F := Ideal) m ρ)

/-! So do the norm's and the convolution's. -/

theorem norm_b_reference_frame : quiescent_NormBReferenceIdeal := fun m ρ _ =>
  (θ_run Cert.NormBReferenceIdeal.defs _ _).mono (fun r h => ⟨fun c => (h c).2.2, sem_eq_zero_of_no_sems (by decide) r.2⟩)
    (Cert.NormBReferenceIdeal.Value.run (F := Ideal) m ρ)

theorem conv_b_reference_frame : quiescent_ConvBReferenceIdeal := fun m ρ _ =>
  (θ_run Cert.ConvBReferenceIdeal.defs _ _).mono (fun r h => ⟨fun c => (h c).2.2.2, sem_eq_zero_of_no_sems (by decide) r.2⟩)
    (Cert.ConvBReferenceIdeal.Value.run (F := Ideal) m ρ)

theorem norm_f_reference_frame : quiescent_NormFReferenceIdeal := fun m ρ _ =>
  (θ_run Cert.NormFReferenceIdeal.defs _ _).mono (fun r h => ⟨fun c => (h c).2, sem_eq_zero_of_no_sems (by decide) r.2⟩)
    (Cert.NormFReferenceIdeal.Value.run (F := Ideal) m ρ)

theorem post_f_reference_frame : quiescent_PostFReferenceIdeal := fun m ρ _ =>
  (θ_run Cert.PostFReferenceIdeal.defs _ _).mono (fun r h => ⟨fun c => (h c).2, sem_eq_zero_of_no_sems (by decide) r.2⟩)
    (Cert.PostFReferenceIdeal.Value.run (F := Ideal) m ρ)

theorem hyb_in_reference_frame : quiescent_HybInReferenceIdeal := fun m ρ _ =>
  (θ_run Cert.HybInReferenceIdeal.defs _ _).mono (fun r h => ⟨fun c => (h c).2, sem_eq_zero_of_no_sems (by decide) r.2⟩)
    (Cert.HybInReferenceIdeal.Value.run (F := Ideal) m ρ)

theorem hyb_in_x_reference_frame : quiescent_HybInXReferenceIdeal := fun m ρ _ =>
  (θ_run Cert.HybInXReferenceIdeal.defs _ _).mono (fun r h => ⟨fun c => (h c).2, sem_eq_zero_of_no_sems (by decide) r.2⟩)
    (Cert.HybInXReferenceIdeal.Value.run (F := Ideal) m ρ)

theorem hyb_in_w_reference_frame : quiescent_HybInWReferenceIdeal := fun m ρ _ =>
  (θ_run Cert.HybInWReferenceIdeal.defs _ _).mono (fun r h => ⟨fun c => (h c).2, sem_eq_zero_of_no_sems (by decide) r.2⟩)
    (Cert.HybInWReferenceIdeal.Value.run (F := Ideal) m ρ)

theorem out_reference_frame : quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem hyb_out_x_reference_frame : quiescent_HybOutXReferenceIdeal := fun m ρ _ =>
  (θ_run Cert.HybOutXReferenceIdeal.defs _ _).mono (fun r h => ⟨fun c => (h c).2, sem_eq_zero_of_no_sems (by decide) r.2⟩)
    (Cert.HybOutXReferenceIdeal.Value.run (F := Ideal) m ρ)

theorem mla_out_x_reference_frame : quiescent_MlaOutXReferenceIdeal := fun m ρ _ =>
  (θ_run Cert.MlaOutXReferenceIdeal.defs _ _).mono (fun r h => ⟨fun c => (h c).2, sem_eq_zero_of_no_sems (by decide) r.2⟩)
    (Cert.MlaOutXReferenceIdeal.Value.run (F := Ideal) m ρ)

theorem out_w_reference_frame : quiescent_OutWReferenceIdeal := fun m ρ _ =>
  (θ_run Cert.OutWReferenceIdeal.defs _ _).mono (fun r h => ⟨fun c => (h c).2, sem_eq_zero_of_no_sems (by decide) r.2⟩)
    (Cert.OutWReferenceIdeal.Value.run (F := Ideal) m ρ)

theorem mla_in_reference_frame : quiescent_MlaInReferenceIdeal := fun m ρ _ =>
  (θ_run Cert.MlaInReferenceIdeal.defs _ _).mono (fun r h => ⟨fun c => (h c).2, sem_eq_zero_of_no_sems (by decide) r.2⟩)
    (Cert.MlaInReferenceIdeal.Value.run (F := Ideal) m ρ)

theorem mla_in_x_reference_frame : quiescent_MlaInXReferenceIdeal := fun m ρ _ =>
  (θ_run Cert.MlaInXReferenceIdeal.defs _ _).mono (fun r h => ⟨fun c => (h c).2, sem_eq_zero_of_no_sems (by decide) r.2⟩)
    (Cert.MlaInXReferenceIdeal.Value.run (F := Ideal) m ρ)

theorem mla_in_w_reference_frame : quiescent_MlaInWReferenceIdeal := fun m ρ _ =>
  (θ_run Cert.MlaInWReferenceIdeal.defs _ _).mono (fun r h => ⟨fun c => (h c).2, sem_eq_zero_of_no_sems (by decide) r.2⟩)
    (Cert.MlaInWReferenceIdeal.Value.run (F := Ideal) m ρ)

theorem uq_reference_frame : quiescent_UqReferenceIdeal := fun m ρ _ =>
  (θ_run Cert.UqReferenceIdeal.defs _ _).mono (fun r h => ⟨fun c => (h c).2, sem_eq_zero_of_no_sems (by decide) r.2⟩)
    (Cert.UqReferenceIdeal.Value.run (F := Ideal) m ρ)

theorem uq_x_reference_frame : quiescent_UqXReferenceIdeal := fun m ρ _ =>
  (θ_run Cert.UqXReferenceIdeal.defs _ _).mono (fun r h => ⟨fun c => (h c).2, sem_eq_zero_of_no_sems (by decide) r.2⟩)
    (Cert.UqXReferenceIdeal.Value.run (F := Ideal) m ρ)

theorem uq_w_reference_frame : quiescent_UqWReferenceIdeal := fun m ρ _ =>
  (θ_run Cert.UqWReferenceIdeal.defs _ _).mono (fun r h => ⟨fun c => (h c).2, sem_eq_zero_of_no_sems (by decide) r.2⟩)
    (Cert.UqWReferenceIdeal.Value.run (F := Ideal) m ρ)

theorem ukv_reference_frame : quiescent_UkvReferenceIdeal := fun m ρ _ =>
  (θ_run Cert.UkvReferenceIdeal.defs _ _).mono (fun r h => ⟨fun c => (h c).2, sem_eq_zero_of_no_sems (by decide) r.2⟩)
    (Cert.UkvReferenceIdeal.Value.run (F := Ideal) m ρ)

theorem ukv_x_reference_frame : quiescent_UkvXReferenceIdeal := fun m ρ _ =>
  (θ_run Cert.UkvXReferenceIdeal.defs _ _).mono (fun r h => ⟨fun c => (h c).2, sem_eq_zero_of_no_sems (by decide) r.2⟩)
    (Cert.UkvXReferenceIdeal.Value.run (F := Ideal) m ρ)

theorem ukv_w_reference_frame : quiescent_UkvWReferenceIdeal := fun m ρ _ =>
  (θ_run Cert.UkvWReferenceIdeal.defs _ _).mono (fun r h => ⟨fun c => (h c).2, sem_eq_zero_of_no_sems (by decide) r.2⟩)
    (Cert.UkvWReferenceIdeal.Value.run (F := Ideal) m ρ)

theorem ple_gate_reference_frame : quiescent_PleGateReferenceIdeal := fun m ρ _ =>
  (θ_run Cert.PleGateReferenceIdeal.defs _ _).mono (fun r h => ⟨fun c => (h c).2, sem_eq_zero_of_no_sems (by decide) r.2⟩)
    (Cert.PleGateReferenceIdeal.Value.run (F := Ideal) m ρ)

theorem ple_gate_x_reference_frame : quiescent_PleGateXReferenceIdeal := fun m ρ _ =>
  (θ_run Cert.PleGateXReferenceIdeal.defs _ _).mono (fun r h => ⟨fun c => (h c).2, sem_eq_zero_of_no_sems (by decide) r.2⟩)
    (Cert.PleGateXReferenceIdeal.Value.run (F := Ideal) m ρ)

theorem ple_gate_w_reference_frame : quiescent_PleGateWReferenceIdeal := fun m ρ _ =>
  (θ_run Cert.PleGateWReferenceIdeal.defs _ _).mono (fun r h => ⟨fun c => (h c).2, sem_eq_zero_of_no_sems (by decide) r.2⟩)
    (Cert.PleGateWReferenceIdeal.Value.run (F := Ideal) m ρ)

theorem ple_proj_reference_frame : quiescent_PleProjReferenceIdeal := fun m ρ _ =>
  (θ_run Cert.PleProjReferenceIdeal.defs _ _).mono (fun r h => ⟨fun c => (h c).2, sem_eq_zero_of_no_sems (by decide) r.2⟩)
    (Cert.PleProjReferenceIdeal.Value.run (F := Ideal) m ρ)

theorem ple_proj_w_reference_frame : quiescent_PleProjWReferenceIdeal := fun m ρ _ =>
  (θ_run Cert.PleProjWReferenceIdeal.defs _ _).mono (fun r h => ⟨fun c => (h c).2, sem_eq_zero_of_no_sems (by decide) r.2⟩)
    (Cert.PleProjWReferenceIdeal.Value.run (F := Ideal) m ρ)

/-- All the claims. -/
theorem claim : Cert.Claim := ⟨Cert.Kernel.Gen.facts, Cert.KernelIdeal.Gen.facts, Cert.ReferenceIdeal.Gen.facts,
  Cert.AttnF.Gen.facts, Cert.AttnFIdeal.Gen.facts, Cert.AttnFReferenceIdeal.Gen.facts,
  Cert.Gate.Gen.facts, Cert.GateIdeal.Gen.facts, Cert.GateReferenceIdeal.Gen.facts,
  Cert.GateB.Gen.facts, Cert.GateBIdeal.Gen.facts, Cert.GateBReferenceIdeal.Gen.facts,
  Cert.Down.Gen.facts, Cert.DownIdeal.Gen.facts, Cert.DownReferenceIdeal.Gen.facts,
  Cert.DownW.Gen.facts, Cert.DownWIdeal.Gen.facts, Cert.DownWReferenceIdeal.Gen.facts,
  Cert.InX.Gen.facts, Cert.InXIdeal.Gen.facts, Cert.InXReferenceIdeal.Gen.facts,
  Cert.InW.Gen.facts, Cert.InWIdeal.Gen.facts, Cert.InWReferenceIdeal.Gen.facts,
  Cert.NormB.Gen.facts, Cert.NormBIdeal.Gen.facts, Cert.NormBReferenceIdeal.Gen.facts,
  Cert.ConvB.Gen.facts, Cert.ConvBIdeal.Gen.facts, Cert.ConvBReferenceIdeal.Gen.facts,
  Cert.NormF.Gen.facts, Cert.NormFIdeal.Gen.facts, Cert.NormFReferenceIdeal.Gen.facts,
  Cert.PostF.Gen.facts, Cert.PostFIdeal.Gen.facts, Cert.PostFReferenceIdeal.Gen.facts,
  Cert.HybIn.Gen.facts, Cert.HybInIdeal.Gen.facts, Cert.HybInReferenceIdeal.Gen.facts,
  Cert.HybInX.Gen.facts, Cert.HybInXIdeal.Gen.facts, Cert.HybInXReferenceIdeal.Gen.facts,
  Cert.HybInW.Gen.facts, Cert.HybInWIdeal.Gen.facts, Cert.HybInWReferenceIdeal.Gen.facts,
  Cert.Out.Gen.facts, Cert.OutIdeal.Gen.facts, Cert.OutReferenceIdeal.Gen.facts,
  Cert.HybOutX.Gen.facts, Cert.HybOutXIdeal.Gen.facts, Cert.HybOutXReferenceIdeal.Gen.facts,
  Cert.MlaOutX.Gen.facts, Cert.MlaOutXIdeal.Gen.facts, Cert.MlaOutXReferenceIdeal.Gen.facts,
  Cert.OutW.Gen.facts, Cert.OutWIdeal.Gen.facts, Cert.OutWReferenceIdeal.Gen.facts,
  Cert.MlaIn.Gen.facts, Cert.MlaInIdeal.Gen.facts, Cert.MlaInReferenceIdeal.Gen.facts,
  Cert.MlaInX.Gen.facts, Cert.MlaInXIdeal.Gen.facts, Cert.MlaInXReferenceIdeal.Gen.facts,
  Cert.MlaInW.Gen.facts, Cert.MlaInWIdeal.Gen.facts, Cert.MlaInWReferenceIdeal.Gen.facts,
  Cert.Uq.Gen.facts, Cert.UqIdeal.Gen.facts, Cert.UqReferenceIdeal.Gen.facts,
  Cert.UqX.Gen.facts, Cert.UqXIdeal.Gen.facts, Cert.UqXReferenceIdeal.Gen.facts,
  Cert.UqW.Gen.facts, Cert.UqWIdeal.Gen.facts, Cert.UqWReferenceIdeal.Gen.facts,
  Cert.Ukv.Gen.facts, Cert.UkvIdeal.Gen.facts, Cert.UkvReferenceIdeal.Gen.facts,
  Cert.UkvX.Gen.facts, Cert.UkvXIdeal.Gen.facts, Cert.UkvXReferenceIdeal.Gen.facts,
  Cert.UkvW.Gen.facts, Cert.UkvWIdeal.Gen.facts, Cert.UkvWReferenceIdeal.Gen.facts,
  Cert.PleGate.Gen.facts, Cert.PleGateIdeal.Gen.facts, Cert.PleGateReferenceIdeal.Gen.facts,
  Cert.PleGateX.Gen.facts, Cert.PleGateXIdeal.Gen.facts, Cert.PleGateXReferenceIdeal.Gen.facts,
  Cert.PleGateW.Gen.facts, Cert.PleGateWIdeal.Gen.facts, Cert.PleGateWReferenceIdeal.Gen.facts,
  Cert.PleProj.Gen.facts, Cert.PleProjIdeal.Gen.facts, Cert.PleProjReferenceIdeal.Gen.facts,
  Cert.PleProjW.Gen.facts, Cert.PleProjWIdeal.Gen.facts, Cert.PleProjWReferenceIdeal.Gen.facts,
  finite_facts, finite_attn_facts,
  fun m ρ _ => Cert.Proof.Kernel.frame_all m ρ,
  fun m ρ _ => Cert.Proof.KernelIdeal.frame_all m ρ,
  fun m ρ _ => Cert.Proof.KernelIdeal.frame_all m ρ,
  reference_frame,
  fun m ρ _ => reference_frame m ρ trivial,
  fun m ρ _ => Cert.AttnF.Gen.frame m ρ, fun m ρ _ => Cert.AttnFIdeal.Gen.frame m ρ, fun m ρ _ => Cert.AttnFIdeal.Gen.frame m ρ,
  Fwd.reference_frame, fun m ρ _ => Fwd.reference_frame m ρ trivial,
  fun m ρ _ => Cert.Gate.Gen.frame m ρ, fun m ρ _ => Cert.GateIdeal.Gen.frame m ρ, gate_reference_frame,
  fun m ρ _ => Cert.GateB.Gen.frame m ρ, fun m ρ _ => Cert.GateBIdeal.Gen.frame m ρ, gate_b_reference_frame,
  fun m ρ _ => Cert.Down.Gen.frame m ρ, fun m ρ _ => Cert.DownIdeal.Gen.frame m ρ, down_reference_frame,
  fun m ρ _ => Cert.DownW.Gen.frame m ρ, fun m ρ _ => Cert.DownWIdeal.Gen.frame m ρ, down_w_reference_frame,
  fun m ρ _ => Cert.InX.Gen.frame m ρ, fun m ρ _ => Cert.InXIdeal.Gen.frame m ρ, in_x_reference_frame,
  fun m ρ _ => Cert.InW.Gen.frame m ρ, fun m ρ _ => Cert.InWIdeal.Gen.frame m ρ, in_w_reference_frame,
  fun m ρ _ => Cert.NormB.Gen.frame m ρ, fun m ρ _ => Cert.NormBIdeal.Gen.frame m ρ, norm_b_reference_frame,
  fun m ρ _ => Cert.ConvB.Gen.frame m ρ, fun m ρ _ => Cert.ConvBIdeal.Gen.frame m ρ, conv_b_reference_frame,
  fun m ρ _ => Cert.NormF.Gen.frame m ρ, fun m ρ _ => Cert.NormFIdeal.Gen.frame m ρ, norm_f_reference_frame,
  fun m ρ _ => Cert.PostF.Gen.frame m ρ, fun m ρ _ => Cert.PostFIdeal.Gen.frame m ρ, post_f_reference_frame,
  fun m ρ _ => Cert.HybIn.Gen.frame m ρ, fun m ρ _ => Cert.HybInIdeal.Gen.frame m ρ, hyb_in_reference_frame,
  fun m ρ _ => Cert.HybInX.Gen.frame m ρ, fun m ρ _ => Cert.HybInXIdeal.Gen.frame m ρ, hyb_in_x_reference_frame,
  fun m ρ _ => Cert.HybInW.Gen.frame m ρ, fun m ρ _ => Cert.HybInWIdeal.Gen.frame m ρ, hyb_in_w_reference_frame,
  fun m ρ _ => Cert.Out.Gen.frame m ρ, fun m ρ _ => Cert.OutIdeal.Gen.frame m ρ, out_reference_frame,
  fun m ρ _ => Cert.HybOutX.Gen.frame m ρ, fun m ρ _ => Cert.HybOutXIdeal.Gen.frame m ρ, hyb_out_x_reference_frame,
  fun m ρ _ => Cert.MlaOutX.Gen.frame m ρ, fun m ρ _ => Cert.MlaOutXIdeal.Gen.frame m ρ, mla_out_x_reference_frame,
  fun m ρ _ => Cert.OutW.Gen.frame m ρ, fun m ρ _ => Cert.OutWIdeal.Gen.frame m ρ, out_w_reference_frame,
  fun m ρ _ => Cert.MlaIn.Gen.frame m ρ, fun m ρ _ => Cert.MlaInIdeal.Gen.frame m ρ, mla_in_reference_frame,
  fun m ρ _ => Cert.MlaInX.Gen.frame m ρ, fun m ρ _ => Cert.MlaInXIdeal.Gen.frame m ρ, mla_in_x_reference_frame,
  fun m ρ _ => Cert.MlaInW.Gen.frame m ρ, fun m ρ _ => Cert.MlaInWIdeal.Gen.frame m ρ, mla_in_w_reference_frame,
  fun m ρ _ => Cert.Uq.Gen.frame m ρ, fun m ρ _ => Cert.UqIdeal.Gen.frame m ρ, uq_reference_frame,
  fun m ρ _ => Cert.UqX.Gen.frame m ρ, fun m ρ _ => Cert.UqXIdeal.Gen.frame m ρ, uq_x_reference_frame,
  fun m ρ _ => Cert.UqW.Gen.frame m ρ, fun m ρ _ => Cert.UqWIdeal.Gen.frame m ρ, uq_w_reference_frame,
  fun m ρ _ => Cert.Ukv.Gen.frame m ρ, fun m ρ _ => Cert.UkvIdeal.Gen.frame m ρ, ukv_reference_frame,
  fun m ρ _ => Cert.UkvX.Gen.frame m ρ, fun m ρ _ => Cert.UkvXIdeal.Gen.frame m ρ, ukv_x_reference_frame,
  fun m ρ _ => Cert.UkvW.Gen.frame m ρ, fun m ρ _ => Cert.UkvWIdeal.Gen.frame m ρ, ukv_w_reference_frame,
  fun m ρ _ => Cert.PleGate.Gen.frame m ρ, fun m ρ _ => Cert.PleGateIdeal.Gen.frame m ρ, ple_gate_reference_frame,
  fun m ρ _ => Cert.PleGateX.Gen.frame m ρ, fun m ρ _ => Cert.PleGateXIdeal.Gen.frame m ρ, ple_gate_x_reference_frame,
  fun m ρ _ => Cert.PleGateW.Gen.frame m ρ, fun m ρ _ => Cert.PleGateWIdeal.Gen.frame m ρ, ple_gate_w_reference_frame,
  fun m ρ _ => Cert.PleProj.Gen.frame m ρ, fun m ρ _ => Cert.PleProjIdeal.Gen.frame m ρ, ple_proj_reference_frame,
  fun m ρ _ => Cert.PleProjW.Gen.frame m ρ, fun m ρ _ => Cert.PleProjWIdeal.Gen.frame m ρ, ple_proj_w_reference_frame,
  named_mask,
  gradients,
  Fwd.named_mask, Fwd.attn_f,
  trivial, Feed.gate,
  trivial, Feed.gate_b,
  trivial, Feed.down,
  trivial, Feed.down_w,
  trivial, Feed.in_x,
  trivial, Feed.in_w,
  trivial, Norm.norm_b,
  trivial, Norm.conv_b,
  trivial, Norm.norm_f,
  trivial, Norm.post_f,
  trivial, Feed.hyb_in,
  trivial, Feed.hyb_in_x,
  trivial, Feed.hyb_in_w,
  trivial, Feed.out,
  trivial, Feed.hyb_out_x,
  trivial, Feed.mla_out_x,
  trivial, Feed.out_w,
  trivial, Feed.mla_in,
  trivial, Feed.mla_in_x,
  trivial, Feed.mla_in_w,
  trivial, Feed.uq,
  trivial, Feed.uq_x,
  trivial, Feed.uq_w,
  trivial, Feed.ukv,
  trivial, Feed.ukv_x,
  trivial, Feed.ukv_w,
  trivial, Feed.ple_gate,
  trivial, Feed.ple_gate_x,
  trivial, Feed.ple_gate_w,
  trivial, Feed.ple_proj,
  trivial, Feed.ple_proj_w⟩

end Cert.Proof

end
